-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_padding_is_zero [hPre_padding_is_zero : Cert.Pre_padding_is_zero.Facts] (m : (ℓ : Loc Cert.KernelIdeal.nD Cert.KernelIdeal.τ Cert.KernelIdeal.sig) → Buf (Elt Ideal) ℓ) : Prop :=
  ∀ c : Dev Cert.KernelIdeal.nD,
    (Cert.Pre_padding_is_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_padding_is_zero [hPre_padding_is_zero : Cert.Pre_padding_is_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_padding_is_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_padding_is_zero [hKernelIdeal : Cert.KernelIdeal.Facts] [hPre_padding_is_zero : Cert.Pre_padding_is_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_padding_is_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_padding_is_zero [hReferenceIdeal : Cert.ReferenceIdeal.Facts] [hPre_padding_is_zero : Cert.Pre_padding_is_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_padding_is_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  True

def algebraic_KernelIdeal_ReferenceIdeal_pre_padding_is_zero [hKernelIdeal : Cert.KernelIdeal.Facts] [hReferenceIdeal : Cert.ReferenceIdeal.Facts] [hPre_padding_is_zero : Cert.Pre_padding_is_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_padding_is_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v110) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_v65) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v36_0)) (v1 : (c : Dev Cert.Kernel4Ideal.nD) → Buf (Elt Ideal) ((c.tc : Thread Cert.Kernel4Ideal.nD Cert.Kernel4Ideal.τ).loc Cert.Kernel4Ideal.main_v36_1)) (v2 : (c : Dev Cert.Kernel4Ideal.nD) → Buf (Elt Ideal) ((c.tc : Thread Cert.Kernel4Ideal.nD Cert.Kernel4Ideal.τ).loc Cert.Kernel4Ideal.main_v36_2)) (v3 : (c : Dev Cert.Kernel4Ideal.nD) → Buf (Elt Ideal) ((c.tc : Thread Cert.Kernel4Ideal.nD Cert.Kernel4Ideal.τ).loc Cert.Kernel4Ideal.main_v36_3)) (v4 : (c : Dev Cert.Kernel4Ideal.nD) → Buf (Elt Ideal) ((c.tc : Thread Cert.Kernel4Ideal.nD Cert.Kernel4Ideal.τ).loc Cert.Kernel4Ideal.main_v36_4)) (v5 : (c : Dev Cert.Kernel4Ideal.nD) → Buf (Elt Ideal) ((c.tc : Thread Cert.Kernel4Ideal.nD Cert.Kernel4Ideal.τ).loc Cert.Kernel4Ideal.main_v36_5)) (v6 : (c : Dev Cert.Kernel4Ideal.nD) → Buf (Elt Ideal) ((c.tc : Thread Cert.Kernel4Ideal.nD Cert.Kernel4Ideal.τ).loc Cert.Kernel4Ideal.main_v36_6)) (v7 : (c : Dev Cert.Kernel4Ideal.nD) → Buf (Elt Ideal) ((c.tc : Thread Cert.Kernel4Ideal.nD Cert.Kernel4Ideal.τ).loc Cert.Kernel4Ideal.main_v36_7)) (v8 : (c : Dev Cert.Kernel4Ideal.nD) → Buf (Elt Ideal) ((c.tc : Thread Cert.Kernel4Ideal.nD Cert.Kernel4Ideal.τ).loc Cert.Kernel4Ideal.main_v36_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36_0) = v0 c
          ∧ r.2.mem ((c.tc : Thread Cert.Kernel4Ideal.nD Cert.Kernel4Ideal.τ).loc Cert.Kernel4Ideal.main_v36_1) = v1 c
          ∧ r.2.mem ((c.tc : Thread Cert.Kernel4Ideal.nD Cert.Kernel4Ideal.τ).loc Cert.Kernel4Ideal.main_v36_2) = v2 c
          ∧ r.2.mem ((c.tc : Thread Cert.Kernel4Ideal.nD Cert.Kernel4Ideal.τ).loc Cert.Kernel4Ideal.main_v36_3) = v3 c
          ∧ r.2.mem ((c.tc : Thread Cert.Kernel4Ideal.nD Cert.Kernel4Ideal.τ).loc Cert.Kernel4Ideal.main_v36_4) = v4 c
          ∧ r.2.mem ((c.tc : Thread Cert.Kernel4Ideal.nD Cert.Kernel4Ideal.τ).loc Cert.Kernel4Ideal.main_v36_5) = v5 c
          ∧ r.2.mem ((c.tc : Thread Cert.Kernel4Ideal.nD Cert.Kernel4Ideal.τ).loc Cert.Kernel4Ideal.main_v36_6) = v6 c
          ∧ r.2.mem ((c.tc : Thread Cert.Kernel4Ideal.nD Cert.Kernel4Ideal.τ).loc Cert.Kernel4Ideal.main_v36_7) = v7 c
          ∧ r.2.mem ((c.tc : Thread Cert.Kernel4Ideal.nD Cert.Kernel4Ideal.τ).loc Cert.Kernel4Ideal.main_v36_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v252) = v0 c
          ∧ r.2.mem ((c.tc : Thread Cert.Reference4Ideal.nD Cert.Reference4Ideal.τ).loc Cert.Reference4Ideal.main_v59) = v1 c
          ∧ r.2.mem ((c.tc : Thread Cert.Reference4Ideal.nD Cert.Reference4Ideal.τ).loc Cert.Reference4Ideal.main_v253) = v2 c
          ∧ r.2.mem ((c.tc : Thread Cert.Reference4Ideal.nD Cert.Reference4Ideal.τ).loc Cert.Reference4Ideal.main_v159) = v3 c
          ∧ r.2.mem ((c.tc : Thread Cert.Reference4Ideal.nD Cert.Reference4Ideal.τ).loc Cert.Reference4Ideal.main_v199) = v4 c
          ∧ r.2.mem ((c.tc : Thread Cert.Reference4Ideal.nD Cert.Reference4Ideal.τ).loc Cert.Reference4Ideal.main_v239) = v5 c
          ∧ r.2.mem ((c.tc : Thread Cert.Reference4Ideal.nD Cert.Reference4Ideal.τ).loc Cert.Reference4Ideal.main_v255) = v6 c
          ∧ r.2.mem ((c.tc : Thread Cert.Reference4Ideal.nD Cert.Reference4Ideal.τ).loc Cert.Reference4Ideal.main_v251) = v7 c
          ∧ r.2.mem ((c.tc : Thread Cert.Reference4Ideal.nD Cert.Reference4Ideal.τ).loc Cert.Reference4Ideal.main_v256) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v43_0)) (v1 : (c : Dev Cert.Kernel6Ideal.nD) → Buf (Elt Ideal) ((c.tc : Thread Cert.Kernel6Ideal.nD Cert.Kernel6Ideal.τ).loc Cert.Kernel6Ideal.main_v43_1)) (v2 : (c : Dev Cert.Kernel6Ideal.nD) → Buf (Elt Ideal) ((c.tc : Thread Cert.Kernel6Ideal.nD Cert.Kernel6Ideal.τ).loc Cert.Kernel6Ideal.main_v43_2)) (v3 : (c : Dev Cert.Kernel6Ideal.nD) → Buf (Elt Ideal) ((c.tc : Thread Cert.Kernel6Ideal.nD Cert.Kernel6Ideal.τ).loc Cert.Kernel6Ideal.main_v43_3)) (v4 : (c : Dev Cert.Kernel6Ideal.nD) → Buf (Elt Ideal) ((c.tc : Thread Cert.Kernel6Ideal.nD Cert.Kernel6Ideal.τ).loc Cert.Kernel6Ideal.main_v43_4)) (v5 : (c : Dev Cert.Kernel6Ideal.nD) → Buf (Elt Ideal) ((c.tc : Thread Cert.Kernel6Ideal.nD Cert.Kernel6Ideal.τ).loc Cert.Kernel6Ideal.main_v43_5)) (v6 : (c : Dev Cert.Kernel6Ideal.nD) → Buf (Elt Ideal) ((c.tc : Thread Cert.Kernel6Ideal.nD Cert.Kernel6Ideal.τ).loc Cert.Kernel6Ideal.main_v43_6)) (v7 : (c : Dev Cert.Kernel6Ideal.nD) → Buf (Elt Ideal) ((c.tc : Thread Cert.Kernel6Ideal.nD Cert.Kernel6Ideal.τ).loc Cert.Kernel6Ideal.main_v43_7)) (v8 : (c : Dev Cert.Kernel6Ideal.nD) → Buf (Elt Ideal) ((c.tc : Thread Cert.Kernel6Ideal.nD Cert.Kernel6Ideal.τ).loc Cert.Kernel6Ideal.main_v43_8)) (v9 : (c : Dev Cert.Kernel6Ideal.nD) → Buf (Elt Ideal) ((c.tc : Thread Cert.Kernel6Ideal.nD Cert.Kernel6Ideal.τ).loc Cert.Kernel6Ideal.main_v43_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v43_0) = v0 c
          ∧ r.2.mem ((c.tc : Thread Cert.Kernel6Ideal.nD Cert.Kernel6Ideal.τ).loc Cert.Kernel6Ideal.main_v43_1) = v1 c
          ∧ r.2.mem ((c.tc : Thread Cert.Kernel6Ideal.nD Cert.Kernel6Ideal.τ).loc Cert.Kernel6Ideal.main_v43_2) = v2 c
          ∧ r.2.mem ((c.tc : Thread Cert.Kernel6Ideal.nD Cert.Kernel6Ideal.τ).loc Cert.Kernel6Ideal.main_v43_3) = v3 c
          ∧ r.2.mem ((c.tc : Thread Cert.Kernel6Ideal.nD Cert.Kernel6Ideal.τ).loc Cert.Kernel6Ideal.main_v43_4) = v4 c
          ∧ r.2.mem ((c.tc : Thread Cert.Kernel6Ideal.nD Cert.Kernel6Ideal.τ).loc Cert.Kernel6Ideal.main_v43_5) = v5 c
          ∧ r.2.mem ((c.tc : Thread Cert.Kernel6Ideal.nD Cert.Kernel6Ideal.τ).loc Cert.Kernel6Ideal.main_v43_6) = v6 c
          ∧ r.2.mem ((c.tc : Thread Cert.Kernel6Ideal.nD Cert.Kernel6Ideal.τ).loc Cert.Kernel6Ideal.main_v43_7) = v7 c
          ∧ r.2.mem ((c.tc : Thread Cert.Kernel6Ideal.nD Cert.Kernel6Ideal.τ).loc Cert.Kernel6Ideal.main_v43_8) = v8 c
          ∧ r.2.mem ((c.tc : Thread Cert.Kernel6Ideal.nD Cert.Kernel6Ideal.τ).loc Cert.Kernel6Ideal.main_v43_9) = v9 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v261) = v0 c
          ∧ r.2.mem ((c.tc : Thread Cert.Reference6Ideal.nD Cert.Reference6Ideal.τ).loc Cert.Reference6Ideal.main_v59) = v1 c
          ∧ r.2.mem ((c.tc : Thread Cert.Reference6Ideal.nD Cert.Reference6Ideal.τ).loc Cert.Reference6Ideal.main_v262) = v2 c
          ∧ r.2.mem ((c.tc : Thread Cert.Reference6Ideal.nD Cert.Reference6Ideal.τ).loc Cert.Reference6Ideal.main_v166) = v3 c
          ∧ r.2.mem ((c.tc : Thread Cert.Reference6Ideal.nD Cert.Reference6Ideal.τ).loc Cert.Reference6Ideal.main_v207) = v4 c
          ∧ r.2.mem ((c.tc : Thread Cert.Reference6Ideal.nD Cert.Reference6Ideal.τ).loc Cert.Reference6Ideal.main_v248) = v5 c
          ∧ r.2.mem ((c.tc : Thread Cert.Reference6Ideal.nD Cert.Reference6Ideal.τ).loc Cert.Reference6Ideal.main_v264) = v6 c
          ∧ r.2.mem ((c.tc : Thread Cert.Reference6Ideal.nD Cert.Reference6Ideal.τ).loc Cert.Reference6Ideal.main_v260) = v7 c
          ∧ r.2.mem ((c.tc : Thread Cert.Reference6Ideal.nD Cert.Reference6Ideal.τ).loc Cert.Reference6Ideal.main_v265) = v8 c
          ∧ r.2.mem ((c.tc : Thread Cert.Reference6Ideal.nD Cert.Reference6Ideal.τ).loc Cert.Reference6Ideal.main_v266) = v9 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v64) = v0 c
          ∧ r.2.mem ((c.tc : Thread Cert.Reference7Ideal.nD Cert.Reference7Ideal.τ).loc Cert.Reference7Ideal.main_v65) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v10)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v10) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v108) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)) (v3 : (c : Dev Cert.Kernel9Ideal.nD) → Buf (Elt Ideal) ((c.tc : Thread Cert.Kernel9Ideal.nD Cert.Kernel9Ideal.τ).loc Cert.Kernel9Ideal.main_v9_3)) (v4 : (c : Dev Cert.Kernel9Ideal.nD) → Buf (Elt Ideal) ((c.tc : Thread Cert.Kernel9Ideal.nD Cert.Kernel9Ideal.τ).loc Cert.Kernel9Ideal.main_v9_4)) (v5 : (c : Dev Cert.Kernel9Ideal.nD) → Buf (Elt Ideal) ((c.tc : Thread Cert.Kernel9Ideal.nD Cert.Kernel9Ideal.τ).loc Cert.Kernel9Ideal.main_v9_5)) (v6 : (c : Dev Cert.Kernel9Ideal.nD) → Buf (Elt Ideal) ((c.tc : Thread Cert.Kernel9Ideal.nD Cert.Kernel9Ideal.τ).loc Cert.Kernel9Ideal.main_v9_6)) (v7 : (c : Dev Cert.Kernel9Ideal.nD) → Buf (Elt Ideal) ((c.tc : Thread Cert.Kernel9Ideal.nD Cert.Kernel9Ideal.τ).loc Cert.Kernel9Ideal.main_v9_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_v9_2) = v2 c
          ∧ r.2.mem ((c.tc : Thread Cert.Kernel9Ideal.nD Cert.Kernel9Ideal.τ).loc Cert.Kernel9Ideal.main_v9_3) = v3 c
          ∧ r.2.mem ((c.tc : Thread Cert.Kernel9Ideal.nD Cert.Kernel9Ideal.τ).loc Cert.Kernel9Ideal.main_v9_4) = v4 c
          ∧ r.2.mem ((c.tc : Thread Cert.Kernel9Ideal.nD Cert.Kernel9Ideal.τ).loc Cert.Kernel9Ideal.main_v9_5) = v5 c
          ∧ r.2.mem ((c.tc : Thread Cert.Kernel9Ideal.nD Cert.Kernel9Ideal.τ).loc Cert.Kernel9Ideal.main_v9_6) = v6 c
          ∧ r.2.mem ((c.tc : Thread Cert.Kernel9Ideal.nD Cert.Kernel9Ideal.τ).loc Cert.Kernel9Ideal.main_v9_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v69) = v2 c
          ∧ r.2.mem ((c.tc : Thread Cert.Reference9Ideal.nD Cert.Reference9Ideal.τ).loc Cert.Reference9Ideal.main_v7) = v3 c
          ∧ r.2.mem ((c.tc : Thread Cert.Reference9Ideal.nD Cert.Reference9Ideal.τ).loc Cert.Reference9Ideal.main_v81) = v4 c
          ∧ r.2.mem ((c.tc : Thread Cert.Reference9Ideal.nD Cert.Reference9Ideal.τ).loc Cert.Reference9Ideal.main_v82) = v5 c
          ∧ r.2.mem ((c.tc : Thread Cert.Reference9Ideal.nD Cert.Reference9Ideal.τ).loc Cert.Reference9Ideal.main_v44) = v6 c
          ∧ r.2.mem ((c.tc : Thread Cert.Reference9Ideal.nD Cert.Reference9Ideal.τ).loc Cert.Reference9Ideal.main_v83) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_padding_is_zero : Cert.Pre_padding_is_zero.Facts),
    quiescent_Kernel (hKernel := hKernel)
    ∧ quiescent_KernelIdeal (hKernelIdeal := hKernelIdeal)
    ∧ quiescent_KernelIdeal_pre_padding_is_zero (hKernelIdeal := hKernelIdeal) (hPre_padding_is_zero := hPre_padding_is_zero)
    ∧ quiescent_ReferenceIdeal (hReferenceIdeal := hReferenceIdeal)
    ∧ quiescent_ReferenceIdeal_pre_padding_is_zero (hReferenceIdeal := hReferenceIdeal) (hPre_padding_is_zero := hPre_padding_is_zero)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_padding_is_zero (hKernelIdeal := hKernelIdeal) (hReferenceIdeal := hReferenceIdeal) (hPre_padding_is_zero := hPre_padding_is_zero)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_padding_is_zero.lean ====
abbrev S32768x1024 : Shape := ⟨2, ![32768, 1024]⟩
abbrev S1024x256 : Shape := ⟨2, ![1024, 256]⟩
abbrev S_ : Shape := ⟨0, ![]⟩

class Facts : Prop where
  bcast_S_S32768x1024 : S_.BroadcastsInDim S32768x1024 (![] : Fin 0 → Fin S32768x1024.rank)
  bitsLt_bf16_f32 : FTy.bits .bf16 < FTy.bits .f32

variable [Facts]

def fn {F : FTy → Type} [FloatOps F] (main_arg0 : FVec F S32768x1024 .bf16) (main_arg1 : FVec F S1024x256 .bf16) : IVec S32768x1024 1 :=
  let main_v0 : IVec S32768x1024 32 := iotaInDim S32768x1024 32 1
  let main_c : IVec S_ 32 := constantI S_ 32 6#32
  let main_v1 : IVec S32768x1024 32 := broadcastInDim S32768x1024 ![] bcast_S_S32768x1024 main_c
  let main_v2 : IVec S32768x1024 32 := Host.shrsi main_v0 main_v1
  let main_c_0 : IVec S_ 32 := constantI S_ 32 1#32
  let main_v3 : IVec S32768x1024 32 := broadcastInDim S32768x1024 ![] bcast_S_S32768x1024 main_c_0
  let main_v4 : IVec S32768x1024 32 := andi main_v2 main_v3
  let main_c_1 : IVec S_ 32 := constantI S_ 32 9#32
  let main_v5 : IVec S32768x1024 32 := broadcastInDim S32768x1024 ![] bcast_S_S32768x1024 main_c_1
  let main_v6 : IVec S32768x1024 32 := Host.shrsi main_v0 main_v5
  let main_v7 : IVec S32768x1024 1 := cmpi .eq main_v4 main_v6
  let main_v8 : FVec F S32768x1024 .f32 := (extf .f32 · bitsLt_bf16_f32) main_arg0
  let main_cst : FVec F S_ .f32 := constant S_ .f32 0x00000000#32
  let main_v9 : FVec F S32768x1024 .f32 := broadcastInDim S32768x1024 ![] bcast_S_S32768x1024 main_cst
  let main_v10 : IVec S32768x1024 1 := cmpf .oeq main_v8 main_v9
  let main_v11 : IVec S32768x1024 1 := ori main_v7 main_v10
  main_v11
-- ==== Kernel.lean ====
abbrev S32768x1024 : Shape := ⟨2, ![32768, 1024]⟩
abbrev S1024x256 : Shape := ⟨2, ![1024, 256]⟩
abbrev S4x128x2x256 : Shape := ⟨4, ![4, 128, 2, 256]⟩
abbrev S4x2x128x256 : Shape := ⟨4, ![4, 2, 128, 256]⟩
abbrev S4x256x256 : Shape := ⟨3, ![4, 256, 256]⟩
abbrev S32768x512 : Shape := ⟨2, ![32768, 512]⟩
abbrev S32768x256 : Shape := ⟨2, ![32768, 256]⟩
abbrev S256x1024 : Shape := ⟨2, ![256, 1024]⟩
abbrev S1x256x256 : Shape := ⟨3, ![1, 256, 256]⟩
abbrev S256x512 : Shape := ⟨2, ![256, 512]⟩
abbrev S256x256 : Shape := ⟨2, ![256, 256]⟩
abbrev S1x256 : Shape := ⟨2, ![1, 256]⟩
abbrev S1024x1 : Shape := ⟨2, ![1024, 1]⟩
abbrev S128x256 : Shape := ⟨2, ![128, 256]⟩
abbrev S256x128 : Shape := ⟨2, ![256, 128]⟩
abbrev S1024x128 : Shape := ⟨2, ![1024, 128]⟩
abbrev S1024 : Shape := ⟨1, ![1024]⟩
abbrev S256 : Shape := ⟨1, ![256]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x256, .bf16⟩
  | .hbm, ⟨2, _⟩ => ⟨S4x128x2x256, .bf16⟩
  | .hbm, ⟨3, _⟩ => ⟨S4x2x128x256, .bf16⟩
  | .hbm, ⟨4, _⟩ => ⟨S4x256x256, .bf16⟩
  | .hbm, ⟨5, _⟩ => ⟨S32768x512, .f32⟩
  | .hbm, ⟨6, _⟩ => ⟨S32768x256, .bf16⟩
  | .local _ .vmem, ⟨0, _⟩ => ⟨S256x1024, .bf16⟩
  | .local _ .vmem, ⟨1, _⟩ => ⟨S256x1024, .bf16⟩
  | .local _ .vmem, ⟨2, _⟩ => ⟨S1x256x256, .bf16⟩
  | .local _ .vmem, ⟨3, _⟩ => ⟨S1x256x256, .bf16⟩
  | .local _ .vmem, ⟨4, _⟩ => ⟨S256x512, .f32⟩
  | .local _ .vmem, ⟨5, _⟩ => ⟨S256x512, .f32⟩
  | .local _ .vmem, ⟨6, _⟩ => ⟨S256x256, .bf16⟩
  | .local _ .vmem, ⟨7, _⟩ => ⟨S256x256, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S32768x1024 : Shape := ⟨2, ![32768, 1024]⟩
abbrev S1024x256 : Shape := ⟨2, ![1024, 256]⟩
abbrev S4x8192x2x4x128 : Shape := ⟨5, ![4, 8192, 2, 4, 128]⟩
abbrev S4x8192x1x4x64 : Shape := ⟨5, ![4, 8192, 1, 4, 64]⟩
abbrev S4x8192x4x64 : Shape := ⟨4, ![4, 8192, 4, 64]⟩
abbrev S4x8192x2x4x64 : Shape := ⟨5, ![4, 8192, 2, 4, 64]⟩
abbrev S4x256x2x2x64 : Shape := ⟨5, ![4, 256, 2, 2, 64]⟩
abbrev S8192 : Shape := ⟨1, ![8192]⟩
abbrev S4x256x1x2x64 : Shape := ⟨5, ![4, 256, 1, 2, 64]⟩
abbrev S4x256x2x64 : Shape := ⟨4, ![4, 256, 2, 64]⟩
abbrev S4x2x256x8192x4 : Shape := ⟨5, ![4, 2, 256, 8192, 4]⟩
abbrev S4x8192x2x4x256 : Shape := ⟨5, ![4, 8192, 2, 4, 256]⟩
abbrev S256 : Shape := ⟨1, ![256]⟩
abbrev S_ : Shape := ⟨0, ![]⟩
abbrev S1x256 : Shape := ⟨2, ![1, 256]⟩
abbrev S8192x1 : Shape := ⟨2, ![8192, 1]⟩
abbrev S8192x256 : Shape := ⟨2, ![8192, 256]⟩
abbrev S1x8192x1x1x256 : Shape := ⟨5, ![1, 8192, 1, 1, 256]⟩
abbrev S4x8192x2x4 : Shape := ⟨4, ![4, 8192, 2, 4]⟩
abbrev S4x8192x2x4x1 : Shape := ⟨5, ![4, 8192, 2, 4, 1]⟩
abbrev S4x2x64x8192x4 : Shape := ⟨5, ![4, 2, 64, 8192, 4]⟩
abbrev S4x8192x2x256 : Shape := ⟨4, ![4, 8192, 2, 256]⟩
abbrev S4x8192x2x128x2 : Shape := ⟨5, ![4, 8192, 2, 128, 2]⟩
abbrev S4x8192x2x128 : Shape := ⟨4, ![4, 8192, 2, 128]⟩
abbrev S128 : Shape := ⟨1, ![128]⟩
abbrev S1x128 : Shape := ⟨2, ![1, 128]⟩
abbrev S8192x128 : Shape := ⟨2, ![8192, 128]⟩
abbrev S1x8192x1x128 : Shape := ⟨4, ![1, 8192, 1, 128]⟩
abbrev S4x8192x2x16 : Shape := ⟨4, ![4, 8192, 2, 16]⟩
abbrev S4x8192x2x16x1 : Shape := ⟨5, ![4, 8192, 2, 16, 1]⟩
abbrev S1x1x1x1x128 : Shape := ⟨5, ![1, 1, 1, 1, 128]⟩
abbrev S4x8192x2x16x128 : Shape := ⟨5, ![4, 8192, 2, 16, 128]⟩
abbrev S32768x512 : Shape := ⟨2, ![32768, 512]⟩
abbrev S32768x256 : Shape := ⟨2, ![32768, 256]⟩

abbrev nBuf : Space → Nat
  | .hbm => 134
  | .vmem => 0
  | .smem => 0
  | _ => 0

abbrev hbmTy0_0 (i : Nat) : BufTy := match i % 128 with
  | 0 => ⟨S32768x1024, .bf16⟩
  | 1 => ⟨S1024x256, .bf16⟩
  | 2 => ⟨S32768x1024, .f32⟩
  | 3 => ⟨S4x8192x2x4x128, .f32⟩
  | 4 => ⟨S4x8192x1x4x64, .f32⟩
  | 5 => ⟨S4x8192x4x64, .f32⟩
  | 6 => ⟨S4x8192x1x4x64, .f32⟩
  | 7 => ⟨S4x8192x4x64, .f32⟩
  | 8 => ⟨S4x8192x1x4x64, .f32⟩
  | 9 => ⟨S4x8192x1x4x64, .f32⟩
  | 10 => ⟨S4x8192x2x4x64, .f32⟩
  | 11 => ⟨S1024x256, .f32⟩
  | 12 => ⟨S4x256x2x2x64, .f32⟩
  | 13 => ⟨S8192, .i32⟩
  | 14 => ⟨S4x256x1x2x64, .f32⟩
  | 15 => ⟨S4x256x2x64, .f32⟩
  | 16 => ⟨S4x2x256x8192x4, .f32⟩
  | 17 => ⟨S4x8192x2x4x256, .f32⟩
  | 18 => ⟨S256, .i32⟩
  | 19 => ⟨S_, .i32⟩
  | 20 => ⟨S256, .i32⟩
  | 21 => ⟨S256, .i32⟩
  | 22 => ⟨S_, .i32⟩
  | 23 => ⟨S256, .i32⟩
  | 24 => ⟨S256, .i32⟩
  | 25 => ⟨S1x256, .i32⟩
  | 26 => ⟨S8192x1, .i32⟩
  | 27 => ⟨S8192x256, .i32⟩
  | 28 => ⟨S8192x256, .i32⟩
  | 29 => ⟨S8192x256, .i1⟩
  | 30 => ⟨S1x8192x1x1x256, .i1⟩
  | 31 => ⟨S_, .f32⟩
  | 32 => ⟨S_, .f32⟩
  | 33 => ⟨S4x8192x2x4x256, .i1⟩
  | 34 => ⟨S4x8192x2x4x256, .f32⟩
  | 35 => ⟨S4x8192x2x4x256, .f32⟩
  | 36 => ⟨S_, .f32⟩
  | 37 => ⟨S4x8192x2x4, .f32⟩
  | 38 => ⟨S_, .f32⟩
  | 39 => ⟨S4x8192x2x4, .f32⟩
  | 40 => ⟨S4x8192x2x4, .f32⟩
  | 41 => ⟨S4x8192x2x4x1, .f32⟩
  | 42 => ⟨S4x8192x2x4x256, .f32⟩
  | 43 => ⟨S4x8192x2x4x256, .f32⟩
  | 44 => ⟨S4x8192x2x4x256, .f32⟩
  | 45 => ⟨S_, .f32⟩
  | 46 => ⟨S4x8192x2x4, .f32⟩
  | 47 => ⟨S4x8192x2x4x1, .f32⟩
  | 48 => ⟨S4x8192x2x4x256, .f32⟩
  | 49 => ⟨S4x8192x2x4x256, .f32⟩
  | 50 => ⟨S1x8192x1x1x256, .i32⟩
  | 51 => ⟨S1x8192x1x1x256, .f32⟩
  | 52 => ⟨S4x8192x2x4x256, .f32⟩
  | 53 => ⟨S4x8192x2x4x256, .f32⟩
  | 54 => ⟨S4x256x1x2x64, .f32⟩
  | 55 => ⟨S4x256x2x64, .f32⟩
  | 56 => ⟨S4x2x64x8192x4, .f32⟩
  | 57 => ⟨S4x8192x2x4x64, .f32⟩
  | 58 => ⟨S_, .f32⟩
  | 59 => ⟨S4x8192x2x256, .f32⟩
  | 60 => ⟨S4x8192x2x128x2, .f32⟩
  | 61 => ⟨S_, .f32⟩
  | 62 => ⟨S4x8192x2x128, .f32⟩
  | 63 => ⟨S128, .i32⟩
  | 64 => ⟨S_, .i32⟩
  | 65 => ⟨S_, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i1⟩
  | 72 => ⟨S8192, .i32⟩
  | 73 => ⟨S8192, .i32⟩
  | 74 => ⟨S_, .i32⟩
  | 75 => ⟨S8192, .i32⟩
  | 76 => ⟨S8192, .i1⟩
  | 77 => ⟨S8192, .i1⟩
  | 78 => ⟨S_, .i32⟩
  | 79 => ⟨S8192, .i32⟩
  | 80 => ⟨S8192, .i32⟩
  | 81 => ⟨S8192, .i32⟩
  | 82 => ⟨S1x128, .i32⟩
  | 83 => ⟨S8192x1, .i32⟩
  | 84 => ⟨S8192x128, .i32⟩
  | 85 => ⟨S8192x128, .i32⟩
  | 86 => ⟨S8192x128, .i1⟩
  | 87 => ⟨S1x128, .i32⟩
  | 88 => ⟨S_, .i32⟩
  | 89 => ⟨S1x128, .i32⟩
  | 90 => ⟨S1x128, .i1⟩
  | 91 => ⟨S8192x128, .i1⟩
  | 92 => ⟨S8192x128, .i1⟩
  | 93 => ⟨S1x128, .i32⟩
  | 94 => ⟨S8192x1, .i32⟩
  | 95 => ⟨S8192x128, .i32⟩
  | 96 => ⟨S8192x128, .i32⟩
  | 97 => ⟨S8192x128, .i1⟩
  | 98 => ⟨S1x8192x1x128, .i1⟩
  | 99 => ⟨S_, .f32⟩
  | 100 => ⟨S_, .f32⟩
  | 101 => ⟨S4x8192x2x128, .i1⟩
  | 102 => ⟨S4x8192x2x128, .f32⟩
  | 103 => ⟨S4x8192x2x128, .f32⟩
  | 104 => ⟨S1x8192x1x128, .i1⟩
  | 105 => ⟨S_, .f32⟩
  | 106 => ⟨S_, .f32⟩
  | 107 => ⟨S4x8192x2x128, .i1⟩
  | 108 => ⟨S4x8192x2x128, .f32⟩
  | 109 => ⟨S4x8192x2x128, .f32⟩
  | 110 => ⟨S4x8192x2x16, .f32⟩
  | 111 => ⟨S4x8192x2x16, .i32⟩
  | 112 => ⟨S4x8192x2x16x1, .i32⟩
  | 113 => ⟨S1x1x1x1x128, .i32⟩
  | 114 => ⟨S4x8192x2x16x128, .i32⟩
  | 115 => ⟨S4x8192x2x16x128, .i32⟩
  | 116 => ⟨S4x8192x2x16x128, .i1⟩
  | 117 => ⟨S_, .f32⟩
  | 118 => ⟨S4x8192x2x16, .f32⟩
  | 119 => ⟨S4x8192x2x16, .i1⟩
  | 120 => ⟨S4x8192x2x16x1, .i1⟩
  | 121 => ⟨S4x8192x2x16x128, .i1⟩
  | 122 => ⟨S4x8192x2x16x128, .i1⟩
  | 123 => ⟨S_, .f32⟩
  | 124 => ⟨S_, .f32⟩
  | 125 => ⟨S4x8192x2x16x128, .f32⟩
  | 126 => ⟨S4x8192x2x16x128, .f32⟩
  | 127 => ⟨S4x8192x2x16x128, .f32⟩
  | _ => ⟨S32768x1024, .bf16⟩

abbrev hbmTy0_1 (i : Nat) : BufTy := match i % 128 with
  | 0 => ⟨S4x8192x2x16x128, .f32⟩
  | 1 => ⟨S_, .f32⟩
  | 2 => ⟨S4x8192x2x128, .f32⟩
  | 3 => ⟨S32768x512, .f32⟩
  | 4 => ⟨S32768x256, .f32⟩
  | 5 => ⟨S32768x256, .bf16⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_v17 : Ref sig .tc := ⟨.hbm, 20, rfl⟩
abbrev main_v18 : Ref sig .tc := ⟨.hbm, 21, rfl⟩
abbrev main_c_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_4 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_c_6 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_c : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_0 : Ref sig .tc := ⟨.hbm, 78, rfl⟩
abbrev main_call1_v12 : Ref sig .tc := ⟨.hbm, 79, rfl⟩
abbrev main_call1_v13 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_7 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v68 : Ref sig .tc := ⟨.hbm, 103, rfl⟩
abbrev main_v69 : Ref sig .tc := ⟨.hbm, 104, rfl⟩
abbrev main_cst_9 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_v70 : Ref sig .tc := ⟨.hbm, 109, rfl⟩
abbrev main_values : Ref sig .tc := ⟨.hbm, 110, rfl⟩
abbrev main_indices : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_10 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_11 : Ref sig .tc := ⟨.hbm, 123, rfl⟩
abbrev main_cst_12 : Ref sig .tc := ⟨.hbm, 124, rfl⟩
abbrev main_call4_v0 : Ref sig .tc := ⟨.hbm, 125, rfl⟩
abbrev main_call4_v1 : Ref sig .tc := ⟨.hbm, 126, rfl⟩
abbrev main_v81 : Ref sig .tc := ⟨.hbm, 127, rfl⟩
abbrev main_v82 : Ref sig .tc := ⟨.hbm, 128, rfl⟩
abbrev main_cst_13 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩

abbrev nD : Nat := 1
abbrev τ : Topo := Topo.v7x

variable {F : FTy → Type} [FloatOps F]
-- ==== Kernel2.lean ====
abbrev S32768x1024 : Shape := ⟨2, ![32768, 1024]⟩
abbrev S32768x256 : Shape := ⟨2, ![32768, 256]⟩
abbrev S32768x512 : Shape := ⟨2, ![32768, 512]⟩
abbrev S4x256x2048 : Shape := ⟨3, ![4, 256, 2048]⟩
abbrev S6x1024 : Shape := ⟨2, ![6, 1024]⟩
abbrev S6x256 : Shape := ⟨2, ![6, 256]⟩
abbrev S1024x1024 : Shape := ⟨2, ![1024, 1024]⟩
abbrev S2x256 : Shape := ⟨2, ![2, 256]⟩
abbrev S256x1024 : Shape := ⟨2, ![256, 1024]⟩
abbrev S256x256 : Shape := ⟨2, ![256, 256]⟩
abbrev S256x512 : Shape := ⟨2, ![256, 512]⟩
abbrev S1x256x2048 : Shape := ⟨3, ![1, 256, 2048]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S512x1024 : Shape := ⟨2, ![512, 1024]⟩
abbrev S1x1024 : Shape := ⟨2, ![1, 1024]⟩
abbrev S256x2048 : Shape := ⟨2, ![256, 2048]⟩

abbrev nBuf : Space → Nat
  | .hbm => 17
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x512, .bf16⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S4x256x2048, .bf16⟩
  | .hbm, ⟨7, _⟩ => ⟨S6x1024, .f32⟩
  | .hbm, ⟨8, _⟩ => ⟨S6x256, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S2x256, .f32⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S6x1024, .f32⟩
  | .local _ .vmem, ⟨13, _⟩ => ⟨S2x256, .f32⟩
  | .local _ .vmem, ⟨14, _⟩ => ⟨S1024x1024, .bf16⟩
  | .local _ .vmem, ⟨15, _⟩ => ⟨S1024x1024, .bf16⟩
  | .local _ .vmem, ⟨16, _⟩ => ⟨S1x256x2048, .bf16⟩
  | .local _ .vmem, ⟨17, _⟩ => ⟨S1x256x2048, .bf16⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32768x1024 : Shape := ⟨2, ![32768, 1024]⟩
abbrev S32768x256 : Shape := ⟨2, ![32768, 256]⟩
abbrev S32768x512 : Shape := ⟨2, ![32768, 512]⟩
abbrev S4x256x2048 : Shape := ⟨3, ![4, 256, 2048]⟩
abbrev S6x1024 : Shape := ⟨2, ![6, 1024]⟩
abbrev S6x256 : Shape := ⟨2, ![6, 256]⟩
abbrev S1024x1024 : Shape := ⟨2, ![1024, 1024]⟩
abbrev S32768x4x64 : Shape := ⟨3, ![32768, 4, 64]⟩
abbrev S_ : Shape := ⟨0, ![]⟩
abbrev S32768x4 : Shape := ⟨2, ![32768, 4]⟩
abbrev S32768x4x1 : Shape := ⟨3, ![32768, 4, 1]⟩
abbrev S1x256 : Shape := ⟨2, ![1, 256]⟩
abbrev S256 : Shape := ⟨1, ![256]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩
abbrev S4x256x2x4x256 : Shape := ⟨5, ![4, 256, 2, 4, 256]⟩
abbrev S4x8192x4x256 : Shape := ⟨4, ![4, 8192, 4, 256]⟩
abbrev S4x256x1x4x256 : Shape := ⟨5, ![4, 256, 1, 4, 256]⟩
abbrev S4x256x4x256 : Shape := ⟨4, ![4, 256, 4, 256]⟩
abbrev S4x4x8192x256 : Shape := ⟨4, ![4, 4, 8192, 256]⟩
abbrev S4x4x8192 : Shape := ⟨3, ![4, 4, 8192]⟩
abbrev S4x4x8192x1 : Shape := ⟨4, ![4, 4, 8192, 1]⟩
abbrev S4x4x256x8192 : Shape := ⟨4, ![4, 4, 256, 8192]⟩

abbrev nBuf : Space → Nat
  | .hbm => 141
  | .vmem => 0
  | .smem => 0
  | _ => 0

abbrev hbmTy0_0 (i : Nat) : BufTy := match i % 128 with
  | 0 => ⟨S32768x1024, .f32⟩
  | 1 => ⟨S32768x256, .bf16⟩
  | 2 => ⟨S32768x512, .bf16⟩
  | 3 => ⟨S32768x256, .f32⟩
  | 4 => ⟨S32768x256, .f32⟩
  | 5 => ⟨S32768x256, .f32⟩
  | 6 => ⟨S4x256x2048, .bf16⟩
  | 7 => ⟨S6x1024, .f32⟩
  | 8 => ⟨S6x256, .f32⟩
  | 9 => ⟨S1024x1024, .f32⟩
  | 10 => ⟨S1024x1024, .f32⟩
  | 11 => ⟨S1024x1024, .f32⟩
  | 12 => ⟨S32768x4x64, .f32⟩
  | 13 => ⟨S_, .f32⟩
  | 14 => ⟨S32768x4, .f32⟩
  | 15 => ⟨S32768x4x1, .f32⟩
  | 16 => ⟨S_, .f32⟩
  | 17 => ⟨S32768x4x1, .f32⟩
  | 18 => ⟨S32768x4x1, .f32⟩
  | 19 => ⟨S32768x4x64, .f32⟩
  | 20 => ⟨S32768x4x64, .f32⟩
  | 21 => ⟨S32768x4x64, .f32⟩
  | 22 => ⟨S32768x4x64, .f32⟩
  | 23 => ⟨S32768x4x64, .f32⟩
  | 24 => ⟨S_, .f32⟩
  | 25 => ⟨S32768x4, .f32⟩
  | 26 => ⟨S32768x4x1, .f32⟩
  | 27 => ⟨S_, .f32⟩
  | 28 => ⟨S32768x4x1, .f32⟩
  | 29 => ⟨S32768x4x1, .f32⟩
  | 30 => ⟨S32768x4x64, .f32⟩
  | 31 => ⟨S32768x4x64, .f32⟩
  | 32 => ⟨S_, .f32⟩
  | 33 => ⟨S32768x4x1, .f32⟩
  | 34 => ⟨S32768x4x1, .f32⟩
  | 35 => ⟨S32768x4x1, .f32⟩
  | 36 => ⟨S32768x4x64, .f32⟩
  | 37 => ⟨S32768x4x64, .f32⟩
  | 38 => ⟨S32768x256, .f32⟩
  | 39 => ⟨S1x256, .f32⟩
  | 40 => ⟨S256, .f32⟩
  | 41 => ⟨S1x256, .f32⟩
  | 42 => ⟨S32768x256, .f32⟩
  | 43 => ⟨S32768x256, .f32⟩
  | 44 => ⟨S1x256, .f32⟩
  | 45 => ⟨S256, .f32⟩
  | 46 => ⟨S1x256, .f32⟩
  | 47 => ⟨S32768x256, .f32⟩
  | 48 => ⟨S32768x256, .f32⟩
  | 49 => ⟨S32768x256, .f32⟩
  | 50 => ⟨S32768x256, .f32⟩
  | 51 => ⟨S32768x256, .f32⟩
  | 52 => ⟨S32768x512, .f32⟩
  | 53 => ⟨S32768x1024, .f32⟩
  | 54 => ⟨S32768x1024, .f32⟩
  | 55 => ⟨S1x1024, .f32⟩
  | 56 => ⟨S1024, .f32⟩
  | 57 => ⟨S32768x1024, .f32⟩
  | 58 => ⟨S_, .f32⟩
  | 59 => ⟨S32768, .f32⟩
  | 60 => ⟨S32768x1, .f32⟩
  | 61 => ⟨S_, .f32⟩
  | 62 => ⟨S32768x1, .f32⟩
  | 63 => ⟨S32768x1, .f32⟩
  | 64 => ⟨S_, .f32⟩
  | 65 => ⟨S32768x1, .f32⟩
  | 66 => ⟨S32768x1, .f32⟩
  | 67 => ⟨S32768x1, .f32⟩
  | 68 => ⟨S32768x1024, .f32⟩
  | 69 => ⟨S32768x1024, .f32⟩
  | 70 => ⟨S1x1024, .f32⟩
  | 71 => ⟨S32768x1024, .f32⟩
  | 72 => ⟨S32768x1024, .f32⟩
  | 73 => ⟨S32768x1024, .f32⟩
  | 74 => ⟨S1x1024, .f32⟩
  | 75 => ⟨S1024, .f32⟩
  | 76 => ⟨S32768x1024, .f32⟩
  | 77 => ⟨S_, .f32⟩
  | 78 => ⟨S32768, .f32⟩
  | 79 => ⟨S32768x1, .f32⟩
  | 80 => ⟨S_, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S32768x1, .f32⟩
  | 87 => ⟨S32768x1024, .f32⟩
  | 88 => ⟨S32768x1024, .f32⟩
  | 89 => ⟨S1x1024, .f32⟩
  | 90 => ⟨S32768x1024, .f32⟩
  | 91 => ⟨S32768x1024, .f32⟩
  | 92 => ⟨S4x256x2048, .f32⟩
  | 93 => ⟨S4x256x2x4x256, .f32⟩
  | 94 => ⟨S32768x1024, .f32⟩
  | 95 => ⟨S4x8192x4x256, .f32⟩
  | 96 => ⟨S_, .f32⟩
  | 97 => ⟨S4x8192x4x256, .f32⟩
  | 98 => ⟨S4x8192x4x256, .f32⟩
  | 99 => ⟨S4x256x1x4x256, .f32⟩
  | 100 => ⟨S4x256x4x256, .f32⟩
  | 101 => ⟨S4x4x8192x256, .f32⟩
  | 102 => ⟨S_, .f32⟩
  | 103 => ⟨S4x4x8192, .f32⟩
  | 104 => ⟨S_, .f32⟩
  | 105 => ⟨S4x4x8192, .f32⟩
  | 106 => ⟨S4x4x8192, .f32⟩
  | 107 => ⟨S4x4x8192x1, .f32⟩
  | 108 => ⟨S4x4x8192x256, .f32⟩
  | 109 => ⟨S4x4x8192x256, .f32⟩
  | 110 => ⟨S4x4x8192x256, .f32⟩
  | 111 => ⟨S_, .f32⟩
  | 112 => ⟨S4x4x8192, .f32⟩
  | 113 => ⟨S4x4x8192x1, .f32⟩
  | 114 => ⟨S4x4x8192x256, .f32⟩
  | 115 => ⟨S4x4x8192x256, .f32⟩
  | 116 => ⟨S4x256x1x4x256, .f32⟩
  | 117 => ⟨S4x256x4x256, .f32⟩
  | 118 => ⟨S4x4x256x8192, .f32⟩
  | 119 => ⟨S4x8192x4x256, .f32⟩
  | 120 => ⟨S32768x1024, .f32⟩
  | 121 => ⟨S32768x1024, .f32⟩
  | 122 => ⟨S1x1024, .f32⟩
  | 123 => ⟨S1024, .f32⟩
  | 124 => ⟨S32768x1024, .f32⟩
  | 125 => ⟨S_, .f32⟩
  | 126 => ⟨S32768, .f32⟩
  | 127 => ⟨S32768x1, .f32⟩
  | _ => ⟨S32768x1024, .f32⟩

abbrev hbmTy0_1 (i : Nat) : BufTy := match i % 128 with
  | 0 => ⟨S_, .f32⟩
  | 1 => ⟨S32768x1, .f32⟩
  | 2 => ⟨S32768x1, .f32⟩
  | 3 => ⟨S_, .f32⟩
  | 4 => ⟨S32768x1, .f32⟩
  | 5 => ⟨S32768x1, .f32⟩
  | 6 => ⟨S32768x1, .f32⟩
  | 7 => ⟨S32768x1024, .f32⟩
  | 8 => ⟨S32768x1024, .f32⟩
  | 9 => ⟨S1x1024, .f32⟩
  | 10 => ⟨S32768x1024, .f32⟩
  | 11 => ⟨S32768x1024, .f32⟩
  | 12 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_4 : Ref sig .tc := ⟨.hbm, 58, rfl⟩
abbrev main_v41 : Ref sig .tc := ⟨.hbm, 59, rfl⟩
abbrev main_v42 : Ref sig .tc := ⟨.hbm, 60, rfl⟩
abbrev main_cst_5 : Ref sig .tc := ⟨.hbm, 61, rfl⟩
abbrev main_v43 : Ref sig .tc := ⟨.hbm, 62, rfl⟩
abbrev main_v44 : Ref sig .tc := ⟨.hbm, 63, rfl⟩
abbrev main_cst_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_7 : Ref sig .tc := ⟨.hbm, 77, rfl⟩
abbrev main_v57 : Ref sig .tc := ⟨.hbm, 78, rfl⟩
abbrev main_v58 : Ref sig .tc := ⟨.hbm, 79, rfl⟩
abbrev main_cst_8 : Ref sig .tc := ⟨.hbm, 80, rfl⟩
abbrev main_v59 : Ref sig .tc := ⟨.hbm, 81, rfl⟩
abbrev main_v60 : Ref sig .tc := ⟨.hbm, 82, rfl⟩
abbrev main_cst_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_10 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_11 : Ref sig .tc := ⟨.hbm, 102, rfl⟩
abbrev main_v78 : Ref sig .tc := ⟨.hbm, 103, rfl⟩
abbrev main_cst_12 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_13 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_14 : Ref sig .tc := ⟨.hbm, 125, rfl⟩
abbrev main_v98 : Ref sig .tc := ⟨.hbm, 126, rfl⟩
abbrev main_v99 : Ref sig .tc := ⟨.hbm, 127, rfl⟩
abbrev main_cst_15 : Ref sig .tc := ⟨.hbm, 128, rfl⟩
abbrev main_v100 : Ref sig .tc := ⟨.hbm, 129, rfl⟩
abbrev main_v101 : Ref sig .tc := ⟨.hbm, 130, rfl⟩
abbrev main_cst_16 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩

abbrev nD : Nat := 1
abbrev τ : Topo := Topo.v7x

variable {F : FTy → Type} [FloatOps F]
-- ==== Kernel3.lean ====
abbrev S32768x1024 : Shape := ⟨2, ![32768, 1024]⟩
abbrev S4x2x2816 : Shape := ⟨3, ![4, 2, 2816]⟩
abbrev S6x1024 : Shape := ⟨2, ![6, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x2816 : Shape := ⟨2, ![1, 2816]⟩
abbrev S64x2x2816 : Shape := ⟨3, ![64, 2, 2816]⟩
abbrev S512x1024 : Shape := ⟨2, ![512, 1024]⟩
abbrev S1x2x1408 : Shape := ⟨3, ![1, 2, 1408]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S2x8x1408 : Shape := ⟨3, ![2, 8, 1408]⟩
abbrev S1x1024 : Shape := ⟨2, ![1, 1024]⟩
abbrev S512 : Shape := ⟨1, ![512]⟩
abbrev S512x1 : Shape := ⟨2, ![512, 1]⟩
abbrev S512x1408 : Shape := ⟨2, ![512, 1408]⟩
abbrev S1x1x1408 : Shape := ⟨3, ![1, 1, 1408]⟩
abbrev S8x1408 : Shape := ⟨2, ![8, 1408]⟩
abbrev S1x8x1408 : Shape := ⟨3, ![1, 8, 1408]⟩
abbrev S2x1408 : Shape := ⟨2, ![2, 1408]⟩

abbrev nBuf : Space → Nat
  | .hbm => 12
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S4x2x2816, .f32⟩
  | .hbm, ⟨2, _⟩ => ⟨S6x1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024x5632, .bf16⟩
  | .hbm, ⟨8, _⟩ => ⟨S1x2816, .f32⟩
  | .hbm, ⟨9, _⟩ => ⟨S2816x1024, .bf16⟩
  | .hbm, ⟨10, _⟩ => ⟨S32768x1024, .f32⟩
  | .hbm, ⟨11, _⟩ => ⟨S64x2x2816, .f32⟩
  | .local _ .vmem, ⟨0, _⟩ => ⟨S512x1024, .f32⟩
  | .local _ .vmem, ⟨1, _⟩ => ⟨S512x1024, .f32⟩
  | .local _ .vmem, ⟨2, _⟩ => ⟨S1x2x1408, .f32⟩
  | .local _ .vmem, ⟨3, _⟩ => ⟨S1x2x1408, .f32⟩
  | .local _ .vmem, ⟨4, _⟩ => ⟨S1x2x1408, .f32⟩
  | .local _ .vmem, ⟨5, _⟩ => ⟨S1x2x1408, .f32⟩
  | .local _ .vmem, ⟨6, _⟩ => ⟨S6x1024, .f32⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S3x1408, .f32⟩
  | .local _ .vmem, ⟨12, _⟩ => ⟨S3x1408, .f32⟩
  | .local _ .vmem, ⟨13, _⟩ => ⟨S1x1408, .f32⟩
  | .local _ .vmem, ⟨14, _⟩ => ⟨S1x1408, .f32⟩
  | .local _ .vmem, ⟨15, _⟩ => ⟨S1408x1024, .bf16⟩
  | .local _ .vmem, ⟨16, _⟩ => ⟨S1408x1024, .bf16⟩
  | .local _ .vmem, ⟨17, _⟩ => ⟨S512x1024, .f32⟩
  | .local _ .vmem, ⟨18, _⟩ => ⟨S512x1024, .f32⟩
  | .local _ .vmem, ⟨19, _⟩ => ⟨S1x2x1408, .f32⟩
  | .local _ .vmem, ⟨20, _⟩ => ⟨S1x2x1408, .f32⟩
  | .local _ .vmem, ⟨21, _⟩ => ⟨S512x1024, .bf16⟩
  | .local _ .vmem, ⟨22, _⟩ => ⟨S512x1024, .f32⟩
  | .local _ .vmem, ⟨23, _⟩ => ⟨S2x8x1408, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![64, 2], ![false, false]⟩

def k0_off1 (i : grid0.Coords) : Fin 3 → Nat :=
  let arg1 : BitVec 32 := BitVec.ofNat 32 (i 1).val
  let v23 : Index := Scalar.indexCast arg1
  let c6 : Index := 6#32
  let c0_15 : Index := 0#32
  ![v23.toNat, 6, 0]
def k0_off2 (i : grid0.Coords) : Fin 3 → Nat :=
  let arg1 : BitVec 32 := BitVec.ofNat 32 (i 1).val
  let v29 : Index := Scalar.indexCast arg1
  let c7 : Index := 7#32
  let c0_18 : Index := 0#32
  ![v29.toNat, 7, 0]
def k0_off3 (i : grid0.Coords) : Fin 3 → Nat :=
  let arg1 : BitVec 32 := BitVec.ofNat 32 (i 1).val
  let v58 : Index := Scalar.indexCast arg1
  let c0_23 : Index := 0#32
  let c0_24 : Index := 0#32
  ![v58.toNat, 0, 0]
def k0_cond2 (i : grid0.Coords) : BitVec 1 :=
  let arg1 : BitVec 32 := BitVec.ofNat 32 (i 1).val
  let c1_i32_42 : BitVec 32 := 1#32
  let v93 : BitVec 1 := Scalar.cmpi .eq arg1 c1_i32_42
  let v94 : BitVec 32 := Scalar.extui v93
  let c0_i32_43 : BitVec 32 := 0#32
  let v95 : BitVec 1 := Scalar.cmpi .ne v94 c0_i32_43
  v95

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1408x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference3Ideal.lean ====
abbrev S32768x1024 : Shape := ⟨2, ![32768, 1024]⟩
abbrev S4x2x2816 : Shape := ⟨3, ![4, 2, 2816]⟩
abbrev S6x1024 : Shape := ⟨2, ![6, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S4x8192x1024 : Shape := ⟨3, ![4, 8192, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S4x8194x2816 : Shape := ⟨3, ![4, 8194, 2816]⟩
abbrev S1x2816 : Shape := ⟨2, ![1, 2816]⟩
abbrev S1x1x2816 : Shape := ⟨3, ![1, 1, 2816]⟩
abbrev S64x512x2816 : Shape := ⟨3, ![64, 512, 2816]⟩
abbrev S64x2x2816 : Shape := ⟨3, ![64, 2, 2816]⟩

abbrev nBuf : Space → Nat
  | .hbm => 89
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S4x2x2816, .f32⟩
  | .hbm, ⟨2, _⟩ => ⟨S6x1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S4x8192x1024, .f32⟩
  | .hbm, ⟨8, _⟩ => ⟨S1x1024, .f32⟩
  | .hbm, ⟨9, _⟩ => ⟨S1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x5632, .f32⟩
  | .hbm, ⟨27, _⟩ => ⟨S4x8192x2816, .f32⟩
  | .hbm, ⟨28, _⟩ => ⟨S4x8192x2816, .f32⟩
  | .hbm, ⟨29, _⟩ => ⟨S4x8194x2816, .f32⟩
  | .hbm, ⟨30, _⟩ => ⟨S4x8192x2816, .f32⟩
  | .hbm, ⟨31, _⟩ => ⟨S1x2816, .f32⟩
  | .hbm, ⟨32, _⟩ => ⟨S2816, .f32⟩
  | .hbm, ⟨33, _⟩ => ⟨S1x1x2816, .f32⟩
  | .hbm, ⟨34, _⟩ => ⟨S4x8192x2816, .f32⟩
  | .hbm, ⟨35, _⟩ => ⟨S4x8192x2816, .f32⟩
  | .hbm, ⟨36, _⟩ => ⟨S_, .f32⟩
  | .hbm, ⟨37, _⟩ => ⟨S4x8192x2816, .f32⟩
  | .hbm, ⟨38, _⟩ => ⟨S4x8192x2816, .f32⟩
  | .hbm, ⟨39, _⟩ => ⟨S4x8192x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S1x1x2816, .f32⟩
  | .hbm, ⟨54, _⟩ => ⟨S4x8192x2816, .f32⟩
  | .hbm, ⟨55, _⟩ => ⟨S4x8192x2816, .f32⟩
  | .hbm, ⟨56, _⟩ => ⟨S4x8192x2816, .f32⟩
  | .hbm, ⟨57, _⟩ => ⟨S4x8192x2816, .f32⟩
  | .hbm, ⟨58, _⟩ => ⟨S_, .f32⟩
  | .hbm, ⟨59, _⟩ => ⟨S4x8192x2816, .f32⟩
  | .hbm, ⟨60, _⟩ => ⟨S4x8192x2816, .f32⟩
  | .hbm, ⟨61, _⟩ => ⟨S_, .f32⟩
  | .hbm, ⟨62, _⟩ => ⟨S4x8192x2816, .f32⟩
  | .hbm, ⟨63, _⟩ => ⟨S4x8192x2816, .f32⟩
  | .hbm, ⟨64, _⟩ => ⟨S4x8192x2816, .f32⟩
  | .hbm, ⟨65, _⟩ => ⟨S4x8192x2816, .f32⟩
  | .hbm, ⟨66, _⟩ => ⟨S4x8192x1024, .f32⟩
  | .hbm, ⟨67, _⟩ => ⟨S1x1024, .f32⟩
  | .hbm, ⟨68, _⟩ => ⟨S1024, .f32⟩
  | .hbm, ⟨69, _⟩ => ⟨S4x8192x1024, .f32⟩
  | .hbm, ⟨70, _⟩ => ⟨S_, .f32⟩
  | .hbm, ⟨71, _⟩ => ⟨S4x8192, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S_, .f32⟩
  | .hbm, ⟨77, _⟩ => ⟨S4x8192x1, .f32⟩
  | .hbm, ⟨78, _⟩ => ⟨S4x8192x1, .f32⟩
  | .hbm, ⟨79, _⟩ => ⟨S4x8192x1, .f32⟩
  | .hbm, ⟨80, _⟩ => ⟨S4x8192x1024, .f32⟩
  | .hbm, ⟨81, _⟩ => ⟨S4x8192x1024, .f32⟩
  | .hbm, ⟨82, _⟩ => ⟨S1x1x1024, .f32⟩
  | .hbm, ⟨83, _⟩ => ⟨S4x8192x1024, .f32⟩
  | .hbm, ⟨84, _⟩ => ⟨S4x8192x1024, .f32⟩
  | .hbm, ⟨85, _⟩ => ⟨S4x8192x1024, .f32⟩
  | .hbm, ⟨86, _⟩ => ⟨S64x512x2816, .f32⟩
  | .hbm, ⟨87, _⟩ => ⟨S64x2x2816, .f32⟩
  | .hbm, ⟨88, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_cst_5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1024x2840 : Shape := ⟨2, ![1024, 2840]⟩
abbrev S2x256 : Shape := ⟨2, ![2, 256]⟩
abbrev S4x128x128 : Shape := ⟨3, ![4, 128, 128]⟩
abbrev S4x128 : Shape := ⟨2, ![4, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S1024x24 : Shape := ⟨2, ![1024, 24]⟩
abbrev S1024x8x3 : Shape := ⟨3, ![1024, 8, 3]⟩
abbrev S1024x3x8 : Shape := ⟨3, ![1024, 3, 8]⟩
abbrev S1024x128 : Shape := ⟨2, ![1024, 128]⟩
abbrev S1024x1792 : Shape := ⟨2, ![1024, 1792]⟩
abbrev S1024x1024 : Shape := ⟨2, ![1024, 1024]⟩
abbrev S1024x2944 : Shape := ⟨2, ![1024, 2944]⟩
abbrev S128x4 : Shape := ⟨2, ![128, 4]⟩
abbrev S128x4x64 : Shape := ⟨3, ![128, 4, 64]⟩
abbrev S128x256 : Shape := ⟨2, ![128, 256]⟩
abbrev S1x1024 : Shape := ⟨2, ![1, 1024]⟩
abbrev S32768x256 : Shape := ⟨2, ![32768, 256]⟩
abbrev S32768x512 : Shape := ⟨2, ![32768, 512]⟩
abbrev S32768x128 : Shape := ⟨2, ![32768, 128]⟩
abbrev S256x1024 : Shape := ⟨2, ![256, 1024]⟩
abbrev S256x128 : Shape := ⟨2, ![256, 128]⟩
abbrev S256x256 : Shape := ⟨2, ![256, 256]⟩
abbrev S256x512 : Shape := ⟨2, ![256, 512]⟩
abbrev S256 : Shape := ⟨1, ![256]⟩
abbrev S256x1 : Shape := ⟨2, ![256, 1]⟩
abbrev S256x2944 : Shape := ⟨2, ![256, 2944]⟩
abbrev S1x256 : Shape := ⟨2, ![1, 256]⟩
abbrev S128x128 : Shape := ⟨2, ![128, 128]⟩
abbrev S1x128x128 : Shape := ⟨3, ![1, 128, 128]⟩

abbrev nBuf : Space → Nat
  | .hbm => 55
  | .vmem => 29
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2840, .f32⟩
  | .hbm, ⟨3, _⟩ => ⟨S2x256, .f32⟩
  | .hbm, ⟨4, _⟩ => ⟨S4x128x128, .f32⟩
  | .hbm, ⟨5, _⟩ => ⟨S4x128, .f32⟩
  | .hbm, ⟨6, _⟩ => ⟨S8192, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8192, .f32⟩
  | .hbm, ⟨16, _⟩ => ⟨S8192x1, .f32⟩
  | .hbm, ⟨17, _⟩ => ⟨S1x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S8192x32, .f32⟩
  | .hbm, ⟨23, _⟩ => ⟨S1x8192x1x32, .f32⟩
  | .hbm, ⟨24, _⟩ => ⟨S1x8192x4x32, .f32⟩
  | .hbm, ⟨25, _⟩ => ⟨S8192x128, .f32⟩
  | .hbm, ⟨26, _⟩ => ⟨S8192x32, .f32⟩
  | .hbm, ⟨27, _⟩ => ⟨S8192x64, .f32⟩
  | .hbm, ⟨28, _⟩ => ⟨S1x8192x1x64, .f32⟩
  | .hbm, ⟨29, _⟩ => ⟨S1x8192x2x64, .f32⟩
  | .hbm, ⟨30, _⟩ => ⟨S8192x128, .f32⟩
  | .hbm, ⟨31, _⟩ => ⟨S1024x24, .f32⟩
  | .hbm, ⟨32, _⟩ => ⟨S1024x8x3, .f32⟩
  | .hbm, ⟨33, _⟩ => ⟨S1024x3x8, .f32⟩
  | .hbm, ⟨34, _⟩ => ⟨S1024x24, .f32⟩
  | .hbm, ⟨35, _⟩ => ⟨S_, .i32⟩
  | .hbm, ⟨36, _⟩ => ⟨S_, .f32⟩
  | .hbm, ⟨37, _⟩ => ⟨S1024x128, .f32⟩
  | .hbm, ⟨38, _⟩ => ⟨S1024x1792, .f32⟩
  | .hbm, ⟨39, _⟩ => ⟨S1024x1024, .f32⟩
  | .hbm, ⟨40, _⟩ => ⟨S1024x2944, .f32⟩
  | .hbm, ⟨41, _⟩ => ⟨S1024x2944, .bf16⟩
  | .hbm, ⟨42, _⟩ => ⟨S128x4, .f32⟩
  | .hbm, ⟨43, _⟩ => ⟨S128x4x64, .f32⟩
  | .hbm, ⟨44, _⟩ => ⟨S128x256, .f32⟩
  | .hbm, ⟨45, _⟩ => ⟨S1x1024, .f32⟩
  | .hbm, ⟨46, _⟩ => ⟨S32768x256, .bf16⟩
  | .hbm, ⟨47, _⟩ => ⟨S32768x256, .f32⟩
  | .hbm, ⟨48, _⟩ => ⟨S32768x1024, .bf16⟩
  | .hbm, ⟨49, _⟩ => ⟨S32768x256, .f32⟩
  | .hbm, ⟨50, _⟩ => ⟨S32768x256, .f32⟩
  | .hbm, ⟨51, _⟩ => ⟨S32768x256, .f32⟩
  | .hbm, ⟨52, _⟩ => ⟨S32768x512, .bf16⟩
  | .hbm, ⟨53, _⟩ => ⟨S32768x128, .f32⟩
  | .hbm, ⟨54, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2944, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S2x256, .f32⟩
  | .local _ .vmem, ⟨9, _⟩ => ⟨S4x128x128, .f32⟩
  | .local _ .vmem, ⟨10, _⟩ => ⟨S128x256, .f32⟩
  | .local _ .vmem, ⟨11, _⟩ => ⟨S256x256, .bf16⟩
  | .local _ .vmem, ⟨12, _⟩ => ⟨S256x256, .bf16⟩
  | .local _ .vmem, ⟨13, _⟩ => ⟨S256x256, .f32⟩
  | .local _ .vmem, ⟨14, _⟩ => ⟨S256x256, .f32⟩
  | .local _ .vmem, ⟨15, _⟩ => ⟨S256x1024, .bf16⟩
  | .local _ .vmem, ⟨16, _⟩ => ⟨S256x1024, .bf16⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x512, .bf16⟩
  | .local _ .vmem, ⟨24, _⟩ => ⟨S256x512, .bf16⟩
  | .local _ .vmem, ⟨25, _⟩ => ⟨S256x128, .f32⟩
  | .local _ .vmem, ⟨26, _⟩ => ⟨S256x128, .f32⟩
  | .local _ .vmem, ⟨27, _⟩ => ⟨S256x1024, .f32⟩
  | .local _ .vmem, ⟨28, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c : Ref sig .tc := ⟨.hbm, 35, rfl⟩
abbrev main_call0_v0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36_0 : Ref sig .tc := ⟨.hbm, 46, rfl⟩
abbrev main_v36_1 : Ref sig .tc := ⟨.hbm, 47, rfl⟩
abbrev main_v36_2 : Ref sig .tc := ⟨.hbm, 48, rfl⟩
abbrev main_v36_3 : Ref sig .tc := ⟨.hbm, 49, rfl⟩
abbrev main_v36_4 : Ref sig .tc := ⟨.hbm, 50, rfl⟩
abbrev main_v36_5 : Ref sig .tc := ⟨.hbm, 51, rfl⟩
abbrev main_v36_6 : Ref sig .tc := ⟨.hbm, 52, rfl⟩
abbrev main_v36_7 : Ref sig .tc := ⟨.hbm, 53, rfl⟩
abbrev main_v36_8 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference4Ideal.lean ====
abbrev S32768x1024 : Shape := ⟨2, ![32768, 1024]⟩
abbrev S1024 : Shape := ⟨1, ![1024]⟩
abbrev S1024x2840 : Shape := ⟨2, ![1024, 2840]⟩
abbrev S2x256 : Shape := ⟨2, ![2, 256]⟩
abbrev S4x128x128 : Shape := ⟨3, ![4, 128, 128]⟩
abbrev S4x128 : Shape := ⟨2, ![4, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2840 : Shape := ⟨2, ![32768, 2840]⟩
abbrev S32768x512 : Shape := ⟨2, ![32768, 512]⟩
abbrev S32768x256 : Shape := ⟨2, ![32768, 256]⟩
abbrev S1x256 : Shape := ⟨2, ![1, 256]⟩
abbrev S256 : Shape := ⟨1, ![256]⟩
abbrev S128x128 : Shape := ⟨2, ![128, 128]⟩
abbrev S1x128x128 : Shape := ⟨3, ![1, 128, 128]⟩
abbrev S256x128x4x64 : Shape := ⟨4, ![256, 128, 4, 64]⟩
abbrev S4x256x64x128 : Shape := ⟨4, ![4, 256, 64, 128]⟩
abbrev S128x4 : Shape := ⟨2, ![128, 4]⟩
abbrev S1x128x4x1 : Shape := ⟨4, ![1, 128, 4, 1]⟩
abbrev S4x8192x8x64 : Shape := ⟨4, ![4, 8192, 8, 64]⟩
abbrev S32 : Shape := ⟨1, ![32]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S4x8192x8x32 : Shape := ⟨4, ![4, 8192, 8, 32]⟩
abbrev S1x8192x1x32 : Shape := ⟨4, ![1, 8192, 1, 32]⟩
abbrev S32768x8x64 : Shape := ⟨3, ![32768, 8, 64]⟩
abbrev S32768x4x64 : Shape := ⟨3, ![32768, 4, 64]⟩
abbrev S32768x4x128 : Shape := ⟨3, ![32768, 4, 128]⟩
abbrev S32768x8x128 : Shape := ⟨3, ![32768, 8, 128]⟩
abbrev S32768x128 : Shape := ⟨2, ![32768, 128]⟩
abbrev S4x8192x2x64 : Shape := ⟨4, ![4, 8192, 2, 64]⟩
abbrev S4x8192x2x32 : Shape := ⟨4, ![4, 8192, 2, 32]⟩
abbrev S32768x24 : Shape := ⟨2, ![32768, 24]⟩
abbrev S32768x8x3 : Shape := ⟨3, ![32768, 8, 3]⟩
abbrev S32768x3x8 : Shape := ⟨3, ![32768, 3, 8]⟩
abbrev S32768x104 : Shape := ⟨2, ![32768, 104]⟩

abbrev nBuf : Space → Nat
  | .hbm => 297
  | .vmem => 0
  | .smem => 0
  | _ => 0

abbrev hbmTy0_0 (i : Nat) : BufTy := match i % 128 with
  | 0 => ⟨S32768x1024, .f32⟩
  | 1 => ⟨S1024, .f32⟩
  | 2 => ⟨S1024x2840, .f32⟩
  | 3 => ⟨S2x256, .f32⟩
  | 4 => ⟨S4x128x128, .f32⟩
  | 5 => ⟨S4x128, .f32⟩
  | 6 => ⟨S32768x1024, .f32⟩
  | 7 => ⟨S_, .f32⟩
  | 8 => ⟨S32768, .f32⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1024, .f32⟩
  | 18 => ⟨S32768x1024, .f32⟩
  | 19 => ⟨S1x1024, .f32⟩
  | 20 => ⟨S32768x1024, .f32⟩
  | 21 => ⟨S32768x1024, .f32⟩
  | 22 => ⟨S32768x2840, .f32⟩
  | 23 => ⟨S32768x512, .f32⟩
  | 24 => ⟨S32768x512, .f32⟩
  | 25 => ⟨S32768x512, .f32⟩
  | 26 => ⟨S_, .f32⟩
  | 27 => ⟨S32768x512, .f32⟩
  | 28 => ⟨S32768x512, .f32⟩
  | 29 => ⟨S32768x512, .f32⟩
  | 30 => ⟨S_, .f32⟩
  | 31 => ⟨S32768x512, .f32⟩
  | 32 => ⟨S32768x512, .f32⟩
  | 33 => ⟨S32768x512, .f32⟩
  | 34 => ⟨S_, .f32⟩
  | 35 => ⟨S32768x512, .f32⟩
  | 36 => ⟨S32768x512, .f32⟩
  | 37 => ⟨S_, .f32⟩
  | 38 => ⟨S32768x512, .f32⟩
  | 39 => ⟨S32768x512, .f32⟩
  | 40 => ⟨S32768x512, .f32⟩
  | 41 => ⟨S32768x256, .f32⟩
  | 42 => ⟨S32768x256, .f32⟩
  | 43 => ⟨S_, .f32⟩
  | 44 => ⟨S32768, .f32⟩
  | 45 => ⟨S32768x1, .f32⟩
  | 46 => ⟨S_, .f32⟩
  | 47 => ⟨S32768x1, .f32⟩
  | 48 => ⟨S32768x1, .f32⟩
  | 49 => ⟨S32768x256, .f32⟩
  | 50 => ⟨S32768x256, .f32⟩
  | 51 => ⟨S32768x256, .f32⟩
  | 52 => ⟨S32768x256, .f32⟩
  | 53 => ⟨S32768x256, .f32⟩
  | 54 => ⟨S_, .f32⟩
  | 55 => ⟨S32768, .f32⟩
  | 56 => ⟨S32768x1, .f32⟩
  | 57 => ⟨S_, .f32⟩
  | 58 => ⟨S32768x1, .f32⟩
  | 59 => ⟨S32768x1, .f32⟩
  | 60 => ⟨S32768x256, .f32⟩
  | 61 => ⟨S32768x256, .f32⟩
  | 62 => ⟨S_, .f32⟩
  | 63 => ⟨S32768x1, .f32⟩
  | 64 => ⟨S32768x1, .f32⟩
  | 65 => ⟨S32768x1, .f32⟩
  | 66 => ⟨S32768x256, .f32⟩
  | 67 => ⟨S32768x256, .f32⟩
  | 68 => ⟨S1x256, .f32⟩
  | 69 => ⟨S256, .f32⟩
  | 70 => ⟨S1x256, .f32⟩
  | 71 => ⟨S32768x256, .f32⟩
  | 72 => ⟨S32768x256, .f32⟩
  | 73 => ⟨S1x256, .f32⟩
  | 74 => ⟨S256, .f32⟩
  | 75 => ⟨S1x256, .f32⟩
  | 76 => ⟨S32768x256, .f32⟩
  | 77 => ⟨S32768x256, .f32⟩
  | 78 => ⟨S_, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S1x128x128, .f32⟩
  | 90 => ⟨S4x128x128, .f32⟩
  | 91 => ⟨S4x128x128, .f32⟩
  | 92 => ⟨S256x128x4x64, .f32⟩
  | 93 => ⟨S4x256x64x128, .f32⟩
  | 94 => ⟨S256x128x4x64, .f32⟩
  | 95 => ⟨S128x4, .f32⟩
  | 96 => ⟨S1x128x4x1, .f32⟩
  | 97 => ⟨S256x128x4x64, .f32⟩
  | 98 => ⟨S256x128x4x64, .f32⟩
  | 99 => ⟨S32768x256, .f32⟩
  | 100 => ⟨S32768x256, .f32⟩
  | 101 => ⟨S32768x512, .f32⟩
  | 102 => ⟨S4x8192x8x64, .f32⟩
  | 103 => ⟨S32, .f32⟩
  | 104 => ⟨S32, .f32⟩
  | 105 => ⟨S_, .f32⟩
  | 106 => ⟨S32, .f32⟩
  | 107 => ⟨S32, .f32⟩
  | 108 => ⟨S_, .f32⟩
  | 109 => ⟨S32, .f32⟩
  | 110 => ⟨S32, .f32⟩
  | 111 => ⟨S8192, .i32⟩
  | 112 => ⟨S8192, .f32⟩
  | 113 => ⟨S8192x1, .f32⟩
  | 114 => ⟨S1x32, .f32⟩
  | 115 => ⟨S8192x32, .f32⟩
  | 116 => ⟨S8192x32, .f32⟩
  | 117 => ⟨S8192x32, .f32⟩
  | 118 => ⟨S8192x32, .f32⟩
  | 119 => ⟨S8192x1x32, .f32⟩
  | 120 => ⟨S8192x32, .f32⟩
  | 121 => ⟨S8192x1x32, .f32⟩
  | 122 => ⟨S4x8192x8x32, .f32⟩
  | 123 => ⟨S4x8192x8x32, .f32⟩
  | 124 => ⟨S1x8192x1x32, .f32⟩
  | 125 => ⟨S4x8192x8x32, .f32⟩
  | 126 => ⟨S4x8192x8x32, .f32⟩
  | 127 => ⟨S1x8192x1x32, .f32⟩
  | _ => ⟨S32768x1024, .f32⟩

abbrev hbmTy0_1 (i : Nat) : BufTy := match i % 128 with
  | 0 => ⟨S4x8192x8x32, .f32⟩
  | 1 => ⟨S4x8192x8x32, .f32⟩
  | 2 => ⟨S4x8192x8x32, .f32⟩
  | 3 => ⟨S1x8192x1x32, .f32⟩
  | 4 => ⟨S4x8192x8x32, .f32⟩
  | 5 => ⟨S4x8192x8x32, .f32⟩
  | 6 => ⟨S1x8192x1x32, .f32⟩
  | 7 => ⟨S4x8192x8x32, .f32⟩
  | 8 => ⟨S4x8192x8x32, .f32⟩
  | 9 => ⟨S4x8192x8x32, .f32⟩
  | 10 => ⟨S4x8192x8x64, .f32⟩
  | 11 => ⟨S32768x8x64, .f32⟩
  | 12 => ⟨S_, .f32⟩
  | 13 => ⟨S32768x8x64, .f32⟩
  | 14 => ⟨S32768x8x64, .f32⟩
  | 15 => ⟨S_, .f32⟩
  | 16 => ⟨S32768x4x64, .f32⟩
  | 17 => ⟨S32768x4x64, .f32⟩
  | 18 => ⟨S32768x4x128, .f32⟩
  | 19 => ⟨S32768x4x64, .f32⟩
  | 20 => ⟨S32768x4x128, .f32⟩
  | 21 => ⟨S32768x8x128, .f32⟩
  | 22 => ⟨S32768x1024, .f32⟩
  | 23 => ⟨S32768x256, .f32⟩
  | 24 => ⟨S32768x128, .f32⟩
  | 25 => ⟨S4x8192x2x64, .f32⟩
  | 26 => ⟨S32, .f32⟩
  | 27 => ⟨S32, .f32⟩
  | 28 => ⟨S_, .f32⟩
  | 29 => ⟨S32, .f32⟩
  | 30 => ⟨S32, .f32⟩
  | 31 => ⟨S_, .f32⟩
  | 32 => ⟨S32, .f32⟩
  | 33 => ⟨S32, .f32⟩
  | 34 => ⟨S8192, .i32⟩
  | 35 => ⟨S8192, .f32⟩
  | 36 => ⟨S8192x1, .f32⟩
  | 37 => ⟨S1x32, .f32⟩
  | 38 => ⟨S8192x32, .f32⟩
  | 39 => ⟨S8192x32, .f32⟩
  | 40 => ⟨S8192x32, .f32⟩
  | 41 => ⟨S8192x32, .f32⟩
  | 42 => ⟨S8192x1x32, .f32⟩
  | 43 => ⟨S8192x32, .f32⟩
  | 44 => ⟨S8192x1x32, .f32⟩
  | 45 => ⟨S4x8192x2x32, .f32⟩
  | 46 => ⟨S4x8192x2x32, .f32⟩
  | 47 => ⟨S1x8192x1x32, .f32⟩
  | 48 => ⟨S4x8192x2x32, .f32⟩
  | 49 => ⟨S4x8192x2x32, .f32⟩
  | 50 => ⟨S1x8192x1x32, .f32⟩
  | 51 => ⟨S4x8192x2x32, .f32⟩
  | 52 => ⟨S4x8192x2x32, .f32⟩
  | 53 => ⟨S4x8192x2x32, .f32⟩
  | 54 => ⟨S1x8192x1x32, .f32⟩
  | 55 => ⟨S4x8192x2x32, .f32⟩
  | 56 => ⟨S4x8192x2x32, .f32⟩
  | 57 => ⟨S1x8192x1x32, .f32⟩
  | 58 => ⟨S4x8192x2x32, .f32⟩
  | 59 => ⟨S4x8192x2x32, .f32⟩
  | 60 => ⟨S4x8192x2x32, .f32⟩
  | 61 => ⟨S4x8192x2x64, .f32⟩
  | 62 => ⟨S32768x128, .f32⟩
  | 63 => ⟨S32768x128, .f32⟩
  | 64 => ⟨S32768x256, .f32⟩
  | 65 => ⟨S32768x256, .f32⟩
  | 66 => ⟨S32768x128, .f32⟩
  | 67 => ⟨S4x8192x2x64, .f32⟩
  | 68 => ⟨S32, .f32⟩
  | 69 => ⟨S32, .f32⟩
  | 70 => ⟨S_, .f32⟩
  | 71 => ⟨S32, .f32⟩
  | 72 => ⟨S32, .f32⟩
  | 73 => ⟨S_, .f32⟩
  | 74 => ⟨S32, .f32⟩
  | 75 => ⟨S32, .f32⟩
  | 76 => ⟨S8192, .i32⟩
  | 77 => ⟨S8192, .f32⟩
  | 78 => ⟨S8192x1, .f32⟩
  | 79 => ⟨S1x32, .f32⟩
  | 80 => ⟨S8192x32, .f32⟩
  | 81 => ⟨S8192x32, .f32⟩
  | 82 => ⟨S8192x32, .f32⟩
  | 83 => ⟨S8192x32, .f32⟩
  | 84 => ⟨S8192x1x32, .f32⟩
  | 85 => ⟨S8192x32, .f32⟩
  | 86 => ⟨S8192x1x32, .f32⟩
  | 87 => ⟨S4x8192x2x32, .f32⟩
  | 88 => ⟨S4x8192x2x32, .f32⟩
  | 89 => ⟨S1x8192x1x32, .f32⟩
  | 90 => ⟨S4x8192x2x32, .f32⟩
  | 91 => ⟨S4x8192x2x32, .f32⟩
  | 92 => ⟨S1x8192x1x32, .f32⟩
  | 93 => ⟨S4x8192x2x32, .f32⟩
  | 94 => ⟨S4x8192x2x32, .f32⟩
  | 95 => ⟨S4x8192x2x32, .f32⟩
  | 96 => ⟨S1x8192x1x32, .f32⟩
  | 97 => ⟨S4x8192x2x32, .f32⟩
  | 98 => ⟨S4x8192x2x32, .f32⟩
  | 99 => ⟨S1x8192x1x32, .f32⟩
  | 100 => ⟨S4x8192x2x32, .f32⟩
  | 101 => ⟨S4x8192x2x32, .f32⟩
  | 102 => ⟨S4x8192x2x32, .f32⟩
  | 103 => ⟨S4x8192x2x64, .f32⟩
  | 104 => ⟨S32768x128, .f32⟩
  | 105 => ⟨S32768x128, .f32⟩
  | 106 => ⟨S32768x256, .f32⟩
  | 107 => ⟨S32768x256, .f32⟩
  | 108 => ⟨S32768x128, .f32⟩
  | 109 => ⟨S4x8192x2x64, .f32⟩
  | 110 => ⟨S32, .f32⟩
  | 111 => ⟨S32, .f32⟩
  | 112 => ⟨S_, .f32⟩
  | 113 => ⟨S32, .f32⟩
  | 114 => ⟨S32, .f32⟩
  | 115 => ⟨S_, .f32⟩
  | 116 => ⟨S32, .f32⟩
  | 117 => ⟨S32, .f32⟩
  | 118 => ⟨S8192, .i32⟩
  | 119 => ⟨S8192, .f32⟩
  | 120 => ⟨S8192x1, .f32⟩
  | 121 => ⟨S1x32, .f32⟩
  | 122 => ⟨S8192x32, .f32⟩
  | 123 => ⟨S8192x32, .f32⟩
  | 124 => ⟨S8192x32, .f32⟩
  | 125 => ⟨S8192x32, .f32⟩
  | 126 => ⟨S8192x1x32, .f32⟩
  | 127 => ⟨S8192x32, .f32⟩
  | _ => ⟨S32768x1024, .f32⟩

abbrev hbmTy0_2 (i : Nat) : BufTy := match i % 128 with
  | 0 => ⟨S8192x1x32, .f32⟩
  | 1 => ⟨S4x8192x2x32, .f32⟩
  | 2 => ⟨S4x8192x2x32, .f32⟩
  | 3 => ⟨S1x8192x1x32, .f32⟩
  | 4 => ⟨S4x8192x2x32, .f32⟩
  | 5 => ⟨S4x8192x2x32, .f32⟩
  | 6 => ⟨S1x8192x1x32, .f32⟩
  | 7 => ⟨S4x8192x2x32, .f32⟩
  | 8 => ⟨S4x8192x2x32, .f32⟩
  | 9 => ⟨S4x8192x2x32, .f32⟩
  | 10 => ⟨S1x8192x1x32, .f32⟩
  | 11 => ⟨S4x8192x2x32, .f32⟩
  | 12 => ⟨S4x8192x2x32, .f32⟩
  | 13 => ⟨S1x8192x1x32, .f32⟩
  | 14 => ⟨S4x8192x2x32, .f32⟩
  | 15 => ⟨S4x8192x2x32, .f32⟩
  | 16 => ⟨S4x8192x2x32, .f32⟩
  | 17 => ⟨S4x8192x2x64, .f32⟩
  | 18 => ⟨S32768x128, .f32⟩
  | 19 => ⟨S32768x128, .f32⟩
  | 20 => ⟨S32768x256, .f32⟩
  | 21 => ⟨S32768x24, .f32⟩
  | 22 => ⟨S32768x8x3, .f32⟩
  | 23 => ⟨S32768x3x8, .f32⟩
  | 24 => ⟨S32768x24, .f32⟩
  | 25 => ⟨S_, .f32⟩
  | 26 => ⟨S32768x104, .f32⟩
  | 27 => ⟨S32768x128, .f32⟩
  | 28 => ⟨S32768x128, .f32⟩
  | 29 => ⟨S32768x128, .f32⟩
  | 30 => ⟨S_, .f32⟩
  | 31 => ⟨S32768x128, .f32⟩
  | 32 => ⟨S32768x128, .f32⟩
  | 33 => ⟨S_, .f32⟩
  | 34 => ⟨S32768x128, .f32⟩
  | 35 => ⟨S32768x128, .f32⟩
  | 36 => ⟨S32768x256, .bf16⟩
  | 37 => ⟨S32768x1024, .bf16⟩
  | 38 => ⟨S32768x512, .f32⟩
  | 39 => ⟨S32768x512, .bf16⟩
  | 40 => ⟨S32768x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_12 : Ref sig .tc := ⟨.hbm, 105, rfl⟩
abbrev main_v78 : Ref sig .tc := ⟨.hbm, 106, rfl⟩
abbrev main_v79 : Ref sig .tc := ⟨.hbm, 107, rfl⟩
abbrev main_cst_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_cst_14 : Ref sig .tc := ⟨.hbm, 140, rfl⟩
abbrev main_v111 : Ref sig .tc := ⟨.hbm, 141, rfl⟩
abbrev main_v112 : Ref sig .tc := ⟨.hbm, 142, rfl⟩
abbrev main_cst_15 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_16 : Ref sig .tc := ⟨.hbm, 156, rfl⟩
abbrev main_v125 : Ref sig .tc := ⟨.hbm, 157, rfl⟩
abbrev main_v126 : Ref sig .tc := ⟨.hbm, 158, rfl⟩
abbrev main_cst_17 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_cst_18 : Ref sig .tc := ⟨.hbm, 198, rfl⟩
abbrev main_v165 : Ref sig .tc := ⟨.hbm, 199, rfl⟩
abbrev main_v166 : Ref sig .tc := ⟨.hbm, 200, rfl⟩
abbrev main_cst_19 : Ref sig .tc := ⟨.hbm, 201, rfl⟩
abbrev main_v167 : Ref sig .tc := ⟨.hbm, 202, rfl⟩
abbrev main_v168 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_cst_20 : Ref sig .tc := ⟨.hbm, 240, rfl⟩
abbrev main_v205 : Ref sig .tc := ⟨.hbm, 241, rfl⟩
abbrev main_v206 : Ref sig .tc := ⟨.hbm, 242, rfl⟩
abbrev main_cst_21 : Ref sig .tc := ⟨.hbm, 243, rfl⟩
abbrev main_v207 : Ref sig .tc := ⟨.hbm, 244, rfl⟩
abbrev main_v208 : Ref sig .tc := ⟨.hbm, 245, rfl⟩
abbrev main_v209 : Ref sig .tc := ⟨.hbm, 246, rfl⟩
abbrev main_v210 : Ref sig .tc := ⟨.hbm, 247, rfl⟩
abbrev main_v211 : Ref sig .tc := ⟨.hbm, 248, rfl⟩
abbrev main_v212 : Ref sig .tc := ⟨.hbm, 249, rfl⟩
abbrev main_v213 : Ref sig .tc := ⟨.hbm, 250, rfl⟩
abbrev main_v214 : Ref sig .tc := ⟨.hbm, 251, rfl⟩
abbrev main_v215 : Ref sig .tc := ⟨.hbm, 252, rfl⟩
abbrev main_v216 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_v222 : Ref sig .tc := ⟨.hbm, 259, rfl⟩
abbrev main_v223 : Ref sig .tc := ⟨.hbm, 260, rfl⟩
abbrev main_v224 : Ref sig .tc := ⟨.hbm, 261, rfl⟩
abbrev main_v225 : Ref sig .tc := ⟨.hbm, 262, rfl⟩
abbrev main_v226 : Ref sig .tc := ⟨.hbm, 263, rfl⟩
abbrev main_v227 : Ref sig .tc := ⟨.hbm, 264, rfl⟩
abbrev main_v228 : Ref sig .tc := ⟨.hbm, 265, rfl⟩
abbrev main_v229 : Ref sig .tc := ⟨.hbm, 266, rfl⟩
abbrev main_v230 : Ref sig .tc := ⟨.hbm, 267, rfl⟩
abbrev main_v231 : Ref sig .tc := ⟨.hbm, 268, rfl⟩
abbrev main_v232 : Ref sig .tc := ⟨.hbm, 269, rfl⟩
abbrev main_v233 : Ref sig .tc := ⟨.hbm, 270, rfl⟩
abbrev main_v234 : Ref sig .tc := ⟨.hbm, 271, rfl⟩
abbrev main_v235 : Ref sig .tc := ⟨.hbm, 272, rfl⟩
abbrev main_v236 : Ref sig .tc := ⟨.hbm, 273, rfl⟩
abbrev main_v237 : Ref sig .tc := ⟨.hbm, 274, rfl⟩
abbrev main_v238 : Ref sig .tc := ⟨.hbm, 275, rfl⟩
abbrev main_v239 : Ref sig .tc := ⟨.hbm, 276, rfl⟩
abbrev main_v240 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_cst_22 : Ref sig .tc := ⟨.hbm, 281, rfl⟩
abbrev main_v244 : Ref sig .tc := ⟨.hbm, 282, rfl⟩
abbrev main_v245 : Ref sig .tc := ⟨.hbm, 283, rfl⟩
abbrev main_v246 : Ref sig .tc := ⟨.hbm, 284, rfl⟩
abbrev main_v247 : Ref sig .tc := ⟨.hbm, 285, rfl⟩
abbrev main_cst_23 : Ref sig .tc := ⟨.hbm, 286, rfl⟩
abbrev main_v248 : Ref sig .tc := ⟨.hbm, 287, rfl⟩
abbrev main_v249 : Ref sig .tc := ⟨.hbm, 288, rfl⟩
abbrev main_cst_24 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩

abbrev nD : Nat := 1
abbrev τ : Topo := Topo.v7x

variable {F : FTy → Type} [FloatOps F]
-- ==== Kernel5.lean ====
abbrev S1024x1024 : Shape := ⟨2, ![1024, 1024]⟩
abbrev S1024 : Shape := ⟨1, ![1024]⟩
abbrev S1024x2048 : Shape := ⟨2, ![1024, 2048]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S1024x2048, .f32⟩
  | .hbm, ⟨6, _⟩ => ⟨S1024x2048, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1024x1024 : Shape := ⟨2, ![1024, 1024]⟩
abbrev S1024 : Shape := ⟨1, ![1024]⟩
abbrev S1024x2048 : Shape := ⟨2, ![1024, 2048]⟩
abbrev S_ : Shape := ⟨0, ![]⟩
abbrev S1024x1 : Shape := ⟨2, ![1024, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x2048, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x2048, .f32⟩
  | .hbm, ⟨20, _⟩ => ⟨S1024x2048, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel6.lean ====
abbrev S32x1024 : Shape := ⟨2, ![32, 1024]⟩
abbrev S1024 : Shape := ⟨1, ![1024]⟩
abbrev S1024x2840 : Shape := ⟨2, ![1024, 2840]⟩
abbrev S2x256 : Shape := ⟨2, ![2, 256]⟩
abbrev S4x128x128 : Shape := ⟨3, ![4, 128, 128]⟩
abbrev S4x128 : Shape := ⟨2, ![4, 128]⟩
abbrev S_ : Shape := ⟨0, ![]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x1x32 : Shape := ⟨4, ![1, 32, 1, 32]⟩
abbrev S1x32x4x32 : Shape := ⟨4, ![1, 32, 4, 32]⟩
abbrev S32x128 : Shape := ⟨2, ![32, 128]⟩
abbrev S32x64 : Shape := ⟨2, ![32, 64]⟩
abbrev S1x32x1x64 : Shape := ⟨4, ![1, 32, 1, 64]⟩
abbrev S1x32x2x64 : Shape := ⟨4, ![1, 32, 2, 64]⟩
abbrev S1024x24 : Shape := ⟨2, ![1024, 24]⟩
abbrev S1024x8x3 : Shape := ⟨3, ![1024, 8, 3]⟩
abbrev S1024x3x8 : Shape := ⟨3, ![1024, 3, 8]⟩
abbrev S1024x128 : Shape := ⟨2, ![1024, 128]⟩
abbrev S1024x1792 : Shape := ⟨2, ![1024, 1792]⟩
abbrev S1024x1024 : Shape := ⟨2, ![1024, 1024]⟩
abbrev S1024x2944 : Shape := ⟨2, ![1024, 2944]⟩
abbrev S4x1x1 : Shape := ⟨3, ![4, 1, 1]⟩
abbrev S4 : Shape := ⟨1, ![4]⟩
abbrev S4x64 : Shape := ⟨2, ![4, 64]⟩
abbrev S256 : Shape := ⟨1, ![256]⟩
abbrev S1x256 : Shape := ⟨2, ![1, 256]⟩
abbrev S4x1 : Shape := ⟨2, ![4, 1]⟩
abbrev S1x1024 : Shape := ⟨2, ![1, 1024]⟩
abbrev S32x256 : Shape := ⟨2, ![32, 256]⟩
abbrev S32x512 : Shape := ⟨2, ![32, 512]⟩
abbrev S32x2944 : Shape := ⟨2, ![32, 2944]⟩

abbrev nBuf : Space → Nat
  | .hbm => 64
  | .vmem => 18
  | .smem => 0
  | _ => 0

abbrev bufTy : (tb : Table) → Fin (tcTables nBuf tb) → BufTy
  | .hbm, ⟨0, _⟩ => ⟨S32x1024, .f32⟩
  | .hbm, ⟨1, _⟩ => ⟨S1024, .f32⟩
  | .hbm, ⟨2, _⟩ => ⟨S1024x2840, .f32⟩
  | .hbm, ⟨3, _⟩ => ⟨S2x256, .f32⟩
  | .hbm, ⟨4, _⟩ => ⟨S4x128x128, .f32⟩
  | .hbm, ⟨5, _⟩ => ⟨S4x128, .f32⟩
  | .hbm, ⟨6, _⟩ => ⟨S_, .i32⟩
  | .hbm, ⟨7, _⟩ => ⟨S32, .i32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S1x32, .f32⟩
  | .hbm, ⟨19, _⟩ => ⟨S32x32, .f32⟩
  | .hbm, ⟨20, _⟩ => ⟨S32x32, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S1x32x1x32, .f32⟩
  | .hbm, ⟨25, _⟩ => ⟨S1x32x4x32, .f32⟩
  | .hbm, ⟨26, _⟩ => ⟨S32x128, .f32⟩
  | .hbm, ⟨27, _⟩ => ⟨S32x32, .f32⟩
  | .hbm, ⟨28, _⟩ => ⟨S32x64, .f32⟩
  | .hbm, ⟨29, _⟩ => ⟨S1x32x1x64, .f32⟩
  | .hbm, ⟨30, _⟩ => ⟨S1x32x2x64, .f32⟩
  | .hbm, ⟨31, _⟩ => ⟨S32x128, .f32⟩
  | .hbm, ⟨32, _⟩ => ⟨S1024x24, .f32⟩
  | .hbm, ⟨33, _⟩ => ⟨S1024x8x3, .f32⟩
  | .hbm, ⟨34, _⟩ => ⟨S1024x3x8, .f32⟩
  | .hbm, ⟨35, _⟩ => ⟨S1024x24, .f32⟩
  | .hbm, ⟨36, _⟩ => ⟨S_, .i32⟩
  | .hbm, ⟨37, _⟩ => ⟨S_, .f32⟩
  | .hbm, ⟨38, _⟩ => ⟨S1024x128, .f32⟩
  | .hbm, ⟨39, _⟩ => ⟨S1024x1792, .f32⟩
  | .hbm, ⟨40, _⟩ => ⟨S1024x1024, .f32⟩
  | .hbm, ⟨41, _⟩ => ⟨S1024x2944, .f32⟩
  | .hbm, ⟨42, _⟩ => ⟨S1024x2944, .bf16⟩
  | .hbm, ⟨43, _⟩ => ⟨S4x1x1, .f32⟩
  | .hbm, ⟨44, _⟩ => ⟨S4, .f32⟩
  | .hbm, ⟨45, _⟩ => ⟨S4x64, .f32⟩
  | .hbm, ⟨46, _⟩ => ⟨S256, .f32⟩
  | .hbm, ⟨47, _⟩ => ⟨S1x256, .f32⟩
  | .hbm, ⟨48, _⟩ => ⟨S4x1, .f32⟩
  | .hbm, ⟨49, _⟩ => ⟨S4, .f32⟩
  | .hbm, ⟨50, _⟩ => ⟨S4x64, .f32⟩
  | .hbm, ⟨51, _⟩ => ⟨S256, .f32⟩
  | .hbm, ⟨52, _⟩ => ⟨S1x256, .f32⟩
  | .hbm, ⟨53, _⟩ => ⟨S1x1024, .f32⟩
  | .hbm, ⟨54, _⟩ => ⟨S32x256, .bf16⟩
  | .hbm, ⟨55, _⟩ => ⟨S32x256, .f32⟩
  | .hbm, ⟨56, _⟩ => ⟨S32x1024, .bf16⟩
  | .hbm, ⟨57, _⟩ => ⟨S32x256, .f32⟩
  | .hbm, ⟨58, _⟩ => ⟨S32x256, .f32⟩
  | .hbm, ⟨59, _⟩ => ⟨S32x256, .f32⟩
  | .hbm, ⟨60, _⟩ => ⟨S32x512, .bf16⟩
  | .hbm, ⟨61, _⟩ => ⟨S32x128, .f32⟩
  | .hbm, ⟨62, _⟩ => ⟨S32x1024, .f32⟩
  | .hbm, ⟨63, _⟩ => ⟨S32x512, .f32⟩
  | .local _ .vmem, ⟨0, _⟩ => ⟨S32x1024, .f32⟩
  | .local _ .vmem, ⟨1, _⟩ => ⟨S1x1024, .f32⟩
  | .local _ .vmem, ⟨2, _⟩ => ⟨S1024x2944, .bf16⟩
  | .local _ .vmem, ⟨3, _⟩ => ⟨S32x128, .f32⟩
  | .local _ .vmem, ⟨4, _⟩ => ⟨S32x128, .f32⟩
  | .local _ .vmem, ⟨5, _⟩ => ⟨S2x256, .f32⟩
  | .local _ .vmem, ⟨6, _⟩ => ⟨S1x256, .f32⟩
  | .local _ .vmem, ⟨7, _⟩ => ⟨S1x256, .f32⟩
  | .local _ .vmem, ⟨8, _⟩ => ⟨S32x256, .bf16⟩
  | .local _ .vmem, ⟨9, _⟩ => ⟨S32x256, .f32⟩
  | .local _ .vmem, ⟨10, _⟩ => ⟨S32x1024, .bf16⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x512, .bf16⟩
  | .local _ .vmem, ⟨15, _⟩ => ⟨S32x128, .f32⟩
  | .local _ .vmem, ⟨16, _⟩ => ⟨S32x1024, .f32⟩
  | .local _ .vmem, ⟨17, _⟩ => ⟨S32x512, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_1 : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev main_v43_3 : Ref sig .tc := ⟨.hbm, 57, rfl⟩
abbrev main_v43_4 : Ref sig .tc := ⟨.hbm, 58, rfl⟩
abbrev main_v43_5 : Ref sig .tc := ⟨.hbm, 59, rfl⟩
abbrev main_v43_6 : Ref sig .tc := ⟨.hbm, 60, rfl⟩
abbrev main_v43_7 : Ref sig .tc := ⟨.hbm, 61, rfl⟩
abbrev main_v43_8 : Ref sig .tc := ⟨.hbm, 62, rfl⟩
abbrev main_v43_9 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S32x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== Reference6Ideal.lean ====
abbrev S32x1024 : Shape := ⟨2, ![32, 1024]⟩
abbrev S1024 : Shape := ⟨1, ![1024]⟩
abbrev S1024x2840 : Shape := ⟨2, ![1024, 2840]⟩
abbrev S2x256 : Shape := ⟨2, ![2, 256]⟩
abbrev S4x128x128 : Shape := ⟨3, ![4, 128, 128]⟩
abbrev S4x128 : Shape := ⟨2, ![4, 128]⟩
abbrev S_ : Shape := ⟨0, ![]⟩
abbrev S32 : Shape := ⟨1, ![32]⟩
abbrev S32x1 : Shape := ⟨2, ![32, 1]⟩
abbrev S1x1024 : Shape := ⟨2, ![1, 1024]⟩
abbrev S32x2840 : Shape := ⟨2, ![32, 2840]⟩
abbrev S32x512 : Shape := ⟨2, ![32, 512]⟩
abbrev S32x256 : Shape := ⟨2, ![32, 256]⟩
abbrev S1x256 : Shape := ⟨2, ![1, 256]⟩
abbrev S256 : Shape := ⟨1, ![256]⟩
abbrev S128x128 : Shape := ⟨2, ![128, 128]⟩
abbrev S1x128x128 : Shape := ⟨3, ![1, 128, 128]⟩
abbrev S32x1x256 : Shape := ⟨3, ![32, 1, 256]⟩
abbrev S32x127x256 : Shape := ⟨3, ![32, 127, 256]⟩
abbrev S32x128x256 : Shape := ⟨3, ![32, 128, 256]⟩
abbrev S32x128x4x64 : Shape := ⟨4, ![32, 128, 4, 64]⟩
abbrev S4x32x64x128 : Shape := ⟨4, ![4, 32, 64, 128]⟩
abbrev S128x4 : Shape := ⟨2, ![128, 4]⟩
abbrev S1x128x4x1 : Shape := ⟨4, ![1, 128, 4, 1]⟩
abbrev S32x1x8x64 : Shape := ⟨4, ![32, 1, 8, 64]⟩
abbrev S1 : Shape := ⟨1, ![1]⟩
abbrev S1x1 : Shape := ⟨2, ![1, 1]⟩
abbrev S1x32 : Shape := ⟨2, ![1, 32]⟩
abbrev S1x1x32 : Shape := ⟨3, ![1, 1, 32]⟩
abbrev S32x1x8x32 : Shape := ⟨4, ![32, 1, 8, 32]⟩
abbrev S1x1x1x32 : Shape := ⟨4, ![1, 1, 1, 32]⟩
abbrev S32x8x64 : Shape := ⟨3, ![32, 8, 64]⟩
abbrev S32x4x64 : Shape := ⟨3, ![32, 4, 64]⟩
abbrev S32x4x128 : Shape := ⟨3, ![32, 4, 128]⟩
abbrev S32x8x128 : Shape := ⟨3, ![32, 8, 128]⟩
abbrev S32x128 : Shape := ⟨2, ![32, 128]⟩
abbrev S32x1x2x64 : Shape := ⟨4, ![32, 1, 2, 64]⟩
abbrev S32x1x2x32 : Shape := ⟨4, ![32, 1, 2, 32]⟩
abbrev S32x24 : Shape := ⟨2, ![32, 24]⟩
abbrev S32x8x3 : Shape := ⟨3, ![32, 8, 3]⟩
abbrev S32x3x8 : Shape := ⟨3, ![32, 3, 8]⟩
abbrev S32x104 : Shape := ⟨2, ![32, 104]⟩

abbrev nBuf : Space → Nat
  | .hbm => 312
  | .vmem => 0
  | .smem => 0
  | _ => 0

abbrev hbmTy0_0 (i : Nat) : BufTy := match i % 128 with
  | 0 => ⟨S32x1024, .f32⟩
  | 1 => ⟨S1024, .f32⟩
  | 2 => ⟨S1024x2840, .f32⟩
  | 3 => ⟨S2x256, .f32⟩
  | 4 => ⟨S4x128x128, .f32⟩
  | 5 => ⟨S4x128, .f32⟩
  | 6 => ⟨S32x1024, .f32⟩
  | 7 => ⟨S_, .f32⟩
  | 8 => ⟨S32, .f32⟩
  | 9 => ⟨S32x1, .f32⟩
  | 10 => ⟨S_, .f32⟩
  | 11 => ⟨S32x1, .f32⟩
  | 12 => ⟨S32x1, .f32⟩
  | 13 => ⟨S_, .f32⟩
  | 14 => ⟨S32x1, .f32⟩
  | 15 => ⟨S32x1, .f32⟩
  | 16 => ⟨S32x1, .f32⟩
  | 17 => ⟨S32x1024, .f32⟩
  | 18 => ⟨S32x1024, .f32⟩
  | 19 => ⟨S1x1024, .f32⟩
  | 20 => ⟨S32x1024, .f32⟩
  | 21 => ⟨S32x1024, .f32⟩
  | 22 => ⟨S32x2840, .f32⟩
  | 23 => ⟨S32x512, .f32⟩
  | 24 => ⟨S32x512, .f32⟩
  | 25 => ⟨S32x512, .f32⟩
  | 26 => ⟨S_, .f32⟩
  | 27 => ⟨S32x512, .f32⟩
  | 28 => ⟨S32x512, .f32⟩
  | 29 => ⟨S32x512, .f32⟩
  | 30 => ⟨S_, .f32⟩
  | 31 => ⟨S32x512, .f32⟩
  | 32 => ⟨S32x512, .f32⟩
  | 33 => ⟨S32x512, .f32⟩
  | 34 => ⟨S_, .f32⟩
  | 35 => ⟨S32x512, .f32⟩
  | 36 => ⟨S32x512, .f32⟩
  | 37 => ⟨S_, .f32⟩
  | 38 => ⟨S32x512, .f32⟩
  | 39 => ⟨S32x512, .f32⟩
  | 40 => ⟨S32x512, .f32⟩
  | 41 => ⟨S32x256, .f32⟩
  | 42 => ⟨S32x256, .f32⟩
  | 43 => ⟨S_, .f32⟩
  | 44 => ⟨S32, .f32⟩
  | 45 => ⟨S32x1, .f32⟩
  | 46 => ⟨S_, .f32⟩
  | 47 => ⟨S32x1, .f32⟩
  | 48 => ⟨S32x1, .f32⟩
  | 49 => ⟨S32x256, .f32⟩
  | 50 => ⟨S32x256, .f32⟩
  | 51 => ⟨S32x256, .f32⟩
  | 52 => ⟨S32x256, .f32⟩
  | 53 => ⟨S32x256, .f32⟩
  | 54 => ⟨S_, .f32⟩
  | 55 => ⟨S32, .f32⟩
  | 56 => ⟨S32x1, .f32⟩
  | 57 => ⟨S_, .f32⟩
  | 58 => ⟨S32x1, .f32⟩
  | 59 => ⟨S32x1, .f32⟩
  | 60 => ⟨S32x256, .f32⟩
  | 61 => ⟨S32x256, .f32⟩
  | 62 => ⟨S_, .f32⟩
  | 63 => ⟨S32x1, .f32⟩
  | 64 => ⟨S32x1, .f32⟩
  | 65 => ⟨S32x1, .f32⟩
  | 66 => ⟨S32x256, .f32⟩
  | 67 => ⟨S32x256, .f32⟩
  | 68 => ⟨S1x256, .f32⟩
  | 69 => ⟨S256, .f32⟩
  | 70 => ⟨S1x256, .f32⟩
  | 71 => ⟨S32x256, .f32⟩
  | 72 => ⟨S32x256, .f32⟩
  | 73 => ⟨S1x256, .f32⟩
  | 74 => ⟨S256, .f32⟩
  | 75 => ⟨S1x256, .f32⟩
  | 76 => ⟨S32x256, .f32⟩
  | 77 => ⟨S32x256, .f32⟩
  | 78 => ⟨S_, .f32⟩
  | 79 => ⟨S128x128, .f32⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .f32⟩
  | 87 => ⟨S128x128, .f32⟩
  | 88 => ⟨S128x128, .f32⟩
  | 89 => ⟨S1x128x128, .f32⟩
  | 90 => ⟨S4x128x128, .f32⟩
  | 91 => ⟨S4x128x128, .f32⟩
  | 92 => ⟨S32x1x256, .f32⟩
  | 93 => ⟨S_, .f32⟩
  | 94 => ⟨S32x127x256, .f32⟩
  | 95 => ⟨S32x128x256, .f32⟩
  | 96 => ⟨S32x128x4x64, .f32⟩
  | 97 => ⟨S4x32x64x128, .f32⟩
  | 98 => ⟨S32x128x4x64, .f32⟩
  | 99 => ⟨S128x4, .f32⟩
  | 100 => ⟨S1x128x4x1, .f32⟩
  | 101 => ⟨S32x128x4x64, .f32⟩
  | 102 => ⟨S32x128x4x64, .f32⟩
  | 103 => ⟨S32x128x256, .f32⟩
  | 104 => ⟨S32x1x256, .f32⟩
  | 105 => ⟨S32x256, .f32⟩
  | 106 => ⟨S32x256, .f32⟩
  | 107 => ⟨S32x512, .f32⟩
  | 108 => ⟨S32x1x8x64, .f32⟩
  | 109 => ⟨S32, .f32⟩
  | 110 => ⟨S32, .f32⟩
  | 111 => ⟨S_, .f32⟩
  | 112 => ⟨S32, .f32⟩
  | 113 => ⟨S32, .f32⟩
  | 114 => ⟨S_, .f32⟩
  | 115 => ⟨S32, .f32⟩
  | 116 => ⟨S32, .f32⟩
  | 117 => ⟨S1, .i32⟩
  | 118 => ⟨S_, .i32⟩
  | 119 => ⟨S1, .i32⟩
  | 120 => ⟨S1, .i32⟩
  | 121 => ⟨S1, .f32⟩
  | 122 => ⟨S1x1, .f32⟩
  | 123 => ⟨S1x32, .f32⟩
  | 124 => ⟨S1x32, .f32⟩
  | 125 => ⟨S1x32, .f32⟩
  | 126 => ⟨S1x32, .f32⟩
  | 127 => ⟨S1x1x32, .f32⟩
  | _ => ⟨S32x1024, .f32⟩

abbrev hbmTy0_1 (i : Nat) : BufTy := match i % 128 with
  | 0 => ⟨S1x32, .f32⟩
  | 1 => ⟨S1x1x32, .f32⟩
  | 2 => ⟨S32x1x8x32, .f32⟩
  | 3 => ⟨S32x1x8x32, .f32⟩
  | 4 => ⟨S1x1x1x32, .f32⟩
  | 5 => ⟨S32x1x8x32, .f32⟩
  | 6 => ⟨S32x1x8x32, .f32⟩
  | 7 => ⟨S1x1x1x32, .f32⟩
  | 8 => ⟨S32x1x8x32, .f32⟩
  | 9 => ⟨S32x1x8x32, .f32⟩
  | 10 => ⟨S32x1x8x32, .f32⟩
  | 11 => ⟨S1x1x1x32, .f32⟩
  | 12 => ⟨S32x1x8x32, .f32⟩
  | 13 => ⟨S32x1x8x32, .f32⟩
  | 14 => ⟨S1x1x1x32, .f32⟩
  | 15 => ⟨S32x1x8x32, .f32⟩
  | 16 => ⟨S32x1x8x32, .f32⟩
  | 17 => ⟨S32x1x8x32, .f32⟩
  | 18 => ⟨S32x1x8x64, .f32⟩
  | 19 => ⟨S32x8x64, .f32⟩
  | 20 => ⟨S_, .f32⟩
  | 21 => ⟨S32x8x64, .f32⟩
  | 22 => ⟨S32x8x64, .f32⟩
  | 23 => ⟨S_, .f32⟩
  | 24 => ⟨S32x4x64, .f32⟩
  | 25 => ⟨S32x4x64, .f32⟩
  | 26 => ⟨S32x4x128, .f32⟩
  | 27 => ⟨S32x4x64, .f32⟩
  | 28 => ⟨S32x4x128, .f32⟩
  | 29 => ⟨S32x8x128, .f32⟩
  | 30 => ⟨S32x1024, .f32⟩
  | 31 => ⟨S32x256, .f32⟩
  | 32 => ⟨S32x128, .f32⟩
  | 33 => ⟨S32x1x2x64, .f32⟩
  | 34 => ⟨S32, .f32⟩
  | 35 => ⟨S32, .f32⟩
  | 36 => ⟨S_, .f32⟩
  | 37 => ⟨S32, .f32⟩
  | 38 => ⟨S32, .f32⟩
  | 39 => ⟨S_, .f32⟩
  | 40 => ⟨S32, .f32⟩
  | 41 => ⟨S32, .f32⟩
  | 42 => ⟨S1, .i32⟩
  | 43 => ⟨S_, .i32⟩
  | 44 => ⟨S1, .i32⟩
  | 45 => ⟨S1, .i32⟩
  | 46 => ⟨S1, .f32⟩
  | 47 => ⟨S1x1, .f32⟩
  | 48 => ⟨S1x32, .f32⟩
  | 49 => ⟨S1x32, .f32⟩
  | 50 => ⟨S1x32, .f32⟩
  | 51 => ⟨S1x32, .f32⟩
  | 52 => ⟨S1x1x32, .f32⟩
  | 53 => ⟨S1x32, .f32⟩
  | 54 => ⟨S1x1x32, .f32⟩
  | 55 => ⟨S32x1x2x32, .f32⟩
  | 56 => ⟨S32x1x2x32, .f32⟩
  | 57 => ⟨S1x1x1x32, .f32⟩
  | 58 => ⟨S32x1x2x32, .f32⟩
  | 59 => ⟨S32x1x2x32, .f32⟩
  | 60 => ⟨S1x1x1x32, .f32⟩
  | 61 => ⟨S32x1x2x32, .f32⟩
  | 62 => ⟨S32x1x2x32, .f32⟩
  | 63 => ⟨S32x1x2x32, .f32⟩
  | 64 => ⟨S1x1x1x32, .f32⟩
  | 65 => ⟨S32x1x2x32, .f32⟩
  | 66 => ⟨S32x1x2x32, .f32⟩
  | 67 => ⟨S1x1x1x32, .f32⟩
  | 68 => ⟨S32x1x2x32, .f32⟩
  | 69 => ⟨S32x1x2x32, .f32⟩
  | 70 => ⟨S32x1x2x32, .f32⟩
  | 71 => ⟨S32x1x2x64, .f32⟩
  | 72 => ⟨S32x128, .f32⟩
  | 73 => ⟨S32x128, .f32⟩
  | 74 => ⟨S32x256, .f32⟩
  | 75 => ⟨S32x256, .f32⟩
  | 76 => ⟨S32x128, .f32⟩
  | 77 => ⟨S32x1x2x64, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S1, .i32⟩
  | 87 => ⟨S_, .i32⟩
  | 88 => ⟨S1, .i32⟩
  | 89 => ⟨S1, .i32⟩
  | 90 => ⟨S1, .f32⟩
  | 91 => ⟨S1x1, .f32⟩
  | 92 => ⟨S1x32, .f32⟩
  | 93 => ⟨S1x32, .f32⟩
  | 94 => ⟨S1x32, .f32⟩
  | 95 => ⟨S1x32, .f32⟩
  | 96 => ⟨S1x1x32, .f32⟩
  | 97 => ⟨S1x32, .f32⟩
  | 98 => ⟨S1x1x32, .f32⟩
  | 99 => ⟨S32x1x2x32, .f32⟩
  | 100 => ⟨S32x1x2x32, .f32⟩
  | 101 => ⟨S1x1x1x32, .f32⟩
  | 102 => ⟨S32x1x2x32, .f32⟩
  | 103 => ⟨S32x1x2x32, .f32⟩
  | 104 => ⟨S1x1x1x32, .f32⟩
  | 105 => ⟨S32x1x2x32, .f32⟩
  | 106 => ⟨S32x1x2x32, .f32⟩
  | 107 => ⟨S32x1x2x32, .f32⟩
  | 108 => ⟨S1x1x1x32, .f32⟩
  | 109 => ⟨S32x1x2x32, .f32⟩
  | 110 => ⟨S32x1x2x32, .f32⟩
  | 111 => ⟨S1x1x1x32, .f32⟩
  | 112 => ⟨S32x1x2x32, .f32⟩
  | 113 => ⟨S32x1x2x32, .f32⟩
  | 114 => ⟨S32x1x2x32, .f32⟩
  | 115 => ⟨S32x1x2x64, .f32⟩
  | 116 => ⟨S32x128, .f32⟩
  | 117 => ⟨S32x128, .f32⟩
  | 118 => ⟨S32x256, .f32⟩
  | 119 => ⟨S32x256, .f32⟩
  | 120 => ⟨S32x128, .f32⟩
  | 121 => ⟨S32x1x2x64, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S32x1024, .f32⟩

abbrev hbmTy0_2 (i : Nat) : BufTy := match i % 128 with
  | 0 => ⟨S32, .f32⟩
  | 1 => ⟨S32, .f32⟩
  | 2 => ⟨S1, .i32⟩
  | 3 => ⟨S_, .i32⟩
  | 4 => ⟨S1, .i32⟩
  | 5 => ⟨S1, .i32⟩
  | 6 => ⟨S1, .f32⟩
  | 7 => ⟨S1x1, .f32⟩
  | 8 => ⟨S1x32, .f32⟩
  | 9 => ⟨S1x32, .f32⟩
  | 10 => ⟨S1x32, .f32⟩
  | 11 => ⟨S1x32, .f32⟩
  | 12 => ⟨S1x1x32, .f32⟩
  | 13 => ⟨S1x32, .f32⟩
  | 14 => ⟨S1x1x32, .f32⟩
  | 15 => ⟨S32x1x2x32, .f32⟩
  | 16 => ⟨S32x1x2x32, .f32⟩
  | 17 => ⟨S1x1x1x32, .f32⟩
  | 18 => ⟨S32x1x2x32, .f32⟩
  | 19 => ⟨S32x1x2x32, .f32⟩
  | 20 => ⟨S1x1x1x32, .f32⟩
  | 21 => ⟨S32x1x2x32, .f32⟩
  | 22 => ⟨S32x1x2x32, .f32⟩
  | 23 => ⟨S32x1x2x32, .f32⟩
  | 24 => ⟨S1x1x1x32, .f32⟩
  | 25 => ⟨S32x1x2x32, .f32⟩
  | 26 => ⟨S32x1x2x32, .f32⟩
  | 27 => ⟨S1x1x1x32, .f32⟩
  | 28 => ⟨S32x1x2x32, .f32⟩
  | 29 => ⟨S32x1x2x32, .f32⟩
  | 30 => ⟨S32x1x2x32, .f32⟩
  | 31 => ⟨S32x1x2x64, .f32⟩
  | 32 => ⟨S32x128, .f32⟩
  | 33 => ⟨S32x128, .f32⟩
  | 34 => ⟨S32x256, .f32⟩
  | 35 => ⟨S32x24, .f32⟩
  | 36 => ⟨S32x8x3, .f32⟩
  | 37 => ⟨S32x3x8, .f32⟩
  | 38 => ⟨S32x24, .f32⟩
  | 39 => ⟨S_, .f32⟩
  | 40 => ⟨S32x104, .f32⟩
  | 41 => ⟨S32x128, .f32⟩
  | 42 => ⟨S32x128, .f32⟩
  | 43 => ⟨S32x128, .f32⟩
  | 44 => ⟨S_, .f32⟩
  | 45 => ⟨S32x128, .f32⟩
  | 46 => ⟨S32x128, .f32⟩
  | 47 => ⟨S_, .f32⟩
  | 48 => ⟨S32x128, .f32⟩
  | 49 => ⟨S32x128, .f32⟩
  | 50 => ⟨S32x256, .bf16⟩
  | 51 => ⟨S32x1024, .bf16⟩
  | 52 => ⟨S32x512, .f32⟩
  | 53 => ⟨S32x512, .bf16⟩
  | 54 => ⟨S32x1024, .f32⟩
  | 55 => ⟨S32x512, .f32⟩
  | _ => ⟨S32x1024, .f32⟩

abbrev hbmTy (i : Nat) : BufTy := match i / 128 with
  | 0 => hbmTy0_0 i
  | 1 => hbmTy0_1 i
  | 2 => hbmTy0_2 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_11 : Ref sig .tc := ⟨.hbm, 78, rfl⟩
abbrev main_v60 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_cst : Ref sig .tc := ⟨.hbm, 86, rfl⟩
abbrev main_call0_v5 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_13 : Ref sig .tc := ⟨.hbm, 111, rfl⟩
abbrev main_v83 : Ref sig .tc := ⟨.hbm, 112, rfl⟩
abbrev main_v84 : Ref sig .tc := ⟨.hbm, 113, rfl⟩
abbrev main_cst_14 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_15 : Ref sig .tc := ⟨.hbm, 148, rfl⟩
abbrev main_v117 : Ref sig .tc := ⟨.hbm, 149, rfl⟩
abbrev main_v118 : Ref sig .tc := ⟨.hbm, 150, rfl⟩
abbrev main_cst_16 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_cst_17 : Ref sig .tc := ⟨.hbm, 164, rfl⟩
abbrev main_v131 : Ref sig .tc := ⟨.hbm, 165, rfl⟩
abbrev main_v132 : Ref sig .tc := ⟨.hbm, 166, rfl⟩
abbrev main_cst_18 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_c_19 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_cst_20 : Ref sig .tc := ⟨.hbm, 208, rfl⟩
abbrev main_v172 : Ref sig .tc := ⟨.hbm, 209, rfl⟩
abbrev main_v173 : Ref sig .tc := ⟨.hbm, 210, rfl⟩
abbrev main_cst_21 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_c_22 : Ref sig .tc := ⟨.hbm, 215, rfl⟩
abbrev main_v177 : Ref sig .tc := ⟨.hbm, 216, rfl⟩
abbrev main_v178 : Ref sig .tc := ⟨.hbm, 217, rfl⟩
abbrev main_v179 : Ref sig .tc := ⟨.hbm, 218, rfl⟩
abbrev main_v180 : Ref sig .tc := ⟨.hbm, 219, rfl⟩
abbrev main_v181 : Ref sig .tc := ⟨.hbm, 220, rfl⟩
abbrev main_v182 : Ref sig .tc := ⟨.hbm, 221, rfl⟩
abbrev main_v183 : Ref sig .tc := ⟨.hbm, 222, rfl⟩
abbrev main_v184 : Ref sig .tc := ⟨.hbm, 223, rfl⟩
abbrev main_v185 : Ref sig .tc := ⟨.hbm, 224, rfl⟩
abbrev main_v186 : Ref sig .tc := ⟨.hbm, 225, rfl⟩
abbrev main_v187 : Ref sig .tc := ⟨.hbm, 226, rfl⟩
abbrev main_v188 : Ref sig .tc := ⟨.hbm, 227, rfl⟩
abbrev main_v189 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_v198 : Ref sig .tc := ⟨.hbm, 237, rfl⟩
abbrev main_v199 : Ref sig .tc := ⟨.hbm, 238, rfl⟩
abbrev main_v200 : Ref sig .tc := ⟨.hbm, 239, rfl⟩
abbrev main_v201 : Ref sig .tc := ⟨.hbm, 240, rfl⟩
abbrev main_v202 : Ref sig .tc := ⟨.hbm, 241, rfl⟩
abbrev main_v203 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_cst_23 : Ref sig .tc := ⟨.hbm, 252, rfl⟩
abbrev main_v213 : Ref sig .tc := ⟨.hbm, 253, rfl⟩
abbrev main_v214 : Ref sig .tc := ⟨.hbm, 254, rfl⟩
abbrev main_cst_24 : Ref sig .tc := ⟨.hbm, 255, rfl⟩
abbrev main_v215 : Ref sig .tc := ⟨.hbm, 256, rfl⟩
abbrev main_v216 : Ref sig .tc := ⟨.hbm, 257, rfl⟩
abbrev main_v217 : Ref sig .tc := ⟨.hbm, 258, rfl⟩
abbrev main_c_25 : Ref sig .tc := ⟨.hbm, 259, rfl⟩
abbrev main_v218 : Ref sig .tc := ⟨.hbm, 260, rfl⟩
abbrev main_v219 : Ref sig .tc := ⟨.hbm, 261, rfl⟩
abbrev main_v220 : Ref sig .tc := ⟨.hbm, 262, rfl⟩
abbrev main_v221 : Ref sig .tc := ⟨.hbm, 263, rfl⟩
abbrev main_v222 : Ref sig .tc := ⟨.hbm, 264, rfl⟩
abbrev main_v223 : Ref sig .tc := ⟨.hbm, 265, rfl⟩
abbrev main_v224 : Ref sig .tc := ⟨.hbm, 266, rfl⟩
abbrev main_v225 : Ref sig .tc := ⟨.hbm, 267, rfl⟩
abbrev main_v226 : Ref sig .tc := ⟨.hbm, 268, rfl⟩
abbrev main_v227 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_v233 : Ref sig .tc := ⟨.hbm, 275, rfl⟩
abbrev main_v234 : Ref sig .tc := ⟨.hbm, 276, rfl⟩
abbrev main_v235 : Ref sig .tc := ⟨.hbm, 277, rfl⟩
abbrev main_v236 : Ref sig .tc := ⟨.hbm, 278, rfl⟩
abbrev main_v237 : Ref sig .tc := ⟨.hbm, 279, rfl⟩
abbrev main_v238 : Ref sig .tc := ⟨.hbm, 280, rfl⟩
abbrev main_v239 : Ref sig .tc := ⟨.hbm, 281, rfl⟩
abbrev main_v240 : Ref sig .tc := ⟨.hbm, 282, rfl⟩
abbrev main_v241 : Ref sig .tc := ⟨.hbm, 283, rfl⟩
abbrev main_v242 : Ref sig .tc := ⟨.hbm, 284, rfl⟩
abbrev main_v243 : Ref sig .tc := ⟨.hbm, 285, rfl⟩
abbrev main_v244 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_cst_26 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_cst_27 : Ref sig .tc := ⟨.hbm, 300, rfl⟩
abbrev main_v257 : Ref sig .tc := ⟨.hbm, 301, rfl⟩
abbrev main_v258 : Ref sig .tc := ⟨.hbm, 302, rfl⟩
abbrev main_cst_28 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩

abbrev nD : Nat := 1
abbrev τ : Topo := Topo.v7x

variable {F : FTy → Type} [FloatOps F]
-- ==== Kernel7.lean ====
abbrev S32x1024 : Shape := ⟨2, ![32, 1024]⟩
abbrev S32x2x2816 : Shape := ⟨3, ![32, 2, 2816]⟩
abbrev S6x1024 : Shape := ⟨2, ![6, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S32x1x2816 : Shape := ⟨3, ![32, 1, 2816]⟩
abbrev S32x2816 : Shape := ⟨2, ![32, 2816]⟩
abbrev S1x2816 : Shape := ⟨2, ![1, 2816]⟩
abbrev S32x256 : Shape := ⟨2, ![32, 256]⟩
abbrev S1024x256 : Shape := ⟨2, ![1024, 256]⟩
abbrev S3x256 : Shape := ⟨2, ![3, 256]⟩
abbrev S1x256 : Shape := ⟨2, ![1, 256]⟩
abbrev S256x1024 : Shape := ⟨2, ![256, 1024]⟩
abbrev S11x8x256 : Shape := ⟨3, ![11, 8, 256]⟩
abbrev S1x1024 : Shape := ⟨2, ![1, 1024]⟩
abbrev S32 : Shape := ⟨1, ![32]⟩
abbrev S32x1 : Shape := ⟨2, ![32, 1]⟩

abbrev nBuf : Space → Nat
  | .hbm => 16
  | .vmem => 22
  | .smem => 0
  | _ => 0

abbrev bufTy : (tb : Table) → Fin (tcTables nBuf tb) → BufTy
  | .hbm, ⟨0, _⟩ => ⟨S32x1024, .f32⟩
  | .hbm, ⟨1, _⟩ => ⟨S32x2x2816, .f32⟩
  | .hbm, ⟨2, _⟩ => ⟨S6x1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1024x5632, .bf16⟩
  | .hbm, ⟨8, _⟩ => ⟨S32x1x2816, .f32⟩
  | .hbm, ⟨9, _⟩ => ⟨S32x2816, .f32⟩
  | .hbm, ⟨10, _⟩ => ⟨S32x1x2816, .f32⟩
  | .hbm, ⟨11, _⟩ => ⟨S32x2816, .f32⟩
  | .hbm, ⟨12, _⟩ => ⟨S1x2816, .f32⟩
  | .hbm, ⟨13, _⟩ => ⟨S2816x1024, .bf16⟩
  | .hbm, ⟨14, _⟩ => ⟨S32x1024, .f32⟩
  | .hbm, ⟨15, _⟩ => ⟨S32x2816, .f32⟩
  | .local _ .vmem, ⟨0, _⟩ => ⟨S32x1024, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S32x256, .f32⟩
  | .local _ .vmem, ⟨5, _⟩ => ⟨S6x1024, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S256x1024, .bf16⟩
  | .local _ .vmem, ⟨15, _⟩ => ⟨S256x1024, .bf16⟩
  | .local _ .vmem, ⟨16, _⟩ => ⟨S32x1024, .f32⟩
  | .local _ .vmem, ⟨17, _⟩ => ⟨S32x256, .f32⟩
  | .local _ .vmem, ⟨18, _⟩ => ⟨S32x256, .f32⟩
  | .local _ .vmem, ⟨19, _⟩ => ⟨S32x1024, .bf16⟩
  | .local _ .vmem, ⟨20, _⟩ => ⟨S32x1024, .f32⟩
  | .local _ .vmem, ⟨21, _⟩ => ⟨S11x8x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v42 : BitVec 1 := Scalar.cmpi .eq arg1 c10_i32
  let v43 : BitVec 32 := Scalar.extui v42
  let c0_i32_26 : BitVec 32 := 0#32
  let v44 : BitVec 1 := Scalar.cmpi .ne v43 c0_i32_26
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S32x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S32x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S32x1024 : Shape := ⟨2, ![32, 1024]⟩
abbrev S32x2x2816 : Shape := ⟨3, ![32, 2, 2816]⟩
abbrev S6x1024 : Shape := ⟨2, ![6, 1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1024 : Shape := ⟨1, ![1024]⟩
abbrev S_ : Shape := ⟨0, ![]⟩
abbrev S32 : Shape := ⟨1, ![32]⟩
abbrev S32x1 : Shape := ⟨2, ![32, 1]⟩
abbrev S32x5632 : Shape := ⟨2, ![32, 5632]⟩
abbrev S32x1x5632 : Shape := ⟨3, ![32, 1, 5632]⟩
abbrev S32x1x2816 : Shape := ⟨3, ![32, 1, 2816]⟩
abbrev S32x3x2816 : Shape := ⟨3, ![32, 3, 2816]⟩
abbrev S1x2816 : Shape := ⟨2, ![1, 2816]⟩
abbrev S1x1x2816 : Shape := ⟨3, ![1, 1, 2816]⟩
abbrev S32x2816 : Shape := ⟨2, ![32, 2816]⟩

abbrev nBuf : Space → Nat
  | .hbm => 88
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2x2816, .f32⟩
  | .hbm, ⟨2, _⟩ => ⟨S6x1024, .f32⟩
  | .hbm, ⟨3, _⟩ => ⟨S1024x5632, .f32⟩
  | .hbm, ⟨4, _⟩ => ⟨S3x2816, .f32⟩
  | .hbm, ⟨5, _⟩ => ⟨S2816, .f32⟩
  | .hbm, ⟨6, _⟩ => ⟨S2816x1024, .f32⟩
  | .hbm, ⟨7, _⟩ => ⟨S1x1024, .f32⟩
  | .hbm, ⟨8, _⟩ => ⟨S1024, .f32⟩
  | .hbm, ⟨9, _⟩ => ⟨S32x1024, .f32⟩
  | .hbm, ⟨10, _⟩ => ⟨S_, .f32⟩
  | .hbm, ⟨11, _⟩ => ⟨S32, .f32⟩
  | .hbm, ⟨12, _⟩ => ⟨S32x1, .f32⟩
  | .hbm, ⟨13, _⟩ => ⟨S_, .f32⟩
  | .hbm, ⟨14, _⟩ => ⟨S32x1, .f32⟩
  | .hbm, ⟨15, _⟩ => ⟨S32x1, .f32⟩
  | .hbm, ⟨16, _⟩ => ⟨S_, .f32⟩
  | .hbm, ⟨17, _⟩ => ⟨S32x1, .f32⟩
  | .hbm, ⟨18, _⟩ => ⟨S32x1, .f32⟩
  | .hbm, ⟨19, _⟩ => ⟨S32x1, .f32⟩
  | .hbm, ⟨20, _⟩ => ⟨S32x1024, .f32⟩
  | .hbm, ⟨21, _⟩ => ⟨S32x1024, .f32⟩
  | .hbm, ⟨22, _⟩ => ⟨S1x1024, .f32⟩
  | .hbm, ⟨23, _⟩ => ⟨S32x1024, .f32⟩
  | .hbm, ⟨24, _⟩ => ⟨S32x1024, .f32⟩
  | .hbm, ⟨25, _⟩ => ⟨S32x5632, .f32⟩
  | .hbm, ⟨26, _⟩ => ⟨S32x1x5632, .f32⟩
  | .hbm, ⟨27, _⟩ => ⟨S32x1x2816, .f32⟩
  | .hbm, ⟨28, _⟩ => ⟨S32x1x2816, .f32⟩
  | .hbm, ⟨29, _⟩ => ⟨S32x3x2816, .f32⟩
  | .hbm, ⟨30, _⟩ => ⟨S32x1x2816, .f32⟩
  | .hbm, ⟨31, _⟩ => ⟨S1x2816, .f32⟩
  | .hbm, ⟨32, _⟩ => ⟨S2816, .f32⟩
  | .hbm, ⟨33, _⟩ => ⟨S1x1x2816, .f32⟩
  | .hbm, ⟨34, _⟩ => ⟨S32x1x2816, .f32⟩
  | .hbm, ⟨35, _⟩ => ⟨S32x1x2816, .f32⟩
  | .hbm, ⟨36, _⟩ => ⟨S_, .f32⟩
  | .hbm, ⟨37, _⟩ => ⟨S32x1x2816, .f32⟩
  | .hbm, ⟨38, _⟩ => ⟨S32x1x2816, .f32⟩
  | .hbm, ⟨39, _⟩ => ⟨S32x1x2816, .f32⟩
  | .hbm, ⟨40, _⟩ => ⟨S1x2816, .f32⟩
  | .hbm, ⟨41, _⟩ => ⟨S2816, .f32⟩
  | .hbm, ⟨42, _⟩ => ⟨S1x1x2816, .f32⟩
  | .hbm, ⟨43, _⟩ => ⟨S32x1x2816, .f32⟩
  | .hbm, ⟨44, _⟩ => ⟨S32x1x2816, .f32⟩
  | .hbm, ⟨45, _⟩ => ⟨S32x1x2816, .f32⟩
  | .hbm, ⟨46, _⟩ => ⟨S32x1x2816, .f32⟩
  | .hbm, ⟨47, _⟩ => ⟨S1x2816, .f32⟩
  | .hbm, ⟨48, _⟩ => ⟨S2816, .f32⟩
  | .hbm, ⟨49, _⟩ => ⟨S1x1x2816, .f32⟩
  | .hbm, ⟨50, _⟩ => ⟨S32x1x2816, .f32⟩
  | .hbm, ⟨51, _⟩ => ⟨S32x1x2816, .f32⟩
  | .hbm, ⟨52, _⟩ => ⟨S32x1x2816, .f32⟩
  | .hbm, ⟨53, _⟩ => ⟨S1x1x2816, .f32⟩
  | .hbm, ⟨54, _⟩ => ⟨S32x1x2816, .f32⟩
  | .hbm, ⟨55, _⟩ => ⟨S32x1x2816, .f32⟩
  | .hbm, ⟨56, _⟩ => ⟨S32x1x2816, .f32⟩
  | .hbm, ⟨57, _⟩ => ⟨S32x1x2816, .f32⟩
  | .hbm, ⟨58, _⟩ => ⟨S_, .f32⟩
  | .hbm, ⟨59, _⟩ => ⟨S32x1x2816, .f32⟩
  | .hbm, ⟨60, _⟩ => ⟨S32x1x2816, .f32⟩
  | .hbm, ⟨61, _⟩ => ⟨S_, .f32⟩
  | .hbm, ⟨62, _⟩ => ⟨S32x1x2816, .f32⟩
  | .hbm, ⟨63, _⟩ => ⟨S32x1x2816, .f32⟩
  | .hbm, ⟨64, _⟩ => ⟨S32x1x2816, .f32⟩
  | .hbm, ⟨65, _⟩ => ⟨S32x1x2816, .f32⟩
  | .hbm, ⟨66, _⟩ => ⟨S32x2816, .f32⟩
  | .hbm, ⟨67, _⟩ => ⟨S32x1024, .f32⟩
  | .hbm, ⟨68, _⟩ => ⟨S1x1024, .f32⟩
  | .hbm, ⟨69, _⟩ => ⟨S1024, .f32⟩
  | .hbm, ⟨70, _⟩ => ⟨S32x1024, .f32⟩
  | .hbm, ⟨71, _⟩ => ⟨S_, .f32⟩
  | .hbm, ⟨72, _⟩ => ⟨S32, .f32⟩
  | .hbm, ⟨73, _⟩ => ⟨S32x1, .f32⟩
  | .hbm, ⟨74, _⟩ => ⟨S_, .f32⟩
  | .hbm, ⟨75, _⟩ => ⟨S32x1, .f32⟩
  | .hbm, ⟨76, _⟩ => ⟨S32x1, .f32⟩
  | .hbm, ⟨77, _⟩ => ⟨S_, .f32⟩
  | .hbm, ⟨78, _⟩ => ⟨S32x1, .f32⟩
  | .hbm, ⟨79, _⟩ => ⟨S32x1, .f32⟩
  | .hbm, ⟨80, _⟩ => ⟨S32x1, .f32⟩
  | .hbm, ⟨81, _⟩ => ⟨S32x1024, .f32⟩
  | .hbm, ⟨82, _⟩ => ⟨S32x1024, .f32⟩
  | .hbm, ⟨83, _⟩ => ⟨S1x1024, .f32⟩
  | .hbm, ⟨84, _⟩ => ⟨S32x1024, .f32⟩
  | .hbm, ⟨85, _⟩ => ⟨S32x1024, .f32⟩
  | .hbm, ⟨86, _⟩ => ⟨S32x1024, .f32⟩
  | .hbm, ⟨87, _⟩ => ⟨S32x2816, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_v1 : Ref sig .tc := ⟨.hbm, 57, rfl⟩
abbrev main_call0_cst : Ref sig .tc := ⟨.hbm, 58, rfl⟩
abbrev main_call0_v2 : Ref sig .tc := ⟨.hbm, 59, rfl⟩
abbrev main_call0_v3 : Ref sig .tc := ⟨.hbm, 60, rfl⟩
abbrev main_call0_cst_0 : Ref sig .tc := ⟨.hbm, 61, rfl⟩
abbrev main_call0_v4 : Ref sig .tc := ⟨.hbm, 62, rfl⟩
abbrev main_call0_v5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_3 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_cst_5 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]
-- ==== Kernel8.lean ====
abbrev S32x1024 : Shape := ⟨2, ![32, 1024]⟩
abbrev S32x256 : Shape := ⟨2, ![32, 256]⟩
abbrev S32x512 : Shape := ⟨2, ![32, 512]⟩
abbrev S32x256x2048 : Shape := ⟨3, ![32, 256, 2048]⟩
abbrev S6x1024 : Shape := ⟨2, ![6, 1024]⟩
abbrev S6x256 : Shape := ⟨2, ![6, 256]⟩
abbrev S1024x1024 : Shape := ⟨2, ![1024, 1024]⟩
abbrev S32x1x1024 : Shape := ⟨3, ![32, 1, 1024]⟩
abbrev S32x1x256 : Shape := ⟨3, ![32, 1, 256]⟩
abbrev S32x1x512 : Shape := ⟨3, ![32, 1, 512]⟩
abbrev S2x256 : Shape := ⟨2, ![2, 256]⟩
abbrev S1x1x1024 : Shape := ⟨3, ![1, 1, 1024]⟩
abbrev S1x1x256 : Shape := ⟨3, ![1, 1, 256]⟩
abbrev S1x1x512 : Shape := ⟨3, ![1, 1, 512]⟩
abbrev S1x256x2048 : Shape := ⟨3, ![1, 256, 2048]⟩
abbrev S1x1024 : Shape := ⟨2, ![1, 1024]⟩
abbrev S8x1024 : Shape := ⟨2, ![8, 1024]⟩
abbrev S1x256 : Shape := ⟨2, ![1, 256]⟩
abbrev S8x256 : Shape := ⟨2, ![8, 256]⟩
abbrev S8x128 : Shape := ⟨2, ![8, 128]⟩
abbrev S8 : Shape := ⟨1, ![8]⟩
abbrev S8x1 : Shape := ⟨2, ![8, 1]⟩
abbrev S256x1024 : Shape := ⟨2, ![256, 1024]⟩
abbrev S1x512 : Shape := ⟨2, ![1, 512]⟩
abbrev S8x512 : Shape := ⟨2, ![8, 512]⟩
abbrev S512x1024 : Shape := ⟨2, ![512, 1024]⟩
abbrev S256x2048 : Shape := ⟨2, ![256, 2048]⟩
abbrev S256x256 : Shape := ⟨2, ![256, 256]⟩

abbrev nBuf : Space → Nat
  | .hbm => 23
  | .vmem => 21
  | .smem => 0
  | _ => 0

abbrev bufTy : (tb : Table) → Fin (tcTables nBuf tb) → BufTy
  | .hbm, ⟨0, _⟩ => ⟨S32x1024, .f32⟩
  | .hbm, ⟨1, _⟩ => ⟨S32x256, .bf16⟩
  | .hbm, ⟨2, _⟩ => ⟨S32x512, .f32⟩
  | .hbm, ⟨3, _⟩ => ⟨S32x256, .f32⟩
  | .hbm, ⟨4, _⟩ => ⟨S32x256, .f32⟩
  | .hbm, ⟨5, _⟩ => ⟨S32x256, .f32⟩
  | .hbm, ⟨6, _⟩ => ⟨S32x256x2048, .f32⟩
  | .hbm, ⟨7, _⟩ => ⟨S6x1024, .f32⟩
  | .hbm, ⟨8, _⟩ => ⟨S6x256, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S32x1x1024, .f32⟩
  | .hbm, ⟨13, _⟩ => ⟨S32x1x256, .bf16⟩
  | .hbm, ⟨14, _⟩ => ⟨S32x1x512, .f32⟩
  | .hbm, ⟨15, _⟩ => ⟨S32x1x256, .f32⟩
  | .hbm, ⟨16, _⟩ => ⟨S32x1x256, .f32⟩
  | .hbm, ⟨17, _⟩ => ⟨S32x1x256, .f32⟩
  | .hbm, ⟨18, _⟩ => ⟨S2x256, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S32x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x256, .bf16⟩
  | .local _ .vmem, ⟨3, _⟩ => ⟨S1x1x256, .bf16⟩
  | .local _ .vmem, ⟨4, _⟩ => ⟨S1x1x512, .f32⟩
  | .local _ .vmem, ⟨5, _⟩ => ⟨S1x1x512, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S6x1024, .f32⟩
  | .local _ .vmem, ⟨13, _⟩ => ⟨S2x256, .f32⟩
  | .local _ .vmem, ⟨14, _⟩ => ⟨S1024x1024, .bf16⟩
  | .local _ .vmem, ⟨15, _⟩ => ⟨S1024x1024, .bf16⟩
  | .local _ .vmem, ⟨16, _⟩ => ⟨S1x256x2048, .f32⟩
  | .local _ .vmem, ⟨17, _⟩ => ⟨S1x256x2048, .f32⟩
  | .local _ .vmem, ⟨18, _⟩ => ⟨S1024x1024, .bf16⟩
  | .local _ .vmem, ⟨19, _⟩ => ⟨S1x1x1024, .f32⟩
  | .local _ .vmem, ⟨20, _⟩ => ⟨S1x1x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference8Ideal.lean ====
abbrev S32x1024 : Shape := ⟨2, ![32, 1024]⟩
abbrev S32x256 : Shape := ⟨2, ![32, 256]⟩
abbrev S32x512 : Shape := ⟨2, ![32, 512]⟩
abbrev S32x256x2048 : Shape := ⟨3, ![32, 256, 2048]⟩
abbrev S6x1024 : Shape := ⟨2, ![6, 1024]⟩
abbrev S6x256 : Shape := ⟨2, ![6, 256]⟩
abbrev S1024x1024 : Shape := ⟨2, ![1024, 1024]⟩
abbrev S32x4x64 : Shape := ⟨3, ![32, 4, 64]⟩
abbrev S_ : Shape := ⟨0, ![]⟩
abbrev S32x4 : Shape := ⟨2, ![32, 4]⟩
abbrev S32x4x1 : Shape := ⟨3, ![32, 4, 1]⟩
abbrev S1x256 : Shape := ⟨2, ![1, 256]⟩
abbrev S256 : Shape := ⟨1, ![256]⟩
abbrev S1x1024 : Shape := ⟨2, ![1, 1024]⟩
abbrev S1024 : Shape := ⟨1, ![1024]⟩
abbrev S32 : Shape := ⟨1, ![32]⟩
abbrev S32x1 : Shape := ⟨2, ![32, 1]⟩
abbrev S32x256x2x4x256 : Shape := ⟨5, ![32, 256, 2, 4, 256]⟩
abbrev S32x4x256 : Shape := ⟨3, ![32, 4, 256]⟩
abbrev S32x256x1x4x256 : Shape := ⟨5, ![32, 256, 1, 4, 256]⟩
abbrev S32x256x4x256 : Shape := ⟨4, ![32, 256, 4, 256]⟩
abbrev S32x1x1024 : Shape := ⟨3, ![32, 1, 1024]⟩

abbrev nBuf : Space → Nat
  | .hbm => 139
  | .vmem => 0
  | .smem => 0
  | _ => 0

abbrev hbmTy0_0 (i : Nat) : BufTy := match i % 128 with
  | 0 => ⟨S32x1024, .f32⟩
  | 1 => ⟨S32x256, .bf16⟩
  | 2 => ⟨S32x512, .f32⟩
  | 3 => ⟨S32x256, .f32⟩
  | 4 => ⟨S32x256, .f32⟩
  | 5 => ⟨S32x256, .f32⟩
  | 6 => ⟨S32x256x2048, .f32⟩
  | 7 => ⟨S6x1024, .f32⟩
  | 8 => ⟨S6x256, .f32⟩
  | 9 => ⟨S1024x1024, .f32⟩
  | 10 => ⟨S1024x1024, .f32⟩
  | 11 => ⟨S1024x1024, .f32⟩
  | 12 => ⟨S32x4x64, .f32⟩
  | 13 => ⟨S_, .f32⟩
  | 14 => ⟨S32x4, .f32⟩
  | 15 => ⟨S32x4x1, .f32⟩
  | 16 => ⟨S_, .f32⟩
  | 17 => ⟨S32x4x1, .f32⟩
  | 18 => ⟨S32x4x1, .f32⟩
  | 19 => ⟨S32x4x64, .f32⟩
  | 20 => ⟨S32x4x64, .f32⟩
  | 21 => ⟨S32x4x64, .f32⟩
  | 22 => ⟨S32x4x64, .f32⟩
  | 23 => ⟨S32x4x64, .f32⟩
  | 24 => ⟨S_, .f32⟩
  | 25 => ⟨S32x4, .f32⟩
  | 26 => ⟨S32x4x1, .f32⟩
  | 27 => ⟨S_, .f32⟩
  | 28 => ⟨S32x4x1, .f32⟩
  | 29 => ⟨S32x4x1, .f32⟩
  | 30 => ⟨S32x4x64, .f32⟩
  | 31 => ⟨S32x4x64, .f32⟩
  | 32 => ⟨S_, .f32⟩
  | 33 => ⟨S32x4x1, .f32⟩
  | 34 => ⟨S32x4x1, .f32⟩
  | 35 => ⟨S32x4x1, .f32⟩
  | 36 => ⟨S32x4x64, .f32⟩
  | 37 => ⟨S32x4x64, .f32⟩
  | 38 => ⟨S32x256, .f32⟩
  | 39 => ⟨S1x256, .f32⟩
  | 40 => ⟨S256, .f32⟩
  | 41 => ⟨S1x256, .f32⟩
  | 42 => ⟨S32x256, .f32⟩
  | 43 => ⟨S32x256, .f32⟩
  | 44 => ⟨S1x256, .f32⟩
  | 45 => ⟨S256, .f32⟩
  | 46 => ⟨S1x256, .f32⟩
  | 47 => ⟨S32x256, .f32⟩
  | 48 => ⟨S32x256, .f32⟩
  | 49 => ⟨S32x256, .f32⟩
  | 50 => ⟨S32x256, .f32⟩
  | 51 => ⟨S32x256, .f32⟩
  | 52 => ⟨S32x1024, .f32⟩
  | 53 => ⟨S32x1024, .f32⟩
  | 54 => ⟨S1x1024, .f32⟩
  | 55 => ⟨S1024, .f32⟩
  | 56 => ⟨S32x1024, .f32⟩
  | 57 => ⟨S_, .f32⟩
  | 58 => ⟨S32, .f32⟩
  | 59 => ⟨S32x1, .f32⟩
  | 60 => ⟨S_, .f32⟩
  | 61 => ⟨S32x1, .f32⟩
  | 62 => ⟨S32x1, .f32⟩
  | 63 => ⟨S_, .f32⟩
  | 64 => ⟨S32x1, .f32⟩
  | 65 => ⟨S32x1, .f32⟩
  | 66 => ⟨S32x1, .f32⟩
  | 67 => ⟨S32x1024, .f32⟩
  | 68 => ⟨S32x1024, .f32⟩
  | 69 => ⟨S1x1024, .f32⟩
  | 70 => ⟨S32x1024, .f32⟩
  | 71 => ⟨S32x1024, .f32⟩
  | 72 => ⟨S32x1024, .f32⟩
  | 73 => ⟨S1x1024, .f32⟩
  | 74 => ⟨S1024, .f32⟩
  | 75 => ⟨S32x1024, .f32⟩
  | 76 => ⟨S_, .f32⟩
  | 77 => ⟨S32, .f32⟩
  | 78 => ⟨S32x1, .f32⟩
  | 79 => ⟨S_, .f32⟩
  | 80 => ⟨S32x1, .f32⟩
  | 81 => ⟨S32x1, .f32⟩
  | 82 => ⟨S_, .f32⟩
  | 83 => ⟨S32x1, .f32⟩
  | 84 => ⟨S32x1, .f32⟩
  | 85 => ⟨S32x1, .f32⟩
  | 86 => ⟨S32x1024, .f32⟩
  | 87 => ⟨S32x1024, .f32⟩
  | 88 => ⟨S1x1024, .f32⟩
  | 89 => ⟨S32x1024, .f32⟩
  | 90 => ⟨S32x1024, .f32⟩
  | 91 => ⟨S32x256x2x4x256, .f32⟩
  | 92 => ⟨S32x1024, .f32⟩
  | 93 => ⟨S32x4x256, .f32⟩
  | 94 => ⟨S_, .f32⟩
  | 95 => ⟨S32x4x256, .f32⟩
  | 96 => ⟨S32x4x256, .f32⟩
  | 97 => ⟨S32x256x1x4x256, .f32⟩
  | 98 => ⟨S32x256x4x256, .f32⟩
  | 99 => ⟨S32x4x256, .f32⟩
  | 100 => ⟨S_, .f32⟩
  | 101 => ⟨S32x4, .f32⟩
  | 102 => ⟨S_, .f32⟩
  | 103 => ⟨S32x4, .f32⟩
  | 104 => ⟨S32x4, .f32⟩
  | 105 => ⟨S32x4x1, .f32⟩
  | 106 => ⟨S32x4x256, .f32⟩
  | 107 => ⟨S32x4x256, .f32⟩
  | 108 => ⟨S32x4x256, .f32⟩
  | 109 => ⟨S_, .f32⟩
  | 110 => ⟨S32x4, .f32⟩
  | 111 => ⟨S32x4x1, .f32⟩
  | 112 => ⟨S32x4x256, .f32⟩
  | 113 => ⟨S32x4x256, .f32⟩
  | 114 => ⟨S32x256x1x4x256, .f32⟩
  | 115 => ⟨S32x256x4x256, .f32⟩
  | 116 => ⟨S32x4x256, .f32⟩
  | 117 => ⟨S32x1024, .f32⟩
  | 118 => ⟨S32x1024, .f32⟩
  | 119 => ⟨S1x1024, .f32⟩
  | 120 => ⟨S1024, .f32⟩
  | 121 => ⟨S32x1024, .f32⟩
  | 122 => ⟨S_, .f32⟩
  | 123 => ⟨S32, .f32⟩
  | 124 => ⟨S32x1, .f32⟩
  | 125 => ⟨S_, .f32⟩
  | 126 => ⟨S32x1, .f32⟩
  | 127 => ⟨S32x1, .f32⟩
  | _ => ⟨S32x1024, .f32⟩

abbrev hbmTy0_1 (i : Nat) : BufTy := match i % 128 with
  | 0 => ⟨S_, .f32⟩
  | 1 => ⟨S32x1, .f32⟩
  | 2 => ⟨S32x1, .f32⟩
  | 3 => ⟨S32x1, .f32⟩
  | 4 => ⟨S32x1024, .f32⟩
  | 5 => ⟨S32x1024, .f32⟩
  | 6 => ⟨S1x1024, .f32⟩
  | 7 => ⟨S32x1024, .f32⟩
  | 8 => ⟨S32x1024, .f32⟩
  | 9 => ⟨S32x1024, .f32⟩
  | 10 => ⟨S32x1x1024, .f32⟩
  | _ => ⟨S32x1024, .f32⟩

abbrev hbmTy (i : Nat) : BufTy := match i / 128 with
  | 0 => hbmTy0_0 i
  | 1 => hbmTy0_1 i
  | _ => ⟨S32x1024, .f32⟩

abbrev bufTy : (tb : Table) → Fin (tcTables nBuf tb) → BufTy
  | .hbm, ⟨i, _⟩ => hbmTy i
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_cst_8 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_10 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_11 : Ref sig .tc := ⟨.hbm, 100, rfl⟩
abbrev main_v76 : Ref sig .tc := ⟨.hbm, 101, rfl⟩
abbrev main_cst_12 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_13 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_14 : Ref sig .tc := ⟨.hbm, 122, rfl⟩
abbrev main_v95 : Ref sig .tc := ⟨.hbm, 123, rfl⟩
abbrev main_v96 : Ref sig .tc := ⟨.hbm, 124, rfl⟩
abbrev main_cst_15 : Ref sig .tc := ⟨.hbm, 125, rfl⟩
abbrev main_v97 : Ref sig .tc := ⟨.hbm, 126, rfl⟩
abbrev main_v98 : Ref sig .tc := ⟨.hbm, 127, rfl⟩
abbrev main_cst_16 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩

abbrev nD : Nat := 1
abbrev τ : Topo := Topo.v7x

variable {F : FTy → Type} [FloatOps F]
-- ==== Kernel9.lean ====
abbrev S32x1024 : Shape := ⟨2, ![32, 1024]⟩
abbrev S1024 : Shape := ⟨1, ![1024]⟩
abbrev S6x256 : Shape := ⟨2, ![6, 256]⟩
abbrev S64x256 : Shape := ⟨2, ![64, 256]⟩
abbrev S128x256 : Shape := ⟨2, ![128, 256]⟩
abbrev S4x64 : Shape := ⟨2, ![4, 64]⟩
abbrev S_ : Shape := ⟨0, ![]⟩
abbrev S1x1024 : Shape := ⟨2, ![1, 1024]⟩
abbrev S1x256 : Shape := ⟨2, ![1, 256]⟩
abbrev S32x256 : Shape := ⟨2, ![32, 256]⟩
abbrev S8x1024 : Shape := ⟨2, ![8, 1024]⟩
abbrev S32x128 : Shape := ⟨2, ![32, 128]⟩
abbrev S32 : Shape := ⟨1, ![32]⟩
abbrev S32x1 : Shape := ⟨2, ![32, 1]⟩

abbrev nBuf : Space → Nat
  | .hbm => 27
  | .vmem => 17
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024, .f32⟩
  | .hbm, ⟨3, _⟩ => ⟨S6x256, .f32⟩
  | .hbm, ⟨4, _⟩ => ⟨S64x256, .f32⟩
  | .hbm, ⟨5, _⟩ => ⟨S64x256, .f32⟩
  | .hbm, ⟨6, _⟩ => ⟨S128x256, .f32⟩
  | .hbm, ⟨7, _⟩ => ⟨S4x64, .f32⟩
  | .hbm, ⟨8, _⟩ => ⟨S_, .f32⟩
  | .hbm, ⟨9, _⟩ => ⟨S64x256, .f32⟩
  | .hbm, ⟨10, _⟩ => ⟨S128x256, .f32⟩
  | .hbm, ⟨11, _⟩ => ⟨S128x256, .bf16⟩
  | .hbm, ⟨12, _⟩ => ⟨S_, .f32⟩
  | .hbm, ⟨13, _⟩ => ⟨S64x256, .f32⟩
  | .hbm, ⟨14, _⟩ => ⟨S128x256, .f32⟩
  | .hbm, ⟨15, _⟩ => ⟨S128x256, .bf16⟩
  | .hbm, ⟨16, _⟩ => ⟨S1x1024, .f32⟩
  | .hbm, ⟨17, _⟩ => ⟨S128x256, .bf16⟩
  | .hbm, ⟨18, _⟩ => ⟨S1x256, .f32⟩
  | .hbm, ⟨19, _⟩ => ⟨S32x256, .f32⟩
  | .hbm, ⟨20, _⟩ => ⟨S32x256, .f32⟩
  | .hbm, ⟨21, _⟩ => ⟨S32x256, .f32⟩
  | .hbm, ⟨22, _⟩ => ⟨S32x256, .f32⟩
  | .hbm, ⟨23, _⟩ => ⟨S32x256, .f32⟩
  | .hbm, ⟨24, _⟩ => ⟨S32x256, .f32⟩
  | .hbm, ⟨25, _⟩ => ⟨S32x256, .f32⟩
  | .hbm, ⟨26, _⟩ => ⟨S32x256, .f32⟩
  | .local _ .vmem, ⟨0, _⟩ => ⟨S32x1024, .f32⟩
  | .local _ .vmem, ⟨1, _⟩ => ⟨S32x1024, .f32⟩
  | .local _ .vmem, ⟨2, _⟩ => ⟨S8x1024, .f32⟩
  | .local _ .vmem, ⟨3, _⟩ => ⟨S1x1024, .f32⟩
  | .local _ .vmem, ⟨4, _⟩ => ⟨S6x256, .f32⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S32x256, .f32⟩
  | .local _ .vmem, ⟨13, _⟩ => ⟨S32x256, .f32⟩
  | .local _ .vmem, ⟨14, _⟩ => ⟨S32x256, .f32⟩
  | .local _ .vmem, ⟨15, _⟩ => ⟨S32x256, .f32⟩
  | .local _ .vmem, ⟨16, _⟩ => ⟨S32x256, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev main_v9_3 : Ref sig .tc := ⟨.hbm, 22, rfl⟩
abbrev main_v9_4 : Ref sig .tc := ⟨.hbm, 23, rfl⟩
abbrev main_v9_5 : Ref sig .tc := ⟨.hbm, 24, rfl⟩
abbrev main_v9_6 : Ref sig .tc := ⟨.hbm, 25, rfl⟩
abbrev main_v9_7 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S32x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S32x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S32x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S32x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S32x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]
-- ==== Reference9Ideal.lean ====
abbrev S32x1024 : Shape := ⟨2, ![32, 1024]⟩
abbrev S1024 : Shape := ⟨1, ![1024]⟩
abbrev S6x256 : Shape := ⟨2, ![6, 256]⟩
abbrev S64x256 : Shape := ⟨2, ![64, 256]⟩
abbrev S128x256 : Shape := ⟨2, ![128, 256]⟩
abbrev S4x64 : Shape := ⟨2, ![4, 64]⟩
abbrev S1x1024 : Shape := ⟨2, ![1, 1024]⟩
abbrev S32x256 : Shape := ⟨2, ![32, 256]⟩
abbrev S1x256 : Shape := ⟨2, ![1, 256]⟩
abbrev S256 : Shape := ⟨1, ![256]⟩
abbrev S32x64 : Shape := ⟨2, ![32, 64]⟩
abbrev S_ : Shape := ⟨0, ![]⟩
abbrev S32x128 : Shape := ⟨2, ![32, 128]⟩
abbrev S32x4x64 : Shape := ⟨3, ![32, 4, 64]⟩
abbrev S32x4 : Shape := ⟨2, ![32, 4]⟩
abbrev S32x4x1 : Shape := ⟨3, ![32, 4, 1]⟩
abbrev S1x4x64 : Shape := ⟨3, ![1, 4, 64]⟩

abbrev nBuf : Space → Nat
  | .hbm => 115
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S1024, .f32⟩
  | .hbm, ⟨3, _⟩ => ⟨S6x256, .f32⟩
  | .hbm, ⟨4, _⟩ => ⟨S64x256, .f32⟩
  | .hbm, ⟨5, _⟩ => ⟨S64x256, .f32⟩
  | .hbm, ⟨6, _⟩ => ⟨S128x256, .f32⟩
  | .hbm, ⟨7, _⟩ => ⟨S4x64, .f32⟩
  | .hbm, ⟨8, _⟩ => ⟨S32x1024, .f32⟩
  | .hbm, ⟨9, _⟩ => ⟨S1x1024, .f32⟩
  | .hbm, ⟨10, _⟩ => ⟨S32x1024, .f32⟩
  | .hbm, ⟨11, _⟩ => ⟨S32x1024, .f32⟩
  | .hbm, ⟨12, _⟩ => ⟨S32x1024, .f32⟩
  | .hbm, ⟨13, _⟩ => ⟨S32x256, .f32⟩
  | .hbm, ⟨14, _⟩ => ⟨S32x256, .f32⟩
  | .hbm, ⟨15, _⟩ => ⟨S32x256, .f32⟩
  | .hbm, ⟨16, _⟩ => ⟨S1x256, .f32⟩
  | .hbm, ⟨17, _⟩ => ⟨S256, .f32⟩
  | .hbm, ⟨18, _⟩ => ⟨S32x64, .f32⟩
  | .hbm, ⟨19, _⟩ => ⟨S32x64, .f32⟩
  | .hbm, ⟨20, _⟩ => ⟨S32x256, .f32⟩
  | .hbm, ⟨21, _⟩ => ⟨S1x256, .f32⟩
  | .hbm, ⟨22, _⟩ => ⟨S32x256, .f32⟩
  | .hbm, ⟨23, _⟩ => ⟨S32x256, .f32⟩
  | .hbm, ⟨24, _⟩ => ⟨S32x256, .f32⟩
  | .hbm, ⟨25, _⟩ => ⟨S_, .f32⟩
  | .hbm, ⟨26, _⟩ => ⟨S32x256, .f32⟩
  | .hbm, ⟨27, _⟩ => ⟨S32x256, .f32⟩
  | .hbm, ⟨28, _⟩ => ⟨S32x256, .f32⟩
  | .hbm, ⟨29, _⟩ => ⟨S32x256, .f32⟩
  | .hbm, ⟨30, _⟩ => ⟨S32x256, .i1⟩
  | .hbm, ⟨31, _⟩ => ⟨S32x256, .f32⟩
  | .hbm, ⟨32, _⟩ => ⟨S32x256, .f32⟩
  | .hbm, ⟨33, _⟩ => ⟨S32x256, .f32⟩
  | .hbm, ⟨34, _⟩ => ⟨S32x256, .f32⟩
  | .hbm, ⟨35, _⟩ => ⟨S32x256, .f32⟩
  | .hbm, ⟨36, _⟩ => ⟨S32x256, .f32⟩
  | .hbm, ⟨37, _⟩ => ⟨S32x256, .f32⟩
  | .hbm, ⟨38, _⟩ => ⟨S32x256, .f32⟩
  | .hbm, ⟨39, _⟩ => ⟨S32x256, .f32⟩
  | .hbm, ⟨40, _⟩ => ⟨S_, .f32⟩
  | .hbm, ⟨41, _⟩ => ⟨S32x256, .f32⟩
  | .hbm, ⟨42, _⟩ => ⟨S32x256, .f32⟩
  | .hbm, ⟨43, _⟩ => ⟨S32x256, .f32⟩
  | .hbm, ⟨44, _⟩ => ⟨S32x256, .f32⟩
  | .hbm, ⟨45, _⟩ => ⟨S32x256, .f32⟩
  | .hbm, ⟨46, _⟩ => ⟨S1x256, .f32⟩
  | .hbm, ⟨47, _⟩ => ⟨S256, .f32⟩
  | .hbm, ⟨48, _⟩ => ⟨S32x64, .f32⟩
  | .hbm, ⟨49, _⟩ => ⟨S32x256, .f32⟩
  | .hbm, ⟨50, _⟩ => ⟨S1x256, .f32⟩
  | .hbm, ⟨51, _⟩ => ⟨S32x256, .f32⟩
  | .hbm, ⟨52, _⟩ => ⟨S32x256, .f32⟩
  | .hbm, ⟨53, _⟩ => ⟨S32x256, .f32⟩
  | .hbm, ⟨54, _⟩ => ⟨S32x256, .f32⟩
  | .hbm, ⟨55, _⟩ => ⟨S_, .f32⟩
  | .hbm, ⟨56, _⟩ => ⟨S32x256, .f32⟩
  | .hbm, ⟨57, _⟩ => ⟨S32x256, .f32⟩
  | .hbm, ⟨58, _⟩ => ⟨S_, .f32⟩
  | .hbm, ⟨59, _⟩ => ⟨S32x256, .f32⟩
  | .hbm, ⟨60, _⟩ => ⟨S32x256, .f32⟩
  | .hbm, ⟨61, _⟩ => ⟨S32x128, .f32⟩
  | .hbm, ⟨62, _⟩ => ⟨S32x128, .f32⟩
  | .hbm, ⟨63, _⟩ => ⟨S32x128, .f32⟩
  | .hbm, ⟨64, _⟩ => ⟨S_, .f32⟩
  | .hbm, ⟨65, _⟩ => ⟨S32x128, .f32⟩
  | .hbm, ⟨66, _⟩ => ⟨S32x128, .f32⟩
  | .hbm, ⟨67, _⟩ => ⟨S_, .f32⟩
  | .hbm, ⟨68, _⟩ => ⟨S32x128, .f32⟩
  | .hbm, ⟨69, _⟩ => ⟨S32x128, .f32⟩
  | .hbm, ⟨70, _⟩ => ⟨S32x256, .f32⟩
  | .hbm, ⟨71, _⟩ => ⟨S1x256, .f32⟩
  | .hbm, ⟨72, _⟩ => ⟨S256, .f32⟩
  | .hbm, ⟨73, _⟩ => ⟨S1x256, .f32⟩
  | .hbm, ⟨74, _⟩ => ⟨S32x256, .f32⟩
  | .hbm, ⟨75, _⟩ => ⟨S32x256, .f32⟩
  | .hbm, ⟨76, _⟩ => ⟨S32x4x64, .f32⟩
  | .hbm, ⟨77, _⟩ => ⟨S32x4x64, .f32⟩
  | .hbm, ⟨78, _⟩ => ⟨S_, .f32⟩
  | .hbm, ⟨79, _⟩ => ⟨S32x4, .f32⟩
  | .hbm, ⟨80, _⟩ => ⟨S32x4x1, .f32⟩
  | .hbm, ⟨81, _⟩ => ⟨S32x4x1, .f32⟩
  | .hbm, ⟨82, _⟩ => ⟨S_, .f32⟩
  | .hbm, ⟨83, _⟩ => ⟨S32x4x1, .f32⟩
  | .hbm, ⟨84, _⟩ => ⟨S32x4x1, .f32⟩
  | .hbm, ⟨85, _⟩ => ⟨S32x4x64, .f32⟩
  | .hbm, ⟨86, _⟩ => ⟨S32x4x64, .f32⟩
  | .hbm, ⟨87, _⟩ => ⟨S32x256, .f32⟩
  | .hbm, ⟨88, _⟩ => ⟨S_, .f32⟩
  | .hbm, ⟨89, _⟩ => ⟨S32x256, .f32⟩
  | .hbm, ⟨90, _⟩ => ⟨S32x256, .f32⟩
  | .hbm, ⟨91, _⟩ => ⟨S1x256, .f32⟩
  | .hbm, ⟨92, _⟩ => ⟨S256, .f32⟩
  | .hbm, ⟨93, _⟩ => ⟨S1x256, .f32⟩
  | .hbm, ⟨94, _⟩ => ⟨S32x256, .f32⟩
  | .hbm, ⟨95, _⟩ => ⟨S32x256, .f32⟩
  | .hbm, ⟨96, _⟩ => ⟨S_, .f32⟩
  | .hbm, ⟨97, _⟩ => ⟨S32x256, .f32⟩
  | .hbm, ⟨98, _⟩ => ⟨S32x256, .f32⟩
  | .hbm, ⟨99, _⟩ => ⟨S32x256, .f32⟩
  | .hbm, ⟨100, _⟩ => ⟨S32x4x64, .f32⟩
  | .hbm, ⟨101, _⟩ => ⟨S32x4x64, .f32⟩
  | .hbm, ⟨102, _⟩ => ⟨S32x4x64, .f32⟩
  | .hbm, ⟨103, _⟩ => ⟨S1x4x64, .f32⟩
  | .hbm, ⟨104, _⟩ => ⟨S32x4x64, .f32⟩
  | .hbm, ⟨105, _⟩ => ⟨S32x4x64, .f32⟩
  | .hbm, ⟨106, _⟩ => ⟨S_, .f32⟩
  | .hbm, ⟨107, _⟩ => ⟨S32x4, .f32⟩
  | .hbm, ⟨108, _⟩ => ⟨S32x4x1, .f32⟩
  | .hbm, ⟨109, _⟩ => ⟨S32x4x64, .f32⟩
  | .hbm, ⟨110, _⟩ => ⟨S32x4x64, .f32⟩
  | .hbm, ⟨111, _⟩ => ⟨S32x4x64, .f32⟩
  | .hbm, ⟨112, _⟩ => ⟨S32x256, .f32⟩
  | .hbm, ⟨113, _⟩ => ⟨S32x256, .f32⟩
  | .hbm, ⟨114, _⟩ => ⟨S32x256, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_0 : Ref sig .tc := ⟨.hbm, 55, rfl⟩
abbrev main_v33 : Ref sig .tc := ⟨.hbm, 56, rfl⟩
abbrev main_v34 : Ref sig .tc := ⟨.hbm, 57, rfl⟩
abbrev main_cst_1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_v41 : Ref sig .tc := ⟨.hbm, 66, rfl⟩
abbrev main_cst_3 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_4 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_6 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_7 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_8 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩

abbrev nD : Nat := 1
abbrev τ : Topo := Topo.v7x

variable {F : FTy → Type} [FloatOps F]
-- ==== Proof.CmpSpec.lean ====
/- The compressed branch of the attention and its block selection, as functions of the two argument arrays. -/
module

public import Idealize.ShloMosaic.PureOps
public import Idealize.ShloMosaic.PureOps.Ideal
public import Idealize.ShloMosaic.Lib.Pointwise.Index
public import Idealize.ShloMosaic.Lib.Pointwise.Tactic
public import Idealize.ShloMosaic.Lib.Pointwise.Sums
public import Idealize.ShloMosaic.Lib.Pointwise.Contract
public import Idealize.ShloMosaic.Lib.Pointwise.Reduce
public import Idealize.ShloMosaic.Lib.Pointwise.ReduceUnfold
public import Idealize.ShloMosaic.Lib.Pointwise.Select
public import Idealize.ShloMosaic.Lib.Pointwise.Reshape
public import Mathlib.Data.EReal.Operations
public import Mathlib.Algebra.BigOperators.Fin

@[expose] public section

noncomputable section

namespace Cert.CmpAttn

open Idealize.ShloMosaic

/-- The queries' array: a row per token, a 128-lane tile per head. -/
abbrev QArr := (⟨2, ![32768, 1024]⟩ : Shape).Idx → EReal
/-- The compressed keys' and values' array: a row per compressed token, keys in columns 0–127, values in 128–255. -/
abbrev KArr := (⟨2, ![1024, 256]⟩ : Shape).Idx → EReal

/-- The mask value written over scores that are not allowed. -/
abbrev NEG : EReal := Ideal.ofBits .f32 0xF149F2CA#32
/-- The importance given to the blocks that are always chosen. -/
abbrev FORCE : EReal := Ideal.ofBits .f32 0x461C4000#32
/-- Half the mask value: what a chosen block's importance must exceed. -/
abbrev HALF : EReal := Ideal.ofBits .f32 0xF0C9F2CA#32
/-- The least float, from which a maximum starts. -/
abbrev NINF : EReal := Ideal.ofBits .f32 0xFF800000#32

/-- The row of token `t` of batch `b`. -/
abbrev row (b : Fin 4) (t : Fin 8192) : Fin 32768 := ⟨8192 * b.val + t.val, by omega⟩
/-- The row of compressed token `c` of batch `b`. -/
abbrev key (b : Fin 4) (c : Fin 256) : Fin 1024 := ⟨256 * b.val + c.val, by omega⟩
/-- The column of number `d` of head `r` of group `g`. -/
abbrev qcol (g : Fin 2) (r : Fin 4) (d : Fin 64) : Fin 1024 := ⟨512 * g.val + 128 * r.val + 64 * g.val + d.val, by omega⟩
/-- The column of number `d` of group `g`'s key. -/
abbrev kcol (g : Fin 2) (d : Fin 64) : Fin 256 := ⟨64 * g.val + d.val, by omega⟩
/-- The column of number `d` of group `g`'s value. -/
abbrev vcol (g : Fin 2) (d : Fin 64) : Fin 256 := ⟨128 + 64 * g.val + d.val, by omega⟩

/-- The score of query head `(g, r)` of token `t` against compressed token `c`. -/
def score (A : QArr) (B : KArr) (b : Fin 4) (t : Fin 8192) (g : Fin 2) (r : Fin 4) (c : Fin 256) : EReal :=
  ∑ d : Fin 64, A (ix2 (row b t) (qcol g r d)) * B (ix2 (key b c) (kcol g d))

/-- Compressed token `c` ends at or before token `t`. -/
abbrev ended (t : Fin 8192) (c : Fin 256) : Prop := 32 * c.val + 31 ≤ t.val

/-- The score, or the mask value where the compressed token has not ended. -/
def masked (A : QArr) (B : KArr) (b : Fin 4) (t : Fin 8192) (g : Fin 2) (r : Fin 4) (c : Fin 256) : EReal :=
  if ended t c then score A B b t g r c else NEG

/-- The exponential of a masked score less the row's largest. -/
def expo (A : QArr) (B : KArr) (b : Fin 4) (t : Fin 8192) (g : Fin 2) (r : Fin 4) (c : Fin 256) : EReal :=
  Ideal.exp (masked A B b t g r c - Finset.univ.fold max NINF fun k => masked A B b t g r k)

/-- The attention probability, zero where the compressed token has not ended. -/
def prob (A : QArr) (B : KArr) (b : Fin 4) (t : Fin 8192) (g : Fin 2) (r : Fin 4) (c : Fin 256) : EReal :=
  if ended t c then Ideal.div (expo A B b t g r c) (∑ k, expo A B b t g r k) else 0

/-- The attention output. -/
def attn (A : QArr) (B : KArr) (b : Fin 4) (t : Fin 8192) (g : Fin 2) (r : Fin 4) (d : Fin 64) : EReal :=
  ∑ c, prob A B b t g r c * B (ix2 (key b c) (vcol g d))

/-- The importance of block `j` (compressed tokens `2j` and `2j+1`) to group `g` of token `t`: what its heads
    give it, raised for the first and the current block, lowered for the blocks ahead. -/
def imp (A : QArr) (B : KArr) (b : Fin 4) (t : Fin 8192) (g : Fin 2) (j : Fin 128) : EReal :=
  if t.val / 64 < j.val then NEG
  else if j.val = t.val / 64 ∨ j.val = 0 then FORCE
  else ∑ r : Fin 4, (prob A B b t g r ⟨2 * j.val, by omega⟩ + prob A B b t g r ⟨2 * j.val + 1, by omega⟩)

/-- How many blocks come before block `j` when the blocks are put in order of falling value, equal ones in order of
    their numbers. -/
def place (f : Fin 128 → EReal) (j : Fin 128) : Nat :=
  (Finset.univ.filter fun k => f j < f k ∨ (f k = f j ∧ k < j)).card

/-- Block `j` is one of the first sixteen and its value exceeds half the mask value: one, else zero. -/
def chosen (f : Fin 128 → EReal) (j : Fin 128) : EReal :=
  if place f j < 16 ∧ HALF < f j then 1 else 0

/-- The first result, index by index. -/
def outAttn (A : QArr) (B : KArr) : (⟨2, ![32768, 512]⟩ : Shape).Idx → EReal := fun i =>
  attn A B ⟨(i 0).val / 8192, by have h := (i 0).isLt; simp at h; omega⟩ ⟨(i 0).val % 8192, by omega⟩
    ⟨(i 1).val / 256, by have h := (i 1).isLt; simp at h; omega⟩ ⟨(i 1).val % 256 / 64, by omega⟩ ⟨(i 1).val % 64, by omega⟩

/-- The second result, index by index. -/
def outSel (A : QArr) (B : KArr) : (⟨2, ![32768, 256]⟩ : Shape).Idx → EReal := fun i =>
  chosen (imp A B ⟨(i 0).val / 8192, by have h := (i 0).isLt; simp at h; omega⟩ ⟨(i 0).val % 8192, by omega⟩
    ⟨(i 1).val / 128, by have h := (i 1).isLt; simp at h; omega⟩) ⟨(i 1).val % 128, by omega⟩

end Cert.CmpAttn

end
-- ==== Proof.CmpSelect.lean ====
/- Choosing the sixteen greatest of 128 values: by a stable sort, and by sixteen rounds that each take the first of the
   greatest values left. -/
module

public import proofs.«01_k».proof.Proof.CmpSpec
public import Idealize.ShloMosaic.Lib.SortFacts
public import Idealize.ShloMosaic.Lib.WordCmp

@[expose] public section

noncomputable section

namespace Cert.CmpAttn

open Idealize.ShloMosaic

variable (f : Fin 128 → EReal)

/-- Block `k` comes before block `j`: its value is greater, or equal and its number smaller. -/
abbrev Ahead (k j : Fin 128) : Prop := f j < f k ∨ (f k = f j ∧ k < j)

theorem ahead_irrefl (j : Fin 128) : ¬ Ahead f j j := by rintro (h | h) <;> simp at h

theorem ahead_asymm {j k : Fin 128} (h : Ahead f k j) : ¬ Ahead f j k := by
  rintro (h' | h') <;> rcases h with h | h
  · exact absurd h (not_lt.mpr h'.le)
  · exact absurd h.1 h'.ne'.symm
  · exact absurd h'.1 h.ne
  · exact absurd h.2 (not_lt.mpr h'.2.le)

/-- The order in which a stable sort by falling value puts the blocks. -/
abbrev before (k j : Fin 128) : Bool := decide (f j < f k)

/-- Inserting a number below all others keeps a list in order of `Ahead`. -/
theorem pairwise_insert (a : Fin 128) (l : List (Fin 128)) (ha : ∀ b ∈ l, a < b) (hl : l.Pairwise (Ahead f)) :
    (insertBefore (before f) a l).Pairwise (Ahead f) := by
  induction l with
  | nil => exact List.pairwise_singleton _ _
  | cons b l ih =>
    rw [List.pairwise_cons] at hl
    unfold insertBefore
    split
    · rename_i h
      refine List.pairwise_cons.mpr ⟨fun c hc => ?_, ih (fun c hc => ha c (List.mem_cons_of_mem _ hc)) hl.2⟩
      rcases List.mem_cons.mp ((perm_insertBefore _ a l).mem_iff.mp hc) with rfl | hc'
      · exact .inl (of_decide_eq_true h)
      · exact hl.1 c hc'
    · rename_i h
      have hab : f b ≤ f a := not_lt.mp fun h' => h (decide_eq_true h')
      refine List.pairwise_cons.mpr ⟨fun c hc => ?_, List.pairwise_cons.mpr hl⟩
      have hac := ha c hc
      have hca : f c ≤ f a := by
        rcases List.mem_cons.mp hc with rfl | hc'
        · exact hab
        · rcases hl.1 c hc' with h1 | h1
          · exact h1.le.trans hab
          · exact h1.1.symm.le.trans hab
      rcases hca.lt_or_eq with h1 | h1
      · exact .inl h1
      · exact .inr ⟨h1.symm, hac⟩

/-- A stable sort of a list in rising order leaves it in order of `Ahead`. -/
theorem pairwise_sort (l : List (Fin 128)) (hl : l.Pairwise (· < ·)) : (stableSort (before f) l).Pairwise (Ahead f) := by
  induction l with
  | nil => exact List.Pairwise.nil
  | cons a l ih =>
    rw [List.pairwise_cons] at hl
    unfold stableSort
    exact pairwise_insert f a _ (fun b hb => hl.1 b ((perm_stableSort _ l).mem_iff.mp hb)) (ih hl.2)

/-- The block the sort puts at an earlier position comes before the one at a later position. -/
theorem ahead_of_lt {i j : Fin 128} (hij : i < j) : Ahead f (sortedFrom (before f) i) (sortedFrom (before f) j) := by
  have hp : ∀ a b : Fin (sortPositions 128 (before f)).length, a < b →
      Ahead f ((sortPositions 128 (before f)).get a) ((sortPositions 128 (before f)).get b) :=
    List.pairwise_iff_get.mp (pairwise_sort f (List.finRange 128) (List.pairwise_lt_finRange 128))
  unfold sortedFrom
  exact hp _ _ (by simp only [Fin.lt_def, Fin.val_cast]; exact hij)

/-- So it comes before exactly when its position is earlier. -/
theorem ahead_iff {i j : Fin 128} : Ahead f (sortedFrom (before f) i) (sortedFrom (before f) j) ↔ i < j := by
  refine ⟨fun h => ?_, ahead_of_lt f⟩
  rcases lt_trichotomy i j with h' | h' | h'
  · exact h'
  · exact absurd (h' ▸ h) (ahead_irrefl f _)
  · exact absurd h (ahead_asymm f (ahead_of_lt f h'))

/-- The block at position `i` has `i` blocks before it. -/
theorem place_sorted (i : Fin 128) : place f (sortedFrom (before f) i) = i.val := by
  have e : (Finset.univ.filter fun k => Ahead f k (sortedFrom (before f) i))
      = (Finset.univ.filter fun k : Fin 128 => k < i).map ⟨_, sortedFrom_injective (before f)⟩ := by
    ext k
    obtain ⟨k, rfl⟩ := sortedFrom_surjective (before f) k
    simp only [Finset.mem_filter, Finset.mem_univ, true_and, ahead_iff, Finset.mem_map, Function.Embedding.coeFn_mk]
    exact ⟨fun h => ⟨k, h, rfl⟩, fun ⟨a, h, e⟩ => (sortedFrom_injective (before f) e) ▸ h⟩
  show (Finset.univ.filter fun k => Ahead f k (sortedFrom (before f) i)).card = _
  rw [e, Finset.card_map]
  rw [show (Finset.univ.filter fun k : Fin 128 => k < i) = Finset.Iio i by ext k; simp]
  exact Fin.card_Iio i

/-- A block is before another exactly when it has fewer blocks before it. -/
theorem ahead_iff_place (k j : Fin 128) : Ahead f k j ↔ place f k < place f j := by
  obtain ⟨k, rfl⟩ := sortedFrom_surjective (before f) k
  obtain ⟨j, rfl⟩ := sortedFrom_surjective (before f) j
  rw [place_sorted, place_sorted, ahead_iff]; rfl

theorem place_inj {k j : Fin 128} (h : place f k = place f j) : k = j := by
  obtain ⟨k, rfl⟩ := sortedFrom_surjective (before f) k
  obtain ⟨j, rfl⟩ := sortedFrom_surjective (before f) j
  rw [place_sorted, place_sorted] at h
  rw [Fin.ext h]

/-- The greatest over the sorted sixteen of "this is block `j` and its value exceeds half the mask value" is
    `chosen`. -/
theorem sorted_chosen (j : Fin 128) (lo : EReal) (hlo : lo ≤ 0) :
    (Finset.univ.fold max lo fun n : Fin 16 =>
      if sortedFrom (before f) (n.castLE (by omega)) = j ∧ HALF < f (sortedFrom (before f) (n.castLE (by omega))) then (1 : EReal) else 0)
      = chosen f j := by
  unfold chosen
  apply le_antisymm
  · rw [Finset.fold_max_le]
    refine ⟨by split <;> simp [hlo, hlo.trans zero_le_one], fun n _ => ?_⟩
    split
    · rename_i h
      rw [if_pos ⟨by rw [← h.1, place_sorted]; simp, h.1 ▸ h.2⟩]
    · split <;> simp
  · rw [Finset.le_fold_max]
    right
    split
    · rename_i h
      obtain ⟨i, rfl⟩ := sortedFrom_surjective (before f) j
      rw [place_sorted] at h
      refine ⟨⟨i.val, h.1⟩, Finset.mem_univ _, ?_⟩
      rw [if_pos ⟨rfl, h.2⟩]
    · exact ⟨0, Finset.mem_univ _, by split <;> simp⟩

/-! ### Sixteen rounds -/

/-- The bit saying block `j` is the first of those with the greatest value. -/
def pickB (w : Fin 128 → EReal) (j : Fin 128) : BitVec 1 :=
  IntOp.cmpi .eq (BitVec.ofNat 32 j.val)
    (Finset.univ.fold IntOp.minsi 2147483647#32 fun x : Fin 128 =>
      if w x = Finset.univ.fold max NINF (fun k => w k) then BitVec.ofNat 32 x.val else 128#32)

theorem ninf_eq : NINF = ⊥ := by simp [NINF, Ideal.ofBits, Ideal.ieee]

theorem toInt_minsi (a b : BitVec 32) : (IntOp.minsi a b).toInt = min a.toInt b.toInt := by
  unfold IntOp.minsi
  by_cases h : a.toInt < b.toInt
  · rw [if_pos (BitVec.slt_iff_toInt_lt.mpr h), min_eq_left h.le]
  · rw [if_neg (fun h' => h (BitVec.slt_iff_toInt_lt.mp h')), min_eq_right (not_lt.mp h)]

theorem toInt_fold (v : Fin 128 → BitVec 32) :
    (Finset.univ.fold IntOp.minsi 2147483647#32 v).toInt = Finset.univ.fold min 2147483647 fun x => (v x).toInt :=
  (Finset.fold_hom (op := IntOp.minsi) (op' := min) (m := BitVec.toInt) toInt_minsi).symm

theorem toInt_number (x : Fin 128) : (BitVec.ofNat 32 x.val).toInt = (x.val : ℤ) := by
  revert x; decide +kernel

theorem pickB_iff (w : Fin 128 → EReal) (j : Fin 128) (m : EReal) (hm : ∀ k, w k ≤ m) (hj : ∃ k, w k = m) :
    pickB w j = 1#1 ↔ w j = m ∧ ∀ k < j, w k ≠ m := by
  have em : Finset.univ.fold max NINF (fun k => w k) = m := by
    rw [ninf_eq]
    apply le_antisymm
    · rw [Finset.fold_max_le]; exact ⟨bot_le, fun k _ => hm k⟩
    · rw [Finset.le_fold_max]; exact .inr (hj.imp fun k h => ⟨Finset.mem_univ _, h.symm.le⟩)
  unfold pickB
  rw [em]
  have ec : ∀ a b : BitVec 32, IntOp.cmpi .eq a b = 1#1 ↔ a.toInt = b.toInt := fun a b => by
    rw [BitVec.toInt_inj]
    show BitVec.ofBool (a == b) = 1#1 ↔ a = b
    by_cases h : a = b
    · simp [h]
    · rw [show (a == b) = false from beq_eq_false_iff_ne.mpr h]
      simp [h]
  rw [ec, toInt_fold, toInt_number]
  have ev : ∀ x : Fin 128, (if w x = m then BitVec.ofNat 32 x.val else 128#32).toInt = if w x = m then (x.val : ℤ) else 128 := fun x => by
    split
    · exact toInt_number x
    · rfl
  simp only [ev]
  constructor
  · intro h
    have h1 : ∀ x : Fin 128, (j.val : ℤ) ≤ if w x = m then (x.val : ℤ) else 128 := fun x =>
      ((Finset.le_fold_min _).mp h.le).2 x (Finset.mem_univ _)
    have h2 := h.symm.le
    rw [Finset.fold_min_le] at h2
    rcases h2 with h2 | ⟨x, _, hx⟩
    · omega
    · refine ⟨?_, fun k hk he => ?_⟩
      · by_cases hw : w x = m
        · rw [if_pos hw] at hx
          have := h1 x
          rw [if_pos hw] at this
          have : x = j := Fin.ext (by omega)
          exact this ▸ hw
        · rw [if_neg hw] at hx
          omega
      · have := h1 k
        rw [if_pos he] at this
        have := Fin.lt_def.mp hk
        omega
  · rintro ⟨h1, h2⟩
    apply le_antisymm
    · rw [Finset.le_fold_min]
      refine ⟨by omega, fun x _ => ?_⟩
      split
      · rename_i hx
        by_contra hlt
        exact h2 x (Fin.lt_def.mpr (by omega)) hx
      · omega
    · rw [Finset.fold_min_le]
      exact .inr ⟨j, Finset.mem_univ _, by rw [if_pos h1]⟩

/-- The values left after a round: the picked one becomes the least float. -/
def dropF (w : Fin 128 → EReal) : Fin 128 → EReal := fun j => if pickB w j = 1#1 then NINF else w j
/-- The marks after a round: the picked block's becomes one. -/
def markF (w s : Fin 128 → EReal) : Fin 128 → EReal := fun j => if pickB w j = 1#1 then 1 else s j

/-- The values left after `n` rounds. -/
def leftF : Nat → Fin 128 → EReal
  | 0 => f
  | n + 1 => dropF (leftF n)
/-- The marks after `n` rounds. -/
def marksF : Nat → Fin 128 → EReal
  | 0 => fun _ => 0
  | n + 1 => markF (leftF f n) (marksF n)

/-- The least value is where every block with fewer than `n` before it has been taken. -/
theorem round (n : Nat) (hn : n < 128) :
    (∀ j, dropF (fun j => if place f j < n then ⊥ else f j) j = if place f j < n + 1 then ⊥ else f j)
    ∧ ∀ j, f j ≠ ⊥ → n ≤ place f j → (pickB (fun j => if place f j < n then ⊥ else f j) j = 1#1 ↔ place f j = n) := by
  obtain ⟨p, hp⟩ : ∃ p, place f p = n := ⟨_, place_sorted f ⟨n, hn⟩⟩
  have hle : ∀ k, n ≤ place f k → f k ≤ f p := fun k hk => by
    by_contra h
    have := (ahead_iff_place f k p).mp (.inl (not_le.mp h))
    omega
  set w : Fin 128 → EReal := fun j => if place f j < n then ⊥ else f j with hw
  have hwp : w p = f p := by simp [hw, hp]
  have hwle : ∀ k, w k ≤ f p := fun k => by
    simp only [hw]; split
    · exact bot_le
    · exact hle k (by omega)
  by_cases hb : f p = ⊥
  · have hw0 : ∀ k, w k = ⊥ := fun k => le_bot_iff.mp (hb ▸ hwle k)
    refine ⟨fun j => ?_, fun j hj hj' => absurd (le_bot_iff.mp (hb ▸ hle j hj')) hj⟩
    unfold dropF
    rw [ninf_eq, hw0 j, ite_self]
    split
    · rfl
    · exact (le_bot_iff.mp (hb ▸ hle j (by omega))).symm
  · have key : ∀ j, pickB w j = 1#1 ↔ place f j = n := fun j => by
      rw [pickB_iff w j (f p) hwle ⟨p, hwp⟩]
      constructor
      · rintro ⟨h1, h2⟩
        by_contra hne
        have hjn : ¬ place f j < n := fun h => by
          have : w j = ⊥ := by simp [hw, h]
          exact hb (h1.symm.trans this)
        have h3 : w j = f j := by simp [hw, hjn]
        rw [h3] at h1
        rcases (ahead_iff_place f p j).mpr (by omega) with h4 | h4
        · exact absurd h1 h4.ne
        · exact h2 p h4.2 hwp
      · intro h
        have : j = p := place_inj f (h.trans hp.symm)
        subst this
        refine ⟨hwp, fun k hk he => ?_⟩
        by_cases hkn : place f k < n
        · have : w k = ⊥ := by simp [hw, hkn]
          exact hb (he.symm.trans this)
        · have h3 : w k = f k := by simp [hw, hkn]
          have := (ahead_iff_place f k j).mp (.inr ⟨h3.symm.trans he, hk⟩)
          omega
    refine ⟨fun j => ?_, fun j _ _ => key j⟩
    unfold dropF
    rw [ninf_eq]
    by_cases h : place f j = n
    · rw [if_pos ((key j).mpr h), if_pos (by omega)]
    · rw [if_neg (fun h' => h ((key j).mp h'))]
      simp only [hw]
      by_cases h' : place f j < n
      · rw [if_pos h', if_pos (by omega)]
      · rw [if_neg h', if_neg (by omega)]

/-- After `n` rounds the first `n` blocks are gone and the others have their values. -/
theorem leftF_eq (n : Nat) (hn : n ≤ 128) : leftF f n = fun j => if place f j < n then ⊥ else f j := by
  induction n with
  | zero => funext j; simp [leftF]
  | succ n ih => rw [leftF, ih (by omega)]; funext j; exact (round f n (by omega)).1 j

/-- After `n` rounds the first `n` blocks are marked, as far as their values are not the least. -/
theorem marksF_eq (n : Nat) (hn : n ≤ 128) (j : Fin 128) (hj : f j ≠ ⊥) : marksF f n j = if place f j < n then 1 else 0 := by
  induction n with
  | zero => simp [marksF]
  | succ n ih =>
    rw [marksF, markF, leftF_eq f n (by omega), ih (by omega)]
    by_cases h : place f j < n
    · rw [if_pos h, if_pos (show place f j < n + 1 by omega), ite_self]
    · rw [if_neg h]
      have := (round f n (by omega)).2 j hj (by omega)
      by_cases h' : place f j = n
      · rw [if_pos (this.mpr h'), if_pos (by omega)]
      · rw [if_neg (fun h'' => h' (this.mp h'')), if_neg (by omega)]

/-- Sixteen rounds mark, of the blocks whose values exceed half the mask value, the chosen ones. -/
theorem rounds_chosen (j : Fin 128) : (if HALF < f j then marksF f 16 j else 0) = chosen f j := by
  unfold chosen
  by_cases h : HALF < f j
  · rw [if_pos h, marksF_eq f 16 (by omega) j (ne_bot_of_gt h)]
    simp [h]
  · rw [if_neg h, if_neg (fun h' => h h'.2)]

end Cert.CmpAttn

end
-- ==== Proof.CmpRounds.lean ====
/- The kernel's rounds of choosing blocks: each cuts the first greatest value out and marks its block. -/
module

public import proofs.«01_k».proof.Proof.CmpSelect
public import proofs.«01_k».proof.Proof.Gen.KernelIdeal.Frame

@[expose] public section

set_option maxRecDepth 16384

noncomputable section

namespace Cert.CmpAttn

open Cert.KernelIdeal Cert.KernelIdeal.Gen Idealize.ShloMosaic

section Rounds

variable {F : FTy → Type} [FloatOps F]

/-- The bits saying where the first greatest value of each column is. -/
def pickV (v : IVec S128x256 32) (w : FVec F S128x256 .f32) : IVec S128x256 1 := k0_pay13 v w
/-- The values with each column's first greatest one lowered out of the way. -/
def dropV (v : IVec S128x256 32) (w : FVec F S128x256 .f32) : FVec F S128x256 .f32 := select (pickV v w) (broadcast S128x256 (Scalar.ofBits .f32 0xFF800000#32)) w
/-- The marks with each column's first greatest value's block marked. -/
def markV (v : IVec S128x256 32) (w s : FVec F S128x256 .f32) : FVec F S128x256 .f32 := select (pickV v w) (broadcast S128x256 (Scalar.ofBits .f32 0x3F800000#32)) s
/-- The values left after `n` rounds. -/
def leftV (v : IVec S128x256 32) (w : FVec F S128x256 .f32) : Nat → FVec F S128x256 .f32
  | 0 => w
  | n + 1 => dropV v (leftV v w n)
/-- The marks after `n` rounds. -/
def marksV (v : IVec S128x256 32) (w : FVec F S128x256 .f32) : Nat → FVec F S128x256 .f32
  | 0 => k0_pay12
  | n + 1 => markV v (leftV v w n) (marksV v w n)
/-- What is kept of the marks: those of blocks whose importance exceeds half the mask value; rows become columns. -/
def keptV (imp s : FVec F S128x256 .f32) : FVec F S256x128 .bf16 :=
  truncf .bf16 (transpose S256x128 [1, 0] (select (cmpf .ogt imp (broadcast S128x256 (Scalar.ofBits .f32 0xF0C9F2CA#32))) s
    (broadcast S128x256 (Scalar.ofBits .f32 0x00000000#32))) transposes_S128x256_p1_0_S256x128) bitsLt_bf16_f32

variable (v : IVec S128x256 32) (w s : FVec F S128x256 .f32)

theorem step14 : k0_pay14 v w = markV v w k0_pay12 := rfl
theorem step15 : k0_pay15 v w = dropV v w := rfl
theorem step21 : k0_pay21 v w = dropV v w := rfl
theorem step30 : k0_pay30 v w = dropV v w := rfl
theorem step39 : k0_pay39 v w = dropV v w := rfl
theorem step48 : k0_pay48 v w = dropV v w := rfl
theorem step55 : k0_pay55 v w = dropV v w := rfl
theorem step74 : k0_pay74 v w = dropV v w := rfl
theorem step83 : k0_pay83 v w = dropV v w := rfl
theorem step93 : k0_pay93 v w = dropV v w := rfl
theorem step20 : k0_pay20 v s w = markV v w s := rfl
theorem step29 : k0_pay29 v s w = markV v w s := rfl
theorem step38 : k0_pay38 v s w = markV v w s := rfl
theorem step47 : k0_pay47 v s w = markV v w s := rfl
theorem step73 : k0_pay73 v s w = markV v w s := rfl
theorem step82 : k0_pay82 v s w = markV v w s := rfl
theorem step92 : k0_pay92 v s w = markV v w s := rfl
theorem step24 : k0_pay24 v w (multiReduction .maximumf [0] S256 w 0xFF800000#32 reduces_S128x256_S256 (.inl rfl) rfl) = dropV v (dropV v w) := rfl
theorem step23 : k0_pay23 v w s (multiReduction .maximumf [0] S256 w 0xFF800000#32 reduces_S128x256_S256 (.inl rfl) rfl) = markV v (dropV v w) (markV v w s) := rfl
theorem step69 : k0_pay69 v w = dropV v (dropV v w) := rfl
theorem step77 : k0_pay77 v w = dropV v (dropV v w) := rfl
theorem step60 : k0_pay60 v s w = markV v (dropV v w) (markV v w s) := rfl
theorem step68 : k0_pay68 v s w = markV v (dropV v w) (markV v w s) := rfl
theorem step76 : k0_pay76 v s w = markV v (dropV v w) (markV v w s) := rfl
theorem step32 : k0_pay32 v s (dropV v w) (k0_pay25 v w) = markV v (dropV v (dropV v w)) (markV v (dropV v w) s) := rfl
theorem step41 : k0_pay41 v s (dropV v w) (k0_pay34 v w) = markV v (dropV v (dropV v w)) (markV v (dropV v w) s) := rfl
theorem step50 : k0_pay50 v s (dropV v w) (k0_pay43 v w) = markV v (dropV v (dropV v w)) (markV v (dropV v w) s) := rfl
theorem step85 : k0_pay85 v s (dropV v w) (k0_pay78 v w) = markV v (dropV v (dropV v w)) (markV v (dropV v w) s) := rfl
theorem step57 : k0_pay57 v s (dropV v w) (k0_pay52 v w) (Scalar.ofBits .f32 0x3F800000#32) = markV v (dropV v (dropV v w)) (markV v (dropV v w) s) := rfl
theorem step95 : k0_pay95 v s (dropV v w) (k0_pay87 v w) k0_pay88 = markV v (dropV v (dropV v w)) (markV v (dropV v w) s) := rfl
theorem step65 : k0_pay65 v (dropV v w) (k0_pay59 v w) s (Scalar.ofBits .f32 0xFF800000#32) = markV v (dropV v (dropV v w)) s := rfl
theorem step33 : k0_pay33 v (dropV v w) (k0_pay25 v w) = dropV v (dropV v (dropV v w)) := rfl
theorem step42 : k0_pay42 v (dropV v w) (k0_pay34 v w) = dropV v (dropV v (dropV v w)) := rfl
theorem step51 : k0_pay51 v (dropV v w) (k0_pay43 v w) = dropV v (dropV v (dropV v w)) := rfl
theorem step58 : k0_pay58 v (dropV v w) (k0_pay52 v w) = dropV v (dropV v (dropV v w)) := rfl
theorem step86 : k0_pay86 v (dropV v w) (k0_pay78 v w) = dropV v (dropV v (dropV v w)) := rfl
theorem step66 : k0_pay66 v (dropV v w) (k0_pay59 v w) (Scalar.ofBits .f32 0xFF800000#32) = dropV v (dropV v (dropV v w)) := rfl
theorem step96 : k0_pay96 v (dropV v w) (k0_pay87 v w) k0_pay88 = dropV v (dropV v (dropV v w)) := rfl
theorem step98 (i : FVec F S128x256 .f32) : k0_pay98 v i s w = keptV i (markV v w s) := rfl
theorem step99 (i : FVec F S128x256 .f32) : k0_pay100 (k0_pay99 v i s (dropV v w) (k0_pay97 v w)) = keptV i (markV v (dropV v (dropV v w)) (markV v (dropV v w) s)) := rfl

variable (i : grid0.Coords) (x0 : Vec F S256x1024 .bf16) (x1 : Vec F S1x256x256 .bf16)

theorem leftV_succ (v : IVec S128x256 32) (w : FVec F S128x256 .f32) (n : Nat) : dropV v (leftV v w n) = leftV v w (n + 1) := rfl
theorem marksV_succ (v : IVec S128x256 32) (w : FVec F S128x256 .f32) (n : Nat) :
    markV v (leftV v w n) (marksV v w n) = marksV v w (n + 1) := rfl
theorem first_mark (v : IVec S128x256 32) (w : FVec F S128x256 .f32) : markV v w k0_pay12 = marksV v w 1 := rfl

theorem left116 : k0_pay116 i x0 x1 = leftV (k0_pay108 i x0 x1) (k0_pay112 i x0 x1) 1 := by
  unfold k0_pay116
  rw [step15]
  rfl
theorem left118 : k0_pay118 i x0 x1 = leftV (k0_pay108 i x0 x1) (k0_pay112 i x0 x1) 2 := by
  unfold k0_pay118
  rw [left116, step21]
  rfl
theorem left122 : k0_pay122 i x0 x1 = leftV (k0_pay108 i x0 x1) (k0_pay112 i x0 x1) 4 := by
  unfold k0_pay122 k0_pay120
  rw [left118, ← leftV_succ _ _ 1, left116, step33]
  rfl
theorem left124 : k0_pay124 i x0 x1 = leftV (k0_pay108 i x0 x1) (k0_pay112 i x0 x1) 5 := by
  unfold k0_pay124
  rw [left122, step39]
  rfl
theorem left128 : k0_pay128 i x0 x1 = leftV (k0_pay108 i x0 x1) (k0_pay112 i x0 x1) 7 := by
  unfold k0_pay128 k0_pay126
  rw [left124, left122, ← leftV_succ _ _ 4, step51]
  rfl
theorem left130 : k0_pay130 i x0 x1 = leftV (k0_pay108 i x0 x1) (k0_pay112 i x0 x1) 8 := by
  unfold k0_pay130
  rw [left128, step55]
  rfl
theorem left133 : k0_pay133 i x0 x1 = leftV (k0_pay108 i x0 x1) (k0_pay112 i x0 x1) 10 := by
  unfold k0_pay133 k0_pay132
  rw [left130, left128, ← leftV_succ _ _ 7, step66]
  rfl
theorem left136 : k0_pay136 i x0 x1 = leftV (k0_pay108 i x0 x1) (k0_pay112 i x0 x1) 12 := by
  unfold k0_pay136
  rw [left133, step77]
  rfl
theorem left138 : k0_pay138 i x0 x1 = leftV (k0_pay108 i x0 x1) (k0_pay112 i x0 x1) 13 := by
  unfold k0_pay138
  rw [left136, step83]
  rfl
theorem max117 : k0_pay117 i x0 x1 = multiReduction .maximumf [0] S256 (k0_pay115 i x0 x1) 0xFF800000#32 reduces_S128x256_S256 (.inl rfl) rfl := rfl
theorem left119 : k0_pay119 i x0 x1 = leftV (k0_pay108 i x0 x1) (k0_pay115 i x0 x1) 2 := by
  unfold k0_pay119
  rw [max117, step24]
  rfl
theorem left121 : k0_pay121 i x0 x1 = leftV (k0_pay108 i x0 x1) (k0_pay115 i x0 x1) 3 := by
  unfold k0_pay121
  rw [left119, step30]
  rfl
theorem left125 : k0_pay125 i x0 x1 = leftV (k0_pay108 i x0 x1) (k0_pay115 i x0 x1) 5 := by
  unfold k0_pay125 k0_pay123
  rw [left121, left119, ← leftV_succ _ _ 2, step42]
  rfl
theorem left127 : k0_pay127 i x0 x1 = leftV (k0_pay108 i x0 x1) (k0_pay115 i x0 x1) 6 := by
  unfold k0_pay127
  rw [left125, step48]
  rfl
theorem left131 : k0_pay131 i x0 x1 = leftV (k0_pay108 i x0 x1) (k0_pay115 i x0 x1) 8 := by
  unfold k0_pay131 k0_pay129
  rw [left127, left125, ← leftV_succ _ _ 5, step58]
  rfl
theorem left134 : k0_pay134 i x0 x1 = leftV (k0_pay108 i x0 x1) (k0_pay115 i x0 x1) 10 := by
  unfold k0_pay134
  rw [left131, step69]
  rfl
theorem left135 : k0_pay135 i x0 x1 = leftV (k0_pay108 i x0 x1) (k0_pay115 i x0 x1) 11 := by
  unfold k0_pay135
  rw [left134, step74]
  rfl
theorem left139 : k0_pay139 i x0 x1 = leftV (k0_pay108 i x0 x1) (k0_pay115 i x0 x1) 13 := by
  unfold k0_pay139 k0_pay137
  rw [left135, left134, ← leftV_succ _ _ 10, step86]
  rfl

/-- The last piece of the selection window: group 0's kept marks after sixteen rounds; the first piece: group 1's. -/
theorem out0_3_kept : out0_3 i x0 x1 = View.canon
    [⟨r0_10, keptV (k0_pay115 i x0 x1) (marksV (k0_pay108 i x0 x1) (k0_pay115 i x0 x1) 16)⟩,
     ⟨r0_9, keptV (k0_pay112 i x0 x1) (marksV (k0_pay108 i x0 x1) (k0_pay112 i x0 x1) 16)⟩] := by
  unfold out0_3 k0_pay120 k0_pay123 k0_pay126 k0_pay129 k0_pay132 k0_pay137 k0_pay140 k0_pay141
  rw [left139, left135, left134, left131, left127, left125, left121, left119, max117, left138, left136, left133, left130,
    left128, left124, left122, left118, left116]
  simp only [← leftV_succ _ _ 1, ← leftV_succ _ _ 4, ← leftV_succ _ _ 7, ← leftV_succ _ _ 12, ← leftV_succ _ _ 2, ← leftV_succ _ _ 5, ← leftV_succ _ _ 10]
  simp only [step14, step20, step32, step38, step50, step60, step65, step76, step82, step95, step96, step98,
    step23, step29, step41, step47, step57, step68, step73, step85, step92, step93, step99]
  rfl

end Rounds

section Read
variable (i : grid0.Coords) (x0 : Vec Ideal S256x1024 .bf16) (x1 : Vec Ideal S1x256x256 .bf16)

theorem pickV_read (w : FVec Ideal S128x256 .f32) (j : Fin 128) (p : Fin 256) :
    pickV (k0_pay108 i x0 x1) w (ix2 j p) = pickB (fun x => w (ix2 x p)) j := by
  unfold pickV pickB
  pointwise [k0_pay13, k0_pay108]

theorem dropV_read (w : FVec Ideal S128x256 .f32) (j : Fin 128) (p : Fin 256) :
    dropV (k0_pay108 i x0 x1) w (ix2 j p) = dropF (fun x => w (ix2 x p)) j := by
  unfold dropV dropF
  pointwise []
  rw [pickV_read]
  rfl

theorem markV_read (w s : FVec Ideal S128x256 .f32) (j : Fin 128) (p : Fin 256) :
    markV (k0_pay108 i x0 x1) w s (ix2 j p) = markF (fun x => w (ix2 x p)) (fun x => s (ix2 x p)) j := by
  unfold markV markF
  pointwise []
  rw [pickV_read]
  rfl

theorem leftV_read (w : FVec Ideal S128x256 .f32) (n : Nat) (p : Fin 256) :
    (fun j => leftV (k0_pay108 i x0 x1) w n (ix2 j p)) = leftF (fun x => w (ix2 x p)) n := by
  induction n with
  | zero => rfl
  | succ n ih => funext j; rw [leftV, dropV_read, ih]; rfl

theorem marksV_read (w : FVec Ideal S128x256 .f32) (n : Nat) (p : Fin 256) :
    (fun j => marksV (k0_pay108 i x0 x1) w n (ix2 j p)) = marksF (fun x => w (ix2 x p)) n := by
  induction n with
  | zero =>
    funext j
    unfold marksV marksF
    pointwise [k0_pay12]
  | succ n ih => funext j; rw [marksV, markV_read, ih, leftV_read]; rfl

theorem kept_read (w : FVec Ideal S128x256 .f32) (p : Fin 256) (j : Fin 128) :
    keptV w (marksV (k0_pay108 i x0 x1) w 16) (ix2 p j) = chosen (fun x => w (ix2 x p)) j := by
  unfold keptV
  pointwise []
  rw [← rounds_chosen, ← marksV_read i x0 x1]
end Read

end Cert.CmpAttn

end
-- ==== Proof.CmpRef.lean ====
/- The reference of the compressed branch reads, index by index, as the functions of `CmpSpec`. -/
module

public import proofs.«01_k».proof.Proof.CmpSelect
public import proofs.«01_k».proof.Proof.Gen.ReferenceIdeal.Read

@[expose] public section

set_option maxRecDepth 16384

noncomputable section

namespace Cert.CmpAttn

open Cert.ReferenceIdeal Cert.ReferenceIdeal.Read Idealize.ShloMosaic

variable (A : QArr) (B : KArr)

/-- The two halves put together: head `(g, r)`'s own 64 numbers. -/
theorem ref_q (b : Fin 4) (t : Fin 8192) (g : Fin 2) (r : Fin 4) (d : Fin 64) :
    val_main_v8 (F := Ideal) A (ix5 b t g r d) = A (ix2 (row b t) (qcol g r d)) := by
  pointwise [val_main_v8, val_main_v7, val_main_v6, val_main_v5, val_main_v4, val_main_v3, val_main_v2, val_main_v1, val_main_v0]
  split
  · rename_i h
    congr 2 <;> ext <;> simp <;> omega
  · rename_i h
    congr 2 <;> ext <;> simp <;> omega

theorem ref_score (b : Fin 4) (t : Fin 8192) (g : Fin 2) (r : Fin 4) (c : Fin 256) :
    val_main_v15 (F := Ideal) A B (ix5 b t g r c) = score A B b t g r c := by
  pointwise [val_main_v15, val_main_v14, dot_S4x256x2x64_S4x8192x2x4x64_S4x2x256x8192x4_3_4_1_13_02_02, val_main_v13, val_main_v12, val_main_v10, val_main_v9]
  unfold score
  refine Finset.sum_congr rfl fun d _ => ?_
  rw [ref_q, mul_comm]
  congr 3 <;> ext <;> simp <;> omega

/-- The bit of a proposition. -/
abbrev bit (p : Prop) [Decidable p] : BitVec 1 := BitVec.ofBool (decide p)

theorem ref_ended (b : Fin 4) (t : Fin 8192) (g : Fin 2) (r : Fin 4) (c : Fin 256) :
    IntOp.cmpi CmpIPredicate.sle (IntOp.addi (IntOp.muli (BitVec.ofNat 32 c.val) 32#32) 31#32) (BitVec.ofNat 32 t.val) = bit (ended t c) := by
  have e : IntOp.addi (IntOp.muli (BitVec.ofNat 32 c.val) 32#32) 31#32 = BitVec.ofNat 32 (32 * c.val + 31) := by
    revert c; decide +kernel
  rw [e, WordCmp.cmpi_sle_ofNat (by omega) (by omega)]

theorem select_bit (p : Prop) [Decidable p] {α : Type} (x y : α) : Scalar.select (bit p) x y = if p then x else y := by
  by_cases h : p <;> simp [bit, h, Scalar.select]

theorem ref_masked (b : Fin 4) (t : Fin 8192) (g : Fin 2) (r : Fin 4) (c : Fin 256) :
    val_main_v27 (F := Ideal) A B (ix5 b t g r c) = masked A B b t g r c := by
  pointwise [val_main_v27, val_main_call0_v0, val_main_call0_v2, val_main_cst, val_main_call0_v1, val_main_v26, val_main_v25, val_main_v24, val_main_v23, val_main_v22, val_main_v21, val_main_v20, val_main_v19, val_main_v18, val_main_v17, val_main_v16, val_main_c, val_main_c_0, val_main_v11, id]
  rw [ref_ended b t g r c, select_bit, ref_score]
  rfl

theorem ref_fold (b : Fin 4) (t : Fin 8192) (g : Fin 2) (r : Fin 4) :
    val_main_v28 (F := Ideal) A B (ix4 b t g r) = Finset.univ.fold max NINF fun k => val_main_v27 (F := Ideal) A B (ix5 b t g r k) := by
  unfold val_main_v28 val_main_cst_1
  generalize val_main_v27 (F := Ideal) A B = x
  pointwise

theorem ninf_max (x : EReal) : max NINF x = x := by rw [ninf_eq]; exact max_eq_right bot_le

theorem max_read (x y : EReal) (hx : x = NINF) : FloatOps.maximumf (F := Ideal) (φ := .f32) x y = y := by
  subst hx; exact ninf_max y

theorem ref_low (b : Fin 4) (t : Fin 8192) (g : Fin 2) (r : Fin 4) : val_main_v29 (F := Ideal) (ix4 b t g r) = NINF := rfl

theorem ref_max (b : Fin 4) (t : Fin 8192) (g : Fin 2) (r : Fin 4) :
    val_main_v30 (F := Ideal) A B (ix4 b t g r) = Finset.univ.fold max NINF fun k => masked A B b t g r k := by
  have e2 : val_main_v28 (F := Ideal) A B (ix4 b t g r) = Finset.univ.fold max NINF fun k => masked A B b t g r k :=
    (ref_fold A B b t g r).trans (congrArg (fun h => Finset.univ.fold max NINF h) (funext fun k => ref_masked A B b t g r k))
  rw [val_main_v30_apply, max_read _ _ (ref_low b t g r)]
  exact e2

theorem ref_expo (b : Fin 4) (t : Fin 8192) (g : Fin 2) (r : Fin 4) (c : Fin 256) :
    val_main_v34 (F := Ideal) A B (ix5 b t g r c) = expo A B b t g r c := by
  pointwise [val_main_v34, val_main_v33, val_main_v32, val_main_v31]
  rw [ref_max, ref_masked]
  rfl

theorem ref_prob (b : Fin 4) (t : Fin 8192) (g : Fin 2) (r : Fin 4) (c : Fin 256) :
    val_main_v42 (F := Ideal) A B (ix5 b t g r c) = prob A B b t g r c := by
  pointwise [val_main_v42, val_main_v41, val_main_v40, val_main_v39, val_main_v38, val_main_v37, val_main_v36, val_main_v35, val_main_cst_3, val_main_v26, val_main_v25, val_main_v24, val_main_v23, val_main_v22, val_main_v21, val_main_v20, val_main_v19, val_main_v18, val_main_v17, val_main_v16, val_main_c, val_main_c_0, val_main_v11]
  rw [ref_ended b t g r c, ref_expo]
  simp only [ref_expo]
  unfold prob
  by_cases h : ended t c
  · rw [if_pos h]
    have e : FloatOps.sitofp (F := Ideal) FTy.f32 (BitVec.setWidth 32 (bit (ended t c))) = (1 : EReal) := by
      rw [bit, decide_eq_true h]
      show (((BitVec.setWidth 32 (BitVec.ofBool true)).toInt : ℝ) : EReal) = 1
      rw [show (BitVec.setWidth 32 (BitVec.ofBool true)).toInt = 1 from by decide]
      simp
    rw [e, mul_one]
  · rw [if_neg h]
    have e : FloatOps.sitofp (F := Ideal) FTy.f32 (BitVec.setWidth 32 (bit (ended t c))) = (0 : EReal) := by
      rw [bit, decide_eq_false h]
      show (((BitVec.setWidth 32 (BitVec.ofBool false)).toInt : ℝ) : EReal) = 0
      rw [show (BitVec.setWidth 32 (BitVec.ofBool false)).toInt = 0 from by decide]
      simp
    rw [e, mul_zero]

theorem ref_attn (b : Fin 4) (t : Fin 8192) (g : Fin 2) (r : Fin 4) (d : Fin 64) :
    val_main_v46 (F := Ideal) A B (ix5 b t g r d) = attn A B b t g r d := by
  pointwise [val_main_v46, val_main_v45, dot_S4x256x2x64_S4x8192x2x4x256_S4x2x64x8192x4_1_4_3_13_02_02, val_main_v44, val_main_v43, val_main_v10, val_main_v9]
  unfold attn
  refine Finset.sum_congr rfl fun c _ => ?_
  rw [ref_prob, mul_comm]
  congr 3 <;> ext <;> simp <;> omega

theorem ref_cur (t : Fin 8192) : val_main_v51 (F := Ideal) (ix1 t) = BitVec.ofNat 32 (t.val / 64) := by
  pointwise [val_main_v51, val_main_call1_v0, val_main_call1_v1, val_main_call1_v2, val_main_call1_v3, val_main_call1_v4, val_main_call1_v5, val_main_call1_v6, val_main_call1_v7, val_main_call1_v8, val_main_call1_v9, val_main_call1_v10, val_main_call1_v11, val_main_call1_v12, val_main_call1_v13, val_main_call1_c, val_main_call1_c_0, val_main_c_6, val_main_v11]
  revert t
  decide +kernel

theorem or_bit (p q : Prop) [Decidable p] [Decidable q] : IntOp.ori (bit p) (bit q) = bit (p ∨ q) := by
  by_cases hp : p <;> by_cases hq : q <;> simp [bit, hp, hq, IntOp.ori]

theorem and_bit (p q : Prop) [Decidable p] [Decidable q] : IntOp.andi (bit p) (bit q) = bit (p ∧ q) := by
  by_cases hp : p <;> by_cases hq : q <;> simp [bit, hp, hq, IntOp.andi]

theorem ref_imp (b : Fin 4) (t : Fin 8192) (g : Fin 2) (j : Fin 128) :
    val_main_v70 (F := Ideal) A B (ix4 b t g j) = imp A B b t g j := by
  pointwise [val_main_v70, val_main_call3_v2, val_main_call3_v1, val_main_call3_v0, val_main_cst_9, val_main_v69, val_main_v68, val_main_call2_v2, val_main_call2_v1, val_main_call2_v0, val_main_cst_8, val_main_v67, val_main_v66, val_main_v65, val_main_v64, val_main_v63, val_main_v62, val_main_v61, val_main_v60, val_main_v59, val_main_v58, val_main_c_7, val_main_v57, val_main_v56, val_main_v55, val_main_v54, val_main_v53, val_main_v52, val_main_v50, val_main_v49, val_main_cst_5, val_main_v48, val_main_v47, val_main_cst_4, id]
  rw [ref_cur, WordCmp.cmpi_sgt_ofNat (by omega) (by omega)]
  have e1 : IntOp.cmpi CmpIPredicate.eq (BitVec.ofNat 32 j.val) (BitVec.ofNat 32 (t.val / 64)) = bit (j.val = t.val / 64) := by
    exact WordCmp.cmpi_eq_ofNat (by omega) (by omega)
  have e2 : IntOp.cmpi CmpIPredicate.eq (BitVec.ofNat 32 j.val) 0#32 = bit (j.val = 0) := by
    exact WordCmp.cmpi_eq_ofNat (b := 0) (by omega) (by omega)
  rw [e1, e2, or_bit, select_bit, select_bit]
  unfold imp
  refine if_congr Iff.rfl rfl (if_congr Iff.rfl rfl ?_)
  simp only [ref_prob, Fin.sum_univ_two]
  rw [Finset.sum_add_distrib]
  congr 1 <;> refine Finset.sum_congr rfl fun r _ => ?_ <;> congr 1 <;> ext <;> simp <;> omega

theorem along3 (b : Fin 4) (t : Fin 8192) (g : Fin 2) (m k : Fin 128) :
    (ix4 b t g m : S4x8192x2x128.Idx).along (3 : Fin S4x8192x2x128.rank) k = ix4 b t g k := by
  funext a
  match a with
  | ⟨0, _⟩ => rfl
  | ⟨1, _⟩ => rfl
  | ⟨2, _⟩ => rfl
  | ⟨3, _⟩ => rfl

theorem before_eq (v : Fin 128 → EReal) :
    (fun k k' => FloatOps.cmpfTotal (F := Ideal) (φ := .f32) CmpDirection.gt (v k) (v k') == 1#1) = before v := by
  funext k k'
  show (BitVec.ofBool (decide (v k' < v k)) == 1#1) = decide (v k' < v k)
  by_cases h : v k' < v k <;> simp [h]

theorem topK_values (x : Vec Ideal S4x8192x2x128 .f32) (b : Fin 4) (t : Fin 8192) (g : Fin 2) (n : Fin 16) (h) :
    (Host.topK S4x8192x2x16 3 (FloatOps.cmpfTotal (F := Ideal) (φ := .f32) .gt) x h).1 (ix4 b t g n)
      = x (ix4 b t g (sortedFrom (before fun k => x (ix4 b t g k)) (n.castLE (by omega)))) := by
  unfold Host.topK Host.sort2
  simp only [dif_pos (show 3 < S4x8192x2x128.rank by decide)]
  rw [← before_eq]
  pointwise []
  simp only [along3]
  rfl

theorem topK_indices (x : Vec Ideal S4x8192x2x128 .f32) (b : Fin 4) (t : Fin 8192) (g : Fin 2) (n : Fin 16) (h) :
    (Host.topK S4x8192x2x16 3 (FloatOps.cmpfTotal (F := Ideal) (φ := .f32) .gt) x h).2 (ix4 b t g n)
      = BitVec.ofNat 32 (sortedFrom (before fun k => x (ix4 b t g k)) (n.castLE (by omega))).val := by
  unfold Host.topK Host.sort2
  simp only [dif_pos (show 3 < S4x8192x2x128.rank by decide)]
  rw [← before_eq]
  pointwise []
  simp only [along3]
  rfl

theorem ref_values (b : Fin 4) (t : Fin 8192) (g : Fin 2) (n : Fin 16) :
    val_main_values (F := Ideal) A B (ix4 b t g n)
      = imp A B b t g (sortedFrom (before (imp A B b t g)) (n.castLE (by omega))) := by
  have h := topK_values (val_main_v70 (F := Ideal) A B) b t g n (by decide)
  rw [show (fun k => val_main_v70 (F := Ideal) A B (ix4 b t g k)) = imp A B b t g from
    funext (ref_imp A B b t g), ref_imp] at h
  exact h

theorem ref_indices (b : Fin 4) (t : Fin 8192) (g : Fin 2) (n : Fin 16) :
    val_main_indices (F := Ideal) A B (ix4 b t g n)
      = BitVec.ofNat 32 (sortedFrom (before (imp A B b t g)) (n.castLE (by omega))).val := by
  have h := topK_indices (val_main_v70 (F := Ideal) A B) b t g n (by decide)
  rw [show (fun k => val_main_v70 (F := Ideal) A B (ix4 b t g k)) = imp A B b t g from
    funext (ref_imp A B b t g)] at h
  exact h

theorem ref_sel (b : Fin 4) (t : Fin 8192) (g : Fin 2) (j : Fin 128) :
    val_main_v83 (F := Ideal) A B (ix4 b t g j) = chosen (imp A B b t g) j := by
  pointwise [val_main_v83, val_main_cst_13, val_main_v82, val_main_v81, val_main_call4_v1, val_main_call4_v0, val_main_cst_12, val_main_cst_11, val_main_v80, val_main_v79, val_main_v78, val_main_v77, val_main_v76, val_main_cst_10, val_main_v75, val_main_v74, val_main_v73, val_main_v72, val_main_v71, val_main_v50, id]
  rw [← sorted_chosen (imp A B b t g) j NINF (by rw [ninf_eq]; exact bot_le)]
  refine congrArg (fun h => Finset.univ.fold max NINF h) (funext fun n => ?_)
  refine (congrArg₂ (fun x y => Scalar.select (IntOp.andi (IntOp.cmpi CmpIPredicate.eq x (BitVec.ofNat 32 j.val))
    (BitVec.ofBool (decide (HALF < y)))) (1 : EReal) 0) (ref_indices A B b t g n) (ref_values A B b t g n)).trans ?_
  generalize sortedFrom (before (imp A B b t g)) (n.castLE _) = k
  have e : IntOp.cmpi CmpIPredicate.eq (BitVec.ofNat 32 k.val) (BitVec.ofNat 32 j.val) = bit (k = j) := by
    refine (WordCmp.cmpi_eq_ofNat (by omega) (by omega)).trans ?_
    by_cases h : k = j
    · simp [bit, h]
    · simp [bit, h, Fin.val_ne_of_ne h]
  rw [e]
  exact (congrArg (fun z => Scalar.select z (1 : EReal) 0) (and_bit _ _)).trans (select_bit _ _ _)

/-- The reference's first result is the attention output. -/
theorem ref_out0 : val_main_v84 (F := Ideal) A B = outAttn A B := by
  funext i
  idx_vars i
  pointwise [val_main_v84]
  rw [ref_attn]
  unfold outAttn
  refine congrArg (fun r => attn A B _ _ _ r _) (Fin.ext ?_)
  show i1.val / 64 % 4 = i1.val % 256 / 64
  omega

/-- The reference's second result is the choice of blocks. -/
theorem ref_out1 : val_main_v86 (F := Ideal) A B = outSel A B := by
  funext i
  idx_vars i
  pointwise [val_main_v86, val_main_v85]
  rw [ref_sel]
  rfl

end Cert.CmpAttn

end
-- ==== Proof.CmpPay.lean ====
/- The kernel's payloads read, index by index. -/
module

public import proofs.«01_k».proof.Proof.CmpRounds
public import proofs.«01_k».proof.Proof.CmpRef

@[expose] public section

set_option maxRecDepth 16384

noncomputable section

namespace Cert.CmpAttn

open Cert.KernelIdeal Cert.KernelIdeal.Gen Idealize.ShloMosaic

/-- The token of row `p` of the tile `n`. -/
abbrev tok (n : Fin 32) (p : Fin 256) : Fin 8192 := ⟨256 * n.val + p.val, by omega⟩
/-- Row `p` of head `h` in the four heads laid one below another. -/
abbrev hrow (h : Fin 4) (p : Fin 256) : Fin 1024 := ⟨256 * h.val + p.val, by omega⟩
/-- The compressed token at place `k` of the kernel's order: the even ones, then the odd ones. -/
abbrev evenOdd (k : Fin 256) : Fin 256 := if h : k.val < 128 then ⟨2 * k.val, by omega⟩ else ⟨2 * (k.val - 128) + 1, by omega⟩

/-- The order is a rearrangement. -/
def evenOddEquiv : Fin 256 ≃ Fin 256 := Equiv.ofBijective evenOdd (Finite.injective_iff_bijective.mp (by decide +kernel))

theorem sum_order (f : Fin 256 → EReal) : ∑ k, f (evenOdd k) = ∑ k, f k := Equiv.sum_comp evenOddEquiv f

theorem fold_order (f : Fin 256 → EReal) :
    (Finset.univ.fold max NINF fun k => f (evenOdd k)) = Finset.univ.fold max NINF f := by
  have h := Finset.fold_map (op := (max : EReal → EReal → EReal)) (g := evenOddEquiv.toEmbedding) (f := f) (b := NINF)
    (s := (Finset.univ : Finset (Fin 256)))
  rw [Finset.map_univ_equiv] at h
  exact h.symm

variable (i : grid0.Coords) (x0 : Vec Ideal S256x1024 .bf16) (x1 : Vec Ideal S1x256x256 .bf16)

theorem ends_at (k : Fin 256) : (IntOp.addi
        (IntOp.muli
          (Scalar.select (IntOp.cmpi CmpIPredicate.slt (BitVec.ofNat 32 k.val) 128#32)
            (IntOp.muli (2#32) (BitVec.ofNat 32 k.val))
            (IntOp.addi (IntOp.muli (2#32) (IntOp.subi (BitVec.ofNat 32 k.val) 128#32)) 1#32))
          32#32)
        31#32) = BitVec.ofNat 32 (32 * (evenOdd k).val + 31) := by
  revert k; decide +kernel

theorem row_in_tile (r : Fin 1024) : (Scalar.select
          (IntOp.andi
            (IntOp.xori
              (IntOp.cmpi CmpIPredicate.slt
                (IntOp.remsi ArithUnit.vector (BitVec.ofNat 32 r.val)
                  (Scalar.select (Scalar.cmpi CmpIPredicate.eq 256#32 0#32) 1#32 256#32))
                0#32)
              (Scalar.cmpi CmpIPredicate.slt (Scalar.select (Scalar.cmpi CmpIPredicate.eq 256#32 0#32) 1#32 256#32)
                0#32))
            (IntOp.cmpi CmpIPredicate.ne
              (IntOp.remsi ArithUnit.vector (BitVec.ofNat 32 r.val)
                (Scalar.select (Scalar.cmpi CmpIPredicate.eq 256#32 0#32) 1#32 256#32))
              0#32))
          (IntOp.addi
            (IntOp.remsi ArithUnit.vector (BitVec.ofNat 32 r.val)
              (Scalar.select (Scalar.cmpi CmpIPredicate.eq 256#32 0#32) 1#32 256#32))
            (Scalar.select (Scalar.cmpi CmpIPredicate.eq 256#32 0#32) 1#32 256#32))
          (IntOp.remsi ArithUnit.vector (BitVec.ofNat 32 r.val)
            (Scalar.select (Scalar.cmpi CmpIPredicate.eq 256#32 0#32) 1#32 256#32))) = BitVec.ofNat 32 (r.val % 256) := by
  revert r; decide +kernel

theorem tile_start (n : Nat) : Scalar.muli (BitVec.ofNat 32 n) 256#32 = BitVec.ofNat 32 (256 * n) := by
  rw [Nat.mul_comm]; exact (BitVec.ofNat_mul ..).symm

theorem add_ofNat (a c : Nat) : IntOp.addi (BitVec.ofNat 32 a) (BitVec.ofNat 32 c) = BitVec.ofNat 32 (a + c) :=
  (BitVec.ofNat_add ..).symm

theorem pay107_read (r : Fin 1024) (k : Fin 256) :
    k0_pay107 i x0 x1 (ix2 r k) = bit (ended (tok (i 1) ⟨r.val % 256, by omega⟩) (evenOdd k)) := by
  pointwise [k0_pay107, k0_pay2]
  rw [ends_at, row_in_tile, tile_start, add_ofNat]
  have h1 := (i 1).isLt
  have h2 := (evenOdd k).isLt
  exact WordCmp.cmpi_sle_ofNat (by omega) (by change (i 1).val < 32 at h1; omega)

theorem block_of (t : Fin 8192) : Scalar.select
      (IntOp.andi
        (IntOp.cmpi CmpIPredicate.ne
          (IntOp.subi
            (BitVec.setWidth 32 (IntOp.cmpi CmpIPredicate.sgt (BitVec.ofNat 32 t.val) 0#32))
            (BitVec.setWidth 32 (IntOp.cmpi CmpIPredicate.slt (BitVec.ofNat 32 t.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 t.val) 64#32) 0#32))
      (IntOp.subi (IntOp.divsi ArithUnit.vector (BitVec.ofNat 32 t.val) 64#32) 1#32)
      (IntOp.divsi ArithUnit.vector (BitVec.ofNat 32 t.val) 64#32) = BitVec.ofNat 32 (t.val / 64) := by
  revert t; decide +kernel

theorem pay109_read (j : Fin 128) (p : Fin 256) :
    k0_pay109 i x0 x1 (ix2 j p) = BitVec.ofNat 32 ((tok (i 1) p).val / 64) := by
  pointwise [k0_pay109, k0_pay3]
  rw [tile_start, add_ofNat]
  exact block_of (tok (i 1) p)

theorem pay108_read (j : Fin 128) (p : Fin 256) : k0_pay108 i x0 x1 (ix2 j p) = BitVec.ofNat 32 j.val := by
  pointwise [k0_pay108]

theorem pay106_read (k l : Fin 256) : k0_pay106 i x0 x1 (ix2 k l) = x1 (ix3 0 k l) := by
  unfold k0_pay106
  rw [View.ld_unit_zero (by funext a; fin_cases a <;> rfl)]
  pointwise [k0_pay1]

variable (A : QArr) (B : KArr) (b : Fin 4)

/-- The column of lane `l` of head `h` of group `g`. -/
abbrev lane (g : Fin 2) (h : Fin 4) (l : Fin 128) : Fin 1024 := ⟨512 * g.val + 128 * h.val + l.val, by omega⟩

/-- The rows of a head not its group's own are zero. -/
abbrev Padded : Prop := ∀ (r : Fin 32768) (g : Fin 2) (h : Fin 4) (l : Fin 128), l.val / 64 ≠ g.val → A (ix2 r (lane g h l)) = 0

theorem sum_halves (f : Fin 128 → EReal) :
    ∑ x, f x = (∑ d : Fin 64, f ⟨d.val, by omega⟩) + ∑ d : Fin 64, f ⟨64 + d.val, by omega⟩ :=
  Fin.sum_univ_add (a := 64) (b := 64) f

theorem dot_own (hz : Padded A) (t : Fin 8192) (g : Fin 2) (h : Fin 4) (c : Fin 256) :
    ∑ x : Fin 128, A (ix2 (row b t) (lane g h x)) * B (ix2 (key b c) ⟨x.val, by omega⟩) = score A B b t g h c := by
  rw [sum_halves]
  unfold score
  have hg : g = 0 ∨ g = 1 := by omega
  rcases hg with rfl | rfl
  · rw [Finset.sum_eq_zero (s := Finset.univ) (f := fun d : Fin 64 => A (ix2 (row b t) (lane 0 h ⟨64 + d.val, by omega⟩)) * _)
      (fun d _ => by rw [hz _ _ _ _ (by show (64 + d.val) / 64 ≠ 0; omega), zero_mul]), add_zero]
    refine Finset.sum_congr rfl fun d _ => ?_
    congr 3 <;> ext <;> simp
  · rw [Finset.sum_eq_zero (s := Finset.univ) (f := fun d : Fin 64 => A (ix2 (row b t) (lane 1 h ⟨d.val, by omega⟩)) * _)
      (fun d _ => by rw [hz _ _ _ _ (by show d.val / 64 ≠ 1; omega), zero_mul]), zero_add]
    refine Finset.sum_congr rfl fun d _ => ?_
    congr 3 <;> ext <;> simp <;> omega

section Weights
variable (P : Fin 4 → Vec Ideal S256x128 .bf16) (v2 : FVec Ideal S256x256 .bf16) (v40 : IVec S1024x256 1)

theorem pay4_read (h : Fin 4) (p k : Fin 256) :
    k0_pay4 v2 v40 (P 0) (P 1) (P 2) (P 3) (ix2 (hrow h p) k)
      = Ideal.exp (Scalar.select (v40 (ix2 (hrow h p) k)) (∑ x : Fin 128, P h (ix2 p x) * v2 (ix2 k ⟨x.val, by omega⟩)) NEG
        - Finset.univ.fold max NINF fun k => Scalar.select (v40 (ix2 (hrow h p) k)) (∑ x : Fin 128, P h (ix2 p x) * v2 (ix2 k ⟨x.val, by omega⟩)) NEG) := by
  pointwise [k0_pay4]
  have hp := p.isLt
  have e : ∀ x : Fin 128, (if h0 : 256 * h.val + p.val < 256 then P 0 (ix2 ⟨256 * h.val + p.val, h0⟩ x)
      else if h1 : 256 * h.val + p.val - 256 < 256 then P 1 (ix2 ⟨256 * h.val + p.val - 256, h1⟩ x)
      else if h2 : 256 * h.val + p.val - 256 - 256 < 256 then P 2 (ix2 ⟨256 * h.val + p.val - 256 - 256, h2⟩ x)
      else P 3 (ix2 ⟨256 * h.val + p.val - 256 - 256 - 256, by omega⟩ x)) = P h (ix2 p x) := by
    intro x
    have : h = 0 ∨ h = 1 ∨ h = 2 ∨ h = 3 := by omega
    rcases this with rfl | rfl | rfl | rfl
    · rw [dif_pos (by simp)]; congr 2; ext; simp
    · rw [dif_neg (by simp), dif_pos (by simp)]; congr 2; ext; simp
    · have e2 : (2 : Fin 4).val = 2 := rfl
      simp only [e2]
      rw [dif_neg (by omega), dif_neg (by omega), dif_pos (by omega)]; congr 2; ext; show 256 * 2 + p.val - 256 - 256 = p.val; omega
    · have e3 : (3 : Fin 4).val = 3 := rfl
      simp only [e3]
      rw [dif_neg (by omega), dif_neg (by omega), dif_neg (by omega)]; congr 2; ext; show 256 * 3 + p.val - 256 - 256 - 256 = p.val; omega
  simp only [e]
end Weights

theorem pay8_eq (v2 : FVec Ideal S256x256 .bf16) (v40 : IVec S1024x256 1) (a c d e) : k0_pay8 v2 v40 a c d e = k0_pay4 v2 v40 a c d e := rfl
theorem pay9_eq (v40 : IVec S1024x256 1) (v : FVec Ideal S1024x256 .f32) : k0_pay9 v40 v = k0_pay5 v40 v := rfl
theorem pay10_eq (v2 : FVec Ideal S256x256 .bf16) (v40 : IVec S1024x256 1) (v : FVec Ideal S1024x256 .f32) : k0_pay10 v2 v40 v = k0_pay6 v2 v40 v := rfl
theorem pay11_eq (v40 : IVec S1024x256 1) (v41 v68 : IVec S128x256 32) (v : FVec Ideal S1024x256 .f32) : k0_pay11 v40 v41 v68 v = k0_pay7 v40 v41 v68 v := rfl

end Cert.CmpAttn

end
-- ==== Proof.CmpTile.lean ====
/- A tile of the kernel: its blocks' exponentials, probabilities, outputs and importances. -/
module

public import proofs.«01_k».proof.Proof.CmpPay
public import Idealize.ShloMosaic.Lib.Pipeline.ValueKit.Tiles

@[expose] public section

set_option maxRecDepth 16384

noncomputable section

namespace Cert.CmpAttn

open Cert.KernelIdeal Cert.KernelIdeal.Gen Idealize.ShloMosaic

variable (i : grid0.Coords) (x0 : Vec Ideal S256x1024 .bf16) (x1 : Vec Ideal S1x256x256 .bf16)
variable (A : QArr) (B : KArr) (b : Fin 4)

theorem ld_head (o : Nat) (inb) (ho : o + 128 ≤ 1024) (p : Fin 256) (l : Fin 128) :
    View.ld x0 (Rect.unit (s := S256x1024) ![0, o] S256x128.size inb) (ix2 p l) = x0 (ix2 p ⟨o + l.val, by omega⟩) := by
  refine View.ld_unit_apply_of x0 _ _ _ _ _ fun a => ?_
  fin_cases a
  · show p.val = 0 + p.val; omega
  · rfl

/-- The four heads' rows of group `g`. -/
def heads (g : Fin 2) : Fin 4 → Vec Ideal S256x128 .bf16 :=
  if g = 0 then ![View.ld x0 r0_1, View.ld x0 r0_2, View.ld x0 r0_3, View.ld x0 r0_4]
  else ![View.ld x0 r0_5, View.ld x0 r0_6, View.ld x0 r0_7, View.ld x0 r0_8]

theorem heads_read (g : Fin 2) (h : Fin 4) (p : Fin 256) (l : Fin 128) : heads x0 g h (ix2 p l) = x0 (ix2 p (lane g h l)) := by
  have hg : g = 0 ∨ g = 1 := by omega
  have hh : h = 0 ∨ h = 1 ∨ h = 2 ∨ h = 3 := by omega
  rcases hg with rfl | rfl <;> rcases hh with rfl | rfl | rfl | rfl <;>
    exact (ld_head x0 _ _ (by omega) p l).trans (congrArg (fun c => x0 (ix2 p c)) (Fin.ext rfl))

/-- What the blocks hold: the queries' rows of a tile, the keys and values of a batch in the kernel's order. -/
structure Holds : Prop where
  q : ∀ (p : Fin 256) (c : Fin 1024), x0 (ix2 p c) = A (ix2 (row b (tok (i 1) p)) c)
  kv : ∀ k l : Fin 256, x1 (ix3 0 k l) = B (ix2 (key b (evenOdd k)) l)

/-- The exponentials of group `g`'s scores, as the kernel has them. -/
def expV (g : Fin 2) : FVec Ideal S1024x256 .f32 :=
  k0_pay4 (k0_pay106 i x0 x1) (k0_pay107 i x0 x1) (heads x0 g 0) (heads x0 g 1) (heads x0 g 2) (heads x0 g 3)

theorem expV_zero : k0_pay110 i x0 x1 = expV i x0 x1 0 := rfl
theorem expV_one : k0_pay113 i x0 x1 = expV i x0 x1 1 := rfl

theorem hrow_mod (h : Fin 4) (p : Fin 256) : (⟨(hrow h p).val % 256, by omega⟩ : Fin 256) = p := by
  ext; show (256 * h.val + p.val) % 256 = p.val; omega

variable {i x0 x1 A B b}

theorem expV_read (H : Holds i x0 x1 A B b) (hz : Padded A) (g : Fin 2) (h : Fin 4) (p k : Fin 256) :
    expV i x0 x1 g (ix2 (hrow h p) k) = expo A B b (tok (i 1) p) g h (evenOdd k) := by
  unfold expV expo
  rw [pay4_read (heads x0 g)]
  have e : ∀ k, Scalar.select (k0_pay107 i x0 x1 (ix2 (hrow h p) k))
      (∑ x : Fin 128, heads x0 g h (ix2 p x) * k0_pay106 i x0 x1 (ix2 k ⟨x.val, by omega⟩)) NEG
      = masked A B b (tok (i 1) p) g h (evenOdd k) := fun k => by
    rw [pay107_read, select_bit]
    simp only [heads_read, pay106_read, H.q, H.kv]
    rw [dot_own A B b hz, hrow_mod]
    rfl
  simp only [e]
  rw [fold_order fun k => masked A B b (tok (i 1) p) g h k]

theorem prob_read (H : Holds i x0 x1 A B b) (hz : Padded A) (g : Fin 2) (h : Fin 4) (p k : Fin 256) :
    k0_pay5 (k0_pay107 i x0 x1) (expV i x0 x1 g) (ix2 (hrow h p) k) = prob A B b (tok (i 1) p) g h (evenOdd k) := by
  pointwise [k0_pay5]
  rw [pay107_read, select_bit]
  simp only [expV_read H hz]
  rw [sum_order fun k => expo A B b (tok (i 1) p) g h k, hrow_mod]
  rfl

theorem out_read (H : Holds i x0 x1 A B b) (hz : Padded A) (g : Fin 2) (h : Fin 4) (p : Fin 256) (d : Fin 64) :
    k0_pay6 (k0_pay106 i x0 x1) (k0_pay107 i x0 x1) (expV i x0 x1 g) (ix2 (hrow h p) ⟨64 * g.val + d.val, by omega⟩)
      = attn A B b (tok (i 1) p) g h d := by
  pointwise [k0_pay6]
  simp only [prob_read H hz, pay106_read, H.kv]
  unfold attn
  rw [← sum_order fun k => prob A B b (tok (i 1) p) g h k * B (ix2 (key b k) (vcol g d))]
  refine Finset.sum_congr rfl fun k _ => ?_
  congr 3
  ext
  show 128 + (64 * g.val + d.val) = 128 + 64 * g.val + d.val
  omega

theorem evenOdd_low (j : Fin 128) : evenOdd ⟨j.val, by omega⟩ = ⟨2 * j.val, by omega⟩ := dif_pos j.isLt
theorem evenOdd_high (j : Fin 128) : evenOdd ⟨128 + j.val, by omega⟩ = ⟨2 * j.val + 1, by omega⟩ := by
  unfold evenOdd; rw [dif_neg (by simp)]; ext; simp

theorem hrows (p : Fin 256) : (⟨p.val, by omega⟩ : Fin 1024) = hrow 0 p ∧ (⟨256 + p.val, by omega⟩ : Fin 1024) = hrow 1 p
    ∧ (⟨512 + p.val, by omega⟩ : Fin 1024) = hrow 2 p ∧ (⟨768 + p.val, by omega⟩ : Fin 1024) = hrow 3 p := by
  refine ⟨?_, ?_, ?_, ?_⟩ <;> ext <;> simp

theorem imp_read (H : Holds i x0 x1 A B b) (hz : Padded A) (g : Fin 2) (j : Fin 128) (p : Fin 256) :
    k0_pay7 (k0_pay107 i x0 x1) (k0_pay108 i x0 x1) (k0_pay109 i x0 x1) (expV i x0 x1 g) (ix2 j p)
      = imp A B b (tok (i 1) p) g j := by
  pointwise [k0_pay7]
  have h1 := (i 1).isLt
  change (i 1).val < 32 at h1
  have e1 : IntOp.cmpi CmpIPredicate.sgt (k0_pay108 i x0 x1 (ix2 j p)) (k0_pay109 i x0 x1 (ix2 j p)) = bit ((tok (i 1) p).val / 64 < j.val) := by
    rw [pay108_read, pay109_read]
    exact WordCmp.cmpi_sgt_ofNat (by omega) (by omega)
  have e2 : IntOp.cmpi CmpIPredicate.eq (k0_pay108 i x0 x1 (ix2 j p)) (k0_pay109 i x0 x1 (ix2 j p)) = bit (j.val = (tok (i 1) p).val / 64) := by
    rw [pay108_read, pay109_read]
    exact WordCmp.cmpi_eq_ofNat (by omega) (by omega)
  have e3 : IntOp.cmpi CmpIPredicate.eq (k0_pay108 i x0 x1 (ix2 j p)) 0#32 = bit (j.val = 0) := by
    rw [pay108_read]
    exact WordCmp.cmpi_eq_ofNat (b := 0) (by omega) (by omega)
  obtain ⟨r0, r1, r2, r3⟩ := hrows p
  rw [e1, e2, e3, or_bit, select_bit, select_bit, r0, r1, r2, r3]
  simp only [prob_read H hz]
  rw [evenOdd_low, evenOdd_high]
  unfold imp
  refine if_congr Iff.rfl rfl (if_congr Iff.rfl rfl ?_)
  rw [Finset.sum_add_distrib, Fin.sum_univ_four, Fin.sum_univ_four]

/-- The rows of the kernel's own lanes: group 0's in the low half, group 1's in the high half; of an odd head the
    lanes are turned by half. -/
theorem pay101_read (p : Fin 256) (l : Fin 128) : k0_pay101 (ix2 p l) = bit (l.val < 64) := by
  pointwise [k0_pay101]
  revert l
  decide +kernel

section Lanes
variable (v : FVec Ideal S1024x128 .f32) (H : Holds i x0 x1 A B b) (hz : Padded A)

theorem pay102_read (H : Holds i x0 x1 A B b) (hz : Padded A) (p : Fin 256) (l : Fin 128) :
    k0_pay102 (k0_pay6 (k0_pay106 i x0 x1) (k0_pay107 i x0 x1) (expV i x0 x1 0)) (ix2 p l)
      = attn A B b (tok (i 1) p) 0 ⟨l.val / 64, by omega⟩ ⟨l.val % 64, by omega⟩ := by
  pointwise [k0_pay102]
  rw [pay101_read, select_bit]
  obtain ⟨r0, r1, r2, r3⟩ := hrows p
  have hl := l.isLt
  by_cases h : l.val < 64
  · rw [if_pos h, show (⟨l.val / 64, by omega⟩ : Fin 4) = 0 from Fin.ext (by show l.val / 64 = 0; omega), ← out_read H hz]
    rw [r0]
    refine congrArg (fun c => k0_pay6 _ _ _ (ix2 (hrow 0 p) c)) (Fin.ext ?_)
    show l.val = 64 * 0 + l.val % 64
    omega
  · rw [if_neg h, show (⟨l.val / 64, by omega⟩ : Fin 4) = 1 from Fin.ext (by show l.val / 64 = 1; omega), ← out_read H hz]
    rw [r1]
    refine congrArg (fun c => k0_pay6 _ _ _ (ix2 (hrow 1 p) c)) (Fin.ext ?_)
    show (l.val + 128 - 64) % 128 = 64 * 0 + l.val % 64
    omega

theorem pay103_read (H : Holds i x0 x1 A B b) (hz : Padded A) (p : Fin 256) (l : Fin 128) :
    k0_pay103 (k0_pay6 (k0_pay106 i x0 x1) (k0_pay107 i x0 x1) (expV i x0 x1 0)) (ix2 p l)
      = attn A B b (tok (i 1) p) 0 ⟨2 + l.val / 64, by omega⟩ ⟨l.val % 64, by omega⟩ := by
  pointwise [k0_pay103]
  rw [pay101_read, select_bit]
  obtain ⟨r0, r1, r2, r3⟩ := hrows p
  have hl := l.isLt
  by_cases h : l.val < 64
  · rw [if_pos h, show (⟨2 + l.val / 64, by omega⟩ : Fin 4) = 2 from Fin.ext (by show 2 + l.val / 64 = 2; omega), ← out_read H hz]
    rw [r2]
    refine congrArg (fun c => k0_pay6 _ _ _ (ix2 (hrow 2 p) c)) (Fin.ext ?_)
    show l.val = 64 * 0 + l.val % 64
    omega
  · rw [if_neg h, show (⟨2 + l.val / 64, by omega⟩ : Fin 4) = 3 from Fin.ext (by show 2 + l.val / 64 = 3; omega), ← out_read H hz]
    rw [r3]
    refine congrArg (fun c => k0_pay6 _ _ _ (ix2 (hrow 3 p) c)) (Fin.ext ?_)
    show (l.val + 128 - 64) % 128 = 64 * 0 + l.val % 64
    omega

theorem pay104_read (H : Holds i x0 x1 A B b) (hz : Padded A) (p : Fin 256) (l : Fin 128) :
    k0_pay104 (k0_pay6 (k0_pay106 i x0 x1) (k0_pay107 i x0 x1) (expV i x0 x1 1)) (ix2 p l)
      = attn A B b (tok (i 1) p) 1 ⟨l.val / 64, by omega⟩ ⟨l.val % 64, by omega⟩ := by
  pointwise [k0_pay104]
  rw [pay101_read, select_bit]
  obtain ⟨r0, r1, r2, r3⟩ := hrows p
  have hl := l.isLt
  by_cases h : l.val < 64
  · rw [if_pos h, show (⟨l.val / 64, by omega⟩ : Fin 4) = 0 from Fin.ext (by show l.val / 64 = 0; omega), ← out_read H hz]
    rw [r0]
    refine congrArg (fun c => k0_pay6 _ _ _ (ix2 (hrow 0 p) c)) (Fin.ext ?_)
    show (l.val + 128 - 64) % 128 = 64 * 1 + l.val % 64
    omega
  · rw [if_neg h, show (⟨l.val / 64, by omega⟩ : Fin 4) = 1 from Fin.ext (by show l.val / 64 = 1; omega), ← out_read H hz]
    rw [r1]
    refine congrArg (fun c => k0_pay6 _ _ _ (ix2 (hrow 1 p) c)) (Fin.ext ?_)
    show l.val = 64 * 1 + l.val % 64
    omega

theorem pay105_read (H : Holds i x0 x1 A B b) (hz : Padded A) (p : Fin 256) (l : Fin 128) :
    k0_pay105 (k0_pay6 (k0_pay106 i x0 x1) (k0_pay107 i x0 x1) (expV i x0 x1 1)) (ix2 p l)
      = attn A B b (tok (i 1) p) 1 ⟨2 + l.val / 64, by omega⟩ ⟨l.val % 64, by omega⟩ := by
  pointwise [k0_pay105]
  rw [pay101_read, select_bit]
  obtain ⟨r0, r1, r2, r3⟩ := hrows p
  have hl := l.isLt
  by_cases h : l.val < 64
  · rw [if_pos h, show (⟨2 + l.val / 64, by omega⟩ : Fin 4) = 2 from Fin.ext (by show 2 + l.val / 64 = 2; omega), ← out_read H hz]
    rw [r2]
    refine congrArg (fun c => k0_pay6 _ _ _ (ix2 (hrow 2 p) c)) (Fin.ext ?_)
    show (l.val + 128 - 64) % 128 = 64 * 1 + l.val % 64
    omega
  · rw [if_neg h, show (⟨2 + l.val / 64, by omega⟩ : Fin 4) = 3 from Fin.ext (by show 2 + l.val / 64 = 3; omega), ← out_read H hz]
    rw [r3]
    refine congrArg (fun c => k0_pay6 _ _ _ (ix2 (hrow 3 p) c)) (Fin.ext ?_)
    show l.val = 64 * 1 + l.val % 64
    omega

end Lanes

/-- What a tile's output block holds. -/
theorem out0_2_read (H : Holds i x0 x1 A B b) (hz : Padded A) (p : Fin 256) (c : Fin 512) :
    out0_2 i x0 x1 (ix2 p c)
      = attn A B b (tok (i 1) p) ⟨c.val / 256, by omega⟩ ⟨c.val / 64 % 4, by omega⟩ ⟨c.val % 64, by omega⟩ := by
  unfold out0_2
  refine View.canon_eq_of_allAt _ _ _ (cover0_2 _ _ _ _ _) ?_
  have hc := c.isLt
  refine View.allAt_cons_unit _ _ _ _ _ (fun x hx => ?_) ?_
  · have h0 : p.val = 0 + (x 0).val := hx 0
    have h1 : c.val = 384 + (x 1).val := hx 1
    obtain ⟨a, l, rfl⟩ : ∃ (a : Fin 256) (l : Fin 128), x = ix2 a l := ⟨x 0, x 1, by funext k; fin_cases k <;> rfl⟩
    change p.val = 0 + a.val at h0
    change c.val = 384 + l.val at h1
    obtain rfl : p = a := Fin.ext (by omega)
    have hl := l.isLt
    refine (pay105_read H hz p l).trans ?_
    congr 1 <;> apply Fin.ext <;> simp <;> omega
  refine View.allAt_cons_unit _ _ _ _ _ (fun x hx => ?_) ?_
  · have h0 : p.val = 0 + (x 0).val := hx 0
    have h1 : c.val = 256 + (x 1).val := hx 1
    obtain ⟨a, l, rfl⟩ : ∃ (a : Fin 256) (l : Fin 128), x = ix2 a l := ⟨x 0, x 1, by funext k; fin_cases k <;> rfl⟩
    change p.val = 0 + a.val at h0
    change c.val = 256 + l.val at h1
    obtain rfl : p = a := Fin.ext (by omega)
    have hl := l.isLt
    refine (pay104_read H hz p l).trans ?_
    congr 1 <;> apply Fin.ext <;> simp <;> omega
  refine View.allAt_cons_unit _ _ _ _ _ (fun x hx => ?_) ?_
  · have h0 : p.val = 0 + (x 0).val := hx 0
    have h1 : c.val = 128 + (x 1).val := hx 1
    obtain ⟨a, l, rfl⟩ : ∃ (a : Fin 256) (l : Fin 128), x = ix2 a l := ⟨x 0, x 1, by funext k; fin_cases k <;> rfl⟩
    change p.val = 0 + a.val at h0
    change c.val = 128 + l.val at h1
    obtain rfl : p = a := Fin.ext (by omega)
    have hl := l.isLt
    refine (pay103_read H hz p l).trans ?_
    congr 1 <;> apply Fin.ext <;> simp <;> omega
  refine View.allAt_cons_unit _ _ _ _ _ (fun x hx => ?_) ?_
  · have h0 : p.val = 0 + (x 0).val := hx 0
    have h1 : c.val = 0 + (x 1).val := hx 1
    obtain ⟨a, l, rfl⟩ : ∃ (a : Fin 256) (l : Fin 128), x = ix2 a l := ⟨x 0, x 1, by funext k; fin_cases k <;> rfl⟩
    change p.val = 0 + a.val at h0
    change c.val = 0 + l.val at h1
    obtain rfl : p = a := Fin.ext (by omega)
    have hl := l.isLt
    refine (pay102_read H hz p l).trans ?_
    congr 1 <;> apply Fin.ext <;> simp <;> omega
  exact View.allAt_nil _ _

/-- What a tile's selection block holds. -/
theorem out0_3_read (H : Holds i x0 x1 A B b) (hz : Padded A) (p c : Fin 256) :
    out0_3 i x0 x1 (ix2 p c) = chosen (imp A B b (tok (i 1) p) ⟨c.val / 128, by omega⟩) ⟨c.val % 128, by omega⟩ := by
  rw [out0_3_kept]
  refine View.canon_eq_of_allAt _ _ _ (cover0_3 _ _ _) ?_
  have hc := c.isLt
  refine View.allAt_cons_unit _ _ _ _ _ (fun x hx => ?_) ?_
  · have h0 : p.val = 0 + (x 0).val := hx 0
    have h1 : c.val = 128 + (x 1).val := hx 1
    obtain ⟨a, l, rfl⟩ : ∃ (a : Fin 256) (l : Fin 128), x = ix2 a l := ⟨x 0, x 1, by funext k; fin_cases k <;> rfl⟩
    change p.val = 0 + a.val at h0
    change c.val = 128 + l.val at h1
    obtain rfl : p = a := Fin.ext (by omega)
    have hl := l.isLt
    refine (kept_read i x0 x1 _ p l).trans ?_
    have e : (fun j => k0_pay115 i x0 x1 (ix2 j p)) = imp A B b (tok (i 1) p) 1 := funext fun j => imp_read H hz 1 j p
    rw [e]
    congr 2 <;> apply Fin.ext <;> simp <;> omega
  refine View.allAt_cons_unit _ _ _ _ _ (fun x hx => ?_) ?_
  · have h0 : p.val = 0 + (x 0).val := hx 0
    have h1 : c.val = 0 + (x 1).val := hx 1
    obtain ⟨a, l, rfl⟩ : ∃ (a : Fin 256) (l : Fin 128), x = ix2 a l := ⟨x 0, x 1, by funext k; fin_cases k <;> rfl⟩
    change p.val = 0 + a.val at h0
    change c.val = 0 + l.val at h1
    obtain rfl : p = a := Fin.ext (by omega)
    have hl := l.isLt
    refine (kept_read i x0 x1 _ p l).trans ?_
    have e : (fun j => k0_pay112 i x0 x1 (ix2 j p)) = imp A B b (tok (i 1) p) 0 := funext fun j => imp_read H hz 0 j p
    rw [e]
    congr 2 <;> apply Fin.ext <;> simp <;> omega
  exact View.allAt_nil _ _

end Cert.CmpAttn

end
-- ==== Proof.CmpValue.lean ====
/- The arrays the kernel of the compressed branch leaves. -/
module

public import proofs.«01_k».proof.Proof.CmpTile
public import proofs.«01_k».proof.Proof.Gen.KernelIdeal.Value
public import proofs.«01_k».proof.Pre_padding_is_zero

@[expose] public section

set_option maxRecDepth 16384

noncomputable section

namespace Cert.CmpAttn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The query rows of device `c`. -/
abbrev argQ (c : Dev nD) : QArr := m ((c : Thread nD τ).loc main_arg0)
/-- The keys and values of device `c`. -/
abbrev argK (c : Dev nD) : KArr := m ((c : Thread nD τ).loc main_arg1)

theorem coords_eq (t : Fin cfg0.N) : ((grid0.coords t) 0).val = t.val / 32 ∧ ((grid0.coords t) 1).val = t.val % 32 :=
  (by decide +kernel : ∀ t : Fin grid0.N, ((grid0.coords t) 0).val = t.val / 32 ∧ ((grid0.coords t) 1).val = t.val % 32) t

/-- The keys and values as the kernel is given them: of each batch the even rows, then the odd ones. -/
theorem V_main_v2 (c : Dev nD) (b : Fin 4) (k l : Fin 256) :
    (V m c main_v2 : S4x256x256.Idx → EReal) (ix3 b k l) = argK m c (ix2 (key b (evenOdd k)) l) := by
  have e : (V m c main_v2 : S4x256x256.Idx → EReal) = shapeCast S4x256x256 (transpose S4x2x128x256 [0, 2, 1, 3]
      (shapeCast S4x128x2x256 (argK m c) shapeCasts_S1024x256_S4x128x2x256)
      transposes_S4x128x2x256_S4x2x128x256_0_2_1_3) shapeCasts_S4x2x128x256_S4x256x256 := by
    show StableHlo.after hostOps0 _ (Proc.devRef .tc main_v2) = _
    after_results
    rfl
  rw [e]
  pointwise []
  refine congrArg (fun r => argK m c (ix2 r l)) (Fin.ext ?_)
  have hk := k.isLt
  show b.val * 256 + k.val % 128 * 2 + k.val / 128 = 256 * b.val + (evenOdd k).val
  by_cases h : k.val < 128
  · have : (evenOdd k).val = 2 * k.val := by unfold evenOdd; rw [dif_pos h]
    omega
  · have : (evenOdd k).val = 2 * (k.val - 128) + 1 := by unfold evenOdd; rw [dif_neg h]
    omega

/-- The batch of point `t`. -/
abbrev batch (t : Fin cfg0.N) : Fin 4 := ⟨t.val / 32, by have := t.isLt; have hN : cfg0.N = 128 := rfl; omega⟩

theorem holds (c : Dev nD) (t : Fin cfg0.N) :
    Holds (grid0.coords t) (iblk m c 0 t) (iblk m c 1 t) (argQ m c) (argK m c) (batch t) where
  q p l := by
    have e := (by decide +kernel : ∀ t : Fin grid0.N, win0_0.index t 0 * win0_0.size 0 = 256 * t.val ∧ win0_0.index t 1 * win0_0.size 1 = 0) t
    show (V m c main_arg0 : S32768x1024.Idx → EReal) (((cfg0.win 0).blk t).view.emb (ix2 p l : S256x1024.Idx)) = _
    rw [V_main_arg0]
    refine congrArg (argQ m c) (funext fun a => Fin.ext ?_)
    have h1 := (coords_eq t).2
    fin_cases a
    · show win0_0.index t 0 * win0_0.size 0 + 1 * p.val = 8192 * (t.val / 32) + (256 * ((grid0.coords t) 1).val + p.val)
      rw [e.1, h1]; omega
    · show win0_0.index t 1 * win0_0.size 1 + 1 * l.val = l.val
      rw [e.2]; omega
  kv k l := by
    have e := (by decide +kernel : ∀ t : Fin grid0.N, win0_1.index t 0 * win0_1.size 0 = t.val / 32 ∧ win0_1.index t 1 * win0_1.size 1 = 0 ∧ win0_1.index t 2 * win0_1.size 2 = 0) t
    refine Eq.trans ?_ (V_main_v2 m c (batch t) k l)
    show (V m c main_v2 : S4x256x256.Idx → EReal) (((cfg0.win 1).blk t).view.emb (ix3 0 k l : S1x256x256.Idx)) = _
    refine congrArg (V m c main_v2 : S4x256x256.Idx → EReal) (funext fun a => Fin.ext ?_)
    fin_cases a
    · show win0_1.index t 0 * win0_1.size 0 + 1 * 0 = t.val / 32
      rw [e.1]; omega
    · show win0_1.index t 1 * win0_1.size 1 + 1 * k.val = k.val
      rw [e.2.1]; omega
    · show win0_1.index t 2 * win0_1.size 2 + 1 * l.val = l.val
      rw [e.2.2]; omega

/-- An index of the array is in point `t`'s block of window 2: its row is one of the tile's. -/
theorem mem_blk2 (t : Fin cfg0.N) (i : S32768x512.Idx) :
    i ∈ ((cfg0.win 2).blk t).view.set ↔ 256 * t.val ≤ (i 0 : Nat) ∧ (i 0 : Nat) < 256 * t.val + 256 := by
  show i ∈ ((View.whole main_v3_0).slice (win0_2.rect t)).set ↔ _
  rw [View.set_slice_whole, Rect.mem_set_unit]
  have h1 : (i 1 : Nat) < 512 := (i 1).isLt
  have e : win0_2.index t 0 * win0_2.size 0 = 256 * t.val ∧ win0_2.xsize (grid0.coords t) 0 = 256
      ∧ win0_2.index t 1 * win0_2.size 1 = 0 ∧ win0_2.xsize (grid0.coords t) 1 = 512 := by
    have := (by decide +kernel : ∀ t : Fin grid0.N, win0_2.index t 0 * win0_2.size 0 = 256 * t.val ∧ win0_2.xsize (grid0.coords t) 0 = 256
      ∧ win0_2.index t 1 * win0_2.size 1 = 0 ∧ win0_2.xsize (grid0.coords t) 1 = 512)
    exact this t
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e.1, e.2.1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e.1, e.2.1]; exact h
    | ⟨1, _⟩ => show win0_2.index t 1 * win0_2.size 1 ≤ (i 1 : Nat) ∧ (i 1 : Nat) < win0_2.index t 1 * win0_2.size 1 + win0_2.xsize (grid0.coords t) 1
                rw [e.2.2.1, e.2.2.2]; omega

theorem cover2 (i : S32768x512.Idx) :
    ∃ t : Fin cfg0.N, (cfg0.win 2).flush t = true ∧ i ∈ ((cfg0.win 2).blk t).view.set := by
  have h0 : (i 0 : Nat) < 32768 := (i 0).isLt
  have hN : cfg0.N = 128 := rfl
  refine ⟨⟨(i 0 : Nat) / 256, by omega⟩, flush0_2 _, ?_⟩
  rw [mem_blk2]
  dsimp only
  omega

theorem flushed2 (c : Dev nD) (hz : Padded (argQ m c)) (t : Fin cfg0.N) :
    (dats m 0 c).flushed 2 t = ((cfg0.win 2).blk t).view.read (Elt Ideal) (outAttn (argQ m c) (argK m c)) := by
  rw [Value.flushed2 m c t]
  funext y
  obtain ⟨p, l, rfl⟩ : ∃ (p : Fin 256) (l : Fin 512), y = (ix2 p l : S256x512.Idx) := ⟨y 0, y 1, by funext k; fin_cases k <;> rfl⟩
  have hh := holds m c t
  have hc := coords_eq t
  have e0 : ((cfg0.win 2).blk t).view.emb (ix2 p l : S256x512.Idx) = (ix2 (⟨256 * t.val + p.val, by have := t.isLt; have hN : cfg0.N = 128 := rfl; omega⟩ : Fin 32768) l : S32768x512.Idx) := by
    have e := (by decide +kernel : ∀ t : Fin grid0.N, win0_2.index t 0 * win0_2.size 0 = 256 * t.val ∧ win0_2.index t 1 * win0_2.size 1 = 0) t
    funext a
    apply Fin.ext
    fin_cases a
    · show win0_2.index t 0 * win0_2.size 0 + 1 * p.val = 256 * t.val + p.val
      rw [e.1]; omega
    · show win0_2.index t 1 * win0_2.size 1 + 1 * l.val = l.val
      rw [e.2]; omega
  show out0_2 (grid0.coords t) (iblk m c 0 t) (iblk m c 1 t) (ix2 p l) = outAttn (argQ m c) (argK m c) (((cfg0.win 2).blk t).view.emb (ix2 p l : S256x512.Idx))
  rw [e0, out0_2_read hh hz]
  unfold outAttn
  have ht : t.val < 128 := t.isLt
  have h0 : ((grid0.coords t) 0).val = t.val / 32 := hc.1
  have h1 : ((grid0.coords t) 1).val = t.val % 32 := hc.2
  congr 1 <;> apply Fin.ext <;> simp [h0, h1] <;> omega

/-- The array of window 2 after the run. -/
theorem final2 (c : Dev nD) (hz : Padded (argQ m c)) : (dats m 0 c).arrAt 2 cfg0.N = outAttn (argQ m c) (argK m c) :=
  (dats m 0 c).arrAt_eq_of_cover 2 (outAttn (argQ m c) (argK m c)) (fun t _ => flushed2 m c hz t) cover2

/-- An index of the array is in point `t`'s block of window 3: its row is one of the tile's. -/
theorem mem_blk3 (t : Fin cfg0.N) (i : S32768x256.Idx) :
    i ∈ ((cfg0.win 3).blk t).view.set ↔ 256 * t.val ≤ (i 0 : Nat) ∧ (i 0 : Nat) < 256 * t.val + 256 := by
  show i ∈ ((View.whole main_v3_1).slice (win0_3.rect t)).set ↔ _
  rw [View.set_slice_whole, Rect.mem_set_unit]
  have h1 : (i 1 : Nat) < 256 := (i 1).isLt
  have e : win0_3.index t 0 * win0_3.size 0 = 256 * t.val ∧ win0_3.xsize (grid0.coords t) 0 = 256
      ∧ win0_3.index t 1 * win0_3.size 1 = 0 ∧ win0_3.xsize (grid0.coords t) 1 = 256 := by
    have := (by decide +kernel : ∀ t : Fin grid0.N, win0_3.index t 0 * win0_3.size 0 = 256 * t.val ∧ win0_3.xsize (grid0.coords t) 0 = 256
      ∧ win0_3.index t 1 * win0_3.size 1 = 0 ∧ win0_3.xsize (grid0.coords t) 1 = 256)
    exact this t
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e.1, e.2.1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e.1, e.2.1]; exact h
    | ⟨1, _⟩ => show win0_3.index t 1 * win0_3.size 1 ≤ (i 1 : Nat) ∧ (i 1 : Nat) < win0_3.index t 1 * win0_3.size 1 + win0_3.xsize (grid0.coords t) 1
                rw [e.2.2.1, e.2.2.2]; omega

theorem cover3 (i : S32768x256.Idx) :
    ∃ t : Fin cfg0.N, (cfg0.win 3).flush t = true ∧ i ∈ ((cfg0.win 3).blk t).view.set := by
  have h0 : (i 0 : Nat) < 32768 := (i 0).isLt
  have hN : cfg0.N = 128 := rfl
  refine ⟨⟨(i 0 : Nat) / 256, by omega⟩, flush0_3 _, ?_⟩
  rw [mem_blk3]
  dsimp only
  omega

theorem flushed3 (c : Dev nD) (hz : Padded (argQ m c)) (t : Fin cfg0.N) :
    (dats m 0 c).flushed 3 t = ((cfg0.win 3).blk t).view.read (Elt Ideal) (outSel (argQ m c) (argK m c)) := by
  rw [Value.flushed3 m c t]
  funext y
  obtain ⟨p, l, rfl⟩ : ∃ (p : Fin 256) (l : Fin 256), y = (ix2 p l : S256x256.Idx) := ⟨y 0, y 1, by funext k; fin_cases k <;> rfl⟩
  have hh := holds m c t
  have hc := coords_eq t
  have e0 : ((cfg0.win 3).blk t).view.emb (ix2 p l : S256x256.Idx) = (ix2 (⟨256 * t.val + p.val, by have := t.isLt; have hN : cfg0.N = 128 := rfl; omega⟩ : Fin 32768) l : S32768x256.Idx) := by
    have e := (by decide +kernel : ∀ t : Fin grid0.N, win0_3.index t 0 * win0_3.size 0 = 256 * t.val ∧ win0_3.index t 1 * win0_3.size 1 = 0) t
    funext a
    apply Fin.ext
    fin_cases a
    · show win0_3.index t 0 * win0_3.size 0 + 1 * p.val = 256 * t.val + p.val
      rw [e.1]; omega
    · show win0_3.index t 1 * win0_3.size 1 + 1 * l.val = l.val
      rw [e.2]; omega
  show out0_3 (grid0.coords t) (iblk m c 0 t) (iblk m c 1 t) (ix2 p l) = outSel (argQ m c) (argK m c) (((cfg0.win 3).blk t).view.emb (ix2 p l : S256x256.Idx))
  rw [e0, out0_3_read hh hz]
  unfold outSel
  have ht : t.val < 128 := t.isLt
  have h0 : ((grid0.coords t) 0).val = t.val / 32 := hc.1
  have h1 : ((grid0.coords t) 1).val = t.val % 32 := hc.2
  congr 2 <;> apply Fin.ext <;> simp [h0, h1] <;> omega

/-- The array of window 3 after the run. -/
theorem final3 (c : Dev nD) (hz : Padded (argQ m c)) : (dats m 0 c).arrAt 3 cfg0.N = outSel (argQ m c) (argK m c) :=
  (dats m 0 c).arrAt_eq_of_cover 3 (outSel (argQ m c) (argK m c)) (fun t _ => flushed3 m c hz t) cover3

/-- The precondition's side conditions. -/
theorem preFacts : Cert.Pre_padding_is_zero.Facts where
  bcast_S_S32768x1024 := by decide
  bitsLt_bf16_f32 := by decide

theorem own_bit (k : Fin 1024) : IntOp.cmpi CmpIPredicate.eq (IntOp.andi (IntOp.shrsi ArithUnit.host (BitVec.ofNat 32 k.val) 6#32) 1#32)
    (IntOp.shrsi ArithUnit.host (BitVec.ofNat 32 k.val) 9#32) = bit (k.val / 64 % 2 = k.val / 512) := by
  revert k; decide +kernel

/-- The precondition says that lanes not a head's own are zero. -/
theorem padded_of_pre [Cert.Pre_padding_is_zero.Facts] (A : QArr) (B : KArr)
    (h : Cert.Pre_padding_is_zero.fn (F := Ideal) A B = fun _ => 1#1) : Padded A := by
  intro r g hd l hl
  have h1 := congrFun h (ix2 r (lane g hd l))
  unfold Cert.Pre_padding_is_zero.fn at h1
  have h2 : IntOp.ori (bit ((lane g hd l).val / 64 % 2 = (lane g hd l).val / 512)) (bit (A (ix2 r (lane g hd l)) = 0)) = 1#1 := by
    rw [← h1]
    pointwise []
    exact congrArg (fun z => IntOp.ori z _) (own_bit (lane g hd l)).symm
  rw [or_bit] at h2
  have h3 : ¬ ((lane g hd l).val / 64 % 2 = (lane g hd l).val / 512) := by
    show ¬ ((512 * g.val + 128 * hd.val + l.val) / 64 % 2 = (512 * g.val + 128 * hd.val + l.val) / 512)
    have a1 : (512 * g.val + 128 * hd.val + l.val) / 64 = 8 * g.val + 2 * hd.val + l.val / 64 := by omega
    have a2 : (512 * g.val + 128 * hd.val + l.val) / 512 = g.val := by omega
    rw [a1, a2]
    omega
  by_contra h4
  simp [bit, h3, h4] at h2

end Cert.CmpAttn

end
-- ==== Proof.CmpClaim.lean ====
/- The claim about the compressed branch, put together. -/
module

public import proofs.«01_k».proof.Defs
public import proofs.«01_k».proof.Proof.CmpValue
public import proofs.«01_k».proof.Proof.Gen.ReferenceIdeal.Run
public import Idealize.ShloMosaic.Lib.Quiescent

@[expose] public section

set_option maxRecDepth 16384

noncomputable section

namespace Cert.CmpAttn

open Idealize.ShloMosaic Idealize.ShloMosaic.TcCoe Idealize.SL.Sem

/-- The reference of the compressed branch runs, leaves its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => ⟨(h c).2.2.1, (h c).2.2.2⟩, sem_eq_zero_of_no_sems (by decide) r.2⟩)
    (Cert.ReferenceIdeal.Value.run m g)

/-- The kernel of the compressed branch and its reference leave the same arrays where the padding is zero. -/
theorem cmp_algebraic : Cert.algebraic_KernelIdeal_ReferenceIdeal_pre_padding_is_zero (hKernelIdeal := Cert.KernelIdeal.Gen.facts)
    (hReferenceIdeal := Cert.ReferenceIdeal.Gen.facts) (hPre_padding_is_zero := preFacts) := by
  intro m ρ m' ρ' hpre hagree
  have hz : ∀ c : Dev Cert.KernelIdeal.nD, Padded (argQ m c) := fun c =>
    haveI := preFacts; padded_of_pre (argQ m c) (argK m c) (hpre c)
  refine ⟨fun c => outAttn (argQ m c) (argK m c), fun c => outSel (argQ m c) (argK m c), ?_, ?_⟩
  · exact (θ_run _ _ _).mono (fun r h c => ⟨(h c).1.trans (final2 m c (hz c)), (h c).2.1.trans (final3 m c (hz c)), (h c).2.2⟩)
      (Cert.KernelIdeal.Value.run_blocks m ρ)
  · refine (θ_run _ _ _).mono (fun r h c => ⟨?_, ?_, (h c).2.2⟩) (Cert.ReferenceIdeal.Value.run m' ρ')
    · refine (h c).1.trans ((Cert.ReferenceIdeal.Read.val_main_v84_eq m' c).trans ?_)
      rw [(hagree c).1, (hagree c).2]
      exact ref_out0 _ _
    · refine (h c).2.1.trans ((Cert.ReferenceIdeal.Read.val_main_v86_eq m' c).trans ?_)
      rw [(hagree c).1, (hagree c).2]
      exact ref_out1 _ _

end Cert.CmpAttn

end
-- ==== Proof.FfnSpec.lean ====
/- The convolved feed-forward layer as functions of its argument arrays. -/
module

public import Idealize.ShloMosaic.PureOps
public import Idealize.ShloMosaic.PureOps.Ideal
public import Idealize.ShloMosaic.Lib.Pointwise.Index
public import Idealize.ShloMosaic.Lib.Pointwise.Tactic
public import Idealize.ShloMosaic.Lib.Pointwise.Sums
public import Idealize.ShloMosaic.Lib.Pointwise.Contract
public import Idealize.ShloMosaic.Lib.Pointwise.Reduce
public import Idealize.ShloMosaic.Lib.Pointwise.ReduceUnfold
public import Idealize.ShloMosaic.Lib.Pointwise.Select
public import Idealize.ShloMosaic.Lib.Pointwise.Reshape
public import Mathlib.Data.EReal.Operations
public import Mathlib.Algebra.BigOperators.Fin

@[expose] public section

noncomputable section

namespace Cert.FfnVal

open Idealize.ShloMosaic

/-- The rows: one per token. -/
abbrev XArr := (⟨2, ![32768, 1024]⟩ : Shape).Idx → EReal
/-- The two gate rows before each sequence. -/
abbrev PArr := (⟨3, ![4, 2, 2816]⟩ : Shape).Idx → EReal
/-- The scales of the norms. -/
abbrev NArr := (⟨2, ![6, 1024]⟩ : Shape).Idx → EReal
/-- The weights into the layer: the gate's columns, then the other factor's. -/
abbrev WArr := (⟨2, ![1024, 5632]⟩ : Shape).Idx → EReal
/-- The convolution's weights. -/
abbrev TArr := (⟨2, ![3, 2816]⟩ : Shape).Idx → EReal
/-- The convolution's bias. -/
abbrev BArr := (⟨1, ![2816]⟩ : Shape).Idx → EReal
/-- The weights out of the layer. -/
abbrev OArr := (⟨2, ![2816, 1024]⟩ : Shape).Idx → EReal

/-- The row of token `s` of sequence `b`. -/
abbrev row (b : Fin 4) (s : Fin 8192) : Fin 32768 := ⟨b.val * 8192 + s.val, by omega⟩
/-- The gate's column. -/
abbrev gcol (f : Fin 2816) : Fin 5632 := ⟨f.val, by omega⟩
/-- The other factor's column. -/
abbrev ucol (f : Fin 2816) : Fin 5632 := ⟨2816 + f.val, by omega⟩

/-- A row over the root of its mean square, scaled. -/
def normed (v g : Fin 1024 → EReal) (l : Fin 1024) : EReal :=
  v l * Ideal.rsqrt (Ideal.div (∑ k, v k * v k) (Ideal.ofBits .f32 0x44800000#32) + Ideal.ofBits .f32 0x358637BD#32) * g l

variable (X : XArr) (P : PArr) (N : NArr) (W : WArr) (T : TArr) (B : BArr) (O : OArr)

/-- The normalised row. -/
def hid (b : Fin 4) (s : Fin 8192) (l : Fin 1024) : EReal := normed (fun k => X (ix2 (row b s) k)) (fun k => N (ix2 4 k)) l
/-- The gate before the convolution. -/
def gate (b : Fin 4) (s : Fin 8192) (f : Fin 2816) : EReal := ∑ k, hid X N b s k * W (ix2 k (gcol f))
/-- The other factor. -/
def up (b : Fin 4) (s : Fin 8192) (f : Fin 2816) : EReal := ∑ k, hid X N b s k * W (ix2 k (ucol f))
/-- The sequence's gate with the two rows before it put in front. -/
def ext (b : Fin 4) (n : Fin 8194) (f : Fin 2816) : EReal :=
  if h : n.val < 2 then P (ix3 b ⟨n.val, h⟩ f) else gate X N W b ⟨n.val - 2, by omega⟩ f
/-- The gate convolved over a token and the two before it. -/
def conv (b : Fin 4) (s : Fin 8192) (f : Fin 2816) : EReal :=
  B (ix1 f) + ext X P N W b ⟨s.val, by omega⟩ f * T (ix2 0 f) + ext X P N W b ⟨s.val + 1, by omega⟩ f * T (ix2 1 f)
    + ext X P N W b ⟨s.val + 2, by omega⟩ f * T (ix2 2 f)
/-- The product that the output weights take. -/
def act (b : Fin 4) (s : Fin 8192) (f : Fin 2816) : EReal :=
  conv X P N W T B b s f * Ideal.logistic (conv X P N W T B b s f) * up X N W b s f
/-- What the output weights give. -/
def mixed (b : Fin 4) (s : Fin 8192) (l : Fin 1024) : EReal := ∑ f, act X P N W T B b s f * O (ix2 f l)
/-- The row with the layer's contribution added. -/
def out (b : Fin 4) (s : Fin 8192) (l : Fin 1024) : EReal :=
  X (ix2 (row b s) l) + normed (mixed X P N W T B O b s) (fun k => N (ix2 5 k)) l

/-- The output array. -/
def outArr : XArr := fun i => out X P N W T B O ⟨(i 0).val / 8192, by have : (i 0).val < 32768 := (i 0).isLt; omega⟩
  ⟨(i 0).val % 8192, Nat.mod_lt _ (by decide)⟩ ⟨(i 1).val, (i 1).isLt⟩
/-- The last two gate rows of each tile of 512. -/
def tailArr : (⟨3, ![64, 2, 2816]⟩ : Shape).Idx → EReal := fun i =>
  gate X N W ⟨(i 0).val / 16, by have : (i 0).val < 64 := (i 0).isLt; omega⟩
    ⟨(i 0).val % 16 * 512 + (510 + (i 1).val), by have : (i 1).val < 2 := (i 1).isLt; omega⟩ ⟨(i 2).val, (i 2).isLt⟩

end Cert.FfnVal

end
-- ==== Proof.MidSpec.lean ====
/- The layer that mixes the heads and reads the memory, as functions of its argument arrays. -/
module

public import proofs.«01_k».proof.Proof.FfnSpec

@[expose] public section

noncomputable section

namespace Cert.MidVal

open Idealize.ShloMosaic Cert.FfnVal

/-- Rows of 1024 numbers, one per token. -/
abbrev XArr := (⟨2, ![32768, 1024]⟩ : Shape).Idx → EReal
/-- Rows of 512 numbers. -/
abbrev SArr := (⟨2, ![32768, 512]⟩ : Shape).Idx → EReal
/-- Rows of 256 numbers. -/
abbrev RArr := (⟨2, ![32768, 256]⟩ : Shape).Idx → EReal
/-- The memory's keys (the first 1024 columns) and values (the last 1024), for each sequence. -/
abbrev MArr := (⟨3, ![4, 256, 2048]⟩ : Shape).Idx → EReal
/-- The scales of the norms. -/
abbrev NArr := (⟨2, ![6, 1024]⟩ : Shape).Idx → EReal
/-- The scales and shifts of the recurrent heads. -/
abbrev LArr := (⟨2, ![6, 256]⟩ : Shape).Idx → EReal
/-- Square weights. -/
abbrev WArr := (⟨2, ![1024, 1024]⟩ : Shape).Idx → EReal

/-- The least float, from which a maximum starts. -/
abbrev NINF : EReal := Ideal.ofBits .f32 0xFF800000#32

/-- The mean of a head's 64 numbers. -/
def mean (v : Fin 64 → EReal) : EReal := Ideal.div (∑ d, v d) (Ideal.ofBits .f32 0x42800000#32)
/-- A head's numbers less their mean, over the root of their variance. -/
def gnorm (v : Fin 64 → EReal) (d : Fin 64) : EReal :=
  (v d - mean v) * Ideal.rsqrt (mean (fun e => (v e - mean v) * (v e - mean v)) + Ideal.ofBits .f32 0x3A27C5AC#32)
/-- The score of a query against each of a head's 256 keys. -/
def score (q : Fin 256 → EReal) (K : Fin 256 → Fin 256 → EReal) (m : Fin 256) : EReal := ∑ d, q d * K m d
/-- The exponential of a score less the largest. -/
def expo (q : Fin 256 → EReal) (K : Fin 256 → Fin 256 → EReal) (m : Fin 256) : EReal :=
  Ideal.exp (score q K m - Finset.univ.fold max NINF fun k => score q K k)
/-- Attention of one query over a head's keys and values. -/
def attend (q : Fin 256 → EReal) (K V : Fin 256 → Fin 256 → EReal) (d : Fin 256) : EReal :=
  ∑ m, Ideal.div (expo q K m) (∑ k, expo q K k) * V m d

/-- Column `d` of head `h` of four heads of 64. -/
abbrev col64 (h : Fin 4) (d : Fin 64) : Fin 256 := ⟨64 * h.val + d.val, by omega⟩
/-- Column `d` of head `h` of four heads of 256. -/
abbrev col256 (h : Fin 4) (d : Fin 256) : Fin 1024 := ⟨256 * h.val + d.val, by omega⟩
/-- The sequence of a row. -/
abbrev seq (r : Fin 32768) : Fin 4 := ⟨r.val / 8192, by omega⟩

variable (X : XArr) (A : RArr) (S : SArr) (Y G B : RArr) (M : MArr) (N : NArr) (L : LArr) (O Q W : WArr)

/-- The recurrent heads' output: normalised by head, scaled, shifted, with the bonus, gated. -/
def rec (r : Fin 32768) (c : Fin 256) : EReal :=
  (gnorm (fun d => Y (ix2 r (col64 ⟨c.val / 64, by omega⟩ d))) ⟨c.val % 64, Nat.mod_lt _ (by decide)⟩ * L (ix2 4 c) + L (ix2 5 c)
    + B (ix2 r c)) * G (ix2 r c)
/-- The three kinds of heads side by side. -/
def heads (r : Fin 32768) (k : Fin 1024) : EReal :=
  if h : k.val < 256 then A (ix2 r ⟨k.val, h⟩)
  else if h' : k.val < 768 then S (ix2 r ⟨k.val - 256, by omega⟩)
  else rec Y G B L r ⟨k.val - 768, by omega⟩
/-- The heads mixed by the output weights. -/
def mixed (r : Fin 32768) (l : Fin 1024) : EReal := ∑ k, heads A S Y G B L r k * O (ix2 k l)
/-- The row with the mixed heads added. -/
def mid (r : Fin 32768) (l : Fin 1024) : EReal :=
  X (ix2 r l) + normed (mixed A S Y G B L O r) (fun k => N (ix2 1 k)) l
/-- The query of the memory. -/
def query (r : Fin 32768) (l : Fin 1024) : EReal :=
  (∑ k, normed (mid X A S Y G B N L O r) (fun k => N (ix2 2 k)) k * Q (ix2 k l)) * Ideal.ofBits .f32 0x3D800000#32
/-- A head's reading of the memory. -/
def read (r : Fin 32768) (h : Fin 4) (d : Fin 256) : EReal :=
  attend (fun e => query X A S Y G B N L O Q r (col256 h e)) (fun m e => M (ix3 (seq r) m ⟨256 * h.val + e.val, by omega⟩))
    (fun m e => M (ix3 (seq r) m ⟨1024 + 256 * h.val + e.val, by omega⟩)) d
/-- What the memory's output weights give. -/
def given (r : Fin 32768) (l : Fin 1024) : EReal :=
  ∑ k : Fin 1024, read X A S Y G B M N L O Q r ⟨k.val / 256, by omega⟩ ⟨k.val % 256, Nat.mod_lt _ (by decide)⟩ * W (ix2 k l)
/-- The row with the memory's contribution added. -/
def out (r : Fin 32768) (l : Fin 1024) : EReal :=
  mid X A S Y G B N L O r l + normed (given X A S Y G B M N L O Q W r) (fun k => N (ix2 3 k)) l

/-- The output array. -/
def outArr : XArr := fun i => out X A S Y G B M N L O Q W ⟨(i 0).val, (i 0).isLt⟩ ⟨(i 1).val, (i 1).isLt⟩

end Cert.MidVal

end
-- ==== Proof.MidPay.lean ====
/- The pieces of the kernel that mixes the heads and reads the memory, read index by index. -/
module

public import proofs.«01_k».proof.Proof.MidSpec
public import proofs.«01_k».proof.Proof.Gen.Kernel2Ideal.Skeleton

@[expose] public section

set_option maxRecDepth 16384

noncomputable section

namespace Cert.MidVal

open Cert.Kernel2Ideal Cert.Kernel2Ideal.Gen Cert.FfnVal Idealize.ShloMosaic

/-- The bit of a proposition. -/
abbrev bit (p : Prop) [Decidable p] : BitVec 1 := BitVec.ofBool (decide p)

theorem select_bit (p : Prop) [Decidable p] {α : Type} (x y : α) : Scalar.select (bit p) x y = if p then x else y := by
  by_cases h : p <;> simp [bit, h, Scalar.select]

/-- A lane of the low half. -/
abbrev lo (d : Fin 64) : Fin 128 := ⟨d.val, by omega⟩
/-- A lane of the high half. -/
abbrev hi (d : Fin 64) : Fin 128 := ⟨64 + d.val, by omega⟩

/-- The sum over the half of 128 lanes in which lane `a` lies. -/
def half (w : Fin 128 → EReal) (a : Fin 128) : EReal := if a.val < 64 then ∑ d, w (lo d) else ∑ d, w (hi d)

theorem sum_lo (w : Fin 128 → EReal) : (∑ k : Fin 128, if k.val < 64 then w k else 0) = ∑ d, w (lo d) := by
  show (∑ k : Fin (64 + 64), if k.val < 64 then w k else 0) = _
  rw [Fin.sum_univ_add]
  have e : (∑ d : Fin 64, if (Fin.natAdd 64 d : Fin (64 + 64)).val < 64 then w (Fin.natAdd 64 d) else 0) = 0 :=
    Finset.sum_eq_zero fun d _ => if_neg (by show ¬ 64 + d.val < 64; omega)
  rw [e, add_zero]
  exact Finset.sum_congr rfl fun d _ => if_pos (by show d.val < 64; omega)

theorem sum_hi (w : Fin 128 → EReal) : (∑ k : Fin 128, if k.val < 64 then 0 else w k) = ∑ d, w (hi d) := by
  show (∑ k : Fin (64 + 64), if k.val < 64 then 0 else w k) = _
  rw [Fin.sum_univ_add]
  have e : (∑ d : Fin 64, if (Fin.castAdd 64 d : Fin (64 + 64)).val < 64 then 0 else w (Fin.castAdd 64 d)) = 0 :=
    Finset.sum_eq_zero fun d _ => if_pos (by show d.val < 64; omega)
  rw [e, zero_add]
  exact Finset.sum_congr rfl fun d _ => if_neg (by show ¬ 64 + d.val < 64; omega)

theorem lane_bit (a : Fin 128) : IntOp.cmpi CmpIPredicate.slt
      (Scalar.select
        (IntOp.andi
          (IntOp.xori
            (IntOp.cmpi CmpIPredicate.slt
              (IntOp.remsi ArithUnit.vector (BitVec.ofNat 32 a.val)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 a.val)
              (Scalar.select (Scalar.cmpi CmpIPredicate.eq 128#32 0#32) 1#32 128#32))
            0#32))
        (IntOp.addi
          (IntOp.remsi ArithUnit.vector (BitVec.ofNat 32 a.val)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 a.val)
          (Scalar.select (Scalar.cmpi CmpIPredicate.eq 128#32 0#32) 1#32 128#32)))
      64#32 = bit (a.val < 64) := by
  revert a; decide +kernel

theorem lane_bit_nat (n : ℕ) (h : n < 128) : IntOp.cmpi CmpIPredicate.slt
      (Scalar.select
        (IntOp.andi
          (IntOp.xori
            (IntOp.cmpi CmpIPredicate.slt
              (IntOp.remsi ArithUnit.vector (BitVec.ofNat 32 n)
                (Scalar.select (Scalar.cmpi CmpIPredicate.eq 128#32 0#32) 1#32 128#32))
              0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 n)
              (Scalar.select (Scalar.cmpi CmpIPredicate.eq 128#32 0#32) 1#32 128#32))
            0#32))
        (IntOp.addi
          (IntOp.remsi ArithUnit.vector (BitVec.ofNat 32 n)
            (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 n)
          (Scalar.select (Scalar.cmpi CmpIPredicate.eq 128#32 0#32) 1#32 128#32)))
      64#32 = bit (n < 64) := lane_bit ⟨n, h⟩

theorem mask_read (p : Fin 256) (a : Fin 128) : k0_pay14 (ix2 p a) = bit (a.val < 64) := by
  pointwise [k0_pay14]
  exact lane_bit a

theorem pay2_read (v : Vec Ideal S256x256 .f32) (p : Fin 256) (a : Fin 128) :
    k0_pay2 (F := Ideal) v (ix2 p a) = half (fun k => v (ix2 p ⟨k.val, by omega⟩)) a := by
  pointwise [k0_pay2]
  simp only [lane_bit, mask_read, select_bit, sum_lo, sum_hi]
  rfl

theorem pay5_read (v : Vec Ideal S256x256 .f32) (u : FVec Ideal S256x128 .f32) (p : Fin 256) (c : Fin 256) :
    k0_pay5 (F := Ideal) v u (k0_pay3 v) (Scalar.select (Scalar.cmpi .eq 128#32 0#32) 1#32 128#32) k0_pay4 (ix2 p c) = v (ix2 p c) - (if h : c.val < 128 then u (ix2 p ⟨c.val, h⟩) else half (fun k => v (ix2 p ⟨128 + k.val, by omega⟩)) ⟨c.val - 128, by omega⟩) * Ideal.ofBits .f32 0x3C800000#32 := by
  pointwise [k0_pay5, k0_pay3, k0_pay4]
  simp only [lane_bit, mask_read, select_bit, sum_lo, sum_hi]
  by_cases h : c.val < 128
  · simp only [dif_pos h]
  · simp only [dif_neg h]
    rw [lane_bit_nat _ (by omega), select_bit]
    rfl

theorem pay12_read (v : FVec Ideal S256x128 .f32) (p : Fin 256) (a : Fin 128) :
    k0_pay12 (F := Ideal) v (Scalar.select (Scalar.cmpi .eq 128#32 0#32) 1#32 128#32) k0_pay8 k0_pay9 k0_pay10 k0_pay11 (ix2 p a) = half (fun k => v (ix2 p k)) a := by
  pointwise [k0_pay12, k0_pay8, k0_pay9, k0_pay10, k0_pay11]
  simp only [lane_bit, mask_read, select_bit, sum_lo, sum_hi]
  rfl

theorem pay15_read (v : FVec Ideal S256x256 .f32) (p : Fin 256) :
    k0_pay15 (F := Ideal) v (ix2 p 0) = ∑ d : Fin 64, v (ix2 p ⟨128 + d.val, by omega⟩) := by
  pointwise [k0_pay15, k0_pay13]
  simp only [lane_bit, mask_read, select_bit, sum_lo, sum_hi]

theorem pay17_read (v71 : FVec Ideal S256x256 .f32) (v105 : FVec Ideal S256x128 .f32) (v106 : FVec Ideal S256x128 .f32) (v129 : FVec Ideal S256x1 .f32) (v146 : Vec Ideal S1x256 .f32) (v150 : Vec Ideal S1x256 .f32) (v154 : Vec Ideal S256x256 .f32) (v156 : Vec Ideal S256x256 .f32) (p : Fin 256) (c : Fin 256) :
    k0_pay17 (F := Ideal) v71 v105 v106 k0_pay14 v129 k0_pay16 v146 v150 v154 v156 (ix2 p c) = (v71 (ix2 p c) * Ideal.rsqrt ((if h : c.val < 128 then v105 (ix2 p ⟨c.val, h⟩)
      else if c.val - 128 < 64 then v129 (ix2 p 0) else ∑ d, v106 (ix2 p (hi d))) * Ideal.ofBits .f32 0x3C800000#32 + Ideal.ofBits .f32 0x3A27C5AC#32)
        * v146 (ix2 0 c) + v150 (ix2 0 c) + v154 (ix2 p c)) * v156 (ix2 p c) := by
  pointwise [k0_pay17, k0_pay16]
  simp only [lane_bit, mask_read, select_bit, sum_lo, sum_hi]

theorem pay18_read (a : Vec Ideal S256x256 .bf16) (o : Vec Ideal S256x1024 .bf16) (s : Vec Ideal S256x512 .bf16) (o' : Vec Ideal S512x1024 .bf16) (p : Fin 256) (l : Fin 1024) :
    k0_pay18 (F := Ideal) a o s o' (ix2 p l) = (∑ k : Fin 256, a (ix2 p k) * o (ix2 k l)) + ∑ k : Fin 512, s (ix2 p k) * o' (ix2 k l) := by
  pointwise [k0_pay18, dot_S256x256_S256x1024_S256x1024_1_0_0_1_n_n, dot_S256x512_S512x1024_S256x1024_1_0_0_1_n_n]

theorem pay19_read (x : Vec Ideal S256x1024 .f32) (y : FVec Ideal S256x256 .f32) (z : FVec Ideal S256x1024 .f32) (o : Vec Ideal S256x1024 .bf16) (g : Vec Ideal S1x1024 .f32) (p : Fin 256) (l : Fin 1024) :
    k0_pay19 (F := Ideal) x y z o g (ix2 p l) = x (ix2 p l) + normed (fun j => z (ix2 p j) + ∑ k : Fin 256, y (ix2 p k) * o (ix2 k j)) (fun k => g (ix2 0 k)) l := by
  pointwise [k0_pay19, dot_S256x256_S256x1024_S256x1024_1_0_0_1_n_n]
  rfl

theorem pay20_read (x : Vec Ideal S256x1024 .f32) (y : FVec Ideal S256x256 .f32) (z : FVec Ideal S256x1024 .f32) (o : Vec Ideal S256x1024 .bf16) (g g' : Vec Ideal S1x1024 .f32) (w : Vec Ideal S1024x1024 .bf16) (p : Fin 256) (l : Fin 1024) :
    k0_pay20 (F := Ideal) x y z o g g' w (ix2 p l) = (∑ k, normed (fun j => k0_pay19 (F := Ideal) x y z o g (ix2 p j)) (fun k => g' (ix2 0 k)) k * w (ix2 k l)) * Ideal.ofBits .f32 0x3D800000#32 := by
  pointwise [k0_pay20, dot_S256x1024_S1024x1024_S256x1024_1_0_0_1_n_n]
  rfl

theorem pay24_read (u : FVec Ideal S256x2048 .bf16) (k q : FVec Ideal S256x256 .bf16) (p : Fin 256) (d : Fin 256) :
    k0_pay24 (F := Ideal) u k q (ix2 p d) = attend (fun e => q (ix2 p e)) (fun m e => k (ix2 m e)) (fun m e => u (ix2 m ⟨1024 + e.val, by omega⟩)) d := by
  pointwise [k0_pay24, dot_S256x256_S256x256_S256x256_1_1_0_0_n_n, dot_S256x256_S256x256_S256x256_1_0_0_1_n_n]
  rfl

theorem pay25_read (q : FVec Ideal S256x1024 .f32) (u : FVec Ideal S256x2048 .bf16) (p : Fin 256) (d : Fin 256) :
    k0_pay25 (F := Ideal) q u (ix2 p d) = attend (fun e => q (ix2 p ⟨256 + e.val, by omega⟩)) (fun m e => u (ix2 m ⟨256 + e.val, by omega⟩)) (fun m e => u (ix2 m ⟨1280 + e.val, by omega⟩)) d := by
  pointwise [k0_pay25, dot_S256x256_S256x256_S256x256_1_1_0_0_n_n, dot_S256x256_S256x256_S256x256_1_0_0_1_n_n]
  rfl

theorem pay26_read (q : FVec Ideal S256x1024 .f32) (u : FVec Ideal S256x2048 .bf16) (p : Fin 256) (d : Fin 256) :
    k0_pay26 (F := Ideal) q u (ix2 p d) = attend (fun e => q (ix2 p ⟨512 + e.val, by omega⟩)) (fun m e => u (ix2 m ⟨512 + e.val, by omega⟩)) (fun m e => u (ix2 m ⟨1536 + e.val, by omega⟩)) d := by
  pointwise [k0_pay26, dot_S256x256_S256x256_S256x256_1_1_0_0_n_n, dot_S256x256_S256x256_S256x256_1_0_0_1_n_n]
  rfl

theorem pay1_read (x : FVec Ideal S256x1024 .f32) (u : FVec Ideal S256x2048 .bf16) (a b c : FVec Ideal S256x256 .f32) (k q : FVec Ideal S256x256 .bf16) (w : Vec Ideal S1024x1024 .bf16) (g : Vec Ideal S1x1024 .f32) (o : Fin 1024 → EReal) (p : Fin 256) (l : Fin 1024)
    (ho : ∀ j : Fin 1024, o j = if h : j.val < 256 then a (ix2 p ⟨j.val, h⟩) else if h' : j.val - 256 < 256 then b (ix2 p ⟨j.val - 256, h'⟩)
      else if h'' : j.val - 256 - 256 < 256 then c (ix2 p ⟨j.val - 256 - 256, h''⟩)
      else attend (fun e => q (ix2 p e)) (fun m e => k (ix2 m e)) (fun m e => u (ix2 m ⟨1792 + e.val, by omega⟩)) ⟨j.val - 256 - 256 - 256, by omega⟩) :
    k0_pay1 (F := Ideal) x u a b c k q w g (ix2 p l) = x (ix2 p l) + normed (fun j => ∑ i, o i * w (ix2 i j)) (fun k => g (ix2 0 k)) l := by
  pointwise [k0_pay1, dot_S256x1024_S1024x1024_S256x1024_1_0_0_1_n_n, dot_S256x256_S256x256_S256x256_1_1_0_0_n_n, dot_S256x256_S256x256_S256x256_1_0_0_1_n_n]
  obtain rfl := funext ho
  rfl

end Cert.MidVal

end
-- ==== Proof.MidTile.lean ====
/- What a tile of the kernel that mixes the heads and reads the memory holds. -/
module

public import proofs.«01_k».proof.Proof.MidPay
public import proofs.«01_k».proof.Proof.Gen.Kernel2Ideal.Frame
public import Idealize.ShloMosaic.Lib.Pipeline.ValueKit.Tiles

@[expose] public section

set_option maxRecDepth 16384

noncomputable section

namespace Cert.MidVal

open Cert.Kernel2Ideal Cert.Kernel2Ideal.Gen Cert.FfnVal Idealize.ShloMosaic

/-- Division by 64 is multiplication by its inverse. -/
theorem div_mean (x : EReal) : Ideal.div x (Ideal.ofBits .f32 0x42800000#32) = x * Ideal.ofBits .f32 0x3C800000#32 := by
  have e1 : Ideal.ofBits .f32 0x42800000#32 = ((64 : ℝ) : EReal) := by
    simp [Ideal.ofBits, Ideal.ieee]; rw [← EReal.coe_mul]; norm_num
  have e2 : Ideal.ofBits .f32 0x3C800000#32 = (((64 : ℝ)⁻¹ : ℝ) : EReal) := by
    simp [Ideal.ofBits, Ideal.ieee]; rw [← EReal.coe_mul]; norm_num
  rw [e1, e2, Ideal.div, if_neg (by norm_num), EReal.coe_inv]

/-- The half in which a column lies, of the half of 128 lanes in which it lies, is its head. -/
theorem head_sum (w : Fin 256 → EReal) (c : Fin 256) :
    (if h : c.val < 128 then half (fun k => w ⟨k.val, by omega⟩) ⟨c.val, h⟩ else half (fun k => w ⟨128 + k.val, by omega⟩) ⟨c.val - 128, by omega⟩)
      = ∑ d, w (col64 ⟨c.val / 64, by omega⟩ d) := by
  unfold half
  have hc := c.isLt
  by_cases h : c.val < 128
  · rw [dif_pos h]
    by_cases h' : c.val < 64
    · rw [if_pos h']
      exact Finset.sum_congr rfl fun d _ => congrArg w (Fin.ext (by show d.val = 64 * (c.val / 64) + d.val; omega))
    · rw [if_neg h']
      exact Finset.sum_congr rfl fun d _ => congrArg w (Fin.ext (by show 64 + d.val = 64 * (c.val / 64) + d.val; omega))
  · rw [dif_neg h]
    by_cases h' : c.val - 128 < 64
    · rw [if_pos h']
      exact Finset.sum_congr rfl fun d _ => congrArg w (Fin.ext (by show 128 + d.val = 64 * (c.val / 64) + d.val; omega))
    · rw [if_neg h']
      exact Finset.sum_congr rfl fun d _ => congrArg w (Fin.ext (by show 128 + (64 + d.val) = 64 * (c.val / 64) + d.val; omega))

/-- The sum over the heads is the sums over the three kinds. -/
theorem sum_kinds (g : Fin 1024 → EReal) :
    ∑ k, g k = (∑ k : Fin 256, g ⟨k.val, by omega⟩) + (∑ k : Fin 512, g ⟨256 + k.val, by omega⟩) + ∑ k : Fin 256, g ⟨768 + k.val, by omega⟩ := by
  show ∑ k : Fin (256 + 512 + 256), g k = _
  rw [Fin.sum_univ_add, Fin.sum_univ_add]
  rfl

theorem attend_congr {q q' : Fin 256 → EReal} {K K' V V' : Fin 256 → Fin 256 → EReal} {d d' : Fin 256} (hq : ∀ e, q e = q' e)
    (hK : ∀ m e, K m e = K' m e) (hV : ∀ m e, V m e = V' m e) (hd : d = d') : attend q K V d = attend q' K' V' d' := by
  obtain rfl := funext hq
  obtain rfl := funext fun m => funext (hK m)
  obtain rfl := funext fun m => funext (hV m)
  rw [hd]

theorem normed_congr {v v' g g' : Fin 1024 → EReal} (hv : ∀ k, v k = v' k) (hg : ∀ k, g k = g' k) (l : Fin 1024) : normed v g l = normed v' g' l := by
  obtain rfl := funext hv
  obtain rfl := funext hg
  rfl

/-- Rows of a buffer, read from row `o` on. -/
theorem ld_rows {n h w : ℕ} {φ : EltTy} (x : Vec Ideal ⟨2, ![n, w]⟩ φ) (o : ℕ) (inb) (ho : o + h ≤ n) (p : Fin h) (l : Fin w) :
    View.ld x (Rect.unit (s := ⟨2, ![n, w]⟩) ![o, 0] (⟨2, ![h, w]⟩ : Shape).size inb) (ix2 p l) = x (ix2 ⟨o + p.val, by omega⟩ l) := by
  refine View.ld_unit_apply_of x _ _ _ _ _ fun a => ?_
  fin_cases a
  · rfl
  · show l.val = 0 + l.val; omega

theorem ld_mem (x : Vec Ideal S1x256x2048 .bf16) : View.ld x r0_11 = x := View.ld_unit_zero (by funext a; fin_cases a <;> rfl) ..

theorem pay22_read (x : Vec Ideal S1x256x2048 .bf16) (m e : Fin 256) : k0_pay22 (F := Ideal) (View.ld x r0_11) (ix2 m e) = x (ix3 0 m ⟨e.val, by omega⟩) := by
  rw [ld_mem]
  pointwise [k0_pay22, k0_pay21]

theorem pay23_read (x : Vec Ideal S256x1024 .f32) (y : FVec Ideal S256x256 .f32) (z : FVec Ideal S256x1024 .f32) (o : Vec Ideal S256x1024 .bf16) (g g' : Vec Ideal S1x1024 .f32) (w : Vec Ideal S1024x1024 .bf16) (p e : Fin 256) :
    k0_pay23 (F := Ideal) x y z o g g' w (ix2 p e) = k0_pay20 (F := Ideal) x y z o g g' w (ix2 p ⟨e.val, by omega⟩) := by
  pointwise [k0_pay23]

theorem pay27_read (u : FVec Ideal S256x2048 .bf16) (m e : Fin 256) : k0_pay27 (F := Ideal) u (ix2 m e) = u (ix2 m ⟨768 + e.val, by omega⟩) := by
  pointwise [k0_pay27]

theorem pay28_read (q : FVec Ideal S256x1024 .f32) (p e : Fin 256) : k0_pay28 (F := Ideal) q (ix2 p e) = q (ix2 p ⟨768 + e.val, by omega⟩) := by
  pointwise [k0_pay28]

section Recurrent
variable (v : Vec Ideal S256x256 .f32)

/-- A tile's rows less each head's mean. -/
abbrev centred : FVec Ideal S256x256 .f32 := k0_pay5 (F := Ideal) v (k0_pay2 v) (k0_pay3 v) (Scalar.select (Scalar.cmpi .eq 128#32 0#32) 1#32 128#32) k0_pay4
/-- Their squares. -/
abbrev squares : FVec Ideal S256x256 .f32 := k0_pay6 (F := Ideal) v (k0_pay2 v) (k0_pay3 v) (Scalar.select (Scalar.cmpi .eq 128#32 0#32) 1#32 128#32) k0_pay4

theorem centred_read (p c : Fin 256) : centred v (ix2 p c) = v (ix2 p c) - mean fun d => v (ix2 p (col64 ⟨c.val / 64, by omega⟩ d)) := by
  rw [centred, pay5_read]
  simp only [pay2_read]
  unfold mean
  rw [head_sum (fun k => v (ix2 p k)) c, div_mean]

theorem centred_head (p : Fin 256) (h : Fin 4) (d : Fin 64) :
    centred v (ix2 p (col64 h d)) = v (ix2 p (col64 h d)) - mean fun e => v (ix2 p (col64 h e)) := by
  rw [centred_read]
  rw [show (⟨(col64 h d).val / 64, by omega⟩ : Fin 4) = h from Fin.ext (by show (64 * h.val + d.val) / 64 = h.val; omega)]

theorem squares_read (p c : Fin 256) : squares v (ix2 p c) = centred v (ix2 p c) * centred v (ix2 p c) := by
  rw [squares]
  pointwise [k0_pay6]

theorem pay7_read (u w : FVec Ideal S256x128 .f32) (i) (j) (p : Fin 256) (a : Fin 128) :
    k0_pay7 (F := Ideal) v u w i j (ix2 p a) = k0_pay6 (F := Ideal) v u w i j (ix2 p ⟨a.val, by omega⟩) := by
  pointwise [k0_pay7]

theorem pay13_read (u : FVec Ideal S256x256 .f32) (p : Fin 256) (a : Fin 128) : k0_pay13 (F := Ideal) u (ix2 p a) = u (ix2 p ⟨128 + a.val, by omega⟩) := by
  pointwise [k0_pay13]

theorem var_read (p c : Fin 256) :
    (if h : c.val < 128 then k0_pay12 (F := Ideal) (k0_pay7 v (k0_pay2 v) (k0_pay3 v) (Scalar.select (Scalar.cmpi .eq 128#32 0#32) 1#32 128#32) k0_pay4) (Scalar.select (Scalar.cmpi .eq 128#32 0#32) 1#32 128#32) k0_pay8 k0_pay9 k0_pay10 k0_pay11 (ix2 p ⟨c.val, h⟩)
      else if c.val - 128 < 64 then k0_pay15 (squares v) (ix2 p 0) else ∑ d, k0_pay13 (squares v) (ix2 p (hi d)))
      = ∑ d, squares v (ix2 p (col64 ⟨c.val / 64, by omega⟩ d)) := by
  rw [← head_sum (fun k => squares v (ix2 p k)) c]
  simp only [pay12_read, pay7_read, pay15_read, pay13_read]
  rfl
end Recurrent

variable (X : XArr) (A : RArr) (S : SArr) (Y G B : RArr) (M : MArr) (N : NArr) (L : LArr) (O Q W : WArr)
variable (x0 : Vec Ideal S256x1024 .f32) (x1 : Vec Ideal S256x256 .bf16) (x2 : Vec Ideal S256x512 .bf16) (x3 x4 x5 : Vec Ideal S256x256 .f32)
  (x6 : Vec Ideal S6x1024 .f32) (x7 : Vec Ideal S2x256 .f32) (x8 x9 : Vec Ideal S1024x1024 .bf16) (x10 : Vec Ideal S1x256x2048 .bf16)
  (x11 : Vec Ideal S1024x1024 .bf16)

/-- The blocks hold row `r` of the arrays at their row `p`. -/
structure Holds (p : Fin 256) (r : Fin 32768) : Prop where
  h0 : ∀ l, x0 (ix2 p l) = X (ix2 r l)
  h1 : ∀ k, x1 (ix2 p k) = A (ix2 r k)
  h2 : ∀ k, x2 (ix2 p k) = S (ix2 r k)
  h3 : ∀ k, x3 (ix2 p k) = Y (ix2 r k)
  h4 : ∀ k, x4 (ix2 p k) = G (ix2 r k)
  h5 : ∀ k, x5 (ix2 p k) = B (ix2 r k)
  h6 : ∀ k l, x6 (ix2 k l) = N (ix2 k l)
  h70 : ∀ l, x7 (ix2 0 l) = L (ix2 4 l)
  h71 : ∀ l, x7 (ix2 1 l) = L (ix2 5 l)
  h8 : ∀ k l, x8 (ix2 k l) = O (ix2 k l)
  h9 : ∀ k l, x9 (ix2 k l) = Q (ix2 k l)
  h10 : ∀ m e, x10 (ix3 0 m e) = M (ix3 (seq r) m e)
  h11 : ∀ k l, x11 (ix2 k l) = W (ix2 k l)

variable {X A S Y G B M N L O Q W x0 x1 x2 x3 x4 x5 x6 x7 x8 x9 x10 x11} {p : Fin 256} {r : Fin 32768}

section Tile
variable (H : Holds X A S Y G B M N L O Q W x0 x1 x2 x3 x4 x5 x6 x7 x8 x9 x10 x11 p r)
include H

/-- The recurrent heads of a row. -/
theorem rec_read (c : Fin 256) : k0_pay33 (F := Ideal) x0 x1 x2 x3 x4 x5 x6 x7 x8 x9 x10 x11 (ix2 p c) = rec Y G B L r c := by
  have e3 : View.ld x3 r0_1 = x3 := View.ld_unit_zero (by funext a; fin_cases a <;> rfl) ..
  have e4 : View.ld x4 r0_1 = x4 := View.ld_unit_zero (by funext a; fin_cases a <;> rfl) ..
  have e5 : View.ld x5 r0_1 = x5 := View.ld_unit_zero (by funext a; fin_cases a <;> rfl) ..
  have e7 : View.ld x7 r0_2 (ix2 0 c) = L (ix2 4 c) := (ld_rows x7 0 inb_S2x256_S1x256_0_0 (by decide) 0 c).trans (H.h70 c)
  have e7' : View.ld x7 r0_3 (ix2 0 c) = L (ix2 5 c) := (ld_rows x7 1 inb_S2x256_S1x256_1_0 (by decide) 0 c).trans (H.h71 c)
  unfold k0_pay33 k0_pay32 k0_pay31 k0_pay30 k0_pay29
  rw [e3, e4, e5, pay17_read, e7, e7', var_read, H.h4, H.h5]
  simp only [squares_read, centred_head]
  simp only [centred_read, H.h3]
  rw [← div_mean, congrArg (fun q => Y (ix2 r q)) (show c = col64 ⟨c.val / 64, by omega⟩ ⟨c.val % 64, Nat.mod_lt _ (by decide)⟩ from
    Fin.ext (by show c.val = 64 * (c.val / 64) + c.val % 64; omega))]
  rfl

/-- The mixed heads of a row. -/
theorem mixed_read (l : Fin 1024) :
    k0_pay34 (F := Ideal) x0 x1 x2 x3 x4 x5 x6 x7 x8 x9 x10 x11 (ix2 p l) + (∑ k : Fin 256, k0_pay33 (F := Ideal) x0 x1 x2 x3 x4 x5 x6 x7 x8 x9 x10 x11 (ix2 p k) * View.ld x8 r0_7 (ix2 k l)) = mixed A S Y G B L O r l := by
  have e1 : View.ld x1 r0_1 = x1 := View.ld_unit_zero (by funext a; fin_cases a <;> rfl) ..
  have e2 : View.ld x2 r0_5 = x2 := View.ld_unit_zero (by funext a; fin_cases a <;> rfl) ..
  unfold k0_pay34 mixed
  rw [e1, e2, pay18_read, sum_kinds]
  refine congrArg₂ (· + ·) (congrArg₂ (· + ·) (Finset.sum_congr rfl fun k _ => ?_) (Finset.sum_congr rfl fun k _ => ?_)) (Finset.sum_congr rfl fun k _ => ?_)
  · refine congrArg₂ (· * ·) ((H.h1 k).trans ?_) ((ld_rows x8 0 inb_S1024x1024_S256x1024_0_0 (by decide) k l).trans ((H.h8 _ _).trans (congrArg (fun q => O (ix2 q l)) (Fin.ext (by show 0 + k.val = k.val; omega)))))
    unfold heads
    rw [dif_pos (by show k.val < 256; omega)]
  · refine congrArg₂ (· * ·) ((H.h2 k).trans ?_) ((ld_rows x8 256 inb_S1024x1024_S512x1024_256_0 (by decide) k l).trans (H.h8 _ _))
    unfold heads
    rw [dif_neg (by show ¬ 256 + k.val < 256; omega), dif_pos (by show 256 + k.val < 768; omega)]
    exact congrArg (fun q => S (ix2 r q)) (Fin.ext (by show k.val = 256 + k.val - 256; omega))
  · refine congrArg₂ (· * ·) ((rec_read H k).trans ?_) ((ld_rows x8 768 inb_S1024x1024_S256x1024_768_0 (by decide) k l).trans (H.h8 _ _))
    unfold heads
    rw [dif_neg (by show ¬ 768 + k.val < 256; omega), dif_neg (by show ¬ 768 + k.val < 768; omega)]
    exact congrArg (rec Y G B L r) (Fin.ext (by show k.val = 768 + k.val - 768; omega))

/-- The row with the mixed heads added. -/
theorem mid_read (l : Fin 1024) :
    k0_pay19 (F := Ideal) (View.ld x0 r0_0) (k0_pay33 x0 x1 x2 x3 x4 x5 x6 x7 x8 x9 x10 x11) (k0_pay34 x0 x1 x2 x3 x4 x5 x6 x7 x8 x9 x10 x11) (View.ld x8 r0_7) (View.ld x6 r0_8) (ix2 p l) = mid X A S Y G B N L O r l := by
  have e0 : View.ld x0 r0_0 = x0 := View.ld_unit_zero (by funext a; fin_cases a <;> rfl) ..
  rw [e0, pay19_read]
  unfold mid
  exact congrArg₂ (· + ·) (H.h0 l) (normed_congr (fun j => mixed_read H j) (fun k => (ld_rows x6 1 inb_S6x1024_S1x1024_1_0 (by decide) 0 k).trans (H.h6 1 k)) l)

/-- The query of a row. -/
theorem query_read (l : Fin 1024) : k0_pay35 (F := Ideal) x0 x1 x2 x3 x4 x5 x6 x7 x8 x9 x10 x11 (ix2 p l) = query X A S Y G B N L O Q r l := by
  have e9 : View.ld x9 r0_10 = x9 := View.ld_unit_zero (by funext a; fin_cases a <;> rfl) ..
  unfold k0_pay35 query
  rw [e9, pay20_read]
  refine congrArg (· * _) (Finset.sum_congr rfl fun k _ => congrArg₂ (· * ·) ?_ (H.h9 k l))
  exact normed_congr (fun j => mid_read H j) (fun k => (ld_rows x6 2 inb_S6x1024_S1x1024_2_0 (by decide) 0 k).trans (H.h6 2 k)) k

/-- The memory of a row's sequence. -/
theorem mem_read (m : Fin 256) (e : Fin 2048) : k0_pay36 (F := Ideal) x0 x1 x2 x3 x4 x5 x6 x7 x8 x9 x10 x11 (ix2 m e) = M (ix3 (seq r) m e) := by
  refine Eq.trans ?_ (H.h10 m e)
  unfold k0_pay36
  rw [ld_mem]
  pointwise [k0_pay21]

/-- A row's output. -/
theorem out_read (l : Fin 1024) : out0_12 (F := Ideal) x0 x1 x2 x3 x4 x5 x6 x7 x8 x9 x10 x11 (ix2 p l) = out X A S Y G B M N L O Q W r l := by
  have e0 : View.ld x0 r0_0 = x0 := View.ld_unit_zero (by funext a; fin_cases a <;> rfl) ..
  have e11 : View.ld x11 r0_10 = x11 := View.ld_unit_zero (by funext a; fin_cases a <;> rfl) ..
  unfold out0_12
  refine View.canon_eq_of_allAt _ _ _ (cover0_12 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 1024), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    refine (pay1_read _ _ _ _ _ _ _ _ _ (fun j => read X A S Y G B M N L O Q r ⟨j.val / 256, by omega⟩ ⟨j.val % 256, Nat.mod_lt _ (by decide)⟩) p l fun j => ?_).trans ?_
    · have hj := j.isLt
      refine Eq.symm ?_
      by_cases c1 : j.val < 256
      · rw [dif_pos c1]
        rw [pay24_read]
        refine attend_congr (fun e => ((pay23_read _ _ _ _ _ _ _ p e).trans (query_read H _)).trans (congrArg (query X A S Y G B N L O Q r) (Fin.ext (by show e.val = 256 * (j.val / 256) + e.val; omega)))) (fun m e => ((pay22_read x10 m e).trans (H.h10 m _)).trans (congrArg (fun q => M (ix3 (seq r) m q)) (Fin.ext (by show e.val = 256 * (j.val / 256) + e.val; omega))))
          (fun m e => (mem_read H m _).trans (congrArg (fun q => M (ix3 (seq r) m q)) (Fin.ext (by show 1024 + e.val = 1024 + 256 * (j.val / 256) + e.val; omega)))) (Fin.ext (by show j.val = j.val % 256; omega))
      · by_cases c2 : j.val - 256 < 256
        · rw [dif_neg c1, dif_pos c2]
          rw [pay25_read]
          refine attend_congr (fun e => (query_read H _).trans (congrArg (query X A S Y G B N L O Q r) (Fin.ext (by show 256 + e.val = 256 * (j.val / 256) + e.val; omega)))) (fun m e => (mem_read H m _).trans (congrArg (fun q => M (ix3 (seq r) m q)) (Fin.ext (by show 256 + e.val = 256 * (j.val / 256) + e.val; omega))))
            (fun m e => (mem_read H m _).trans (congrArg (fun q => M (ix3 (seq r) m q)) (Fin.ext (by show 1280 + e.val = 1024 + 256 * (j.val / 256) + e.val; omega)))) (Fin.ext (by show j.val - 256 = j.val % 256; omega))
        · by_cases c3 : j.val - 256 - 256 < 256
          · rw [dif_neg c1, dif_neg c2, dif_pos c3]
            rw [pay26_read]
            refine attend_congr (fun e => (query_read H _).trans (congrArg (query X A S Y G B N L O Q r) (Fin.ext (by show 512 + e.val = 256 * (j.val / 256) + e.val; omega)))) (fun m e => (mem_read H m _).trans (congrArg (fun q => M (ix3 (seq r) m q)) (Fin.ext (by show 512 + e.val = 256 * (j.val / 256) + e.val; omega))))
              (fun m e => (mem_read H m _).trans (congrArg (fun q => M (ix3 (seq r) m q)) (Fin.ext (by show 1536 + e.val = 1024 + 256 * (j.val / 256) + e.val; omega)))) (Fin.ext (by show j.val - 256 - 256 = j.val % 256; omega))
          · rw [dif_neg c1, dif_neg c2, dif_neg c3]
            refine attend_congr (fun e => ((pay28_read _ p e).trans (query_read H _)).trans (congrArg (query X A S Y G B N L O Q r) (Fin.ext (by show 768 + e.val = 256 * (j.val / 256) + e.val; omega)))) (fun m e => ((pay27_read _ m e).trans (mem_read H m _)).trans (congrArg (fun q => M (ix3 (seq r) m q)) (Fin.ext (by show 768 + e.val = 256 * (j.val / 256) + e.val; omega))))
              (fun m e => (mem_read H m _).trans (congrArg (fun q => M (ix3 (seq r) m q)) (Fin.ext (by show 1792 + e.val = 1024 + 256 * (j.val / 256) + e.val; omega)))) (Fin.ext (by show j.val - 256 - 256 - 256 = j.val % 256; omega))
    · unfold out
      refine congrArg₂ (· + ·) (mid_read H l) (normed_congr (fun j => ?_) (fun k => (ld_rows x6 3 inb_S6x1024_S1x1024_3_0 (by decide) 0 k).trans (H.h6 3 k)) l)
      unfold given
      rw [e11]
      exact Finset.sum_congr rfl fun k _ => congrArg _ (H.h11 k j)
  exact View.allAt_nil _ _
end Tile

end Cert.MidVal

end
-- ==== Proof.MidValue.lean ====
/- The array that the kernel that mixes the heads and reads the memory leaves. -/
module

public import proofs.«01_k».proof.Proof.MidTile
public import proofs.«01_k».proof.Proof.Gen.Kernel2Ideal.Value
public import Idealize.ShloMosaic.Lib.Pipeline.ValueKit.Geometry

@[expose] public section

set_option maxRecDepth 16384

noncomputable section

namespace Cert.MidVal

open Cert.Kernel2Ideal Cert.Kernel2Ideal.Gen Idealize.ShloMosaic Idealize.ShloMosaic.TcCoe Idealize.SL.Sem Idealize.ShloMosaic

open Idealize.ShloMosaic.Pipeline (Dat)

variable (m : (ℓ : Loc nD τ sig) → Buf (Elt Ideal) ℓ) (ρ : Dev nD → PrngReg)

/-- Device `c`'s rows. -/
abbrev aX (c : Dev nD) : XArr := m ((c : Thread nD τ).loc main_arg0)
/-- Device `c`'s first heads. -/
abbrev aA (c : Dev nD) : RArr := m ((c : Thread nD τ).loc main_arg1)
/-- Device `c`'s second heads. -/
abbrev aS (c : Dev nD) : SArr := m ((c : Thread nD τ).loc main_arg2)
/-- Device `c`'s recurrent heads. -/
abbrev aY (c : Dev nD) : RArr := m ((c : Thread nD τ).loc main_arg3)
/-- Device `c`'s gates. -/
abbrev aG (c : Dev nD) : RArr := m ((c : Thread nD τ).loc main_arg4)
/-- Device `c`'s bonuses. -/
abbrev aB (c : Dev nD) : RArr := m ((c : Thread nD τ).loc main_arg5)
/-- Device `c`'s memory. -/
abbrev aM (c : Dev nD) : MArr := m ((c : Thread nD τ).loc main_arg6)
/-- Device `c`'s scales of the norms. -/
abbrev aN (c : Dev nD) : NArr := m ((c : Thread nD τ).loc main_arg7)
/-- Device `c`'s scales and shifts of the recurrent heads. -/
abbrev aL (c : Dev nD) : LArr := m ((c : Thread nD τ).loc main_arg8)
/-- Device `c`'s weights that mix the heads. -/
abbrev aO (c : Dev nD) : WArr := m ((c : Thread nD τ).loc main_arg9)
/-- Device `c`'s weights of the queries. -/
abbrev aQ (c : Dev nD) : WArr := m ((c : Thread nD τ).loc main_arg10)
/-- Device `c`'s weights out of the memory. -/
abbrev aW (c : Dev nD) : WArr := m ((c : Thread nD τ).loc main_arg11)

theorem V_O (c : Dev nD) (k l : Fin 1024) : (V m c main_v1 : S1024x1024.Idx → EReal) (ix2 k l) = aO m c (ix2 k l) := by
  have e : (V m c main_v1 : S1024x1024.Idx → EReal) = aO m c := by
    show StableHlo.after hostOps0 _ (Proc.devRef .tc main_v1) = _
    after_results
    rfl
  rw [e]

theorem V_Q (c : Dev nD) (k l : Fin 1024) : (V m c main_v2 : S1024x1024.Idx → EReal) (ix2 k l) = aQ m c (ix2 k l) := by
  have e : (V m c main_v2 : S1024x1024.Idx → EReal) = aQ m c := by
    show StableHlo.after hostOps0 _ (Proc.devRef .tc main_v2) = _
    after_results
    rfl
  rw [e]

theorem V_W (c : Dev nD) (k l : Fin 1024) : (V m c main_v3 : S1024x1024.Idx → EReal) (ix2 k l) = aW m c (ix2 k l) := by
  have e : (V m c main_v3 : S1024x1024.Idx → EReal) = aW m c := by
    show StableHlo.after hostOps0 _ (Proc.devRef .tc main_v3) = _
    after_results
    rfl
  rw [e]

theorem V_L (c : Dev nD) (k : Fin 2) (l : Fin 256) : (V m c main_v0 : S2x256.Idx → EReal) (ix2 k l) = aL m c (ix2 ⟨4 + k.val, by omega⟩ l) := by
  have e : (V m c main_v0 : S2x256.Idx → EReal) = extractStridedSlice S2x256 ![4, 0] (aL m c) slices_S6x256_S2x256_4_0 := by
    show StableHlo.after hostOps0 _ (Proc.devRef .tc main_v0) = _
    after_results
  rw [e]
  pointwise []

theorem lt_points (t : Fin cfg0.N) : t.val < 128 := Nat.lt_of_lt_of_eq t.isLt N_0

/-- The row of a tile's row. -/
abbrev trow (t : Fin cfg0.N) (p : Fin 256) : Fin 32768 := ⟨256 * t.val + p.val, by have := lt_points t; omega⟩

/-- A tile of argument 0. -/
theorem b0_read (c : Dev nD) (t : Fin cfg0.N) (p : Fin 256) (l : Fin 1024) : (iblk m c 0 t : Vec Ideal S256x1024 .f32) (ix2 p l) = aX m c (ix2 (trow t p) l) := by
  have e := (by decide +kernel : ∀ t : Fin grid0.N, win0_0.index t 0 * win0_0.size 0 = 256 * t.val ∧ win0_0.index t 1 * win0_0.size 1 = 0) t
  have ht := lt_points t
  refine Eq.trans ?_ (congrFun (V_main_arg0 m c) (ix2 (trow t p) l))
  show (V m c main_arg0 : S32768x1024.Idx → EReal) (((cfg0.win 0).blk t).view.emb ((ix2 p l) : S256x1024.Idx)) = _
  refine congrArg (V m c main_arg0 : S32768x1024.Idx → EReal) (funext fun a => Fin.ext ?_)
  fin_cases a
  · show win0_0.index t 0 * win0_0.size 0 + 1 * p.val = 256 * t.val + p.val
    rw [e.1]; omega
  · show win0_0.index t 1 * win0_0.size 1 + 1 * l.val = l.val
    rw [e.2]; omega

/-- A tile of argument 1. -/
theorem b1_read (c : Dev nD) (t : Fin cfg0.N) (p : Fin 256) (l : Fin 256) : (iblk m c 1 t : Vec Ideal S256x256 .bf16) (ix2 p l) = aA m c (ix2 (trow t p) l) := by
  have e := (by decide +kernel : ∀ t : Fin grid0.N, win0_1.index t 0 * win0_1.size 0 = 256 * t.val ∧ win0_1.index t 1 * win0_1.size 1 = 0) t
  have ht := lt_points t
  refine Eq.trans ?_ (congrFun (V_main_arg1 m c) (ix2 (trow t p) l))
  show (V m c main_arg1 : S32768x256.Idx → EReal) (((cfg0.win 1).blk t).view.emb ((ix2 p l) : S256x256.Idx)) = _
  refine congrArg (V m c main_arg1 : S32768x256.Idx → EReal) (funext fun a => Fin.ext ?_)
  fin_cases a
  · show win0_1.index t 0 * win0_1.size 0 + 1 * p.val = 256 * t.val + p.val
    rw [e.1]; omega
  · show win0_1.index t 1 * win0_1.size 1 + 1 * l.val = l.val
    rw [e.2]; omega

/-- A tile of argument 2. -/
theorem b2_read (c : Dev nD) (t : Fin cfg0.N) (p : Fin 256) (l : Fin 512) : (iblk m c 2 t : Vec Ideal S256x512 .bf16) (ix2 p l) = aS m c (ix2 (trow t p) l) := by
  have e := (by decide +kernel : ∀ t : Fin grid0.N, win0_2.index t 0 * win0_2.size 0 = 256 * t.val ∧ win0_2.index t 1 * win0_2.size 1 = 0) t
  have ht := lt_points t
  refine Eq.trans ?_ (congrFun (V_main_arg2 m c) (ix2 (trow t p) l))
  show (V m c main_arg2 : S32768x512.Idx → EReal) (((cfg0.win 2).blk t).view.emb ((ix2 p l) : S256x512.Idx)) = _
  refine congrArg (V m c main_arg2 : S32768x512.Idx → EReal) (funext fun a => Fin.ext ?_)
  fin_cases a
  · show win0_2.index t 0 * win0_2.size 0 + 1 * p.val = 256 * t.val + p.val
    rw [e.1]; omega
  · show win0_2.index t 1 * win0_2.size 1 + 1 * l.val = l.val
    rw [e.2]; omega

/-- A tile of argument 3. -/
theorem b3_read (c : Dev nD) (t : Fin cfg0.N) (p : Fin 256) (l : Fin 256) : (iblk m c 3 t : Vec Ideal S256x256 .f32) (ix2 p l) = aY m c (ix2 (trow t p) l) := by
  have e := (by decide +kernel : ∀ t : Fin grid0.N, win0_3.index t 0 * win0_3.size 0 = 256 * t.val ∧ win0_3.index t 1 * win0_3.size 1 = 0) t
  have ht := lt_points t
  refine Eq.trans ?_ (congrFun (V_main_arg3 m c) (ix2 (trow t p) l))
  show (V m c main_arg3 : S32768x256.Idx → EReal) (((cfg0.win 3).blk t).view.emb ((ix2 p l) : S256x256.Idx)) = _
  refine congrArg (V m c main_arg3 : S32768x256.Idx → EReal) (funext fun a => Fin.ext ?_)
  fin_cases a
  · show win0_3.index t 0 * win0_3.size 0 + 1 * p.val = 256 * t.val + p.val
    rw [e.1]; omega
  · show win0_3.index t 1 * win0_3.size 1 + 1 * l.val = l.val
    rw [e.2]; omega

/-- A tile of argument 4. -/
theorem b4_read (c : Dev nD) (t : Fin cfg0.N) (p : Fin 256) (l : Fin 256) : (iblk m c 4 t : Vec Ideal S256x256 .f32) (ix2 p l) = aG m c (ix2 (trow t p) l) := by
  have e := (by decide +kernel : ∀ t : Fin grid0.N, win0_4.index t 0 * win0_4.size 0 = 256 * t.val ∧ win0_4.index t 1 * win0_4.size 1 = 0) t
  have ht := lt_points t
  refine Eq.trans ?_ (congrFun (V_main_arg4 m c) (ix2 (trow t p) l))
  show (V m c main_arg4 : S32768x256.Idx → EReal) (((cfg0.win 4).blk t).view.emb ((ix2 p l) : S256x256.Idx)) = _
  refine congrArg (V m c main_arg4 : S32768x256.Idx → EReal) (funext fun a => Fin.ext ?_)
  fin_cases a
  · show win0_4.index t 0 * win0_4.size 0 + 1 * p.val = 256 * t.val + p.val
    rw [e.1]; omega
  · show win0_4.index t 1 * win0_4.size 1 + 1 * l.val = l.val
    rw [e.2]; omega

/-- A tile of argument 5. -/
theorem b5_read (c : Dev nD) (t : Fin cfg0.N) (p : Fin 256) (l : Fin 256) : (iblk m c 5 t : Vec Ideal S256x256 .f32) (ix2 p l) = aB m c (ix2 (trow t p) l) := by
  have e := (by decide +kernel : ∀ t : Fin grid0.N, win0_5.index t 0 * win0_5.size 0 = 256 * t.val ∧ win0_5.index t 1 * win0_5.size 1 = 0) t
  have ht := lt_points t
  refine Eq.trans ?_ (congrFun (V_main_arg5 m c) (ix2 (trow t p) l))
  show (V m c main_arg5 : S32768x256.Idx → EReal) (((cfg0.win 5).blk t).view.emb ((ix2 p l) : S256x256.Idx)) = _
  refine congrArg (V m c main_arg5 : S32768x256.Idx → EReal) (funext fun a => Fin.ext ?_)
  fin_cases a
  · show win0_5.index t 0 * win0_5.size 0 + 1 * p.val = 256 * t.val + p.val
    rw [e.1]; omega
  · show win0_5.index t 1 * win0_5.size 1 + 1 * l.val = l.val
    rw [e.2]; omega

/-- The scales of the norms. -/
theorem b6_read (c : Dev nD) (t : Fin cfg0.N) (k : Fin 6) (l : Fin 1024) : (iblk m c 6 t : Vec Ideal S6x1024 .f32) (ix2 k l) = aN m c (ix2 k l) := by
  have e := (by decide +kernel : ∀ t : Fin grid0.N, win0_6.index t 0 * win0_6.size 0 = 0 ∧ win0_6.index t 1 * win0_6.size 1 = 0) t
  have ht := lt_points t
  refine Eq.trans ?_ (congrFun (V_main_arg7 m c) (ix2 k l))
  show (V m c main_arg7 : S6x1024.Idx → EReal) (((cfg0.win 6).blk t).view.emb ((ix2 k l) : S6x1024.Idx)) = _
  refine congrArg (V m c main_arg7 : S6x1024.Idx → EReal) (funext fun a => Fin.ext ?_)
  fin_cases a
  · show win0_6.index t 0 * win0_6.size 0 + 1 * k.val = k.val
    rw [e.1]; omega
  · show win0_6.index t 1 * win0_6.size 1 + 1 * l.val = l.val
    rw [e.2]; omega

/-- The scale and the shift of the recurrent heads. -/
theorem b7_read (c : Dev nD) (t : Fin cfg0.N) (k : Fin 2) (l : Fin 256) : (iblk m c 7 t : Vec Ideal S2x256 .f32) (ix2 k l) = aL m c (ix2 ⟨4 + k.val, by omega⟩ l) := by
  have e := (by decide +kernel : ∀ t : Fin grid0.N, win0_7.index t 0 * win0_7.size 0 = 0 ∧ win0_7.index t 1 * win0_7.size 1 = 0) t
  have ht := lt_points t
  refine Eq.trans ?_ (V_L m c k l)
  show (V m c main_v0 : S2x256.Idx → EReal) (((cfg0.win 7).blk t).view.emb ((ix2 k l) : S2x256.Idx)) = _
  refine congrArg (V m c main_v0 : S2x256.Idx → EReal) (funext fun a => Fin.ext ?_)
  fin_cases a
  · show win0_7.index t 0 * win0_7.size 0 + 1 * k.val = k.val
    rw [e.1]; omega
  · show win0_7.index t 1 * win0_7.size 1 + 1 * l.val = l.val
    rw [e.2]; omega

/-- A square of weights. -/
theorem b8_read (c : Dev nD) (t : Fin cfg0.N) (k : Fin 1024) (l : Fin 1024) : (iblk m c 8 t : Vec Ideal S1024x1024 .bf16) (ix2 k l) = aO m c (ix2 k l) := by
  have e := (by decide +kernel : ∀ t : Fin grid0.N, win0_8.index t 0 * win0_8.size 0 = 0 ∧ win0_8.index t 1 * win0_8.size 1 = 0) t
  have ht := lt_points t
  refine Eq.trans ?_ (V_O m c k l)
  show (V m c main_v1 : S1024x1024.Idx → EReal) (((cfg0.win 8).blk t).view.emb ((ix2 k l) : S1024x1024.Idx)) = _
  refine congrArg (V m c main_v1 : S1024x1024.Idx → EReal) (funext fun a => Fin.ext ?_)
  fin_cases a
  · show win0_8.index t 0 * win0_8.size 0 + 1 * k.val = k.val
    rw [e.1]; omega
  · show win0_8.index t 1 * win0_8.size 1 + 1 * l.val = l.val
    rw [e.2]; omega

/-- A square of weights. -/
theorem b9_read (c : Dev nD) (t : Fin cfg0.N) (k : Fin 1024) (l : Fin 1024) : (iblk m c 9 t : Vec Ideal S1024x1024 .bf16) (ix2 k l) = aQ m c (ix2 k l) := by
  have e := (by decide +kernel : ∀ t : Fin grid0.N, win0_9.index t 0 * win0_9.size 0 = 0 ∧ win0_9.index t 1 * win0_9.size 1 = 0) t
  have ht := lt_points t
  refine Eq.trans ?_ (V_Q m c k l)
  show (V m c main_v2 : S1024x1024.Idx → EReal) (((cfg0.win 9).blk t).view.emb ((ix2 k l) : S1024x1024.Idx)) = _
  refine congrArg (V m c main_v2 : S1024x1024.Idx → EReal) (funext fun a => Fin.ext ?_)
  fin_cases a
  · show win0_9.index t 0 * win0_9.size 0 + 1 * k.val = k.val
    rw [e.1]; omega
  · show win0_9.index t 1 * win0_9.size 1 + 1 * l.val = l.val
    rw [e.2]; omega

/-- A square of weights. -/
theorem b11_read (c : Dev nD) (t : Fin cfg0.N) (k : Fin 1024) (l : Fin 1024) : (iblk m c 11 t : Vec Ideal S1024x1024 .bf16) (ix2 k l) = aW m c (ix2 k l) := by
  have e := (by decide +kernel : ∀ t : Fin grid0.N, win0_11.index t 0 * win0_11.size 0 = 0 ∧ win0_11.index t 1 * win0_11.size 1 = 0) t
  have ht := lt_points t
  refine Eq.trans ?_ (V_W m c k l)
  show (V m c main_v3 : S1024x1024.Idx → EReal) (((cfg0.win 11).blk t).view.emb ((ix2 k l) : S1024x1024.Idx)) = _
  refine congrArg (V m c main_v3 : S1024x1024.Idx → EReal) (funext fun a => Fin.ext ?_)
  fin_cases a
  · show win0_11.index t 0 * win0_11.size 0 + 1 * k.val = k.val
    rw [e.1]; omega
  · show win0_11.index t 1 * win0_11.size 1 + 1 * l.val = l.val
    rw [e.2]; omega

/-- The memory of a tile's sequence. -/
theorem b10_read (c : Dev nD) (t : Fin cfg0.N) (k : Fin 256) (l : Fin 2048) : (iblk m c 10 t : Vec Ideal S1x256x2048 .bf16) (ix3 0 k l) = aM m c (ix3 ⟨t.val / 32, by have := lt_points t; omega⟩ k l) := by
  have e := (by decide +kernel : ∀ t : Fin grid0.N, win0_10.index t 0 * win0_10.size 0 = t.val / 32 ∧ win0_10.index t 1 * win0_10.size 1 = 0 ∧ win0_10.index t 2 * win0_10.size 2 = 0) t
  have ht := lt_points t
  refine Eq.trans ?_ (congrFun (V_main_arg6 m c) (ix3 ⟨t.val / 32, by have := lt_points t; omega⟩ k l))
  show (V m c main_arg6 : S4x256x2048.Idx → EReal) (((cfg0.win 10).blk t).view.emb ((ix3 0 k l) : S1x256x2048.Idx)) = _
  refine congrArg (V m c main_arg6 : S4x256x2048.Idx → EReal) (funext fun a => Fin.ext ?_)
  fin_cases a
  · show win0_10.index t 0 * win0_10.size 0 + 1 * 0 = t.val / 32
    rw [e.1]; omega
  · show win0_10.index t 1 * win0_10.size 1 + 1 * k.val = k.val
    rw [e.2.1]; omega
  · show win0_10.index t 2 * win0_10.size 2 + 1 * l.val = l.val
    rw [e.2.2]; omega

/-- A tile's blocks hold its rows. -/
theorem holds (c : Dev nD) (t : Fin cfg0.N) (p : Fin 256) : Holds (aX m c) (aA m c) (aS m c) (aY m c) (aG m c) (aB m c) (aM m c) (aN m c) (aL m c) (aO m c) (aQ m c) (aW m c)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p (trow t p) where
  h0 := b0_read m c t p
  h1 := b1_read m c t p
  h2 := b2_read m c t p
  h3 := b3_read m c t p
  h4 := b4_read m c t p
  h5 := b5_read m c t p
  h6 := b6_read m c t
  h70 := b7_read m c t 0
  h71 := b7_read m c t 1
  h8 := b8_read m c t
  h9 := b9_read m c t
  h10 := fun k l => (b10_read m c t k l).trans (congrArg (fun q => aM m c (ix3 q k l)) (Fin.ext (by
    show t.val / 32 = (256 * t.val + p.val) / 8192; omega)))
  h11 := b11_read m c t

/-- The array of rows after the run. -/
theorem final12 (c : Dev nD) : (dats m 0 c).arrAt 12 cfg0.N = outArr (aX m c) (aA m c) (aS m c) (aY m c) (aG m c) (aB m c) (aM m c) (aN m c) (aL m c) (aO m c) (aQ m c) (aW m c) := by
  have ew := (by decide +kernel : ∀ t : Fin grid0.N, win0_12.index t 0 * win0_12.size 0 = 256 * t.val ∧ win0_12.index t 1 * win0_12.size 1 = 0)
  refine (dats m 0 c).arrAt_eq_of_covers 12 _ (by decide +kernel) fun t hf y => ?_
  have ht := lt_points t
  obtain ⟨p, l, rfl⟩ : ∃ (p : Fin 256) (l : Fin 1024), y = (ix2 p l : S256x1024.Idx) := ⟨y 0, y 1, by funext k; fin_cases k <;> rfl⟩
  show (dats m 0 c).after 12 t (ix2 p l) = _
  rw [after0_12]
  refine (out_read (holds m c t p) l).trans ?_
  have e0 : ((cfg0.win 12).blk t).view.emb (ix2 p l : S256x1024.Idx) = (ix2 (trow t p) l : S32768x1024.Idx) := by
    have e := ew t
    funext a
    apply Fin.ext
    fin_cases a
    · show win0_12.index t 0 * win0_12.size 0 + 1 * p.val = 256 * t.val + p.val
      rw [e.1]; omega
    · show win0_12.index t 1 * win0_12.size 1 + 1 * l.val = l.val
      rw [e.2]; omega
  exact (congrArg (outArr (aX m c) (aA m c) (aS m c) (aY m c) (aG m c) (aB m c) (aM m c) (aN m c) (aL m c) (aO m c) (aQ m c) (aW m c)) e0).symm

end Cert.MidVal

end
-- ==== Proof.MidRef.lean ====
/- The reference reads, index by index, as the functions of `MidSpec`. -/
module

public import proofs.«01_k».proof.Proof.MidSpec
public import proofs.«01_k».proof.Proof.Gen.Reference2Ideal.Read

@[expose] public section

set_option maxRecDepth 16384

noncomputable section

namespace Cert.MidVal

open Cert.Reference2Ideal Cert.Reference2Ideal.Read Cert.FfnVal Idealize.ShloMosaic

variable (X : XArr) (A : RArr) (S : SArr) (Y G B : RArr) (M : MArr) (N : NArr) (L : LArr) (O Q W : WArr)

theorem ref_mean (r : Fin 32768) (h : Fin 4) : val_main_v4 (F := Ideal) Y (ix3 r h 0) = mean fun d => Y (ix2 r (col64 h d)) := by
  pointwise [val_main_v4, val_main_v3, val_main_v2, val_main_v1, val_main_v0, val_main_cst, val_main_cst_0]
  unfold mean
  congr 1
  refine Finset.sum_congr rfl fun d _ => ?_
  congr 2 <;> ext <;> simp <;> omega

theorem ref_y (r : Fin 32768) (h : Fin 4) (d : Fin 64) : val_main_v0 (F := Ideal) Y (ix3 r h d) = Y (ix2 r (col64 h d)) := by
  pointwise [val_main_v0]
  congr 2 <;> ext <;> simp <;> omega

theorem ref_gnorm (r : Fin 32768) (h : Fin 4) (d : Fin 64) :
    val_main_v20 (F := Ideal) Y (ix3 r h d) = gnorm (fun d => Y (ix2 r (col64 h d))) d := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst_1, val_main_cst_2, val_main_cst_3]
  simp only [ref_mean, ref_y]
  rfl

theorem ref_rec (r : Fin 32768) (c : Fin 256) : val_main_v33 (F := Ideal) Y G B L (ix2 r c) = rec Y G B L r c := by
  pointwise [val_main_v33, val_main_v32, val_main_v31, val_main_v30, val_main_v29, val_main_v28, val_main_v27, val_main_v26, val_main_v25, val_main_v24, val_main_v23, val_main_v22, val_main_v21]
  rw [ref_gnorm]
  rfl

theorem ref_heads (r : Fin 32768) (k : Fin 1024) : val_main_v36 (F := Ideal) A S Y G B L (ix2 r k) = heads A S Y G B L r k := by
  pointwise [val_main_v36, val_main_v35, val_main_v34]
  unfold heads
  split
  · rfl
  · rename_i h
    by_cases h' : k.val < 768
    · rw [dif_pos (by omega), dif_pos h']
    · rw [dif_neg (by omega), dif_neg h', ref_rec]
      exact congrArg (rec Y G B L r) (Fin.ext (by show k.val - 256 - 512 = k.val - 768; omega))

theorem ref_mixed (r : Fin 32768) (l : Fin 1024) : val_main_v37 (F := Ideal) A S Y G B L O (ix2 r l) = mixed A S Y G B L O r l := by
  pointwise [val_main_v37, dot_S32768x1024_S1024x1024_S32768x1024_1_0_0_1_n_n]
  exact Finset.sum_congr rfl fun k _ => by rw [ref_heads]

theorem ref_mid (r : Fin 32768) (l : Fin 1024) : val_main_v53 (F := Ideal) X A S Y G B N L O (ix2 r l) = mid X A S Y G B N L O r l := by
  pointwise [val_main_v53, val_main_v52, val_main_v51, val_main_v50, val_main_v49, val_main_v48, val_main_v47, val_main_v46, val_main_v45, val_main_v44, val_main_v43, val_main_v42, val_main_v41, val_main_v40, val_main_v39, val_main_v38, val_main_cst_4, val_main_cst_5, val_main_cst_6]
  simp only [ref_mixed]
  rfl

theorem ref_hid (r : Fin 32768) (l : Fin 1024) :
    val_main_v68 (F := Ideal) X A S Y G B N L O (ix2 r l) = normed (mid X A S Y G B N L O r) (fun k => N (ix2 2 k)) l := by
  pointwise [val_main_v68, val_main_v67, val_main_v66, val_main_v65, val_main_v64, val_main_v63, val_main_v62, val_main_v61, val_main_v60, val_main_v59, val_main_v58, val_main_v57, val_main_v56, val_main_v55, val_main_v54, val_main_cst_7, val_main_cst_8, val_main_cst_9]
  simp only [ref_mid]
  rfl

theorem ref_proj (r : Fin 32768) (l : Fin 1024) :
    val_main_v71 (F := Ideal) X A S Y G B N L O Q (ix2 r l) = ∑ k, normed (mid X A S Y G B N L O r) (fun k => N (ix2 2 k)) k * Q (ix2 k l) := by
  pointwise [val_main_v71, dot_S32768x1024_S1024x1024_S32768x1024_1_0_0_1_n_n]
  exact Finset.sum_congr rfl fun k _ => by rw [ref_hid]

theorem ref_query (b : Fin 4) (s : Fin 8192) (h : Fin 4) (d : Fin 256) :
    val_main_v74 (F := Ideal) X A S Y G B N L O Q (ix4 b s h d) = query X A S Y G B N L O Q (row b s) (col256 h d) := by
  pointwise [val_main_v74, val_main_v73, val_main_v72, val_main_cst_10]
  rw [ref_proj]
  unfold query
  rw [show (⟨h.val * 256 + d.val, by omega⟩ : Fin 1024) = col256 h d from Fin.ext (by show h.val * 256 + d.val = 256 * h.val + d.val; omega)]

theorem ref_key (b : Fin 4) (m : Fin 256) (h : Fin 4) (d : Fin 256) :
    val_main_v76 (F := Ideal) M (ix4 b m h d) = M (ix3 b m ⟨256 * h.val + d.val, by omega⟩) := by
  pointwise [val_main_v76, val_main_v75, val_main_v70, val_main_v69]
  exact congrArg (fun q => M (ix3 b m q)) (Fin.ext (by show h.val * 256 + d.val = 256 * h.val + d.val; omega))

theorem ref_value (b : Fin 4) (m : Fin 256) (h : Fin 4) (d : Fin 256) :
    val_main_v90 (F := Ideal) M (ix4 b m h d) = M (ix3 b m ⟨1024 + 256 * h.val + d.val, by omega⟩) := by
  pointwise [val_main_v90, val_main_v89, val_main_v70, val_main_v69]
  exact congrArg (fun q => M (ix3 b m q)) (Fin.ext (by show 1024 + h.val * 256 + d.val = 1024 + 256 * h.val + d.val; omega))

/-- A token's query of one head. -/
abbrev qf (b : Fin 4) (s : Fin 8192) (h : Fin 4) : Fin 256 → EReal := fun e => query X A S Y G B N L O Q (row b s) (col256 h e)
/-- A head's keys. -/
abbrev kf (b : Fin 4) (h : Fin 4) : Fin 256 → Fin 256 → EReal := fun m e => M (ix3 b m ⟨256 * h.val + e.val, by omega⟩)
/-- A head's values. -/
abbrev vf (b : Fin 4) (h : Fin 4) : Fin 256 → Fin 256 → EReal := fun m e => M (ix3 b m ⟨1024 + 256 * h.val + e.val, by omega⟩)

theorem ref_score (b : Fin 4) (h : Fin 4) (s : Fin 8192) (m : Fin 256) :
    val_main_v77 (F := Ideal) X A S Y G B M N L O Q (ix4 b h s m) = score (qf X A S Y G B N L O Q b s h) (kf M b h) m := by
  pointwise [val_main_v77, dot_S4x8192x4x256_S4x256x4x256_S4x4x8192x256_3_3_1_1_02_02]
  exact Finset.sum_congr rfl fun k _ => by rw [ref_query, ref_key]

theorem ref_fold (b : Fin 4) (h : Fin 4) (s : Fin 8192) :
    val_main_v78 (F := Ideal) X A S Y G B M N L O Q (ix3 b h s)
      = Finset.univ.fold max NINF fun k => val_main_v77 (F := Ideal) X A S Y G B M N L O Q (ix4 b h s k) := by
  unfold val_main_v78 val_main_cst_11
  generalize val_main_v77 (F := Ideal) X A S Y G B M N L O Q = x
  pointwise

theorem ninf_max (x : EReal) : max NINF x = x := by
  rw [show NINF = ⊥ from by simp [NINF, Ideal.ofBits, Ideal.ieee]]; exact max_eq_right bot_le

theorem max_read (x y : EReal) (hx : x = NINF) : FloatOps.maximumf (F := Ideal) (φ := .f32) x y = y := by
  subst hx; exact ninf_max y

theorem ref_low (b : Fin 4) (h : Fin 4) (s : Fin 8192) : val_main_v79 (F := Ideal) (ix3 b h s) = NINF := rfl

theorem ref_max (b : Fin 4) (h : Fin 4) (s : Fin 8192) :
    val_main_v80 (F := Ideal) X A S Y G B M N L O Q (ix3 b h s)
      = Finset.univ.fold max NINF fun k => score (qf X A S Y G B N L O Q b s h) (kf M b h) k := by
  rw [val_main_v80_apply, max_read _ _ (ref_low b h s)]
  exact (ref_fold X A S Y G B M N L O Q b h s).trans
    (congrArg (fun f => Finset.univ.fold max NINF f) (funext fun k => ref_score X A S Y G B M N L O Q b h s k))

theorem ref_expo (b : Fin 4) (h : Fin 4) (s : Fin 8192) (m : Fin 256) :
    val_main_v84 (F := Ideal) X A S Y G B M N L O Q (ix4 b h s m) = expo (qf X A S Y G B N L O Q b s h) (kf M b h) m := by
  pointwise [val_main_v84, val_main_v83, val_main_v82, val_main_v81]
  rw [ref_max, ref_score]
  rfl

theorem ref_prob (b : Fin 4) (h : Fin 4) (s : Fin 8192) (m : Fin 256) :
    val_main_v88 (F := Ideal) X A S Y G B M N L O Q (ix4 b h s m)
      = Ideal.div (expo (qf X A S Y G B N L O Q b s h) (kf M b h) m) (∑ k, expo (qf X A S Y G B N L O Q b s h) (kf M b h) k) := by
  pointwise [val_main_v88, val_main_v87, val_main_v86, val_main_v85, val_main_cst_13]
  simp only [ref_expo]

theorem ref_attend (b : Fin 4) (h : Fin 4) (d : Fin 256) (s : Fin 8192) :
    val_main_v91 (F := Ideal) X A S Y G B M N L O Q (ix4 b h d s) = attend (qf X A S Y G B N L O Q b s h) (kf M b h) (vf M b h) d := by
  pointwise [val_main_v91, dot_S4x256x4x256_S4x4x8192x256_S4x4x256x8192_1_3_3_2_02_01]
  unfold attend
  exact Finset.sum_congr rfl fun k _ => by rw [ref_prob, ref_value, mul_comm]

theorem ref_read (r : Fin 32768) (l : Fin 1024) :
    val_main_v93 (F := Ideal) X A S Y G B M N L O Q (ix2 r l)
      = read X A S Y G B M N L O Q r ⟨l.val / 256, by omega⟩ ⟨l.val % 256, Nat.mod_lt _ (by decide)⟩ := by
  pointwise [val_main_v93, val_main_v92]
  rw [ref_attend]
  have e : row ⟨r.val / 8192, by omega⟩ ⟨r.val % 8192, Nat.mod_lt _ (by decide)⟩ = r :=
    Fin.ext (by show r.val / 8192 * 8192 + r.val % 8192 = r.val; omega)
  exact congrArg (fun q => attend (fun e => query X A S Y G B N L O Q q (col256 ⟨l.val / 256, by omega⟩ e)) (kf M (seq r) ⟨l.val / 256, by omega⟩)
    (vf M (seq r) ⟨l.val / 256, by omega⟩) ⟨l.val % 256, Nat.mod_lt _ (by decide)⟩) e

theorem ref_given (r : Fin 32768) (l : Fin 1024) :
    val_main_v94 (F := Ideal) X A S Y G B M N L O Q W (ix2 r l) = given X A S Y G B M N L O Q W r l := by
  pointwise [val_main_v94, dot_S32768x1024_S1024x1024_S32768x1024_1_0_0_1_n_n]
  exact Finset.sum_congr rfl fun k _ => by rw [ref_read]

theorem ref_out (r : Fin 32768) (l : Fin 1024) :
    val_main_v110 (F := Ideal) X A S Y G B M N L O Q W (ix2 r l) = out X A S Y G B M N L O Q W r l := by
  pointwise [val_main_v110, val_main_v109, val_main_v108, val_main_v107, val_main_v106, val_main_v105, val_main_v104, val_main_v103, val_main_v102, val_main_v101, val_main_v100, val_main_v99, val_main_v98, val_main_v97, val_main_v96, val_main_v95, val_main_cst_14, val_main_cst_15, val_main_cst_16]
  simp only [ref_given, ref_mid]
  rfl

/-- The reference's result is the output array. -/
theorem ref_arr : val_main_v110 (F := Ideal) X A S Y G B M N L O Q W = outArr X A S Y G B M N L O Q W := by
  funext i
  have e : i = ix2 ⟨(i 0).val, (i 0).isLt⟩ ⟨(i 1).val, (i 1).isLt⟩ := by funext a; fin_cases a <;> rfl
  rw [e]; exact ref_out X A S Y G B M N L O Q W _ _

end Cert.MidVal

end
-- ==== Proof.MidClaim.lean ====
/- The claim about the kernel that mixes the heads and reads the memory, put together. -/
module

public import proofs.«01_k».proof.Defs
public import proofs.«01_k».proof.Proof.MidValue
public import proofs.«01_k».proof.Proof.MidRef
public import proofs.«01_k».proof.Proof.Gen.Reference2Ideal.Run
public import Idealize.ShloMosaic.Lib.Quiescent
public import Idealize.ShloMosaic.Lib.Claim

@[expose] public section

set_option maxRecDepth 16384

noncomputable section

namespace Cert.MidVal

open Idealize.ShloMosaic.TcCoe Idealize.SL.Sem Idealize.ShloMosaic

/-- The reference of the mixing layer runs, leaves its arguments as they were and every counter at zero. -/
theorem reference_frame : Cert.quiescent_Reference2Ideal (hReference2Ideal := Cert.Reference2Ideal.Gen.facts) := fun m g _ =>
  (θ_run _ _ _).mono (fun r h => ⟨fun c => (h c).2, sem_eq_zero_of_no_sems (by decide) r.2⟩)
    (Cert.Reference2Ideal.Value.run m g)

open Cert.Reference2Ideal in
/-- The mixing kernel and its reference leave the same array, from all arguments. -/
theorem mid_algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => outArr (aX m c) (aA m c) (aS m c) (aY m c) (aG m c) (aB m c) (aM m c) (aN m c) (aL m c) (aO m c) (aQ m c) (aW m c), ?_, ?_⟩
  · exact (θ_run _ _ _).mono (fun r h c => ⟨(h c).1.trans (final12 m c), (h c).2⟩) (Cert.Kernel2Ideal.Value.run_blocks m ρ)
  · refine (θ_run _ _ _).mono (fun r h c => ⟨?_, (h c).2⟩) (Cert.Reference2Ideal.Value.run m' ρ')
    refine (h c).1.trans ((Cert.Reference2Ideal.Read.val_main_v110_eq _).trans ?_)
    obtain ⟨h0, h1, h2, h3, h4, h5, h6, h7, h8, h9, h10, h11⟩ := hagree c
    refine (ref_arr _ _ _ _ _ _ _ _ _ _ _ _).trans ?_
    show outArr (m' (c.tc.loc main_arg0)) (m' (c.tc.loc main_arg1)) (m' (c.tc.loc main_arg2)) (m' (c.tc.loc main_arg3)) (m' (c.tc.loc main_arg4)) (m' (c.tc.loc main_arg5)) (m' (c.tc.loc main_arg6)) (m' (c.tc.loc main_arg7)) (m' (c.tc.loc main_arg8)) (m' (c.tc.loc main_arg9)) (m' (c.tc.loc main_arg10)) (m' (c.tc.loc main_arg11)) = outArr (aX m c) (aA m c) (aS m c) (aY m c) (aG m c) (aB m c) (aM m c) (aN m c) (aL m c) (aO m c) (aQ m c) (aW m c)
    rw [h0, h1, h2, h3, h4, h5, h6, h7, h8, h9, h10, h11]

end Cert.MidVal

end
-- ==== Proof.WholeRead.lean ====
/- What a load of a whole buffer reads, from the values the buffer holds. -/
module

public import Idealize.ShloMosaic.Lib.VecWindow

@[expose] public section

noncomputable section

namespace Cert.WholeRead

open Idealize.ShloMosaic

variable {sig : RefSig} {κ : Kind} {sp : Space} {s : Shape} {e : EltTy} {Val : EltTy → Type} {m : Memref sig κ sp s e}

/-- A load of everything reads the buffer's values. -/
theorem full (h : m.IsWhole) {X : s.Idx → Val e} {off : Fin s.rank → ℕ} {inb : ∀ a, off a + s.size a ≤ s.size a} :
    m.view.readAt Val (Rect.unit off s.size inb).toLoadRect (h.unread X) = X :=
  (View.readAt_full _ _ _).trans (h.read_unread _)

/-- A load of a part reads a window of the buffer's values. -/
theorem part (h : m.IsWhole) {X : s.Idx → Val e} {off off' size : Fin s.rank → ℕ} {inb : ∀ a, off a + size a ≤ s.size a}
    {inb' : ∀ a, off' a + size a ≤ s.size a} (e : off = off') :
    m.view.readAt Val (Rect.unit off size inb).toLoadRect (h.unread X) = VecWindow.window X off' size inb' :=
  (View.readAt_unit _ _ _ e _).trans (congrArg (VecWindow.window · _ _ _) (h.read_unread _))

end Cert.WholeRead

end
-- ==== Proof.FfnRunIdeal.lean ====
/- One point of the feed-forward kernel: what it leaves. -/
module

public import proofs.«01_k».proof.Proof.Gen.Kernel3Ideal.Frame
public import proofs.«01_k».proof.Proof.Gen.Kernel3Ideal.Skeleton
public import proofs.«01_k».proof.Proof.WholeRead

@[expose] public section

set_option maxRecDepth 16384

noncomputable section

namespace Cert.Kernel3Ideal.Ffn

open Idealize.ShloMosaic Idealize.ShloMosaic.TcCoe Idealize.ShloMosaic.Tactic
open Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.WholeRead (full part)

variable {F : FTy → Type} [FloatOps F]

/-- The first half of the columns is at hand. -/
abbrev atLeft (i : grid0.Coords) : Prop := (Scalar.cmpi .ne (Scalar.extui (Scalar.cmpi .eq (BitVec.ofNat 32 (i 1).val) 0#32)) 0#32) = 1#1
/-- The last half of the columns is at hand. -/
abbrev atRight (i : grid0.Coords) : Prop := k0_cond2 i = 1#1

/-- The first half is at hand at the even points. -/
theorem atLeft_iff (t : Fin cfg0.N) : atLeft (grid0.coords t) ↔ t.val % 2 = 0 := by
  have ht : t.val < 128 := Nat.lt_of_lt_of_eq t.isLt N_0
  have e1 : (grid0.coords t 1).val = t.val / 1 % 2 := Pipeline.Grid.coords_val t 1 (by decide) rfl
  simp only [atLeft, e1]
  word_cmp

/-- The last half is at hand at the odd points. -/
theorem atRight_iff (t : Fin cfg0.N) : atRight (grid0.coords t) ↔ t.val % 2 = 1 := by
  have ht : t.val < 128 := Nat.lt_of_lt_of_eq t.isLt N_0
  have e1 : (grid0.coords t 1).val = t.val / 1 % 2 := Pipeline.Grid.coords_val t 1 (by decide) rfl
  simp only [atRight, k0_cond2, e1]
  word_cmp

/-- Whether a row tile begins a sequence: the kernel's own word for it. -/
def beginsAt (i : grid0.Coords) : BitVec 1 :=
  let v11 : BitVec 32 := Scalar.select (Scalar.cmpi .eq 16#32 0#32) 1#32 16#32
  let v12 : BitVec 32 := Scalar.remsi (BitVec.ofNat 32 (i 0).val) v11
  Scalar.cmpi .eq (Scalar.select (Scalar.andi (Scalar.xori (Scalar.cmpi .slt v12 0#32) (Scalar.cmpi .slt v11 0#32))
    (Scalar.cmpi .ne v12 0#32)) (Scalar.addi v12 v11) v12) 0#32

/-- The normalised rows of a tile. -/
def hOf (x0 : Vec F S512x1024 .f32) (x3 : Vec F S6x1024 .f32) : Vec F S512x1024 .bf16 :=
  k0_pay3 x0 (VecWindow.window x3 ![4, 0] S1x1024.size inb_S6x1024_S1x1024_4_0)

/-- The two rows that came before a tile, as the kernel's carried buffer holds them. -/
def rowA (i : grid0.Coords) (s : Vec F S2x8x1408 .f32) : Vec F S1x1x1408 .f32 :=
  VecWindow.window s (k0_off1 i) S1x1x1408.size (k0_off1_inb i)
def rowB (i : grid0.Coords) (s : Vec F S2x8x1408 .f32) : Vec F S1x1x1408 .f32 :=
  VecWindow.window s (k0_off2 i) S1x1x1408.size (k0_off2_inb i)

/-- The sum so far with a half's contribution added, from the two rows before the tile. -/
def accOf (i : grid0.Coords) (h : Vec F S512x1024 .bf16) (acc : Vec F S512x1024 .f32) (x1 : Vec F S1x2x1408 .f32)
    (x4 x5 : Vec F S1024x1408 .bf16) (x6 : Vec F S3x1408 .f32) (x7 : Vec F S1x1408 .f32) (x8 : Vec F S1408x1024 .bf16)
    (a b : Vec F S1x1x1408 .f32) : Vec F S512x1024 .f32 :=
  k0_pay1 (k0_pay5 h x4) (k0_pay6 h x5)
    (k0_pay10 (k0_pay5 h x4) (beginsAt i) (k0_pay8 (VecWindow.window x1 ![0, 1, 0] S1x1x1408.size inb_S1x2x1408_S1x1x1408_0_1_0)) b)
    (k0_pay13 (k0_pay5 h x4) (beginsAt i) (k0_pay7 i (VecWindow.window x1 ![0, 0, 0] S1x1x1408.size inb_S1x2x1408_S1x1x1408_0_0_0) a)
      (k0_pay8 (VecWindow.window x1 ![0, 1, 0] S1x1x1408.size inb_S1x2x1408_S1x1x1408_0_1_0)) b x7
      (VecWindow.window x6 ![0, 0] S1x1408.size inb_S3x1408_S1x1408_0_0))
    (VecWindow.window x6 ![1, 0] S1x1408.size inb_S3x1408_S1x1408_1_0)
    (VecWindow.window x6 ![2, 0] S1x1408.size inb_S3x1408_S1x1408_2_0) acc x8

/-- The tile that is written once both halves are summed. -/
def outOf (x0 acc : Vec F S512x1024 .f32) (x3 : Vec F S6x1024 .f32) : Vec F S512x1024 .f32 :=
  k0_pay2 x0 acc (VecWindow.window x3 ![5, 0] S1x1024.size inb_S6x1024_S1x1024_5_0)

/-- The carried buffer with the tile's last eight rows put in the half's place. -/
def keptOf (i : grid0.Coords) (s : Vec F S2x8x1408 .f32) (h : Vec F S512x1024 .bf16) (x4 : Vec F S1024x1408 .bf16) : Vec F S2x8x1408 .f32 :=
  VecWindow.put s (k0_off3 i) S1x8x1408.size (k0_pay11 (k0_pay5 h x4))

theorem acc_eq {i : grid0.Coords} {h h1 h2 : Vec F S512x1024 .bf16} {acc acc' : Vec F S512x1024 .f32} {x1 : Vec F S1x2x1408 .f32}
    {x4 x5 y4 y5 : Vec F S1024x1408 .bf16} {x6 : Vec F S3x1408 .f32} {x7 y7 : Vec F S1x1408 .f32} {x8 y8 : Vec F S1408x1024 .bf16}
    {s : Vec F S2x8x1408 .f32} {p0 p1 a b : Vec F S1x1x1408 .f32} {q0 q1 q2 : Vec F S1x1408 .f32}
    (e1 : h1 = h) (e2 : h2 = h) (e3 : acc' = acc) (e4 : y4 = x4) (e5 : y5 = x5) (e7 : y7 = x7) (e8 : y8 = x8)
    (ep0 : p0 = VecWindow.window x1 ![0, 0, 0] S1x1x1408.size inb_S1x2x1408_S1x1x1408_0_0_0)
    (ep1 : p1 = VecWindow.window x1 ![0, 1, 0] S1x1x1408.size inb_S1x2x1408_S1x1x1408_0_1_0)
    (eq0 : q0 = VecWindow.window x6 ![0, 0] S1x1408.size inb_S3x1408_S1x1408_0_0)
    (eq1 : q1 = VecWindow.window x6 ![1, 0] S1x1408.size inb_S3x1408_S1x1408_1_0)
    (eq2 : q2 = VecWindow.window x6 ![2, 0] S1x1408.size inb_S3x1408_S1x1408_2_0)
    (ea : a = rowA i s) (eb : b = rowB i s) :
    k0_pay1 (k0_pay5 h1 y4) (k0_pay6 h2 y5) (k0_pay10 (k0_pay5 h1 y4) (beginsAt i) (k0_pay8 p1) b)
      (k0_pay13 (k0_pay5 h1 y4) (beginsAt i) (k0_pay7 i p0 a) (k0_pay8 p1) b y7 q0) q1 q2 acc' y8
      = accOf i h acc x1 x4 x5 x6 x7 x8 (rowA i s) (rowB i s) := by
  subst e1 e2 e3 e4 e5 e7 e8 ep0 ep1 eq0 eq1 eq2 ea eb
  rfl

set_option maxHeartbeats 2000000 in
theorem runLeft (c : Dev nD) (i : grid0.Coords) (arg2 : Memref sig .tc .vmem S512x1024 .f32) (harg2 : arg2.IsWhole) (arg3 : Memref sig .tc .vmem S1x2x1408 .f32) (harg3 : arg3.IsWhole) (arg4 : Memref sig .tc .vmem S1x2x1408 .f32) (harg4 : arg4.IsWhole) (arg5 : Memref sig .tc .vmem S6x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1408x1024 .bf16) (harg10 : arg10.IsWhole) (arg11 : Memref sig .tc .vmem S512x1024 .f32) (harg11 : arg11.IsWhole) (arg12 : Memref sig .tc .vmem S1x2x1408 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S2x8x1408 .f32) (harg15 : arg15.IsWhole) (hl : atLeft i) (hr : ¬atRight i)
    (x0 : Vec F S512x1024 .f32) (x1 : Vec F S1x2x1408 .f32) (x2 : Vec F S1x2x1408 .f32) (x3 : Vec F S6x1024 .f32) (x4 : Vec F S1024x1408 .bf16) (x5 : Vec F S1024x1408 .bf16) (x6 : Vec F S3x1408 .f32) (x7 : Vec F S1x1408 .f32) (x8 : Vec F S1408x1024 .bf16) (x9 : Vec F S512x1024 .f32) (xs2 : Vec F S2x8x1408 .f32) (E : Set ℕ) (K : PUnit → sProp (MT nD τ sig Unit (Elt F) ℕ (UR sig nD τ) ℕ)) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ (∃ d, owns c.tc arg12 fullShare d) ∗ (∃ d, owns c.tc arg13 fullShare d) ∗ (∃ d, owns c.tc arg14 fullShare d) ∗ owns c.tc arg15 fullShare xs2
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare x9 ∗ owns c.tc arg12 fullShare (k0_pay12 (k0_pay5 (hOf x0 x3) x4)) ∗ owns c.tc arg13 fullShare (hOf x0 x3) ∗ owns c.tc arg14 fullShare (accOf i (hOf x0 x3) (k0_pay4 (F := F)) x1 x4 x5 x6 x7 x8 (rowA i xs2) (rowB i xs2)) ∗ owns c.tc arg15 fullShare (keptOf i xs2 (hOf x0 x3) x4)) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_conv_ffn_eq_skeleton]; unfold cc0_conv_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, ⟨%ds1, %fs1, -, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg15.eq_unread hfs2
  sl_exec (disch := first | sl_exact hl | sl_exact hr)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    exact harg11.read_unread _
  isplitl [H10]
  · iexists _; isplitr
    swap; · iexact H10
    ipureintro
    exact (View.read_writes_full _ _ _ _ _).trans (congrArg k0_pay12 (congrArg₂ k0_pay5 ((View.readCov_full _ _ _ _ _).trans (congrArg₂ k0_pay3 (full harg2) (part harg5 rfl))) (full harg6)))
  isplitl [HS0]
  · iexists _; isplitr
    swap; · iexact HS0
    ipureintro
    exact (View.read_writes_full _ _ _ _ _).trans (congrArg₂ k0_pay3 (full harg2) (part harg5 rfl))
  isplitl [HS1]
  · iexists _; isplitr
    swap; · iexact HS1
    ipureintro
    exact (View.read_writes_full _ _ _ _ _).trans (acc_eq ((View.readCov_full _ _ _ _ _).trans (congrArg₂ k0_pay3 (full harg2) (part harg5 rfl))) ((View.readCov_full _ _ _ _ _).trans (congrArg₂ k0_pay3 (full harg2) (part harg5 rfl))) (View.readCov_full _ _ _ _ _) (full harg6) (full harg7) (full harg9) (full harg10) (part harg3 rfl) (part harg3 rfl) (part harg8 rfl) (part harg8 rfl) (part harg8 rfl) (part harg15 rfl) (part harg15 rfl))
  iexists _; isplitr
  swap; · iexact HS2
  ipureintro
  exact (View.read_writes_cons_put _ _ _ _ _ rfl).trans (congrArg₂ (fun a b => VecWindow.put a _ _ b) (harg15.read_unread _) (congrArg k0_pay11 (congrArg₂ k0_pay5 ((View.readCov_full _ _ _ _ _).trans (congrArg₂ k0_pay3 (full harg2) (part harg5 rfl))) (full harg6))))

set_option maxHeartbeats 2000000 in
theorem runRight (c : Dev nD) (i : grid0.Coords) (arg2 : Memref sig .tc .vmem S512x1024 .f32) (harg2 : arg2.IsWhole) (arg3 : Memref sig .tc .vmem S1x2x1408 .f32) (harg3 : arg3.IsWhole) (arg4 : Memref sig .tc .vmem S1x2x1408 .f32) (harg4 : arg4.IsWhole) (arg5 : Memref sig .tc .vmem S6x1024 .f32) (harg5 : arg5.IsWhole) (arg6 : Memref sig .tc .vmem S1024x1408 .bf16) (harg6 : arg6.IsWhole) (arg7 : Memref sig .tc .vmem S1024x1408 .bf16) (harg7 : arg7.IsWhole) (arg8 : Memref sig .tc .vmem S3x1408 .f32) (harg8 : arg8.IsWhole) (arg9 : Memref sig .tc .vmem S1x1408 .f32) (harg9 : arg9.IsWhole) (arg10 : Memref sig .tc .vmem S1408x1024 .bf16) (harg10 : arg10.IsWhole) (arg11 : Memref sig .tc .vmem S512x1024 .f32) (harg11 : arg11.IsWhole) (arg12 : Memref sig .tc .vmem S1x2x1408 .f32) (harg12 : arg12.IsWhole) (arg13 : Memref sig .tc .vmem S512x1024 .bf16) (harg13 : arg13.IsWhole) (arg14 : Memref sig .tc .vmem S512x1024 .f32) (harg14 : arg14.IsWhole) (arg15 : Memref sig .tc .vmem S2x8x1408 .f32) (harg15 : arg15.IsWhole) (hl : ¬atLeft i) (hr : atRight i)
    (x0 : Vec F S512x1024 .f32) (x1 : Vec F S1x2x1408 .f32) (x2 : Vec F S1x2x1408 .f32) (x3 : Vec F S6x1024 .f32) (x4 : Vec F S1024x1408 .bf16) (x5 : Vec F S1024x1408 .bf16) (x6 : Vec F S3x1408 .f32) (x7 : Vec F S1x1408 .f32) (x8 : Vec F S1408x1024 .bf16) (xs0 : Vec F S512x1024 .bf16) (xs1 : Vec F S512x1024 .f32) (xs2 : Vec F S2x8x1408 .f32) (E : Set ℕ) (K : PUnit → sProp (MT nD τ sig Unit (Elt F) ℕ (UR sig nD τ) ℕ)) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ (∃ d, owns c.tc arg11 fullShare d) ∗ (∃ d, owns c.tc arg12 fullShare d) ∗ owns c.tc arg13 fullShare xs0 ∗ owns c.tc arg14 fullShare xs1 ∗ owns c.tc arg15 fullShare xs2
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ owns c.tc arg10 fullShare x8 ∗ owns c.tc arg11 fullShare (outOf x0 (accOf i xs0 xs1 x1 x4 x5 x6 x7 x8 (rowA i xs2) (rowB i xs2)) x3) ∗ owns c.tc arg12 fullShare (k0_pay12 (k0_pay5 xs0 x4)) ∗ owns c.tc arg13 fullShare xs0 ∗ owns c.tc arg14 fullShare (accOf i xs0 xs1 x1 x4 x5 x6 x7 x8 (rowA i xs2) (rowB i xs2)) ∗ owns c.tc arg15 fullShare (keptOf i xs2 xs0 x4)) -∗ K ⟨⟩))
      ⊢ wp frame (wpE (defs₀ (F := F)) Variants.none c none) E (cc0_conv_ffn i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_conv_ffn_eq_skeleton]; unfold cc0_conv_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hfs0; obtain rfl := harg14.eq_unread hfs1; obtain rfl := harg15.eq_unread hfs2
  sl_exec (disch := first | sl_exact hl | sl_exact hr)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    exact (View.read_writes_full _ _ _ _ _).trans (congr (congrArg₂ k0_pay2 (full harg2) ((View.readCov_full _ _ _ _ _).trans (acc_eq (full harg13) (full harg13) (full harg14) (full harg6) (full harg7) (full harg9) (full harg10) (part harg3 rfl) (part harg3 rfl) (part harg8 rfl) (part harg8 rfl) (part harg8 rfl) (part harg15 rfl) (part harg15 rfl)))) (part harg5 rfl))
  isplitl [H10]
  · iexists _; isplitr
    swap; · iexact H10
    ipureintro
    exact (View.read_writes_full _ _ _ _ _).trans (congrArg k0_pay12 (congrArg₂ k0_pay5 (full harg13) (full harg6)))
  isplitl [HS0]
  · iexists _; isplitr
    swap; · iexact HS0
    ipureintro
    exact harg13.read_unread _
  isplitl [HS1]
  · iexists _; isplitr
    swap; · iexact HS1
    ipureintro
    exact (View.read_writes_full _ _ _ _ _).trans (acc_eq (full harg13) (full harg13) (full harg14) (full harg6) (full harg7) (full harg9) (full harg10) (part harg3 rfl) (part harg3 rfl) (part harg8 rfl) (part harg8 rfl) (part harg8 rfl) (part harg15 rfl) (part harg15 rfl))
  iexists _; isplitr
  swap; · iexact HS2
  ipureintro
  exact (View.read_writes_cons_put _ _ _ _ _ rfl).trans (congrArg₂ (fun a b => VecWindow.put a _ _ b) (harg15.read_unread _) (congrArg k0_pay11 (congrArg₂ k0_pay5 (full harg13) (full harg6))))

end Cert.Kernel3Ideal.Ffn

end
-- ==== Proof.FfnFrameIdeal.lean ====
/- The feed-forward kernel's run: the buffer it carries between points, and what the arrays hold after it. -/
module

public import proofs.«01_k».proof.Proof.FfnRunIdeal
public import Idealize.ShloMosaic.Lib.Claim

@[expose] public section

set_option maxRecDepth 16384

noncomputable section

namespace Cert.Kernel3Ideal.Ffn

open Idealize.ShloMosaic Idealize.ShloMosaic.TcCoe Idealize.ShloMosaic.Tactic
open Cert.Kernel3Ideal Cert.Kernel3Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The places of the carried buffer -/

theorem coord0 (t : Fin cfg0.N) : ((grid0.coords t) 0).val = t.val / 2 := by
  have ht : t.val < 128 := Nat.lt_of_lt_of_eq t.isLt N_0
  have e1 : (grid0.coords t 0).val = t.val / 2 % 64 := Pipeline.Grid.coords_val t 0 (by decide) rfl
  omega

theorem coord1 (t : Fin cfg0.N) : ((grid0.coords t) 1).val = t.val % 2 := by
  have e1 : (grid0.coords t 1).val = t.val / 1 % 2 := Pipeline.Grid.coords_val t 1 (by decide) rfl
  omega

theorem word_of_half (n : ℕ) (h : n < 2) : (Scalar.indexCast (BitVec.ofNat 32 n) : Index).toNat = n := by
  exact (by decide : ∀ n : Fin 2, (Scalar.indexCast (BitVec.ofNat 32 n.val) : Index).toNat = n.val) ⟨n, h⟩

theorem place1 (i : grid0.Coords) : k0_off1 i = ![(i 1).val, 6, 0] := by
  have h := word_of_half (i 1).val (i 1).isLt
  simp only [k0_off1, h]

theorem place2 (i : grid0.Coords) : k0_off2 i = ![(i 1).val, 7, 0] := by
  have h := word_of_half (i 1).val (i 1).isLt
  simp only [k0_off2, h]

theorem place3 (i : grid0.Coords) : k0_off3 i = ![(i 1).val, 0, 0] := by
  have h := word_of_half (i 1).val (i 1).isLt
  simp only [k0_off3, h]

/-- The eight rows the carried buffer holds for a half. -/
def eight (i : grid0.Coords) (s : Vec F S2x8x1408 .f32) : Vec F S1x8x1408 .f32 :=
  VecWindow.window s (k0_off3 i) S1x8x1408.size (k0_off3_inb i)

/-- The last but one of eight rows, and the last. -/
def lastA (v : Vec F S1x8x1408 .f32) : Vec F S1x1x1408 .f32 := VecWindow.window v ![0, 6, 0] S1x1x1408.size (by decide)
def lastB (v : Vec F S1x8x1408 .f32) : Vec F S1x1x1408 .f32 := VecWindow.window v ![0, 7, 0] S1x1x1408.size (by decide)

theorem rowA_eq (i j : grid0.Coords) (h : (i 1).val = (j 1).val) (s : Vec F S2x8x1408 .f32) : rowA i s = lastA (eight j s) := by
  funext y
  refine congrArg s (funext fun a => Fin.ext ?_)
  show k0_off1 i a + 1 * (y a).val = k0_off3 j a + 1 * ((![0, 6, 0] : Fin 3 → ℕ) a + 1 * (y a).val)
  rw [place1, place3, h]
  fin_cases a
  · show (j 1).val + 1 * (y 0).val = (j 1).val + 1 * (0 + 1 * (y 0).val); omega
  · show 6 + 1 * (y 1).val = 0 + 1 * (6 + 1 * (y 1).val); omega
  · show 0 + 1 * (y 2).val = 0 + 1 * (0 + 1 * (y 2).val); omega

theorem rowB_eq (i j : grid0.Coords) (h : (i 1).val = (j 1).val) (s : Vec F S2x8x1408 .f32) : rowB i s = lastB (eight j s) := by
  funext y
  refine congrArg s (funext fun a => Fin.ext ?_)
  show k0_off2 i a + 1 * (y a).val = k0_off3 j a + 1 * ((![0, 7, 0] : Fin 3 → ℕ) a + 1 * (y a).val)
  rw [place2, place3, h]
  fin_cases a
  · show (j 1).val + 1 * (y 0).val = (j 1).val + 1 * (0 + 1 * (y 0).val); omega
  · show 7 + 1 * (y 1).val = 0 + 1 * (7 + 1 * (y 1).val); omega
  · show 0 + 1 * (y 2).val = 0 + 1 * (0 + 1 * (y 2).val); omega

/-- What is put in a half's place is what the place holds. -/
theorem eight_kept (i j : grid0.Coords) (h : (j 1).val = (i 1).val) (s : Vec F S2x8x1408 .f32) (g : Vec F S512x1024 .bf16) (w : Vec F S1024x1408 .bf16) :
    eight j (keptOf i s g w) = k0_pay11 (k0_pay5 g w) := by
  have e : eight j (keptOf i s g w) = eight i (keptOf i s g w) := by
    funext y
    refine congrArg (keptOf i s g w) (funext fun a => Fin.ext ?_)
    show k0_off3 j a + 1 * (y a).val = k0_off3 i a + 1 * (y a).val
    rw [place3, place3, h]
  rw [e]
  exact VecWindow.window_put_same _ _ _ _ _

/-- The other half's place is left alone. -/
theorem eight_other (i j : grid0.Coords) (h : (j 1).val ≠ (i 1).val) (s : Vec F S2x8x1408 .f32) (g : Vec F S512x1024 .bf16) (w : Vec F S1024x1408 .bf16) :
    eight j (keptOf i s g w) = eight j s := by
  refine VecWindow.window_put_of_disjoint _ _ _ _ _ _ _ (0 : Fin 3) ?_
  rw [place3, place3]
  show (j 1).val + 1 ≤ (i 1).val ∨ (i 1).val + 1 ≤ (j 1).val
  omega

/-- At a sequence's first tile the sum is the same whatever the carried buffer holds. -/
theorem accOf_begins (i : grid0.Coords) (hb : beginsAt i = 1#1) (h : Vec F S512x1024 .bf16) (acc : Vec F S512x1024 .f32) (x1 : Vec F S1x2x1408 .f32)
    (x4 x5 : Vec F S1024x1408 .bf16) (x6 : Vec F S3x1408 .f32) (x7 : Vec F S1x1408 .f32) (x8 : Vec F S1408x1024 .bf16)
    (a b a' b' : Vec F S1x1x1408 .f32) : accOf i h acc x1 x4 x5 x6 x7 x8 a b = accOf i h acc x1 x4 x5 x6 x7 x8 a' b' := by
  have e7 : ∀ v : Vec F S1x1x1408 .f32, k0_pay7 i v a = k0_pay7 i v a' := fun v => by
    show Scalar.select (beginsAt i) _ _ = Scalar.select (beginsAt i) _ _
    rw [hb]; rfl
  have e9 : ∀ v : FVec F S1x1408 .f32, k0_pay9 (beginsAt i) v b = k0_pay9 (beginsAt i) v b' := fun v => by
    rw [hb]; rfl
  have e10 : ∀ (g : FVec F S512x1408 .f32) (v : FVec F S1x1408 .f32), k0_pay10 g (beginsAt i) v b = k0_pay10 g (beginsAt i) v b' := fun g v => by
    unfold k0_pay10; rw [e9]
  have e13 : ∀ (g : FVec F S512x1408 .f32) (u v : FVec F S1x1408 .f32) (p q : Vec F S1x1408 .f32),
      k0_pay13 g (beginsAt i) u v b p q = k0_pay13 g (beginsAt i) u v b' p q := fun g u v p q => by
    unfold k0_pay13; rw [e9]
  unfold accOf
  rw [e7, e10, e13]

theorem begins_first (t : Fin cfg0.N) (h : t.val < 2) : beginsAt (grid0.coords t) = 1#1 := by
  have e : (grid0.coords t 0).val = 0 := by rw [coord0]; omega
  unfold beginsAt
  rw [e]
  rfl

/-! ## What each point leaves -/

variable (m : (ℓ : Loc nD τ sig) → Buf (Elt F) ℓ) (ρ : Dev nD → PrngReg)

/-- The point `k` before a point, or the first one. -/
abbrev back (k : ℕ) (t : Fin cfg0.N) : Fin cfg0.N := ⟨t.val - k, Nat.lt_of_le_of_lt (Nat.sub_le _ _) t.isLt⟩

/-- The normalised rows at a point. -/
def hAt (c : Dev nD) (t : Fin cfg0.N) : Vec F S512x1024 .bf16 := hOf (iblk m c 0 t) (iblk m c 3 t)

/-- The last eight gate rows of a point. -/
def eightAt (c : Dev nD) (t : Fin cfg0.N) : Vec F S1x8x1408 .f32 := k0_pay11 (k0_pay5 (hAt m c t) (iblk m c 4 t))

/-- A sum with a point's contribution added. -/
def stepAt (c : Dev nD) (t : Fin cfg0.N) (acc : Vec F S512x1024 .f32) : Vec F S512x1024 .f32 :=
  accOf (grid0.coords t) (hAt m c t) acc (iblk m c 1 t) (iblk m c 4 t) (iblk m c 5 t) (iblk m c 6 t) (iblk m c 7 t) (iblk m c 8 t)
    (lastA (eightAt m c (back 2 t))) (lastB (eightAt m c (back 2 t)))

/-- The sum after a point: of the first half alone, or of both. -/
def accAt (c : Dev nD) (t : Fin cfg0.N) : Vec F S512x1024 .f32 :=
  if t.val % 2 = 0 then stepAt m c t k0_pay4 else stepAt m c t (stepAt m c (back 1 t) k0_pay4)

/-- The output tile at a point. -/
def outAt (c : Dev nD) (t : Fin cfg0.N) : Vec F S512x1024 .f32 := outOf (iblk m c 0 t) (accAt m c t) (iblk m c 3 t)

/-- The last two gate rows at a point. -/
def twoAt (c : Dev nD) (t : Fin cfg0.N) : Vec F S1x2x1408 .f32 := k0_pay12 (k0_pay5 (hAt m c t) (iblk m c 4 t))

theorem accAt_even (c : Dev nD) (t : Fin cfg0.N) (h : t.val % 2 = 0) : accAt m c t = stepAt m c t k0_pay4 := if_pos h

theorem accAt_odd (c : Dev nD) (t : Fin cfg0.N) (h : t.val % 2 = 1) : accAt m c t = stepAt m c t (accAt m c (back 1 t)) := by
  rw [accAt_even m c (back 1 t) (by show (t.val - 1) % 2 = 0; omega)]
  exact if_neg (by omega)

/-- Both halves of a tile have the same rows. -/
theorem hAt_odd (c : Dev nD) (t : Fin cfg0.N) (h : t.val % 2 = 1) : hAt m c (back 1 t) = hAt m c t := by
  have e0 : (iblk m c 0 (back 1 t) : Vec F S512x1024 .f32) = iblk m c 0 t := by
    have e := (by decide +kernel : ∀ t : Fin grid0.N, win0_0.index t 0 * win0_0.size 0 = 512 * (t.val / 2) ∧ win0_0.index t 1 * win0_0.size 1 = 0)
    funext y
    refine congrArg (V m c main_arg0) (funext fun a => Fin.ext ?_)
    match a with
    | ⟨0, _⟩ =>
      show win0_0.index (back 1 t) 0 * win0_0.size 0 + 1 * (y 0).val = win0_0.index t 0 * win0_0.size 0 + 1 * (y 0).val
      rw [(e (back 1 t)).1, (e t).1]
      show 512 * ((t.val - 1) / 2) + _ = _
      omega
    | ⟨1, _⟩ =>
      show win0_0.index (back 1 t) 1 * win0_0.size 1 + 1 * (y 1).val = win0_0.index t 1 * win0_0.size 1 + 1 * (y 1).val
      rw [(e (back 1 t)).2, (e t).2]
  have e3 : (iblk m c 3 (back 1 t) : Vec F S6x1024 .f32) = iblk m c 3 t := by
    have e := (by decide +kernel : ∀ t : Fin grid0.N, win0_3.index t 0 * win0_3.size 0 = 0 ∧ win0_3.index t 1 * win0_3.size 1 = 0)
    funext y
    refine congrArg (V m c main_arg2) (funext fun a => Fin.ext ?_)
    match a with
    | ⟨0, _⟩ =>
      show win0_3.index (back 1 t) 0 * win0_3.size 0 + 1 * (y 0).val = win0_3.index t 0 * win0_3.size 0 + 1 * (y 0).val
      rw [(e (back 1 t)).1, (e t).1]
    | ⟨1, _⟩ =>
      show win0_3.index (back 1 t) 1 * win0_3.size 1 + 1 * (y 1).val = win0_3.index t 1 * win0_3.size 1 + 1 * (y 1).val
      rw [(e (back 1 t)).2, (e t).2]
  unfold hAt
  rw [e0, e3]

/-- The carried buffer holds, in each half's place, the last eight rows of the point at that half last run. -/
def Keeps (c : Dev nD) (n : ℕ) (s : Vec F S2x8x1408 .f32) : Prop :=
  ∀ t : Fin cfg0.N, t.val < n → n ≤ t.val + 2 → eight (grid0.coords t) s = eightAt m c t

theorem keeps_next (c : Dev nD) (t : Fin cfg0.N) (s : Vec F S2x8x1408 .f32) (h : Keeps m c t.val s) :
    Keeps m c (t.val + 1) (keptOf (grid0.coords t) s (hAt m c t) (iblk m c 4 t)) := by
  intro u hu1 hu2
  by_cases hut : u = t
  · subst hut
    exact eight_kept _ _ rfl _ _ _
  · have hv : u.val ≠ t.val := fun e => hut (Fin.ext e)
    rw [eight_other _ _ (by rw [coord1, coord1]; omega)]
    exact h u (by omega) (by omega)

/-- A point's contribution, from the rows the carried buffer holds. -/
theorem step_eq (c : Dev nD) (t : Fin cfg0.N) (acc : Vec F S512x1024 .f32) (s : Vec F S2x8x1408 .f32) (h : Keeps m c t.val s) :
    accOf (grid0.coords t) (hAt m c t) acc (iblk m c 1 t) (iblk m c 4 t) (iblk m c 5 t) (iblk m c 6 t) (iblk m c 7 t) (iblk m c 8 t)
      (rowA (grid0.coords t) s) (rowB (grid0.coords t) s) = stepAt m c t acc := by
  by_cases ht : t.val < 2
  · exact accOf_begins _ (begins_first t ht) _ _ _ _ _ _ _ _ _ _ _ _
  · have hk := h (back 2 t) (by show t.val - 2 < t.val; omega) (by show t.val ≤ t.val - 2 + 2; omega)
    have hc : (grid0.coords t 1).val = (grid0.coords (back 2 t) 1).val := by
      rw [coord1, coord1]; show t.val % 2 = (t.val - 2) % 2; omega
    unfold stepAt
    rw [rowA_eq _ _ hc, rowB_eq _ _ hc, hk]

/-- Window 0 is in use at every point. -/
theorem liveAt0_0 : ∀ t : Fin cfg0.N, cfg0.idle 0 (grid0.coords t) = false := fun _ => rfl
/-- Window 1 is in use at every point. -/
theorem liveAt0_1 : ∀ t : Fin cfg0.N, cfg0.idle 1 (grid0.coords t) = false := fun _ => rfl
/-- Window 2 is in use at every point. -/
theorem liveAt0_2 : ∀ t : Fin cfg0.N, cfg0.idle 2 (grid0.coords t) = false := fun _ => rfl
/-- Window 3 is in use at every point. -/
theorem liveAt0_3 : ∀ t : Fin cfg0.N, cfg0.idle 3 (grid0.coords t) = false := fun _ => rfl
/-- Window 4 is in use at every point. -/
theorem liveAt0_4 : ∀ t : Fin cfg0.N, cfg0.idle 4 (grid0.coords t) = false := fun _ => rfl
/-- Window 5 is in use at every point. -/
theorem liveAt0_5 : ∀ t : Fin cfg0.N, cfg0.idle 5 (grid0.coords t) = false := fun _ => rfl
/-- Window 6 is in use at every point. -/
theorem liveAt0_6 : ∀ t : Fin cfg0.N, cfg0.idle 6 (grid0.coords t) = false := fun _ => rfl
/-- Window 7 is in use at every point. -/
theorem liveAt0_7 : ∀ t : Fin cfg0.N, cfg0.idle 7 (grid0.coords t) = false := fun _ => rfl
/-- Window 8 is in use at every point. -/
theorem liveAt0_8 : ∀ t : Fin cfg0.N, cfg0.idle 8 (grid0.coords t) = false := fun _ => rfl
/-- Window 10 is in use at every point. -/
theorem liveAt0_10 : ∀ t : Fin cfg0.N, cfg0.idle 10 (grid0.coords t) = false := fun _ => rfl
/-- Output 9 is left alone at the even points, -/
theorem idle9 : ∀ t : Fin cfg0.N, t.val % 2 = 0 → cfg0.idle 9 (grid0.coords t) = true := by decide +kernel
/-- is not written back there, -/
theorem noFlush9 : ∀ t : Fin cfg0.N, t.val % 2 = 0 → (cfg0.win 9).flush t = false := by decide +kernel
/-- and is in use at the odd points. -/
theorem live9 : ∀ t : Fin cfg0.N, t.val % 2 = 1 → cfg0.idle 9 (grid0.coords t) = false := by decide +kernel

/-- The staging buffers at a point, and that they are whole. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2x1408 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2x1408 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S6x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1408 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S3x1408 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1408 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1408x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x1408 .f32 := win0_10.stage (cfg0.slots t 10)
abbrev hs0_10 (t : Fin cfg0.N) : (ms0_10 t).IsWhole := hstage0_10 ((cfg0.slots t 10).cast nbuf0_10)
/-- The buffers the kernel keeps for itself. -/
abbrev scM0_0 : Memref sig .tc .vmem S512x1024 .bf16 := Memref.whole cc0_scratch0
abbrev scM0_1 : Memref sig .tc .vmem S512x1024 .f32 := Memref.whole cc0_scratch1
abbrev scM0_2 : Memref sig .tc .vmem S2x8x1408 .f32 := Memref.whole cc0_scratch2
/-- What the launch hands the first point: the three buffers the kernel keeps for itself at some contents, and the generator register. -/
theorem PhiA0_eq (c : Dev nD) :
    (Pipeline.ΦA spec0 c : sProp (MT nD τ sig Unit (Elt F) ℕ (UR sig nD τ) ℕ))
      = iprop(iprop((∃ d, owns c.tc scM0_0 fullShare d) ∗ (∃ d, owns c.tc scM0_1 fullShare d) ∗ (∃ d, owns c.tc scM0_2 fullShare d)) ∗ (∃ r, prngReg c r)) := by
  unfold Pipeline.ΦA; rw [scopedRest0_eq]; simp only [scM0_0, scM0_1, scM0_2, owns_whole]; try rfl

/-- Between points: the rows and the sum of the last point, and the carried buffer holding what `Keeps` says. -/
def Phi (c : Dev nD) (n : ℕ) (hn : n ≤ cfg0.N) : sProp (MT nD τ sig Unit (Elt F) ℕ (UR sig nD τ) ℕ) :=
  if h : n = 0 then Pipeline.ΦA spec0 c else
    iprop((owns c.tc scM0_0 fullShare (hAt m c ⟨n - 1, by omega⟩) ∗ owns c.tc scM0_1 fullShare (accAt m c ⟨n - 1, by omega⟩)
      ∗ (∃ s, iprop(⌜Keeps m c n s⌝ ∗ owns c.tc scM0_2 fullShare s))) ∗ (∃ r, prngReg c r))

theorem Phi_zero (c : Dev nD) (n : ℕ) (hn : n ≤ cfg0.N) (h : n = 0) : Phi m c n hn = Pipeline.ΦA spec0 c := dif_pos h

theorem Phi_pos (c : Dev nD) (n : ℕ) (hn : n ≤ cfg0.N) (h : n ≠ 0) : Phi m c n hn =
    iprop((owns c.tc scM0_0 fullShare (hAt m c ⟨n - 1, by omega⟩) ∗ owns c.tc scM0_1 fullShare (accAt m c ⟨n - 1, by omega⟩)
      ∗ (∃ s, iprop(⌜Keeps m c n s⌝ ∗ owns c.tc scM0_2 fullShare s))) ∗ (∃ r, prngReg c r)) := dif_neg h

theorem Phi_succ (c : Dev nD) (t : Fin cfg0.N) : Phi m c (t.val + 1) t.isLt =
    iprop((owns c.tc scM0_0 fullShare (hAt m c t) ∗ owns c.tc scM0_1 fullShare (accAt m c t)
      ∗ (∃ s, iprop(⌜Keeps m c (t.val + 1) s⌝ ∗ owns c.tc scM0_2 fullShare s))) ∗ (∃ r, prngReg c r)) := dif_neg (Nat.succ_ne_zero _)

/-- What the arrays hold before the first point, and what each point leaves in every block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
    | ⟨10, _⟩ => twoAt m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_start (c : Dev nD) (t : Fin cfg0.N) :
    (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem after0_10 (c : Dev nD) (t : Fin cfg0.N) : (dats m 0 c).after 10 t = twoAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns c.tc (ms0_0 t) fullShare ((dats m 0 c).before 0 t d))
    ∗ (∃ d, owns c.tc (ms0_1 t) fullShare ((dats m 0 c).before 1 t d))
    ∗ (∃ d, owns c.tc (ms0_2 t) fullShare ((dats m 0 c).before 2 t d))
    ∗ (∃ d, owns c.tc (ms0_3 t) fullShare ((dats m 0 c).before 3 t d))
    ∗ (∃ d, owns c.tc (ms0_4 t) fullShare ((dats m 0 c).before 4 t d))
    ∗ (∃ d, owns c.tc (ms0_5 t) fullShare ((dats m 0 c).before 5 t d))
    ∗ (∃ d, owns c.tc (ms0_6 t) fullShare ((dats m 0 c).before 6 t d))
    ∗ (∃ d, owns c.tc (ms0_7 t) fullShare ((dats m 0 c).before 7 t d))
    ∗ (∃ d, owns c.tc (ms0_8 t) fullShare ((dats m 0 c).before 8 t d))
    ∗ (∃ d, owns c.tc (ms0_9 t) fullShare ((dats m 0 c).before 9 t d))
    ∗ (∃ d, owns c.tc (ms0_10 t) fullShare ((dats m 0 c).before 10 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
theorem body_even (c : Dev nD) (t : Fin cfg0.N) (h0 : t.val % 2 = 0) (K : PUnit → sProp (MT nD τ sig Unit (Elt F) ℕ (UR sig nD τ) ℕ)) (s : Vec F S2x8x1408 .f32) (x9 : Vec F S512x1024 .f32) (hs : Keeps m c t.val s) :
    iprop(owns c.tc (ms0_0 t) fullShare (iblk m c 0 t) ∗ owns c.tc (ms0_1 t) fullShare (iblk m c 1 t) ∗ owns c.tc (ms0_2 t) fullShare (iblk m c 2 t) ∗ owns c.tc (ms0_3 t) fullShare (iblk m c 3 t) ∗ owns c.tc (ms0_4 t) fullShare (iblk m c 4 t) ∗ owns c.tc (ms0_5 t) fullShare (iblk m c 5 t) ∗ owns c.tc (ms0_6 t) fullShare (iblk m c 6 t) ∗ owns c.tc (ms0_7 t) fullShare (iblk m c 7 t) ∗ owns c.tc (ms0_8 t) fullShare (iblk m c 8 t) ∗ owns c.tc (ms0_9 t) fullShare x9 ∗ (∃ d, owns c.tc (ms0_10 t) fullShare d) ∗ (∃ d, owns c.tc scM0_0 fullShare d) ∗ (∃ d, owns c.tc scM0_1 fullShare d) ∗ owns c.tc scM0_2 fullShare s ∗ (iprop(owns c.tc (ms0_0 t) fullShare (iblk m c 0 t) ∗ owns c.tc (ms0_1 t) fullShare (iblk m c 1 t) ∗ owns c.tc (ms0_2 t) fullShare (iblk m c 2 t) ∗ owns c.tc (ms0_3 t) fullShare (iblk m c 3 t) ∗ owns c.tc (ms0_4 t) fullShare (iblk m c 4 t) ∗ owns c.tc (ms0_5 t) fullShare (iblk m c 5 t) ∗ owns c.tc (ms0_6 t) fullShare (iblk m c 6 t) ∗ owns c.tc (ms0_7 t) fullShare (iblk m c 7 t) ∗ owns c.tc (ms0_8 t) fullShare (iblk m c 8 t) ∗ owns c.tc (ms0_9 t) fullShare x9 ∗ owns c.tc (ms0_10 t) fullShare (twoAt m c t) ∗ owns c.tc scM0_0 fullShare (hAt m c t) ∗ owns c.tc scM0_1 fullShare (accAt m c t) ∗ owns c.tc scM0_2 fullShare (keptOf (grid0.coords t) s (hAt m c t) (iblk m c 4 t))) -∗ K ⟨⟩)) ⊢ wp frame (wpE (defs₀ (F := F)) Variants.none c none) Set.univ (bodyAt0 t) K := by
  unfold bodyAt0
  rw [accAt_even m c t h0, ← step_eq m c t _ s hs]
  exact runLeft c (grid0.coords t) _ _ _ _ _ _ _ _ _ _ _ _ _ _ _ _ _ _ _ _ _ _ _ _ _ _ _ _ ((atLeft_iff t).mpr h0) (fun h => by have := (atRight_iff t).mp h; omega) (iblk m c 0 t) (iblk m c 1 t) (iblk m c 2 t) (iblk m c 3 t) (iblk m c 4 t) (iblk m c 5 t) (iblk m c 6 t) (iblk m c 7 t) (iblk m c 8 t) x9 s Set.univ K

set_option maxHeartbeats 4000000 in
theorem body_odd (c : Dev nD) (t : Fin cfg0.N) (h0 : t.val % 2 = 1) (K : PUnit → sProp (MT nD τ sig Unit (Elt F) ℕ (UR sig nD τ) ℕ)) (s : Vec F S2x8x1408 .f32) (hs : Keeps m c t.val s) :
    iprop(owns c.tc (ms0_0 t) fullShare (iblk m c 0 t) ∗ owns c.tc (ms0_1 t) fullShare (iblk m c 1 t) ∗ owns c.tc (ms0_2 t) fullShare (iblk m c 2 t) ∗ owns c.tc (ms0_3 t) fullShare (iblk m c 3 t) ∗ owns c.tc (ms0_4 t) fullShare (iblk m c 4 t) ∗ owns c.tc (ms0_5 t) fullShare (iblk m c 5 t) ∗ owns c.tc (ms0_6 t) fullShare (iblk m c 6 t) ∗ owns c.tc (ms0_7 t) fullShare (iblk m c 7 t) ∗ owns c.tc (ms0_8 t) fullShare (iblk m c 8 t) ∗ (∃ d, owns c.tc (ms0_9 t) fullShare d) ∗ (∃ d, owns c.tc (ms0_10 t) fullShare d) ∗ owns c.tc scM0_0 fullShare (hAt m c (back 1 t)) ∗ owns c.tc scM0_1 fullShare (accAt m c (back 1 t)) ∗ owns c.tc scM0_2 fullShare s ∗ (iprop(owns c.tc (ms0_0 t) fullShare (iblk m c 0 t) ∗ owns c.tc (ms0_1 t) fullShare (iblk m c 1 t) ∗ owns c.tc (ms0_2 t) fullShare (iblk m c 2 t) ∗ owns c.tc (ms0_3 t) fullShare (iblk m c 3 t) ∗ owns c.tc (ms0_4 t) fullShare (iblk m c 4 t) ∗ owns c.tc (ms0_5 t) fullShare (iblk m c 5 t) ∗ owns c.tc (ms0_6 t) fullShare (iblk m c 6 t) ∗ owns c.tc (ms0_7 t) fullShare (iblk m c 7 t) ∗ owns c.tc (ms0_8 t) fullShare (iblk m c 8 t) ∗ owns c.tc (ms0_9 t) fullShare (outAt m c t) ∗ owns c.tc (ms0_10 t) fullShare (twoAt m c t) ∗ owns c.tc scM0_0 fullShare (hAt m c t) ∗ owns c.tc scM0_1 fullShare (accAt m c t) ∗ owns c.tc scM0_2 fullShare (keptOf (grid0.coords t) s (hAt m c t) (iblk m c 4 t))) -∗ K ⟨⟩)) ⊢ wp frame (wpE (defs₀ (F := F)) Variants.none c none) Set.univ (bodyAt0 t) K := by
  unfold bodyAt0
  unfold outAt
  rw [accAt_odd m c t h0, ← step_eq m c t _ s hs]
  unfold twoAt
  rw [← hAt_odd m c t h0]
  exact runRight c (grid0.coords t) _ _ _ _ _ _ _ _ _ _ _ _ _ _ _ _ _ _ _ _ _ _ _ _ _ _ _ _ (fun h => by have := (atLeft_iff t).mp h; omega) ((atRight_iff t).mpr h0) (iblk m c 0 t) (iblk m c 1 t) (iblk m c 2 t) (iblk m c 3 t) (iblk m c 4 t) (iblk m c 5 t) (iblk m c 6 t) (iblk m c 7 t) (iblk m c 8 t) (hAt m c (back 1 t)) (accAt m c (back 1 t)) s Set.univ K

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl]
  rw [show (dats m 0 c).Φ t.succ = Phi m c (t.val + 1) t.isLt from rfl, Phi_succ]
  have hN : t.val < 128 := lt_of_lt_of_eq t.isLt (show cfg0.N = 128 from N_0)
  rw [show (dats m 0 c).leavesExact 0 t = owns c.tc (ms0_0 t) fullShare ((dats m 0 c).after 0 t) from by
    unfold Dat.leavesExact; rw [liveAt0_0 t], after0_0]
  rw [show (dats m 0 c).leavesExact 1 t = owns c.tc (ms0_1 t) fullShare ((dats m 0 c).after 1 t) from by
    unfold Dat.leavesExact; rw [liveAt0_1 t], after0_1]
  rw [show (dats m 0 c).leavesExact 2 t = owns c.tc (ms0_2 t) fullShare ((dats m 0 c).after 2 t) from by
    unfold Dat.leavesExact; rw [liveAt0_2 t], after0_2]
  rw [show (dats m 0 c).leavesExact 3 t = owns c.tc (ms0_3 t) fullShare ((dats m 0 c).after 3 t) from by
    unfold Dat.leavesExact; rw [liveAt0_3 t], after0_3]
  rw [show (dats m 0 c).leavesExact 4 t = owns c.tc (ms0_4 t) fullShare ((dats m 0 c).after 4 t) from by
    unfold Dat.leavesExact; rw [liveAt0_4 t], after0_4]
  rw [show (dats m 0 c).leavesExact 5 t = owns c.tc (ms0_5 t) fullShare ((dats m 0 c).after 5 t) from by
    unfold Dat.leavesExact; rw [liveAt0_5 t], after0_5]
  rw [show (dats m 0 c).leavesExact 6 t = owns c.tc (ms0_6 t) fullShare ((dats m 0 c).after 6 t) from by
    unfold Dat.leavesExact; rw [liveAt0_6 t], after0_6]
  rw [show (dats m 0 c).leavesExact 7 t = owns c.tc (ms0_7 t) fullShare ((dats m 0 c).after 7 t) from by
    unfold Dat.leavesExact; rw [liveAt0_7 t], after0_7]
  rw [show (dats m 0 c).leavesExact 8 t = owns c.tc (ms0_8 t) fullShare ((dats m 0 c).after 8 t) from by
    unfold Dat.leavesExact; rw [liveAt0_8 t], after0_8]
  rw [show (dats m 0 c).leavesExact 10 t = owns c.tc (ms0_10 t) fullShare ((dats m 0 c).after 10 t) from by
    unfold Dat.leavesExact; rw [liveAt0_10 t], after0_10]
  by_cases h0 : t.val % 2 = 0
  · rw [Dat.leavesExact_idle (dats m 0 c) 9 t (idle9 t h0) (noFlush9 t h0)]
    by_cases hz : t.val = 0
    · rw [Phi_start m c t, Phi_zero m c _ _ hz, PhiA0_eq]
      iintro ⟨⟨⟨HS0, HS1, ⟨%s, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      have hs : Keeps m c t.val s := fun u hu => by omega
      iapply (body_even m c t h0 _ s ((dats m 0 c).before 9 t d9) hs)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      isplitl [HS1]; · iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro; exact keeps_next m c t _ hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexact H10
    · rw [Phi_start m c t, Phi_pos m c _ _ hz]
      iintro ⟨⟨⟨HS0, HS1, ⟨%s, ⟨%hs, HS2⟩⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_even m c t h0 _ s ((dats m 0 c).before 9 t d9) hs)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      isplitl [HS1]; · iexists _; iexact HS1
      isplitl [HS2]; · iexact HS2
      iintro ⟨H0, H1, H2, H3, H4, H5, H6, H7, H8, H9, H10, HS0, HS1, HS2⟩
      isplitl [HS0 HS1 HS2 Hg]
      · isplitl [HS0 HS1 HS2]
        · isplitl [HS0]; · iexact HS0
          isplitl [HS1]; · iexact HS1
          iexists _; isplitr
          swap; · iexact HS2
          ipureintro; exact keeps_next m c t _ hs
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexact H10
  · have h1 : t.val % 2 = 1 := by omega
    rw [show (dats m 0 c).leavesExact 9 t = owns c.tc (ms0_9 t) fullShare ((dats m 0 c).after 9 t) from by
      unfold Dat.leavesExact; rw [live9 t h1], after0_9]
    rw [Phi_start m c t, Phi_pos m c _ _ (by omega)]
    iintro ⟨⟨⟨HS0, HS1, ⟨%s, ⟨%hs, HS2⟩⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_odd m c t h1 _ s hs)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]; · iexact HS0
        isplitl [HS1]; · iexact HS1
        iexists _; isplitr
        swap; · iexact HS2
        ipureintro; exact keeps_next m c t _ hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = Phi m c cfg0.N le_rfl from rfl, Phi_pos m c _ _ (by have : cfg0.N = 128 := N_0; omega), PhiA0_eq]
  iintro ⟨⟨HS0, HS1, ⟨%s, ⟨%hs, HS2⟩⟩⟩, Hg⟩
  isplitl [HS0 HS1 HS2]
  · isplitl [HS0]
    · iexists _; iexact HS0
    isplitl [HS1]
    · iexists _; iexact HS1
    iexists _; iexact HS2
  iexact Hg

set_option backward.isDefEq.respectTransparency.types false in
/-- Every execution ends with the arrays at what the points leave and no semaphore held. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_arrays : θ_run defs (onTc (τ := τ) (main (F := F))) (s₀ m ρ) (Pipeline.FramePost cfgs (dats m) 0 (V m)) :=
  (θ_run defs _ _).mono (fun _ h => h.1) (run_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_arrays m ρ)

/-- Every execution ends with the arguments as they were and no semaphore held. -/
theorem frames : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_quiescent m ρ))

end Cert.Kernel3Ideal.Ffn

end
-- ==== Proof.FfnPay.lean ====
/- The feed-forward kernel's pieces, read index by index. -/
module

public import proofs.«01_k».proof.Proof.FfnSpec
public import proofs.«01_k».proof.Proof.FfnFrameIdeal

@[expose] public section

set_option maxRecDepth 16384

noncomputable section

namespace Cert.FfnVal

open Cert.Kernel3Ideal Cert.Kernel3Ideal.Gen Cert.Kernel3Ideal.Ffn Idealize.ShloMosaic

/-- The bit of a proposition. -/
abbrev bit (p : Prop) [Decidable p] : BitVec 1 := BitVec.ofBool (decide p)

theorem select_bit (p : Prop) [Decidable p] {α : Type} (x y : α) : Scalar.select (bit p) x y = if p then x else y := by
  by_cases h : p <;> simp [bit, h, Scalar.select]

theorem row_bit (p : Fin 512) : IntOp.cmpi CmpIPredicate.eq (BitVec.ofNat 32 p.val) 0#32 = bit (p.val = 0) := by
  revert p; decide +kernel

theorem row_bit1 (p : Fin 512) : IntOp.cmpi CmpIPredicate.eq (BitVec.ofNat 32 p.val) 1#32 = bit (p.val = 1) := by
  revert p; decide +kernel

theorem begins_bit (i : grid0.Coords) : beginsAt i = bit ((i 0).val % 16 = 0) := by
  have h := (by decide +kernel : ∀ n : Fin 64, (Scalar.cmpi .eq (Scalar.select (Scalar.andi (Scalar.xori (Scalar.cmpi .slt (Scalar.remsi (BitVec.ofNat 32 n.val) (Scalar.select (Scalar.cmpi .eq 16#32 0#32) 1#32 16#32)) 0#32)
    (Scalar.cmpi .slt (Scalar.select (Scalar.cmpi .eq 16#32 0#32) 1#32 16#32) 0#32)) (Scalar.cmpi .ne (Scalar.remsi (BitVec.ofNat 32 n.val) (Scalar.select (Scalar.cmpi .eq 16#32 0#32) 1#32 16#32)) 0#32))
    (Scalar.addi (Scalar.remsi (BitVec.ofNat 32 n.val) (Scalar.select (Scalar.cmpi .eq 16#32 0#32) 1#32 16#32)) (Scalar.select (Scalar.cmpi .eq 16#32 0#32) 1#32 16#32)) (Scalar.remsi (BitVec.ofNat 32 n.val) (Scalar.select (Scalar.cmpi .eq 16#32 0#32) 1#32 16#32))) 0#32 : BitVec 1)
    = bit (n.val % 16 = 0)) (i 0)
  exact h

theorem pay3_read (x : Vec Ideal S512x1024 .f32) (g : Vec Ideal S1x1024 .f32) (p : Fin 512) (l : Fin 1024) :
    k0_pay3 (F := Ideal) x g (ix2 p l) = normed (fun k => x (ix2 p k)) (fun k => g (ix2 0 k)) l := by
  pointwise [k0_pay3]
  rfl

theorem pay5_read (h : Vec Ideal S512x1024 .bf16) (w : Vec Ideal S1024x1408 .bf16) (p : Fin 512) (f : Fin 1408) :
    k0_pay5 (F := Ideal) h w (ix2 p f) = ∑ k : Fin 1024, h (ix2 p k) * w (ix2 k f) := by
  pointwise [k0_pay5, dot_S512x1024_S1024x1408_S512x1408_1_0_0_1_n_n]

theorem pay6_read (h : Vec Ideal S512x1024 .bf16) (w : Vec Ideal S1024x1408 .bf16) (p : Fin 512) (f : Fin 1408) :
    k0_pay6 (F := Ideal) h w (ix2 p f) = ∑ k : Fin 1024, h (ix2 p k) * w (ix2 k f) := by
  pointwise [k0_pay6, dot_S512x1024_S1024x1408_S512x1408_1_0_0_1_n_n]

theorem pay10_read (g : FVec Ideal S512x1408 .f32) (b : BitVec 1) (v : FVec Ideal S1x1408 .f32) (w : Vec Ideal S1x1x1408 .f32) (p : Fin 512) (f : Fin 1408) :
    k0_pay10 (F := Ideal) g b v w (ix2 p f) = if p.val = 0 then Scalar.select b (v (ix2 0 f)) (w (ix3 0 0 f)) else g (ix2 ⟨p.val - 1, by omega⟩ f) := by
  pointwise [k0_pay10, k0_pay9]
  rw [row_bit, select_bit]
  split
  · rfl
  · rename_i h
    exact congrArg (fun q => g (ix2 q f)) (Fin.ext (by show (p.val + 512 - 1) % 512 = p.val - 1; omega))

theorem pay13_read (g : FVec Ideal S512x1408 .f32) (b : BitVec 1) (u v : FVec Ideal S1x1408 .f32) (w : Vec Ideal S1x1x1408 .f32) (c d : Vec Ideal S1x1408 .f32) (p : Fin 512) (f : Fin 1408) :
    k0_pay13 (F := Ideal) g b u v w c d (ix2 p f) = c (ix2 0 f) + (if p.val = 0 then u (ix2 0 f) else if p.val = 1 then Scalar.select b (v (ix2 0 f)) (w (ix3 0 0 f)) else g (ix2 ⟨p.val - 2, by omega⟩ f)) * d (ix2 0 f) := by
  pointwise [k0_pay13, k0_pay9]
  rw [row_bit, row_bit1, select_bit, select_bit]
  by_cases h0 : p.val = 0
  · simp only [h0, if_true]
  · by_cases h1 : p.val = 1
    · simp only [h1, if_true]
    · simp only [h0, h1, if_false]
      exact congrArg (fun q => c (ix2 0 f) + g (ix2 q f) * d (ix2 0 f)) (Fin.ext (by show (p.val + 512 - 2) % 512 = p.val - 2; omega))

theorem pay7_read (i : grid0.Coords) (v w : Vec Ideal S1x1x1408 .f32) (f : Fin 1408) :
    k0_pay7 (F := Ideal) i v w (ix2 0 f) = Scalar.select (beginsAt i) (v (ix3 0 0 f)) (w (ix3 0 0 f)) := by
  pointwise [k0_pay7]
  rfl

theorem pay8_read (v : Vec Ideal S1x1x1408 .f32) (f : Fin 1408) : k0_pay8 (F := Ideal) v (ix2 0 f) = v (ix3 0 0 f) := by
  pointwise [k0_pay8]

theorem pay11_read (g : FVec Ideal S512x1408 .f32) (k : Fin 8) (f : Fin 1408) : k0_pay11 (F := Ideal) g (ix3 0 k f) = g (ix2 ⟨504 + k.val, by omega⟩ f) := by
  pointwise [k0_pay11]

theorem pay12_read (g : FVec Ideal S512x1408 .f32) (k : Fin 2) (f : Fin 1408) : k0_pay12 (F := Ideal) g (ix3 0 k f) = g (ix2 ⟨510 + k.val, by omega⟩ f) := by
  pointwise [k0_pay12]

theorem pay4_read (p : Fin 512) (l : Fin 1024) : k0_pay4 (F := Ideal) (ix2 p l) = 0 := by
  pointwise [k0_pay4]

theorem pay1_read (g u a t : FVec Ideal S512x1408 .f32) (c d : Vec Ideal S1x1408 .f32) (acc : Vec Ideal S512x1024 .f32) (w : Vec Ideal S1408x1024 .bf16) (p : Fin 512) (l : Fin 1024) :
    k0_pay1 (F := Ideal) g u a t c d acc w (ix2 p l) = acc (ix2 p l) + ∑ f : Fin 1408,
      ((t (ix2 p f) + a (ix2 p f) * c (ix2 0 f) + g (ix2 p f) * d (ix2 0 f)) * Ideal.logistic (t (ix2 p f) + a (ix2 p f) * c (ix2 0 f) + g (ix2 p f) * d (ix2 0 f)) * u (ix2 p f))
        * w (ix2 f l) := by
  pointwise [k0_pay1, dot_S512x1408_S1408x1024_S512x1024_1_0_0_1_n_n]

theorem pay2_read (x acc : Vec Ideal S512x1024 .f32) (g : Vec Ideal S1x1024 .f32) (p : Fin 512) (l : Fin 1024) :
    k0_pay2 (F := Ideal) x acc g (ix2 p l) = x (ix2 p l) + normed (fun k => acc (ix2 p k)) (fun k => g (ix2 0 k)) l := by
  pointwise [k0_pay2]
  rfl

end Cert.FfnVal

end
-- ==== Proof.FfnValue.lean ====
/- The arrays the feed-forward kernel leaves. -/
module

public import proofs.«01_k».proof.Proof.FfnPay
public import Idealize.ShloMosaic.Lib.Pipeline.ValueKit.Geometry

@[expose] public section

set_option maxRecDepth 16384

noncomputable section

namespace Cert.FfnVal

open Cert.Kernel3Ideal Cert.Kernel3Ideal.Gen Cert.Kernel3Ideal.Ffn Idealize.ShloMosaic Idealize.ShloMosaic.TcCoe Idealize.SL.Sem Idealize.ShloMosaic

open Idealize.ShloMosaic.Pipeline (Dat)

variable (m : (ℓ : Loc nD τ sig) → Buf (Elt Ideal) ℓ) (ρ : Dev nD → PrngReg)

/-- The rows of device `c`, -/
abbrev aX (c : Dev nD) : XArr := m ((c : Thread nD τ).loc main_arg0)
/-- the gate rows before each sequence, -/
abbrev aP (c : Dev nD) : PArr := m ((c : Thread nD τ).loc main_arg1)
/-- the scales of the norms, -/
abbrev aN (c : Dev nD) : NArr := m ((c : Thread nD τ).loc main_arg2)
/-- the weights in, -/
abbrev aW (c : Dev nD) : WArr := m ((c : Thread nD τ).loc main_arg3)
/-- the convolution's weights, -/
abbrev aT (c : Dev nD) : TArr := m ((c : Thread nD τ).loc main_arg4)
/-- the convolution's bias, -/
abbrev aB (c : Dev nD) : BArr := m ((c : Thread nD τ).loc main_arg5)
/-- the weights out. -/
abbrev aO (c : Dev nD) : OArr := m ((c : Thread nD τ).loc main_arg6)

theorem V_win (c : Dev nD) (k : Fin 1024) (f : Fin 5632) : (V m c main_v0 : S1024x5632.Idx → EReal) (ix2 k f) = aW m c (ix2 k f) := by
  have e : (V m c main_v0 : S1024x5632.Idx → EReal) = aW m c := by
    show StableHlo.after hostOps0 _ (Proc.devRef .tc main_v0) = _
    after_results
    rfl
  rw [e]

theorem V_bias (c : Dev nD) (f : Fin 2816) : (V m c main_v1 : S1x2816.Idx → EReal) (ix2 0 f) = aB m c (ix1 f) := by
  have e : (V m c main_v1 : S1x2816.Idx → EReal) = broadcastInDim S1x2816 ![1] bcast_S2816_S1x2816_1 (aB m c) := by
    show StableHlo.after hostOps0 _ (Proc.devRef .tc main_v1) = _
    after_results
  rw [e]
  pointwise []

theorem V_wout (c : Dev nD) (f : Fin 2816) (l : Fin 1024) : (V m c main_v2 : S2816x1024.Idx → EReal) (ix2 f l) = aO m c (ix2 f l) := by
  have e : (V m c main_v2 : S2816x1024.Idx → EReal) = aO m c := by
    show StableHlo.after hostOps0 _ (Proc.devRef .tc main_v2) = _
    after_results
    rfl
  rw [e]

theorem lt_points (t : Fin cfg0.N) : t.val < 128 := Nat.lt_of_lt_of_eq t.isLt N_0

/-- The sequence of a point's tile, -/
abbrev seq (t : Fin cfg0.N) : Fin 4 := ⟨t.val / 2 / 16, by have := lt_points t; omega⟩
/-- the token of a tile's row, -/
abbrev tok (t : Fin cfg0.N) (p : Fin 512) : Fin 8192 := ⟨t.val / 2 % 16 * 512 + p.val, by omega⟩
/-- and the column of a point's half. -/
abbrev col (t : Fin cfg0.N) (f : Fin 1408) : Fin 2816 := ⟨1408 * (t.val % 2) + f.val, by omega⟩

/-- A tile of the rows. -/
theorem x_read (c : Dev nD) (t : Fin cfg0.N) (p : Fin 512) (l : Fin 1024) : (iblk m c 0 t : Vec Ideal S512x1024 .f32) (ix2 p l) = aX m c (ix2 (row (seq t) (tok t p)) l) := by
  have e := (by decide +kernel : ∀ t : Fin grid0.N, win0_0.index t 0 * win0_0.size 0 = 512 * (t.val / 2) ∧ win0_0.index t 1 * win0_0.size 1 = 0) t
  have ht := lt_points t
  refine Eq.trans ?_ (congrFun (V_main_arg0 m c) (ix2 (row (seq t) (tok t p)) l))
  show (V m c main_arg0 : S32768x1024.Idx → EReal) (((cfg0.win 0).blk t).view.emb ((ix2 p l) : S512x1024.Idx)) = _
  refine congrArg (V m c main_arg0 : S32768x1024.Idx → EReal) (funext fun a => Fin.ext ?_)
  fin_cases a
  · show win0_0.index t 0 * win0_0.size 0 + 1 * p.val = t.val / 2 / 16 * 8192 + (t.val / 2 % 16 * 512 + p.val)
    rw [e.1]; omega
  · show win0_0.index t 1 * win0_0.size 1 + 1 * l.val = l.val
    rw [e.2]; omega

/-- The two gate rows before the sequence. -/
theorem prev_read (c : Dev nD) (t : Fin cfg0.N) (k : Fin 2) (f : Fin 1408) : (iblk m c 1 t : Vec Ideal S1x2x1408 .f32) (ix3 0 k f) = aP m c (ix3 (seq t) k (col t f)) := by
  have e := (by decide +kernel : ∀ t : Fin grid0.N, win0_1.index t 0 * win0_1.size 0 = t.val / 2 / 16 ∧ win0_1.index t 1 * win0_1.size 1 = 0 ∧ win0_1.index t 2 * win0_1.size 2 = 1408 * (t.val % 2)) t
  have ht := lt_points t
  refine Eq.trans ?_ (congrFun (V_main_arg1 m c) (ix3 (seq t) k (col t f)))
  show (V m c main_arg1 : S4x2x2816.Idx → EReal) (((cfg0.win 1).blk t).view.emb ((ix3 0 k f) : S1x2x1408.Idx)) = _
  refine congrArg (V m c main_arg1 : S4x2x2816.Idx → EReal) (funext fun a => Fin.ext ?_)
  fin_cases a
  · show win0_1.index t 0 * win0_1.size 0 + 1 * 0 = t.val / 2 / 16
    rw [e.1]; omega
  · show win0_1.index t 1 * win0_1.size 1 + 1 * k.val = k.val
    rw [e.2.1]; omega
  · show win0_1.index t 2 * win0_1.size 2 + 1 * f.val = 1408 * (t.val % 2) + f.val
    rw [e.2.2]; omega

/-- The scales of the norms. -/
theorem scale_read (c : Dev nD) (t : Fin cfg0.N) (k : Fin 6) (l : Fin 1024) : (iblk m c 3 t : Vec Ideal S6x1024 .f32) (ix2 k l) = aN m c (ix2 k l) := by
  have e := (by decide +kernel : ∀ t : Fin grid0.N, win0_3.index t 0 * win0_3.size 0 = 0 ∧ win0_3.index t 1 * win0_3.size 1 = 0) t
  have ht := lt_points t
  refine Eq.trans ?_ (congrFun (V_main_arg2 m c) (ix2 k l))
  show (V m c main_arg2 : S6x1024.Idx → EReal) (((cfg0.win 3).blk t).view.emb ((ix2 k l) : S6x1024.Idx)) = _
  refine congrArg (V m c main_arg2 : S6x1024.Idx → EReal) (funext fun a => Fin.ext ?_)
  fin_cases a
  · show win0_3.index t 0 * win0_3.size 0 + 1 * k.val = k.val
    rw [e.1]; omega
  · show win0_3.index t 1 * win0_3.size 1 + 1 * l.val = l.val
    rw [e.2]; omega

/-- The gate's columns of the weights in. -/
theorem gw_read (c : Dev nD) (t : Fin cfg0.N) (k : Fin 1024) (f : Fin 1408) : (iblk m c 4 t : Vec Ideal S1024x1408 .bf16) (ix2 k f) = aW m c (ix2 k (gcol (col t f))) := by
  have e := (by decide +kernel : ∀ t : Fin grid0.N, win0_4.index t 0 * win0_4.size 0 = 0 ∧ win0_4.index t 1 * win0_4.size 1 = 1408 * (t.val % 2)) t
  have ht := lt_points t
  refine Eq.trans ?_ (V_win m c k (gcol (col t f)))
  show (V m c main_v0 : S1024x5632.Idx → EReal) (((cfg0.win 4).blk t).view.emb ((ix2 k f) : S1024x1408.Idx)) = _
  refine congrArg (V m c main_v0 : S1024x5632.Idx → EReal) (funext fun a => Fin.ext ?_)
  fin_cases a
  · show win0_4.index t 0 * win0_4.size 0 + 1 * k.val = k.val
    rw [e.1]; omega
  · show win0_4.index t 1 * win0_4.size 1 + 1 * f.val = 1408 * (t.val % 2) + f.val
    rw [e.2]; omega

/-- The other factor's columns of the weights in. -/
theorem uw_read (c : Dev nD) (t : Fin cfg0.N) (k : Fin 1024) (f : Fin 1408) : (iblk m c 5 t : Vec Ideal S1024x1408 .bf16) (ix2 k f) = aW m c (ix2 k (ucol (col t f))) := by
  have e := (by decide +kernel : ∀ t : Fin grid0.N, win0_5.index t 0 * win0_5.size 0 = 0 ∧ win0_5.index t 1 * win0_5.size 1 = 2816 + 1408 * (t.val % 2)) t
  have ht := lt_points t
  refine Eq.trans ?_ (V_win m c k (ucol (col t f)))
  show (V m c main_v0 : S1024x5632.Idx → EReal) (((cfg0.win 5).blk t).view.emb ((ix2 k f) : S1024x1408.Idx)) = _
  refine congrArg (V m c main_v0 : S1024x5632.Idx → EReal) (funext fun a => Fin.ext ?_)
  fin_cases a
  · show win0_5.index t 0 * win0_5.size 0 + 1 * k.val = k.val
    rw [e.1]; omega
  · show win0_5.index t 1 * win0_5.size 1 + 1 * f.val = 2816 + (1408 * (t.val % 2) + f.val)
    rw [e.2]; omega

/-- The convolution's weights. -/
theorem tap_read (c : Dev nD) (t : Fin cfg0.N) (k : Fin 3) (f : Fin 1408) : (iblk m c 6 t : Vec Ideal S3x1408 .f32) (ix2 k f) = aT m c (ix2 k (col t f)) := by
  have e := (by decide +kernel : ∀ t : Fin grid0.N, win0_6.index t 0 * win0_6.size 0 = 0 ∧ win0_6.index t 1 * win0_6.size 1 = 1408 * (t.val % 2)) t
  have ht := lt_points t
  refine Eq.trans ?_ (congrFun (V_main_arg4 m c) (ix2 k (col t f)))
  show (V m c main_arg4 : S3x2816.Idx → EReal) (((cfg0.win 6).blk t).view.emb ((ix2 k f) : S3x1408.Idx)) = _
  refine congrArg (V m c main_arg4 : S3x2816.Idx → EReal) (funext fun a => Fin.ext ?_)
  fin_cases a
  · show win0_6.index t 0 * win0_6.size 0 + 1 * k.val = k.val
    rw [e.1]; omega
  · show win0_6.index t 1 * win0_6.size 1 + 1 * f.val = 1408 * (t.val % 2) + f.val
    rw [e.2]; omega

/-- The convolution's bias. -/
theorem bias_read (c : Dev nD) (t : Fin cfg0.N) (f : Fin 1408) : (iblk m c 7 t : Vec Ideal S1x1408 .f32) (ix2 0 f) = aB m c (ix1 (col t f)) := by
  have e := (by decide +kernel : ∀ t : Fin grid0.N, win0_7.index t 0 * win0_7.size 0 = 0 ∧ win0_7.index t 1 * win0_7.size 1 = 1408 * (t.val % 2)) t
  have ht := lt_points t
  refine Eq.trans ?_ (V_bias m c (col t f))
  show (V m c main_v1 : S1x2816.Idx → EReal) (((cfg0.win 7).blk t).view.emb ((ix2 0 f) : S1x1408.Idx)) = _
  refine congrArg (V m c main_v1 : S1x2816.Idx → EReal) (funext fun a => Fin.ext ?_)
  fin_cases a
  · show win0_7.index t 0 * win0_7.size 0 + 1 * 0 = 0
    rw [e.1]
  · show win0_7.index t 1 * win0_7.size 1 + 1 * f.val = 1408 * (t.val % 2) + f.val
    rw [e.2]; omega

/-- The rows of the weights out. -/
theorem ow_read (c : Dev nD) (t : Fin cfg0.N) (f : Fin 1408) (l : Fin 1024) : (iblk m c 8 t : Vec Ideal S1408x1024 .bf16) (ix2 f l) = aO m c (ix2 (col t f) l) := by
  have e := (by decide +kernel : ∀ t : Fin grid0.N, win0_8.index t 0 * win0_8.size 0 = 1408 * (t.val % 2) ∧ win0_8.index t 1 * win0_8.size 1 = 0) t
  have ht := lt_points t
  refine Eq.trans ?_ (V_wout m c (col t f) l)
  show (V m c main_v2 : S2816x1024.Idx → EReal) (((cfg0.win 8).blk t).view.emb ((ix2 f l) : S1408x1024.Idx)) = _
  refine congrArg (V m c main_v2 : S2816x1024.Idx → EReal) (funext fun a => Fin.ext ?_)
  fin_cases a
  · show win0_8.index t 0 * win0_8.size 0 + 1 * f.val = 1408 * (t.val % 2) + f.val
    rw [e.1]; omega
  · show win0_8.index t 1 * win0_8.size 1 + 1 * l.val = l.val
    rw [e.2]; omega

/-- A row of a window's vector. -/
theorem win_row {n w : ℕ} (v : Vec Ideal ⟨2, ![n, w]⟩ .f32) (k : ℕ) (hk : k < n) (h) (f : Fin w) :
    VecWindow.window v ![k, 0] (⟨2, ![1, w]⟩ : Shape).size h (ix2 0 f) = v (ix2 ⟨k, hk⟩ f) := by
  refine congrArg v (funext fun a => Fin.ext ?_)
  fin_cases a
  · show k + 1 * 0 = k; omega
  · show 0 + 1 * f.val = f.val; omega

theorem win_row3 {n w : ℕ} (v : Vec Ideal ⟨3, ![1, n, w]⟩ .f32) (k : ℕ) (hk : k < n) (h) (f : Fin w) :
    VecWindow.window v ![0, k, 0] (⟨3, ![1, 1, w]⟩ : Shape).size h (ix3 0 0 f) = v (ix3 0 ⟨k, hk⟩ f) := by
  refine congrArg v (funext fun a => Fin.ext ?_)
  fin_cases a
  · show 0 + 1 * 0 = 0; omega
  · show k + 1 * 0 = k; omega
  · show 0 + 1 * f.val = f.val; omega

/-- The normalised rows of a tile. -/
theorem hAt_read (c : Dev nD) (t : Fin cfg0.N) (p : Fin 512) (l : Fin 1024) :
    hAt m c t (ix2 p l) = hid (aX m c) (aN m c) (seq t) (tok t p) l := by
  unfold hAt hOf hid
  rw [pay3_read]
  congr 1
  · funext k; exact x_read m c t p k
  · funext k; exact (win_row _ 4 (by decide) _ k).trans (scale_read m c t 4 k)

/-- The gate of a tile. -/
theorem gateAt_read (c : Dev nD) (t : Fin cfg0.N) (p : Fin 512) (f : Fin 1408) :
    k0_pay5 (hAt m c t) (iblk m c 4 t) (ix2 p f) = gate (aX m c) (aN m c) (aW m c) (seq t) (tok t p) (col t f) := by
  rw [pay5_read]
  unfold gate
  refine Finset.sum_congr rfl fun k _ => ?_
  rw [hAt_read]
  exact congrArg _ (gw_read m c t k f)

/-- The other factor of a tile. -/
theorem upAt_read (c : Dev nD) (t : Fin cfg0.N) (p : Fin 512) (f : Fin 1408) :
    k0_pay6 (hAt m c t) (iblk m c 5 t) (ix2 p f) = up (aX m c) (aN m c) (aW m c) (seq t) (tok t p) (col t f) := by
  rw [pay6_read]
  unfold up
  refine Finset.sum_congr rfl fun k _ => ?_
  rw [hAt_read]
  exact congrArg _ (uw_read m c t k f)

/-- A row of the last eight of the tile before. -/
theorem carried_read (c : Dev nD) (t : Fin cfg0.N) (hb : ¬ t.val / 2 % 16 = 0) (k : ℕ) (hk : k < 8) (s : Fin 8192)
    (hs : s.val + 8 = t.val / 2 % 16 * 512 + k) (f : Fin 1408) :
    eightAt m c (back 2 t) (ix3 0 ⟨k, hk⟩ f) = gate (aX m c) (aN m c) (aW m c) (seq t) s (col t f) := by
  unfold eightAt
  rw [pay11_read, gateAt_read]
  have e1 : seq (back 2 t) = seq t := Fin.ext (by show (t.val - 2) / 2 / 16 = t.val / 2 / 16; omega)
  have e2 : tok (back 2 t) ⟨504 + k, by omega⟩ = s := Fin.ext (by show (t.val - 2) / 2 % 16 * 512 + (504 + k) = s.val; omega)
  have e3 : col (back 2 t) f = col t f := Fin.ext (by show 1408 * ((t.val - 2) % 2) + f.val = 1408 * (t.val % 2) + f.val; omega)
  rw [e1, e3]
  exact congrArg (fun q => gate (aX m c) (aN m c) (aW m c) (seq t) q (col t f)) e2

theorem begins_at (t : Fin cfg0.N) : beginsAt (grid0.coords t) = bit (t.val / 2 % 16 = 0) := by
  rw [begins_bit, coord0]

theorem ext_before (c : Dev nD) (b : Fin 4) (n : Fin 8194) (k : Fin 2) (h : n.val = k.val) (f : Fin 2816) :
    ext (aX m c) (aP m c) (aN m c) (aW m c) b n f = aP m c (ix3 b k f) := by
  unfold ext
  have hk := k.isLt
  rw [dif_pos (by omega)]
  exact congrArg (fun q => aP m c (ix3 b q f)) (Fin.ext h)

theorem ext_after (c : Dev nD) (b : Fin 4) (n : Fin 8194) (s : Fin 8192) (h : n.val = s.val + 2) (f : Fin 2816) :
    ext (aX m c) (aP m c) (aN m c) (aW m c) b n f = gate (aX m c) (aN m c) (aW m c) b s f := by
  unfold ext
  rw [dif_neg (by omega)]
  exact congrArg (fun q => gate (aX m c) (aN m c) (aW m c) b q f) (Fin.ext (by show n.val - 2 = s.val; omega))

/-- The row before a tile, as the kernel chooses it. -/
theorem last_read (c : Dev nD) (t : Fin cfg0.N) (f : Fin 1408) (n : Fin 8194) (hn : n.val = t.val / 2 % 16 * 512 + 1) :
    Scalar.select (beginsAt (grid0.coords t)) (k0_pay8 (VecWindow.window (iblk m c 1 t : Vec Ideal S1x2x1408 .f32) ![0, 1, 0] S1x1x1408.size inb_S1x2x1408_S1x1x1408_0_1_0) (ix2 0 f))
      (lastB (eightAt m c (back 2 t)) (ix3 0 0 f)) = ext (aX m c) (aP m c) (aN m c) (aW m c) (seq t) n (col t f) := by
  rw [begins_at, select_bit]
  split
  · rename_i h
    rw [pay8_read, ext_before m c (seq t) n 1 (by show n.val = 1; omega)]
    exact (win_row3 _ 1 (by decide) _ f).trans (prev_read m c t 1 f)
  · rename_i h
    rw [ext_after m c (seq t) n ⟨n.val - 2, by omega⟩ (by show n.val = n.val - 2 + 2; omega)]
    exact (win_row3 _ 7 (by decide) _ f).trans (carried_read m c t h 7 (by decide) ⟨n.val - 2, by omega⟩ (by show n.val - 2 + 8 = _; omega) f)

/-- The row before that, as the kernel chooses it. -/
theorem last2_read (c : Dev nD) (t : Fin cfg0.N) (f : Fin 1408) (n : Fin 8194) (hn : n.val = t.val / 2 % 16 * 512) :
    Scalar.select (beginsAt (grid0.coords t)) (VecWindow.window (iblk m c 1 t : Vec Ideal S1x2x1408 .f32) ![0, 0, 0] S1x1x1408.size inb_S1x2x1408_S1x1x1408_0_0_0 (ix3 0 0 f))
      (lastA (eightAt m c (back 2 t)) (ix3 0 0 f)) = ext (aX m c) (aP m c) (aN m c) (aW m c) (seq t) n (col t f) := by
  rw [begins_at, select_bit]
  split
  · rename_i h
    rw [ext_before m c (seq t) n 0 (by show n.val = 0; omega)]
    exact (win_row3 _ 0 (by decide) _ f).trans (prev_read m c t 0 f)
  · rename_i h
    rw [ext_after m c (seq t) n ⟨n.val - 2, by omega⟩ (by show n.val = n.val - 2 + 2; omega)]
    exact (win_row3 _ 6 (by decide) _ f).trans (carried_read m c t h 6 (by decide) ⟨n.val - 2, by omega⟩ (by show n.val - 2 + 8 = _; omega) f)

theorem ext_here (c : Dev nD) (t : Fin cfg0.N) (p : Fin 512) (f : Fin 1408) (n : Fin 8194) (hn : n.val = t.val / 2 % 16 * 512 + p.val + 2) :
    k0_pay5 (hAt m c t) (iblk m c 4 t) (ix2 p f) = ext (aX m c) (aP m c) (aN m c) (aW m c) (seq t) n (col t f) := by
  rw [gateAt_read, ext_after m c (seq t) n (tok t p) (by show n.val = t.val / 2 % 16 * 512 + p.val + 2; exact hn)]

/-- The gate one token before. -/
theorem one_back (c : Dev nD) (t : Fin cfg0.N) (p : Fin 512) (f : Fin 1408) :
    k0_pay10 (k0_pay5 (hAt m c t) (iblk m c 4 t)) (beginsAt (grid0.coords t)) (k0_pay8 (VecWindow.window (iblk m c 1 t : Vec Ideal S1x2x1408 .f32) ![0, 1, 0] S1x1x1408.size inb_S1x2x1408_S1x1x1408_0_1_0))
      (lastB (eightAt m c (back 2 t))) (ix2 p f)
      = ext (aX m c) (aP m c) (aN m c) (aW m c) (seq t) ⟨(tok t p).val + 1, by omega⟩ (col t f) := by
  rw [pay10_read]
  split
  · rename_i h
    exact last_read m c t f _ (by show t.val / 2 % 16 * 512 + p.val + 1 = _; omega)
  · rename_i h
    exact ext_here m c t _ f _ (by show t.val / 2 % 16 * 512 + p.val + 1 = t.val / 2 % 16 * 512 + (p.val - 1) + 2; omega)

/-- The bias and the gate two tokens before. -/
theorem two_back (c : Dev nD) (t : Fin cfg0.N) (p : Fin 512) (f : Fin 1408) :
    k0_pay13 (k0_pay5 (hAt m c t) (iblk m c 4 t)) (beginsAt (grid0.coords t))
      (k0_pay7 (grid0.coords t) (VecWindow.window (iblk m c 1 t : Vec Ideal S1x2x1408 .f32) ![0, 0, 0] S1x1x1408.size inb_S1x2x1408_S1x1x1408_0_0_0) (lastA (eightAt m c (back 2 t))))
      (k0_pay8 (VecWindow.window (iblk m c 1 t : Vec Ideal S1x2x1408 .f32) ![0, 1, 0] S1x1x1408.size inb_S1x2x1408_S1x1x1408_0_1_0))
      (lastB (eightAt m c (back 2 t))) (iblk m c 7 t) (VecWindow.window (iblk m c 6 t : Vec Ideal S3x1408 .f32) ![0, 0] S1x1408.size inb_S3x1408_S1x1408_0_0) (ix2 p f)
      = aB m c (ix1 (col t f)) + ext (aX m c) (aP m c) (aN m c) (aW m c) (seq t) ⟨(tok t p).val, by omega⟩ (col t f) * aT m c (ix2 0 (col t f)) := by
  rw [pay13_read]
  refine congrArg₂ (· + ·) (bias_read m c t f) (congrArg₂ (· * ·) ?_ ((win_row _ 0 (by decide) _ f).trans (tap_read m c t 0 f)))
  split
  · rename_i h
    rw [pay7_read]
    exact last2_read m c t f _ (by show t.val / 2 % 16 * 512 + p.val = _; omega)
  · rename_i h
    split
    · rename_i h1
      exact last_read m c t f _ (by show t.val / 2 % 16 * 512 + p.val = _; omega)
    · rename_i h1
      exact ext_here m c t _ f _ (by show t.val / 2 % 16 * 512 + p.val = t.val / 2 % 16 * 512 + (p.val - 2) + 2; omega)

/-- A sum with a half's contribution added. -/
theorem step_read (c : Dev nD) (t : Fin cfg0.N) (acc : Vec Ideal S512x1024 .f32) (p : Fin 512) (l : Fin 1024) :
    stepAt m c t acc (ix2 p l) = acc (ix2 p l) + ∑ f : Fin 1408,
      act (aX m c) (aP m c) (aN m c) (aW m c) (aT m c) (aB m c) (seq t) (tok t p) (col t f) * aO m c (ix2 (col t f) l) := by
  unfold stepAt accOf
  rw [pay1_read]
  refine congrArg _ (Finset.sum_congr rfl fun f _ => ?_)
  have e1 : VecWindow.window (iblk m c 6 t : Vec Ideal S3x1408 .f32) ![1, 0] S1x1408.size inb_S3x1408_S1x1408_1_0 (ix2 0 f) = aT m c (ix2 1 (col t f)) :=
    (win_row (iblk m c 6 t : Vec Ideal S3x1408 .f32) 1 (by decide) inb_S3x1408_S1x1408_1_0 f).trans (tap_read m c t 1 f)
  have e2 : VecWindow.window (iblk m c 6 t : Vec Ideal S3x1408 .f32) ![2, 0] S1x1408.size inb_S3x1408_S1x1408_2_0 (ix2 0 f) = aT m c (ix2 2 (col t f)) :=
    (win_row (iblk m c 6 t : Vec Ideal S3x1408 .f32) 2 (by decide) inb_S3x1408_S1x1408_2_0 f).trans (tap_read m c t 2 f)
  have e3 : k0_pay5 (hAt m c t) (iblk m c 4 t) (ix2 p f) = ext (aX m c) (aP m c) (aN m c) (aW m c) (seq t) ⟨(tok t p).val + 2, by omega⟩ (col t f) :=
    ext_here m c t p f _ rfl
  have e4 := ow_read m c t f l
  rw [two_back, one_back, upAt_read, e3, e1, e2]
  exact congrArg₂ (· * ·) rfl e4

/-- The columns are the left half's and the right half's. -/
theorem sum_halves (g : Fin 2816 → EReal) (a b : Fin 1408 → Fin 2816) (ha : ∀ f, (a f).val = f.val) (hb : ∀ f, (b f).val = 1408 + f.val) :
    (∑ f, g (a f)) + ∑ f, g (b f) = ∑ f, g f := by
  show _ = ∑ f : Fin (1408 + 1408), g f
  rw [Fin.sum_univ_add]
  refine congrArg₂ (· + ·) (Finset.sum_congr rfl fun f _ => congrArg g (Fin.ext ?_)) (Finset.sum_congr rfl fun f _ => congrArg g (Fin.ext ?_))
  · exact ha f
  · exact hb f

/-- The sum over both halves of a tile. -/
theorem acc_read (c : Dev nD) (t : Fin cfg0.N) (h : t.val % 2 = 1) (p : Fin 512) (l : Fin 1024) :
    accAt m c t (ix2 p l) = mixed (aX m c) (aP m c) (aN m c) (aW m c) (aT m c) (aB m c) (aO m c) (seq t) (tok t p) l := by
  rw [accAt_odd m c t h, accAt_even m c (back 1 t) (by show (t.val - 1) % 2 = 0; omega), step_read, step_read, pay4_read, zero_add]
  have e1 : seq (back 1 t) = seq t := Fin.ext (by show (t.val - 1) / 2 / 16 = t.val / 2 / 16; omega)
  have e2 : tok (back 1 t) p = tok t p := Fin.ext (by show (t.val - 1) / 2 % 16 * 512 + p.val = t.val / 2 % 16 * 512 + p.val; omega)
  rw [e1, e2]
  unfold mixed
  exact sum_halves (fun f => act (aX m c) (aP m c) (aN m c) (aW m c) (aT m c) (aB m c) (seq t) (tok t p) f * aO m c (ix2 f l)) _ _
    (fun f => by show 1408 * ((t.val - 1) % 2) + f.val = f.val; omega) (fun f => by show 1408 * (t.val % 2) + f.val = 1408 + f.val; omega)

/-- The output tile. -/
theorem out_read (c : Dev nD) (t : Fin cfg0.N) (h : t.val % 2 = 1) (p : Fin 512) (l : Fin 1024) :
    outAt m c t (ix2 p l) = out (aX m c) (aP m c) (aN m c) (aW m c) (aT m c) (aB m c) (aO m c) (seq t) (tok t p) l := by
  unfold outAt outOf out
  rw [pay2_read]
  refine congrArg₂ (· + ·) (x_read m c t p l) ?_
  congr 1
  · funext k; exact acc_read m c t h p k
  · funext k; exact (win_row _ 5 (by decide) _ k).trans (scale_read m c t 5 k)

/-- The last two gate rows of a tile. -/
theorem two_read (c : Dev nD) (t : Fin cfg0.N) (k : Fin 2) (f : Fin 1408) :
    twoAt m c t (ix3 0 k f) = gate (aX m c) (aN m c) (aW m c) (seq t) (tok t ⟨510 + k.val, by omega⟩) (col t f) := by
  unfold twoAt
  rw [pay12_read, gateAt_read]

/-- The array of rows after the run. -/
theorem final9 (c : Dev nD) : (dats m 0 c).arrAt 9 cfg0.N = outArr (aX m c) (aP m c) (aN m c) (aW m c) (aT m c) (aB m c) (aO m c) := by
  have ew := (by decide +kernel : ∀ t : Fin grid0.N, win0_9.index t 0 * win0_9.size 0 = 512 * (t.val / 2) ∧ win0_9.index t 1 * win0_9.size 1 = 0)
  refine (dats m 0 c).arrAt_eq_of_covers 9 _ (by decide +kernel) fun t hf y => ?_
  have ht := lt_points t
  have hodd : t.val % 2 = 1 := by
    by_contra h
    rw [noFlush9 t (by omega)] at hf
    exact absurd hf (by decide)
  obtain ⟨p, l, rfl⟩ : ∃ (p : Fin 512) (l : Fin 1024), y = (ix2 p l : S512x1024.Idx) := ⟨y 0, y 1, by funext k; fin_cases k <;> rfl⟩
  show (dats m 0 c).after 9 t (ix2 p l) = _
  rw [after0_9]
  refine (out_read m c t hodd p l).trans ?_
  have e0 : ((cfg0.win 9).blk t).view.emb (ix2 p l : S512x1024.Idx) = (ix2 (row (seq t) (tok t p)) l : S32768x1024.Idx) := by
    have e := ew t
    funext a
    apply Fin.ext
    fin_cases a
    · show win0_9.index t 0 * win0_9.size 0 + 1 * p.val = t.val / 2 / 16 * 8192 + (t.val / 2 % 16 * 512 + p.val)
      rw [e.1]; omega
    · show win0_9.index t 1 * win0_9.size 1 + 1 * l.val = l.val
      rw [e.2]; omega
  refine Eq.trans ?_ (congrArg (outArr (aX m c) (aP m c) (aN m c) (aW m c) (aT m c) (aB m c) (aO m c)) e0.symm)
  unfold outArr
  have k1 : (⟨(row (seq t) (tok t p)).val / 8192, by omega⟩ : Fin 4) = seq t := Fin.ext (by
    show (t.val / 2 / 16 * 8192 + (t.val / 2 % 16 * 512 + p.val)) / 8192 = t.val / 2 / 16; omega)
  have k2 : (⟨(row (seq t) (tok t p)).val % 8192, Nat.mod_lt _ (by decide)⟩ : Fin 8192) = tok t p := Fin.ext (by
    show (t.val / 2 / 16 * 8192 + (t.val / 2 % 16 * 512 + p.val)) % 8192 = t.val / 2 % 16 * 512 + p.val; omega)
  exact congrArg₂ (fun a b => out (aX m c) (aP m c) (aN m c) (aW m c) (aT m c) (aB m c) (aO m c) a b l) k1.symm k2.symm

/-- The array of gate rows after the run. -/
theorem final10 (c : Dev nD) : (dats m 0 c).arrAt 10 cfg0.N = tailArr (aX m c) (aN m c) (aW m c) := by
  have ew := (by decide +kernel : ∀ t : Fin grid0.N, win0_10.index t 0 * win0_10.size 0 = t.val / 2 ∧ win0_10.index t 1 * win0_10.size 1 = 0 ∧ win0_10.index t 2 * win0_10.size 2 = 1408 * (t.val % 2))
  refine (dats m 0 c).arrAt_eq_of_covers 10 _ (by decide +kernel) fun t hf y => ?_
  have ht := lt_points t
  obtain ⟨z, k, f, rfl⟩ : ∃ (z : Fin 1) (k : Fin 2) (f : Fin 1408), y = (ix3 z k f : S1x2x1408.Idx) := ⟨y 0, y 1, y 2, by funext k; fin_cases k <;> rfl⟩
  obtain rfl : z = 0 := Subsingleton.elim _ _
  show (dats m 0 c).after 10 t (ix3 0 k f) = _
  rw [after0_10]
  refine (two_read m c t k f).trans ?_
  have e0 : ((cfg0.win 10).blk t).view.emb (ix3 0 k f : S1x2x1408.Idx) = (ix3 (⟨t.val / 2, by omega⟩ : Fin 64) k (col t f) : S64x2x2816.Idx) := by
    have e := ew t
    funext a
    apply Fin.ext
    fin_cases a
    · show win0_10.index t 0 * win0_10.size 0 + 1 * 0 = t.val / 2
      rw [e.1]; omega
    · show win0_10.index t 1 * win0_10.size 1 + 1 * k.val = k.val
      rw [e.2.1]; omega
    · show win0_10.index t 2 * win0_10.size 2 + 1 * f.val = 1408 * (t.val % 2) + f.val
      rw [e.2.2]; omega
  exact (congrArg (tailArr (aX m c) (aN m c) (aW m c)) e0).symm

end Cert.FfnVal

end
-- ==== Proof.FfnRef.lean ====
/- The reference of the feed-forward layer reads, index by index, as the functions of `FfnSpec`. -/
module

public import proofs.«01_k».proof.Proof.FfnSpec
public import proofs.«01_k».proof.Proof.Gen.Reference3Ideal.Read

@[expose] public section

set_option maxRecDepth 16384

noncomputable section

namespace Cert.FfnVal

open Cert.Reference3Ideal Cert.Reference3Ideal.Read Idealize.ShloMosaic

variable (X : XArr) (P : PArr) (N : NArr) (W : WArr) (T : TArr) (B : BArr) (O : OArr)

theorem ref_hid (b : Fin 4) (s : Fin 8192) (l : Fin 1024) : val_main_v15 (F := Ideal) X N (ix3 b s l) = hid X N b s l := by
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_gate (b : Fin 4) (s : Fin 8192) (f : Fin 2816) : val_main_v17 (F := Ideal) X N W (ix3 b s f) = gate X N W b s f := by
  pointwise [val_main_v17, val_main_v16, dot_S4x8192x1024_S1024x5632_S4x8192x5632_2_0_01_1_n_n]
  exact Finset.sum_congr rfl fun k _ => by rw [ref_hid]

theorem ref_up (b : Fin 4) (s : Fin 8192) (f : Fin 2816) : val_main_v18 (F := Ideal) X N W (ix3 b s f) = up X N W b s f := by
  pointwise [val_main_v18, val_main_v16, dot_S4x8192x1024_S1024x5632_S4x8192x5632_2_0_01_1_n_n]
  exact Finset.sum_congr rfl fun k _ => by rw [ref_hid]

theorem ref_ext (b : Fin 4) (n : Fin 8194) (f : Fin 2816) : val_main_v19 (F := Ideal) X P N W (ix3 b n f) = ext X P N W b n f := by
  pointwise [val_main_v19]
  unfold ext
  split
  · rfl
  · rw [ref_gate]

theorem ref_conv (b : Fin 4) (s : Fin 8192) (f : Fin 2816) : val_main_v44 (F := Ideal) X P N W T B (ix3 b s f) = conv X P N W T B b s f := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_2]
  simp only [ref_ext, Nat.add_comm 1 s.val, Nat.add_comm 2 s.val]
  unfold conv
  simp only [add_assoc]

theorem ref_act (b : Fin 4) (s : Fin 8192) (f : Fin 2816) : val_main_v46 (F := Ideal) X P N W T B (ix3 b s f) = act X P N W T B b s f := by
  pointwise [val_main_v46, val_main_v45, val_main_call0_v5, val_main_call0_v4, val_main_call0_v3, val_main_call0_v2, val_main_call0_v1, val_main_call0_v0, val_main_call0_cst, val_main_call0_cst_0]
  rw [ref_conv, ref_up]
  rfl

theorem ref_mixed (b : Fin 4) (s : Fin 8192) (l : Fin 1024) : val_main_v47 (F := Ideal) X P N W T B O (ix3 b s l) = mixed X P N W T B O b s l := by
  pointwise [val_main_v47, dot_S4x8192x2816_S2816x1024_S4x8192x1024_2_0_01_1_n_n]
  exact Finset.sum_congr rfl fun k _ => by rw [ref_act]

theorem ref_out (r : Fin 32768) (l : Fin 1024) : val_main_v66 (F := Ideal) X P N W T B O (ix2 r l) = outArr X P N W T B O (ix2 r l) := by
  pointwise [val_main_v66, val_main_v63, val_main_v62, val_main_v61, val_main_v60, val_main_v59, val_main_v58, val_main_v57, val_main_v56, val_main_v55, val_main_v54, val_main_v53, val_main_v52, val_main_v51, val_main_v50, val_main_v49, val_main_v48, val_main_v0, val_main_cst_3, val_main_cst_4, val_main_cst_5]
  simp only [ref_mixed]
  unfold outArr out normed
  have hr := r.isLt
  have e : row ⟨r.val / 8192, by omega⟩ ⟨r.val % 8192, Nat.mod_lt _ (by decide)⟩ = r := Fin.ext (by show r.val / 8192 * 8192 + r.val % 8192 = r.val; omega)
  show _ = X (ix2 (row ⟨r.val / 8192, _⟩ ⟨r.val % 8192, _⟩) l) + _
  rw [e]
  rfl

theorem ref_tail (i : Fin 64) (k : Fin 2) (f : Fin 2816) : val_main_v65 (F := Ideal) X N W (ix3 i k f) = tailArr X N W (ix3 i k f) := by
  pointwise [val_main_v65, val_main_v64]
  rw [ref_gate]
  rfl

end Cert.FfnVal

end
-- ==== Proof.FfnClaim.lean ====
/- The claim about the feed-forward kernel, put together. -/
module

public import proofs.«01_k».proof.Defs
public import proofs.«01_k».proof.Proof.FfnValue
public import proofs.«01_k».proof.Proof.FfnRef
public import proofs.«01_k».proof.Proof.Gen.Reference3Ideal.Run
public import Idealize.ShloMosaic.Lib.Quiescent
public import Idealize.ShloMosaic.Lib.Claim

@[expose] public section

set_option maxRecDepth 16384

noncomputable section

namespace Cert.FfnVal

open Idealize.ShloMosaic.TcCoe Idealize.SL.Sem Idealize.ShloMosaic

/-- The reference of the feed-forward layer runs, leaves its arguments as they were and every counter at zero. -/
theorem reference_frame : Cert.quiescent_Reference3Ideal (hReference3Ideal := Cert.Reference3Ideal.Gen.facts) := fun m g _ =>
  (θ_run _ _ _).mono (fun r h => ⟨fun c => (h c).2.2, sem_eq_zero_of_no_sems (by decide) r.2⟩)
    (Cert.Reference3Ideal.Value.run m g)

theorem ref_out_arr (X : XArr) (P : PArr) (N : NArr) (W : WArr) (T : TArr) (B : BArr) (O : OArr) :
    Cert.Reference3Ideal.Read.val_main_v66 (F := Ideal) X P N W T B O = outArr X P N W T B O := by
  funext y
  obtain ⟨r, l, rfl⟩ : ∃ (r : Fin 32768) (l : Fin 1024), y = (ix2 r l : (⟨2, ![32768, 1024]⟩ : Shape).Idx) := ⟨y 0, y 1, by funext k; fin_cases k <;> rfl⟩
  exact ref_out X P N W T B O r l

theorem ref_tail_arr (X : XArr) (N : NArr) (W : WArr) :
    Cert.Reference3Ideal.Read.val_main_v65 (F := Ideal) X N W = tailArr X N W := by
  funext y
  obtain ⟨i, k, f, rfl⟩ : ∃ (i : Fin 64) (k : Fin 2) (f : Fin 2816), y = (ix3 i k f : (⟨3, ![64, 2, 2816]⟩ : Shape).Idx) := ⟨y 0, y 1, y 2, by funext k; fin_cases k <;> rfl⟩
  exact ref_tail X N W i k f

/-- The feed-forward kernel and its reference leave the same arrays, from all arguments. -/
theorem ffn_algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => outArr (aX m c) (aP m c) (aN m c) (aW m c) (aT m c) (aB m c) (aO m c), fun c => tailArr (aX m c) (aN m c) (aW m c), ?_, ?_⟩
  · refine (θ_run _ _ _).mono (fun r h c => ⟨((h.1 c).1 9).trans (final9 m c), ((h.1 c).1 10).trans (final10 m c), h.2 c⟩)
      (θ_run_and (Cert.Kernel3Ideal.Ffn.run_arrays m ρ) (Cert.Kernel3Ideal.Ffn.unchanged m ρ))
  · refine (θ_run _ _ _).mono (fun r h c => ⟨?_, ?_, (h c).2.2⟩) (Cert.Reference3Ideal.Value.run m' ρ')
    · refine (h c).1.trans ((Cert.Reference3Ideal.Read.val_main_v66_eq m' c).trans ?_)
      obtain ⟨h0, h1, h2, h3, h4, h5, h6⟩ := hagree c
      rw [h0, h1, h2, h3, h4, h5, h6]
      exact ref_out_arr _ _ _ _ _ _ _
    · refine (h c).2.1.trans ((Cert.Reference3Ideal.Read.val_main_v65_eq _ _ _).trans ?_)
      obtain ⟨h0, h1, h2, h3, h4, h5, h6⟩ := hagree c
      rw [h0, h2, h3]
      exact ref_tail_arr _ _ _

end Cert.FfnVal

end
-- ==== Proof.ProjSpec.lean ====
/- The layer's input projection as functions of its argument arrays. -/
module

public import proofs.«01_k».proof.Proof.FfnSpec

@[expose] public section

noncomputable section

namespace Cert.ProjVal

open Idealize.ShloMosaic Cert.FfnVal

/-- The rows: one per token. -/
abbrev XArr := (⟨2, ![32768, 1024]⟩ : Shape).Idx → EReal
/-- The scale of the norm. -/
abbrev GArr := (⟨1, ![1024]⟩ : Shape).Idx → EReal
/-- The weights of the projection. -/
abbrev WArr := (⟨2, ![1024, 2840]⟩ : Shape).Idx → EReal
/-- The scale and the shift of the mixed values. -/
abbrev LArr := (⟨2, ![2, 256]⟩ : Shape).Idx → EReal
/-- The weights that mix a chunk's tokens, a square per head. -/
abbrev SArr := (⟨3, ![4, 128, 128]⟩ : Shape).Idx → EReal
/-- The bias of the mixed tokens. -/
abbrev BArr := (⟨2, ![4, 128]⟩ : Shape).Idx → EReal

/-- The angle of position `s` at frequency `k`. -/
def ang (s k : ℕ) : EReal :=
  FloatOps.sitofp (F := Ideal) FTy.f32 (BitVec.ofNat 32 s) *
    Ideal.pow (Ideal.ofBits .f32 0x461C4000#32)
      (Ideal.div (-FloatOps.sitofp (F := Ideal) FTy.f32 (BitVec.ofNat 32 k)) (Ideal.ofBits .f32 0x42000000#32))

/-- A head's values turned by the angles of position `s`. -/
def rope (f : ℕ → EReal) (s d : ℕ) : EReal :=
  if d < 32 then f d * Ideal.cos (ang s d) - f (d + 32) * Ideal.sin (ang s d)
  else f d * Ideal.cos (ang s (d - 32)) + f (d - 32) * Ideal.sin (ang s (d - 32))

/-- The gelu, by its approximation with a hyperbolic tangent. -/
def gelu (x : EReal) : EReal :=
  x * (Ideal.ofBits .f32 0x3F000000#32 * (1 + Ideal.tanh (Ideal.ofBits .f32 0x3F4C422A#32 *
    (x + Ideal.ofBits .f32 0x3D372713#32 * (x * x * x)))))

/-- The mean of 256 values. -/
def mean (f : Fin 256 → EReal) : EReal := Ideal.div (∑ k, f k) (Ideal.ofBits .f32 0x43800000#32)

/-- Values less their mean, over their deviation, scaled and shifted. -/
def lnorm (f g b : Fin 256 → EReal) (c : Fin 256) : EReal :=
  (f c - mean f) * Ideal.rsqrt (mean (fun k => (f k - mean f) * (f k - mean f)) + Ideal.ofBits .f32 0x3727C5AC#32) * g c + b c

variable (X : XArr) (G : GArr) (W : WArr) (L : LArr) (S : SArr) (B : BArr)

/-- The projection of a row to column `j`; nothing past the last column. -/
def proj (r : Fin 32768) (j : ℕ) : EReal :=
  if h : j < 2840 then ∑ k, normed (fun i => X (ix2 r i)) (fun i => G (ix1 i)) k * W (ix2 k ⟨j, h⟩) else 0
/-- The values that are mixed over a chunk. -/
def vgm (r : Fin 32768) (c : Fin 256) : EReal :=
  lnorm (fun k => gelu (proj X G W r (256 + k.val))) (fun k => L (ix2 0 k)) (fun k => L (ix2 1 k)) c
/-- A head's mixing weights: a token takes only those up to itself. -/
def tri (h : Fin 4) (p q : Fin 128) : EReal := if q.val ≤ p.val then S (ix3 h p q) else 0
/-- The chunk-mixed values of a row, gated. -/
def ogm (r : Fin 32768) (c : Fin 256) : EReal :=
  gelu (proj X G W r c.val) * ((∑ q : Fin 128, tri S ⟨c.val / 64, by omega⟩ ⟨r.val % 128, Nat.mod_lt _ (by decide)⟩ q *
    vgm X G W L ⟨r.val / 128 * 128 + q.val, by omega⟩ c) + B (ix2 ⟨c.val / 64, by omega⟩ ⟨r.val % 128, Nat.mod_lt _ (by decide)⟩))
/-- The query of head `h`, turned and scaled. -/
def query (r : Fin 32768) (h d : ℕ) : EReal :=
  rope (fun e => proj X G W r (512 + 64 * h + e)) (r.val % 8192) d * Ideal.ofBits .f32 0x3E000000#32
/-- A row's queries, each head's in its half of 128 columns and zeros in the other. -/
def qpad (r : Fin 32768) (c : Fin 1024) : EReal :=
  if c.val < 512 then (if c.val % 128 < 64 then query X G W r (c.val / 128) (c.val % 128) else 0)
  else (if c.val % 128 < 64 then 0 else query X G W r (c.val / 128) (c.val % 128 - 64))
/-- The keys, turned, and the values of branch `b`. -/
def kv (b : ℕ) (r : Fin 32768) (c : ℕ) : EReal :=
  if c < 128 then rope (fun e => proj X G W r (1024 + 256 * b + 64 * (c / 64) + e)) (r.val % 8192) (c % 64)
  else proj X G W r (1024 + 256 * b + c)
/-- The keys and values of the last two branches side by side. -/
def kvb (r : Fin 32768) (c : Fin 512) : EReal :=
  if c.val < 256 then kv X G W 1 r c.val else kv X G W 2 r (c.val - 256)
/-- The gates of the branches, a branch's heads side by side. -/
def gates (r : Fin 32768) (c : Fin 128) : EReal :=
  Ideal.logistic (if c.val < 24 then proj X G W r (1792 + 3 * (c.val % 8) + c.val / 8) else 0)
/-- What the recurrence takes. -/
def zrw (r : Fin 32768) (c : Fin 1024) : EReal := proj X G W r (1816 + c.val)

end Cert.ProjVal

end
-- ==== Proof.ProjPay.lean ====
/- The kernel of the input projection reads, payload by payload. -/
module

public import proofs.«01_k».proof.Proof.MidPay
public import proofs.«01_k».proof.Proof.ProjSpec
public import proofs.«01_k».proof.Proof.Gen.Kernel4Ideal.Skeleton

@[expose] public section

set_option maxRecDepth 16384

set_option backward.proofsInPublic true

noncomputable section

namespace Cert.ProjVal

open Cert.Kernel4Ideal Cert.Kernel4Ideal.Gen Cert.FfnVal Idealize.ShloMosaic

theorem turn_bit (p : Fin 256) (a : Fin 128) : k0_pay32 (ix2 p a) = MidVal.bit (a.val % 64 < 32) := by
  pointwise [k0_pay32]
  revert a; decide +kernel

theorem half_bit (p : Fin 256) (a : Fin 128) : (k0_pay33 (iota .tc S256x128 32 [1] iota_S256x128_d1_w32) 128#32 (Scalar.cmpi .eq 128#32 0#32)) (ix2 p a) = MidVal.bit (a.val < 64) := by
  pointwise [k0_pay33]
  exact MidVal.lane_bit a

theorem head_bit (p : Fin 128) (a : Fin 256) (n : Fin 4) : IntOp.cmpi .eq (k0_pay15 (ix2 p a)) (BitVec.ofNat 32 n.val) = MidVal.bit (a.val / 64 = n.val) := by
  pointwise [k0_pay15]
  revert a n; decide +kernel

theorem sge_bit' (a b : Fin 128) : IntOp.cmpi .sge (BitVec.ofNat 32 a.val) (BitVec.ofNat 32 b.val) = MidVal.bit (b.val ≤ a.val) := by
  revert a b; decide +kernel

/-- A column of the projection of a tile's row. -/
theorem pay8_read (x : Vec Ideal S256x1024 .f32) (g : Vec Ideal S1x1024 .f32) (w : Vec Ideal S1024x2944 .bf16) (p : Fin 256) (a : Fin 2944) :
    k0_pay8 (F := Ideal) x g w (ix2 p a) = ∑ k, normed (fun i => x (ix2 p i)) (fun i => g (ix2 0 i)) k * w (ix2 k a) := by
  pointwise [k0_pay8, dot_S256x1024_S1024x2944_S256x2944_1_0_0_1_n_n]
  rfl

theorem pay9_read (x : Vec Ideal S256x1024 .f32) (g : Vec Ideal S1x1024 .f32) (w : Vec Ideal S1024x2944 .bf16) (p : Fin 256) (a : Fin 512) :
    k0_pay9 (F := Ideal) x g w (ix2 p a) = gelu (k0_pay8 (F := Ideal) x g w (ix2 p ⟨a.val, by omega⟩)) := by
  pointwise [k0_pay9]
  generalize k0_pay8 (F := Ideal) x g w (ix2 p ⟨a.val, by omega⟩) = y
  unfold gelu
  rw [mul_assoc y y y]

theorem pay10_read (x : Vec Ideal S256x1024 .f32) (g : Vec Ideal S1x1024 .f32) (w : Vec Ideal S1024x2944 .bf16) (p : Fin 256) (a : Fin 256) :
    k0_pay10 (F := Ideal) x g w (ix2 p a) = gelu (k0_pay8 (F := Ideal) x g w (ix2 p ⟨a.val, by omega⟩)) := by
  pointwise [k0_pay10]
  exact pay9_read x g w p ⟨a.val, by omega⟩

theorem pay11_read (x : Vec Ideal S256x1024 .f32) (g : Vec Ideal S1x1024 .f32) (w : Vec Ideal S1024x2944 .bf16) (p : Fin 256) (a : Fin 256) :
    k0_pay11 (F := Ideal) x g w (ix2 p a) = gelu (k0_pay8 (F := Ideal) x g w (ix2 p ⟨256 + a.val, by omega⟩)) := by
  pointwise [k0_pay11]
  exact pay9_read x g w p ⟨256 + a.val, by omega⟩

/-- The values mixed over a chunk. -/
theorem pay14_read (x : Vec Ideal S256x1024 .f32) (g : Vec Ideal S1x1024 .f32) (w : Vec Ideal S1024x2944 .bf16) (l l' : Vec Ideal S1x256 .f32) (p : Fin 256) (a : Fin 256) :
    k0_pay14 (F := Ideal) (k0_pay11 x g w) (k0_pay12 x g w) (k0_pay13 x g w) l l' (ix2 p a)
      = lnorm (fun k => gelu (k0_pay8 (F := Ideal) x g w (ix2 p ⟨256 + k.val, by omega⟩))) (fun k => l (ix2 0 k)) (fun k => l' (ix2 0 k)) a := by
  pointwise [k0_pay14, k0_pay13, k0_pay12]
  simp only [pay11_read]
  rfl

/-- The mask of a head's mixing weights. -/
theorem pay17_read (w : Vec Ideal S1x128x128 .f32) (p q : Fin 128) : k0_pay17 (F := Ideal) (iota .tc S128x128 32 [0] iota_S128x128_d0_w32) w (ix2 p q) = if q.val ≤ p.val then w (ix3 0 p q) else 0 := by
  pointwise [k0_pay17, k0_pay16]
  rw [sge_bit', MidVal.select_bit]

theorem pay18_read (w : Vec Ideal S1x128x128 .f32) (p q : Fin 128) : k0_pay18 (F := Ideal) (iota .tc S128x128 32 [0] iota_S128x128_d0_w32) w (ix2 p q) = if q.val ≤ p.val then w (ix3 0 p q) else 0 := by
  pointwise [k0_pay18, k0_pay16]
  rw [sge_bit', MidVal.select_bit]

theorem pay19_read (w : Vec Ideal S1x128x128 .f32) (p q : Fin 128) : k0_pay19 (F := Ideal) (iota .tc S128x128 32 [0] iota_S128x128_d0_w32) w (ix2 p q) = if q.val ≤ p.val then w (ix3 0 p q) else 0 := by
  pointwise [k0_pay19, k0_pay16]
  rw [sge_bit', MidVal.select_bit]

theorem pay20_read (w : Vec Ideal S1x128x128 .f32) (p q : Fin 128) : k0_pay20 (F := Ideal) (iota .tc S128x128 32 [0] iota_S128x128_d0_w32) w (ix2 p q) = if q.val ≤ p.val then w (ix3 0 p q) else 0 := by
  pointwise [k0_pay20, k0_pay16]
  rw [sge_bit', MidVal.select_bit]

section Mix
variable (u v : FVec Ideal S256x256 .f32) (w0 : Vec Ideal S1x128x128 .f32) (w0' w1 w2 w3 : FVec Ideal S128x128 .bf16) (b : Vec Ideal S128x256 .f32)

theorem mix_sum (n : ℕ) (T : Fin 4 → Fin 128 → EReal) (V : Fin 128 → EReal) (hn : n < 4) (B : EReal) :
    B + (∑ q, if n = 0 then T 0 q * V q else 0) + (∑ q, if n = 1 then T 1 q * V q else 0) + (∑ q, if n = 2 then T 2 q * V q else 0)
      + (∑ q, if n = 3 then T 3 q * V q else 0) = (∑ q, T ⟨n, hn⟩ q * V q) + B := by
  obtain rfl | rfl | rfl | rfl : n = 0 ∨ n = 1 ∨ n = 2 ∨ n = 3 := by omega
  all_goals simp [add_comm]

variable (T : Fin 4 → Fin 128 → EReal) (p : Fin 128) (h1 : ∀ q, w1 (ix2 p q) = T 1 q) (h2 : ∀ q, w2 (ix2 p q) = T 2 q) (h3 : ∀ q, w3 (ix2 p q) = T 3 q)
include h1 h2 h3

theorem mix_lo (h0 : ∀ q, k0_pay17 (F := Ideal) (iota .tc S128x128 32 [0] iota_S128x128_d0_w32) w0 (ix2 p q) = T 0 q) (a : Fin 256) :
    k0_pay24 (F := Ideal) u k0_pay15 w1 w2 w3 (k0_pay21 v) (k0_pay22 v k0_pay15 (iota .tc S128x128 32 [0] iota_S128x128_d0_w32) w0 b) (k0_pay23 v k0_pay15) (ix2 p a)
      = u (ix2 ⟨p.val, by omega⟩ a) * ((∑ q, T ⟨a.val / 64, by omega⟩ q * v (ix2 ⟨q.val, by omega⟩ a)) + b (ix2 p a)) := by
  pointwise [k0_pay24, k0_pay21, k0_pay22, k0_pay23, dot_S128x128_S128x256_S128x256_1_0_0_1_n_n]
  have e0 : ∀ q : Fin 128, IntOp.cmpi .eq (k0_pay15 (ix2 q a)) 0#32 = MidVal.bit (a.val / 64 = 0) := fun q => head_bit q a 0
  have e1 : ∀ q : Fin 128, IntOp.cmpi .eq (k0_pay15 (ix2 q a)) 1#32 = MidVal.bit (a.val / 64 = 1) := fun q => head_bit q a 1
  have e2 : ∀ q : Fin 128, IntOp.cmpi .eq (k0_pay15 (ix2 q a)) 2#32 = MidVal.bit (a.val / 64 = 2) := fun q => head_bit q a 2
  have e3 : ∀ q : Fin 128, IntOp.cmpi .eq (k0_pay15 (ix2 q a)) 3#32 = MidVal.bit (a.val / 64 = 3) := fun q => head_bit q a 3
  simp only [e0, e1, e2, e3, MidVal.select_bit, h0, h1, h2, h3]
  exact congrArg (u _ * ·) (mix_sum (a.val / 64) T (fun q => v (ix2 ⟨q.val, by omega⟩ a)) (by omega) (b (ix2 p a)))

theorem mix_hi (h0 : ∀ q, w0' (ix2 p q) = T 0 q) (a : Fin 256) :
    k0_pay29 (F := Ideal) u k0_pay15 w2 w3 (k0_pay25 v) (k0_pay26 v k0_pay15 w0' w1 b) (k0_pay27 k0_pay15) k0_pay28 (ix2 p a)
      = u (ix2 ⟨128 + p.val, by omega⟩ a) * ((∑ q, T ⟨a.val / 64, by omega⟩ q * v (ix2 ⟨128 + q.val, by omega⟩ a)) + b (ix2 p a)) := by
  pointwise [k0_pay29, k0_pay25, k0_pay26, k0_pay27, k0_pay28, dot_S128x128_S128x256_S128x256_1_0_0_1_n_n]
  have e0 : ∀ q : Fin 128, IntOp.cmpi .eq (k0_pay15 (ix2 q a)) 0#32 = MidVal.bit (a.val / 64 = 0) := fun q => head_bit q a 0
  have e1 : ∀ q : Fin 128, IntOp.cmpi .eq (k0_pay15 (ix2 q a)) 1#32 = MidVal.bit (a.val / 64 = 1) := fun q => head_bit q a 1
  have e2 : ∀ q : Fin 128, IntOp.cmpi .eq (k0_pay15 (ix2 q a)) 2#32 = MidVal.bit (a.val / 64 = 2) := fun q => head_bit q a 2
  have e3 : ∀ q : Fin 128, IntOp.cmpi .eq (k0_pay15 (ix2 q a)) 3#32 = MidVal.bit (a.val / 64 = 3) := fun q => head_bit q a 3
  simp only [e0, e1, e2, e3, MidVal.select_bit, h0, h1, h2, h3]
  exact congrArg (u _ * ·) (mix_sum (a.val / 64) T (fun q => v (ix2 ⟨128 + q.val, by omega⟩ a)) (by omega) (b (ix2 p a)))

end Mix

theorem rope_congr {f g : ℕ → EReal} (hf : ∀ e, f e = g e) (s : ℕ) {d d' : ℕ} (hd : d = d') : rope f s d = rope g s d' := by
  obtain rfl := funext hf
  rw [hd]

section Turn
variable (z : FVec Ideal S256x2944 .f32) (t u : FVec Ideal S256x128 .f32) (Z : ℕ → EReal) (s : ℕ) (p : Fin 256)
  (hz : ∀ (j : ℕ) (h : j < 1792), z (ix2 p ⟨j, by omega⟩) = Z j)
  (ht : ∀ a, t (ix2 p a) = Ideal.cos (ang s (a.val % 32)))
  (hu : ∀ a, u (ix2 p a) = if a.val % 64 < 32 then -Ideal.sin (ang s (a.val % 64)) else Ideal.sin (ang s (a.val % 64 - 32)))
include hz ht hu

theorem turned (b : ℕ) (a : Fin 128) (hb : b + 128 ≤ 1792) :
    z (ix2 p ⟨b + a.val, by omega⟩) * t (ix2 p a) + Scalar.select (k0_pay32 (ix2 p a)) (z (ix2 p ⟨b + (a.val + 128 - 96) % 128, by omega⟩)) (z (ix2 p ⟨b + (a.val + 128 - 32) % 128, by omega⟩)) * u (ix2 p a)
      = rope (fun e => Z (b + 64 * (a.val / 64) + e)) s (a.val % 64) := by
  have ha := a.isLt
  rw [turn_bit, MidVal.select_bit, ht, hu, hz _ (by omega)]
  unfold rope
  by_cases h : a.val % 64 < 32
  · rw [if_pos h, if_pos h, if_pos h, hz _ (by omega), mul_neg, ← sub_eq_add_neg]
    exact congrArg₂ (· - ·) (congrArg₂ (· * ·) (congrArg Z (by omega)) (congrArg (fun k => Ideal.cos (ang s k)) (by omega))) (congrArg (· * _) (congrArg Z (by omega)))
  · rw [if_neg h, if_neg h, if_neg h, hz _ (by omega)]
    exact congrArg₂ (· + ·) (congrArg₂ (· * ·) (congrArg Z (by omega)) (congrArg (fun k => Ideal.cos (ang s k)) (by omega))) (congrArg (· * _) (congrArg Z (by omega)))

theorem pay35_read (a : Fin 128) : k0_pay35 (F := Ideal) z t u k0_pay32 (iota .tc S256x128 32 [1] iota_S256x128_d1_w32) 128#32 (Scalar.cmpi .eq 128#32 0#32) (ix2 p a) = if a.val < 64 then rope (fun e => Z (512 + e)) s a.val * Ideal.ofBits .f32 0x3E000000#32 else 0 := by
  pointwise [k0_pay35, k0_pay34]
  have ha := a.isLt
  rw [half_bit, MidVal.select_bit]
  by_cases h : a.val < 64
  · rw [if_pos h, if_pos h]
    exact congrArg (· * _) ((turned z t u Z s p hz ht hu 512 a (by decide)).trans (rope_congr (fun e => congrArg Z (by
      show 512 + 64 * (a.val / 64) + e = 512 + e; omega)) s (by show a.val % 64 = _; omega)))
  · rw [if_neg h, if_neg h]

theorem pay36_read (a : Fin 128) : k0_pay36 (F := Ideal) z t u k0_pay32 (iota .tc S256x128 32 [1] iota_S256x128_d1_w32) 128#32 (Scalar.cmpi .eq 128#32 0#32) (ix2 p a) = if a.val < 64 then rope (fun e => Z (576 + e)) s a.val * Ideal.ofBits .f32 0x3E000000#32 else 0 := by
  pointwise [k0_pay36, k0_pay34]
  have ha := a.isLt
  rw [half_bit, MidVal.select_bit]
  by_cases h : a.val < 64
  · rw [if_pos h, if_pos h]
    exact congrArg (· * _) ((turned z t u Z s p hz ht hu 512 ⟨(a.val + 128 - 64) % 128, Nat.mod_lt _ (by decide)⟩ (by decide)).trans (rope_congr (fun e => congrArg Z (by
      show 512 + 64 * (((a.val + 128 - 64) % 128) / 64) + e = 576 + e; omega)) s (by show ((a.val + 128 - 64) % 128) % 64 = _; omega)))
  · rw [if_neg h, if_neg h]

theorem pay41_read (a : Fin 128) : k0_pay41 (F := Ideal) (k0_pay33 (iota .tc S256x128 32 [1] iota_S256x128_d1_w32) 128#32 (Scalar.cmpi .eq 128#32 0#32)) (k0_pay38 z t) (k0_pay39 z u k0_pay32) (ix2 p a) = if a.val < 64 then rope (fun e => Z (640 + e)) s a.val * Ideal.ofBits .f32 0x3E000000#32 else 0 := by
  pointwise [k0_pay41, k0_pay40, k0_pay38, k0_pay39, k0_pay37]
  have ha := a.isLt
  rw [half_bit, MidVal.select_bit]
  by_cases h : a.val < 64
  · rw [if_pos h, if_pos h]
    exact congrArg (· * _) ((turned z t u Z s p hz ht hu 640 a (by decide)).trans (rope_congr (fun e => congrArg Z (by
      show 640 + 64 * (a.val / 64) + e = 640 + e; omega)) s (by show a.val % 64 = _; omega)))
  · rw [if_neg h, if_neg h]

theorem pay42_read (a : Fin 128) : k0_pay42 (F := Ideal) (k0_pay33 (iota .tc S256x128 32 [1] iota_S256x128_d1_w32) 128#32 (Scalar.cmpi .eq 128#32 0#32)) (k0_pay38 z t) (k0_pay39 z u k0_pay32) (ix2 p a) = if a.val < 64 then rope (fun e => Z (704 + e)) s a.val * Ideal.ofBits .f32 0x3E000000#32 else 0 := by
  pointwise [k0_pay42, k0_pay40, k0_pay38, k0_pay39, k0_pay37]
  have ha := a.isLt
  rw [half_bit, MidVal.select_bit]
  by_cases h : a.val < 64
  · rw [if_pos h, if_pos h]
    exact congrArg (· * _) ((turned z t u Z s p hz ht hu 640 ⟨(a.val + 128 - 64) % 128, Nat.mod_lt _ (by decide)⟩ (by decide)).trans (rope_congr (fun e => congrArg Z (by
      show 640 + 64 * (((a.val + 128 - 64) % 128) / 64) + e = 704 + e; omega)) s (by show ((a.val + 128 - 64) % 128) % 64 = _; omega)))
  · rw [if_neg h, if_neg h]

theorem pay44_read (a : Fin 128) : k0_pay44 (F := Ideal) z t u k0_pay32 (k0_pay33 (iota .tc S256x128 32 [1] iota_S256x128_d1_w32) 128#32 (Scalar.cmpi .eq 128#32 0#32)) (ix2 p a) = if a.val < 64 then 0 else rope (fun e => Z (768 + e)) s (a.val - 64) * Ideal.ofBits .f32 0x3E000000#32 := by
  pointwise [k0_pay44, k0_pay43]
  have ha := a.isLt
  rw [half_bit, MidVal.select_bit]
  by_cases h : a.val < 64
  · rw [if_pos h, if_pos h]

  · rw [if_neg h, if_neg h]
    exact congrArg (· * _) ((turned z t u Z s p hz ht hu 768 ⟨(a.val + 128 - 64) % 128, Nat.mod_lt _ (by decide)⟩ (by decide)).trans (rope_congr (fun e => congrArg Z (by
      show 768 + 64 * (((a.val + 128 - 64) % 128) / 64) + e = 768 + e; omega)) s (by show ((a.val + 128 - 64) % 128) % 64 = _; omega)))

theorem pay45_read (a : Fin 128) : k0_pay45 (F := Ideal) z t u k0_pay32 (k0_pay33 (iota .tc S256x128 32 [1] iota_S256x128_d1_w32) 128#32 (Scalar.cmpi .eq 128#32 0#32)) (ix2 p a) = if a.val < 64 then 0 else rope (fun e => Z (832 + e)) s (a.val - 64) * Ideal.ofBits .f32 0x3E000000#32 := by
  pointwise [k0_pay45, k0_pay43]
  have ha := a.isLt
  rw [half_bit, MidVal.select_bit]
  by_cases h : a.val < 64
  · rw [if_pos h, if_pos h]

  · rw [if_neg h, if_neg h]
    exact congrArg (· * _) ((turned z t u Z s p hz ht hu 768 a (by decide)).trans (rope_congr (fun e => congrArg Z (by
      show 768 + 64 * (a.val / 64) + e = 832 + e; omega)) s (by show a.val % 64 = _; omega)))

theorem pay50_read (a : Fin 128) : k0_pay50 (F := Ideal) (k0_pay33 (iota .tc S256x128 32 [1] iota_S256x128_d1_w32) 128#32 (Scalar.cmpi .eq 128#32 0#32)) (k0_pay47 z t) (k0_pay48 z u k0_pay32) (ix2 p a) = if a.val < 64 then 0 else rope (fun e => Z (896 + e)) s (a.val - 64) * Ideal.ofBits .f32 0x3E000000#32 := by
  pointwise [k0_pay50, k0_pay49, k0_pay47, k0_pay48, k0_pay46]
  have ha := a.isLt
  rw [half_bit, MidVal.select_bit]
  by_cases h : a.val < 64
  · rw [if_pos h, if_pos h]

  · rw [if_neg h, if_neg h]
    exact congrArg (· * _) ((turned z t u Z s p hz ht hu 896 ⟨(a.val + 128 - 64) % 128, Nat.mod_lt _ (by decide)⟩ (by decide)).trans (rope_congr (fun e => congrArg Z (by
      show 896 + 64 * (((a.val + 128 - 64) % 128) / 64) + e = 896 + e; omega)) s (by show ((a.val + 128 - 64) % 128) % 64 = _; omega)))

theorem pay51_read (a : Fin 128) : k0_pay51 (F := Ideal) (k0_pay33 (iota .tc S256x128 32 [1] iota_S256x128_d1_w32) 128#32 (Scalar.cmpi .eq 128#32 0#32)) (k0_pay47 z t) (k0_pay48 z u k0_pay32) (ix2 p a) = if a.val < 64 then 0 else rope (fun e => Z (960 + e)) s (a.val - 64) * Ideal.ofBits .f32 0x3E000000#32 := by
  pointwise [k0_pay51, k0_pay49, k0_pay47, k0_pay48, k0_pay46]
  have ha := a.isLt
  rw [half_bit, MidVal.select_bit]
  by_cases h : a.val < 64
  · rw [if_pos h, if_pos h]

  · rw [if_neg h, if_neg h]
    exact congrArg (· * _) ((turned z t u Z s p hz ht hu 896 a (by decide)).trans (rope_congr (fun e => congrArg Z (by
      show 896 + 64 * (a.val / 64) + e = 960 + e; omega)) s (by show a.val % 64 = _; omega)))

theorem pay52_read (a : Fin 128) : k0_pay52 (F := Ideal) z t u k0_pay32 (ix2 p a) = rope (fun e => Z (1024 + 256 * 0 + 64 * (a.val / 64) + e)) s (a.val % 64) := by
  pointwise [k0_pay52]
  exact turned z t u Z s p hz ht hu 1024 a (by decide)

theorem pay54_read (a : Fin 128) : k0_pay54 (F := Ideal) z t u k0_pay32 (ix2 p a) = rope (fun e => Z (1024 + 256 * 1 + 64 * (a.val / 64) + e)) s (a.val % 64) := by
  pointwise [k0_pay54]
  exact turned z t u Z s p hz ht hu 1280 a (by decide)

theorem pay2_read (a : Fin 128) : k0_pay2 (F := Ideal) z t u k0_pay32 (ix2 p a) = rope (fun e => Z (1024 + 256 * 2 + 64 * (a.val / 64) + e)) s (a.val % 64) := by
  pointwise [k0_pay2]
  exact turned z t u Z s p hz ht hu 1536 a (by decide)

theorem pay56_read (a : Fin 128) : k0_pay56 (F := Ideal) z t u k0_pay32 (ix2 p a) = rope (fun e => Z (1024 + 256 * 1 + 64 * (a.val / 64) + e)) s (a.val % 64) := by
  pointwise [k0_pay56, k0_pay54]
  exact turned z t u Z s p hz ht hu 1280 a (by decide)

theorem pay4_read (a : Fin 128) : k0_pay4 (F := Ideal) z t u k0_pay32 (ix2 p a) = rope (fun e => Z (1024 + 256 * 2 + 64 * (a.val / 64) + e)) s (a.val % 64) := by
  pointwise [k0_pay4, k0_pay2]
  exact turned z t u Z s p hz ht hu 1536 a (by decide)

theorem pay53_read (a : Fin 128) : k0_pay53 (F := Ideal) z (ix2 p a) = Z (1024 + 256 * 0 + (128 + a.val)) := by
  pointwise [k0_pay53]
  exact (hz (1152 + a.val) (by omega)).trans (congrArg Z (by omega))

theorem pay55_read (a : Fin 128) : k0_pay55 (F := Ideal) z (ix2 p a) = Z (1024 + 256 * 1 + (128 + a.val)) := by
  pointwise [k0_pay55]
  exact (hz (1408 + a.val) (by omega)).trans (congrArg Z (by omega))

theorem pay3_read (a : Fin 128) : k0_pay3 (F := Ideal) z (ix2 p a) = Z (1024 + 256 * 2 + (128 + a.val)) := by
  pointwise [k0_pay3]
  exact (hz (1664 + a.val) (by omega)).trans (congrArg Z (by omega))

theorem pay5_read (a : Fin 128) : k0_pay5 (F := Ideal) z (ix2 p a) = Z (1024 + 256 * 2 + (128 + a.val)) := by
  pointwise [k0_pay5, k0_pay3]
  exact (hz (1664 + a.val) (by omega)).trans (congrArg Z (by omega))

theorem pay1_read (a : Fin 128) : k0_pay1 (F := Ideal) (k0_pay55 z) (ix2 p a) = Z (1024 + 256 * 1 + (128 + a.val)) := by
  pointwise [k0_pay1]
  exact pay55_read z t u Z s p hz ht hu a

end Turn

theorem pay7_read (z : FVec Ideal S256x2944 .f32) (p : Fin 256) (a : Fin 128) : k0_pay7 (F := Ideal) z (ix2 p a) = Ideal.logistic (z (ix2 p ⟨2816 + a.val, by omega⟩)) := by
  pointwise [k0_pay7]

theorem pay6_read (z : FVec Ideal S256x2944 .f32) (p : Fin 256) (a : Fin 1024) : k0_pay6 (F := Ideal) z (ix2 p a) = z (ix2 p ⟨1792 + a.val, by omega⟩) := by
  pointwise [k0_pay6]

theorem pay30_read (z : FVec Ideal S256x128 .f32) : k0_pay30 (F := Ideal) z = z := by
  funext y
  obtain ⟨p, a, rfl⟩ : ∃ (p : Fin 256) (a : Fin 128), y = ix2 p a := ⟨y 0, y 1, by funext k; fin_cases k <;> rfl⟩
  pointwise [k0_pay30]

theorem pay31_read (z : FVec Ideal S256x128 .f32) : k0_pay31 (F := Ideal) z = z := by
  funext y
  obtain ⟨p, a, rfl⟩ : ∃ (p : Fin 256) (a : Fin 128), y = ix2 p a := ⟨y 0, y 1, by funext k; fin_cases k <;> rfl⟩
  pointwise [k0_pay31]

end Cert.ProjVal

end
-- ==== Proof.ProjTile.lean ====
/- What a tile of the kernel of the input projection holds. -/
module

public import proofs.«01_k».proof.Proof.ProjPay
public import proofs.«01_k».proof.Proof.MidTile
public import proofs.«01_k».proof.Proof.Gen.Kernel4Ideal.Frame
public import Idealize.ShloMosaic.Lib.Pipeline.ValueKit.Tiles

@[expose] public section

set_option maxRecDepth 16384

noncomputable section

namespace Cert.ProjVal

open Cert.Kernel4Ideal Cert.Kernel4Ideal.Gen Cert.FfnVal Idealize.ShloMosaic

/-- The weights' column that stands at column `j` of the packed weights; past the last one where there is none. -/
def col (j : ℕ) : ℕ :=
  if j < 1792 then j else if j < 2816 then j + 24 else if j < 2840 then 1792 + 3 * ((j - 2816) % 8) + (j - 2816) / 8 else 2840

/-- Column `j` of the weights, zero past the last one. -/
def colw (W : WArr) (k : Fin 1024) (j : ℕ) : EReal := if h : j < 2840 then W (ix2 k ⟨j, h⟩) else 0

/-- The row of a tile's row. -/
abbrev trow (t : Fin 128) (p : Fin 256) : Fin 32768 := ⟨256 * t.val + p.val, by omega⟩

variable (X : XArr) (G : GArr) (W : WArr) (L : LArr) (S : SArr) (B : BArr)
variable (x0 : Vec Ideal S256x1024 .f32) (x1 : Vec Ideal S1x1024 .f32) (x2 : Vec Ideal S1024x2944 .bf16) (x3 x4 : Vec Ideal S256x128 .f32)
  (x5 : Vec Ideal S2x256 .f32) (x6 : Vec Ideal S4x128x128 .f32) (x7 : Vec Ideal S128x256 .f32)

/-- The blocks hold tile `t` of the arrays. -/
structure Holds (t : Fin 128) : Prop where
  h0 : ∀ p l, x0 (ix2 p l) = X (ix2 (trow t p) l)
  h1 : ∀ l, x1 (ix2 0 l) = G (ix1 l)
  h2 : ∀ k (j : Fin 2944), x2 (ix2 k j) = colw W k (col j.val)
  h3 : ∀ (p : Fin 256) (a : Fin 128), x3 (ix2 p a) = Ideal.cos (ang ((trow t p).val % 8192) (a.val % 32))
  h4 : ∀ (p : Fin 256) (a : Fin 128), x4 (ix2 p a) =
    if a.val % 64 < 32 then -Ideal.sin (ang ((trow t p).val % 8192) (a.val % 64)) else Ideal.sin (ang ((trow t p).val % 8192) (a.val % 64 - 32))
  h5 : ∀ k l, x5 (ix2 k l) = L (ix2 k l)
  h6 : ∀ h p q, x6 (ix3 h p q) = S (ix3 h p q)
  h7 : ∀ (q : Fin 128) (a : Fin 256), x7 (ix2 q a) = B (ix2 ⟨a.val / 64, by omega⟩ q)

variable {X G W L S B x0 x1 x2 x3 x4 x5 x6 x7} {t : Fin 128}

section Tile
variable (H : Holds X G W L S B x0 x1 x2 x3 x4 x5 x6 x7 t)
include H

theorem z_at (p : Fin 256) (j : Fin 2944) : k0_pay8 (F := Ideal) (View.ld x0 r0_0) (View.ld x1 r0_1) (View.ld x2 r0_2) (ix2 p j) = proj X G W (trow t p) (col j.val) := by
  have e0 : View.ld x0 r0_0 = x0 := View.ld_unit_zero (by funext a; fin_cases a <;> rfl) ..
  have e1 : View.ld x1 r0_1 = x1 := View.ld_unit_zero (by funext a; fin_cases a <;> rfl) ..
  have e2 : View.ld x2 r0_2 = x2 := View.ld_unit_zero (by funext a; fin_cases a <;> rfl) ..
  rw [e0, e1, e2, pay8_read]
  unfold proj
  have en : ∀ k, normed (fun i => x0 (ix2 p i)) (fun i => x1 (ix2 0 i)) k = normed (fun i => X (ix2 (trow t p) i)) (fun i => G (ix1 i)) k :=
    fun k => MidVal.normed_congr (H.h0 p) H.h1 k
  simp only [en, H.h2, colw]
  by_cases h : col j.val < 2840
  · simp only [dif_pos h]
  · simp only [dif_neg h, mul_zero, Finset.sum_const_zero]

/-- A column of the projection of a tile's row, where the packing leaves the columns in place. -/
theorem z_low (p : Fin 256) (j : ℕ) (h : j < 1792) : k0_pay57 (F := Ideal) x0 x1 x2 x3 x4 x5 x6 x7 (ix2 p ⟨j, by omega⟩) = proj X G W (trow t p) j := by
  refine (z_at H p ⟨j, by omega⟩).trans (congrArg (proj X G W (trow t p)) ?_)
  unfold col
  rw [if_pos h]

theorem cos_at (p : Fin 256) (a : Fin 128) : k0_pay69 (F := Ideal) x0 x1 x2 x3 x4 x5 x6 x7 (ix2 p a) = Ideal.cos (ang ((trow t p).val % 8192) (a.val % 32)) := by
  have e : View.ld x3 r0_13 = x3 := View.ld_unit_zero (by funext a; fin_cases a <;> rfl) ..
  unfold k0_pay69
  rw [e, pay30_read]
  exact H.h3 p a

theorem sin_at (p : Fin 256) (a : Fin 128) : k0_pay70 (F := Ideal) x0 x1 x2 x3 x4 x5 x6 x7 (ix2 p a) =
    if a.val % 64 < 32 then -Ideal.sin (ang ((trow t p).val % 8192) (a.val % 64)) else Ideal.sin (ang ((trow t p).val % 8192) (a.val % 64 - 32)) := by
  have e : View.ld x4 r0_13 = x4 := View.ld_unit_zero (by funext a; fin_cases a <;> rfl) ..
  unfold k0_pay70
  rw [e, pay31_read]
  exact H.h4 p a

theorem u_at (p : Fin 256) (c : Fin 256) : k0_pay58 (F := Ideal) x0 x1 x2 x3 x4 x5 x6 x7 (ix2 p c) = gelu (proj X G W (trow t p) c.val) := by
  unfold k0_pay58
  rw [pay10_read]
  exact congrArg gelu (z_low H p c.val (by omega))

theorem v_at (p : Fin 256) (c : Fin 256) : k0_pay63 (F := Ideal) x0 x1 x2 x3 x4 x5 x6 x7 (ix2 p c) = vgm X G W L (trow t p) c := by
  have e3 : ∀ k, View.ld x5 r0_3 (ix2 0 k) = L (ix2 0 k) := fun k => (MidVal.ld_rows x5 0 inb_S2x256_S1x256_0_0 (by decide) 0 k).trans (H.h5 0 k)
  have e4 : ∀ k, View.ld x5 r0_4 (ix2 0 k) = L (ix2 1 k) := fun k => (MidVal.ld_rows x5 1 inb_S2x256_S1x256_1_0 (by decide) 0 k).trans (H.h5 1 k)
  have ez : ∀ k : Fin 256, k0_pay8 (F := Ideal) (View.ld x0 r0_0) (View.ld x1 r0_1) (View.ld x2 r0_2) (ix2 p ⟨256 + k.val, by omega⟩) = proj X G W (trow t p) (256 + k.val) :=
    fun k => z_low H p (256 + k.val) (by omega)
  unfold k0_pay63 k0_pay59 k0_pay60 k0_pay61
  rw [pay14_read]
  simp only [e3, e4, ez]
  rfl

theorem w_at0 (p q : Fin 128) : View.ld x6 r0_6 (ix3 0 p q) = S (ix3 0 p q) := by
  refine Eq.trans ?_ (H.h6 0 p q)
  refine View.ld_unit_apply_of x6 _ _ _ _ _ fun a => ?_
  fin_cases a
  · rfl
  · show p.val = 0 + p.val; omega
  · show q.val = 0 + q.val; omega

theorem w_at1 (p q : Fin 128) : View.ld x6 r0_7 (ix3 0 p q) = S (ix3 1 p q) := by
  refine Eq.trans ?_ (H.h6 1 p q)
  refine View.ld_unit_apply_of x6 _ _ _ _ _ fun a => ?_
  fin_cases a
  · rfl
  · show p.val = 0 + p.val; omega
  · show q.val = 0 + q.val; omega

theorem w_at2 (p q : Fin 128) : View.ld x6 r0_8 (ix3 0 p q) = S (ix3 2 p q) := by
  refine Eq.trans ?_ (H.h6 2 p q)
  refine View.ld_unit_apply_of x6 _ _ _ _ _ fun a => ?_
  fin_cases a
  · rfl
  · show p.val = 0 + p.val; omega
  · show q.val = 0 + q.val; omega

theorem w_at3 (p q : Fin 128) : View.ld x6 r0_9 (ix3 0 p q) = S (ix3 3 p q) := by
  refine Eq.trans ?_ (H.h6 3 p q)
  refine View.ld_unit_apply_of x6 _ _ _ _ _ fun a => ?_
  fin_cases a
  · rfl
  · show p.val = 0 + p.val; omega
  · show q.val = 0 + q.val; omega

theorem tri_at0 (p q : Fin 128) : k0_pay17 (F := Ideal) (k0_pay62 x0 x1 x2 x3 x4 x5 x6 x7) (View.ld x6 r0_6) (ix2 p q) = tri S 0 p q := by
  unfold k0_pay62
  rw [pay17_read, w_at0 H]
  rfl

theorem tri_at1 (p q : Fin 128) : k0_pay65 (F := Ideal) x0 x1 x2 x3 x4 x5 x6 x7 (ix2 p q) = tri S 1 p q := by
  unfold k0_pay65 k0_pay62
  rw [pay18_read, w_at1 H]
  rfl

theorem tri_at2 (p q : Fin 128) : k0_pay66 (F := Ideal) x0 x1 x2 x3 x4 x5 x6 x7 (ix2 p q) = tri S 2 p q := by
  unfold k0_pay66 k0_pay62
  rw [pay19_read, w_at2 H]
  rfl

theorem tri_at3 (p q : Fin 128) : k0_pay67 (F := Ideal) x0 x1 x2 x3 x4 x5 x6 x7 (ix2 p q) = tri S 3 p q := by
  unfold k0_pay67 k0_pay62
  rw [pay20_read, w_at3 H]
  rfl

/-- The chunk-mixed values of a tile's row. -/
theorem out8_read (p : Fin 256) (l : Fin 256) : out0_8 (F := Ideal) x0 x1 x2 x3 x4 x5 x6 x7 (ix2 p l) = ogm X G W L S B (trow t p) l := by
  unfold out0_8
  refine View.canon_eq_of_allAt _ _ _ (cover0_8 _ _ _) ?_
  refine View.allAt_cons_unit _ _ _ _ _ (fun x hx => ?_) ?_
  · have h0 : p.val = 128 + (x 0).val := hx 0
    have h1 : l.val = 0 + (x 1).val := hx 1
    obtain ⟨a, j, rfl⟩ : ∃ (a : Fin 128) (j : Fin 256), x = ix2 a j := ⟨x 0, x 1, by funext k; fin_cases k <;> rfl⟩
    change p.val = 128 + a.val at h0
    change l.val = 0 + j.val at h1
    refine (mix_hi (k0_pay58 x0 x1 x2 x3 x4 x5 x6 x7) (k0_pay63 x0 x1 x2 x3 x4 x5 x6 x7) (k0_pay17 (k0_pay62 x0 x1 x2 x3 x4 x5 x6 x7) (View.ld x6 r0_6)) (k0_pay65 x0 x1 x2 x3 x4 x5 x6 x7) (k0_pay66 x0 x1 x2 x3 x4 x5 x6 x7) (k0_pay67 x0 x1 x2 x3 x4 x5 x6 x7) (View.ld x7 r0_10)
      (fun h q => tri S h a q) a (tri_at1 H a) (tri_at2 H a) (tri_at3 H a) (tri_at0 H a) j).trans ?_
    obtain rfl : l = j := Fin.ext (by omega)
    have e7 : View.ld x7 r0_10 = x7 := View.ld_unit_zero (by funext a; fin_cases a <;> rfl) ..
    rw [e7, H.h7, u_at H]
    simp only [v_at H]
    have hp : (⟨128 + a.val, by omega⟩ : Fin 256) = p := Fin.ext (by show 128 + a.val = p.val; omega)
    have hq : (⟨(trow t p).val % 128, Nat.mod_lt _ (by decide)⟩ : Fin 128) = a := Fin.ext (by show (256 * t.val + p.val) % 128 = a.val; omega)
    have hv : ∀ q : Fin 128, (⟨(trow t p).val / 128 * 128 + q.val, by have := (trow t p).isLt; omega⟩ : Fin 32768) = trow t ⟨128 + q.val, by omega⟩ :=
      fun q => Fin.ext (by show (256 * t.val + p.val) / 128 * 128 + q.val = 256 * t.val + (128 + q.val); omega)
    unfold ogm
    rw [hp, hq]
    simp only [hv]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 128) (j : Fin 256), x = ix2 a j := ⟨x 0, x 1, by funext k; fin_cases k <;> rfl⟩
    change p.val = 0 + a.val at h0
    change l.val = 0 + j.val at h1
    refine (mix_lo (k0_pay58 x0 x1 x2 x3 x4 x5 x6 x7) (k0_pay63 x0 x1 x2 x3 x4 x5 x6 x7) (View.ld x6 r0_6) (k0_pay65 x0 x1 x2 x3 x4 x5 x6 x7) (k0_pay66 x0 x1 x2 x3 x4 x5 x6 x7) (k0_pay67 x0 x1 x2 x3 x4 x5 x6 x7) (View.ld x7 r0_10)
      (fun h q => tri S h a q) a (tri_at1 H a) (tri_at2 H a) (tri_at3 H a) (tri_at0 H a) j).trans ?_
    obtain rfl : l = j := Fin.ext (by omega)
    have e7 : View.ld x7 r0_10 = x7 := View.ld_unit_zero (by funext a; fin_cases a <;> rfl) ..
    rw [e7, H.h7, u_at H]
    simp only [v_at H]
    have hp : (⟨a.val, by omega⟩ : Fin 256) = p := Fin.ext (by show a.val = p.val; omega)
    have hq : (⟨(trow t p).val % 128, Nat.mod_lt _ (by decide)⟩ : Fin 128) = a := Fin.ext (by show (256 * t.val + p.val) % 128 = a.val; omega)
    have hv : ∀ q : Fin 128, (⟨(trow t p).val / 128 * 128 + q.val, by have := (trow t p).isLt; omega⟩ : Fin 32768) = trow t ⟨q.val, by omega⟩ :=
      fun q => Fin.ext (by show (256 * t.val + p.val) / 128 * 128 + q.val = 256 * t.val + (q.val); omega)
    unfold ogm
    rw [hp, hq]
    simp only [hv]
  exact View.allAt_nil _ _

/-- The values mixed over a chunk of a tile's row. -/
theorem out9_read (p : Fin 256) (l : Fin 256) : out0_9 (F := Ideal) x0 x1 x2 x3 x4 x5 x6 x7 (ix2 p l) = vgm X G W L (trow t p) l := by
  unfold out0_9
  refine View.canon_eq_of_allAt _ _ _ (cover0_9 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 256), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    exact v_at H p l
  exact View.allAt_nil _ _

/-- The padded queries of a tile's row. -/
theorem out10_read (p : Fin 256) (l : Fin 1024) : out0_10 (F := Ideal) x0 x1 x2 x3 x4 x5 x6 x7 (ix2 p l) = qpad X G W (trow t p) l := by
  unfold out0_10
  refine View.canon_eq_of_allAt _ _ _ (cover0_10 _ _ _ _ _ _ _ _ _) ?_
  refine View.allAt_cons_unit _ _ _ _ _ (fun x hx => ?_) ?_
  · have h0 : p.val = 0 + (x 0).val := hx 0
    have h1 : l.val = 896 + (x 1).val := hx 1
    obtain ⟨a, j, rfl⟩ : ∃ (a : Fin 256) (j : Fin 128), x = ix2 a j := ⟨x 0, x 1, by funext k; fin_cases k <;> rfl⟩
    change p.val = 0 + a.val at h0
    change l.val = 896 + j.val at h1
    obtain rfl : p = a := Fin.ext (by omega)
    refine (pay51_read _ _ _ (proj X G W (trow t p)) ((trow t p).val % 8192) p (z_low H p) (cos_at H p) (sin_at H p) j).trans ?_
    unfold qpad query
    rw [h1, if_neg (show ¬ 896 + j.val < 512 by omega), show (896 + j.val) % 128 = j.val by omega, show (896 + j.val) / 128 = 7 by omega]
  refine View.allAt_cons_unit _ _ _ _ _ (fun x hx => ?_) ?_
  · have h0 : p.val = 0 + (x 0).val := hx 0
    have h1 : l.val = 768 + (x 1).val := hx 1
    obtain ⟨a, j, rfl⟩ : ∃ (a : Fin 256) (j : Fin 128), x = ix2 a j := ⟨x 0, x 1, by funext k; fin_cases k <;> rfl⟩
    change p.val = 0 + a.val at h0
    change l.val = 768 + j.val at h1
    obtain rfl : p = a := Fin.ext (by omega)
    refine (pay50_read _ _ _ (proj X G W (trow t p)) ((trow t p).val % 8192) p (z_low H p) (cos_at H p) (sin_at H p) j).trans ?_
    unfold qpad query
    rw [h1, if_neg (show ¬ 768 + j.val < 512 by omega), show (768 + j.val) % 128 = j.val by omega, show (768 + j.val) / 128 = 6 by omega]
  refine View.allAt_cons_unit _ _ _ _ _ (fun x hx => ?_) ?_
  · have h0 : p.val = 0 + (x 0).val := hx 0
    have h1 : l.val = 640 + (x 1).val := hx 1
    obtain ⟨a, j, rfl⟩ : ∃ (a : Fin 256) (j : Fin 128), x = ix2 a j := ⟨x 0, x 1, by funext k; fin_cases k <;> rfl⟩
    change p.val = 0 + a.val at h0
    change l.val = 640 + j.val at h1
    obtain rfl : p = a := Fin.ext (by omega)
    refine (pay45_read _ _ _ (proj X G W (trow t p)) ((trow t p).val % 8192) p (z_low H p) (cos_at H p) (sin_at H p) j).trans ?_
    unfold qpad query
    rw [h1, if_neg (show ¬ 640 + j.val < 512 by omega), show (640 + j.val) % 128 = j.val by omega, show (640 + j.val) / 128 = 5 by omega]
  refine View.allAt_cons_unit _ _ _ _ _ (fun x hx => ?_) ?_
  · have h0 : p.val = 0 + (x 0).val := hx 0
    have h1 : l.val = 512 + (x 1).val := hx 1
    obtain ⟨a, j, rfl⟩ : ∃ (a : Fin 256) (j : Fin 128), x = ix2 a j := ⟨x 0, x 1, by funext k; fin_cases k <;> rfl⟩
    change p.val = 0 + a.val at h0
    change l.val = 512 + j.val at h1
    obtain rfl : p = a := Fin.ext (by omega)
    refine (pay44_read _ _ _ (proj X G W (trow t p)) ((trow t p).val % 8192) p (z_low H p) (cos_at H p) (sin_at H p) j).trans ?_
    unfold qpad query
    rw [h1, if_neg (show ¬ 512 + j.val < 512 by omega), show (512 + j.val) % 128 = j.val by omega, show (512 + j.val) / 128 = 4 by omega]
  refine View.allAt_cons_unit _ _ _ _ _ (fun x hx => ?_) ?_
  · have h0 : p.val = 0 + (x 0).val := hx 0
    have h1 : l.val = 384 + (x 1).val := hx 1
    obtain ⟨a, j, rfl⟩ : ∃ (a : Fin 256) (j : Fin 128), x = ix2 a j := ⟨x 0, x 1, by funext k; fin_cases k <;> rfl⟩
    change p.val = 0 + a.val at h0
    change l.val = 384 + j.val at h1
    obtain rfl : p = a := Fin.ext (by omega)
    refine (pay42_read _ _ _ (proj X G W (trow t p)) ((trow t p).val % 8192) p (z_low H p) (cos_at H p) (sin_at H p) j).trans ?_
    unfold qpad query
    rw [h1, if_pos (show 384 + j.val < 512 by omega), show (384 + j.val) % 128 = j.val by omega, show (384 + j.val) / 128 = 3 by omega]
  refine View.allAt_cons_unit _ _ _ _ _ (fun x hx => ?_) ?_
  · have h0 : p.val = 0 + (x 0).val := hx 0
    have h1 : l.val = 256 + (x 1).val := hx 1
    obtain ⟨a, j, rfl⟩ : ∃ (a : Fin 256) (j : Fin 128), x = ix2 a j := ⟨x 0, x 1, by funext k; fin_cases k <;> rfl⟩
    change p.val = 0 + a.val at h0
    change l.val = 256 + j.val at h1
    obtain rfl : p = a := Fin.ext (by omega)
    refine (pay41_read _ _ _ (proj X G W (trow t p)) ((trow t p).val % 8192) p (z_low H p) (cos_at H p) (sin_at H p) j).trans ?_
    unfold qpad query
    rw [h1, if_pos (show 256 + j.val < 512 by omega), show (256 + j.val) % 128 = j.val by omega, show (256 + j.val) / 128 = 2 by omega]
  refine View.allAt_cons_unit _ _ _ _ _ (fun x hx => ?_) ?_
  · have h0 : p.val = 0 + (x 0).val := hx 0
    have h1 : l.val = 128 + (x 1).val := hx 1
    obtain ⟨a, j, rfl⟩ : ∃ (a : Fin 256) (j : Fin 128), x = ix2 a j := ⟨x 0, x 1, by funext k; fin_cases k <;> rfl⟩
    change p.val = 0 + a.val at h0
    change l.val = 128 + j.val at h1
    obtain rfl : p = a := Fin.ext (by omega)
    refine (pay36_read _ _ _ (proj X G W (trow t p)) ((trow t p).val % 8192) p (z_low H p) (cos_at H p) (sin_at H p) j).trans ?_
    unfold qpad query
    rw [h1, if_pos (show 128 + j.val < 512 by omega), show (128 + j.val) % 128 = j.val by omega, show (128 + j.val) / 128 = 1 by omega]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 128), x = ix2 a j := ⟨x 0, x 1, by funext k; fin_cases k <;> rfl⟩
    change p.val = 0 + a.val at h0
    change l.val = 0 + j.val at h1
    obtain rfl : p = a := Fin.ext (by omega)
    refine (pay35_read _ _ _ (proj X G W (trow t p)) ((trow t p).val % 8192) p (z_low H p) (cos_at H p) (sin_at H p) j).trans ?_
    unfold qpad query
    rw [h1, if_pos (show 0 + j.val < 512 by omega), show (0 + j.val) % 128 = j.val by omega, show (0 + j.val) / 128 = 0 by omega]
  exact View.allAt_nil _ _

/-- The keys and values of branch 0 of a tile's row. -/
theorem out11_read (p : Fin 256) (l : Fin 256) : out0_11 (F := Ideal) x0 x1 x2 x3 x4 x5 x6 x7 (ix2 p l) = kv X G W 0 (trow t p) l.val := by
  unfold out0_11
  refine View.canon_eq_of_allAt _ _ _ (cover0_11 _ _ _) ?_
  refine View.allAt_cons_unit _ _ _ _ _ (fun x hx => ?_) ?_
  · have h0 : p.val = 0 + (x 0).val := hx 0
    have h1 : l.val = 128 + (x 1).val := hx 1
    obtain ⟨a, j, rfl⟩ : ∃ (a : Fin 256) (j : Fin 128), x = ix2 a j := ⟨x 0, x 1, by funext k; fin_cases k <;> rfl⟩
    change p.val = 0 + a.val at h0
    change l.val = 128 + j.val at h1
    obtain rfl : p = a := Fin.ext (by omega)
    refine (pay53_read _ _ _ (proj X G W (trow t p)) ((trow t p).val % 8192) p (z_low H p) (cos_at H p) (sin_at H p) j).trans ?_
    rw [h1]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 128), x = ix2 a j := ⟨x 0, x 1, by funext k; fin_cases k <;> rfl⟩
    change p.val = 0 + a.val at h0
    change l.val = 0 + j.val at h1
    obtain rfl : p = a := Fin.ext (by omega)
    refine (pay52_read _ _ _ (proj X G W (trow t p)) ((trow t p).val % 8192) p (z_low H p) (cos_at H p) (sin_at H p) j).trans ?_
    rw [h1]
    unfold kv
    rw [if_pos (by omega), show 0 + j.val = j.val by omega]
  exact View.allAt_nil _ _

/-- The keys and values of branch 1 of a tile's row. -/
theorem out12_read (p : Fin 256) (l : Fin 256) : out0_12 (F := Ideal) x0 x1 x2 x3 x4 x5 x6 x7 (ix2 p l) = kv X G W 1 (trow t p) l.val := by
  unfold out0_12
  refine View.canon_eq_of_allAt _ _ _ (cover0_12 _ _ _) ?_
  refine View.allAt_cons_unit _ _ _ _ _ (fun x hx => ?_) ?_
  · have h0 : p.val = 0 + (x 0).val := hx 0
    have h1 : l.val = 128 + (x 1).val := hx 1
    obtain ⟨a, j, rfl⟩ : ∃ (a : Fin 256) (j : Fin 128), x = ix2 a j := ⟨x 0, x 1, by funext k; fin_cases k <;> rfl⟩
    change p.val = 0 + a.val at h0
    change l.val = 128 + j.val at h1
    obtain rfl : p = a := Fin.ext (by omega)
    refine (pay55_read _ _ _ (proj X G W (trow t p)) ((trow t p).val % 8192) p (z_low H p) (cos_at H p) (sin_at H p) j).trans ?_
    rw [h1]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 128), x = ix2 a j := ⟨x 0, x 1, by funext k; fin_cases k <;> rfl⟩
    change p.val = 0 + a.val at h0
    change l.val = 0 + j.val at h1
    obtain rfl : p = a := Fin.ext (by omega)
    refine (pay54_read _ _ _ (proj X G W (trow t p)) ((trow t p).val % 8192) p (z_low H p) (cos_at H p) (sin_at H p) j).trans ?_
    rw [h1]
    unfold kv
    rw [if_pos (by omega), show 0 + j.val = j.val by omega]
  exact View.allAt_nil _ _

/-- The keys and values of branch 2 of a tile's row. -/
theorem out13_read (p : Fin 256) (l : Fin 256) : out0_13 (F := Ideal) x0 x1 x2 x3 x4 x5 x6 x7 (ix2 p l) = kv X G W 2 (trow t p) l.val := by
  unfold out0_13
  refine View.canon_eq_of_allAt _ _ _ (cover0_13 _ _ _) ?_
  refine View.allAt_cons_unit _ _ _ _ _ (fun x hx => ?_) ?_
  · have h0 : p.val = 0 + (x 0).val := hx 0
    have h1 : l.val = 128 + (x 1).val := hx 1
    obtain ⟨a, j, rfl⟩ : ∃ (a : Fin 256) (j : Fin 128), x = ix2 a j := ⟨x 0, x 1, by funext k; fin_cases k <;> rfl⟩
    change p.val = 0 + a.val at h0
    change l.val = 128 + j.val at h1
    obtain rfl : p = a := Fin.ext (by omega)
    refine (pay3_read _ _ _ (proj X G W (trow t p)) ((trow t p).val % 8192) p (z_low H p) (cos_at H p) (sin_at H p) j).trans ?_
    rw [h1]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 128), x = ix2 a j := ⟨x 0, x 1, by funext k; fin_cases k <;> rfl⟩
    change p.val = 0 + a.val at h0
    change l.val = 0 + j.val at h1
    obtain rfl : p = a := Fin.ext (by omega)
    refine (pay2_read _ _ _ (proj X G W (trow t p)) ((trow t p).val % 8192) p (z_low H p) (cos_at H p) (sin_at H p) j).trans ?_
    rw [h1]
    unfold kv
    rw [if_pos (by omega), show 0 + j.val = j.val by omega]
  exact View.allAt_nil _ _

/-- The keys and values of the last two branches of a tile's row. -/
theorem out14_read (p : Fin 256) (l : Fin 512) : out0_14 (F := Ideal) x0 x1 x2 x3 x4 x5 x6 x7 (ix2 p l) = kvb X G W (trow t p) l := by
  unfold out0_14
  refine View.canon_eq_of_allAt _ _ _ (cover0_14 _ _ _ _ _) ?_
  refine View.allAt_cons_unit _ _ _ _ _ (fun x hx => ?_) ?_
  · have h0 : p.val = 0 + (x 0).val := hx 0
    have h1 : l.val = 384 + (x 1).val := hx 1
    obtain ⟨a, j, rfl⟩ : ∃ (a : Fin 256) (j : Fin 128), x = ix2 a j := ⟨x 0, x 1, by funext k; fin_cases k <;> rfl⟩
    change p.val = 0 + a.val at h0
    change l.val = 384 + j.val at h1
    obtain rfl : p = a := Fin.ext (by omega)
    refine (pay5_read _ _ _ (proj X G W (trow t p)) ((trow t p).val % 8192) p (z_low H p) (cos_at H p) (sin_at H p) j).trans ?_
    unfold kvb
    rw [h1, if_neg (by omega)]
    unfold kv
    rw [if_neg (by omega), show 384 + j.val - 256 = 128 + j.val by omega]
  refine View.allAt_cons_unit _ _ _ _ _ (fun x hx => ?_) ?_
  · have h0 : p.val = 0 + (x 0).val := hx 0
    have h1 : l.val = 256 + (x 1).val := hx 1
    obtain ⟨a, j, rfl⟩ : ∃ (a : Fin 256) (j : Fin 128), x = ix2 a j := ⟨x 0, x 1, by funext k; fin_cases k <;> rfl⟩
    change p.val = 0 + a.val at h0
    change l.val = 256 + j.val at h1
    obtain rfl : p = a := Fin.ext (by omega)
    refine (pay4_read _ _ _ (proj X G W (trow t p)) ((trow t p).val % 8192) p (z_low H p) (cos_at H p) (sin_at H p) j).trans ?_
    unfold kvb
    rw [h1, if_neg (by omega)]
    unfold kv
    rw [if_pos (by omega), show 256 + j.val - 256 = j.val by omega]
  refine View.allAt_cons_unit _ _ _ _ _ (fun x hx => ?_) ?_
  · have h0 : p.val = 0 + (x 0).val := hx 0
    have h1 : l.val = 128 + (x 1).val := hx 1
    obtain ⟨a, j, rfl⟩ : ∃ (a : Fin 256) (j : Fin 128), x = ix2 a j := ⟨x 0, x 1, by funext k; fin_cases k <;> rfl⟩
    change p.val = 0 + a.val at h0
    change l.val = 128 + j.val at h1
    obtain rfl : p = a := Fin.ext (by omega)
    refine (pay1_read _ _ _ (proj X G W (trow t p)) ((trow t p).val % 8192) p (z_low H p) (cos_at H p) (sin_at H p) j).trans ?_
    unfold kvb
    rw [h1, if_pos (by omega)]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 128), x = ix2 a j := ⟨x 0, x 1, by funext k; fin_cases k <;> rfl⟩
    change p.val = 0 + a.val at h0
    change l.val = 0 + j.val at h1
    obtain rfl : p = a := Fin.ext (by omega)
    refine (pay56_read _ _ _ (proj X G W (trow t p)) ((trow t p).val % 8192) p (z_low H p) (cos_at H p) (sin_at H p) j).trans ?_
    unfold kvb
    rw [h1, if_pos (by omega)]
    unfold kv
    rw [if_pos (by omega), show 0 + j.val = j.val by omega]
  exact View.allAt_nil _ _

/-- The gates of a tile's row. -/
theorem out15_read (p : Fin 256) (l : Fin 128) : out0_15 (F := Ideal) x0 x1 x2 x3 x4 x5 x6 x7 (ix2 p l) = gates X G W (trow t p) l := by
  unfold out0_15
  refine View.canon_eq_of_allAt _ _ _ (cover0_15 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 128), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    refine (pay7_read _ p l).trans (congrArg Ideal.logistic ((z_at H p ⟨2816 + l.val, by omega⟩).trans ?_))
    show proj X G W _ (col (2816 + l.val)) = _
    unfold col
    rw [if_neg (by omega), if_neg (by omega)]
    by_cases h : l.val < 24
    · rw [if_pos (by omega), if_pos h]
      exact congrArg (proj X G W _) (by omega)
    · rw [if_neg (by omega), if_neg h]
      unfold proj
      rw [dif_neg (by omega)]
  exact View.allAt_nil _ _

/-- What the recurrence takes of a tile's row. -/
theorem out16_read (p : Fin 256) (l : Fin 1024) : out0_16 (F := Ideal) x0 x1 x2 x3 x4 x5 x6 x7 (ix2 p l) = zrw X G W (trow t p) l := by
  unfold out0_16
  refine View.canon_eq_of_allAt _ _ _ (cover0_16 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 256) (j : Fin 1024), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    refine (pay6_read _ p l).trans ((z_at H p ⟨1792 + l.val, by omega⟩).trans ?_)
    show proj X G W _ (col (1792 + l.val)) = _
    unfold col zrw
    rw [if_neg (by omega), if_pos (by omega)]
    exact congrArg (proj X G W _) (by omega)
  exact View.allAt_nil _ _

end Tile

end Cert.ProjVal

end
-- ==== Proof.ProjRef.lean ====
/- The reference of the input projection reads, index by index, as the functions of `ProjSpec`. -/
module

public import proofs.«01_k».proof.Proof.ProjSpec
public import proofs.«01_k».proof.Proof.MidPay
public import proofs.«01_k».proof.Proof.Gen.Reference4Ideal.Read

@[expose] public section

set_option maxRecDepth 16384

noncomputable section

namespace Cert.ProjVal

open Cert.Reference4Ideal Cert.Reference4Ideal.Read Cert.FfnVal Idealize.ShloMosaic

variable (X : XArr) (G : GArr) (W : WArr) (L : LArr) (S : SArr) (B : BArr)

theorem ref_row (r : Fin 32768) : row ⟨r.val / 8192, by omega⟩ ⟨r.val % 8192, Nat.mod_lt _ (by decide)⟩ = r :=
  Fin.ext (by show r.val / 8192 * 8192 + r.val % 8192 = r.val; omega)

theorem ref_proj (r : Fin 32768) (j : Fin 2840) : val_main_v13 (F := Ideal) X G W (ix2 r j) = proj X G W r j.val := by
  unfold proj
  rw [dif_pos j.isLt]
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, dot_S32768x1024_S1024x2840_S32768x2840_1_0_0_1_n_n]
  rfl

theorem ref_gelu (r : Fin 32768) (j : Fin 512) : val_main_v27 (F := Ideal) X G W (ix2 r j) = gelu (proj X G W r j.val) := by
  pointwise [val_main_v27, val_main_v26, val_main_v25, val_main_v24, val_main_v23, val_main_v22, val_main_v21, val_main_v20, val_main_v19, val_main_v18, val_main_v17, val_main_v16, val_main_v15, val_main_v14, val_main_cst_2, val_main_cst_3, val_main_cst_4, val_main_cst_5]
  simp only [ref_proj]
  rfl

theorem ref_vgm (r : Fin 32768) (j : Fin 256) : val_main_v59 (F := Ideal) X G W L (ix2 r j) = vgm X G W L r j := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_6, val_main_cst_7, val_main_cst_8, val_main_cst_9, val_main_cst_10]
  simp only [ref_gelu]
  rfl

theorem sge_bit (a b : Fin 128) : IntOp.cmpi .sge (IntOp.addi (BitVec.ofNat 32 a.val) 0#32) (BitVec.ofNat 32 b.val) = MidVal.bit (b.val ≤ a.val) := by
  revert a b; decide +kernel

theorem ref_tri (h : Fin 4) (p q : Fin 128)  : val_main_v64 (F := Ideal) S (ix3 h p q) = tri S h p q := by
  pointwise [val_main_v64, val_main_v63, val_main_v62, val_main_v61, val_main_v60, val_main_call0_v0,val_main_call0_c,val_main_call0_v1,val_main_call0_v2,val_main_call0_v3,val_main_call0_v4,val_main_call0_cst,val_main_call0_v5, val_main_cst_11]
  rw [sge_bit, MidVal.select_bit]
  rfl

theorem ref_ogm (r : Fin 32768) (j : Fin 256)  : val_main_v73 (F := Ideal) X G W L S B (ix2 r j) = ogm X G W L S B r j := by
  pointwise [val_main_v73, val_main_v72, val_main_v71, val_main_v70, val_main_v69, val_main_v68, val_main_v67, val_main_v66, val_main_v65, dot_S256x128x4x64_S4x128x128_S4x256x64x128_1_2_03_1_2_0]
  unfold ogm
  simp only [ref_vgm, ref_tri, ref_gelu, val_main_v28]
  refine congrArg₂ (· * ·) ?_ (congrArg (· + _) (Finset.sum_congr rfl fun q _ => mul_comm _ _))
  pointwise []
  exact ref_gelu X G W r ⟨j.val, by omega⟩

theorem ref_cos (s : Fin 8192) (j : Fin 32)  : val_main_v89 (F := Ideal)  (ix2 s j) = Ideal.cos (ang s.val j.val) := by
  pointwise [val_main_v89, val_main_v88, val_main_v87, val_main_v86, val_main_v85, val_main_v84, val_main_v83, val_main_v82, val_main_v81, val_main_v80, val_main_v79, val_main_v78, val_main_v77, val_main_v76,val_main_cst_12,val_main_cst_13]
  try rfl

theorem ref_sin (s : Fin 8192) (j : Fin 32)  : val_main_v91 (F := Ideal)  (ix2 s j) = Ideal.sin (ang s.val j.val) := by
  pointwise [val_main_v91, val_main_v88, val_main_v87, val_main_v86, val_main_v85, val_main_v84, val_main_v83, val_main_v82, val_main_v81, val_main_v80, val_main_v79, val_main_v78, val_main_v77, val_main_v76,val_main_cst_12,val_main_cst_13]
  try rfl

theorem ref_qrope (b : Fin 4) (s : Fin 8192) (h : Fin 8) (d : Fin 64)  : val_main_v109 (F := Ideal) X G W (ix4 b s h d) =
    rope (fun e => proj X G W (row b s) (512 + 64 * h.val + e)) s.val d.val := by
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v90, val_main_v75, val_main_v74]
  simp only [ref_proj, ref_cos, ref_sin]
  unfold rope
  by_cases h' : d.val < 32
  · rw [dif_pos h', if_pos h']
    exact congrArg₂ (· - ·) (congrArg (· * _) (congrArg (proj X G W _) (by omega))) (congrArg (· * _) (congrArg (proj X G W _) (by omega)))
  · rw [dif_neg h', if_neg h']
    exact congrArg₂ (· + ·) (congrArg (· * _) (congrArg (proj X G W _) (by omega))) (congrArg (· * _) (congrArg (proj X G W _) (by omega)))

theorem ref_qpad (r : Fin 32768) (c : Fin 1024)  : val_main_v119 (F := Ideal) X G W (ix2 r c) = qpad X G W r c := by
  pointwise [val_main_v119, val_main_v118, val_main_v117, val_main_v116, val_main_v115, val_main_v114, val_main_v113, val_main_v112, val_main_v111, val_main_v110, val_main_cst_14, val_main_cst_15]
  simp only [ref_qrope]
  unfold qpad query
  simp only [ref_row]
  by_cases h : c.val / 128 < 4
  · rw [dif_pos h, if_pos (by omega : c.val < 512)]
    rfl
  · rw [dif_neg h, if_neg (by omega : ¬ c.val < 512), show 4 + (c.val / 128 - 4) = c.val / 128 by omega]
    rfl

theorem ref_cos0 (s : Fin 8192) (j : Fin 32)  : val_main_v136 (F := Ideal)  (ix2 s j) = Ideal.cos (ang s.val j.val) := by
  pointwise [val_main_v136, val_main_v135, val_main_v134, val_main_v133, val_main_v132, val_main_v131, val_main_v130, val_main_v129, val_main_v128, val_main_v127, val_main_v126, val_main_v125, val_main_v124, val_main_v123,val_main_cst_16,val_main_cst_17]
  try rfl

theorem ref_sin0 (s : Fin 8192) (j : Fin 32)  : val_main_v138 (F := Ideal)  (ix2 s j) = Ideal.sin (ang s.val j.val) := by
  pointwise [val_main_v138, val_main_v135, val_main_v134, val_main_v133, val_main_v132, val_main_v131, val_main_v130, val_main_v129, val_main_v128, val_main_v127, val_main_v126, val_main_v125, val_main_v124, val_main_v123,val_main_cst_16,val_main_cst_17]
  try rfl

theorem ref_kv0 (r : Fin 32768) (c : Fin 256)  : val_main_v159 (F := Ideal) X G W (ix2 r c) = kv X G W 0 r c.val := by
  pointwise [val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v137, val_main_v139, val_main_v122, val_main_v121, val_main_v120]
  simp only [ref_proj]
  unfold kv rope
  simp only [ref_cos0, ref_sin0]
  by_cases h : c.val < 128
  · rw [dif_pos h, if_pos h]
    by_cases h' : c.val % 64 < 32
    · rw [dif_pos h', if_pos h']
      exact congrArg₂ (· - ·) (congrArg (· * _) (congrArg (proj X G W _) (by omega))) (congrArg (· * _) (congrArg (proj X G W _) (by omega)))
    · rw [dif_neg h', if_neg h']
      exact congrArg₂ (· + ·) (congrArg (· * _) (congrArg (proj X G W _) (by omega))) (congrArg (· * _) (congrArg (proj X G W _) (by omega)))
  · rw [dif_neg h, if_neg h]
    exact congrArg (proj X G W r) (by omega)

theorem ref_cos1 (s : Fin 8192) (j : Fin 32)  : val_main_v176 (F := Ideal)  (ix2 s j) = Ideal.cos (ang s.val j.val) := by
  pointwise [val_main_v176, val_main_v175, val_main_v174, val_main_v173, val_main_v172, val_main_v171, val_main_v170, val_main_v169, val_main_v168, val_main_v167, val_main_v166, val_main_v165, val_main_v164, val_main_v163,val_main_cst_18,val_main_cst_19]
  try rfl

theorem ref_sin1 (s : Fin 8192) (j : Fin 32)  : val_main_v178 (F := Ideal)  (ix2 s j) = Ideal.sin (ang s.val j.val) := by
  pointwise [val_main_v178, val_main_v175, val_main_v174, val_main_v173, val_main_v172, val_main_v171, val_main_v170, val_main_v169, val_main_v168, val_main_v167, val_main_v166, val_main_v165, val_main_v164, val_main_v163,val_main_cst_18,val_main_cst_19]
  try rfl

theorem ref_kv1 (r : Fin 32768) (c : Fin 256)  : val_main_v199 (F := Ideal) X G W (ix2 r c) = kv X G W 1 r c.val := by
  pointwise [val_main_v199, val_main_v198, val_main_v197, val_main_v196, val_main_v195, val_main_v194, val_main_v193, val_main_v192, val_main_v191, val_main_v190, val_main_v189, val_main_v188, val_main_v187, val_main_v186, val_main_v185, val_main_v184, val_main_v183, val_main_v182, val_main_v181, val_main_v180, val_main_v177, val_main_v179, val_main_v162, val_main_v161, val_main_v160]
  simp only [ref_proj]
  unfold kv rope
  simp only [ref_cos1, ref_sin1]
  by_cases h : c.val < 128
  · rw [dif_pos h, if_pos h]
    by_cases h' : c.val % 64 < 32
    · rw [dif_pos h', if_pos h']
      exact congrArg₂ (· - ·) (congrArg (· * _) (congrArg (proj X G W _) (by omega))) (congrArg (· * _) (congrArg (proj X G W _) (by omega)))
    · rw [dif_neg h', if_neg h']
      exact congrArg₂ (· + ·) (congrArg (· * _) (congrArg (proj X G W _) (by omega))) (congrArg (· * _) (congrArg (proj X G W _) (by omega)))
  · rw [dif_neg h, if_neg h]
    exact congrArg (proj X G W r) (by omega)

theorem ref_cos2 (s : Fin 8192) (j : Fin 32)  : val_main_v216 (F := Ideal)  (ix2 s j) = Ideal.cos (ang s.val j.val) := by
  pointwise [val_main_v216, val_main_v215, val_main_v214, val_main_v213, val_main_v212, val_main_v211, val_main_v210, val_main_v209, val_main_v208, val_main_v207, val_main_v206, val_main_v205, val_main_v204, val_main_v203,val_main_cst_20,val_main_cst_21]
  try rfl

theorem ref_sin2 (s : Fin 8192) (j : Fin 32)  : val_main_v218 (F := Ideal)  (ix2 s j) = Ideal.sin (ang s.val j.val) := by
  pointwise [val_main_v218, val_main_v215, val_main_v214, val_main_v213, val_main_v212, val_main_v211, val_main_v210, val_main_v209, val_main_v208, val_main_v207, val_main_v206, val_main_v205, val_main_v204, val_main_v203,val_main_cst_20,val_main_cst_21]
  try rfl

theorem ref_kv2 (r : Fin 32768) (c : Fin 256)  : val_main_v239 (F := Ideal) X G W (ix2 r c) = kv X G W 2 r c.val := by
  pointwise [val_main_v239, val_main_v238, val_main_v237, val_main_v236, val_main_v235, val_main_v234, val_main_v233, val_main_v232, val_main_v231, val_main_v230, val_main_v229, val_main_v228, val_main_v227, val_main_v226, val_main_v225, val_main_v224, val_main_v223, val_main_v222, val_main_v221, val_main_v220, val_main_v217, val_main_v219, val_main_v202, val_main_v201, val_main_v200]
  simp only [ref_proj]
  unfold kv rope
  simp only [ref_cos2, ref_sin2]
  by_cases h : c.val < 128
  · rw [dif_pos h, if_pos h]
    by_cases h' : c.val % 64 < 32
    · rw [dif_pos h', if_pos h']
      exact congrArg₂ (· - ·) (congrArg (· * _) (congrArg (proj X G W _) (by omega))) (congrArg (· * _) (congrArg (proj X G W _) (by omega)))
    · rw [dif_neg h', if_neg h']
      exact congrArg₂ (· + ·) (congrArg (· * _) (congrArg (proj X G W _) (by omega))) (congrArg (· * _) (congrArg (proj X G W _) (by omega)))
  · rw [dif_neg h, if_neg h]
    exact congrArg (proj X G W r) (by omega)

theorem ref_kvb (r : Fin 32768) (c : Fin 512)  : val_main_v255 (F := Ideal) X G W (ix2 r c) = kvb X G W r c := by
  pointwise [val_main_v255, val_main_v254]
  simp only [ref_kv1, ref_kv2]
  rfl

theorem ref_gates (r : Fin 32768) (c : Fin 128)  : val_main_v251 (F := Ideal) X G W (ix2 r c) = gates X G W r c := by
  pointwise [val_main_v251, val_main_v250, val_main_v249, val_main_v248, val_main_v247, val_main_v246, val_main_v245, val_main_v244, val_main_v243, val_main_v242, val_main_v241, val_main_v240, val_main_cst_22, val_main_cst_23, val_main_cst_24]
  simp only [ref_proj]
  show Ideal.logistic _ = Ideal.logistic _
  refine congrArg Ideal.logistic ?_
  by_cases h : c.val < 24
  · rw [dif_pos h, if_pos h]
    exact congrArg (proj X G W r) (by omega)
  · rw [dif_neg h, if_neg h]

theorem ref_zrw (r : Fin 32768) (c : Fin 1024)  : val_main_v256 (F := Ideal) X G W (ix2 r c) = zrw X G W r c := by
  pointwise [val_main_v256]
  simp only [ref_proj]
  rfl

/-- A function of two indices as an array. -/
abbrev arr2 {n k : ℕ} (f : Fin n → Fin k → EReal) : (⟨2, ![n, k]⟩ : Shape).Idx → EReal := fun y => f (y 0) (y 1)

theorem arr_eq {n k : ℕ} (g : (⟨2, ![n, k]⟩ : Shape).Idx → EReal) (f : Fin n → Fin k → EReal) (h : ∀ p c, g (ix2 p c) = f p c) : g = arr2 f := by
  funext y
  refine (congrArg g (?_ : y = ix2 (y 0) (y 1))).trans (h (y 0) (y 1))
  funext a; fin_cases a <;> rfl

end Cert.ProjVal

end
-- ==== Proof.ProjValue.lean ====
/- The arrays that the kernel of the input projection leaves. -/
module

public import proofs.«01_k».proof.Proof.ProjTile
public import proofs.«01_k».proof.Proof.ProjRef
public import proofs.«01_k».proof.Proof.Gen.Kernel4Ideal.Value
public import Idealize.ShloMosaic.Lib.Pipeline.ValueKit.Geometry

@[expose] public section

set_option maxRecDepth 16384

noncomputable section

namespace Cert.ProjVal

open Cert.Kernel4Ideal Cert.Kernel4Ideal.Gen Idealize.ShloMosaic Idealize.ShloMosaic.TcCoe Idealize.SL.Sem Idealize.ShloMosaic

open Idealize.ShloMosaic.Pipeline (Dat)

variable (m : (ℓ : Loc nD τ sig) → Buf (Elt Ideal) ℓ) (ρ : Dev nD → PrngReg)

/-- Device `c`'s rows. -/
abbrev aX (c : Dev nD) : XArr := m ((c : Thread nD τ).loc main_arg0)
/-- Device `c`'s scale of the norm. -/
abbrev aG (c : Dev nD) : GArr := m ((c : Thread nD τ).loc main_arg1)
/-- Device `c`'s weights of the projection. -/
abbrev aW (c : Dev nD) : WArr := m ((c : Thread nD τ).loc main_arg2)
/-- Device `c`'s scale and shift of the mixed values. -/
abbrev aL (c : Dev nD) : LArr := m ((c : Thread nD τ).loc main_arg3)
/-- Device `c`'s mixing weights. -/
abbrev aS (c : Dev nD) : SArr := m ((c : Thread nD τ).loc main_arg4)
/-- Device `c`'s bias of the mixed tokens. -/
abbrev aB (c : Dev nD) : BArr := m ((c : Thread nD τ).loc main_arg5)

theorem V_cos (c : Dev nD) (s : Fin 8192) (a : Fin 128) : (V m c main_v17 : S8192x128.Idx → EReal) (ix2 s a) = Ideal.cos (ang s.val (a.val % 32)) := by
  show (StableHlo.after (hostOps0 (F := Ideal)) _ (Proc.devRef .tc main_v17)) (ix2 s a) = _
  after_results
  pointwise []
  try rfl

theorem V_sin (c : Dev nD) (s : Fin 8192) (a : Fin 128) : (V m c main_v22 : S8192x128.Idx → EReal) (ix2 s a) =
    if a.val % 64 < 32 then -Ideal.sin (ang s.val (a.val % 64)) else Ideal.sin (ang s.val (a.val % 64 - 32)) := by
  show (StableHlo.after (hostOps0 (F := Ideal)) _ (Proc.devRef .tc main_v22)) (ix2 s a) = _
  after_results
  pointwise []
  try rfl

theorem V_w (c : Dev nD) (k : Fin 1024) (j : Fin 2944) : (V m c main_v31 : S1024x2944.Idx → EReal) (ix2 k j) = colw (aW m c) k (col j.val) := by
  have e : (V m c main_v31 : S1024x2944.Idx → EReal) = (truncf .bf16 (concatenate S1024x2944 1
      [⟨S1024x1792, extractStridedSlice S1024x1792 ![0, 0] (aW m c : Vec Ideal S1024x2840 .f32) slices_S1024x2840_S1024x1792_0_0⟩,
       ⟨S1024x1024, extractStridedSlice S1024x1024 ![0, 1816] (aW m c : Vec Ideal S1024x2840 .f32) slices_S1024x2840_S1024x1024_0_1816⟩,
       ⟨S1024x128, pad S1024x128 ![0, 0] ![0, 104] ![0, 0]
          (shapeCast S1024x24 (transpose S1024x3x8 [0, 2, 1] (shapeCast S1024x8x3 (extractStridedSlice S1024x24 ![0, 1792] (aW m c : Vec Ideal S1024x2840 .f32) slices_S1024x2840_S1024x24_0_1792)
            shapeCasts_S1024x24_S1024x8x3) transposes_S1024x8x3_S1024x3x8_0_2_1) shapeCasts_S1024x3x8_S1024x24)
          (sitofp .f32 (constantI S_ 32 0#32)) pads_S1024x24_S1024x128_000_01040 h_S_⟩]
      concatenates_S1024x1792_S1024x1024_S1024x128_S1024x2944_d1 : FVec Ideal S1024x2944 .f32) bitsLt_bf16_f32 : FVec Ideal S1024x2944 .bf16) := by
    show (StableHlo.after (List.flatten [hostOps0 (F := Ideal), hostOps0_1 (F := Ideal), hostOps0_2 (F := Ideal)]) _ (Proc.devRef .tc main_v31)) = _
    simp only [List.flatten_cons, List.flatten_nil, List.append_nil, List.cons_append, List.nil_append, hostOps0, hostOps0_1, hostOps0_2, StableHlo.TRef.binary, StableHlo.TRef.nullary, StableHlo.TRef.unary, StableHlo.TRef.toBuf, StableHlo.TRef.ofBuf, cast_eq]
    after_results_simp <;> rfl
  rw [e]
  pointwise []
  have one : ∀ (a b : ℕ) (ha : a < 2840), a = b → aW m c (ix2 k ⟨a, ha⟩) = colw (aW m c) k b := by
    rintro a b ha rfl
    unfold colw
    rw [dif_pos ha]
  have hj := j.isLt
  by_cases h1 : j.val < 1792
  · rw [dif_pos h1]
    exact one _ _ _ (by unfold col; rw [if_pos h1])
  rw [dif_neg h1]
  by_cases h2 : j.val - 1792 < 1024
  · rw [dif_pos h2]
    have h2' : j.val < 2816 := by omega
    exact one _ _ _ (by unfold col; rw [if_neg h1, if_pos h2']; omega)
  rw [dif_neg h2]
  have h2' : ¬ j.val < 2816 := by omega
  by_cases h3 : j.val - 1792 - 1024 < 24
  · rw [dif_pos h3]
    have h3' : j.val < 2840 := by omega
    exact one _ _ _ (by
      unfold col
      rw [if_neg h1, if_neg h2', if_pos h3', show j.val - 1792 - 1024 = j.val - 2816 from by omega]
      omega)
  rw [dif_neg h3]
  have h3' : ¬ j.val < 2840 := by omega
  unfold col colw
  rw [if_neg h1, if_neg h2', if_neg h3', dif_neg (by omega)]
  show (((0#32 : BitVec 32).toInt : ℝ) : EReal) = 0
  simp

theorem V_b (c : Dev nD) (q : Fin 128) (a : Fin 256) : (V m c main_v34 : S128x256.Idx → EReal) (ix2 q a) = aB m c (ix2 ⟨a.val / 64, by omega⟩ q) := by
  show (StableHlo.after (List.flatten [hostOps0 (F := Ideal), hostOps0_1 (F := Ideal), hostOps0_2 (F := Ideal)]) _ (Proc.devRef .tc main_v34)) (ix2 q a) = _
  simp only [List.flatten_cons, List.flatten_nil, List.append_nil, List.cons_append, List.nil_append]
  after_results
  pointwise []

theorem V_g (c : Dev nD) (k : Fin 1024) : (V m c main_v35 : S1x1024.Idx → EReal) (ix2 0 k) = aG m c (ix1 k) := by
  show (StableHlo.after (List.flatten [hostOps0 (F := Ideal), hostOps0_1 (F := Ideal), hostOps0_2 (F := Ideal)]) _ (Proc.devRef .tc main_v35)) (ix2 0 k) = _
  simp only [List.flatten_cons, List.flatten_nil, List.append_nil, List.cons_append, List.nil_append]
  after_results
  pointwise []

theorem lt_points (t : Fin cfg0.N) : t.val < 128 := Nat.lt_of_lt_of_eq t.isLt N_0

/-- The number of a tile. -/
abbrev tno (t : Fin cfg0.N) : Fin 128 := ⟨t.val, lt_points t⟩

/-- A tile of the rows. -/
theorem b0_read (c : Dev nD) (t : Fin cfg0.N) (p : Fin 256) (l : Fin 1024) : (iblk m c 0 t : Vec Ideal S256x1024 .f32) (ix2 p l) = aX m c (ix2 (trow (tno t) p) l) := by
  have e := (by decide +kernel : ∀ t : Fin grid0.N, win0_0.index t 0 * win0_0.size 0 = 256 * t.val ∧ win0_0.index t 1 * win0_0.size 1 = 0) t
  have ht := lt_points t
  refine Eq.trans ?_ (congrFun (V_main_arg0 m c) (ix2 (trow (tno t) p) l))
  show (V m c main_arg0 : S32768x1024.Idx → EReal) (((cfg0.win 0).blk t).view.emb ((ix2 p l) : S256x1024.Idx)) = _
  refine congrArg (V m c main_arg0 : S32768x1024.Idx → EReal) (funext fun a => Fin.ext ?_)
  fin_cases a
  · show win0_0.index t 0 * win0_0.size 0 + 1 * p.val = 256 * t.val + p.val
    rw [e.1]; omega
  · show win0_0.index t 1 * win0_0.size 1 + 1 * l.val = l.val
    rw [e.2]; omega

/-- The scale of the norm. -/
theorem b1_read (c : Dev nD) (t : Fin cfg0.N) (l : Fin 1024) : (iblk m c 1 t : Vec Ideal S1x1024 .f32) (ix2 0 l) = aG m c (ix1 l) := by
  have e := (by decide +kernel : ∀ t : Fin grid0.N, win0_1.index t 0 * win0_1.size 0 = 0 ∧ win0_1.index t 1 * win0_1.size 1 = 0) t
  have ht := lt_points t
  refine Eq.trans ?_ (V_g m c l)
  show (V m c main_v35 : S1x1024.Idx → EReal) (((cfg0.win 1).blk t).view.emb ((ix2 0 l) : S1x1024.Idx)) = _
  refine congrArg (V m c main_v35 : S1x1024.Idx → EReal) (funext fun a => Fin.ext ?_)
  fin_cases a
  · show win0_1.index t 0 * win0_1.size 0 + 1 * 0 = 0
    rw [e.1]
  · show win0_1.index t 1 * win0_1.size 1 + 1 * l.val = l.val
    rw [e.2]; omega

/-- The packed weights. -/
theorem b2_read (c : Dev nD) (t : Fin cfg0.N) (k : Fin 1024) (j : Fin 2944) : (iblk m c 2 t : Vec Ideal S1024x2944 .bf16) (ix2 k j) = colw (aW m c) k (col j.val) := by
  have e := (by decide +kernel : ∀ t : Fin grid0.N, win0_2.index t 0 * win0_2.size 0 = 0 ∧ win0_2.index t 1 * win0_2.size 1 = 0) t
  have ht := lt_points t
  refine Eq.trans ?_ (V_w m c k j)
  show (V m c main_v31 : S1024x2944.Idx → EReal) (((cfg0.win 2).blk t).view.emb ((ix2 k j) : S1024x2944.Idx)) = _
  refine congrArg (V m c main_v31 : S1024x2944.Idx → EReal) (funext fun a => Fin.ext ?_)
  fin_cases a
  · show win0_2.index t 0 * win0_2.size 0 + 1 * k.val = k.val
    rw [e.1]; omega
  · show win0_2.index t 1 * win0_2.size 1 + 1 * j.val = j.val
    rw [e.2]; omega

/-- A tile of the table of coses. -/
theorem b3_read (c : Dev nD) (t : Fin cfg0.N) (p : Fin 256) (a : Fin 128) : (iblk m c 3 t : Vec Ideal S256x128 .f32) (ix2 p a) = Ideal.cos (ang ((trow (tno t) p).val % 8192) (a.val % 32)) := by
  have e := (by decide +kernel : ∀ t : Fin grid0.N, win0_3.index t 0 * win0_3.size 0 = 256 * (t.val % 32) ∧ win0_3.index t 1 * win0_3.size 1 = 0) t
  have ht := lt_points t
  refine Eq.trans ?_ (V_cos m c ⟨(trow (tno t) p).val % 8192, Nat.mod_lt _ (by decide)⟩ a)
  show (V m c main_v17 : S8192x128.Idx → EReal) (((cfg0.win 3).blk t).view.emb ((ix2 p a) : S256x128.Idx)) = _
  refine congrArg (V m c main_v17 : S8192x128.Idx → EReal) (funext fun d => Fin.ext ?_)
  fin_cases d
  · show win0_3.index t 0 * win0_3.size 0 + 1 * p.val = (256 * t.val + p.val) % 8192
    rw [e.1]; omega
  · show win0_3.index t 1 * win0_3.size 1 + 1 * a.val = a.val
    rw [e.2]; omega

/-- A tile of the table of sines. -/
theorem b4_read (c : Dev nD) (t : Fin cfg0.N) (p : Fin 256) (a : Fin 128) : (iblk m c 4 t : Vec Ideal S256x128 .f32) (ix2 p a) = (if a.val % 64 < 32 then -Ideal.sin (ang ((trow (tno t) p).val % 8192) (a.val % 64)) else Ideal.sin (ang ((trow (tno t) p).val % 8192) (a.val % 64 - 32))) := by
  have e := (by decide +kernel : ∀ t : Fin grid0.N, win0_4.index t 0 * win0_4.size 0 = 256 * (t.val % 32) ∧ win0_4.index t 1 * win0_4.size 1 = 0) t
  have ht := lt_points t
  refine Eq.trans ?_ (V_sin m c ⟨(trow (tno t) p).val % 8192, Nat.mod_lt _ (by decide)⟩ a)
  show (V m c main_v22 : S8192x128.Idx → EReal) (((cfg0.win 4).blk t).view.emb ((ix2 p a) : S256x128.Idx)) = _
  refine congrArg (V m c main_v22 : S8192x128.Idx → EReal) (funext fun d => Fin.ext ?_)
  fin_cases d
  · show win0_4.index t 0 * win0_4.size 0 + 1 * p.val = (256 * t.val + p.val) % 8192
    rw [e.1]; omega
  · show win0_4.index t 1 * win0_4.size 1 + 1 * a.val = a.val
    rw [e.2]; omega

/-- The scale and the shift of the mixed values. -/
theorem b5_read (c : Dev nD) (t : Fin cfg0.N) (k : Fin 2) (l : Fin 256) : (iblk m c 5 t : Vec Ideal S2x256 .f32) (ix2 k l) = aL m c (ix2 k l) := by
  have e := (by decide +kernel : ∀ t : Fin grid0.N, win0_5.index t 0 * win0_5.size 0 = 0 ∧ win0_5.index t 1 * win0_5.size 1 = 0) t
  have ht := lt_points t
  refine Eq.trans ?_ (congrFun (V_main_arg3 m c) (ix2 k l))
  show (V m c main_arg3 : S2x256.Idx → EReal) (((cfg0.win 5).blk t).view.emb ((ix2 k l) : S2x256.Idx)) = _
  refine congrArg (V m c main_arg3 : S2x256.Idx → EReal) (funext fun a => Fin.ext ?_)
  fin_cases a
  · show win0_5.index t 0 * win0_5.size 0 + 1 * k.val = k.val
    rw [e.1]; omega
  · show win0_5.index t 1 * win0_5.size 1 + 1 * l.val = l.val
    rw [e.2]; omega

/-- The mixing weights. -/
theorem b6_read (c : Dev nD) (t : Fin cfg0.N) (h : Fin 4) (p q : Fin 128) : (iblk m c 6 t : Vec Ideal S4x128x128 .f32) (ix3 h p q) = aS m c (ix3 h p q) := by
  have e := (by decide +kernel : ∀ t : Fin grid0.N, win0_6.index t 0 * win0_6.size 0 = 0 ∧ win0_6.index t 1 * win0_6.size 1 = 0 ∧ win0_6.index t 2 * win0_6.size 2 = 0) t
  have ht := lt_points t
  refine Eq.trans ?_ (congrFun (V_main_arg4 m c) (ix3 h p q))
  show (V m c main_arg4 : S4x128x128.Idx → EReal) (((cfg0.win 6).blk t).view.emb ((ix3 h p q) : S4x128x128.Idx)) = _
  refine congrArg (V m c main_arg4 : S4x128x128.Idx → EReal) (funext fun a => Fin.ext ?_)
  fin_cases a
  · show win0_6.index t 0 * win0_6.size 0 + 1 * h.val = h.val
    rw [e.1]; omega
  · show win0_6.index t 1 * win0_6.size 1 + 1 * p.val = p.val
    rw [e.2.1]; omega
  · show win0_6.index t 2 * win0_6.size 2 + 1 * q.val = q.val
    rw [e.2.2]; omega

/-- The bias of the mixed tokens. -/
theorem b7_read (c : Dev nD) (t : Fin cfg0.N) (q : Fin 128) (a : Fin 256) : (iblk m c 7 t : Vec Ideal S128x256 .f32) (ix2 q a) = aB m c (ix2 ⟨a.val / 64, by omega⟩ q) := by
  have e := (by decide +kernel : ∀ t : Fin grid0.N, win0_7.index t 0 * win0_7.size 0 = 0 ∧ win0_7.index t 1 * win0_7.size 1 = 0) t
  have ht := lt_points t
  refine Eq.trans ?_ (V_b m c q a)
  show (V m c main_v34 : S128x256.Idx → EReal) (((cfg0.win 7).blk t).view.emb ((ix2 q a) : S128x256.Idx)) = _
  refine congrArg (V m c main_v34 : S128x256.Idx → EReal) (funext fun d => Fin.ext ?_)
  fin_cases d
  · show win0_7.index t 0 * win0_7.size 0 + 1 * q.val = q.val
    rw [e.1]; omega
  · show win0_7.index t 1 * win0_7.size 1 + 1 * a.val = a.val
    rw [e.2]; omega

/-- A tile's blocks hold its rows. -/
theorem holds (c : Dev nD) (t : Fin cfg0.N) : Holds (aX m c) (aG m c) (aW m c) (aL m c) (aS m c) (aB m c)
    (iblk m c 0 t) (iblk m c 1 t) (iblk m c 2 t) (iblk m c 3 t) (iblk m c 4 t) (iblk m c 5 t) (iblk m c 6 t) (iblk m c 7 t) (tno t) where
  h0 := b0_read m c t
  h1 := b1_read m c t
  h2 := b2_read m c t
  h3 := b3_read m c t
  h4 := b4_read m c t
  h5 := b5_read m c t
  h6 := b6_read m c t
  h7 := b7_read m c t

/-- The array of mixed values after the run. -/
theorem final8 (c : Dev nD) : (dats m 0 c).arrAt 8 cfg0.N = arr2 (fun (r : Fin 32768) (l : Fin 256) => ogm (aX m c) (aG m c) (aW m c) (aL m c) (aS m c) (aB m c) r l) := by
  have ew := (by decide +kernel : ∀ t : Fin grid0.N, win0_8.index t 0 * win0_8.size 0 = 256 * t.val ∧ win0_8.index t 1 * win0_8.size 1 = 0)
  refine (dats m 0 c).arrAt_eq_of_covers 8 _ (by decide +kernel) fun t hf y => ?_
  have ht := lt_points t
  obtain ⟨p, l, rfl⟩ : ∃ (p : Fin 256) (l : Fin 256), y = (ix2 p l : S256x256.Idx) := ⟨y 0, y 1, by funext k; fin_cases k <;> rfl⟩
  show (dats m 0 c).after 8 t (ix2 p l) = _
  rw [after0_8]
  refine (out8_read (holds m c t) p l).trans ?_
  have e0 : ((cfg0.win 8).blk t).view.emb (ix2 p l : S256x256.Idx) = (ix2 (trow (tno t) p) l : S32768x256.Idx) := by
    have e := ew t
    funext a
    apply Fin.ext
    fin_cases a
    · show win0_8.index t 0 * win0_8.size 0 + 1 * p.val = 256 * t.val + p.val
      rw [e.1]; omega
    · show win0_8.index t 1 * win0_8.size 1 + 1 * l.val = l.val
      rw [e.2]; omega
  exact (congrArg (arr2 (fun (r : Fin 32768) (l : Fin 256) => ogm (aX m c) (aG m c) (aW m c) (aL m c) (aS m c) (aB m c) r l)) e0).symm

/-- The array of normed values after the run. -/
theorem final9 (c : Dev nD) : (dats m 0 c).arrAt 9 cfg0.N = arr2 (fun (r : Fin 32768) (l : Fin 256) => vgm (aX m c) (aG m c) (aW m c) (aL m c) r l) := by
  have ew := (by decide +kernel : ∀ t : Fin grid0.N, win0_9.index t 0 * win0_9.size 0 = 256 * t.val ∧ win0_9.index t 1 * win0_9.size 1 = 0)
  refine (dats m 0 c).arrAt_eq_of_covers 9 _ (by decide +kernel) fun t hf y => ?_
  have ht := lt_points t
  obtain ⟨p, l, rfl⟩ : ∃ (p : Fin 256) (l : Fin 256), y = (ix2 p l : S256x256.Idx) := ⟨y 0, y 1, by funext k; fin_cases k <;> rfl⟩
  show (dats m 0 c).after 9 t (ix2 p l) = _
  rw [after0_9]
  refine (out9_read (holds m c t) p l).trans ?_
  have e0 : ((cfg0.win 9).blk t).view.emb (ix2 p l : S256x256.Idx) = (ix2 (trow (tno t) p) l : S32768x256.Idx) := by
    have e := ew t
    funext a
    apply Fin.ext
    fin_cases a
    · show win0_9.index t 0 * win0_9.size 0 + 1 * p.val = 256 * t.val + p.val
      rw [e.1]; omega
    · show win0_9.index t 1 * win0_9.size 1 + 1 * l.val = l.val
      rw [e.2]; omega
  exact (congrArg (arr2 (fun (r : Fin 32768) (l : Fin 256) => vgm (aX m c) (aG m c) (aW m c) (aL m c) r l)) e0).symm

/-- The array of queries after the run. -/
theorem final10 (c : Dev nD) : (dats m 0 c).arrAt 10 cfg0.N = arr2 (fun (r : Fin 32768) (l : Fin 1024) => qpad (aX m c) (aG m c) (aW m c) r l) := by
  have ew := (by decide +kernel : ∀ t : Fin grid0.N, win0_10.index t 0 * win0_10.size 0 = 256 * t.val ∧ win0_10.index t 1 * win0_10.size 1 = 0)
  refine (dats m 0 c).arrAt_eq_of_covers 10 _ (by decide +kernel) fun t hf y => ?_
  have ht := lt_points t
  obtain ⟨p, l, rfl⟩ : ∃ (p : Fin 256) (l : Fin 1024), y = (ix2 p l : S256x1024.Idx) := ⟨y 0, y 1, by funext k; fin_cases k <;> rfl⟩
  show (dats m 0 c).after 10 t (ix2 p l) = _
  rw [after0_10]
  refine (out10_read (holds m c t) p l).trans ?_
  have e0 : ((cfg0.win 10).blk t).view.emb (ix2 p l : S256x1024.Idx) = (ix2 (trow (tno t) p) l : S32768x1024.Idx) := by
    have e := ew t
    funext a
    apply Fin.ext
    fin_cases a
    · show win0_10.index t 0 * win0_10.size 0 + 1 * p.val = 256 * t.val + p.val
      rw [e.1]; omega
    · show win0_10.index t 1 * win0_10.size 1 + 1 * l.val = l.val
      rw [e.2]; omega
  exact (congrArg (arr2 (fun (r : Fin 32768) (l : Fin 1024) => qpad (aX m c) (aG m c) (aW m c) r l)) e0).symm

/-- The array of compressed keys and values after the run. -/
theorem final11 (c : Dev nD) : (dats m 0 c).arrAt 11 cfg0.N = arr2 (fun (r : Fin 32768) (l : Fin 256) => kv (aX m c) (aG m c) (aW m c) 0 r l.val) := by
  have ew := (by decide +kernel : ∀ t : Fin grid0.N, win0_11.index t 0 * win0_11.size 0 = 256 * t.val ∧ win0_11.index t 1 * win0_11.size 1 = 0)
  refine (dats m 0 c).arrAt_eq_of_covers 11 _ (by decide +kernel) fun t hf y => ?_
  have ht := lt_points t
  obtain ⟨p, l, rfl⟩ : ∃ (p : Fin 256) (l : Fin 256), y = (ix2 p l : S256x256.Idx) := ⟨y 0, y 1, by funext k; fin_cases k <;> rfl⟩
  show (dats m 0 c).after 11 t (ix2 p l) = _
  rw [after0_11]
  refine (out11_read (holds m c t) p l).trans ?_
  have e0 : ((cfg0.win 11).blk t).view.emb (ix2 p l : S256x256.Idx) = (ix2 (trow (tno t) p) l : S32768x256.Idx) := by
    have e := ew t
    funext a
    apply Fin.ext
    fin_cases a
    · show win0_11.index t 0 * win0_11.size 0 + 1 * p.val = 256 * t.val + p.val
      rw [e.1]; omega
    · show win0_11.index t 1 * win0_11.size 1 + 1 * l.val = l.val
      rw [e.2]; omega
  exact (congrArg (arr2 (fun (r : Fin 32768) (l : Fin 256) => kv (aX m c) (aG m c) (aW m c) 0 r l.val)) e0).symm

/-- The array of selected keys and values after the run. -/
theorem final12 (c : Dev nD) : (dats m 0 c).arrAt 12 cfg0.N = arr2 (fun (r : Fin 32768) (l : Fin 256) => kv (aX m c) (aG m c) (aW m c) 1 r l.val) := by
  have ew := (by decide +kernel : ∀ t : Fin grid0.N, win0_12.index t 0 * win0_12.size 0 = 256 * t.val ∧ win0_12.index t 1 * win0_12.size 1 = 0)
  refine (dats m 0 c).arrAt_eq_of_covers 12 _ (by decide +kernel) fun t hf y => ?_
  have ht := lt_points t
  obtain ⟨p, l, rfl⟩ : ∃ (p : Fin 256) (l : Fin 256), y = (ix2 p l : S256x256.Idx) := ⟨y 0, y 1, by funext k; fin_cases k <;> rfl⟩
  show (dats m 0 c).after 12 t (ix2 p l) = _
  rw [after0_12]
  refine (out12_read (holds m c t) p l).trans ?_
  have e0 : ((cfg0.win 12).blk t).view.emb (ix2 p l : S256x256.Idx) = (ix2 (trow (tno t) p) l : S32768x256.Idx) := by
    have e := ew t
    funext a
    apply Fin.ext
    fin_cases a
    · show win0_12.index t 0 * win0_12.size 0 + 1 * p.val = 256 * t.val + p.val
      rw [e.1]; omega
    · show win0_12.index t 1 * win0_12.size 1 + 1 * l.val = l.val
      rw [e.2]; omega
  exact (congrArg (arr2 (fun (r : Fin 32768) (l : Fin 256) => kv (aX m c) (aG m c) (aW m c) 1 r l.val)) e0).symm

/-- The array of windowed keys and values after the run. -/
theorem final13 (c : Dev nD) : (dats m 0 c).arrAt 13 cfg0.N = arr2 (fun (r : Fin 32768) (l : Fin 256) => kv (aX m c) (aG m c) (aW m c) 2 r l.val) := by
  have ew := (by decide +kernel : ∀ t : Fin grid0.N, win0_13.index t 0 * win0_13.size 0 = 256 * t.val ∧ win0_13.index t 1 * win0_13.size 1 = 0)
  refine (dats m 0 c).arrAt_eq_of_covers 13 _ (by decide +kernel) fun t hf y => ?_
  have ht := lt_points t
  obtain ⟨p, l, rfl⟩ : ∃ (p : Fin 256) (l : Fin 256), y = (ix2 p l : S256x256.Idx) := ⟨y 0, y 1, by funext k; fin_cases k <;> rfl⟩
  show (dats m 0 c).after 13 t (ix2 p l) = _
  rw [after0_13]
  refine (out13_read (holds m c t) p l).trans ?_
  have e0 : ((cfg0.win 13).blk t).view.emb (ix2 p l : S256x256.Idx) = (ix2 (trow (tno t) p) l : S32768x256.Idx) := by
    have e := ew t
    funext a
    apply Fin.ext
    fin_cases a
    · show win0_13.index t 0 * win0_13.size 0 + 1 * p.val = 256 * t.val + p.val
      rw [e.1]; omega
    · show win0_13.index t 1 * win0_13.size 1 + 1 * l.val = l.val
      rw [e.2]; omega
  exact (congrArg (arr2 (fun (r : Fin 32768) (l : Fin 256) => kv (aX m c) (aG m c) (aW m c) 2 r l.val)) e0).symm

/-- The array of keys and values, narrow after the run. -/
theorem final14 (c : Dev nD) : (dats m 0 c).arrAt 14 cfg0.N = arr2 (fun (r : Fin 32768) (l : Fin 512) => kvb (aX m c) (aG m c) (aW m c) r l) := by
  have ew := (by decide +kernel : ∀ t : Fin grid0.N, win0_14.index t 0 * win0_14.size 0 = 256 * t.val ∧ win0_14.index t 1 * win0_14.size 1 = 0)
  refine (dats m 0 c).arrAt_eq_of_covers 14 _ (by decide +kernel) fun t hf y => ?_
  have ht := lt_points t
  obtain ⟨p, l, rfl⟩ : ∃ (p : Fin 256) (l : Fin 512), y = (ix2 p l : S256x512.Idx) := ⟨y 0, y 1, by funext k; fin_cases k <;> rfl⟩
  show (dats m 0 c).after 14 t (ix2 p l) = _
  rw [after0_14]
  refine (out14_read (holds m c t) p l).trans ?_
  have e0 : ((cfg0.win 14).blk t).view.emb (ix2 p l : S256x512.Idx) = (ix2 (trow (tno t) p) l : S32768x512.Idx) := by
    have e := ew t
    funext a
    apply Fin.ext
    fin_cases a
    · show win0_14.index t 0 * win0_14.size 0 + 1 * p.val = 256 * t.val + p.val
      rw [e.1]; omega
    · show win0_14.index t 1 * win0_14.size 1 + 1 * l.val = l.val
      rw [e.2]; omega
  exact (congrArg (arr2 (fun (r : Fin 32768) (l : Fin 512) => kvb (aX m c) (aG m c) (aW m c) r l)) e0).symm

/-- The array of gates after the run. -/
theorem final15 (c : Dev nD) : (dats m 0 c).arrAt 15 cfg0.N = arr2 (fun (r : Fin 32768) (l : Fin 128) => gates (aX m c) (aG m c) (aW m c) r l) := by
  have ew := (by decide +kernel : ∀ t : Fin grid0.N, win0_15.index t 0 * win0_15.size 0 = 256 * t.val ∧ win0_15.index t 1 * win0_15.size 1 = 0)
  refine (dats m 0 c).arrAt_eq_of_covers 15 _ (by decide +kernel) fun t hf y => ?_
  have ht := lt_points t
  obtain ⟨p, l, rfl⟩ : ∃ (p : Fin 256) (l : Fin 128), y = (ix2 p l : S256x128.Idx) := ⟨y 0, y 1, by funext k; fin_cases k <;> rfl⟩
  show (dats m 0 c).after 15 t (ix2 p l) = _
  rw [after0_15]
  refine (out15_read (holds m c t) p l).trans ?_
  have e0 : ((cfg0.win 15).blk t).view.emb (ix2 p l : S256x128.Idx) = (ix2 (trow (tno t) p) l : S32768x128.Idx) := by
    have e := ew t
    funext a
    apply Fin.ext
    fin_cases a
    · show win0_15.index t 0 * win0_15.size 0 + 1 * p.val = 256 * t.val + p.val
      rw [e.1]; omega
    · show win0_15.index t 1 * win0_15.size 1 + 1 * l.val = l.val
      rw [e.2]; omega
  exact (congrArg (arr2 (fun (r : Fin 32768) (l : Fin 128) => gates (aX m c) (aG m c) (aW m c) r l)) e0).symm

/-- The array of the shifted layer after the run. -/
theorem final16 (c : Dev nD) : (dats m 0 c).arrAt 16 cfg0.N = arr2 (fun (r : Fin 32768) (l : Fin 1024) => zrw (aX m c) (aG m c) (aW m c) r l) := by
  have ew := (by decide +kernel : ∀ t : Fin grid0.N, win0_16.index t 0 * win0_16.size 0 = 256 * t.val ∧ win0_16.index t 1 * win0_16.size 1 = 0)
  refine (dats m 0 c).arrAt_eq_of_covers 16 _ (by decide +kernel) fun t hf y => ?_
  have ht := lt_points t
  obtain ⟨p, l, rfl⟩ : ∃ (p : Fin 256) (l : Fin 1024), y = (ix2 p l : S256x1024.Idx) := ⟨y 0, y 1, by funext k; fin_cases k <;> rfl⟩
  show (dats m 0 c).after 16 t (ix2 p l) = _
  rw [after0_16]
  refine (out16_read (holds m c t) p l).trans ?_
  have e0 : ((cfg0.win 16).blk t).view.emb (ix2 p l : S256x1024.Idx) = (ix2 (trow (tno t) p) l : S32768x1024.Idx) := by
    have e := ew t
    funext a
    apply Fin.ext
    fin_cases a
    · show win0_16.index t 0 * win0_16.size 0 + 1 * p.val = 256 * t.val + p.val
      rw [e.1]; omega
    · show win0_16.index t 1 * win0_16.size 1 + 1 * l.val = l.val
      rw [e.2]; omega
  exact (congrArg (arr2 (fun (r : Fin 32768) (l : Fin 1024) => zrw (aX m c) (aG m c) (aW m c) r l)) e0).symm

end Cert.ProjVal

end
-- ==== Proof.ProjClaim.lean ====
/- The claim about the input projection, put together. -/
module

public import proofs.«01_k».proof.Defs
public import proofs.«01_k».proof.Proof.ProjValue
public import proofs.«01_k».proof.Proof.Gen.Reference4Ideal.Run
public import Idealize.ShloMosaic.Lib.Quiescent
public import Idealize.ShloMosaic.Lib.Claim

@[expose] public section

set_option maxRecDepth 16384

noncomputable section

namespace Cert.ProjVal

open Idealize.ShloMosaic.TcCoe Idealize.SL.Sem Idealize.ShloMosaic

open Cert.Reference4Ideal Cert.Reference4Ideal.Read in
theorem ref_narrow (X : XArr) (G : GArr) (W : WArr) (L : LArr) (S : SArr) (B : BArr) (r : Fin 32768) (l : Fin 256) :
    val_main_v252 (F := Ideal) X G W L S B (ix2 r l) = ogm X G W L S B r l := by
  pointwise [val_main_v252]
  exact ref_ogm _ _ _ _ _ _ _ _

open Cert.Reference4Ideal Cert.Reference4Ideal.Read in
theorem ref_queries (X : XArr) (G : GArr) (W : WArr) (r : Fin 32768) (l : Fin 1024) :
    val_main_v253 (F := Ideal) X G W (ix2 r l) = qpad X G W r l := by
  pointwise [val_main_v253]
  exact ref_qpad _ _ _ _ _

/-- The reference of the input projection runs, leaves its arguments as they were and every counter at zero. -/
theorem reference_frame : Cert.quiescent_Reference4Ideal (hReference4Ideal := Cert.Reference4Ideal.Gen.facts) := fun m g _ =>
  (θ_run _ _ _).mono (fun r h => ⟨fun c => (h c).2.2.2.2.2.2.2.2.2, sem_eq_zero_of_no_sems (by decide) r.2⟩)
    (Cert.Reference4Ideal.Value.run m g)

open Cert.Reference4Ideal Cert.Reference4Ideal.Read in
/-- The array of mixed values that the reference leaves. -/
theorem left8 (X : XArr) (G : GArr) (W : WArr) (L : LArr) (S : SArr) (B : BArr) :
    (val_main_v252 (F := Ideal) X G W L S B : S32768x256.Idx → EReal) = arr2 (fun (r : Fin 32768) (l : Fin 256) => ogm X G W L S B r l) :=
  arr_eq _ _ (ref_narrow X G W L S B)

open Cert.Reference4Ideal Cert.Reference4Ideal.Read in
/-- The array of normed values that the reference leaves. -/
theorem left9 (X : XArr) (G : GArr) (W : WArr) (L : LArr) :
    (val_main_v59 (F := Ideal) X G W L : S32768x256.Idx → EReal) = arr2 (fun (r : Fin 32768) (l : Fin 256) => vgm X G W L r l) :=
  arr_eq _ _ (ref_vgm X G W L)

open Cert.Reference4Ideal Cert.Reference4Ideal.Read in
/-- The array of queries that the reference leaves. -/
theorem left10 (X : XArr) (G : GArr) (W : WArr) :
    (val_main_v253 (F := Ideal) X G W : S32768x1024.Idx → EReal) = arr2 (fun (r : Fin 32768) (l : Fin 1024) => qpad X G W r l) :=
  arr_eq _ _ (ref_queries X G W)

open Cert.Reference4Ideal Cert.Reference4Ideal.Read in
/-- The array of compressed keys and values that the reference leaves. -/
theorem left11 (X : XArr) (G : GArr) (W : WArr) :
    (val_main_v159 (F := Ideal) X G W : S32768x256.Idx → EReal) = arr2 (fun (r : Fin 32768) (l : Fin 256) => kv X G W 0 r l.val) :=
  arr_eq _ _ (ref_kv0 X G W)

open Cert.Reference4Ideal Cert.Reference4Ideal.Read in
/-- The array of selected keys and values that the reference leaves. -/
theorem left12 (X : XArr) (G : GArr) (W : WArr) :
    (val_main_v199 (F := Ideal) X G W : S32768x256.Idx → EReal) = arr2 (fun (r : Fin 32768) (l : Fin 256) => kv X G W 1 r l.val) :=
  arr_eq _ _ (ref_kv1 X G W)

open Cert.Reference4Ideal Cert.Reference4Ideal.Read in
/-- The array of windowed keys and values that the reference leaves. -/
theorem left13 (X : XArr) (G : GArr) (W : WArr) :
    (val_main_v239 (F := Ideal) X G W : S32768x256.Idx → EReal) = arr2 (fun (r : Fin 32768) (l : Fin 256) => kv X G W 2 r l.val) :=
  arr_eq _ _ (ref_kv2 X G W)

open Cert.Reference4Ideal Cert.Reference4Ideal.Read in
/-- The array of keys and values, narrow that the reference leaves. -/
theorem left14 (X : XArr) (G : GArr) (W : WArr) :
    (val_main_v255 (F := Ideal) X G W : S32768x512.Idx → EReal) = arr2 (fun (r : Fin 32768) (l : Fin 512) => kvb X G W r l) :=
  arr_eq _ _ (ref_kvb X G W)

open Cert.Reference4Ideal Cert.Reference4Ideal.Read in
/-- The array of gates that the reference leaves. -/
theorem left15 (X : XArr) (G : GArr) (W : WArr) :
    (val_main_v251 (F := Ideal) X G W : S32768x128.Idx → EReal) = arr2 (fun (r : Fin 32768) (l : Fin 128) => gates X G W r l) :=
  arr_eq _ _ (ref_gates X G W)

open Cert.Reference4Ideal Cert.Reference4Ideal.Read in
/-- The array of the shifted layer that the reference leaves. -/
theorem left16 (X : XArr) (G : GArr) (W : WArr) :
    (val_main_v256 (F := Ideal) X G W : S32768x1024.Idx → EReal) = arr2 (fun (r : Fin 32768) (l : Fin 1024) => zrw X G W r l) :=
  arr_eq _ _ (ref_zrw X G W)

open Cert.Reference4Ideal in
/-- The kernel of the input projection and its reference leave the same nine arrays, from all arguments. -/
theorem proj_algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => arr2 (fun (r : Fin 32768) (l : Fin 256) => ogm (aX m c) (aG m c) (aW m c) (aL m c) (aS m c) (aB m c) r l),
    fun c => arr2 (fun (r : Fin 32768) (l : Fin 256) => vgm (aX m c) (aG m c) (aW m c) (aL m c) r l),
    fun c => arr2 (fun (r : Fin 32768) (l : Fin 1024) => qpad (aX m c) (aG m c) (aW m c) r l),
    fun c => arr2 (fun (r : Fin 32768) (l : Fin 256) => kv (aX m c) (aG m c) (aW m c) 0 r l.val),
    fun c => arr2 (fun (r : Fin 32768) (l : Fin 256) => kv (aX m c) (aG m c) (aW m c) 1 r l.val),
    fun c => arr2 (fun (r : Fin 32768) (l : Fin 256) => kv (aX m c) (aG m c) (aW m c) 2 r l.val),
    fun c => arr2 (fun (r : Fin 32768) (l : Fin 512) => kvb (aX m c) (aG m c) (aW m c) r l),
    fun c => arr2 (fun (r : Fin 32768) (l : Fin 128) => gates (aX m c) (aG m c) (aW m c) r l),
    fun c => arr2 (fun (r : Fin 32768) (l : Fin 1024) => zrw (aX m c) (aG m c) (aW m c) r l), ?_, ?_⟩
  · refine (θ_run _ _ _).mono (fun r h c => ?_) (Cert.Kernel4Ideal.Value.run_blocks m ρ)
    obtain ⟨h0, h1, h2, h3, h4, h5, h6, h7, h8, hr⟩ := h c
    exact ⟨h0.trans (final8 m c), h1.trans (final9 m c), h2.trans (final10 m c), h3.trans (final11 m c), h4.trans (final12 m c), h5.trans (final13 m c), h6.trans (final14 m c), h7.trans (final15 m c), h8.trans (final16 m c), hr⟩
  · refine (θ_run _ _ _).mono (fun r h c => ?_) (Cert.Reference4Ideal.Value.run m' ρ')
    obtain ⟨h0, h1, h2, h3, h4, h5, h6, h7, h8, hr⟩ := h c
    obtain ⟨g0, g1, g2, g3, g4, g5⟩ := hagree c
    refine ⟨?_, ?_, ?_, ?_, ?_, ?_, ?_, ?_, ?_, hr⟩
    · refine h0.trans ((Cert.Reference4Ideal.Read.val_main_v252_eq _).trans ?_)
      refine (left8 _ _ _ _ _ _ ).trans ?_
      show arr2 (fun (r : Fin 32768) (l : Fin 256) => ogm (m' (c.tc.loc main_arg0)) (m' (c.tc.loc main_arg1)) (m' (c.tc.loc main_arg2)) (m' (c.tc.loc main_arg3)) (m' (c.tc.loc main_arg4)) (m' (c.tc.loc main_arg5)) r l) = arr2 (fun (r : Fin 32768) (l : Fin 256) => ogm (aX m c) (aG m c) (aW m c) (aL m c) (aS m c) (aB m c) r l)
      rw [g0, g1, g2, g3, g4, g5]
    · refine h1.trans ((Cert.Reference4Ideal.Read.val_main_v59_eq _).trans ?_)
      refine (left9 _ _ _ _ ).trans ?_
      show arr2 (fun (r : Fin 32768) (l : Fin 256) => vgm (m' (c.tc.loc main_arg0)) (m' (c.tc.loc main_arg1)) (m' (c.tc.loc main_arg2)) (m' (c.tc.loc main_arg3)) r l) = arr2 (fun (r : Fin 32768) (l : Fin 256) => vgm (aX m c) (aG m c) (aW m c) (aL m c) r l)
      rw [g0, g1, g2, g3]
    · refine h2.trans ((Cert.Reference4Ideal.Read.val_main_v253_eq _).trans ?_)
      refine (left10 _ _ _ ).trans ?_
      show arr2 (fun (r : Fin 32768) (l : Fin 1024) => qpad (m' (c.tc.loc main_arg0)) (m' (c.tc.loc main_arg1)) (m' (c.tc.loc main_arg2)) r l) = arr2 (fun (r : Fin 32768) (l : Fin 1024) => qpad (aX m c) (aG m c) (aW m c) r l)
      rw [g0, g1, g2]
    · refine h3.trans ((Cert.Reference4Ideal.Read.val_main_v159_eq _).trans ?_)
      refine (left11 _ _ _ ).trans ?_
      show arr2 (fun (r : Fin 32768) (l : Fin 256) => kv (m' (c.tc.loc main_arg0)) (m' (c.tc.loc main_arg1)) (m' (c.tc.loc main_arg2)) 0 r l.val) = arr2 (fun (r : Fin 32768) (l : Fin 256) => kv (aX m c) (aG m c) (aW m c) 0 r l.val)
      rw [g0, g1, g2]
    · refine h4.trans ((Cert.Reference4Ideal.Read.val_main_v199_eq _).trans ?_)
      refine (left12 _ _ _ ).trans ?_
      show arr2 (fun (r : Fin 32768) (l : Fin 256) => kv (m' (c.tc.loc main_arg0)) (m' (c.tc.loc main_arg1)) (m' (c.tc.loc main_arg2)) 1 r l.val) = arr2 (fun (r : Fin 32768) (l : Fin 256) => kv (aX m c) (aG m c) (aW m c) 1 r l.val)
      rw [g0, g1, g2]
    · refine h5.trans ((Cert.Reference4Ideal.Read.val_main_v239_eq _).trans ?_)
      refine (left13 _ _ _ ).trans ?_
      show arr2 (fun (r : Fin 32768) (l : Fin 256) => kv (m' (c.tc.loc main_arg0)) (m' (c.tc.loc main_arg1)) (m' (c.tc.loc main_arg2)) 2 r l.val) = arr2 (fun (r : Fin 32768) (l : Fin 256) => kv (aX m c) (aG m c) (aW m c) 2 r l.val)
      rw [g0, g1, g2]
    · refine h6.trans ((Cert.Reference4Ideal.Read.val_main_v255_eq _).trans ?_)
      refine (left14 _ _ _ ).trans ?_
      show arr2 (fun (r : Fin 32768) (l : Fin 512) => kvb (m' (c.tc.loc main_arg0)) (m' (c.tc.loc main_arg1)) (m' (c.tc.loc main_arg2)) r l) = arr2 (fun (r : Fin 32768) (l : Fin 512) => kvb (aX m c) (aG m c) (aW m c) r l)
      rw [g0, g1, g2]
    · refine h7.trans ((Cert.Reference4Ideal.Read.val_main_v251_eq _).trans ?_)
      refine (left15 _ _ _ ).trans ?_
      show arr2 (fun (r : Fin 32768) (l : Fin 128) => gates (m' (c.tc.loc main_arg0)) (m' (c.tc.loc main_arg1)) (m' (c.tc.loc main_arg2)) r l) = arr2 (fun (r : Fin 32768) (l : Fin 128) => gates (aX m c) (aG m c) (aW m c) r l)
      rw [g0, g1, g2]
    · refine h8.trans ((Cert.Reference4Ideal.Read.val_main_v256_eq _).trans ?_)
      refine (left16 _ _ _ ).trans ?_
      show arr2 (fun (r : Fin 32768) (l : Fin 1024) => zrw (m' (c.tc.loc main_arg0)) (m' (c.tc.loc main_arg1)) (m' (c.tc.loc main_arg2)) r l) = arr2 (fun (r : Fin 32768) (l : Fin 1024) => zrw (aX m c) (aG m c) (aW m c) r l)
      rw [g0, g1, g2]

end Cert.ProjVal

end
-- ==== Proof.MkvValue.lean ====
/- The projection of the memory to its keys and values: what the kernel and the reference compute. -/
module

public import proofs.«01_k».proof.Proof.MidPay
public import proofs.«01_k».proof.Proof.MidTile
public import proofs.«01_k».proof.Proof.ProjRef
public import proofs.«01_k».proof.Proof.Gen.Kernel5Ideal.Value
public import proofs.«01_k».proof.Proof.Gen.Reference5Ideal.Read
public import Idealize.ShloMosaic.Lib.Pipeline.ValueKit.Geometry
public import Idealize.ShloMosaic.Lib.Pipeline.ValueKit.Tiles

@[expose] public section

set_option maxRecDepth 16384

noncomputable section

namespace Cert.MkvVal

open Cert.Kernel5Ideal Cert.Kernel5Ideal.Gen Cert.FfnVal Idealize.ShloMosaic Idealize.ShloMosaic.TcCoe Idealize.SL.Sem Idealize.ShloMosaic

open Idealize.ShloMosaic.Pipeline (Dat)
open Cert.ProjVal (arr2 arr_eq)

/-- The rows of the memory. -/
abbrev XArr := (⟨2, ![1024, 1024]⟩ : Shape).Idx → EReal
/-- The scale of the norm. -/
abbrev GArr := (⟨1, ![1024]⟩ : Shape).Idx → EReal
/-- The weights of the projection. -/
abbrev WArr := (⟨2, ![1024, 2048]⟩ : Shape).Idx → EReal

/-- The normed row `r` of the memory, projected to column `j`. -/
def mkv (X : XArr) (G : GArr) (W : WArr) (r : Fin 1024) (j : Fin 2048) : EReal :=
  ∑ k, normed (fun i => X (ix2 r i)) (fun i => G (ix1 i)) k * W (ix2 k j)

section Reference
open Cert.Reference5Ideal Cert.Reference5Ideal.Read

/-- The reference's result holds the projected memory. -/
theorem ref_mkv (X : XArr) (G : GArr) (W : WArr) (r : Fin 1024) (j : Fin 2048) : val_main_v13 (F := Ideal) X G W (ix2 r j) = mkv X G W r j := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, Cert.Reference5Ideal.dot_S1024x1024_S1024x2048_S1024x2048_1_0_0_1_n_n]
  rfl

/-- The reference's narrow result holds it too. -/
theorem ref_narrow (X : XArr) (G : GArr) (W : WArr) (r : Fin 1024) (j : Fin 2048) : val_main_v14 (F := Ideal) X G W (ix2 r j) = mkv X G W r j := by
  pointwise [val_main_v14]
  exact ref_mkv X G W r j

end Reference

/-- A tile's payload is the projection of its normed rows. -/
theorem pay_read (x : Vec Ideal S256x1024 .f32) (g : Vec Ideal S1x1024 .f32) (w : Vec Ideal S1024x2048 .bf16) (p : Fin 256) (a : Fin 2048) :
    k0_pay1 (F := Ideal) x g w (ix2 p a) = ∑ k, normed (fun i => x (ix2 p i)) (fun i => g (ix2 0 i)) k * w (ix2 k a) := by
  pointwise [k0_pay1, Cert.Kernel5Ideal.dot_S256x1024_S1024x2048_S256x2048_1_0_0_1_n_n]
  rfl

/-- The narrow payload is the same. -/
theorem pay_narrow (x : Vec Ideal S256x1024 .f32) (g : Vec Ideal S1x1024 .f32) (w : Vec Ideal S1024x2048 .bf16) (p : Fin 256) (a : Fin 2048) :
    k0_pay2 (F := Ideal) x g w (ix2 p a) = ∑ k, normed (fun i => x (ix2 p i)) (fun i => g (ix2 0 i)) k * w (ix2 k a) := by
  pointwise [k0_pay2]
  exact pay_read x g w p a

/-- The row of a tile's row. -/
abbrev trow (t : Fin 4) (p : Fin 256) : Fin 1024 := ⟨256 * t.val + p.val, by omega⟩

/-- The wide block of a tile holds its projected rows. -/
theorem out3_read (X : XArr) (G : GArr) (W : WArr) (x0 : Vec Ideal S256x1024 .f32) (x1 : Vec Ideal S1x1024 .f32) (x2 : Vec Ideal S1024x2048 .bf16) (t : Fin 4)
    (h0 : ∀ p l, x0 (ix2 p l) = X (ix2 (trow t p) l)) (h1 : ∀ l, x1 (ix2 0 l) = G (ix1 l)) (h2 : ∀ k j, x2 (ix2 k j) = W (ix2 k j))
    (p : Fin 256) (l : Fin 2048) : out0_3 (F := Ideal) x0 x1 x2 (ix2 p l) = mkv X G W (trow t p) l := by
  have e0 : View.ld x0 r0_0 = x0 := View.ld_unit_zero (by funext a; fin_cases a <;> rfl) ..
  have e1 : View.ld x1 r0_1 = x1 := View.ld_unit_zero (by funext a; fin_cases a <;> rfl) ..
  have e2 : View.ld x2 r0_2 = x2 := View.ld_unit_zero (by funext a; fin_cases a <;> rfl) ..
  unfold out0_3
  rw [e0, e1, e2]
  refine View.canon_eq_of_allAt _ _ _ (cover0_3 _ _) ?_
  refine View.allAt_cons_unit _ _ _ _ _ (fun x hx => ?_) ?_
  · have h0' : p.val = 0 + (x 0).val := hx 0
    have h1' : l.val = 0 + (x 1).val := hx 1
    obtain ⟨a, j, rfl⟩ : ∃ (a : Fin 256) (j : Fin 2048), x = ix2 a j := ⟨x 0, x 1, by funext k; fin_cases k <;> rfl⟩
    change p.val = 0 + a.val at h0'
    change l.val = 0 + j.val at h1'
    obtain rfl : p = a := Fin.ext (by omega)
    obtain rfl : l = j := Fin.ext (by omega)
    refine (pay_read x0 x1 x2 p l).trans ?_
    unfold mkv
    have en : ∀ k, normed (fun i => x0 (ix2 p i)) (fun i => x1 (ix2 0 i)) k = normed (fun i => X (ix2 (trow t p) i)) (fun i => G (ix1 i)) k :=
      fun k => MidVal.normed_congr (h0 p) h1 k
    simp only [en, h2]
  exact View.allAt_nil _ _

/-- The narrow block of a tile holds its projected rows. -/
theorem out4_read (X : XArr) (G : GArr) (W : WArr) (x0 : Vec Ideal S256x1024 .f32) (x1 : Vec Ideal S1x1024 .f32) (x2 : Vec Ideal S1024x2048 .bf16) (t : Fin 4)
    (h0 : ∀ p l, x0 (ix2 p l) = X (ix2 (trow t p) l)) (h1 : ∀ l, x1 (ix2 0 l) = G (ix1 l)) (h2 : ∀ k j, x2 (ix2 k j) = W (ix2 k j))
    (p : Fin 256) (l : Fin 2048) : out0_4 (F := Ideal) x0 x1 x2 (ix2 p l) = mkv X G W (trow t p) l := by
  have e0 : View.ld x0 r0_0 = x0 := View.ld_unit_zero (by funext a; fin_cases a <;> rfl) ..
  have e1 : View.ld x1 r0_1 = x1 := View.ld_unit_zero (by funext a; fin_cases a <;> rfl) ..
  have e2 : View.ld x2 r0_2 = x2 := View.ld_unit_zero (by funext a; fin_cases a <;> rfl) ..
  unfold out0_4
  rw [e0, e1, e2]
  refine View.canon_eq_of_allAt _ _ _ (cover0_4 _ _) ?_
  refine View.allAt_cons_unit _ _ _ _ _ (fun x hx => ?_) ?_
  · have h0' : p.val = 0 + (x 0).val := hx 0
    have h1' : l.val = 0 + (x 1).val := hx 1
    obtain ⟨a, j, rfl⟩ : ∃ (a : Fin 256) (j : Fin 2048), x = ix2 a j := ⟨x 0, x 1, by funext k; fin_cases k <;> rfl⟩
    change p.val = 0 + a.val at h0'
    change l.val = 0 + j.val at h1'
    obtain rfl : p = a := Fin.ext (by omega)
    obtain rfl : l = j := Fin.ext (by omega)
    refine (pay_narrow x0 x1 x2 p l).trans ?_
    unfold mkv
    have en : ∀ k, normed (fun i => x0 (ix2 p i)) (fun i => x1 (ix2 0 i)) k = normed (fun i => X (ix2 (trow t p) i)) (fun i => G (ix1 i)) k :=
      fun k => MidVal.normed_congr (h0 p) h1 k
    simp only [en, h2]
  exact View.allAt_nil _ _

variable (m : (ℓ : Loc nD τ sig) → Buf (Elt Ideal) ℓ) (ρ : Dev nD → PrngReg)

/-- Device `c`'s rows of the memory, -/
abbrev aX (c : Dev nD) : XArr := m ((c : Thread nD τ).loc main_arg0)
/-- the scale of the norm, -/
abbrev aG (c : Dev nD) : GArr := m ((c : Thread nD τ).loc main_arg1)
/-- and the weights. -/
abbrev aW (c : Dev nD) : WArr := m ((c : Thread nD τ).loc main_arg2)

theorem V_g (c : Dev nD) (k : Fin 1024) : (V m c main_v0 : S1x1024.Idx → EReal) (ix2 0 k) = aG m c (ix1 k) := by
  have e : (V m c main_v0 : S1x1024.Idx → EReal) = broadcastInDim S1x1024 ![1] bcast_S1024_S1x1024_1 (aG m c) := by
    show StableHlo.after hostOps0 _ (Proc.devRef .tc main_v0) = _
    after_results
  rw [e]
  pointwise []

theorem V_w (c : Dev nD) (k : Fin 1024) (j : Fin 2048) : (V m c main_v1 : S1024x2048.Idx → EReal) (ix2 k j) = aW m c (ix2 k j) := by
  have e : (V m c main_v1 : S1024x2048.Idx → EReal) = aW m c := by
    show StableHlo.after hostOps0 _ (Proc.devRef .tc main_v1) = _
    after_results
    rfl
  rw [e]

theorem lt_points (t : Fin cfg0.N) : t.val < 4 := Nat.lt_of_lt_of_eq t.isLt N_0

/-- The number of a tile. -/
abbrev tno (t : Fin cfg0.N) : Fin 4 := ⟨t.val, lt_points t⟩

/-- A tile of the rows. -/
theorem b0_read (c : Dev nD) (t : Fin cfg0.N) (p : Fin 256) (l : Fin 1024) : (iblk m c 0 t : Vec Ideal S256x1024 .f32) (ix2 p l) = aX m c (ix2 (trow (tno t) p) l) := by
  have e := (by decide +kernel : ∀ t : Fin grid0.N, win0_0.index t 0 * win0_0.size 0 = 256 * t.val ∧ win0_0.index t 1 * win0_0.size 1 = 0) t
  have ht := lt_points t
  refine Eq.trans ?_ (congrFun (V_main_arg0 m c) (ix2 (trow (tno t) p) l))
  show (V m c main_arg0 : S1024x1024.Idx → EReal) (((cfg0.win 0).blk t).view.emb ((ix2 p l) : S256x1024.Idx)) = _
  refine congrArg (V m c main_arg0 : S1024x1024.Idx → EReal) (funext fun a => Fin.ext ?_)
  fin_cases a
  · show win0_0.index t 0 * win0_0.size 0 + 1 * p.val = 256 * t.val + p.val
    rw [e.1]; omega
  · show win0_0.index t 1 * win0_0.size 1 + 1 * l.val = l.val
    rw [e.2]; omega

/-- The scale of the norm. -/
theorem b1_read (c : Dev nD) (t : Fin cfg0.N) (l : Fin 1024) : (iblk m c 1 t : Vec Ideal S1x1024 .f32) (ix2 0 l) = aG m c (ix1 l) := by
  have e := (by decide +kernel : ∀ t : Fin grid0.N, win0_1.index t 0 * win0_1.size 0 = 0 ∧ win0_1.index t 1 * win0_1.size 1 = 0) t
  have ht := lt_points t
  refine Eq.trans ?_ (V_g m c l)
  show (V m c main_v0 : S1x1024.Idx → EReal) (((cfg0.win 1).blk t).view.emb ((ix2 0 l) : S1x1024.Idx)) = _
  refine congrArg (V m c main_v0 : S1x1024.Idx → EReal) (funext fun a => Fin.ext ?_)
  fin_cases a
  · show win0_1.index t 0 * win0_1.size 0 + 1 * 0 = 0
    rw [e.1]
  · show win0_1.index t 1 * win0_1.size 1 + 1 * l.val = l.val
    rw [e.2]; omega

/-- The weights. -/
theorem b2_read (c : Dev nD) (t : Fin cfg0.N) (k : Fin 1024) (j : Fin 2048) : (iblk m c 2 t : Vec Ideal S1024x2048 .bf16) (ix2 k j) = aW m c (ix2 k j) := by
  have e := (by decide +kernel : ∀ t : Fin grid0.N, win0_2.index t 0 * win0_2.size 0 = 0 ∧ win0_2.index t 1 * win0_2.size 1 = 0) t
  have ht := lt_points t
  refine Eq.trans ?_ (V_w m c k j)
  show (V m c main_v1 : S1024x2048.Idx → EReal) (((cfg0.win 2).blk t).view.emb ((ix2 k j) : S1024x2048.Idx)) = _
  refine congrArg (V m c main_v1 : S1024x2048.Idx → EReal) (funext fun a => Fin.ext ?_)
  fin_cases a
  · show win0_2.index t 0 * win0_2.size 0 + 1 * k.val = k.val
    rw [e.1]; omega
  · show win0_2.index t 1 * win0_2.size 1 + 1 * j.val = j.val
    rw [e.2]; omega

/-- The array of keys and values after the run. -/
theorem final3 (c : Dev nD) : (dats m 0 c).arrAt 3 cfg0.N = arr2 (fun (r : Fin 1024) (l : Fin 2048) => mkv (aX m c) (aG m c) (aW m c) r l) := by
  have ew := (by decide +kernel : ∀ t : Fin grid0.N, win0_3.index t 0 * win0_3.size 0 = 256 * t.val ∧ win0_3.index t 1 * win0_3.size 1 = 0)
  refine (dats m 0 c).arrAt_eq_of_covers 3 _ (by decide +kernel) fun t hf y => ?_
  have ht := lt_points t
  obtain ⟨p, l, rfl⟩ : ∃ (p : Fin 256) (l : Fin 2048), y = (ix2 p l : S256x2048.Idx) := ⟨y 0, y 1, by funext k; fin_cases k <;> rfl⟩
  show (dats m 0 c).after 3 t (ix2 p l) = _
  rw [after0_3]
  refine (out3_read (aX m c) (aG m c) (aW m c) _ _ _ (tno t) (b0_read m c t) (b1_read m c t) (b2_read m c t) p l).trans ?_
  have e0 : ((cfg0.win 3).blk t).view.emb (ix2 p l : S256x2048.Idx) = (ix2 (trow (tno t) p) l : S1024x2048.Idx) := by
    have e := ew t
    funext a
    apply Fin.ext
    fin_cases a
    · show win0_3.index t 0 * win0_3.size 0 + 1 * p.val = 256 * t.val + p.val
      rw [e.1]; omega
    · show win0_3.index t 1 * win0_3.size 1 + 1 * l.val = l.val
      rw [e.2]; omega
  exact (congrArg (arr2 (fun (r : Fin 1024) (l : Fin 2048) => mkv (aX m c) (aG m c) (aW m c) r l)) e0).symm

/-- The narrow array of keys and values after the run. -/
theorem final4 (c : Dev nD) : (dats m 0 c).arrAt 4 cfg0.N = arr2 (fun (r : Fin 1024) (l : Fin 2048) => mkv (aX m c) (aG m c) (aW m c) r l) := by
  have ew := (by decide +kernel : ∀ t : Fin grid0.N, win0_4.index t 0 * win0_4.size 0 = 256 * t.val ∧ win0_4.index t 1 * win0_4.size 1 = 0)
  refine (dats m 0 c).arrAt_eq_of_covers 4 _ (by decide +kernel) fun t hf y => ?_
  have ht := lt_points t
  obtain ⟨p, l, rfl⟩ : ∃ (p : Fin 256) (l : Fin 2048), y = (ix2 p l : S256x2048.Idx) := ⟨y 0, y 1, by funext k; fin_cases k <;> rfl⟩
  show (dats m 0 c).after 4 t (ix2 p l) = _
  rw [after0_4]
  refine (out4_read (aX m c) (aG m c) (aW m c) _ _ _ (tno t) (b0_read m c t) (b1_read m c t) (b2_read m c t) p l).trans ?_
  have e0 : ((cfg0.win 4).blk t).view.emb (ix2 p l : S256x2048.Idx) = (ix2 (trow (tno t) p) l : S1024x2048.Idx) := by
    have e := ew t
    funext a
    apply Fin.ext
    fin_cases a
    · show win0_4.index t 0 * win0_4.size 0 + 1 * p.val = 256 * t.val + p.val
      rw [e.1]; omega
    · show win0_4.index t 1 * win0_4.size 1 + 1 * l.val = l.val
      rw [e.2]; omega
  exact (congrArg (arr2 (fun (r : Fin 1024) (l : Fin 2048) => mkv (aX m c) (aG m c) (aW m c) r l)) e0).symm

end Cert.MkvVal

end
-- ==== Proof.MkvClaim.lean ====
/- The claim about the projection of the memory, put together. -/
module

public import proofs.«01_k».proof.Defs
public import proofs.«01_k».proof.Proof.MkvValue
public import proofs.«01_k».proof.Proof.Gen.Reference5Ideal.Run
public import Idealize.ShloMosaic.Lib.Quiescent
public import Idealize.ShloMosaic.Lib.Claim

@[expose] public section

set_option maxRecDepth 16384

noncomputable section

namespace Cert.MkvVal

open Idealize.ShloMosaic.TcCoe Idealize.SL.Sem Idealize.ShloMosaic

open Cert.ProjVal (arr2 arr_eq)

/-- The reference of the memory's projection runs, leaves its arguments as they were and every counter at zero. -/
theorem reference_frame : Cert.quiescent_Reference5Ideal (hReference5Ideal := Cert.Reference5Ideal.Gen.facts) := fun m g _ =>
  (θ_run _ _ _).mono (fun r h => ⟨fun c => (h c).2.2, sem_eq_zero_of_no_sems (by decide) r.2⟩)
    (Cert.Reference5Ideal.Value.run m g)

open Cert.Reference5Ideal in
/-- The kernel that projects the memory and its reference leave the same two arrays, from all arguments. -/
theorem memkv_algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => arr2 (fun (r : Fin 1024) (l : Fin 2048) => mkv (aX m c) (aG m c) (aW m c) r l), fun c => arr2 (fun (r : Fin 1024) (l : Fin 2048) => mkv (aX m c) (aG m c) (aW m c) r l), ?_, ?_⟩
  · refine (θ_run _ _ _).mono (fun r h c => ?_) (Cert.Kernel5Ideal.Value.run_blocks m ρ)
    obtain ⟨h0, h1, hr⟩ := h c
    exact ⟨h0.trans (final3 m c), h1.trans (final4 m c), hr⟩
  · refine (θ_run _ _ _).mono (fun r h c => ?_) (Cert.Reference5Ideal.Value.run m' ρ')
    obtain ⟨h0, h1, hr⟩ := h c
    obtain ⟨g0, g1, g2⟩ := hagree c
    refine ⟨?_, ?_, hr⟩
    · refine h0.trans ((Cert.Reference5Ideal.Read.val_main_v13_eq _ _ _).trans ?_)
      refine (arr_eq _ _ (ref_mkv _ _ _)).trans ?_
      show arr2 (fun (r : Fin 1024) (l : Fin 2048) => mkv (m' (c.tc.loc main_arg0)) (m' (c.tc.loc main_arg1)) (m' (c.tc.loc main_arg2)) r l) = arr2 (fun (r : Fin 1024) (l : Fin 2048) => mkv (aX m c) (aG m c) (aW m c) r l)
      rw [g0, g1, g2]
    · refine h1.trans ((Cert.Reference5Ideal.Read.val_main_v14_eq _ _ _).trans ?_)
      refine (arr_eq _ _ (ref_narrow _ _ _)).trans ?_
      show arr2 (fun (r : Fin 1024) (l : Fin 2048) => mkv (m' (c.tc.loc main_arg0)) (m' (c.tc.loc main_arg1)) (m' (c.tc.loc main_arg2)) r l) = arr2 (fun (r : Fin 1024) (l : Fin 2048) => mkv (aX m c) (aG m c) (aW m c) r l)
      rw [g0, g1, g2]

end Cert.MkvVal

end
-- ==== Proof.StepSpec.lean ====
/- What the input projection of the rows at position 16384 leaves, as functions of its arguments. -/
module

public import proofs.«01_k».proof.Proof.FfnSpec
public import proofs.«01_k».proof.Proof.ProjSpec

@[expose] public section

noncomputable section

namespace Cert.StepVal

open Idealize.ShloMosaic
open Cert.FfnVal hiding WArr BArr
open Cert.ProjVal (ang rope gelu mean lnorm GArr WArr LArr SArr BArr)

/-- The rows: one per sequence. -/
abbrev XArr := (⟨2, ![32, 1024]⟩ : Shape).Idx → EReal

variable (X : XArr) (G : GArr) (W : WArr) (L : LArr) (S : SArr) (B : BArr)

/-- The projection of a row to column `j`; nothing past the last column. -/
def proj (r : Fin 32) (j : ℕ) : EReal :=
  if h : j < 2840 then ∑ k, normed (fun i => X (ix2 r i)) (fun i => G (ix1 i)) k * W (ix2 k ⟨j, h⟩) else 0
/-- The values that are mixed over a chunk. -/
def vgm (r : Fin 32) (c : Fin 256) : EReal :=
  lnorm (fun k => gelu (proj X G W r (256 + k.val))) (fun k => L (ix2 0 k)) (fun k => L (ix2 1 k)) c
/-- The gated values of a row, which stands first in its chunk. -/
def ogm (r : Fin 32) (c : Fin 256) : EReal :=
  gelu (proj X G W r c.val) * (vgm X G W L r c * S (ix3 ⟨c.val / 64, by omega⟩ 0 0) + B (ix2 ⟨c.val / 64, by omega⟩ 0))
/-- The query of head `h`, turned and scaled. -/
def query (r : Fin 32) (h d : ℕ) : EReal :=
  rope (fun e => proj X G W r (512 + 64 * h + e)) 16384 d * Ideal.ofBits .f32 0x3E000000#32
/-- A row's queries, each head's in its half of 128 columns and zeros in the other. -/
def qpad (r : Fin 32) (c : Fin 1024) : EReal :=
  if c.val < 512 then (if c.val % 128 < 64 then query X G W r (c.val / 128) (c.val % 128) else 0)
  else (if c.val % 128 < 64 then 0 else query X G W r (c.val / 128) (c.val % 128 - 64))
/-- The keys, turned, and the values of branch `b`. -/
def kv (b : ℕ) (r : Fin 32) (c : ℕ) : EReal :=
  if c < 128 then rope (fun e => proj X G W r (1024 + 256 * b + 64 * (c / 64) + e)) 16384 (c % 64)
  else proj X G W r (1024 + 256 * b + c)
/-- The keys and values of the last two branches side by side. -/
def kvb (r : Fin 32) (c : Fin 512) : EReal :=
  if c.val < 256 then kv X G W 1 r c.val else kv X G W 2 r (c.val - 256)
/-- The gates of the branches, a branch's heads side by side. -/
def gates (r : Fin 32) (c : Fin 128) : EReal :=
  Ideal.logistic (if c.val < 24 then proj X G W r (1792 + 3 * (c.val % 8) + c.val / 8) else 0)
/-- What the recurrence takes. -/
def zrw (r : Fin 32) (c : Fin 1024) : EReal := proj X G W r (1816 + c.val)
/-- A row's queries, head by head. -/
def qrow (r : Fin 32) (c : Fin 512) : EReal := query X G W r (c.val / 64) (c.val % 64)

end Cert.StepVal

end
-- ==== Proof.StepPay.lean ====
/- The kernel of the input projection of the rows at position 16384 reads, payload by payload. -/
module

public import proofs.«01_k».proof.Proof.ProjPay
public import proofs.«01_k».proof.Proof.StepSpec
public import proofs.«01_k».proof.Proof.Gen.Kernel6Ideal.Skeleton

@[expose] public section

set_option maxRecDepth 16384

set_option backward.proofsInPublic true

noncomputable section

namespace Cert.StepVal

open Cert.Kernel6Ideal Cert.Kernel6Ideal.Gen Idealize.ShloMosaic
open Cert.FfnVal hiding WArr BArr
open Cert.ProjVal (ang rope gelu mean lnorm GArr WArr LArr SArr BArr rope_congr)

theorem turn_bit (p : Fin 32) (a : Fin 128) : (k0_pay16 (iota .tc S32x128 32 [1] iota_S32x128_d1_w32) (Scalar.select (Scalar.cmpi .eq 64#32 0#32) 1#32 64#32) k0_pay15) (ix2 p a) = MidVal.bit (a.val % 64 < 32) := by
  pointwise [k0_pay16, k0_pay15]
  revert a; decide +kernel

theorem half_bit (p : Fin 32) (a : Fin 128) : k0_pay17 (ix2 p a) = MidVal.bit (a.val < 64) := by
  pointwise [k0_pay17]
  exact MidVal.lane_bit a

/-- A column of the projection of a row. -/
theorem pay5_read (x : Vec Ideal S32x1024 .f32) (g : Vec Ideal S1x1024 .f32) (w : Vec Ideal S1024x2944 .bf16) (p : Fin 32) (a : Fin 2944) :
    k0_pay5 (F := Ideal) x g w (ix2 p a) = ∑ k, normed (fun i => x (ix2 p i)) (fun i => g (ix2 0 i)) k * w (ix2 k a) := by
  pointwise [k0_pay5, dot_S32x1024_S1024x2944_S32x2944_1_0_0_1_n_n]
  rfl

theorem pay6_read (x : Vec Ideal S32x1024 .f32) (g : Vec Ideal S1x1024 .f32) (w : Vec Ideal S1024x2944 .bf16) (p : Fin 32) (a : Fin 512) :
    k0_pay6 (F := Ideal) x g w (ix2 p a) = gelu (k0_pay5 (F := Ideal) x g w (ix2 p ⟨a.val, by omega⟩)) := by
  pointwise [k0_pay6]
  generalize k0_pay5 (F := Ideal) x g w (ix2 p ⟨a.val, by omega⟩) = y
  unfold gelu
  rw [mul_assoc y y y]

theorem pay7_read (x : Vec Ideal S32x1024 .f32) (g : Vec Ideal S1x1024 .f32) (w : Vec Ideal S1024x2944 .bf16) (p : Fin 32) (a : Fin 256) :
    k0_pay7 (F := Ideal) x g w (ix2 p a) = gelu (k0_pay5 (F := Ideal) x g w (ix2 p ⟨a.val, by omega⟩)) := by
  pointwise [k0_pay7]
  exact pay6_read x g w p ⟨a.val, by omega⟩

theorem pay8_read (x : Vec Ideal S32x1024 .f32) (g : Vec Ideal S1x1024 .f32) (w : Vec Ideal S1024x2944 .bf16) (p : Fin 32) (a : Fin 256) :
    k0_pay8 (F := Ideal) x g w (ix2 p a) = gelu (k0_pay5 (F := Ideal) x g w (ix2 p ⟨256 + a.val, by omega⟩)) := by
  pointwise [k0_pay8]
  exact pay6_read x g w p ⟨256 + a.val, by omega⟩

/-- The normed values. -/
theorem pay11_read (x : Vec Ideal S32x1024 .f32) (g : Vec Ideal S1x1024 .f32) (w : Vec Ideal S1024x2944 .bf16) (l l' : Vec Ideal S1x256 .f32) (p : Fin 32) (a : Fin 256) :
    k0_pay11 (F := Ideal) (k0_pay8 x g w) (k0_pay9 x g w) (k0_pay10 x g w) l l' (ix2 p a)
      = lnorm (fun k => gelu (k0_pay5 (F := Ideal) x g w (ix2 p ⟨256 + k.val, by omega⟩))) (fun k => l (ix2 0 k)) (fun k => l' (ix2 0 k)) a := by
  pointwise [k0_pay11, k0_pay10, k0_pay9]
  simp only [pay8_read]
  rfl

/-- The gated values. -/
theorem pay12_read (u v : FVec Ideal S32x256 .f32) (m : FVec Ideal S32x1 .f32) (d : FVec Ideal S32x256 .f32) (l l' ws b : Vec Ideal S1x256 .f32) (p : Fin 32) (a : Fin 256) :
    k0_pay12 (F := Ideal) u v m d l l' ws b (ix2 p a) = u (ix2 p a) * (k0_pay11 (F := Ideal) v m d l l' (ix2 p a) * ws (ix2 0 a) + b (ix2 0 a)) := by
  pointwise [k0_pay12]

section Turn
variable (z : FVec Ideal S32x2944 .f32) (t u : FVec Ideal S32x128 .f32) (Z : ℕ → EReal) (s : ℕ) (p : Fin 32)
  (hz : ∀ (j : ℕ) (h : j < 1792), z (ix2 p ⟨j, by omega⟩) = Z j)
  (ht : ∀ a, t (ix2 p a) = Ideal.cos (ang s (a.val % 32)))
  (hu : ∀ a, u (ix2 p a) = if a.val % 64 < 32 then -Ideal.sin (ang s (a.val % 64)) else Ideal.sin (ang s (a.val % 64 - 32)))
include hz ht hu

theorem turned (b : ℕ) (a : Fin 128) (hb : b + 128 ≤ 1792) :
    z (ix2 p ⟨b + a.val, by omega⟩) * t (ix2 p a) + Scalar.select ((k0_pay16 (iota .tc S32x128 32 [1] iota_S32x128_d1_w32) (Scalar.select (Scalar.cmpi .eq 64#32 0#32) 1#32 64#32) k0_pay15) (ix2 p a)) (z (ix2 p ⟨b + (a.val + 128 - 96) % 128, by omega⟩)) (z (ix2 p ⟨b + (a.val + 128 - 32) % 128, by omega⟩)) * u (ix2 p a)
      = rope (fun e => Z (b + 64 * (a.val / 64) + e)) s (a.val % 64) := by
  have ha := a.isLt
  rw [turn_bit, MidVal.select_bit, ht, hu, hz _ (by omega)]
  unfold rope
  by_cases h : a.val % 64 < 32
  · rw [if_pos h, if_pos h, if_pos h, hz _ (by omega), mul_neg, ← sub_eq_add_neg]
    exact congrArg₂ (· - ·) (congrArg₂ (· * ·) (congrArg Z (by omega)) (congrArg (fun k => Ideal.cos (ang s k)) (by omega))) (congrArg (· * _) (congrArg Z (by omega)))
  · rw [if_neg h, if_neg h, if_neg h, hz _ (by omega)]
    exact congrArg₂ (· + ·) (congrArg₂ (· * ·) (congrArg Z (by omega)) (congrArg (fun k => Ideal.cos (ang s k)) (by omega))) (congrArg (· * _) (congrArg Z (by omega)))

theorem pay18_read (a : Fin 128) : k0_pay18 (F := Ideal) z t u (iota .tc S32x128 32 [1] iota_S32x128_d1_w32) (Scalar.select (Scalar.cmpi .eq 64#32 0#32) 1#32 64#32) k0_pay15 (ix2 p a) = rope (fun e => Z (512 + 64 * (a.val / 64) + e)) s (a.val % 64) * Ideal.ofBits .f32 0x3E000000#32 := by
  pointwise [k0_pay18]
  exact congrArg (· * _) (turned z t u Z s p hz ht hu 512 a (by decide))

theorem pay21_read (a : Fin 128) : k0_pay21 (F := Ideal) z t u (k0_pay16 (iota .tc S32x128 32 [1] iota_S32x128_d1_w32) (Scalar.select (Scalar.cmpi .eq 64#32 0#32) 1#32 64#32) k0_pay15) (ix2 p a) = rope (fun e => Z (640 + 64 * (a.val / 64) + e)) s (a.val % 64) * Ideal.ofBits .f32 0x3E000000#32 := by
  pointwise [k0_pay21]
  exact congrArg (· * _) (turned z t u Z s p hz ht hu 640 a (by decide))

theorem pay27_read (a : Fin 128) : k0_pay27 (F := Ideal) u (k0_pay25 z (k0_pay16 (iota .tc S32x128 32 [1] iota_S32x128_d1_w32) (Scalar.select (Scalar.cmpi .eq 64#32 0#32) 1#32 64#32) k0_pay15)) (k0_pay26 z t) (ix2 p a) = rope (fun e => Z (768 + 64 * (a.val / 64) + e)) s (a.val % 64) * Ideal.ofBits .f32 0x3E000000#32 := by
  pointwise [k0_pay27, k0_pay25, k0_pay26, k0_pay24]
  exact congrArg (· * _) (turned z t u Z s p hz ht hu 768 a (by decide))

theorem pay30_read (a : Fin 128) : k0_pay30 (F := Ideal) z t u (k0_pay16 (iota .tc S32x128 32 [1] iota_S32x128_d1_w32) (Scalar.select (Scalar.cmpi .eq 64#32 0#32) 1#32 64#32) k0_pay15) (ix2 p a) = rope (fun e => Z (896 + 64 * (a.val / 64) + e)) s (a.val % 64) * Ideal.ofBits .f32 0x3E000000#32 := by
  pointwise [k0_pay30]
  exact congrArg (· * _) (turned z t u Z s p hz ht hu 896 a (by decide))

theorem pay19_read (a : Fin 128) : k0_pay19 (F := Ideal) k0_pay17 (k0_pay18 z t u (iota .tc S32x128 32 [1] iota_S32x128_d1_w32) (Scalar.select (Scalar.cmpi .eq 64#32 0#32) 1#32 64#32) k0_pay15) (ix2 p a) = if a.val < 64 then rope (fun e => Z (512 + e)) s a.val * Ideal.ofBits .f32 0x3E000000#32 else 0 := by
  pointwise [k0_pay19]
  have ha := a.isLt
  rw [half_bit, MidVal.select_bit]
  by_cases h : a.val < 64
  · rw [if_pos h, if_pos h]
    exact (pay18_read z t u Z s p hz ht hu a).trans (congrArg (· * _) (rope_congr (fun e => congrArg Z (by
      show 512 + 64 * (a.val / 64) + e = 512 + e; omega)) s (by show a.val % 64 = _; omega)))
  · rw [if_neg h, if_neg h]

theorem pay20_read (a : Fin 128) : k0_pay20 (F := Ideal) k0_pay17 (k0_pay18 z t u (iota .tc S32x128 32 [1] iota_S32x128_d1_w32) (Scalar.select (Scalar.cmpi .eq 64#32 0#32) 1#32 64#32) k0_pay15) (ix2 p a) = if a.val < 64 then rope (fun e => Z (576 + e)) s a.val * Ideal.ofBits .f32 0x3E000000#32 else 0 := by
  pointwise [k0_pay20]
  have ha := a.isLt
  rw [half_bit, MidVal.select_bit]
  by_cases h : a.val < 64
  · rw [if_pos h, if_pos h]
    exact (pay18_read z t u Z s p hz ht hu ⟨(a.val + 128 - 64) % 128, Nat.mod_lt _ (by decide)⟩).trans (congrArg (· * _) (rope_congr (fun e => congrArg Z (by
      show 512 + 64 * (((a.val + 128 - 64) % 128) / 64) + e = 576 + e; omega)) s (by show ((a.val + 128 - 64) % 128) % 64 = _; omega)))
  · rw [if_neg h, if_neg h]

theorem pay22_read (a : Fin 128) : k0_pay22 (F := Ideal) z t u (k0_pay16 (iota .tc S32x128 32 [1] iota_S32x128_d1_w32) (Scalar.select (Scalar.cmpi .eq 64#32 0#32) 1#32 64#32) k0_pay15) k0_pay17 (ix2 p a) = if a.val < 64 then rope (fun e => Z (640 + e)) s a.val * Ideal.ofBits .f32 0x3E000000#32 else 0 := by
  pointwise [k0_pay22]
  have ha := a.isLt
  rw [half_bit, MidVal.select_bit]
  by_cases h : a.val < 64
  · rw [if_pos h, if_pos h]
    exact (pay21_read z t u Z s p hz ht hu a).trans (congrArg (· * _) (rope_congr (fun e => congrArg Z (by
      show 640 + 64 * (a.val / 64) + e = 640 + e; omega)) s (by show a.val % 64 = _; omega)))
  · rw [if_neg h, if_neg h]

theorem pay23_read (a : Fin 128) : k0_pay23 (F := Ideal) z t u (k0_pay16 (iota .tc S32x128 32 [1] iota_S32x128_d1_w32) (Scalar.select (Scalar.cmpi .eq 64#32 0#32) 1#32 64#32) k0_pay15) k0_pay17 (ix2 p a) = if a.val < 64 then rope (fun e => Z (704 + e)) s a.val * Ideal.ofBits .f32 0x3E000000#32 else 0 := by
  pointwise [k0_pay23]
  have ha := a.isLt
  rw [half_bit, MidVal.select_bit]
  by_cases h : a.val < 64
  · rw [if_pos h, if_pos h]
    exact (pay21_read z t u Z s p hz ht hu ⟨(a.val + 128 - 64) % 128, Nat.mod_lt _ (by decide)⟩).trans (congrArg (· * _) (rope_congr (fun e => congrArg Z (by
      show 640 + 64 * (((a.val + 128 - 64) % 128) / 64) + e = 704 + e; omega)) s (by show ((a.val + 128 - 64) % 128) % 64 = _; omega)))
  · rw [if_neg h, if_neg h]

theorem pay28_read (a : Fin 128) : k0_pay28 (F := Ideal) u k0_pay17 (k0_pay25 z (k0_pay16 (iota .tc S32x128 32 [1] iota_S32x128_d1_w32) (Scalar.select (Scalar.cmpi .eq 64#32 0#32) 1#32 64#32) k0_pay15)) (k0_pay26 z t) (ix2 p a) = if a.val < 64 then 0 else rope (fun e => Z (768 + e)) s (a.val - 64) * Ideal.ofBits .f32 0x3E000000#32 := by
  pointwise [k0_pay28]
  have ha := a.isLt
  rw [half_bit, MidVal.select_bit]
  by_cases h : a.val < 64
  · rw [if_pos h, if_pos h]

  · rw [if_neg h, if_neg h]
    exact (pay27_read z t u Z s p hz ht hu ⟨(a.val + 128 - 64) % 128, Nat.mod_lt _ (by decide)⟩).trans (congrArg (· * _) (rope_congr (fun e => congrArg Z (by
      show 768 + 64 * (((a.val + 128 - 64) % 128) / 64) + e = 768 + e; omega)) s (by show ((a.val + 128 - 64) % 128) % 64 = _; omega)))

theorem pay29_read (a : Fin 128) : k0_pay29 (F := Ideal) u k0_pay17 (k0_pay25 z (k0_pay16 (iota .tc S32x128 32 [1] iota_S32x128_d1_w32) (Scalar.select (Scalar.cmpi .eq 64#32 0#32) 1#32 64#32) k0_pay15)) (k0_pay26 z t) (ix2 p a) = if a.val < 64 then 0 else rope (fun e => Z (832 + e)) s (a.val - 64) * Ideal.ofBits .f32 0x3E000000#32 := by
  pointwise [k0_pay29]
  have ha := a.isLt
  rw [half_bit, MidVal.select_bit]
  by_cases h : a.val < 64
  · rw [if_pos h, if_pos h]

  · rw [if_neg h, if_neg h]
    exact (pay27_read z t u Z s p hz ht hu a).trans (congrArg (· * _) (rope_congr (fun e => congrArg Z (by
      show 768 + 64 * (a.val / 64) + e = 832 + e; omega)) s (by show a.val % 64 = _; omega)))

theorem pay31_read (a : Fin 128) : k0_pay31 (F := Ideal) z t u (k0_pay16 (iota .tc S32x128 32 [1] iota_S32x128_d1_w32) (Scalar.select (Scalar.cmpi .eq 64#32 0#32) 1#32 64#32) k0_pay15) k0_pay17 (ix2 p a) = if a.val < 64 then 0 else rope (fun e => Z (896 + e)) s (a.val - 64) * Ideal.ofBits .f32 0x3E000000#32 := by
  pointwise [k0_pay31]
  have ha := a.isLt
  rw [half_bit, MidVal.select_bit]
  by_cases h : a.val < 64
  · rw [if_pos h, if_pos h]

  · rw [if_neg h, if_neg h]
    exact (pay30_read z t u Z s p hz ht hu ⟨(a.val + 128 - 64) % 128, Nat.mod_lt _ (by decide)⟩).trans (congrArg (· * _) (rope_congr (fun e => congrArg Z (by
      show 896 + 64 * (((a.val + 128 - 64) % 128) / 64) + e = 896 + e; omega)) s (by show ((a.val + 128 - 64) % 128) % 64 = _; omega)))

theorem pay32_read (a : Fin 128) : k0_pay32 (F := Ideal) z t u (k0_pay16 (iota .tc S32x128 32 [1] iota_S32x128_d1_w32) (Scalar.select (Scalar.cmpi .eq 64#32 0#32) 1#32 64#32) k0_pay15) k0_pay17 (ix2 p a) = if a.val < 64 then 0 else rope (fun e => Z (960 + e)) s (a.val - 64) * Ideal.ofBits .f32 0x3E000000#32 := by
  pointwise [k0_pay32]
  have ha := a.isLt
  rw [half_bit, MidVal.select_bit]
  by_cases h : a.val < 64
  · rw [if_pos h, if_pos h]

  · rw [if_neg h, if_neg h]
    exact (pay30_read z t u Z s p hz ht hu a).trans (congrArg (· * _) (rope_congr (fun e => congrArg Z (by
      show 896 + 64 * (a.val / 64) + e = 960 + e; omega)) s (by show a.val % 64 = _; omega)))

theorem pay33_read (a : Fin 128) : k0_pay33 (F := Ideal) z t u (k0_pay16 (iota .tc S32x128 32 [1] iota_S32x128_d1_w32) (Scalar.select (Scalar.cmpi .eq 64#32 0#32) 1#32 64#32) k0_pay15) (ix2 p a) = rope (fun e => Z (1024 + 256 * 0 + 64 * (a.val / 64) + e)) s (a.val % 64) := by
  pointwise [k0_pay33]
  exact turned z t u Z s p hz ht hu 1024 a (by decide)

theorem pay35_read (a : Fin 128) : k0_pay35 (F := Ideal) z t u (k0_pay16 (iota .tc S32x128 32 [1] iota_S32x128_d1_w32) (Scalar.select (Scalar.cmpi .eq 64#32 0#32) 1#32 64#32) k0_pay15) (ix2 p a) = rope (fun e => Z (1024 + 256 * 1 + 64 * (a.val / 64) + e)) s (a.val % 64) := by
  pointwise [k0_pay35]
  exact turned z t u Z s p hz ht hu 1280 a (by decide)

theorem pay39_read (a : Fin 128) : k0_pay39 (F := Ideal) z t u (k0_pay16 (iota .tc S32x128 32 [1] iota_S32x128_d1_w32) (Scalar.select (Scalar.cmpi .eq 64#32 0#32) 1#32 64#32) k0_pay15) (ix2 p a) = rope (fun e => Z (1024 + 256 * 2 + 64 * (a.val / 64) + e)) s (a.val % 64) := by
  pointwise [k0_pay39]
  exact turned z t u Z s p hz ht hu 1536 a (by decide)

theorem pay37_read (a : Fin 128) : k0_pay37 (F := Ideal) z t u (k0_pay16 (iota .tc S32x128 32 [1] iota_S32x128_d1_w32) (Scalar.select (Scalar.cmpi .eq 64#32 0#32) 1#32 64#32) k0_pay15) (ix2 p a) = rope (fun e => Z (1024 + 256 * 1 + 64 * (a.val / 64) + e)) s (a.val % 64) := by
  pointwise [k0_pay37, k0_pay35]
  exact turned z t u Z s p hz ht hu 1280 a (by decide)

theorem pay1_read (a : Fin 128) : k0_pay1 (F := Ideal) (k0_pay39 z t u (k0_pay16 (iota .tc S32x128 32 [1] iota_S32x128_d1_w32) (Scalar.select (Scalar.cmpi .eq 64#32 0#32) 1#32 64#32) k0_pay15)) (ix2 p a) = rope (fun e => Z (1024 + 256 * 2 + 64 * (a.val / 64) + e)) s (a.val % 64) := by
  pointwise [k0_pay1]
  exact pay39_read z t u Z s p hz ht hu a

theorem pay34_read (a : Fin 128) : k0_pay34 (F := Ideal) z (ix2 p a) = Z (1024 + 256 * 0 + (128 + a.val)) := by
  pointwise [k0_pay34]
  exact (hz (1152 + a.val) (by omega)).trans (congrArg Z (by omega))

theorem pay36_read (a : Fin 128) : k0_pay36 (F := Ideal) z (ix2 p a) = Z (1024 + 256 * 1 + (128 + a.val)) := by
  pointwise [k0_pay36]
  exact (hz (1408 + a.val) (by omega)).trans (congrArg Z (by omega))

theorem pay40_read (a : Fin 128) : k0_pay40 (F := Ideal) z (ix2 p a) = Z (1024 + 256 * 2 + (128 + a.val)) := by
  pointwise [k0_pay40]
  exact (hz (1664 + a.val) (by omega)).trans (congrArg Z (by omega))

theorem pay38_read (a : Fin 128) : k0_pay38 (F := Ideal) z (ix2 p a) = Z (1024 + 256 * 1 + (128 + a.val)) := by
  pointwise [k0_pay38, k0_pay36]
  exact (hz (1408 + a.val) (by omega)).trans (congrArg Z (by omega))

theorem pay2_read (a : Fin 128) : k0_pay2 (F := Ideal) (k0_pay40 z) (ix2 p a) = Z (1024 + 256 * 2 + (128 + a.val)) := by
  pointwise [k0_pay2]
  exact pay40_read z t u Z s p hz ht hu a

end Turn

theorem pay4_read (z : FVec Ideal S32x2944 .f32) (p : Fin 32) (a : Fin 128) : k0_pay4 (F := Ideal) z (ix2 p a) = Ideal.logistic (z (ix2 p ⟨2816 + a.val, by omega⟩)) := by
  pointwise [k0_pay4]

theorem pay3_read (z : FVec Ideal S32x2944 .f32) (p : Fin 32) (a : Fin 1024) : k0_pay3 (F := Ideal) z (ix2 p a) = z (ix2 p ⟨1792 + a.val, by omega⟩) := by
  pointwise [k0_pay3]

theorem pay13_read (z : FVec Ideal S32x128 .f32) : k0_pay13 (F := Ideal) z = z := by
  funext y
  obtain ⟨p, a, rfl⟩ : ∃ (p : Fin 32) (a : Fin 128), y = ix2 p a := ⟨y 0, y 1, by funext k; fin_cases k <;> rfl⟩
  pointwise [k0_pay13]

theorem pay14_read (z : FVec Ideal S32x128 .f32) : k0_pay14 (F := Ideal) z = z := by
  funext y
  obtain ⟨p, a, rfl⟩ : ∃ (p : Fin 32) (a : Fin 128), y = ix2 p a := ⟨y 0, y 1, by funext k; fin_cases k <;> rfl⟩
  pointwise [k0_pay14]

end Cert.StepVal

end
-- ==== Proof.StepTile.lean ====
/- What the buffers of the kernel of the input projection of the rows at position 16384 hold. -/
module

public import proofs.«01_k».proof.Proof.StepPay
public import proofs.«01_k».proof.Proof.ProjTile
public import proofs.«01_k».proof.Proof.Gen.Kernel6Ideal.Frame
public import Idealize.ShloMosaic.Lib.Pipeline.ValueKit.Tiles

@[expose] public section

set_option maxRecDepth 16384

noncomputable section

namespace Cert.StepVal

open Cert.Kernel6Ideal Cert.Kernel6Ideal.Gen Idealize.ShloMosaic
open Cert.FfnVal hiding WArr BArr
open Cert.ProjVal (ang rope gelu mean lnorm GArr WArr LArr SArr BArr rope_congr col colw)

variable (X : XArr) (G : GArr) (W : WArr) (L : LArr) (S : SArr) (B : BArr)
variable (x0 : Vec Ideal S32x1024 .f32) (x1 : Vec Ideal S1x1024 .f32) (x2 : Vec Ideal S1024x2944 .bf16) (x3 x4 : Vec Ideal S32x128 .f32)
  (x5 : Vec Ideal S2x256 .f32) (x6 x7 : Vec Ideal S1x256 .f32)

/-- The blocks hold the arrays. -/
structure Holds : Prop where
  h0 : ∀ (p : Fin 32) (l : Fin 1024), x0 (ix2 p l) = X (ix2 p l)
  h1 : ∀ l : Fin 1024, x1 (ix2 0 l) = G (ix1 l)
  h2 : ∀ (k : Fin 1024) (j : Fin 2944), x2 (ix2 k j) = colw W k (col j.val)
  h3 : ∀ (p : Fin 32) (a : Fin 128), x3 (ix2 p a) = Ideal.cos (ang 16384 (a.val % 32))
  h4 : ∀ (p : Fin 32) (a : Fin 128), x4 (ix2 p a) =
    if a.val % 64 < 32 then -Ideal.sin (ang 16384 (a.val % 64)) else Ideal.sin (ang 16384 (a.val % 64 - 32))
  h5 : ∀ (k : Fin 2) (l : Fin 256), x5 (ix2 k l) = L (ix2 k l)
  h6 : ∀ l : Fin 256, x6 (ix2 0 l) = S (ix3 ⟨l.val / 64, by omega⟩ 0 0)
  h7 : ∀ l : Fin 256, x7 (ix2 0 l) = B (ix2 ⟨l.val / 64, by omega⟩ 0)

variable {X G W L S B x0 x1 x2 x3 x4 x5 x6 x7}

section Tile
variable (H : Holds X G W L S B x0 x1 x2 x3 x4 x5 x6 x7)
include H

theorem z_at (p : Fin 32) (j : Fin 2944) : k0_pay5 (F := Ideal) (View.ld x0 r0_0) (View.ld x1 r0_1) (View.ld x2 r0_2) (ix2 p j) = proj X G W p (col j.val) := by
  have e0 : View.ld x0 r0_0 = x0 := View.ld_unit_zero (by funext a; fin_cases a <;> rfl) ..
  have e1 : View.ld x1 r0_1 = x1 := View.ld_unit_zero (by funext a; fin_cases a <;> rfl) ..
  have e2 : View.ld x2 r0_2 = x2 := View.ld_unit_zero (by funext a; fin_cases a <;> rfl) ..
  rw [e0, e1, e2, pay5_read]
  unfold proj
  have en : ∀ k, normed (fun i => x0 (ix2 p i)) (fun i => x1 (ix2 0 i)) k = normed (fun i => X (ix2 p i)) (fun i => G (ix1 i)) k :=
    fun k => MidVal.normed_congr (H.h0 p) H.h1 k
  simp only [en, H.h2, colw]
  by_cases h : col j.val < 2840
  · simp only [dif_pos h]
  · simp only [dif_neg h, mul_zero, Finset.sum_const_zero]

/-- A column of the projection of a row, where the packing leaves the columns in place. -/
theorem z_low (p : Fin 32) (j : ℕ) (h : j < 1792) : k0_pay41 (F := Ideal) x0 x1 x2 x3 x4 x5 x6 x7 (ix2 p ⟨j, by omega⟩) = proj X G W p j := by
  refine (z_at H p ⟨j, by omega⟩).trans (congrArg (proj X G W p) ?_)
  unfold col
  rw [if_pos h]

theorem cos_at (p : Fin 32) (a : Fin 128) : k0_pay46 (F := Ideal) x0 x1 x2 x3 x4 x5 x6 x7 (ix2 p a) = Ideal.cos (ang 16384 (a.val % 32)) := by
  have e : View.ld x3 r0_7 = x3 := View.ld_unit_zero (by funext a; fin_cases a <;> rfl) ..
  unfold k0_pay46
  rw [e, pay13_read]
  exact H.h3 p a

theorem sin_at (p : Fin 32) (a : Fin 128) : k0_pay47 (F := Ideal) x0 x1 x2 x3 x4 x5 x6 x7 (ix2 p a) =
    if a.val % 64 < 32 then -Ideal.sin (ang 16384 (a.val % 64)) else Ideal.sin (ang 16384 (a.val % 64 - 32)) := by
  have e : View.ld x4 r0_7 = x4 := View.ld_unit_zero (by funext a; fin_cases a <;> rfl) ..
  unfold k0_pay47
  rw [e, pay14_read]
  exact H.h4 p a

theorem u_at (p : Fin 32) (c : Fin 256) : k0_pay7 (F := Ideal) (View.ld x0 r0_0) (View.ld x1 r0_1) (View.ld x2 r0_2) (ix2 p c) = gelu (proj X G W p c.val) := by
  rw [pay7_read]
  exact congrArg gelu (z_low H p c.val (by omega))

theorem v_at (p : Fin 32) (c : Fin 256) : k0_pay11 (F := Ideal) (k0_pay42 x0 x1 x2 x3 x4 x5 x6 x7) (k0_pay43 x0 x1 x2 x3 x4 x5 x6 x7) (k0_pay44 x0 x1 x2 x3 x4 x5 x6 x7) (View.ld x5 r0_3) (View.ld x5 r0_4) (ix2 p c) = vgm X G W L p c := by
  have e3 : ∀ k, View.ld x5 r0_3 (ix2 0 k) = L (ix2 0 k) := fun k => (MidVal.ld_rows x5 0 inb_S2x256_S1x256_0_0 (by decide) 0 k).trans (H.h5 0 k)
  have e4 : ∀ k, View.ld x5 r0_4 (ix2 0 k) = L (ix2 1 k) := fun k => (MidVal.ld_rows x5 1 inb_S2x256_S1x256_1_0 (by decide) 0 k).trans (H.h5 1 k)
  have ez : ∀ k : Fin 256, k0_pay5 (F := Ideal) (View.ld x0 r0_0) (View.ld x1 r0_1) (View.ld x2 r0_2) (ix2 p ⟨256 + k.val, by omega⟩) = proj X G W p (256 + k.val) :=
    fun k => z_low H p (256 + k.val) (by omega)
  unfold k0_pay42 k0_pay43 k0_pay44
  rw [pay11_read]
  simp only [e3, e4, ez]
  rfl

/-- The gated values of a row. -/
theorem out8_read (p : Fin 32) (l : Fin 256) : out0_8 (F := Ideal) x0 x1 x2 x3 x4 x5 x6 x7 (ix2 p l) = ogm X G W L S B p l := by
  unfold out0_8
  refine View.canon_eq_of_allAt _ _ _ (cover0_8 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 256), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    have e6 : View.ld x6 r0_6 = x6 := View.ld_unit_zero (by funext a; fin_cases a <;> rfl) ..
    have e7 : View.ld x7 r0_6 = x7 := View.ld_unit_zero (by funext a; fin_cases a <;> rfl) ..
    refine (pay12_read _ _ _ _ _ _ _ _ p l).trans ?_
    rw [u_at H, v_at H, e6, e7, H.h6, H.h7]
    rfl
  exact View.allAt_nil _ _

/-- The normed values of a row. -/
theorem out9_read (p : Fin 32) (l : Fin 256) : out0_9 (F := Ideal) x0 x1 x2 x3 x4 x5 x6 x7 (ix2 p l) = vgm X G W L p l := by
  unfold out0_9
  refine View.canon_eq_of_allAt _ _ _ (cover0_9 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 256), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    exact v_at H p l
  exact View.allAt_nil _ _

/-- The padded queries of a row. -/
theorem out10_read (p : Fin 32) (l : Fin 1024) : out0_10 (F := Ideal) x0 x1 x2 x3 x4 x5 x6 x7 (ix2 p l) = qpad X G W p l := by
  unfold out0_10
  refine View.canon_eq_of_allAt _ _ _ (cover0_10 _ _ _ _ _ _ _ _ _) ?_
  refine View.allAt_cons_unit _ _ _ _ _ (fun x hx => ?_) ?_
  · have h0 : p.val = 0 + (x 0).val := hx 0
    have h1 : l.val = 896 + (x 1).val := hx 1
    obtain ⟨a, j, rfl⟩ : ∃ (a : Fin 32) (j : Fin 128), x = ix2 a j := ⟨x 0, x 1, by funext k; fin_cases k <;> rfl⟩
    change p.val = 0 + a.val at h0
    change l.val = 896 + j.val at h1
    obtain rfl : p = a := Fin.ext (by omega)
    refine (pay32_read _ _ _ (proj X G W p) 16384 p (z_low H p) (cos_at H p) (sin_at H p) j).trans ?_
    unfold qpad query
    rw [h1, if_neg (show ¬ 896 + j.val < 512 by omega), show (896 + j.val) % 128 = j.val by omega, show (896 + j.val) / 128 = 7 by omega]
  refine View.allAt_cons_unit _ _ _ _ _ (fun x hx => ?_) ?_
  · have h0 : p.val = 0 + (x 0).val := hx 0
    have h1 : l.val = 768 + (x 1).val := hx 1
    obtain ⟨a, j, rfl⟩ : ∃ (a : Fin 32) (j : Fin 128), x = ix2 a j := ⟨x 0, x 1, by funext k; fin_cases k <;> rfl⟩
    change p.val = 0 + a.val at h0
    change l.val = 768 + j.val at h1
    obtain rfl : p = a := Fin.ext (by omega)
    refine (pay31_read _ _ _ (proj X G W p) 16384 p (z_low H p) (cos_at H p) (sin_at H p) j).trans ?_
    unfold qpad query
    rw [h1, if_neg (show ¬ 768 + j.val < 512 by omega), show (768 + j.val) % 128 = j.val by omega, show (768 + j.val) / 128 = 6 by omega]
  refine View.allAt_cons_unit _ _ _ _ _ (fun x hx => ?_) ?_
  · have h0 : p.val = 0 + (x 0).val := hx 0
    have h1 : l.val = 640 + (x 1).val := hx 1
    obtain ⟨a, j, rfl⟩ : ∃ (a : Fin 32) (j : Fin 128), x = ix2 a j := ⟨x 0, x 1, by funext k; fin_cases k <;> rfl⟩
    change p.val = 0 + a.val at h0
    change l.val = 640 + j.val at h1
    obtain rfl : p = a := Fin.ext (by omega)
    refine (pay29_read _ _ _ (proj X G W p) 16384 p (z_low H p) (cos_at H p) (sin_at H p) j).trans ?_
    unfold qpad query
    rw [h1, if_neg (show ¬ 640 + j.val < 512 by omega), show (640 + j.val) % 128 = j.val by omega, show (640 + j.val) / 128 = 5 by omega]
  refine View.allAt_cons_unit _ _ _ _ _ (fun x hx => ?_) ?_
  · have h0 : p.val = 0 + (x 0).val := hx 0
    have h1 : l.val = 512 + (x 1).val := hx 1
    obtain ⟨a, j, rfl⟩ : ∃ (a : Fin 32) (j : Fin 128), x = ix2 a j := ⟨x 0, x 1, by funext k; fin_cases k <;> rfl⟩
    change p.val = 0 + a.val at h0
    change l.val = 512 + j.val at h1
    obtain rfl : p = a := Fin.ext (by omega)
    refine (pay28_read _ _ _ (proj X G W p) 16384 p (z_low H p) (cos_at H p) (sin_at H p) j).trans ?_
    unfold qpad query
    rw [h1, if_neg (show ¬ 512 + j.val < 512 by omega), show (512 + j.val) % 128 = j.val by omega, show (512 + j.val) / 128 = 4 by omega]
  refine View.allAt_cons_unit _ _ _ _ _ (fun x hx => ?_) ?_
  · have h0 : p.val = 0 + (x 0).val := hx 0
    have h1 : l.val = 384 + (x 1).val := hx 1
    obtain ⟨a, j, rfl⟩ : ∃ (a : Fin 32) (j : Fin 128), x = ix2 a j := ⟨x 0, x 1, by funext k; fin_cases k <;> rfl⟩
    change p.val = 0 + a.val at h0
    change l.val = 384 + j.val at h1
    obtain rfl : p = a := Fin.ext (by omega)
    refine (pay23_read _ _ _ (proj X G W p) 16384 p (z_low H p) (cos_at H p) (sin_at H p) j).trans ?_
    unfold qpad query
    rw [h1, if_pos (show 384 + j.val < 512 by omega), show (384 + j.val) % 128 = j.val by omega, show (384 + j.val) / 128 = 3 by omega]
  refine View.allAt_cons_unit _ _ _ _ _ (fun x hx => ?_) ?_
  · have h0 : p.val = 0 + (x 0).val := hx 0
    have h1 : l.val = 256 + (x 1).val := hx 1
    obtain ⟨a, j, rfl⟩ : ∃ (a : Fin 32) (j : Fin 128), x = ix2 a j := ⟨x 0, x 1, by funext k; fin_cases k <;> rfl⟩
    change p.val = 0 + a.val at h0
    change l.val = 256 + j.val at h1
    obtain rfl : p = a := Fin.ext (by omega)
    refine (pay22_read _ _ _ (proj X G W p) 16384 p (z_low H p) (cos_at H p) (sin_at H p) j).trans ?_
    unfold qpad query
    rw [h1, if_pos (show 256 + j.val < 512 by omega), show (256 + j.val) % 128 = j.val by omega, show (256 + j.val) / 128 = 2 by omega]
  refine View.allAt_cons_unit _ _ _ _ _ (fun x hx => ?_) ?_
  · have h0 : p.val = 0 + (x 0).val := hx 0
    have h1 : l.val = 128 + (x 1).val := hx 1
    obtain ⟨a, j, rfl⟩ : ∃ (a : Fin 32) (j : Fin 128), x = ix2 a j := ⟨x 0, x 1, by funext k; fin_cases k <;> rfl⟩
    change p.val = 0 + a.val at h0
    change l.val = 128 + j.val at h1
    obtain rfl : p = a := Fin.ext (by omega)
    refine (pay20_read _ _ _ (proj X G W p) 16384 p (z_low H p) (cos_at H p) (sin_at H p) j).trans ?_
    unfold qpad query
    rw [h1, if_pos (show 128 + j.val < 512 by omega), show (128 + j.val) % 128 = j.val by omega, show (128 + j.val) / 128 = 1 by omega]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 128), x = ix2 a j := ⟨x 0, x 1, by funext k; fin_cases k <;> rfl⟩
    change p.val = 0 + a.val at h0
    change l.val = 0 + j.val at h1
    obtain rfl : p = a := Fin.ext (by omega)
    refine (pay19_read _ _ _ (proj X G W p) 16384 p (z_low H p) (cos_at H p) (sin_at H p) j).trans ?_
    unfold qpad query
    rw [h1, if_pos (show 0 + j.val < 512 by omega), show (0 + j.val) % 128 = j.val by omega, show (0 + j.val) / 128 = 0 by omega]
  exact View.allAt_nil _ _

/-- The keys and values of branch 0 of a row. -/
theorem out11_read (p : Fin 32) (l : Fin 256) : out0_11 (F := Ideal) x0 x1 x2 x3 x4 x5 x6 x7 (ix2 p l) = kv X G W 0 p l.val := by
  unfold out0_11
  refine View.canon_eq_of_allAt _ _ _ (cover0_11 _ _ _) ?_
  refine View.allAt_cons_unit _ _ _ _ _ (fun x hx => ?_) ?_
  · have h0 : p.val = 0 + (x 0).val := hx 0
    have h1 : l.val = 128 + (x 1).val := hx 1
    obtain ⟨a, j, rfl⟩ : ∃ (a : Fin 32) (j : Fin 128), x = ix2 a j := ⟨x 0, x 1, by funext k; fin_cases k <;> rfl⟩
    change p.val = 0 + a.val at h0
    change l.val = 128 + j.val at h1
    obtain rfl : p = a := Fin.ext (by omega)
    refine (pay34_read _ _ _ (proj X G W p) 16384 p (z_low H p) (cos_at H p) (sin_at H p) j).trans ?_
    rw [h1]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 128), x = ix2 a j := ⟨x 0, x 1, by funext k; fin_cases k <;> rfl⟩
    change p.val = 0 + a.val at h0
    change l.val = 0 + j.val at h1
    obtain rfl : p = a := Fin.ext (by omega)
    refine (pay33_read _ _ _ (proj X G W p) 16384 p (z_low H p) (cos_at H p) (sin_at H p) j).trans ?_
    rw [h1]
    unfold kv
    rw [if_pos (by omega), show 0 + j.val = j.val by omega]
  exact View.allAt_nil _ _

/-- The keys and values of branch 1 of a row. -/
theorem out12_read (p : Fin 32) (l : Fin 256) : out0_12 (F := Ideal) x0 x1 x2 x3 x4 x5 x6 x7 (ix2 p l) = kv X G W 1 p l.val := by
  unfold out0_12
  refine View.canon_eq_of_allAt _ _ _ (cover0_12 _ _ _) ?_
  refine View.allAt_cons_unit _ _ _ _ _ (fun x hx => ?_) ?_
  · have h0 : p.val = 0 + (x 0).val := hx 0
    have h1 : l.val = 128 + (x 1).val := hx 1
    obtain ⟨a, j, rfl⟩ : ∃ (a : Fin 32) (j : Fin 128), x = ix2 a j := ⟨x 0, x 1, by funext k; fin_cases k <;> rfl⟩
    change p.val = 0 + a.val at h0
    change l.val = 128 + j.val at h1
    obtain rfl : p = a := Fin.ext (by omega)
    refine (pay36_read _ _ _ (proj X G W p) 16384 p (z_low H p) (cos_at H p) (sin_at H p) j).trans ?_
    rw [h1]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 128), x = ix2 a j := ⟨x 0, x 1, by funext k; fin_cases k <;> rfl⟩
    change p.val = 0 + a.val at h0
    change l.val = 0 + j.val at h1
    obtain rfl : p = a := Fin.ext (by omega)
    refine (pay35_read _ _ _ (proj X G W p) 16384 p (z_low H p) (cos_at H p) (sin_at H p) j).trans ?_
    rw [h1]
    unfold kv
    rw [if_pos (by omega), show 0 + j.val = j.val by omega]
  exact View.allAt_nil _ _

/-- The keys and values of branch 2 of a row. -/
theorem out13_read (p : Fin 32) (l : Fin 256) : out0_13 (F := Ideal) x0 x1 x2 x3 x4 x5 x6 x7 (ix2 p l) = kv X G W 2 p l.val := by
  unfold out0_13
  refine View.canon_eq_of_allAt _ _ _ (cover0_13 _ _ _) ?_
  refine View.allAt_cons_unit _ _ _ _ _ (fun x hx => ?_) ?_
  · have h0 : p.val = 0 + (x 0).val := hx 0
    have h1 : l.val = 128 + (x 1).val := hx 1
    obtain ⟨a, j, rfl⟩ : ∃ (a : Fin 32) (j : Fin 128), x = ix2 a j := ⟨x 0, x 1, by funext k; fin_cases k <;> rfl⟩
    change p.val = 0 + a.val at h0
    change l.val = 128 + j.val at h1
    obtain rfl : p = a := Fin.ext (by omega)
    refine (pay40_read _ _ _ (proj X G W p) 16384 p (z_low H p) (cos_at H p) (sin_at H p) j).trans ?_
    rw [h1]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 128), x = ix2 a j := ⟨x 0, x 1, by funext k; fin_cases k <;> rfl⟩
    change p.val = 0 + a.val at h0
    change l.val = 0 + j.val at h1
    obtain rfl : p = a := Fin.ext (by omega)
    refine (pay39_read _ _ _ (proj X G W p) 16384 p (z_low H p) (cos_at H p) (sin_at H p) j).trans ?_
    rw [h1]
    unfold kv
    rw [if_pos (by omega), show 0 + j.val = j.val by omega]
  exact View.allAt_nil _ _

/-- The keys and values of the last two branches of a row. -/
theorem out14_read (p : Fin 32) (l : Fin 512) : out0_14 (F := Ideal) x0 x1 x2 x3 x4 x5 x6 x7 (ix2 p l) = kvb X G W p l := by
  unfold out0_14
  refine View.canon_eq_of_allAt _ _ _ (cover0_14 _ _ _ _ _) ?_
  refine View.allAt_cons_unit _ _ _ _ _ (fun x hx => ?_) ?_
  · have h0 : p.val = 0 + (x 0).val := hx 0
    have h1 : l.val = 384 + (x 1).val := hx 1
    obtain ⟨a, j, rfl⟩ : ∃ (a : Fin 32) (j : Fin 128), x = ix2 a j := ⟨x 0, x 1, by funext k; fin_cases k <;> rfl⟩
    change p.val = 0 + a.val at h0
    change l.val = 384 + j.val at h1
    obtain rfl : p = a := Fin.ext (by omega)
    refine (pay2_read _ _ _ (proj X G W p) 16384 p (z_low H p) (cos_at H p) (sin_at H p) j).trans ?_
    unfold kvb
    rw [h1, if_neg (by omega)]
    unfold kv
    rw [if_neg (by omega), show 384 + j.val - 256 = 128 + j.val by omega]
  refine View.allAt_cons_unit _ _ _ _ _ (fun x hx => ?_) ?_
  · have h0 : p.val = 0 + (x 0).val := hx 0
    have h1 : l.val = 256 + (x 1).val := hx 1
    obtain ⟨a, j, rfl⟩ : ∃ (a : Fin 32) (j : Fin 128), x = ix2 a j := ⟨x 0, x 1, by funext k; fin_cases k <;> rfl⟩
    change p.val = 0 + a.val at h0
    change l.val = 256 + j.val at h1
    obtain rfl : p = a := Fin.ext (by omega)
    refine (pay1_read _ _ _ (proj X G W p) 16384 p (z_low H p) (cos_at H p) (sin_at H p) j).trans ?_
    unfold kvb
    rw [h1, if_neg (by omega)]
    unfold kv
    rw [if_pos (by omega), show 256 + j.val - 256 = j.val by omega]
  refine View.allAt_cons_unit _ _ _ _ _ (fun x hx => ?_) ?_
  · have h0 : p.val = 0 + (x 0).val := hx 0
    have h1 : l.val = 128 + (x 1).val := hx 1
    obtain ⟨a, j, rfl⟩ : ∃ (a : Fin 32) (j : Fin 128), x = ix2 a j := ⟨x 0, x 1, by funext k; fin_cases k <;> rfl⟩
    change p.val = 0 + a.val at h0
    change l.val = 128 + j.val at h1
    obtain rfl : p = a := Fin.ext (by omega)
    refine (pay38_read _ _ _ (proj X G W p) 16384 p (z_low H p) (cos_at H p) (sin_at H p) j).trans ?_
    unfold kvb
    rw [h1, if_pos (by omega)]
    unfold kv
    rw [if_neg (by omega)]
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 128), x = ix2 a j := ⟨x 0, x 1, by funext k; fin_cases k <;> rfl⟩
    change p.val = 0 + a.val at h0
    change l.val = 0 + j.val at h1
    obtain rfl : p = a := Fin.ext (by omega)
    refine (pay37_read _ _ _ (proj X G W p) 16384 p (z_low H p) (cos_at H p) (sin_at H p) j).trans ?_
    unfold kvb
    rw [h1, if_pos (by omega)]
    unfold kv
    rw [if_pos (by omega), show 0 + j.val = j.val by omega]
  exact View.allAt_nil _ _

/-- The gates of a row. -/
theorem out15_read (p : Fin 32) (l : Fin 128) : out0_15 (F := Ideal) x0 x1 x2 x3 x4 x5 x6 x7 (ix2 p l) = gates X G W p l := by
  unfold out0_15
  refine View.canon_eq_of_allAt _ _ _ (cover0_15 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 128), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    refine (pay4_read _ p l).trans (congrArg Ideal.logistic ((z_at H p ⟨2816 + l.val, by omega⟩).trans ?_))
    show proj X G W _ (col (2816 + l.val)) = _
    unfold col
    rw [if_neg (by omega), if_neg (by omega)]
    by_cases h : l.val < 24
    · rw [if_pos (by omega), if_pos h]
      exact congrArg (proj X G W _) (by omega)
    · rw [if_neg (by omega), if_neg h]
      unfold proj
      rw [dif_neg (by omega)]
  exact View.allAt_nil _ _

/-- What the recurrence takes of a row. -/
theorem out16_read (p : Fin 32) (l : Fin 1024) : out0_16 (F := Ideal) x0 x1 x2 x3 x4 x5 x6 x7 (ix2 p l) = zrw X G W p l := by
  unfold out0_16
  refine View.canon_eq_of_allAt _ _ _ (cover0_16 _ _) ?_
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 1024), x = ix2 a j := ⟨x 0, x 1, by funext k; fin_cases k <;> rfl⟩
    change p.val = 0 + a.val at h0
    change l.val = 0 + j.val at h1
    obtain rfl : p = a := Fin.ext (by omega)
    obtain rfl : l = j := Fin.ext (by omega)
    refine (pay3_read _ p l).trans ((z_at H p ⟨1792 + l.val, by omega⟩).trans ?_)
    show proj X G W _ (col (1792 + l.val)) = _
    unfold col zrw
    rw [if_neg (by omega), if_pos (by omega)]
    exact congrArg (proj X G W _) (by omega)
  exact View.allAt_nil _ _

/-- The queries of a row. -/
theorem out17_read (p : Fin 32) (l : Fin 512) : out0_17 (F := Ideal) x0 x1 x2 x3 x4 x5 x6 x7 (ix2 p l) = qrow X G W p l := by
  unfold out0_17
  refine View.canon_eq_of_allAt _ _ _ (cover0_17 _ _ _ _ _) ?_
  refine View.allAt_cons_unit _ _ _ _ _ (fun x hx => ?_) ?_
  · have h0 : p.val = 0 + (x 0).val := hx 0
    have h1 : l.val = 384 + (x 1).val := hx 1
    obtain ⟨a, j, rfl⟩ : ∃ (a : Fin 32) (j : Fin 128), x = ix2 a j := ⟨x 0, x 1, by funext k; fin_cases k <;> rfl⟩
    change p.val = 0 + a.val at h0
    change l.val = 384 + j.val at h1
    obtain rfl : p = a := Fin.ext (by omega)
    refine (pay30_read _ _ _ (proj X G W p) 16384 p (z_low H p) (cos_at H p) (sin_at H p) j).trans ?_
    unfold qrow query
    rw [h1]
    exact congrArg (· * _) (rope_congr (fun e => congrArg (proj X G W p) (by omega)) 16384 (by omega))
  refine View.allAt_cons_unit _ _ _ _ _ (fun x hx => ?_) ?_
  · have h0 : p.val = 0 + (x 0).val := hx 0
    have h1 : l.val = 256 + (x 1).val := hx 1
    obtain ⟨a, j, rfl⟩ : ∃ (a : Fin 32) (j : Fin 128), x = ix2 a j := ⟨x 0, x 1, by funext k; fin_cases k <;> rfl⟩
    change p.val = 0 + a.val at h0
    change l.val = 256 + j.val at h1
    obtain rfl : p = a := Fin.ext (by omega)
    refine (pay27_read _ _ _ (proj X G W p) 16384 p (z_low H p) (cos_at H p) (sin_at H p) j).trans ?_
    unfold qrow query
    rw [h1]
    exact congrArg (· * _) (rope_congr (fun e => congrArg (proj X G W p) (by omega)) 16384 (by omega))
  refine View.allAt_cons_unit _ _ _ _ _ (fun x hx => ?_) ?_
  · have h0 : p.val = 0 + (x 0).val := hx 0
    have h1 : l.val = 128 + (x 1).val := hx 1
    obtain ⟨a, j, rfl⟩ : ∃ (a : Fin 32) (j : Fin 128), x = ix2 a j := ⟨x 0, x 1, by funext k; fin_cases k <;> rfl⟩
    change p.val = 0 + a.val at h0
    change l.val = 128 + j.val at h1
    obtain rfl : p = a := Fin.ext (by omega)
    refine (pay21_read _ _ _ (proj X G W p) 16384 p (z_low H p) (cos_at H p) (sin_at H p) j).trans ?_
    unfold qrow query
    rw [h1]
    exact congrArg (· * _) (rope_congr (fun e => congrArg (proj X G W p) (by omega)) 16384 (by omega))
  refine View.allAt_cons_unit _ _ _ _ _ (fun x hx => ?_) ?_
  · have h0 : p.val = 0 + (x 0).val := hx 0
    have h1 : l.val = 0 + (x 1).val := hx 1
    obtain ⟨a, j, rfl⟩ : ∃ (a : Fin 32) (j : Fin 128), x = ix2 a j := ⟨x 0, x 1, by funext k; fin_cases k <;> rfl⟩
    change p.val = 0 + a.val at h0
    change l.val = 0 + j.val at h1
    obtain rfl : p = a := Fin.ext (by omega)
    refine (pay18_read _ _ _ (proj X G W p) 16384 p (z_low H p) (cos_at H p) (sin_at H p) j).trans ?_
    unfold qrow query
    rw [h1]
    exact congrArg (· * _) (rope_congr (fun e => congrArg (proj X G W p) (by omega)) 16384 (by omega))
  exact View.allAt_nil _ _

end Tile

end Cert.StepVal

end
-- ==== Proof.StepRef.lean ====
/- The reference of the input projection of the rows at position 16384 reads, index by index, as the functions of `StepSpec`. -/
module

public import proofs.«01_k».proof.Proof.StepSpec
public import proofs.«01_k».proof.Proof.ProjRef
public import proofs.«01_k».proof.Proof.Gen.Reference6Ideal.Read

@[expose] public section

set_option maxRecDepth 16384

noncomputable section

namespace Cert.StepVal

open Cert.Reference6Ideal Cert.Reference6Ideal.Read Idealize.ShloMosaic
open Cert.FfnVal hiding WArr BArr
open Cert.ProjVal (ang rope gelu mean lnorm GArr WArr LArr SArr BArr tri sge_bit)

variable (X : XArr) (G : GArr) (W : WArr) (L : LArr) (S : SArr) (B : BArr)

theorem ref_proj (r : Fin 32) (j : Fin 2840) : val_main_v13 (F := Ideal) X G W (ix2 r j) = proj X G W r j.val := by
  unfold proj
  rw [dif_pos j.isLt]
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, dot_S32x1024_S1024x2840_S32x2840_1_0_0_1_n_n]
  rfl

theorem ref_gelu (r : Fin 32) (j : Fin 512) : val_main_v27 (F := Ideal) X G W (ix2 r j) = gelu (proj X G W r j.val) := by
  pointwise [val_main_v27, val_main_v26, val_main_v25, val_main_v24, val_main_v23, val_main_v22, val_main_v21, val_main_v20, val_main_v19, val_main_v18, val_main_v17, val_main_v16, val_main_v15, val_main_v14, val_main_cst_2, val_main_cst_3, val_main_cst_4, val_main_cst_5]
  simp only [ref_proj]
  rfl

theorem ref_vgm (r : Fin 32) (j : Fin 256) : val_main_v59 (F := Ideal) X G W L (ix2 r j) = vgm X G W L r j := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_6, val_main_cst_7, val_main_cst_8, val_main_cst_9, val_main_cst_10]
  simp only [ref_gelu]
  rfl

theorem ref_tri (h : Fin 4) (p q : Fin 128)  : val_main_v64 (F := Ideal) S (ix3 h p q) = tri S h p q := by
  pointwise [val_main_v64, val_main_v63, val_main_v62, val_main_v61, val_main_v60, val_main_call0_v0,val_main_call0_c,val_main_call0_v1,val_main_call0_v2,val_main_call0_v3,val_main_call0_v4,val_main_call0_cst,val_main_call0_v5, val_main_cst_11]
  rw [sge_bit, MidVal.select_bit]
  rfl

theorem ref_chunk (r : Fin 32) (q : Fin 128) (j : Fin 256) : val_main_v67 (F := Ideal) X G W L (ix3 r q j) = if q.val = 0 then vgm X G W L r j else 0 := by
  pointwise [val_main_v67, val_main_v66, val_main_v65, val_main_cst_12]
  simp only [ref_vgm]
  by_cases h : q.val = 0
  · rw [dif_pos (by omega), if_pos h]
  · rw [dif_neg (by omega), if_neg h]

/-- Of a chunk that holds zeros past its first token, the first token takes the first alone. -/
theorem first_only (v : EReal) (h : Fin 4) : (∑ q : Fin 128, (if q.val = 0 then v else 0) * tri S h 0 q) = v * S (ix3 h 0 0) := by
  rw [Finset.sum_eq_single 0]
  · unfold tri
    simp
  · intro q _ hq
    rw [if_neg (fun e : q.val = 0 => hq (Fin.ext e)), zero_mul]
  · exact fun e => absurd (Finset.mem_univ _) e

theorem ref_ogm (r : Fin 32) (j : Fin 256) : val_main_v78 (F := Ideal) X G W L S B (ix2 r j) = ogm X G W L S B r j := by
  pointwise [val_main_v78, val_main_v77, val_main_v76, val_main_v75, val_main_v74, val_main_v73, val_main_v72, val_main_v71, val_main_v70, val_main_v69, val_main_v68, dot_S32x128x4x64_S4x128x128_S4x32x64x128_1_2_03_1_2_0]
  unfold ogm
  simp only [ref_chunk, ref_tri, ref_gelu, val_main_v28]
  refine congrArg₂ (· * ·) ?_ (congrArg (· + _) (first_only S (vgm X G W L r j) ⟨j.val / 64, by omega⟩))
  pointwise []
  exact ref_gelu X G W r ⟨j.val, by omega⟩

theorem ref_cos (s : Fin 1) (j : Fin 32) : val_main_v95 (F := Ideal) (ix2 s j) = Ideal.cos (ang 16384 j.val) := by
  obtain rfl : s = 0 := Subsingleton.elim _ _
  pointwise [val_main_v95, val_main_v94, val_main_v93, val_main_v92, val_main_v91, val_main_v90, val_main_v89, val_main_v88, val_main_v87, val_main_v86, val_main_v85, val_main_v84, val_main_v83, val_main_v82, val_main_v81, val_main_c, val_main_cst_13, val_main_cst_14]
  try rfl

theorem ref_sin (s : Fin 1) (j : Fin 32) : val_main_v97 (F := Ideal) (ix2 s j) = Ideal.sin (ang 16384 j.val) := by
  obtain rfl : s = 0 := Subsingleton.elim _ _
  pointwise [val_main_v97, val_main_v94, val_main_v93, val_main_v92, val_main_v91, val_main_v90, val_main_v89, val_main_v88, val_main_v87, val_main_v86, val_main_v85, val_main_v84, val_main_v83, val_main_v82, val_main_v81, val_main_c, val_main_cst_13, val_main_cst_14]
  try rfl

theorem ref_query (r : Fin 32) (h : Fin 8) (d : Fin 64) : val_main_v118 (F := Ideal) X G W (ix3 r h d) = query X G W r h.val d.val := by
  pointwise [val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v96, val_main_v80, val_main_v79, val_main_cst_15]
  simp only [ref_proj, ref_cos, ref_sin]
  unfold query rope
  refine congrArg (· * _) ?_
  by_cases h' : d.val < 32
  · rw [dif_pos h', if_pos h']
    exact congrArg₂ (· - ·) (congrArg (· * _) (congrArg (proj X G W _) (by omega))) (congrArg (· * _) (congrArg (proj X G W _) (by omega)))
  · rw [dif_neg h', if_neg h']
    exact congrArg₂ (· + ·) (congrArg (· * _) (congrArg (proj X G W _) (by omega))) (congrArg (· * _) (congrArg (proj X G W _) (by omega)))

theorem ref_qpad (r : Fin 32) (c : Fin 1024)  : val_main_v125 (F := Ideal) X G W (ix2 r c) = qpad X G W r c := by
  pointwise [val_main_v125, val_main_v124, val_main_v123, val_main_v122, val_main_v121, val_main_v120, val_main_v119, val_main_cst_16]
  simp only [ref_query]
  unfold qpad
  by_cases h : c.val / 128 < 4
  · rw [dif_pos h, if_pos (by omega : c.val < 512)]
    rfl
  · rw [dif_neg h, if_neg (by omega : ¬ c.val < 512), show 4 + (c.val / 128 - 4) = c.val / 128 by omega]
    rfl

theorem ref_qrow (r : Fin 32) (c : Fin 512) : val_main_v266 (F := Ideal) X G W (ix2 r c) = qrow X G W r c := by
  pointwise [val_main_v266]
  exact ref_query X G W r ⟨c.val / 64, by omega⟩ ⟨c.val % 64, by omega⟩

theorem ref_cos0 (s : Fin 1) (j : Fin 32) : val_main_v143 (F := Ideal) (ix2 s j) = Ideal.cos (ang 16384 j.val) := by
  obtain rfl : s = 0 := Subsingleton.elim _ _
  pointwise [val_main_v143, val_main_v142, val_main_v141, val_main_v140, val_main_v139, val_main_v138, val_main_v137, val_main_v136, val_main_v135, val_main_v134, val_main_v133, val_main_v132, val_main_v131, val_main_v130, val_main_v129, val_main_c_19, val_main_cst_17, val_main_cst_18]
  try rfl

theorem ref_sin0 (s : Fin 1) (j : Fin 32) : val_main_v145 (F := Ideal) (ix2 s j) = Ideal.sin (ang 16384 j.val) := by
  obtain rfl : s = 0 := Subsingleton.elim _ _
  pointwise [val_main_v145, val_main_v142, val_main_v141, val_main_v140, val_main_v139, val_main_v138, val_main_v137, val_main_v136, val_main_v135, val_main_v134, val_main_v133, val_main_v132, val_main_v131, val_main_v130, val_main_v129, val_main_c_19, val_main_cst_17, val_main_cst_18]
  try rfl

theorem ref_kv0 (r : Fin 32) (c : Fin 256)  : val_main_v166 (F := Ideal) X G W (ix2 r c) = kv X G W 0 r c.val := by
  pointwise [val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149, val_main_v148, val_main_v147, val_main_v144, val_main_v146, val_main_v128, val_main_v127, val_main_v126]
  simp only [ref_proj]
  unfold kv rope
  simp only [ref_cos0, ref_sin0]
  by_cases h : c.val < 128
  · rw [dif_pos h, if_pos h]
    by_cases h' : c.val % 64 < 32
    · rw [dif_pos h', if_pos h']
      exact congrArg₂ (· - ·) (congrArg (· * _) (congrArg (proj X G W _) (by omega))) (congrArg (· * _) (congrArg (proj X G W _) (by omega)))
    · rw [dif_neg h', if_neg h']
      exact congrArg₂ (· + ·) (congrArg (· * _) (congrArg (proj X G W _) (by omega))) (congrArg (· * _) (congrArg (proj X G W _) (by omega)))
  · rw [dif_neg h, if_neg h]
    exact congrArg (proj X G W r) (by omega)

theorem ref_cos1 (s : Fin 1) (j : Fin 32) : val_main_v184 (F := Ideal) (ix2 s j) = Ideal.cos (ang 16384 j.val) := by
  obtain rfl : s = 0 := Subsingleton.elim _ _
  pointwise [val_main_v184, val_main_v183, val_main_v182, val_main_v181, val_main_v180, val_main_v179, val_main_v178, val_main_v177, val_main_v176, val_main_v175, val_main_v174, val_main_v173, val_main_v172, val_main_v171, val_main_v170, val_main_c_22, val_main_cst_20, val_main_cst_21]
  try rfl

theorem ref_sin1 (s : Fin 1) (j : Fin 32) : val_main_v186 (F := Ideal) (ix2 s j) = Ideal.sin (ang 16384 j.val) := by
  obtain rfl : s = 0 := Subsingleton.elim _ _
  pointwise [val_main_v186, val_main_v183, val_main_v182, val_main_v181, val_main_v180, val_main_v179, val_main_v178, val_main_v177, val_main_v176, val_main_v175, val_main_v174, val_main_v173, val_main_v172, val_main_v171, val_main_v170, val_main_c_22, val_main_cst_20, val_main_cst_21]
  try rfl

theorem ref_kv1 (r : Fin 32) (c : Fin 256)  : val_main_v207 (F := Ideal) X G W (ix2 r c) = kv X G W 1 r c.val := by
  pointwise [val_main_v207, val_main_v206, val_main_v205, val_main_v204, val_main_v203, val_main_v202, val_main_v201, val_main_v200, val_main_v199, val_main_v198, val_main_v197, val_main_v196, val_main_v195, val_main_v194, val_main_v193, val_main_v192, val_main_v191, val_main_v190, val_main_v189, val_main_v188, val_main_v185, val_main_v187, val_main_v169, val_main_v168, val_main_v167]
  simp only [ref_proj]
  unfold kv rope
  simp only [ref_cos1, ref_sin1]
  by_cases h : c.val < 128
  · rw [dif_pos h, if_pos h]
    by_cases h' : c.val % 64 < 32
    · rw [dif_pos h', if_pos h']
      exact congrArg₂ (· - ·) (congrArg (· * _) (congrArg (proj X G W _) (by omega))) (congrArg (· * _) (congrArg (proj X G W _) (by omega)))
    · rw [dif_neg h', if_neg h']
      exact congrArg₂ (· + ·) (congrArg (· * _) (congrArg (proj X G W _) (by omega))) (congrArg (· * _) (congrArg (proj X G W _) (by omega)))
  · rw [dif_neg h, if_neg h]
    exact congrArg (proj X G W r) (by omega)

theorem ref_cos2 (s : Fin 1) (j : Fin 32) : val_main_v225 (F := Ideal) (ix2 s j) = Ideal.cos (ang 16384 j.val) := by
  obtain rfl : s = 0 := Subsingleton.elim _ _
  pointwise [val_main_v225, val_main_v224, val_main_v223, val_main_v222, val_main_v221, val_main_v220, val_main_v219, val_main_v218, val_main_v217, val_main_v216, val_main_v215, val_main_v214, val_main_v213, val_main_v212, val_main_v211, val_main_c_25, val_main_cst_23, val_main_cst_24]
  try rfl

theorem ref_sin2 (s : Fin 1) (j : Fin 32) : val_main_v227 (F := Ideal) (ix2 s j) = Ideal.sin (ang 16384 j.val) := by
  obtain rfl : s = 0 := Subsingleton.elim _ _
  pointwise [val_main_v227, val_main_v224, val_main_v223, val_main_v222, val_main_v221, val_main_v220, val_main_v219, val_main_v218, val_main_v217, val_main_v216, val_main_v215, val_main_v214, val_main_v213, val_main_v212, val_main_v211, val_main_c_25, val_main_cst_23, val_main_cst_24]
  try rfl

theorem ref_kv2 (r : Fin 32) (c : Fin 256)  : val_main_v248 (F := Ideal) X G W (ix2 r c) = kv X G W 2 r c.val := by
  pointwise [val_main_v248, val_main_v247, val_main_v246, val_main_v245, val_main_v244, val_main_v243, val_main_v242, val_main_v241, val_main_v240, val_main_v239, val_main_v238, val_main_v237, val_main_v236, val_main_v235, val_main_v234, val_main_v233, val_main_v232, val_main_v231, val_main_v230, val_main_v229, val_main_v226, val_main_v228, val_main_v210, val_main_v209, val_main_v208]
  simp only [ref_proj]
  unfold kv rope
  simp only [ref_cos2, ref_sin2]
  by_cases h : c.val < 128
  · rw [dif_pos h, if_pos h]
    by_cases h' : c.val % 64 < 32
    · rw [dif_pos h', if_pos h']
      exact congrArg₂ (· - ·) (congrArg (· * _) (congrArg (proj X G W _) (by omega))) (congrArg (· * _) (congrArg (proj X G W _) (by omega)))
    · rw [dif_neg h', if_neg h']
      exact congrArg₂ (· + ·) (congrArg (· * _) (congrArg (proj X G W _) (by omega))) (congrArg (· * _) (congrArg (proj X G W _) (by omega)))
  · rw [dif_neg h, if_neg h]
    exact congrArg (proj X G W r) (by omega)

theorem ref_kvb (r : Fin 32) (c : Fin 512)  : val_main_v263 (F := Ideal) X G W (ix2 r c) = kvb X G W r c := by
  pointwise [val_main_v263]
  simp only [ref_kv1, ref_kv2]
  rfl

theorem ref_gates (r : Fin 32) (c : Fin 128)  : val_main_v260 (F := Ideal) X G W (ix2 r c) = gates X G W r c := by
  pointwise [val_main_v260, val_main_v259, val_main_v258, val_main_v257, val_main_v256, val_main_v255, val_main_v254, val_main_v253, val_main_v252, val_main_v251, val_main_v250, val_main_v249, val_main_cst_26, val_main_cst_27, val_main_cst_28]
  simp only [ref_proj]
  show Ideal.logistic _ = Ideal.logistic _
  refine congrArg Ideal.logistic ?_
  by_cases h : c.val < 24
  · rw [dif_pos h, if_pos h]
    exact congrArg (proj X G W r) (by omega)
  · rw [dif_neg h, if_neg h]

theorem ref_zrw (r : Fin 32) (c : Fin 1024)  : val_main_v265 (F := Ideal) X G W (ix2 r c) = zrw X G W r c := by
  pointwise [val_main_v265]
  simp only [ref_proj]
  rfl

end Cert.StepVal

end
-- ==== Proof.StepValue.lean ====
/- The arrays that the kernel of the input projection of the rows at position 16384 leaves. -/
module

public import proofs.«01_k».proof.Proof.StepTile
public import proofs.«01_k».proof.Proof.StepRef
public import proofs.«01_k».proof.Proof.Gen.Kernel6Ideal.Value
public import Idealize.ShloMosaic.Lib.Pipeline.ValueKit.Geometry

@[expose] public section

set_option maxRecDepth 16384

noncomputable section

namespace Cert.StepVal

open Cert.Kernel6Ideal Cert.Kernel6Ideal.Gen Idealize.ShloMosaic Idealize.ShloMosaic.TcCoe Idealize.SL.Sem Idealize.ShloMosaic
open Cert.ProjVal (ang rope gelu mean lnorm GArr WArr LArr SArr BArr rope_congr col colw arr2 arr_eq)

open Idealize.ShloMosaic.Pipeline (Dat)

variable (m : (ℓ : Loc nD τ sig) → Buf (Elt Ideal) ℓ) (ρ : Dev nD → PrngReg)

/-- Device `c`'s rows. -/
abbrev aX (c : Dev nD) : XArr := m ((c : Thread nD τ).loc main_arg0)
/-- Device `c`'s scale of the norm. -/
abbrev aG (c : Dev nD) : GArr := m ((c : Thread nD τ).loc main_arg1)
/-- Device `c`'s weights of the projection. -/
abbrev aW (c : Dev nD) : WArr := m ((c : Thread nD τ).loc main_arg2)
/-- Device `c`'s scale and shift of the mixed values. -/
abbrev aL (c : Dev nD) : LArr := m ((c : Thread nD τ).loc main_arg3)
/-- Device `c`'s mixing weights. -/
abbrev aS (c : Dev nD) : SArr := m ((c : Thread nD τ).loc main_arg4)
/-- Device `c`'s bias of the mixed tokens. -/
abbrev aB (c : Dev nD) : BArr := m ((c : Thread nD τ).loc main_arg5)

theorem V_cos (c : Dev nD) (s : Fin 32) (a : Fin 128) : (V m c main_v17 : S32x128.Idx → EReal) (ix2 s a) = Ideal.cos (ang 16384 (a.val % 32)) := by
  show (StableHlo.after (hostOps0 (F := Ideal)) _ (Proc.devRef .tc main_v17)) (ix2 s a) = _
  after_results
  pointwise []
  try rfl

theorem V_sin (c : Dev nD) (s : Fin 32) (a : Fin 128) : (V m c main_v22 : S32x128.Idx → EReal) (ix2 s a) =
    if a.val % 64 < 32 then -Ideal.sin (ang 16384 (a.val % 64)) else Ideal.sin (ang 16384 (a.val % 64 - 32)) := by
  show (StableHlo.after (hostOps0 (F := Ideal)) _ (Proc.devRef .tc main_v22)) (ix2 s a) = _
  after_results
  pointwise []
  try rfl

theorem V_w (c : Dev nD) (k : Fin 1024) (j : Fin 2944) : (V m c main_v31 : S1024x2944.Idx → EReal) (ix2 k j) = colw (aW m c) k (col j.val) := by
  have e : (V m c main_v31 : S1024x2944.Idx → EReal) = (truncf .bf16 (concatenate S1024x2944 1
      [⟨S1024x1792, extractStridedSlice S1024x1792 ![0, 0] (aW m c : Vec Ideal S1024x2840 .f32) slices_S1024x2840_S1024x1792_0_0⟩,
       ⟨S1024x1024, extractStridedSlice S1024x1024 ![0, 1816] (aW m c : Vec Ideal S1024x2840 .f32) slices_S1024x2840_S1024x1024_0_1816⟩,
       ⟨S1024x128, pad S1024x128 ![0, 0] ![0, 104] ![0, 0]
          (shapeCast S1024x24 (transpose S1024x3x8 [0, 2, 1] (shapeCast S1024x8x3 (extractStridedSlice S1024x24 ![0, 1792] (aW m c : Vec Ideal S1024x2840 .f32) slices_S1024x2840_S1024x24_0_1792)
            shapeCasts_S1024x24_S1024x8x3) transposes_S1024x8x3_S1024x3x8_0_2_1) shapeCasts_S1024x3x8_S1024x24)
          (sitofp .f32 (constantI S_ 32 0#32)) pads_S1024x24_S1024x128_000_01040 h_S_⟩]
      concatenates_S1024x1792_S1024x1024_S1024x128_S1024x2944_d1 : FVec Ideal S1024x2944 .f32) bitsLt_bf16_f32 : FVec Ideal S1024x2944 .bf16) := by
    show (StableHlo.after (List.flatten [hostOps0 (F := Ideal), hostOps0_1 (F := Ideal), hostOps0_2 (F := Ideal)]) _ (Proc.devRef .tc main_v31)) = _
    simp only [List.flatten_cons, List.flatten_nil, List.append_nil, List.cons_append, List.nil_append, hostOps0, hostOps0_1, hostOps0_2, StableHlo.TRef.binary, StableHlo.TRef.nullary, StableHlo.TRef.unary, StableHlo.TRef.toBuf, StableHlo.TRef.ofBuf, cast_eq]
    after_results_simp <;> rfl
  rw [e]
  pointwise []
  have one : ∀ (a b : ℕ) (ha : a < 2840), a = b → aW m c (ix2 k ⟨a, ha⟩) = colw (aW m c) k b := by
    rintro a b ha rfl
    unfold colw
    rw [dif_pos ha]
  have hj := j.isLt
  by_cases h1 : j.val < 1792
  · rw [dif_pos h1]
    exact one _ _ _ (by unfold col; rw [if_pos h1])
  rw [dif_neg h1]
  by_cases h2 : j.val - 1792 < 1024
  · rw [dif_pos h2]
    have h2' : j.val < 2816 := by omega
    exact one _ _ _ (by unfold col; rw [if_neg h1, if_pos h2']; omega)
  rw [dif_neg h2]
  have h2' : ¬ j.val < 2816 := by omega
  by_cases h3 : j.val - 1792 - 1024 < 24
  · rw [dif_pos h3]
    have h3' : j.val < 2840 := by omega
    exact one _ _ _ (by
      unfold col
      rw [if_neg h1, if_neg h2', if_pos h3', show j.val - 1792 - 1024 = j.val - 2816 from by omega]
      omega)
  rw [dif_neg h3]
  have h3' : ¬ j.val < 2840 := by omega
  unfold col colw
  rw [if_neg h1, if_neg h2', if_neg h3', dif_neg (by omega)]
  show (((0#32 : BitVec 32).toInt : ℝ) : EReal) = 0
  simp

theorem V_s (c : Dev nD) (a : Fin 256) : (V m c main_v36 : S1x256.Idx → EReal) (ix2 0 a) = aS m c (ix3 ⟨a.val / 64, by omega⟩ 0 0) := by
  show (StableHlo.after (List.flatten [hostOps0 (F := Ideal), hostOps0_1 (F := Ideal), hostOps0_2 (F := Ideal)]) _ (Proc.devRef .tc main_v36)) (ix2 0 a) = _
  simp only [List.flatten_cons, List.flatten_nil, List.append_nil, List.cons_append, List.nil_append]
  after_results
  pointwise []

theorem V_b (c : Dev nD) (a : Fin 256) : (V m c main_v41 : S1x256.Idx → EReal) (ix2 0 a) = aB m c (ix2 ⟨a.val / 64, by omega⟩ 0) := by
  show (StableHlo.after (List.flatten [hostOps0 (F := Ideal), hostOps0_1 (F := Ideal), hostOps0_2 (F := Ideal)]) _ (Proc.devRef .tc main_v41)) (ix2 0 a) = _
  simp only [List.flatten_cons, List.flatten_nil, List.append_nil, List.cons_append, List.nil_append]
  after_results
  pointwise []

theorem V_g (c : Dev nD) (k : Fin 1024) : (V m c main_v42 : S1x1024.Idx → EReal) (ix2 0 k) = aG m c (ix1 k) := by
  show (StableHlo.after (List.flatten [hostOps0 (F := Ideal), hostOps0_1 (F := Ideal), hostOps0_2 (F := Ideal)]) _ (Proc.devRef .tc main_v42)) (ix2 0 k) = _
  simp only [List.flatten_cons, List.flatten_nil, List.append_nil, List.cons_append, List.nil_append]
  after_results
  pointwise []

theorem lt_points (t : Fin cfg0.N) : t.val < 1 := Nat.lt_of_lt_of_eq t.isLt N_0

/-- The rows. -/
theorem b0_read (c : Dev nD) (t : Fin cfg0.N) (p : Fin 32) (l : Fin 1024) : (iblk m c 0 t : Vec Ideal S32x1024 .f32) (ix2 p l) = aX m c (ix2 p l) := by
  have e := (by decide +kernel : ∀ t : Fin grid0.N, win0_0.index t 0 * win0_0.size 0 = 0 ∧ win0_0.index t 1 * win0_0.size 1 = 0) t
  have ht := lt_points t
  refine Eq.trans ?_ (congrFun (V_main_arg0 m c) (ix2 p l))
  show (V m c main_arg0 : S32x1024.Idx → EReal) (((cfg0.win 0).blk t).view.emb ((ix2 p l) : S32x1024.Idx)) = _
  refine congrArg (V m c main_arg0 : S32x1024.Idx → EReal) (funext fun a => Fin.ext ?_)
  fin_cases a
  · show win0_0.index t 0 * win0_0.size 0 + 1 * p.val = p.val
    rw [e.1]; omega
  · show win0_0.index t 1 * win0_0.size 1 + 1 * l.val = l.val
    rw [e.2]; omega

/-- The scale of the norm. -/
theorem b1_read (c : Dev nD) (t : Fin cfg0.N) (l : Fin 1024) : (iblk m c 1 t : Vec Ideal S1x1024 .f32) (ix2 0 l) = aG m c (ix1 l) := by
  have e := (by decide +kernel : ∀ t : Fin grid0.N, win0_1.index t 0 * win0_1.size 0 = 0 ∧ win0_1.index t 1 * win0_1.size 1 = 0) t
  have ht := lt_points t
  refine Eq.trans ?_ (V_g m c l)
  show (V m c main_v42 : S1x1024.Idx → EReal) (((cfg0.win 1).blk t).view.emb ((ix2 0 l) : S1x1024.Idx)) = _
  refine congrArg (V m c main_v42 : S1x1024.Idx → EReal) (funext fun a => Fin.ext ?_)
  fin_cases a
  · show win0_1.index t 0 * win0_1.size 0 + 1 * 0 = 0
    rw [e.1]
  · show win0_1.index t 1 * win0_1.size 1 + 1 * l.val = l.val
    rw [e.2]; omega

/-- The packed weights. -/
theorem b2_read (c : Dev nD) (t : Fin cfg0.N) (k : Fin 1024) (j : Fin 2944) : (iblk m c 2 t : Vec Ideal S1024x2944 .bf16) (ix2 k j) = colw (aW m c) k (col j.val) := by
  have e := (by decide +kernel : ∀ t : Fin grid0.N, win0_2.index t 0 * win0_2.size 0 = 0 ∧ win0_2.index t 1 * win0_2.size 1 = 0) t
  have ht := lt_points t
  refine Eq.trans ?_ (V_w m c k j)
  show (V m c main_v31 : S1024x2944.Idx → EReal) (((cfg0.win 2).blk t).view.emb ((ix2 k j) : S1024x2944.Idx)) = _
  refine congrArg (V m c main_v31 : S1024x2944.Idx → EReal) (funext fun a => Fin.ext ?_)
  fin_cases a
  · show win0_2.index t 0 * win0_2.size 0 + 1 * k.val = k.val
    rw [e.1]; omega
  · show win0_2.index t 1 * win0_2.size 1 + 1 * j.val = j.val
    rw [e.2]; omega

/-- The table of coses. -/
theorem b3_read (c : Dev nD) (t : Fin cfg0.N) (p : Fin 32) (a : Fin 128) : (iblk m c 3 t : Vec Ideal S32x128 .f32) (ix2 p a) = Ideal.cos (ang 16384 (a.val % 32)) := by
  have e := (by decide +kernel : ∀ t : Fin grid0.N, win0_3.index t 0 * win0_3.size 0 = 0 ∧ win0_3.index t 1 * win0_3.size 1 = 0) t
  have ht := lt_points t
  refine Eq.trans ?_ (V_cos m c p a)
  show (V m c main_v17 : S32x128.Idx → EReal) (((cfg0.win 3).blk t).view.emb ((ix2 p a) : S32x128.Idx)) = _
  refine congrArg (V m c main_v17 : S32x128.Idx → EReal) (funext fun d => Fin.ext ?_)
  fin_cases d
  · show win0_3.index t 0 * win0_3.size 0 + 1 * p.val = p.val
    rw [e.1]; omega
  · show win0_3.index t 1 * win0_3.size 1 + 1 * a.val = a.val
    rw [e.2]; omega

/-- The table of sines. -/
theorem b4_read (c : Dev nD) (t : Fin cfg0.N) (p : Fin 32) (a : Fin 128) : (iblk m c 4 t : Vec Ideal S32x128 .f32) (ix2 p a) = (if a.val % 64 < 32 then -Ideal.sin (ang 16384 (a.val % 64)) else Ideal.sin (ang 16384 (a.val % 64 - 32))) := by
  have e := (by decide +kernel : ∀ t : Fin grid0.N, win0_4.index t 0 * win0_4.size 0 = 0 ∧ win0_4.index t 1 * win0_4.size 1 = 0) t
  have ht := lt_points t
  refine Eq.trans ?_ (V_sin m c p a)
  show (V m c main_v22 : S32x128.Idx → EReal) (((cfg0.win 4).blk t).view.emb ((ix2 p a) : S32x128.Idx)) = _
  refine congrArg (V m c main_v22 : S32x128.Idx → EReal) (funext fun d => Fin.ext ?_)
  fin_cases d
  · show win0_4.index t 0 * win0_4.size 0 + 1 * p.val = p.val
    rw [e.1]; omega
  · show win0_4.index t 1 * win0_4.size 1 + 1 * a.val = a.val
    rw [e.2]; omega

/-- The scale and the shift of the mixed values. -/
theorem b5_read (c : Dev nD) (t : Fin cfg0.N) (k : Fin 2) (l : Fin 256) : (iblk m c 5 t : Vec Ideal S2x256 .f32) (ix2 k l) = aL m c (ix2 k l) := by
  have e := (by decide +kernel : ∀ t : Fin grid0.N, win0_5.index t 0 * win0_5.size 0 = 0 ∧ win0_5.index t 1 * win0_5.size 1 = 0) t
  have ht := lt_points t
  refine Eq.trans ?_ (congrFun (V_main_arg3 m c) (ix2 k l))
  show (V m c main_arg3 : S2x256.Idx → EReal) (((cfg0.win 5).blk t).view.emb ((ix2 k l) : S2x256.Idx)) = _
  refine congrArg (V m c main_arg3 : S2x256.Idx → EReal) (funext fun a => Fin.ext ?_)
  fin_cases a
  · show win0_5.index t 0 * win0_5.size 0 + 1 * k.val = k.val
    rw [e.1]; omega
  · show win0_5.index t 1 * win0_5.size 1 + 1 * l.val = l.val
    rw [e.2]; omega

/-- The mixing weights of a first token. -/
theorem b6_read (c : Dev nD) (t : Fin cfg0.N) (l : Fin 256) : (iblk m c 6 t : Vec Ideal S1x256 .f32) (ix2 0 l) = aS m c (ix3 ⟨l.val / 64, by omega⟩ 0 0) := by
  have e := (by decide +kernel : ∀ t : Fin grid0.N, win0_6.index t 0 * win0_6.size 0 = 0 ∧ win0_6.index t 1 * win0_6.size 1 = 0) t
  have ht := lt_points t
  refine Eq.trans ?_ (V_s m c l)
  show (V m c main_v36 : S1x256.Idx → EReal) (((cfg0.win 6).blk t).view.emb ((ix2 0 l) : S1x256.Idx)) = _
  refine congrArg (V m c main_v36 : S1x256.Idx → EReal) (funext fun a => Fin.ext ?_)
  fin_cases a
  · show win0_6.index t 0 * win0_6.size 0 + 1 * 0 = 0
    rw [e.1]
  · show win0_6.index t 1 * win0_6.size 1 + 1 * l.val = l.val
    rw [e.2]; omega

/-- The bias of a first token. -/
theorem b7_read (c : Dev nD) (t : Fin cfg0.N) (l : Fin 256) : (iblk m c 7 t : Vec Ideal S1x256 .f32) (ix2 0 l) = aB m c (ix2 ⟨l.val / 64, by omega⟩ 0) := by
  have e := (by decide +kernel : ∀ t : Fin grid0.N, win0_7.index t 0 * win0_7.size 0 = 0 ∧ win0_7.index t 1 * win0_7.size 1 = 0) t
  have ht := lt_points t
  refine Eq.trans ?_ (V_b m c l)
  show (V m c main_v41 : S1x256.Idx → EReal) (((cfg0.win 7).blk t).view.emb ((ix2 0 l) : S1x256.Idx)) = _
  refine congrArg (V m c main_v41 : S1x256.Idx → EReal) (funext fun a => Fin.ext ?_)
  fin_cases a
  · show win0_7.index t 0 * win0_7.size 0 + 1 * 0 = 0
    rw [e.1]
  · show win0_7.index t 1 * win0_7.size 1 + 1 * l.val = l.val
    rw [e.2]; omega

/-- The blocks hold the arrays. -/
theorem holds (c : Dev nD) (t : Fin cfg0.N) : Holds (aX m c) (aG m c) (aW m c) (aL m c) (aS m c) (aB m c)
    (iblk m c 0 t) (iblk m c 1 t) (iblk m c 2 t) (iblk m c 3 t) (iblk m c 4 t) (iblk m c 5 t) (iblk m c 6 t) (iblk m c 7 t) where
  h0 := b0_read m c t
  h1 := b1_read m c t
  h2 := b2_read m c t
  h3 := b3_read m c t
  h4 := b4_read m c t
  h5 := b5_read m c t
  h6 := b6_read m c t
  h7 := b7_read m c t

/-- The array of gated values after the run. -/
theorem final8 (c : Dev nD) : (dats m 0 c).arrAt 8 cfg0.N = arr2 (fun (r : Fin 32) (l : Fin 256) => ogm (aX m c) (aG m c) (aW m c) (aL m c) (aS m c) (aB m c) r l) := by
  have ew := (by decide +kernel : ∀ t : Fin grid0.N, win0_8.index t 0 * win0_8.size 0 = 0 ∧ win0_8.index t 1 * win0_8.size 1 = 0)
  refine (dats m 0 c).arrAt_eq_of_covers 8 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 8 t (ix2 p l) = _
  rw [after0_8]
  refine (out8_read (holds m c t) p l).trans ?_
  have e0 : ((cfg0.win 8).blk t).view.emb (ix2 p l : S32x256.Idx) = (ix2 p l : S32x256.Idx) := by
    have e := ew t
    funext a
    apply Fin.ext
    fin_cases a
    · show win0_8.index t 0 * win0_8.size 0 + 1 * p.val = p.val
      rw [e.1]; omega
    · show win0_8.index t 1 * win0_8.size 1 + 1 * l.val = l.val
      rw [e.2]; omega
  exact (congrArg (arr2 (fun (r : Fin 32) (l : Fin 256) => ogm (aX m c) (aG m c) (aW m c) (aL m c) (aS m c) (aB m c) r l)) e0).symm

/-- The array of normed values after the run. -/
theorem final9 (c : Dev nD) : (dats m 0 c).arrAt 9 cfg0.N = arr2 (fun (r : Fin 32) (l : Fin 256) => vgm (aX m c) (aG m c) (aW m c) (aL m c) r l) := by
  have ew := (by decide +kernel : ∀ t : Fin grid0.N, win0_9.index t 0 * win0_9.size 0 = 0 ∧ win0_9.index t 1 * win0_9.size 1 = 0)
  refine (dats m 0 c).arrAt_eq_of_covers 9 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 9 t (ix2 p l) = _
  rw [after0_9]
  refine (out9_read (holds m c t) p l).trans ?_
  have e0 : ((cfg0.win 9).blk t).view.emb (ix2 p l : S32x256.Idx) = (ix2 p l : S32x256.Idx) := by
    have e := ew t
    funext a
    apply Fin.ext
    fin_cases a
    · show win0_9.index t 0 * win0_9.size 0 + 1 * p.val = p.val
      rw [e.1]; omega
    · show win0_9.index t 1 * win0_9.size 1 + 1 * l.val = l.val
      rw [e.2]; omega
  exact (congrArg (arr2 (fun (r : Fin 32) (l : Fin 256) => vgm (aX m c) (aG m c) (aW m c) (aL m c) r l)) e0).symm

/-- The array of padded queries after the run. -/
theorem final10 (c : Dev nD) : (dats m 0 c).arrAt 10 cfg0.N = arr2 (fun (r : Fin 32) (l : Fin 1024) => qpad (aX m c) (aG m c) (aW m c) r l) := by
  have ew := (by decide +kernel : ∀ t : Fin grid0.N, win0_10.index t 0 * win0_10.size 0 = 0 ∧ win0_10.index t 1 * win0_10.size 1 = 0)
  refine (dats m 0 c).arrAt_eq_of_covers 10 _ (by decide +kernel) fun t hf y => ?_
  obtain ⟨p, l, rfl⟩ : ∃ (p : Fin 32) (l : Fin 1024), y = (ix2 p l : S32x1024.Idx) := ⟨y 0, y 1, by funext k; fin_cases k <;> rfl⟩
  show (dats m 0 c).after 10 t (ix2 p l) = _
  rw [after0_10]
  refine (out10_read (holds m c t) p l).trans ?_
  have e0 : ((cfg0.win 10).blk t).view.emb (ix2 p l : S32x1024.Idx) = (ix2 p l : S32x1024.Idx) := by
    have e := ew t
    funext a
    apply Fin.ext
    fin_cases a
    · show win0_10.index t 0 * win0_10.size 0 + 1 * p.val = p.val
      rw [e.1]; omega
    · show win0_10.index t 1 * win0_10.size 1 + 1 * l.val = l.val
      rw [e.2]; omega
  exact (congrArg (arr2 (fun (r : Fin 32) (l : Fin 1024) => qpad (aX m c) (aG m c) (aW m c) r l)) e0).symm

/-- The array of compressed keys and values after the run. -/
theorem final11 (c : Dev nD) : (dats m 0 c).arrAt 11 cfg0.N = arr2 (fun (r : Fin 32) (l : Fin 256) => kv (aX m c) (aG m c) (aW m c) 0 r l.val) := by
  have ew := (by decide +kernel : ∀ t : Fin grid0.N, win0_11.index t 0 * win0_11.size 0 = 0 ∧ win0_11.index t 1 * win0_11.size 1 = 0)
  refine (dats m 0 c).arrAt_eq_of_covers 11 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 11 t (ix2 p l) = _
  rw [after0_11]
  refine (out11_read (holds m c t) p l).trans ?_
  have e0 : ((cfg0.win 11).blk t).view.emb (ix2 p l : S32x256.Idx) = (ix2 p l : S32x256.Idx) := by
    have e := ew t
    funext a
    apply Fin.ext
    fin_cases a
    · show win0_11.index t 0 * win0_11.size 0 + 1 * p.val = p.val
      rw [e.1]; omega
    · show win0_11.index t 1 * win0_11.size 1 + 1 * l.val = l.val
      rw [e.2]; omega
  exact (congrArg (arr2 (fun (r : Fin 32) (l : Fin 256) => kv (aX m c) (aG m c) (aW m c) 0 r l.val)) e0).symm

/-- The array of selected keys and values after the run. -/
theorem final12 (c : Dev nD) : (dats m 0 c).arrAt 12 cfg0.N = arr2 (fun (r : Fin 32) (l : Fin 256) => kv (aX m c) (aG m c) (aW m c) 1 r l.val) := by
  have ew := (by decide +kernel : ∀ t : Fin grid0.N, win0_12.index t 0 * win0_12.size 0 = 0 ∧ win0_12.index t 1 * win0_12.size 1 = 0)
  refine (dats m 0 c).arrAt_eq_of_covers 12 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 12 t (ix2 p l) = _
  rw [after0_12]
  refine (out12_read (holds m c t) p l).trans ?_
  have e0 : ((cfg0.win 12).blk t).view.emb (ix2 p l : S32x256.Idx) = (ix2 p l : S32x256.Idx) := by
    have e := ew t
    funext a
    apply Fin.ext
    fin_cases a
    · show win0_12.index t 0 * win0_12.size 0 + 1 * p.val = p.val
      rw [e.1]; omega
    · show win0_12.index t 1 * win0_12.size 1 + 1 * l.val = l.val
      rw [e.2]; omega
  exact (congrArg (arr2 (fun (r : Fin 32) (l : Fin 256) => kv (aX m c) (aG m c) (aW m c) 1 r l.val)) e0).symm

/-- The array of windowed keys and values after the run. -/
theorem final13 (c : Dev nD) : (dats m 0 c).arrAt 13 cfg0.N = arr2 (fun (r : Fin 32) (l : Fin 256) => kv (aX m c) (aG m c) (aW m c) 2 r l.val) := by
  have ew := (by decide +kernel : ∀ t : Fin grid0.N, win0_13.index t 0 * win0_13.size 0 = 0 ∧ win0_13.index t 1 * win0_13.size 1 = 0)
  refine (dats m 0 c).arrAt_eq_of_covers 13 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 13 t (ix2 p l) = _
  rw [after0_13]
  refine (out13_read (holds m c t) p l).trans ?_
  have e0 : ((cfg0.win 13).blk t).view.emb (ix2 p l : S32x256.Idx) = (ix2 p l : S32x256.Idx) := by
    have e := ew t
    funext a
    apply Fin.ext
    fin_cases a
    · show win0_13.index t 0 * win0_13.size 0 + 1 * p.val = p.val
      rw [e.1]; omega
    · show win0_13.index t 1 * win0_13.size 1 + 1 * l.val = l.val
      rw [e.2]; omega
  exact (congrArg (arr2 (fun (r : Fin 32) (l : Fin 256) => kv (aX m c) (aG m c) (aW m c) 2 r l.val)) e0).symm

/-- The array of keys and values, narrow after the run. -/
theorem final14 (c : Dev nD) : (dats m 0 c).arrAt 14 cfg0.N = arr2 (fun (r : Fin 32) (l : Fin 512) => kvb (aX m c) (aG m c) (aW m c) r l) := by
  have ew := (by decide +kernel : ∀ t : Fin grid0.N, win0_14.index t 0 * win0_14.size 0 = 0 ∧ win0_14.index t 1 * win0_14.size 1 = 0)
  refine (dats m 0 c).arrAt_eq_of_covers 14 _ (by decide +kernel) fun t hf y => ?_
  obtain ⟨p, l, rfl⟩ : ∃ (p : Fin 32) (l : Fin 512), y = (ix2 p l : S32x512.Idx) := ⟨y 0, y 1, by funext k; fin_cases k <;> rfl⟩
  show (dats m 0 c).after 14 t (ix2 p l) = _
  rw [after0_14]
  refine (out14_read (holds m c t) p l).trans ?_
  have e0 : ((cfg0.win 14).blk t).view.emb (ix2 p l : S32x512.Idx) = (ix2 p l : S32x512.Idx) := by
    have e := ew t
    funext a
    apply Fin.ext
    fin_cases a
    · show win0_14.index t 0 * win0_14.size 0 + 1 * p.val = p.val
      rw [e.1]; omega
    · show win0_14.index t 1 * win0_14.size 1 + 1 * l.val = l.val
      rw [e.2]; omega
  exact (congrArg (arr2 (fun (r : Fin 32) (l : Fin 512) => kvb (aX m c) (aG m c) (aW m c) r l)) e0).symm

/-- The array of gates after the run. -/
theorem final15 (c : Dev nD) : (dats m 0 c).arrAt 15 cfg0.N = arr2 (fun (r : Fin 32) (l : Fin 128) => gates (aX m c) (aG m c) (aW m c) r l) := by
  have ew := (by decide +kernel : ∀ t : Fin grid0.N, win0_15.index t 0 * win0_15.size 0 = 0 ∧ win0_15.index t 1 * win0_15.size 1 = 0)
  refine (dats m 0 c).arrAt_eq_of_covers 15 _ (by decide +kernel) fun t hf y => ?_
  obtain ⟨p, l, rfl⟩ : ∃ (p : Fin 32) (l : Fin 128), y = (ix2 p l : S32x128.Idx) := ⟨y 0, y 1, by funext k; fin_cases k <;> rfl⟩
  show (dats m 0 c).after 15 t (ix2 p l) = _
  rw [after0_15]
  refine (out15_read (holds m c t) p l).trans ?_
  have e0 : ((cfg0.win 15).blk t).view.emb (ix2 p l : S32x128.Idx) = (ix2 p l : S32x128.Idx) := by
    have e := ew t
    funext a
    apply Fin.ext
    fin_cases a
    · show win0_15.index t 0 * win0_15.size 0 + 1 * p.val = p.val
      rw [e.1]; omega
    · show win0_15.index t 1 * win0_15.size 1 + 1 * l.val = l.val
      rw [e.2]; omega
  exact (congrArg (arr2 (fun (r : Fin 32) (l : Fin 128) => gates (aX m c) (aG m c) (aW m c) r l)) e0).symm

/-- The array of the shifted layer after the run. -/
theorem final16 (c : Dev nD) : (dats m 0 c).arrAt 16 cfg0.N = arr2 (fun (r : Fin 32) (l : Fin 1024) => zrw (aX m c) (aG m c) (aW m c) r l) := by
  have ew := (by decide +kernel : ∀ t : Fin grid0.N, win0_16.index t 0 * win0_16.size 0 = 0 ∧ win0_16.index t 1 * win0_16.size 1 = 0)
  refine (dats m 0 c).arrAt_eq_of_covers 16 _ (by decide +kernel) fun t hf y => ?_
  obtain ⟨p, l, rfl⟩ : ∃ (p : Fin 32) (l : Fin 1024), y = (ix2 p l : S32x1024.Idx) := ⟨y 0, y 1, by funext k; fin_cases k <;> rfl⟩
  show (dats m 0 c).after 16 t (ix2 p l) = _
  rw [after0_16]
  refine (out16_read (holds m c t) p l).trans ?_
  have e0 : ((cfg0.win 16).blk t).view.emb (ix2 p l : S32x1024.Idx) = (ix2 p l : S32x1024.Idx) := by
    have e := ew t
    funext a
    apply Fin.ext
    fin_cases a
    · show win0_16.index t 0 * win0_16.size 0 + 1 * p.val = p.val
      rw [e.1]; omega
    · show win0_16.index t 1 * win0_16.size 1 + 1 * l.val = l.val
      rw [e.2]; omega
  exact (congrArg (arr2 (fun (r : Fin 32) (l : Fin 1024) => zrw (aX m c) (aG m c) (aW m c) r l)) e0).symm

/-- The array of queries after the run. -/
theorem final17 (c : Dev nD) : (dats m 0 c).arrAt 17 cfg0.N = arr2 (fun (r : Fin 32) (l : Fin 512) => qrow (aX m c) (aG m c) (aW m c) r l) := by
  have ew := (by decide +kernel : ∀ t : Fin grid0.N, win0_17.index t 0 * win0_17.size 0 = 0 ∧ win0_17.index t 1 * win0_17.size 1 = 0)
  refine (dats m 0 c).arrAt_eq_of_covers 17 _ (by decide +kernel) fun t hf y => ?_
  obtain ⟨p, l, rfl⟩ : ∃ (p : Fin 32) (l : Fin 512), y = (ix2 p l : S32x512.Idx) := ⟨y 0, y 1, by funext k; fin_cases k <;> rfl⟩
  show (dats m 0 c).after 17 t (ix2 p l) = _
  rw [after0_17]
  refine (out17_read (holds m c t) p l).trans ?_
  have e0 : ((cfg0.win 17).blk t).view.emb (ix2 p l : S32x512.Idx) = (ix2 p l : S32x512.Idx) := by
    have e := ew t
    funext a
    apply Fin.ext
    fin_cases a
    · show win0_17.index t 0 * win0_17.size 0 + 1 * p.val = p.val
      rw [e.1]; omega
    · show win0_17.index t 1 * win0_17.size 1 + 1 * l.val = l.val
      rw [e.2]; omega
  exact (congrArg (arr2 (fun (r : Fin 32) (l : Fin 512) => qrow (aX m c) (aG m c) (aW m c) r l)) e0).symm

end Cert.StepVal

end
-- ==== Proof.StepClaim.lean ====
/- The claim about the input projection of the rows at position 16384, put together. -/
module

public import proofs.«01_k».proof.Defs
public import proofs.«01_k».proof.Proof.StepValue
public import proofs.«01_k».proof.Proof.Gen.Reference6Ideal.Run
public import Idealize.ShloMosaic.Lib.Quiescent
public import Idealize.ShloMosaic.Lib.Claim

@[expose] public section

set_option maxRecDepth 16384

noncomputable section

namespace Cert.StepVal

open Idealize.ShloMosaic.TcCoe Idealize.SL.Sem Idealize.ShloMosaic
open Cert.ProjVal (ang rope gelu mean lnorm GArr WArr LArr SArr BArr rope_congr col colw arr2 arr_eq)

open Cert.Reference6Ideal Cert.Reference6Ideal.Read in
theorem ref_narrow (X : XArr) (G : GArr) (W : WArr) (L : LArr) (S : SArr) (B : BArr) (r : Fin 32) (l : Fin 256) :
    val_main_v261 (F := Ideal) X G W L S B (ix2 r l) = ogm X G W L S B r l := by
  pointwise [val_main_v261]
  exact ref_ogm _ _ _ _ _ _ _ _

open Cert.Reference6Ideal Cert.Reference6Ideal.Read in
theorem ref_queries (X : XArr) (G : GArr) (W : WArr) (r : Fin 32) (l : Fin 1024) :
    val_main_v262 (F := Ideal) X G W (ix2 r l) = qpad X G W r l := by
  pointwise [val_main_v262]
  exact ref_qpad _ _ _ _ _

open Cert.Reference6Ideal Cert.Reference6Ideal.Read in
theorem ref_branches (X : XArr) (G : GArr) (W : WArr) (r : Fin 32) (l : Fin 512) :
    val_main_v264 (F := Ideal) X G W (ix2 r l) = kvb X G W r l := by
  pointwise [val_main_v264]
  exact ref_kvb _ _ _ _ _

/-- The reference runs, leaves its arguments as they were and every counter at zero. -/
theorem reference_frame : Cert.quiescent_Reference6Ideal (hReference6Ideal := Cert.Reference6Ideal.Gen.facts) := fun m g _ =>
  (θ_run _ _ _).mono (fun r h => ⟨fun c => (h c).2.2.2.2.2.2.2.2.2.2, sem_eq_zero_of_no_sems (by decide) r.2⟩)
    (Cert.Reference6Ideal.Value.run m g)

open Cert.Reference6Ideal Cert.Reference6Ideal.Read in
/-- The array of gated values that the reference leaves. -/
theorem left8 (X : XArr) (G : GArr) (W : WArr) (L : LArr) (S : SArr) (B : BArr) :
    (val_main_v261 (F := Ideal) X G W L S B : S32x256.Idx → EReal) = arr2 (fun (r : Fin 32) (l : Fin 256) => ogm X G W L S B r l) :=
  arr_eq _ _ (ref_narrow X G W L S B)

open Cert.Reference6Ideal Cert.Reference6Ideal.Read in
/-- The array of normed values that the reference leaves. -/
theorem left9 (X : XArr) (G : GArr) (W : WArr) (L : LArr) :
    (val_main_v59 (F := Ideal) X G W L : S32x256.Idx → EReal) = arr2 (fun (r : Fin 32) (l : Fin 256) => vgm X G W L r l) :=
  arr_eq _ _ (ref_vgm X G W L)

open Cert.Reference6Ideal Cert.Reference6Ideal.Read in
/-- The array of padded queries that the reference leaves. -/
theorem left10 (X : XArr) (G : GArr) (W : WArr) :
    (val_main_v262 (F := Ideal) X G W : S32x1024.Idx → EReal) = arr2 (fun (r : Fin 32) (l : Fin 1024) => qpad X G W r l) :=
  arr_eq _ _ (ref_queries X G W)

open Cert.Reference6Ideal Cert.Reference6Ideal.Read in
/-- The array of compressed keys and values that the reference leaves. -/
theorem left11 (X : XArr) (G : GArr) (W : WArr) :
    (val_main_v166 (F := Ideal) X G W : S32x256.Idx → EReal) = arr2 (fun (r : Fin 32) (l : Fin 256) => kv X G W 0 r l.val) :=
  arr_eq _ _ (ref_kv0 X G W)

open Cert.Reference6Ideal Cert.Reference6Ideal.Read in
/-- The array of selected keys and values that the reference leaves. -/
theorem left12 (X : XArr) (G : GArr) (W : WArr) :
    (val_main_v207 (F := Ideal) X G W : S32x256.Idx → EReal) = arr2 (fun (r : Fin 32) (l : Fin 256) => kv X G W 1 r l.val) :=
  arr_eq _ _ (ref_kv1 X G W)

open Cert.Reference6Ideal Cert.Reference6Ideal.Read in
/-- The array of windowed keys and values that the reference leaves. -/
theorem left13 (X : XArr) (G : GArr) (W : WArr) :
    (val_main_v248 (F := Ideal) X G W : S32x256.Idx → EReal) = arr2 (fun (r : Fin 32) (l : Fin 256) => kv X G W 2 r l.val) :=
  arr_eq _ _ (ref_kv2 X G W)

open Cert.Reference6Ideal Cert.Reference6Ideal.Read in
/-- The array of keys and values, narrow that the reference leaves. -/
theorem left14 (X : XArr) (G : GArr) (W : WArr) :
    (val_main_v264 (F := Ideal) X G W : S32x512.Idx → EReal) = arr2 (fun (r : Fin 32) (l : Fin 512) => kvb X G W r l) :=
  arr_eq _ _ (ref_branches X G W)

open Cert.Reference6Ideal Cert.Reference6Ideal.Read in
/-- The array of gates that the reference leaves. -/
theorem left15 (X : XArr) (G : GArr) (W : WArr) :
    (val_main_v260 (F := Ideal) X G W : S32x128.Idx → EReal) = arr2 (fun (r : Fin 32) (l : Fin 128) => gates X G W r l) :=
  arr_eq _ _ (ref_gates X G W)

open Cert.Reference6Ideal Cert.Reference6Ideal.Read in
/-- The array of the shifted layer that the reference leaves. -/
theorem left16 (X : XArr) (G : GArr) (W : WArr) :
    (val_main_v265 (F := Ideal) X G W : S32x1024.Idx → EReal) = arr2 (fun (r : Fin 32) (l : Fin 1024) => zrw X G W r l) :=
  arr_eq _ _ (ref_zrw X G W)

open Cert.Reference6Ideal Cert.Reference6Ideal.Read in
/-- The array of queries that the reference leaves. -/
theorem left17 (X : XArr) (G : GArr) (W : WArr) :
    (val_main_v266 (F := Ideal) X G W : S32x512.Idx → EReal) = arr2 (fun (r : Fin 32) (l : Fin 512) => qrow X G W r l) :=
  arr_eq _ _ (ref_qrow X G W)

open Cert.Reference6Ideal in
/-- The kernel of the input projection of the rows at position 16384 and its reference leave the same ten arrays, from all arguments. -/
theorem step_algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => arr2 (fun (r : Fin 32) (l : Fin 256) => ogm (aX m c) (aG m c) (aW m c) (aL m c) (aS m c) (aB m c) r l),
    fun c => arr2 (fun (r : Fin 32) (l : Fin 256) => vgm (aX m c) (aG m c) (aW m c) (aL m c) r l),
    fun c => arr2 (fun (r : Fin 32) (l : Fin 1024) => qpad (aX m c) (aG m c) (aW m c) r l),
    fun c => arr2 (fun (r : Fin 32) (l : Fin 256) => kv (aX m c) (aG m c) (aW m c) 0 r l.val),
    fun c => arr2 (fun (r : Fin 32) (l : Fin 256) => kv (aX m c) (aG m c) (aW m c) 1 r l.val),
    fun c => arr2 (fun (r : Fin 32) (l : Fin 256) => kv (aX m c) (aG m c) (aW m c) 2 r l.val),
    fun c => arr2 (fun (r : Fin 32) (l : Fin 512) => kvb (aX m c) (aG m c) (aW m c) r l),
    fun c => arr2 (fun (r : Fin 32) (l : Fin 128) => gates (aX m c) (aG m c) (aW m c) r l),
    fun c => arr2 (fun (r : Fin 32) (l : Fin 1024) => zrw (aX m c) (aG m c) (aW m c) r l),
    fun c => arr2 (fun (r : Fin 32) (l : Fin 512) => qrow (aX m c) (aG m c) (aW m c) r l), ?_, ?_⟩
  · refine (θ_run _ _ _).mono (fun r h c => ?_) (Cert.Kernel6Ideal.Value.run_blocks m ρ)
    obtain ⟨h0, h1, h2, h3, h4, h5, h6, h7, h8, h9, hr⟩ := h c
    exact ⟨h0.trans (final8 m c), h1.trans (final9 m c), h2.trans (final10 m c), h3.trans (final11 m c), h4.trans (final12 m c), h5.trans (final13 m c), h6.trans (final14 m c), h7.trans (final15 m c), h8.trans (final16 m c), h9.trans (final17 m c), hr⟩
  · refine (θ_run _ _ _).mono (fun r h c => ?_) (Cert.Reference6Ideal.Value.run m' ρ')
    obtain ⟨h0, h1, h2, h3, h4, h5, h6, h7, h8, h9, hr⟩ := h c
    obtain ⟨g0, g1, g2, g3, g4, g5⟩ := hagree c
    refine ⟨?_, ?_, ?_, ?_, ?_, ?_, ?_, ?_, ?_, ?_, hr⟩
    · refine h0.trans ((Cert.Reference6Ideal.Read.val_main_v261_eq _).trans ?_)
      refine (left8 _ _ _ _ _ _ ).trans ?_
      show arr2 (fun (r : Fin 32) (l : Fin 256) => ogm (m' (c.tc.loc main_arg0)) (m' (c.tc.loc main_arg1)) (m' (c.tc.loc main_arg2)) (m' (c.tc.loc main_arg3)) (m' (c.tc.loc main_arg4)) (m' (c.tc.loc main_arg5)) r l) = arr2 (fun (r : Fin 32) (l : Fin 256) => ogm (aX m c) (aG m c) (aW m c) (aL m c) (aS m c) (aB m c) r l)
      rw [g0, g1, g2, g3, g4, g5]
    · refine h1.trans ((Cert.Reference6Ideal.Read.val_main_v59_eq _).trans ?_)
      refine (left9 _ _ _ _ ).trans ?_
      show arr2 (fun (r : Fin 32) (l : Fin 256) => vgm (m' (c.tc.loc main_arg0)) (m' (c.tc.loc main_arg1)) (m' (c.tc.loc main_arg2)) (m' (c.tc.loc main_arg3)) r l) = arr2 (fun (r : Fin 32) (l : Fin 256) => vgm (aX m c) (aG m c) (aW m c) (aL m c) r l)
      rw [g0, g1, g2, g3]
    · refine h2.trans ((Cert.Reference6Ideal.Read.val_main_v262_eq _).trans ?_)
      refine (left10 _ _ _ ).trans ?_
      show arr2 (fun (r : Fin 32) (l : Fin 1024) => qpad (m' (c.tc.loc main_arg0)) (m' (c.tc.loc main_arg1)) (m' (c.tc.loc main_arg2)) r l) = arr2 (fun (r : Fin 32) (l : Fin 1024) => qpad (aX m c) (aG m c) (aW m c) r l)
      rw [g0, g1, g2]
    · refine h3.trans ((Cert.Reference6Ideal.Read.val_main_v166_eq _).trans ?_)
      refine (left11 _ _ _ ).trans ?_
      show arr2 (fun (r : Fin 32) (l : Fin 256) => kv (m' (c.tc.loc main_arg0)) (m' (c.tc.loc main_arg1)) (m' (c.tc.loc main_arg2)) 0 r l.val) = arr2 (fun (r : Fin 32) (l : Fin 256) => kv (aX m c) (aG m c) (aW m c) 0 r l.val)
      rw [g0, g1, g2]
    · refine h4.trans ((Cert.Reference6Ideal.Read.val_main_v207_eq _).trans ?_)
      refine (left12 _ _ _ ).trans ?_
      show arr2 (fun (r : Fin 32) (l : Fin 256) => kv (m' (c.tc.loc main_arg0)) (m' (c.tc.loc main_arg1)) (m' (c.tc.loc main_arg2)) 1 r l.val) = arr2 (fun (r : Fin 32) (l : Fin 256) => kv (aX m c) (aG m c) (aW m c) 1 r l.val)
      rw [g0, g1, g2]
    · refine h5.trans ((Cert.Reference6Ideal.Read.val_main_v248_eq _).trans ?_)
      refine (left13 _ _ _ ).trans ?_
      show arr2 (fun (r : Fin 32) (l : Fin 256) => kv (m' (c.tc.loc main_arg0)) (m' (c.tc.loc main_arg1)) (m' (c.tc.loc main_arg2)) 2 r l.val) = arr2 (fun (r : Fin 32) (l : Fin 256) => kv (aX m c) (aG m c) (aW m c) 2 r l.val)
      rw [g0, g1, g2]
    · refine h6.trans ((Cert.Reference6Ideal.Read.val_main_v264_eq _).trans ?_)
      refine (left14 _ _ _ ).trans ?_
      show arr2 (fun (r : Fin 32) (l : Fin 512) => kvb (m' (c.tc.loc main_arg0)) (m' (c.tc.loc main_arg1)) (m' (c.tc.loc main_arg2)) r l) = arr2 (fun (r : Fin 32) (l : Fin 512) => kvb (aX m c) (aG m c) (aW m c) r l)
      rw [g0, g1, g2]
    · refine h7.trans ((Cert.Reference6Ideal.Read.val_main_v260_eq _).trans ?_)
      refine (left15 _ _ _ ).trans ?_
      show arr2 (fun (r : Fin 32) (l : Fin 128) => gates (m' (c.tc.loc main_arg0)) (m' (c.tc.loc main_arg1)) (m' (c.tc.loc main_arg2)) r l) = arr2 (fun (r : Fin 32) (l : Fin 128) => gates (aX m c) (aG m c) (aW m c) r l)
      rw [g0, g1, g2]
    · refine h8.trans ((Cert.Reference6Ideal.Read.val_main_v265_eq _).trans ?_)
      refine (left16 _ _ _ ).trans ?_
      show arr2 (fun (r : Fin 32) (l : Fin 1024) => zrw (m' (c.tc.loc main_arg0)) (m' (c.tc.loc main_arg1)) (m' (c.tc.loc main_arg2)) r l) = arr2 (fun (r : Fin 32) (l : Fin 1024) => zrw (aX m c) (aG m c) (aW m c) r l)
      rw [g0, g1, g2]
    · refine h9.trans ((Cert.Reference6Ideal.Read.val_main_v266_eq _).trans ?_)
      refine (left17 _ _ _ ).trans ?_
      show arr2 (fun (r : Fin 32) (l : Fin 512) => qrow (m' (c.tc.loc main_arg0)) (m' (c.tc.loc main_arg1)) (m' (c.tc.loc main_arg2)) r l) = arr2 (fun (r : Fin 32) (l : Fin 512) => qrow (aX m c) (aG m c) (aW m c) r l)
      rw [g0, g1, g2]

end Cert.StepVal

end
-- ==== Proof.NextSpec.lean ====
/- The convolved feed-forward layer of one token per sequence, as functions of its argument arrays. -/
module

public import proofs.«01_k».proof.Proof.FfnSpec

@[expose] public section

noncomputable section

namespace Cert.NextVal

open Idealize.ShloMosaic
open Cert.FfnVal (normed gcol ucol NArr WArr TArr BArr OArr)

/-- The rows: one per sequence. -/
abbrev XArr := (⟨2, ![32, 1024]⟩ : Shape).Idx → EReal
/-- The two gate rows before each sequence's row. -/
abbrev PArr := (⟨3, ![32, 2, 2816]⟩ : Shape).Idx → EReal
/-- A gate row per sequence. -/
abbrev GArr := (⟨2, ![32, 2816]⟩ : Shape).Idx → EReal

variable (X : XArr) (P : PArr) (N : NArr) (W : WArr) (T : TArr) (B : BArr) (O : OArr)

/-- The normalised row. -/
def hid (r : Fin 32) (l : Fin 1024) : EReal := normed (fun k => X (ix2 r k)) (fun k => N (ix2 4 k)) l
/-- The gate before the convolution. -/
def gate (r : Fin 32) (f : Fin 2816) : EReal := ∑ k, hid X N r k * W (ix2 k (gcol f))
/-- The other factor. -/
def up (r : Fin 32) (f : Fin 2816) : EReal := ∑ k, hid X N r k * W (ix2 k (ucol f))
/-- The gate convolved over the row and the two before it. -/
def conv (r : Fin 32) (f : Fin 2816) : EReal :=
  B (ix1 f) + P (ix3 r 0 f) * T (ix2 0 f) + P (ix3 r 1 f) * T (ix2 1 f) + gate X N W r f * T (ix2 2 f)
/-- The product that the output weights take. -/
def act (r : Fin 32) (f : Fin 2816) : EReal :=
  conv X P N W T B r f * Ideal.logistic (conv X P N W T B r f) * up X N W r f
/-- What the output weights give. -/
def mixed (r : Fin 32) (l : Fin 1024) : EReal := ∑ f, act X P N W T B r f * O (ix2 f l)
/-- The row with the layer's contribution added. -/
def out (r : Fin 32) (l : Fin 1024) : EReal :=
  X (ix2 r l) + normed (mixed X P N W T B O r) (fun k => N (ix2 5 k)) l

/-- The output array. -/
def outArr : XArr := fun i => out X P N W T B O ⟨(i 0).val, (i 0).isLt⟩ ⟨(i 1).val, (i 1).isLt⟩
/-- The gate rows. -/
def gateArr : GArr := fun i => gate X N W ⟨(i 0).val, (i 0).isLt⟩ ⟨(i 1).val, (i 1).isLt⟩

end Cert.NextVal

end
-- ==== Proof.NextPay.lean ====
/- The pieces of the feed-forward kernel of one token per sequence, read index by index. -/
module

public import proofs.«01_k».proof.Proof.NextSpec
public import proofs.«01_k».proof.Proof.Gen.Kernel7Ideal.Skeleton

@[expose] public section

set_option maxRecDepth 16384

noncomputable section

namespace Cert.NextVal

open Cert.Kernel7Ideal Cert.Kernel7Ideal.Gen Idealize.ShloMosaic
open Cert.FfnVal (normed)

theorem pay3_read (x : Vec Ideal S32x1024 .f32) (g : Vec Ideal S1x1024 .f32) (p : Fin 32) (l : Fin 1024) :
    k0_pay3 (F := Ideal) x g (ix2 p l) = normed (fun k => x (ix2 p k)) (fun k => g (ix2 0 k)) l := by
  pointwise [k0_pay3]
  rfl

theorem pay5_read (h : Vec Ideal S32x1024 .bf16) (w : Vec Ideal S1024x256 .bf16) (p : Fin 32) (f : Fin 256) :
    k0_pay5 (F := Ideal) h w (ix2 p f) = ∑ k : Fin 1024, h (ix2 p k) * w (ix2 k f) := by
  pointwise [k0_pay5, dot_S32x1024_S1024x256_S32x256_1_0_0_1_n_n]

theorem pay6_read (h : Vec Ideal S32x1024 .bf16) (w : Vec Ideal S1024x256 .bf16) (p : Fin 32) (f : Fin 256) :
    k0_pay6 (F := Ideal) h w (ix2 p f) = ∑ k : Fin 1024, h (ix2 p k) * w (ix2 k f) := by
  pointwise [k0_pay6, dot_S32x1024_S1024x256_S32x256_1_0_0_1_n_n]

theorem pay4_read (p : Fin 32) (l : Fin 1024) : k0_pay4 (F := Ideal) (ix2 p l) = 0 := by
  pointwise [k0_pay4]

/-- The convolution of a block, -/
def cv (g p0 p1 b t0 t1 t2 : EReal) : EReal := b + p0 * t0 + p1 * t1 + g * t2

theorem pay7_read (h : Vec Ideal S32x1024 .bf16) (w : Vec Ideal S1024x256 .bf16) (p0 p1 : Vec Ideal S32x256 .f32) (b t0 t1 t2 : Vec Ideal S1x256 .f32) (p : Fin 32) (f : Fin 256) :
    k0_pay7 (F := Ideal) h w p0 p1 b t0 t1 t2 (ix2 p f)
      = cv (k0_pay5 (F := Ideal) h w (ix2 p f)) (p0 (ix2 p f)) (p1 (ix2 p f)) (b (ix2 0 f)) (t0 (ix2 0 f)) (t1 (ix2 0 f)) (t2 (ix2 0 f))
        * Ideal.logistic (cv (k0_pay5 (F := Ideal) h w (ix2 p f)) (p0 (ix2 p f)) (p1 (ix2 p f)) (b (ix2 0 f)) (t0 (ix2 0 f)) (t1 (ix2 0 f)) (t2 (ix2 0 f))) := by
  pointwise [k0_pay7]
  rfl

theorem pay1_read (u a : FVec Ideal S32x256 .f32) (acc : Vec Ideal S32x1024 .f32) (w : Vec Ideal S256x1024 .bf16) (p : Fin 32) (l : Fin 1024) :
    k0_pay1 (F := Ideal) u a acc w (ix2 p l) = acc (ix2 p l) + ∑ f : Fin 256, a (ix2 p f) * u (ix2 p f) * w (ix2 f l) := by
  pointwise [k0_pay1, dot_S32x256_S256x1024_S32x1024_1_0_0_1_n_n]

theorem pay2_read (x acc : Vec Ideal S32x1024 .f32) (g : Vec Ideal S1x1024 .f32) (p : Fin 32) (l : Fin 1024) :
    k0_pay2 (F := Ideal) x acc g (ix2 p l) = x (ix2 p l) + normed (fun k => acc (ix2 p k)) (fun k => g (ix2 0 k)) l := by
  pointwise [k0_pay2]
  rfl

end Cert.NextVal

end
-- ==== Proof.NextCase.lean ====
/- What each case of the feed-forward kernel of one token per sequence leaves, as its pieces. -/
module

public import proofs.«01_k».proof.Proof.Gen.Kernel7Ideal.Value
public import proofs.«01_k».proof.Proof.WholeRead
public import Idealize.ShloMosaic.Lib.Pointwise.Tactic
public import Idealize.ShloMosaic.Lib.Pointwise.Sums
public import Idealize.ShloMosaic.Lib.Pointwise.Contract
public import Idealize.ShloMosaic.Lib.Pointwise.Reduce
public import Idealize.ShloMosaic.Lib.Pointwise.ReduceUnfold
public import Idealize.ShloMosaic.Lib.Pointwise.Select
public import Idealize.ShloMosaic.Lib.Pointwise.Reshape

@[expose] public section

set_option maxRecDepth 16384

noncomputable section

namespace Cert.NextVal

open Cert.Kernel7Ideal Cert.Kernel7Ideal.Gen Idealize.ShloMosaic.TcCoe Idealize.SL.Sem Idealize.ShloMosaic
open Cert.WholeRead (full part)

variable {F : FTy → Type} [FloatOps F]

/-- The normalised rows. -/
abbrev hOf (x0 : Vec F S32x1024 .f32) (x3 : Vec F S6x1024 .f32) : Vec F S32x1024 .bf16 :=
  k0_pay3 x0 (VecWindow.window x3 ![4, 0] S1x1024.size inb_S6x1024_S1x1024_4_0)
/-- A sum with a block's contribution added. -/
abbrev accOf (h : Vec F S32x1024 .bf16) (acc : Vec F S32x1024 .f32) (x1 x2 : Vec F S32x256 .f32) (x4 x5 : Vec F S1024x256 .bf16) (x6 : Vec F S3x256 .f32) (x7 : Vec F S1x256 .f32) (x8 : Vec F S256x1024 .bf16) : Vec F S32x1024 .f32 :=
  k0_pay1 (k0_pay6 h x5) (k0_pay7 h x4 x1 x2 x7 (VecWindow.window x6 ![0, 0] S1x256.size inb_S3x256_S1x256_0_0)
    (VecWindow.window x6 ![1, 0] S1x256.size inb_S3x256_S1x256_1_0) (VecWindow.window x6 ![2, 0] S1x256.size inb_S3x256_S1x256_2_0)) acc x8

theorem acc_eq {h h1 h2 : Vec F S32x1024 .bf16} {acc acc' : Vec F S32x1024 .f32} {x1 y1 x2 y2 : Vec F S32x256 .f32} {x4 y4 x5 y5 : Vec F S1024x256 .bf16} {x6 : Vec F S3x256 .f32} {x7 y7 : Vec F S1x256 .f32} {x8 y8 : Vec F S256x1024 .bf16} {q0 q1 q2 : Vec F S1x256 .f32}
    (e1 : h1 = h) (e2 : h2 = h) (e3 : acc' = acc) (e4 : y1 = x1) (e5 : y2 = x2) (e6 : y4 = x4) (e7 : y5 = x5) (e8 : y7 = x7) (e9 : y8 = x8)
    (f0 : q0 = VecWindow.window x6 ![0, 0] S1x256.size inb_S3x256_S1x256_0_0) (f1 : q1 = VecWindow.window x6 ![1, 0] S1x256.size inb_S3x256_S1x256_1_0) (f2 : q2 = VecWindow.window x6 ![2, 0] S1x256.size inb_S3x256_S1x256_2_0) :
    k0_pay1 (k0_pay6 h1 y5) (k0_pay7 h2 y4 y1 y2 y7 q0 q1 q2) acc' y8 = accOf h acc x1 x2 x4 x5 x6 x7 x8 := by
  subst e1 e2 e3 e4 e5 e6 e7 e8 e9 f0 f1 f2
  rfl

variable (c : Dev nD) (i : grid0.Coords) (arg2 : Memref sig .tc .vmem S32x1024 .f32) (harg2 : arg2.IsWhole) (arg3 : Memref sig .tc .vmem S32x256 .f32) (harg3 : arg3.IsWhole) (arg4 : Memref sig .tc .vmem S32x256 .f32) (harg4 : arg4.IsWhole) (arg5 : Memref sig .tc .vmem S6x1024 .f32) (harg5 : arg5.IsWhole) (arg6 : Memref sig .tc .vmem S1024x256 .bf16) (harg6 : arg6.IsWhole) (arg7 : Memref sig .tc .vmem S1024x256 .bf16) (harg7 : arg7.IsWhole) (arg8 : Memref sig .tc .vmem S3x256 .f32) (harg8 : arg8.IsWhole) (arg9 : Memref sig .tc .vmem S1x256 .f32) (harg9 : arg9.IsWhole) (arg10 : Memref sig .tc .vmem S256x1024 .bf16) (harg10 : arg10.IsWhole) (arg11 : Memref sig .tc .vmem S32x1024 .f32) (harg11 : arg11.IsWhole) (arg12 : Memref sig .tc .vmem S32x256 .f32) (harg12 : arg12.IsWhole) (arg13 : Memref sig .tc .vmem S32x1024 .bf16) (harg13 : arg13.IsWhole) (arg14 : Memref sig .tc .vmem S32x1024 .f32) (harg14 : arg14.IsWhole) (arg15 : Memref sig .tc .vmem S11x8x256 .f32) (harg15 : arg15.IsWhole)
  (x0 : Vec F S32x1024 .f32) (x1 : Vec F S32x256 .f32) (x2 : Vec F S32x256 .f32) (x3 : Vec F S6x1024 .f32) (x4 : Vec F S1024x256 .bf16) (x5 : Vec F S1024x256 .bf16) (x6 : Vec F S3x256 .f32) (x7 : Vec F S1x256 .f32) (x8 : Vec F S256x1024 .bf16)

theorem A_10 (hc0 : cond0_0 i) (hc1 : ¬cond0_1 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = k0_pay5 (hOf x0 x3) x4 := by
  unfold out0_A_10
  exact (View.read_writes_full _ _ _ _ _).trans (congrArg₂ k0_pay5 ((View.readCov_full _ _ _ _ _).trans (congrArg₂ k0_pay3 (full harg2) (part harg5 rfl))) (full harg6))

theorem A_h (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = hOf x0 x3 := by
  unfold sout0_A_0
  exact (View.read_writes_full _ _ _ _ _).trans (congrArg₂ k0_pay3 (full harg2) (part harg5 rfl))

theorem A_acc (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = accOf (hOf x0 x3) (k0_pay4 (F := F)) x1 x2 x4 x5 x6 x7 x8 := by
  unfold sout0_A_1
  exact (View.read_writes_full _ _ _ _ _).trans (acc_eq ((View.readCov_full _ _ _ _ _).trans (congrArg₂ k0_pay3 (full harg2) (part harg5 rfl))) ((View.readCov_full _ _ _ _ _).trans (congrArg₂ k0_pay3 (full harg2) (part harg5 rfl))) (View.readCov_full _ _ _ _ _) (full harg3) (full harg4) (full harg6) (full harg7) (full harg9) (full harg10) (part harg8 rfl) (part harg8 rfl) (part harg8 rfl))

theorem B_10 (hc0 : ¬cond0_0 i) (hc1 : ¬cond0_1 i) (xs0 : Vec F S32x1024 .bf16) (xs1 : Vec F S32x1024 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = k0_pay5 xs0 x4 := by
  unfold out0_B_10
  exact (View.read_writes_full _ _ _ _ _).trans (congrArg₂ k0_pay5 (full harg13) (full harg6))

theorem B_acc (hc0 : ¬cond0_0 i) (hc1 : ¬cond0_1 i) (xs0 : Vec F S32x1024 .bf16) (xs1 : Vec F S32x1024 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = accOf xs0 xs1 x1 x2 x4 x5 x6 x7 x8 := by
  unfold sout0_B_1
  exact (View.read_writes_full _ _ _ _ _).trans (acc_eq (full harg13) (full harg13) (full harg14) (full harg3) (full harg4) (full harg6) (full harg7) (full harg9) (full harg10) (part harg8 rfl) (part harg8 rfl) (part harg8 rfl))

theorem C_10 (hc0 : ¬cond0_0 i) (hc1 : cond0_1 i) (xs0 : Vec F S32x1024 .bf16) (xs1 : Vec F S32x1024 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = k0_pay5 xs0 x4 := by
  unfold out0_C_10
  exact (View.read_writes_full _ _ _ _ _).trans (congrArg₂ k0_pay5 (full harg13) (full harg6))

theorem C_acc (hc0 : ¬cond0_0 i) (hc1 : cond0_1 i) (xs0 : Vec F S32x1024 .bf16) (xs1 : Vec F S32x1024 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = accOf xs0 xs1 x1 x2 x4 x5 x6 x7 x8 := by
  unfold sout0_C_1
  exact (View.read_writes_full _ _ _ _ _).trans (acc_eq (full harg13) (full harg13) (full harg14) (full harg3) (full harg4) (full harg6) (full harg7) (full harg9) (full harg10) (part harg8 rfl) (part harg8 rfl) (part harg8 rfl))

theorem C_9 (hc0 : ¬cond0_0 i) (hc1 : cond0_1 i) (xs0 : Vec F S32x1024 .bf16) (xs1 : Vec F S32x1024 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = k0_pay2 x0 (accOf xs0 xs1 x1 x2 x4 x5 x6 x7 x8) (VecWindow.window x3 ![5, 0] S1x1024.size inb_S6x1024_S1x1024_5_0) := by
  unfold out0_C_9
  exact (View.read_writes_full _ _ _ _ _).trans (congr (congrArg₂ k0_pay2 (full harg2) ((View.readCov_full _ _ _ _ _).trans (acc_eq (full harg13) (full harg13) (full harg14) (full harg3) (full harg4) (full harg6) (full harg7) (full harg9) (full harg10) (part harg8 rfl) (part harg8 rfl) (part harg8 rfl)))) (part harg5 rfl))

end Cert.NextVal

end
-- ==== Proof.NextValue.lean ====
/- The arrays that the feed-forward kernel of one token per sequence leaves. -/
module

public import proofs.«01_k».proof.Proof.NextPay
public import proofs.«01_k».proof.Proof.NextCase
public import proofs.«01_k».proof.Proof.FfnValue
public import Idealize.ShloMosaic.Lib.Pipeline.ValueKit.Geometry

@[expose] public section

set_option maxRecDepth 16384

noncomputable section

namespace Cert.NextVal

open Cert.Kernel7Ideal Cert.Kernel7Ideal.Gen Idealize.ShloMosaic.TcCoe Idealize.SL.Sem Idealize.ShloMosaic
open Cert.FfnVal (normed gcol ucol NArr WArr TArr BArr OArr win_row)

open Idealize.ShloMosaic.Pipeline (Dat)

variable (m : (ℓ : Loc nD τ sig) → Buf (Elt Ideal) ℓ) (ρ : Dev nD → PrngReg)

/-- The rows of device `c`, -/
abbrev aX (c : Dev nD) : XArr := m ((c : Thread nD τ).loc main_arg0)
/-- the gate rows before them, -/
abbrev aP (c : Dev nD) : PArr := m ((c : Thread nD τ).loc main_arg1)
/-- the scales of the norms, -/
abbrev aN (c : Dev nD) : NArr := m ((c : Thread nD τ).loc main_arg2)
/-- the weights in, -/
abbrev aW (c : Dev nD) : WArr := m ((c : Thread nD τ).loc main_arg3)
/-- the convolution's weights, -/
abbrev aT (c : Dev nD) : TArr := m ((c : Thread nD τ).loc main_arg4)
/-- the convolution's bias, -/
abbrev aB (c : Dev nD) : BArr := m ((c : Thread nD τ).loc main_arg5)
/-- the weights out. -/
abbrev aO (c : Dev nD) : OArr := m ((c : Thread nD τ).loc main_arg6)

theorem V_win (c : Dev nD) (k : Fin 1024) (f : Fin 5632) : (V m c main_v0 : S1024x5632.Idx → EReal) (ix2 k f) = aW m c (ix2 k f) := by
  show (StableHlo.after (hostOps0 (F := Ideal)) _ (Proc.devRef .tc main_v0)) (ix2 k f) = _
  after_results
  pointwise []

theorem V_p0 (c : Dev nD) (r : Fin 32) (f : Fin 2816) : (V m c main_v2 : S32x2816.Idx → EReal) (ix2 r f) = aP m c (ix3 r 0 f) := by
  show (StableHlo.after (hostOps0 (F := Ideal)) _ (Proc.devRef .tc main_v2)) (ix2 r f) = _
  after_results
  pointwise []

theorem V_p1 (c : Dev nD) (r : Fin 32) (f : Fin 2816) : (V m c main_v4 : S32x2816.Idx → EReal) (ix2 r f) = aP m c (ix3 r 1 f) := by
  show (StableHlo.after (hostOps0 (F := Ideal)) _ (Proc.devRef .tc main_v4)) (ix2 r f) = _
  after_results
  pointwise []

theorem V_bias (c : Dev nD) (f : Fin 2816) : (V m c main_v5 : S1x2816.Idx → EReal) (ix2 0 f) = aB m c (ix1 f) := by
  show (StableHlo.after (hostOps0 (F := Ideal)) _ (Proc.devRef .tc main_v5)) (ix2 0 f) = _
  after_results
  pointwise []

theorem V_wout (c : Dev nD) (f : Fin 2816) (l : Fin 1024) : (V m c main_v6 : S2816x1024.Idx → EReal) (ix2 f l) = aO m c (ix2 f l) := by
  show (StableHlo.after (hostOps0 (F := Ideal)) _ (Proc.devRef .tc main_v6)) (ix2 f l) = _
  after_results
  pointwise []

theorem lt_points (t : Fin cfg0.N) : t.val < 11 := Nat.lt_of_lt_of_eq t.isLt N_0

/-- The column of a point's block. -/
abbrev col (t : Fin cfg0.N) (f : Fin 256) : Fin 2816 := ⟨256 * t.val + f.val, by have := lt_points t; omega⟩

/-- The rows. -/
theorem x_read (c : Dev nD) (t : Fin cfg0.N) (p : Fin 32) (l : Fin 1024) : (iblk m c 0 t : Vec Ideal S32x1024 .f32) (ix2 p l) = aX m c (ix2 p l) := by
  have e := (by decide +kernel : ∀ t : Fin grid0.N, win0_0.index t 0 * win0_0.size 0 = 0 ∧ win0_0.index t 1 * win0_0.size 1 = 0) t
  have ht := lt_points t
  refine Eq.trans ?_ (congrFun (V_main_arg0 m c) (ix2 p l))
  show (V m c main_arg0 : S32x1024.Idx → EReal) (((cfg0.win 0).blk t).view.emb ((ix2 p l) : S32x1024.Idx)) = _
  refine congrArg (V m c main_arg0 : S32x1024.Idx → EReal) (funext fun a => Fin.ext ?_)
  fin_cases a
  · show win0_0.index t 0 * win0_0.size 0 + 1 * p.val = p.val
    rw [e.1]; omega
  · show win0_0.index t 1 * win0_0.size 1 + 1 * l.val = l.val
    rw [e.2]; omega

/-- Gate rows before. -/
theorem p0_read (c : Dev nD) (t : Fin cfg0.N) (p : Fin 32) (f : Fin 256) : (iblk m c 1 t : Vec Ideal S32x256 .f32) (ix2 p f) = aP m c (ix3 p 0 (col t f)) := by
  have e := (by decide +kernel : ∀ t : Fin grid0.N, win0_1.index t 0 * win0_1.size 0 = 0 ∧ win0_1.index t 1 * win0_1.size 1 = 256 * t.val) t
  have ht := lt_points t
  refine Eq.trans ?_ (V_p0 m c p (col t f))
  show (V m c main_v2 : S32x2816.Idx → EReal) (((cfg0.win 1).blk t).view.emb ((ix2 p f) : S32x256.Idx)) = _
  refine congrArg (V m c main_v2 : S32x2816.Idx → EReal) (funext fun a => Fin.ext ?_)
  fin_cases a
  · show win0_1.index t 0 * win0_1.size 0 + 1 * p.val = p.val
    rw [e.1]; omega
  · show win0_1.index t 1 * win0_1.size 1 + 1 * f.val = 256 * t.val + f.val
    rw [e.2]; omega

/-- Gate rows before. -/
theorem p1_read (c : Dev nD) (t : Fin cfg0.N) (p : Fin 32) (f : Fin 256) : (iblk m c 2 t : Vec Ideal S32x256 .f32) (ix2 p f) = aP m c (ix3 p 1 (col t f)) := by
  have e := (by decide +kernel : ∀ t : Fin grid0.N, win0_2.index t 0 * win0_2.size 0 = 0 ∧ win0_2.index t 1 * win0_2.size 1 = 256 * t.val) t
  have ht := lt_points t
  refine Eq.trans ?_ (V_p1 m c p (col t f))
  show (V m c main_v4 : S32x2816.Idx → EReal) (((cfg0.win 2).blk t).view.emb ((ix2 p f) : S32x256.Idx)) = _
  refine congrArg (V m c main_v4 : S32x2816.Idx → EReal) (funext fun a => Fin.ext ?_)
  fin_cases a
  · show win0_2.index t 0 * win0_2.size 0 + 1 * p.val = p.val
    rw [e.1]; omega
  · show win0_2.index t 1 * win0_2.size 1 + 1 * f.val = 256 * t.val + f.val
    rw [e.2]; omega

/-- The scales of the norms. -/
theorem scale_read (c : Dev nD) (t : Fin cfg0.N) (k : Fin 6) (l : Fin 1024) : (iblk m c 3 t : Vec Ideal S6x1024 .f32) (ix2 k l) = aN m c (ix2 k l) := by
  have e := (by decide +kernel : ∀ t : Fin grid0.N, win0_3.index t 0 * win0_3.size 0 = 0 ∧ win0_3.index t 1 * win0_3.size 1 = 0) t
  have ht := lt_points t
  refine Eq.trans ?_ (congrFun (V_main_arg2 m c) (ix2 k l))
  show (V m c main_arg2 : S6x1024.Idx → EReal) (((cfg0.win 3).blk t).view.emb ((ix2 k l) : S6x1024.Idx)) = _
  refine congrArg (V m c main_arg2 : S6x1024.Idx → EReal) (funext fun a => Fin.ext ?_)
  fin_cases a
  · show win0_3.index t 0 * win0_3.size 0 + 1 * k.val = k.val
    rw [e.1]; omega
  · show win0_3.index t 1 * win0_3.size 1 + 1 * l.val = l.val
    rw [e.2]; omega

/-- The gate's columns of the weights in. -/
theorem gw_read (c : Dev nD) (t : Fin cfg0.N) (k : Fin 1024) (f : Fin 256) : (iblk m c 4 t : Vec Ideal S1024x256 .bf16) (ix2 k f) = aW m c (ix2 k (gcol (col t f))) := by
  have e := (by decide +kernel : ∀ t : Fin grid0.N, win0_4.index t 0 * win0_4.size 0 = 0 ∧ win0_4.index t 1 * win0_4.size 1 = 256 * t.val) t
  have ht := lt_points t
  refine Eq.trans ?_ (V_win m c k (gcol (col t f)))
  show (V m c main_v0 : S1024x5632.Idx → EReal) (((cfg0.win 4).blk t).view.emb ((ix2 k f) : S1024x256.Idx)) = _
  refine congrArg (V m c main_v0 : S1024x5632.Idx → EReal) (funext fun a => Fin.ext ?_)
  fin_cases a
  · show win0_4.index t 0 * win0_4.size 0 + 1 * k.val = k.val
    rw [e.1]; omega
  · show win0_4.index t 1 * win0_4.size 1 + 1 * f.val = 256 * t.val + f.val
    rw [e.2]; omega

/-- The other factor's columns of the weights in. -/
theorem uw_read (c : Dev nD) (t : Fin cfg0.N) (k : Fin 1024) (f : Fin 256) : (iblk m c 5 t : Vec Ideal S1024x256 .bf16) (ix2 k f) = aW m c (ix2 k (ucol (col t f))) := by
  have e := (by decide +kernel : ∀ t : Fin grid0.N, win0_5.index t 0 * win0_5.size 0 = 0 ∧ win0_5.index t 1 * win0_5.size 1 = 2816 + 256 * t.val) t
  have ht := lt_points t
  refine Eq.trans ?_ (V_win m c k (ucol (col t f)))
  show (V m c main_v0 : S1024x5632.Idx → EReal) (((cfg0.win 5).blk t).view.emb ((ix2 k f) : S1024x256.Idx)) = _
  refine congrArg (V m c main_v0 : S1024x5632.Idx → EReal) (funext fun a => Fin.ext ?_)
  fin_cases a
  · show win0_5.index t 0 * win0_5.size 0 + 1 * k.val = k.val
    rw [e.1]; omega
  · show win0_5.index t 1 * win0_5.size 1 + 1 * f.val = 2816 + (256 * t.val + f.val)
    rw [e.2]; omega

/-- The convolution's weights. -/
theorem tap_read (c : Dev nD) (t : Fin cfg0.N) (k : Fin 3) (f : Fin 256) : (iblk m c 6 t : Vec Ideal S3x256 .f32) (ix2 k f) = aT m c (ix2 k (col t f)) := by
  have e := (by decide +kernel : ∀ t : Fin grid0.N, win0_6.index t 0 * win0_6.size 0 = 0 ∧ win0_6.index t 1 * win0_6.size 1 = 256 * t.val) t
  have ht := lt_points t
  refine Eq.trans ?_ (congrFun (V_main_arg4 m c) (ix2 k (col t f)))
  show (V m c main_arg4 : S3x2816.Idx → EReal) (((cfg0.win 6).blk t).view.emb ((ix2 k f) : S3x256.Idx)) = _
  refine congrArg (V m c main_arg4 : S3x2816.Idx → EReal) (funext fun a => Fin.ext ?_)
  fin_cases a
  · show win0_6.index t 0 * win0_6.size 0 + 1 * k.val = k.val
    rw [e.1]; omega
  · show win0_6.index t 1 * win0_6.size 1 + 1 * f.val = 256 * t.val + f.val
    rw [e.2]; omega

/-- The convolution's bias. -/
theorem bias_read (c : Dev nD) (t : Fin cfg0.N) (f : Fin 256) : (iblk m c 7 t : Vec Ideal S1x256 .f32) (ix2 0 f) = aB m c (ix1 (col t f)) := by
  have e := (by decide +kernel : ∀ t : Fin grid0.N, win0_7.index t 0 * win0_7.size 0 = 0 ∧ win0_7.index t 1 * win0_7.size 1 = 256 * t.val) t
  have ht := lt_points t
  refine Eq.trans ?_ (V_bias m c (col t f))
  show (V m c main_v5 : S1x2816.Idx → EReal) (((cfg0.win 7).blk t).view.emb ((ix2 0 f) : S1x256.Idx)) = _
  refine congrArg (V m c main_v5 : S1x2816.Idx → EReal) (funext fun a => Fin.ext ?_)
  fin_cases a
  · show win0_7.index t 0 * win0_7.size 0 + 1 * 0 = 0
    rw [e.1]
  · show win0_7.index t 1 * win0_7.size 1 + 1 * f.val = 256 * t.val + f.val
    rw [e.2]; omega

/-- The rows of the weights out. -/
theorem ow_read (c : Dev nD) (t : Fin cfg0.N) (f : Fin 256) (l : Fin 1024) : (iblk m c 8 t : Vec Ideal S256x1024 .bf16) (ix2 f l) = aO m c (ix2 (col t f) l) := by
  have e := (by decide +kernel : ∀ t : Fin grid0.N, win0_8.index t 0 * win0_8.size 0 = 256 * t.val ∧ win0_8.index t 1 * win0_8.size 1 = 0) t
  have ht := lt_points t
  refine Eq.trans ?_ (V_wout m c (col t f) l)
  show (V m c main_v6 : S2816x1024.Idx → EReal) (((cfg0.win 8).blk t).view.emb ((ix2 f l) : S256x1024.Idx)) = _
  refine congrArg (V m c main_v6 : S2816x1024.Idx → EReal) (funext fun a => Fin.ext ?_)
  fin_cases a
  · show win0_8.index t 0 * win0_8.size 0 + 1 * f.val = 256 * t.val + f.val
    rw [e.1]; omega
  · show win0_8.index t 1 * win0_8.size 1 + 1 * l.val = l.val
    rw [e.2]; omega

/-- The normalised rows, from a point's blocks. -/
theorem hOf_read (c : Dev nD) (t : Fin cfg0.N) (p : Fin 32) (l : Fin 1024) :
    hOf (F := Ideal) (iblk m c 0 t) (iblk m c 3 t) (ix2 p l) = hid (aX m c) (aN m c) p l := by
  unfold hOf hid
  rw [pay3_read]
  congr 1
  · funext k; exact x_read m c t p k
  · funext k; exact (win_row _ 4 (by decide) _ k).trans (scale_read m c t 4 k)

theorem at_A_h (c : Dev nD) (t : Fin cfg0.N) (h0 : t.val % 11 = 0) (h1 : ¬t.val % 11 = 10) :
    (outsAt0 m c t.val t.isLt).2.2.1 = hOf (F := Ideal) (iblk m c 0 t) (iblk m c 3 t) := by
  rw [outsAt0_A m c t h0 h1, A_h]

theorem at_A_acc (c : Dev nD) (t : Fin cfg0.N) (h0 : t.val % 11 = 0) (h1 : ¬t.val % 11 = 10) :
    (outsAt0 m c t.val t.isLt).2.2.2 = accOf (F := Ideal) (hOf (F := Ideal) (iblk m c 0 t) (iblk m c 3 t)) (k0_pay4 (F := Ideal)) (iblk m c 1 t) (iblk m c 2 t) (iblk m c 4 t) (iblk m c 5 t) (iblk m c 6 t) (iblk m c 7 t) (iblk m c 8 t) := by
  rw [outsAt0_A m c t h0 h1, A_acc]

theorem at_A_10 (c : Dev nD) (t : Fin cfg0.N) (h0 : t.val % 11 = 0) (h1 : ¬t.val % 11 = 10) :
    (outsAt0 m c t.val t.isLt).2.1 = k0_pay5 (F := Ideal) (hOf (F := Ideal) (iblk m c 0 t) (iblk m c 3 t)) (iblk m c 4 t) := by
  rw [outsAt0_A m c t h0 h1, A_10]

theorem at_B_h (c : Dev nD) (t : Fin cfg0.N) (h0 : ¬t.val % 11 = 0) (h1 : ¬t.val % 11 = 10) :
    (outsAt0 m c t.val t.isLt).2.2.1 = (outsAt0 m c (t.val - 1) (Nat.lt_of_le_of_lt (Nat.sub_le _ _) t.isLt)).2.2.1 := by
  rw [outsAt0_B m c t h0 h1]
  rfl

theorem at_B_acc (c : Dev nD) (t : Fin cfg0.N) (h0 : ¬t.val % 11 = 0) (h1 : ¬t.val % 11 = 10) :
    (outsAt0 m c t.val t.isLt).2.2.2 = accOf (F := Ideal) (outsAt0 m c (t.val - 1) (Nat.lt_of_le_of_lt (Nat.sub_le _ _) t.isLt)).2.2.1 (outsAt0 m c (t.val - 1) (Nat.lt_of_le_of_lt (Nat.sub_le _ _) t.isLt)).2.2.2 (iblk m c 1 t) (iblk m c 2 t) (iblk m c 4 t) (iblk m c 5 t) (iblk m c 6 t) (iblk m c 7 t) (iblk m c 8 t) := by
  rw [outsAt0_B m c t h0 h1, B_acc]

theorem at_B_10 (c : Dev nD) (t : Fin cfg0.N) (h0 : ¬t.val % 11 = 0) (h1 : ¬t.val % 11 = 10) :
    (outsAt0 m c t.val t.isLt).2.1 = k0_pay5 (F := Ideal) (outsAt0 m c (t.val - 1) (Nat.lt_of_le_of_lt (Nat.sub_le _ _) t.isLt)).2.2.1 (iblk m c 4 t) := by
  rw [outsAt0_B m c t h0 h1, B_10]

theorem at_C_h (c : Dev nD) (t : Fin cfg0.N) (h0 : ¬t.val % 11 = 0) (h1 : t.val % 11 = 10) :
    (outsAt0 m c t.val t.isLt).2.2.1 = (outsAt0 m c (t.val - 1) (Nat.lt_of_le_of_lt (Nat.sub_le _ _) t.isLt)).2.2.1 := by
  rw [outsAt0_C m c t h0 h1]
  rfl

theorem at_C_acc (c : Dev nD) (t : Fin cfg0.N) (h0 : ¬t.val % 11 = 0) (h1 : t.val % 11 = 10) :
    (outsAt0 m c t.val t.isLt).2.2.2 = accOf (F := Ideal) (outsAt0 m c (t.val - 1) (Nat.lt_of_le_of_lt (Nat.sub_le _ _) t.isLt)).2.2.1 (outsAt0 m c (t.val - 1) (Nat.lt_of_le_of_lt (Nat.sub_le _ _) t.isLt)).2.2.2 (iblk m c 1 t) (iblk m c 2 t) (iblk m c 4 t) (iblk m c 5 t) (iblk m c 6 t) (iblk m c 7 t) (iblk m c 8 t) := by
  rw [outsAt0_C m c t h0 h1, C_acc]

theorem at_C_10 (c : Dev nD) (t : Fin cfg0.N) (h0 : ¬t.val % 11 = 0) (h1 : t.val % 11 = 10) :
    (outsAt0 m c t.val t.isLt).2.1 = k0_pay5 (F := Ideal) (outsAt0 m c (t.val - 1) (Nat.lt_of_le_of_lt (Nat.sub_le _ _) t.isLt)).2.2.1 (iblk m c 4 t) := by
  rw [outsAt0_C m c t h0 h1, C_10]

theorem at_C_9 (c : Dev nD) (t : Fin cfg0.N) (h0 : ¬t.val % 11 = 0) (h1 : t.val % 11 = 10) :
    (outsAt0 m c t.val t.isLt).1 = k0_pay2 (F := Ideal) (iblk m c 0 t) (outsAt0 m c t.val t.isLt).2.2.2 (VecWindow.window (iblk m c 3 t : Vec Ideal S6x1024 .f32) ![5, 0] S1x1024.size inb_S6x1024_S1x1024_5_0) := by
  rw [at_C_acc m c t h0 h1, outsAt0_C m c t h0 h1, C_9]

/-- The normalised rows stay in the scratch. -/
theorem h_read (c : Dev nD) (p : Fin 32) (l : Fin 1024) (n : ℕ) : ∀ t : Fin cfg0.N, t.val = n → (outsAt0 m c t.val t.isLt).2.2.1 (ix2 p l) = hid (aX m c) (aN m c) p l := by
  induction n with
  | zero =>
    intro t ht
    rw [at_A_h m c t (by omega) (by omega)]
    exact hOf_read m c t p l
  | succ n ih =>
    intro t ht
    have hN := lt_points t
    have hp := ih ⟨t.val - 1, Nat.lt_of_le_of_lt (Nat.sub_le _ _) t.isLt⟩ (show t.val - 1 = n by omega)
    by_cases h1 : t.val % 11 = 10
    · rw [at_C_h m c t (by omega) h1]; exact hp
    · rw [at_B_h m c t (by omega) h1]; exact hp

section block

variable (c : Dev nD) (t : Fin cfg0.N) {h : Vec Ideal S32x1024 .bf16} (hh : ∀ p l, h (ix2 p l) = hid (aX m c) (aN m c) p l)

include hh

/-- The gate of a block. -/
theorem gate_read (p : Fin 32) (f : Fin 256) :
    k0_pay5 (F := Ideal) h (iblk m c 4 t) (ix2 p f) = gate (aX m c) (aN m c) (aW m c) p (col t f) := by
  rw [pay5_read]
  unfold gate
  refine Finset.sum_congr rfl fun k _ => ?_
  rw [hh]
  exact congrArg _ (gw_read m c t k f)

/-- The other factor of a block. -/
theorem up_read (p : Fin 32) (f : Fin 256) :
    k0_pay6 (F := Ideal) h (iblk m c 5 t) (ix2 p f) = up (aX m c) (aN m c) (aW m c) p (col t f) := by
  rw [pay6_read]
  unfold up
  refine Finset.sum_congr rfl fun k _ => ?_
  rw [hh]
  exact congrArg _ (uw_read m c t k f)

/-- A sum with a block's contribution added. -/
theorem step_read (acc : Vec Ideal S32x1024 .f32) (p : Fin 32) (l : Fin 1024) :
    accOf (F := Ideal) h acc (iblk m c 1 t) (iblk m c 2 t) (iblk m c 4 t) (iblk m c 5 t) (iblk m c 6 t) (iblk m c 7 t) (iblk m c 8 t) (ix2 p l)
      = acc (ix2 p l) + ∑ f : Fin 256, act (aX m c) (aP m c) (aN m c) (aW m c) (aT m c) (aB m c) p (col t f) * aO m c (ix2 (col t f) l) := by
  unfold accOf
  rw [pay1_read]
  refine congrArg _ (Finset.sum_congr rfl fun f _ => ?_)
  have w (k : ℕ) (hk : k < 3) (hi) : VecWindow.window (iblk m c 6 t : Vec Ideal S3x256 .f32) ![k, 0] S1x256.size hi (ix2 0 f) = aT m c (ix2 ⟨k, hk⟩ (col t f)) :=
    (win_row (iblk m c 6 t : Vec Ideal S3x256 .f32) k hk hi f).trans (tap_read m c t ⟨k, hk⟩ f)
  have e0 := p0_read m c t p f
  have e1 := p1_read m c t p f
  have e2 := bias_read m c t f
  have e3 := ow_read m c t f l
  rw [pay7_read, gate_read m c t hh, up_read m c t hh]
  refine congrArg₂ (· * ·) (congrArg₂ (· * ·) ?_ rfl) e3
  have e : cv (gate (aX m c) (aN m c) (aW m c) p (col t f)) ((iblk m c 1 t : Vec Ideal S32x256 .f32) (ix2 p f)) ((iblk m c 2 t : Vec Ideal S32x256 .f32) (ix2 p f)) ((iblk m c 7 t : Vec Ideal S1x256 .f32) (ix2 0 f))
      (VecWindow.window (iblk m c 6 t : Vec Ideal S3x256 .f32) ![0, 0] S1x256.size inb_S3x256_S1x256_0_0 (ix2 0 f))
      (VecWindow.window (iblk m c 6 t : Vec Ideal S3x256 .f32) ![1, 0] S1x256.size inb_S3x256_S1x256_1_0 (ix2 0 f))
      (VecWindow.window (iblk m c 6 t : Vec Ideal S3x256 .f32) ![2, 0] S1x256.size inb_S3x256_S1x256_2_0 (ix2 0 f))
      = conv (aX m c) (aP m c) (aN m c) (aW m c) (aT m c) (aB m c) p (col t f) := by
    rw [e0, e1, e2, w 0 (by decide), w 1 (by decide), w 2 (by decide)]
    rfl
  exact congrArg (fun q : EReal => q * Ideal.logistic q) e

end block

/-- A column's contribution. -/
def term (c : Dev nD) (p : Fin 32) (l : Fin 1024) (k : ℕ) : EReal :=
  if h : k < 2816 then act (aX m c) (aP m c) (aN m c) (aW m c) (aT m c) (aB m c) p ⟨k, h⟩ * aO m c (ix2 ⟨k, h⟩ l) else 0

theorem block_sum (c : Dev nD) (t : Fin cfg0.N) (p : Fin 32) (l : Fin 1024) :
    ∑ f : Fin 256, act (aX m c) (aP m c) (aN m c) (aW m c) (aT m c) (aB m c) p (col t f) * aO m c (ix2 (col t f) l) = ∑ k ∈ Finset.range 256, term m c p l (256 * t.val + k) := by
  rw [← Fin.sum_univ_eq_sum_range (fun k => term m c p l (256 * t.val + k)) 256]
  refine Finset.sum_congr rfl fun f _ => ?_
  have ht := lt_points t
  unfold term
  rw [dif_pos (by omega)]

/-- The sum after each point. -/
theorem acc_read (c : Dev nD) (p : Fin 32) (l : Fin 1024) (n : ℕ) : ∀ t : Fin cfg0.N, t.val = n →
    (outsAt0 m c t.val t.isLt).2.2.2 (ix2 p l) = ∑ k ∈ Finset.range (256 * n + 256), term m c p l k := by
  induction n with
  | zero =>
    intro t ht
    rw [at_A_acc m c t (by omega) (by omega)]
    refine (step_read m c t (hOf_read m c t) _ p l).trans ?_
    rw [pay4_read, zero_add, block_sum, ht]
    refine Finset.sum_congr rfl fun k _ => congrArg _ ?_
    omega
  | succ n ih =>
    intro t ht
    have hN := lt_points t
    have hp := ih ⟨t.val - 1, Nat.lt_of_le_of_lt (Nat.sub_le _ _) t.isLt⟩ (show t.val - 1 = n by omega)
    have hs := step_read m c t (fun p l => h_read m c p l n ⟨t.val - 1, Nat.lt_of_le_of_lt (Nat.sub_le _ _) t.isLt⟩ (show t.val - 1 = n by omega)) (outsAt0 m c (t.val - 1) (Nat.lt_of_le_of_lt (Nat.sub_le _ _) t.isLt)).2.2.2 p l
    rw [hp, block_sum, show 256 * n + 256 = 256 * t.val by omega] at hs
    have hs := hs.trans (Finset.sum_range_add (fun k => term m c p l k) (256 * t.val) 256).symm
    rw [show 256 * (n + 1) + 256 = 256 * t.val + 256 by omega]
    by_cases h1 : t.val % 11 = 10
    · rw [at_C_acc m c t (by omega) h1]; exact hs
    · rw [at_B_acc m c t (by omega) h1]; exact hs

/-- The gate block that a point leaves. -/
theorem gate_after (c : Dev nD) (t : Fin cfg0.N) (p : Fin 32) (f : Fin 256) :
    (outsAt0 m c t.val t.isLt).2.1 (ix2 p f) = gate (aX m c) (aN m c) (aW m c) p (col t f) := by
  have hN := lt_points t
  by_cases h0 : t.val % 11 = 0
  · rw [at_A_10 m c t h0 (by omega)]
    exact gate_read m c t (hOf_read m c t) p f
  · have hs := gate_read m c t (fun p l => h_read m c p l (t.val - 1) ⟨t.val - 1, Nat.lt_of_le_of_lt (Nat.sub_le _ _) t.isLt⟩ rfl) p f
    by_cases h1 : t.val % 11 = 10
    · rw [at_C_10 m c t h0 h1]; exact hs
    · rw [at_B_10 m c t h0 h1]; exact hs

/-- The sum over all columns. -/
theorem total (c : Dev nD) (p : Fin 32) (l : Fin 1024) : ∑ k ∈ Finset.range 2816, term m c p l k = mixed (aX m c) (aP m c) (aN m c) (aW m c) (aT m c) (aB m c) (aO m c) p l := by
  rw [← Fin.sum_univ_eq_sum_range (fun k => term m c p l k) 2816]
  unfold mixed
  refine Finset.sum_congr rfl fun f _ => ?_
  unfold term
  rw [dif_pos f.isLt]

/-- The rows that the last point leaves. -/
theorem out_after (c : Dev nD) (p : Fin 32) (l : Fin 1024) (t : Fin cfg0.N) (h1 : t.val % 11 = 10) :
    (outsAt0 m c t.val t.isLt).1 (ix2 p l) = out (aX m c) (aP m c) (aN m c) (aW m c) (aT m c) (aB m c) (aO m c) p l := by
  have ht := lt_points t
  have h0 : ¬t.val % 11 = 0 := by omega
  have ha : ∀ k, (outsAt0 m c t.val t.isLt).2.2.2 (ix2 p k) = mixed (aX m c) (aP m c) (aN m c) (aW m c) (aT m c) (aB m c) (aO m c) p k := fun k =>
    (acc_read m c p k t.val t rfl).trans ((congrArg (fun n => ∑ k' ∈ Finset.range n, term m c p k k') (by omega)).trans (total m c p k))
  rw [at_C_9 m c t h0 h1]
  unfold out
  rw [pay2_read]
  refine congrArg₂ (· + ·) (x_read m c t p l) ?_
  congr 1
  · funext k; exact ha k
  · funext k; exact (win_row _ 5 (by decide) _ k).trans (scale_read m c t 5 k)

/-- The array of rows after the run. -/
theorem final9 (c : Dev nD) : (dats m 0 c).arrAt 9 cfg0.N = outArr (aX m c) (aP m c) (aN m c) (aW m c) (aT m c) (aB m c) (aO m c) := by
  have ew := (by decide +kernel : ∀ t : Fin grid0.N, win0_9.index t 0 * win0_9.size 0 = 0 ∧ win0_9.index t 1 * win0_9.size 1 = 0)
  refine (dats m 0 c).arrAt_eq_of_covers 9 _ (by decide +kernel) fun t hf y => ?_
  have h1 : t.val % 11 = 10 := (by decide +kernel : ∀ t : Fin cfg0.N, (cfg0.win 9).flush t = true → t.val % 11 = 10) t hf
  obtain ⟨p, l, rfl⟩ : ∃ (p : Fin 32) (l : Fin 1024), y = (ix2 p l : S32x1024.Idx) := ⟨y 0, y 1, by funext k; fin_cases k <;> rfl⟩
  show (dats m 0 c).after 9 t (ix2 p l) = _
  rw [after0_9]
  refine (out_after m c p l t h1).trans ?_
  have e0 : ((cfg0.win 9).blk t).view.emb (ix2 p l : S32x1024.Idx) = (ix2 p l : S32x1024.Idx) := by
    have e := ew t
    funext a
    apply Fin.ext
    fin_cases a
    · show win0_9.index t 0 * win0_9.size 0 + 1 * p.val = p.val
      rw [e.1]; omega
    · show win0_9.index t 1 * win0_9.size 1 + 1 * l.val = l.val
      rw [e.2]; omega
  exact (congrArg (outArr (aX m c) (aP m c) (aN m c) (aW m c) (aT m c) (aB m c) (aO m c)) e0).symm

/-- The array of gate rows after the run. -/
theorem final10 (c : Dev nD) : (dats m 0 c).arrAt 10 cfg0.N = gateArr (aX m c) (aN m c) (aW m c) := by
  have ew := (by decide +kernel : ∀ t : Fin grid0.N, win0_10.index t 0 * win0_10.size 0 = 0 ∧ win0_10.index t 1 * win0_10.size 1 = 256 * t.val)
  refine (dats m 0 c).arrAt_eq_of_covers 10 _ (by decide +kernel) fun t hf y => ?_
  have ht := lt_points t
  obtain ⟨p, f, rfl⟩ : ∃ (p : Fin 32) (f : Fin 256), y = (ix2 p f : S32x256.Idx) := ⟨y 0, y 1, by funext k; fin_cases k <;> rfl⟩
  show (dats m 0 c).after 10 t (ix2 p f) = _
  rw [after0_10]
  refine (gate_after m c t p f).trans ?_
  have e0 : ((cfg0.win 10).blk t).view.emb (ix2 p f : S32x256.Idx) = (ix2 p (col t f) : S32x2816.Idx) := by
    have e := ew t
    funext a
    apply Fin.ext
    fin_cases a
    · show win0_10.index t 0 * win0_10.size 0 + 1 * p.val = p.val
      rw [e.1]; omega
    · show win0_10.index t 1 * win0_10.size 1 + 1 * f.val = 256 * t.val + f.val
      rw [e.2]; omega
  exact (congrArg (gateArr (aX m c) (aN m c) (aW m c)) e0).symm

end Cert.NextVal

end
-- ==== Proof.NextRef.lean ====
/- The reference of the feed-forward layer of one token per sequence reads, index by index, as the functions of `NextSpec`. -/
module

public import proofs.«01_k».proof.Proof.NextSpec
public import proofs.«01_k».proof.Proof.Gen.Reference7Ideal.Read

@[expose] public section

set_option maxRecDepth 16384

noncomputable section

namespace Cert.NextVal

open Cert.Reference7Ideal Cert.Reference7Ideal.Read Idealize.ShloMosaic
open Cert.FfnVal (normed gcol ucol NArr WArr TArr BArr OArr)

variable (X : XArr) (P : PArr) (N : NArr) (W : WArr) (T : TArr) (B : BArr) (O : OArr)

theorem ref_hid (r : Fin 32) (l : Fin 1024) : val_main_v14 (F := Ideal) X N (ix2 r l) = hid X N r l := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem ref_gate (r : Fin 32) (f : Fin 2816) : val_main_v17 (F := Ideal) X N W (ix3 r 0 f) = gate X N W r f := by
  pointwise [val_main_v17, val_main_v16, val_main_v15, dot_S32x1024_S1024x5632_S32x5632_1_0_0_1_n_n]
  exact Finset.sum_congr rfl fun k _ => by rw [ref_hid]

theorem ref_up (r : Fin 32) (f : Fin 2816) : val_main_v18 (F := Ideal) X N W (ix3 r 0 f) = up X N W r f := by
  pointwise [val_main_v18, val_main_v16, val_main_v15, dot_S32x1024_S1024x5632_S32x5632_1_0_0_1_n_n]
  exact Finset.sum_congr rfl fun k _ => by rw [ref_hid]

theorem ref_before (r : Fin 32) (k : Fin 2) (n : Fin 3) (h : n.val = k.val) (f : Fin 2816) : val_main_v19 (F := Ideal) X P N W (ix3 r n f) = P (ix3 r k f) := by
  have hk := k.isLt
  pointwise [val_main_v19]
  rw [dif_pos (by omega)]
  exact congrArg (fun q => P (ix3 r q f)) (Fin.ext h)

theorem ref_here (r : Fin 32) (f : Fin 2816) : val_main_v19 (F := Ideal) X P N W (ix3 r 2 f) = gate X N W r f := by
  pointwise [val_main_v19]
  exact ref_gate X N W r f

theorem ref_conv (r : Fin 32) (f : Fin 2816) : val_main_v44 (F := Ideal) X P N W T B (ix3 r 0 f) = conv X P N W T B r f := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_cst_2]
  have e0 := ref_before X P N W r 0 0 rfl f
  have e1 := ref_before X P N W r 1 1 rfl f
  have e2 := ref_here X P N W r f
  unfold conv
  rw [← e0, ← e1, ← e2]
  simp only [add_assoc]

theorem ref_act (r : Fin 32) (f : Fin 2816) : val_main_v46 (F := Ideal) X P N W T B (ix3 r 0 f) = act X P N W T B r f := by
  pointwise [val_main_v46, val_main_v45, val_main_call0_v5, val_main_call0_v4, val_main_call0_v3, val_main_call0_v2, val_main_call0_v1, val_main_call0_v0, val_main_call0_cst, val_main_call0_cst_0]
  rw [ref_conv, ref_up]
  rfl

theorem ref_mixed (r : Fin 32) (l : Fin 1024) : val_main_v48 (F := Ideal) X P N W T B O (ix2 r l) = mixed X P N W T B O r l := by
  pointwise [val_main_v48, val_main_v47, dot_S32x2816_S2816x1024_S32x1024_1_0_0_1_n_n]
  exact Finset.sum_congr rfl fun k _ => by rw [ref_act]

theorem ref_out (r : Fin 32) (l : Fin 1024) : val_main_v64 (F := Ideal) X P N W T B O (ix2 r l) = out X P N W T B O r l := by
  pointwise [val_main_v64, val_main_v63, val_main_v62, val_main_v61, val_main_v60, val_main_v59, val_main_v58, val_main_v57, val_main_v56, val_main_v55, val_main_v54, val_main_v53, val_main_v52, val_main_v51, val_main_v50, val_main_v49, val_main_cst_3, val_main_cst_4, val_main_cst_5]
  simp only [ref_mixed]
  rfl

theorem ref_tail (r : Fin 32) (f : Fin 2816) : val_main_v65 (F := Ideal) X N W (ix2 r f) = gate X N W r f := by
  pointwise [val_main_v65]
  rw [ref_gate]

theorem ref_out_arr : val_main_v64 (F := Ideal) X P N W T B O = outArr X P N W T B O := by
  funext y
  obtain ⟨r, l, rfl⟩ : ∃ (r : Fin 32) (l : Fin 1024), y = (ix2 r l : (⟨2, ![32, 1024]⟩ : Shape).Idx) := ⟨y 0, y 1, by funext k; fin_cases k <;> rfl⟩
  exact ref_out X P N W T B O r l

theorem ref_gate_arr : val_main_v65 (F := Ideal) X N W = gateArr X N W := by
  funext y
  obtain ⟨r, l, rfl⟩ : ∃ (r : Fin 32) (l : Fin 2816), y = (ix2 r l : (⟨2, ![32, 2816]⟩ : Shape).Idx) := ⟨y 0, y 1, by funext k; fin_cases k <;> rfl⟩
  exact ref_tail X N W r l

end Cert.NextVal

end
-- ==== Proof.NextClaim.lean ====
/- The claim about the feed-forward kernel of one token per sequence, put together. -/
module

public import proofs.«01_k».proof.Defs
public import proofs.«01_k».proof.Proof.NextValue
public import proofs.«01_k».proof.Proof.NextRef
public import proofs.«01_k».proof.Proof.Gen.Reference7Ideal.Run
public import Idealize.ShloMosaic.Lib.Quiescent
public import Idealize.ShloMosaic.Lib.Claim

@[expose] public section

set_option maxRecDepth 16384

noncomputable section

namespace Cert.NextVal

open Idealize.ShloMosaic.TcCoe Idealize.SL.Sem Idealize.ShloMosaic

/-- The reference of the feed-forward layer of one token per sequence runs, leaves its arguments as they were and every counter at zero. -/
theorem reference_frame : Cert.quiescent_Reference7Ideal (hReference7Ideal := Cert.Reference7Ideal.Gen.facts) := fun m g _ =>
  (θ_run _ _ _).mono (fun r h => ⟨fun c => (h c).2.2, sem_eq_zero_of_no_sems (by decide) r.2⟩)
    (Cert.Reference7Ideal.Value.run m g)

/-- The feed-forward kernel of one token per sequence and its reference leave the same arrays, from all arguments. -/
theorem next_algebraic : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => outArr (aX m c) (aP m c) (aN m c) (aW m c) (aT m c) (aB m c) (aO m c), fun c => gateArr (aX m c) (aN m c) (aW m c), ?_, ?_⟩
  · exact (θ_run _ _ _).mono (fun r h c => ⟨(h c).1.trans (final9 m c), (h c).2.1.trans (final10 m c), (h c).2.2⟩) (Cert.Kernel7Ideal.Value.run_blocks m ρ)
  · refine (θ_run _ _ _).mono (fun r h c => ⟨?_, ?_, (h c).2.2⟩) (Cert.Reference7Ideal.Value.run m' ρ')
    · refine (h c).1.trans ((Cert.Reference7Ideal.Read.val_main_v64_eq m' c).trans ?_)
      obtain ⟨h0, h1, h2, h3, h4, h5, h6⟩ := hagree c
      rw [h0, h1, h2, h3, h4, h5, h6]
      exact ref_out_arr _ _ _ _ _ _ _
    · refine (h c).2.1.trans ((Cert.Reference7Ideal.Read.val_main_v65_eq _ _ _).trans ?_)
      obtain ⟨h0, h1, h2, h3, h4, h5, h6⟩ := hagree c
      rw [h0, h2, h3]
      exact ref_gate_arr _ _ _

end Cert.NextVal

end
-- ==== Proof.TokSpec.lean ====
/- The layer that mixes the heads and reads the memory, for the single rows of 32 sequences. -/
module

public import proofs.«01_k».proof.Proof.MidSpec

@[expose] public section

set_option maxRecDepth 16384

noncomputable section

namespace Cert.TokVal

open Cert.MidVal (mean gnorm attend col64 col256 NArr LArr WArr)
open Cert.FfnVal (normed)
open Idealize.ShloMosaic
/-- Rows of 1024 numbers, one per token. -/
abbrev XArr := (⟨2, ![32, 1024]⟩ : Shape).Idx → EReal
/-- Rows of 512 numbers. -/
abbrev SArr := (⟨2, ![32, 512]⟩ : Shape).Idx → EReal
/-- Rows of 256 numbers. -/
abbrev RArr := (⟨2, ![32, 256]⟩ : Shape).Idx → EReal
/-- The memory's keys (the first 1024 columns) and values (the last 1024), for each sequence. -/
abbrev MArr := (⟨3, ![32, 256, 2048]⟩ : Shape).Idx → EReal
variable (X : XArr) (A : RArr) (S : SArr) (Y G B : RArr) (M : MArr) (N : NArr) (L : LArr) (O Q W : WArr)

/-- The recurrent heads' output: normalised by head, scaled, shifted, with the bonus, gated. -/
def rec (r : Fin 32) (c : Fin 256) : EReal :=
  (gnorm (fun d => Y (ix2 r (col64 ⟨c.val / 64, by omega⟩ d))) ⟨c.val % 64, Nat.mod_lt _ (by decide)⟩ * L (ix2 4 c) + L (ix2 5 c)
    + B (ix2 r c)) * G (ix2 r c)
/-- The three kinds of heads side by side. -/
def heads (r : Fin 32) (k : Fin 1024) : EReal :=
  if h : k.val < 256 then A (ix2 r ⟨k.val, h⟩)
  else if h' : k.val < 768 then S (ix2 r ⟨k.val - 256, by omega⟩)
  else rec Y G B L r ⟨k.val - 768, by omega⟩
/-- The heads mixed by the output weights. -/
def mixed (r : Fin 32) (l : Fin 1024) : EReal := ∑ k, heads A S Y G B L r k * O (ix2 k l)
/-- The row with the mixed heads added. -/
def mid (r : Fin 32) (l : Fin 1024) : EReal :=
  X (ix2 r l) + normed (mixed A S Y G B L O r) (fun k => N (ix2 1 k)) l
/-- The query of the memory. -/
def query (r : Fin 32) (l : Fin 1024) : EReal :=
  (∑ k, normed (mid X A S Y G B N L O r) (fun k => N (ix2 2 k)) k * Q (ix2 k l)) * Ideal.ofBits .f32 0x3D800000#32
/-- A head's reading of the memory. -/
def read (r : Fin 32) (h : Fin 4) (d : Fin 256) : EReal :=
  attend (fun e => query X A S Y G B N L O Q r (col256 h e)) (fun m e => M (ix3 (r) m ⟨256 * h.val + e.val, by omega⟩))
    (fun m e => M (ix3 (r) m ⟨1024 + 256 * h.val + e.val, by omega⟩)) d
/-- What the memory's output weights give. -/
def given (r : Fin 32) (l : Fin 1024) : EReal :=
  ∑ k : Fin 1024, read X A S Y G B M N L O Q r ⟨k.val / 256, by omega⟩ ⟨k.val % 256, Nat.mod_lt _ (by decide)⟩ * W (ix2 k l)
/-- The row with the memory's contribution added. -/
def out (r : Fin 32) (l : Fin 1024) : EReal :=
  mid X A S Y G B N L O r l + normed (given X A S Y G B M N L O Q W r) (fun k => N (ix2 3 k)) l

/-- The output array. -/
def outArr : (⟨3, ![32, 1, 1024]⟩ : Shape).Idx → EReal := fun i => out X A S Y G B M N L O Q W ⟨(i 0).val, (i 0).isLt⟩ ⟨(i 2).val, (i 2).isLt⟩

end Cert.TokVal

end
-- ==== Proof.TokPay.lean ====
/- The pieces of that kernel, read index by index. -/
module

public import proofs.«01_k».proof.Proof.TokSpec
public import proofs.«01_k».proof.Proof.MidTile
public import proofs.«01_k».proof.Proof.Gen.Kernel8Ideal.Skeleton

@[expose] public section

set_option maxRecDepth 16384

noncomputable section

namespace Cert.TokVal

open Cert.MidVal (mean gnorm score attend col64 col256 NArr LArr WArr NINF bit select_bit lo hi half sum_lo sum_hi lane_bit lane_bit_nat)
open Cert.Kernel8Ideal Cert.Kernel8Ideal.Gen Idealize.ShloMosaic
open Cert.FfnVal (normed)
theorem mask_read (p : Fin 8) (a : Fin 128) :
    k0_pay5 (ix2 p a) = bit (a.val < 64) := by
  pointwise [k0_pay5]
  exact lane_bit a

theorem mask_read2 (p : Fin 8) (a : Fin 128) :
    IntOp.cmpi CmpIPredicate.slt (k0_pay14 (ix2 p a)) 64#32 = bit (a.val < 64) := by
  pointwise [k0_pay14]
  exact lane_bit a

theorem pay2_read (v : Vec Ideal S1x1x1024 .f32) (p : Fin 8) (l : Fin 1024) :
    k0_pay2 (F := Ideal) v (ix2 p l) = v (ix3 0 0 l) := by
  pointwise [k0_pay2]

theorem pay3_read (v : Vec Ideal S1x1x256 .f32) (p : Fin 8) (l : Fin 256) :
    k0_pay3 (F := Ideal) v (ix2 p l) = v (ix3 0 0 l) := by
  pointwise [k0_pay3]

theorem pay6_read (v : Vec Ideal S1x1x256 .f32) (p : Fin 8) (a : Fin 128) :
    k0_pay6 (F := Ideal) v (ix2 p a) = ∑ d : Fin 64, k0_pay3 (F := Ideal) v (ix2 p ⟨d.val, by omega⟩) := by
  pointwise [k0_pay6, k0_pay4]
  simp only [lane_bit, mask_read, select_bit, sum_lo, sum_hi]

theorem pay7_read (v : Vec Ideal S1x1x256 .f32) (p : Fin 8) (a : Fin 128) :
    k0_pay7 (F := Ideal) v (ix2 p a) = ∑ d : Fin 64, k0_pay3 (F := Ideal) v (ix2 p ⟨64 + d.val, by omega⟩) := by
  pointwise [k0_pay7, k0_pay4]
  simp only [lane_bit, mask_read, select_bit, sum_lo, sum_hi]

theorem pay8_read (v : FVec Ideal S8x256 .f32) (s t : FVec Ideal S8x128 .f32) (p : Fin 8) (c : Fin 256) :
    k0_pay8 (F := Ideal) v k0_pay5 s t (ix2 p c) = v (ix2 p c) - (if h : c.val < 128 then (if c.val < 64 then s (ix2 p ⟨c.val, h⟩) else t (ix2 p ⟨c.val, h⟩))
      else half (fun k => v (ix2 p ⟨128 + k.val, by omega⟩)) ⟨c.val - 128, by omega⟩) * Ideal.ofBits .f32 0x3C800000#32 := by
  pointwise [k0_pay8]
  simp only [lane_bit, mask_read, select_bit, sum_lo, sum_hi]
  by_cases h : c.val < 128
  · simp only [dif_pos h]
  · simp only [dif_neg h]
    rw [lane_bit_nat _ (by omega), select_bit]
    rfl

theorem pay12_read (v : FVec Ideal S8x128 .f32) (p : Fin 8) (a : Fin 128) :
    k0_pay12 (F := Ideal) v (Scalar.select (Scalar.cmpi .eq 128#32 0#32) 1#32 128#32) k0_pay11 (ix2 p a) = half (fun k => v (ix2 p k)) a := by
  pointwise [k0_pay12, k0_pay11]
  simp only [lane_bit, mask_read, select_bit, sum_lo, sum_hi]
  rfl

theorem pay15_read (v : FVec Ideal S8x256 .f32) (u w : FVec Ideal S8x128 .f32) (g b : Vec Ideal S1x256 .f32) (e f : Vec Ideal S1x1x256 .f32) (p : Fin 8) (c : Fin 256) :
    k0_pay15 (F := Ideal) v u w k0_pay14 64#32 g b e f (ix2 p c) = (v (ix2 p c) * Ideal.rsqrt ((if h : c.val < 128 then u (ix2 p ⟨c.val, h⟩) else half (fun k => w (ix2 p k)) ⟨c.val - 128, by omega⟩) * Ideal.ofBits .f32 0x3C800000#32 + Ideal.ofBits .f32 0x3A27C5AC#32)
        * g (ix2 0 c) + b (ix2 0 c) + e (ix3 0 0 c)) * f (ix3 0 0 c) := by
  pointwise [k0_pay15]
  simp only [mask_read2, select_bit, sum_lo, sum_hi]
  rfl

theorem pay16_read (x : FVec Ideal S8x1024 .f32) (y : FVec Ideal S8x256 .f32) (a : Vec Ideal S1x1x256 .bf16) (o : Vec Ideal S256x1024 .bf16) (s : Vec Ideal S1x1x512 .f32) (o' : Vec Ideal S512x1024 .bf16) (o'' : Vec Ideal S256x1024 .bf16) (g : Vec Ideal S1x1024 .f32) (p : Fin 8) (l : Fin 1024) :
    k0_pay16 (F := Ideal) x y a o s o' o'' g (ix2 p l) = x (ix2 p l) + normed (fun j => (∑ k : Fin 256, a (ix3 0 0 k) * o (ix2 k j)) + (∑ k : Fin 512, s (ix3 0 0 k) * o' (ix2 k j)) + ∑ k : Fin 256, y (ix2 p k) * o'' (ix2 k j))
      (fun k => g (ix2 0 k)) l := by
  pointwise [k0_pay16, dot_S8x256_S256x1024_S8x1024_1_0_0_1_n_n, dot_S8x512_S512x1024_S8x1024_1_0_0_1_n_n]
  rfl

theorem pay18_read (x : FVec Ideal S8x1024 .f32) (g : Vec Ideal S1x1024 .f32) (s : FVec Ideal S8x1024 .f32) (w : Vec Ideal S1024x1024 .bf16) (p : Fin 8) (l : Fin 1024)
    (hs : ∀ j, s (ix2 p j) = x (ix2 p j) * x (ix2 p j)) :
    k0_pay18 (F := Ideal) x g s w (ix2 p l) = (∑ k, normed (fun j => x (ix2 p j)) (fun k => g (ix2 0 k)) k * w (ix2 k l)) * Ideal.ofBits .f32 0x3D800000#32 := by
  pointwise [k0_pay18, dot_S8x1024_S1024x1024_S8x1024_1_0_0_1_n_n]
  simp only [hs]
  rfl

theorem pay19_read (v : Vec Ideal S1x256x2048 .f32) (m : Fin 256) (e : Fin 2048) :
    k0_pay19 (F := Ideal) v (ix2 m e) = v (ix3 0 m e) := by
  pointwise [k0_pay19]

theorem pay20_read (x : FVec Ideal S8x1024 .f32) (g : Vec Ideal S1x1024 .f32) (s : FVec Ideal S8x1024 .f32) (w : Vec Ideal S1024x1024 .bf16) (v : Vec Ideal S1x256x2048 .f32) (p : Fin 8) (d : Fin 256) :
    k0_pay20 (F := Ideal) x g s w v (ix2 p d) = attend (fun e => k0_pay18 (F := Ideal) x g s w (ix2 p ⟨e.val, by omega⟩)) (fun m e => k0_pay19 (F := Ideal) v (ix2 m ⟨e.val, by omega⟩))
      (fun m e => k0_pay19 (F := Ideal) v (ix2 m ⟨1024 + e.val, by omega⟩)) d := by
  pointwise [k0_pay20, dot_S8x256_S256x256_S8x256_1_1_0_0_n_n, dot_S8x256_S256x256_S8x256_1_0_0_1_n_n]
  rfl

theorem pay21_read (x : FVec Ideal S8x1024 .f32) (g : Vec Ideal S1x1024 .f32) (s : FVec Ideal S8x1024 .f32) (w : Vec Ideal S1024x1024 .bf16) (v : Vec Ideal S1x256x2048 .f32) (p : Fin 8) (m : Fin 256) :
    k0_pay21 (F := Ideal) x g s w v (ix2 p m) = score (fun e => k0_pay18 (F := Ideal) x g s w (ix2 p ⟨256 + e.val, by omega⟩)) (fun m e => k0_pay19 (F := Ideal) v (ix2 m ⟨256 + e.val, by omega⟩)) m := by
  pointwise [k0_pay21, dot_S8x256_S256x256_S8x256_1_1_0_0_n_n, dot_S8x256_S256x256_S8x256_1_0_0_1_n_n]
  rfl

theorem pay22_read (x : FVec Ideal S8x1024 .f32) (g : Vec Ideal S1x1024 .f32) (s : FVec Ideal S8x1024 .f32) (w : Vec Ideal S1024x1024 .bf16) (v : Vec Ideal S1x256x2048 .f32) (p : Fin 8) (m : Fin 256) :
    k0_pay22 (F := Ideal) x g s w v (ix2 p m) = Finset.univ.fold max NINF fun k => k0_pay21 (F := Ideal) x g s w v (ix2 p k) := by
  pointwise [k0_pay22]

theorem pay23_read (q : FVec Ideal S8x1024 .f32) (u : FVec Ideal S256x2048 .f32) (a b c : FVec Ideal S8x256 .f32) (p : Fin 8) (j : Fin 1024) :
    k0_pay23 (F := Ideal) q u a b c (ix2 p j) = if h : j.val < 256 then a (ix2 p ⟨j.val, h⟩)
      else if h' : j.val - 256 < 256 then
        ∑ m, Ideal.div (Ideal.exp (b (ix2 p m) - c (ix2 p m))) (∑ k, Ideal.exp (b (ix2 p k) - c (ix2 p k))) * u (ix2 m ⟨1280 + (j.val - 256), by omega⟩)
      else if h'' : j.val - 256 - 256 < 256 then attend (fun e => q (ix2 p ⟨512 + e.val, by omega⟩)) (fun m e => u (ix2 m ⟨512 + e.val, by omega⟩))
        (fun m e => u (ix2 m ⟨1536 + e.val, by omega⟩)) ⟨j.val - 256 - 256, h''⟩
      else attend (fun e => q (ix2 p ⟨768 + e.val, by omega⟩)) (fun m e => u (ix2 m ⟨768 + e.val, by omega⟩))
        (fun m e => u (ix2 m ⟨1792 + e.val, by omega⟩)) ⟨j.val - 256 - 256 - 256, by omega⟩ := by
  pointwise [k0_pay23, dot_S8x256_S256x256_S8x256_1_1_0_0_n_n, dot_S8x256_S256x256_S8x256_1_0_0_1_n_n]
  rfl

theorem pay1_read (x o : FVec Ideal S8x1024 .f32) (w : Vec Ideal S1024x1024 .bf16) (g : Vec Ideal S1x1024 .f32) (l : Fin 1024) :
    k0_pay1 (F := Ideal) x o w g (ix3 0 0 l) = x (ix2 0 l) + normed (fun j => ∑ i, o (ix2 0 i) * w (ix2 i j)) (fun k => g (ix2 0 k)) l := by
  pointwise [k0_pay1, dot_S8x1024_S1024x1024_S8x1024_1_0_0_1_n_n]
  rfl

end Cert.TokVal

end
-- ==== Proof.TokTile.lean ====
/- What a block of that kernel holds. -/
module

public import proofs.«01_k».proof.Proof.TokPay
public import proofs.«01_k».proof.Proof.Gen.Kernel8Ideal.Frame

@[expose] public section

set_option maxRecDepth 16384

noncomputable section

namespace Cert.TokVal

open Cert.MidVal (mean gnorm score attend col64 col256 NArr LArr WArr NINF half hi lo div_mean head_sum sum_kinds attend_congr normed_congr ld_rows)
open Cert.Kernel8Ideal Cert.Kernel8Ideal.Gen Idealize.ShloMosaic
open Cert.FfnVal (normed)
section Recurrent
variable (v : Vec Ideal S1x1x256 .f32)

/-- A row less each head's mean. -/
abbrev centred : FVec Ideal S8x256 .f32 := k0_pay8 (F := Ideal) (k0_pay3 v) k0_pay5 (k0_pay6 v) (k0_pay7 v)
/-- Its squares. -/
abbrev squares : FVec Ideal S8x256 .f32 := k0_pay9 (F := Ideal) (k0_pay3 v) k0_pay5 (k0_pay6 v) (k0_pay7 v)

theorem centred_read (p : Fin 8) (c : Fin 256) :
    centred v (ix2 p c) = v (ix3 0 0 c) - mean fun d => v (ix3 0 0 (col64 ⟨c.val / 64, by omega⟩ d)) := by
  rw [centred, pay8_read]
  simp only [pay6_read, pay7_read, pay3_read]
  unfold mean
  rw [← head_sum (fun k => v (ix3 0 0 k)) c, div_mean]
  rfl

theorem centred_head (p : Fin 8) (h : Fin 4) (d : Fin 64) :
    centred v (ix2 p (col64 h d)) = v (ix3 0 0 (col64 h d)) - mean fun e => v (ix3 0 0 (col64 h e)) := by
  rw [centred_read]
  rw [show (⟨(col64 h d).val / 64, by omega⟩ : Fin 4) = h from Fin.ext (by show (64 * h.val + d.val) / 64 = h.val; omega)]

theorem squares_read (p : Fin 8) (c : Fin 256) : squares v (ix2 p c) = centred v (ix2 p c) * centred v (ix2 p c) := by
  rw [squares]
  pointwise [k0_pay9]

theorem pay10_read (p : Fin 8) (a : Fin 128) :
    k0_pay10 (F := Ideal) (k0_pay3 v) k0_pay5 (k0_pay6 v) (k0_pay7 v) (ix2 p a) = squares v (ix2 p ⟨a.val, by omega⟩) := by
  pointwise [k0_pay10]

theorem pay13_read (u : FVec Ideal S8x256 .f32) (p : Fin 8) (a : Fin 128) : k0_pay13 (F := Ideal) u (ix2 p a) = u (ix2 p ⟨128 + a.val, by omega⟩) := by
  pointwise [k0_pay13]

theorem var_read (p : Fin 8) (c : Fin 256) :
    (if h : c.val < 128 then k0_pay12 (F := Ideal) (k0_pay10 (k0_pay3 v) k0_pay5 (k0_pay6 v) (k0_pay7 v)) (Scalar.select (Scalar.cmpi .eq 128#32 0#32) 1#32 128#32) k0_pay11 (ix2 p ⟨c.val, h⟩)
      else half (fun k => k0_pay13 (squares v) (ix2 p k)) ⟨c.val - 128, by omega⟩)
      = ∑ d, squares v (ix2 p (col64 ⟨c.val / 64, by omega⟩ d)) := by
  rw [← head_sum (fun k => squares v (ix2 p k)) c]
  simp only [pay12_read, pay10_read, pay13_read]
end Recurrent

variable (X : XArr) (A : RArr) (S : SArr) (Y G B : RArr) (M : MArr) (N : NArr) (L : LArr) (O Q W : WArr)
variable (x0 : Vec Ideal S1x1x1024 .f32) (x1 : Vec Ideal S1x1x256 .bf16) (x2 : Vec Ideal S1x1x512 .f32) (x3 x4 x5 : Vec Ideal S1x1x256 .f32)
  (x6 : Vec Ideal S6x1024 .f32) (x7 : Vec Ideal S2x256 .f32) (x8 x9 : Vec Ideal S1024x1024 .bf16) (x10 : Vec Ideal S1x256x2048 .f32)
  (x11 : Vec Ideal S1024x1024 .bf16)

/-- The blocks hold row `r` of the arrays. -/
structure Holds (r : Fin 32) : Prop where
  h0 : ∀ l, x0 (ix3 0 0 l) = X (ix2 r l)
  h1 : ∀ k, x1 (ix3 0 0 k) = A (ix2 r k)
  h2 : ∀ k, x2 (ix3 0 0 k) = S (ix2 r k)
  h3 : ∀ k, x3 (ix3 0 0 k) = Y (ix2 r k)
  h4 : ∀ k, x4 (ix3 0 0 k) = G (ix2 r k)
  h5 : ∀ k, x5 (ix3 0 0 k) = B (ix2 r k)
  h6 : ∀ k l, x6 (ix2 k l) = N (ix2 k l)
  h70 : ∀ l, x7 (ix2 0 l) = L (ix2 4 l)
  h71 : ∀ l, x7 (ix2 1 l) = L (ix2 5 l)
  h8 : ∀ k l, x8 (ix2 k l) = O (ix2 k l)
  h9 : ∀ k l, x9 (ix2 k l) = Q (ix2 k l)
  h10 : ∀ m e, x10 (ix3 0 m e) = M (ix3 (r) m e)
  h11 : ∀ k l, x11 (ix2 k l) = W (ix2 k l)

variable {X A S Y G B M N L O Q W x0 x1 x2 x3 x4 x5 x6 x7 x8 x9 x10 x11} {r : Fin 32}

section Tile
variable (H : Holds X A S Y G B M N L O Q W x0 x1 x2 x3 x4 x5 x6 x7 x8 x9 x10 x11 r)
include H

/-- The recurrent heads of a row. -/
theorem rec_read (p : Fin 8) (c : Fin 256) : k0_pay29 (F := Ideal) x0 x1 x2 x3 x4 x5 x6 x7 x8 x9 x10 x11 (ix2 p c) = rec Y G B L r c := by
  have e3 : View.ld x3 r0_1 = x3 := View.ld_unit_zero (by funext a; fin_cases a <;> rfl) ..
  have e4 : View.ld x4 r0_1 = x4 := View.ld_unit_zero (by funext a; fin_cases a <;> rfl) ..
  have e5 : View.ld x5 r0_1 = x5 := View.ld_unit_zero (by funext a; fin_cases a <;> rfl) ..
  have e7 : View.ld x7 r0_2 (ix2 0 c) = L (ix2 4 c) := (ld_rows x7 0 inb_S2x256_S1x256_0_0 (by decide) 0 c).trans (H.h70 c)
  have e7' : View.ld x7 r0_3 (ix2 0 c) = L (ix2 5 c) := (ld_rows x7 1 inb_S2x256_S1x256_1_0 (by decide) 0 c).trans (H.h71 c)
  unfold k0_pay29 k0_pay28 k0_pay27 k0_pay26 k0_pay25
  rw [e3, e4, e5, pay15_read, e7, e7', var_read, H.h4, H.h5]
  simp only [squares_read, centred_head]
  simp only [centred_read, H.h3]
  rw [← div_mean, congrArg (fun q => Y (ix2 r q)) (show c = col64 ⟨c.val / 64, by omega⟩ ⟨c.val % 64, Nat.mod_lt _ (by decide)⟩ from
    Fin.ext (by show c.val = 64 * (c.val / 64) + c.val % 64; omega))]
  rfl

/-- The row with the mixed heads added. -/
theorem mid_read (p : Fin 8) (l : Fin 1024) : k0_pay30 (F := Ideal) x0 x1 x2 x3 x4 x5 x6 x7 x8 x9 x10 x11 (ix2 p l) = mid X A S Y G B N L O r l := by
  have e0 : View.ld x0 r0_0 = x0 := View.ld_unit_zero (by funext a; fin_cases a <;> rfl) ..
  have e1 : View.ld x1 r0_1 = x1 := View.ld_unit_zero (by funext a; fin_cases a <;> rfl) ..
  have e2 : View.ld x2 r0_5 = x2 := View.ld_unit_zero (by funext a; fin_cases a <;> rfl) ..
  unfold k0_pay30 k0_pay24
  rw [e0, e1, e2, pay16_read, pay2_read]
  unfold mid
  refine congrArg₂ (· + ·) (H.h0 l) (normed_congr (fun j => ?_) (fun k => (ld_rows x6 1 inb_S6x1024_S1x1024_1_0 (by decide) 0 k).trans (H.h6 1 k)) l)
  unfold mixed
  rw [sum_kinds]
  refine congrArg₂ (· + ·) (congrArg₂ (· + ·) (Finset.sum_congr rfl fun k _ => ?_) (Finset.sum_congr rfl fun k _ => ?_)) (Finset.sum_congr rfl fun k _ => ?_)
  · refine congrArg₂ (· * ·) ((H.h1 k).trans ?_) ((ld_rows x8 0 inb_S1024x1024_S256x1024_0_0 (by decide) k j).trans ((H.h8 _ _).trans (congrArg (fun q => O (ix2 q j)) (Fin.ext (by show 0 + k.val = k.val; omega)))))
    unfold heads
    rw [dif_pos (by show k.val < 256; omega)]
  · refine congrArg₂ (· * ·) ((H.h2 k).trans ?_) ((ld_rows x8 256 inb_S1024x1024_S512x1024_256_0 (by decide) k j).trans (H.h8 _ _))
    unfold heads
    rw [dif_neg (by show ¬ 256 + k.val < 256; omega), dif_pos (by show 256 + k.val < 768; omega)]
    exact congrArg (fun q => S (ix2 r q)) (Fin.ext (by show k.val = 256 + k.val - 256; omega))
  · refine congrArg₂ (· * ·) ((rec_read H p k).trans ?_) ((ld_rows x8 768 inb_S1024x1024_S256x1024_768_0 (by decide) k j).trans (H.h8 _ _))
    unfold heads
    rw [dif_neg (by show ¬ 768 + k.val < 256; omega), dif_neg (by show ¬ 768 + k.val < 768; omega)]
    exact congrArg (rec Y G B L r) (Fin.ext (by show k.val = 768 + k.val - 768; omega))

/-- Its squares. -/
theorem square_read (p : Fin 8) (l : Fin 1024) : k0_pay31 (F := Ideal) x0 x1 x2 x3 x4 x5 x6 x7 x8 x9 x10 x11 (ix2 p l) = k0_pay30 (F := Ideal) x0 x1 x2 x3 x4 x5 x6 x7 x8 x9 x10 x11 (ix2 p l) * k0_pay30 (F := Ideal) x0 x1 x2 x3 x4 x5 x6 x7 x8 x9 x10 x11 (ix2 p l) := by
  unfold k0_pay31 k0_pay30
  pointwise [k0_pay17]

/-- The query of a row. -/
theorem query_read (p : Fin 8) (l : Fin 1024) : k0_pay18 (F := Ideal) (k0_pay30 x0 x1 x2 x3 x4 x5 x6 x7 x8 x9 x10 x11) (View.ld x6 r0_9) (k0_pay31 x0 x1 x2 x3 x4 x5 x6 x7 x8 x9 x10 x11) (View.ld x9 r0_10) (ix2 p l) = query X A S Y G B N L O Q r l := by
  have e9 : View.ld x9 r0_10 = x9 := View.ld_unit_zero (by funext a; fin_cases a <;> rfl) ..
  unfold query
  rw [e9, pay18_read _ _ _ _ _ _ (square_read H p)]
  refine congrArg (· * _) (Finset.sum_congr rfl fun k _ => congrArg₂ (· * ·) ?_ (H.h9 k l))
  exact normed_congr (fun j => mid_read H p j) (fun k => (ld_rows x6 2 inb_S6x1024_S1x1024_2_0 (by decide) 0 k).trans (H.h6 2 k)) k

/-- The memory of a row's sequence. -/
theorem mem_read (m : Fin 256) (e : Fin 2048) : k0_pay19 (F := Ideal) (View.ld x10 r0_11) (ix2 m e) = M (ix3 r m e) := by
  have e10 : View.ld x10 r0_11 = x10 := View.ld_unit_zero (by funext a; fin_cases a <;> rfl) ..
  rw [e10, pay19_read]
  exact H.h10 m e

/-- A head's reading of the memory. -/
theorem head_read (p : Fin 8) (j : Fin 1024) :
    k0_pay23 (F := Ideal) (k0_pay18 (k0_pay30 x0 x1 x2 x3 x4 x5 x6 x7 x8 x9 x10 x11) (View.ld x6 r0_9) (k0_pay31 x0 x1 x2 x3 x4 x5 x6 x7 x8 x9 x10 x11) (View.ld x9 r0_10)) (k0_pay19 (View.ld x10 r0_11))
        (k0_pay20 (k0_pay30 x0 x1 x2 x3 x4 x5 x6 x7 x8 x9 x10 x11) (View.ld x6 r0_9) (k0_pay31 x0 x1 x2 x3 x4 x5 x6 x7 x8 x9 x10 x11) (View.ld x9 r0_10) (View.ld x10 r0_11))
        (k0_pay21 (k0_pay30 x0 x1 x2 x3 x4 x5 x6 x7 x8 x9 x10 x11) (View.ld x6 r0_9) (k0_pay31 x0 x1 x2 x3 x4 x5 x6 x7 x8 x9 x10 x11) (View.ld x9 r0_10) (View.ld x10 r0_11))
        (k0_pay22 (k0_pay30 x0 x1 x2 x3 x4 x5 x6 x7 x8 x9 x10 x11) (View.ld x6 r0_9) (k0_pay31 x0 x1 x2 x3 x4 x5 x6 x7 x8 x9 x10 x11) (View.ld x9 r0_10) (View.ld x10 r0_11)) (ix2 p j)
      = read X A S Y G B M N L O Q r ⟨j.val / 256, by omega⟩ ⟨j.val % 256, Nat.mod_lt _ (by decide)⟩ := by
  have hj := j.isLt
  have hq : ∀ o e : ℕ, ∀ h : o + e < 1024, ∀ h' : 256 * (j.val / 256) + e < 1024, o = 256 * (j.val / 256) →
      k0_pay18 (F := Ideal) (k0_pay30 x0 x1 x2 x3 x4 x5 x6 x7 x8 x9 x10 x11) (View.ld x6 r0_9) (k0_pay31 x0 x1 x2 x3 x4 x5 x6 x7 x8 x9 x10 x11) (View.ld x9 r0_10) (ix2 p ⟨o + e, h⟩)
        = query X A S Y G B N L O Q r ⟨256 * (j.val / 256) + e, h'⟩ := by
    intro o e h h' ho
    subst ho
    exact query_read H p _
  have hm : ∀ (m : Fin 256) (o e o' : ℕ) (h : o + e < 2048) (h' : o' + e < 2048), o = o' →
      k0_pay19 (F := Ideal) (View.ld x10 r0_11) (ix2 m ⟨o + e, h⟩) = M (ix3 r m ⟨o' + e, h'⟩) := by
    intro m o e o' h h' ho
    subst ho
    exact mem_read H m _
  rw [pay23_read]
  by_cases c1 : j.val < 256
  · rw [dif_pos c1, pay20_read]
    refine attend_congr (fun e => (query_read H p _).trans (congrArg (query X A S Y G B N L O Q r) (Fin.ext (by show e.val = 256 * (j.val / 256) + e.val; omega))))
      (fun m e => (mem_read H m _).trans (congrArg (fun q => M (ix3 r m q)) (Fin.ext (by show e.val = 256 * (j.val / 256) + e.val; omega))))
      (fun m e => hm m 1024 e.val (1024 + 256 * (j.val / 256)) _ _ (by omega)) (Fin.ext (by show j.val = j.val % 256; omega))
  · by_cases c2 : j.val - 256 < 256
    · rw [dif_neg c1, dif_pos c2]
      simp only [pay22_read, pay21_read]
      refine (attend_congr (q := fun e : Fin 256 => k0_pay18 (F := Ideal) (k0_pay30 x0 x1 x2 x3 x4 x5 x6 x7 x8 x9 x10 x11) (View.ld x6 r0_9) (k0_pay31 x0 x1 x2 x3 x4 x5 x6 x7 x8 x9 x10 x11) (View.ld x9 r0_10) (ix2 p ⟨256 + e.val, by omega⟩))
        (K := fun m e => k0_pay19 (F := Ideal) (View.ld x10 r0_11) (ix2 m ⟨256 + e.val, by omega⟩)) (V := fun m e => k0_pay19 (F := Ideal) (View.ld x10 r0_11) (ix2 m ⟨1280 + e.val, by omega⟩))
        (d := ⟨j.val - 256, c2⟩) (fun e => hq 256 e.val _ _ (by omega)) (fun m e => hm m 256 e.val (256 * (j.val / 256)) _ _ (by omega))
        (fun m e => hm m 1280 e.val (1024 + 256 * (j.val / 256)) _ _ (by omega)) (Fin.ext (by show j.val - 256 = j.val % 256; omega)))
    · by_cases c3 : j.val - 256 - 256 < 256
      · rw [dif_neg c1, dif_neg c2, dif_pos c3]
        refine attend_congr (fun e => hq 512 e.val _ _ (by omega)) (fun m e => hm m 512 e.val (256 * (j.val / 256)) _ _ (by omega))
          (fun m e => hm m 1536 e.val (1024 + 256 * (j.val / 256)) _ _ (by omega)) (Fin.ext (by show j.val - 256 - 256 = j.val % 256; omega))
      · rw [dif_neg c1, dif_neg c2, dif_neg c3]
        refine attend_congr (fun e => hq 768 e.val _ _ (by omega)) (fun m e => hm m 768 e.val (256 * (j.val / 256)) _ _ (by omega))
          (fun m e => hm m 1792 e.val (1024 + 256 * (j.val / 256)) _ _ (by omega)) (Fin.ext (by show j.val - 256 - 256 - 256 = j.val % 256; omega))

/-- A row's output. -/
theorem out_read (l : Fin 1024) : out0_12 (F := Ideal) x0 x1 x2 x3 x4 x5 x6 x7 x8 x9 x10 x11 (ix3 0 0 l) = out X A S Y G B M N L O Q W r l := by
  have e11 : View.ld x11 r0_10 = x11 := View.ld_unit_zero (by funext a; fin_cases a <;> rfl) ..
  unfold out0_12
  refine View.canon_eq_of_allAt _ _ _ (cover0_12 _ _) ?_
  refine View.allAt_cons_unit _ _ _ _ _ (fun x hx => ?_) ?_
  · have h2 : l.val = 0 + (x 2).val := hx 2
    obtain ⟨j, rfl⟩ : ∃ j : Fin 1024, x = ix3 0 0 j := ⟨x 2, by
      funext k; fin_cases k
      · exact Subsingleton.elim (α := Fin 1) _ _
      · exact Subsingleton.elim (α := Fin 1) _ _
      · rfl⟩
    change l.val = 0 + j.val at h2
    obtain rfl : l = j := Fin.ext (by omega)
    refine (pay1_read _ _ _ _ _).trans ?_
    unfold out
    refine congrArg₂ (· + ·) (mid_read H 0 l) (normed_congr (fun j => ?_) (fun k => (ld_rows x6 3 inb_S6x1024_S1x1024_3_0 (by decide) 0 k).trans (H.h6 3 k)) l)
    unfold given
    rw [e11]
    exact Finset.sum_congr rfl fun k _ => congrArg₂ (· * ·) (head_read H 0 k) (H.h11 k j)
  exact View.allAt_nil _ _
end Tile

end Cert.TokVal

end
-- ==== Proof.TokValue.lean ====
/- The array that that kernel leaves. -/
module

public import proofs.«01_k».proof.Proof.TokTile
public import proofs.«01_k».proof.Proof.Gen.Kernel8Ideal.Value
public import Idealize.ShloMosaic.Lib.Pipeline.ValueKit.Geometry

@[expose] public section

set_option maxRecDepth 16384

noncomputable section

namespace Cert.TokVal

open Cert.MidVal (NArr LArr WArr)
open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Device `c`'s rows. -/
abbrev aX (c : Dev nD) : XArr := m ((c : Thread nD τ).loc main_arg0)
/-- Device `c`'s first heads. -/
abbrev aA (c : Dev nD) : RArr := m ((c : Thread nD τ).loc main_arg1)
/-- Device `c`'s second heads. -/
abbrev aS (c : Dev nD) : SArr := m ((c : Thread nD τ).loc main_arg2)
/-- Device `c`'s recurrent heads. -/
abbrev aY (c : Dev nD) : RArr := m ((c : Thread nD τ).loc main_arg3)
/-- Device `c`'s gates. -/
abbrev aG (c : Dev nD) : RArr := m ((c : Thread nD τ).loc main_arg4)
/-- Device `c`'s bonuses. -/
abbrev aB (c : Dev nD) : RArr := m ((c : Thread nD τ).loc main_arg5)
/-- Device `c`'s memory. -/
abbrev aM (c : Dev nD) : MArr := m ((c : Thread nD τ).loc main_arg6)
/-- Device `c`'s scales of the norms. -/
abbrev aN (c : Dev nD) : NArr := m ((c : Thread nD τ).loc main_arg7)
/-- Device `c`'s scales and shifts of the recurrent heads. -/
abbrev aL (c : Dev nD) : LArr := m ((c : Thread nD τ).loc main_arg8)
/-- Device `c`'s weights that mix the heads. -/
abbrev aO (c : Dev nD) : WArr := m ((c : Thread nD τ).loc main_arg9)
/-- Device `c`'s weights of the queries. -/
abbrev aQ (c : Dev nD) : WArr := m ((c : Thread nD τ).loc main_arg10)
/-- Device `c`'s weights out of the memory. -/
abbrev aW (c : Dev nD) : WArr := m ((c : Thread nD τ).loc main_arg11)

theorem V_0 (c : Dev nD) (r : Fin 32) (l : Fin 1024) : (V m c main_v0 : S32x1x1024.Idx → EReal) (ix3 r 0 l) = aX m c (ix2 r l) := by
  have e : (V m c main_v0 : S32x1x1024.Idx → EReal) = shapeCast _ (aX m c) shapeCasts_S32x1024_S32x1x1024 := by
    show StableHlo.after hostOps0 _ (Proc.devRef .tc main_v0) = _
    after_results
    rfl
  rw [e]
  pointwise []

theorem V_1 (c : Dev nD) (r : Fin 32) (l : Fin 256) : (V m c main_v1 : S32x1x256.Idx → EReal) (ix3 r 0 l) = aA m c (ix2 r l) := by
  have e : (V m c main_v1 : S32x1x256.Idx → EReal) = shapeCast _ (aA m c) shapeCasts_S32x256_S32x1x256 := by
    show StableHlo.after hostOps0 _ (Proc.devRef .tc main_v1) = _
    after_results
    rfl
  rw [e]
  pointwise []

theorem V_2 (c : Dev nD) (r : Fin 32) (l : Fin 512) : (V m c main_v2 : S32x1x512.Idx → EReal) (ix3 r 0 l) = aS m c (ix2 r l) := by
  have e : (V m c main_v2 : S32x1x512.Idx → EReal) = shapeCast _ (aS m c) shapeCasts_S32x512_S32x1x512 := by
    show StableHlo.after hostOps0 _ (Proc.devRef .tc main_v2) = _
    after_results
    rfl
  rw [e]
  pointwise []

theorem V_3 (c : Dev nD) (r : Fin 32) (l : Fin 256) : (V m c main_v3 : S32x1x256.Idx → EReal) (ix3 r 0 l) = aY m c (ix2 r l) := by
  have e : (V m c main_v3 : S32x1x256.Idx → EReal) = shapeCast _ (aY m c) shapeCasts_S32x256_S32x1x256 := by
    show StableHlo.after hostOps0 _ (Proc.devRef .tc main_v3) = _
    after_results
    rfl
  rw [e]
  pointwise []

theorem V_4 (c : Dev nD) (r : Fin 32) (l : Fin 256) : (V m c main_v4 : S32x1x256.Idx → EReal) (ix3 r 0 l) = aG m c (ix2 r l) := by
  have e : (V m c main_v4 : S32x1x256.Idx → EReal) = shapeCast _ (aG m c) shapeCasts_S32x256_S32x1x256 := by
    show StableHlo.after hostOps0 _ (Proc.devRef .tc main_v4) = _
    after_results
    rfl
  rw [e]
  pointwise []

theorem V_5 (c : Dev nD) (r : Fin 32) (l : Fin 256) : (V m c main_v5 : S32x1x256.Idx → EReal) (ix3 r 0 l) = aB m c (ix2 r l) := by
  have e : (V m c main_v5 : S32x1x256.Idx → EReal) = shapeCast _ (aB m c) shapeCasts_S32x256_S32x1x256 := by
    show StableHlo.after hostOps0 _ (Proc.devRef .tc main_v5) = _
    after_results
    rfl
  rw [e]
  pointwise []

theorem V_O (c : Dev nD) (k l : Fin 1024) : (V m c main_v7 : S1024x1024.Idx → EReal) (ix2 k l) = aO m c (ix2 k l) := by
  have e : (V m c main_v7 : S1024x1024.Idx → EReal) = aO m c := by
    show StableHlo.after hostOps0 _ (Proc.devRef .tc main_v7) = _
    after_results
    rfl
  rw [e]

theorem V_Q (c : Dev nD) (k l : Fin 1024) : (V m c main_v8 : S1024x1024.Idx → EReal) (ix2 k l) = aQ m c (ix2 k l) := by
  have e : (V m c main_v8 : S1024x1024.Idx → EReal) = aQ m c := by
    show StableHlo.after hostOps0 _ (Proc.devRef .tc main_v8) = _
    after_results
    rfl
  rw [e]

theorem V_W (c : Dev nD) (k l : Fin 1024) : (V m c main_v9 : S1024x1024.Idx → EReal) (ix2 k l) = aW m c (ix2 k l) := by
  have e : (V m c main_v9 : S1024x1024.Idx → EReal) = aW m c := by
    show StableHlo.after hostOps0 _ (Proc.devRef .tc main_v9) = _
    after_results
    rfl
  rw [e]

theorem V_L (c : Dev nD) (k : Fin 2) (l : Fin 256) : (V m c main_v6 : S2x256.Idx → EReal) (ix2 k l) = aL m c (ix2 ⟨4 + k.val, by omega⟩ l) := by
  have e : (V m c main_v6 : S2x256.Idx → EReal) = extractStridedSlice S2x256 ![4, 0] (aL m c) slices_S6x256_S2x256_4_0 := by
    show StableHlo.after hostOps0 _ (Proc.devRef .tc main_v6) = _
    after_results
  rw [e]
  pointwise []

theorem lt_points (t : Fin cfg0.N) : t.val < 32 := Nat.lt_of_lt_of_eq t.isLt N_0

/-- The sequence of a point. -/
abbrev srow (t : Fin cfg0.N) : Fin 32 := ⟨t.val, lt_points t⟩

/-- A point's row of argument 0. -/
theorem b0_read (c : Dev nD) (t : Fin cfg0.N) (l : Fin 1024) : (iblk m c 0 t : Vec Ideal S1x1x1024 .f32) (ix3 0 0 l) = aX m c (ix2 (srow t) l) := by
  have e := (by decide +kernel : ∀ t : Fin grid0.N, win0_0.index t 0 * win0_0.size 0 = t.val ∧ win0_0.index t 1 * win0_0.size 1 = 0 ∧ win0_0.index t 2 * win0_0.size 2 = 0) t
  refine Eq.trans ?_ (V_0 m c (srow t) l)
  show (V m c main_v0 : S32x1x1024.Idx → EReal) (((cfg0.win 0).blk t).view.emb ((ix3 0 0 l) : S1x1x1024.Idx)) = _
  refine congrArg (V m c main_v0 : S32x1x1024.Idx → EReal) (funext fun a => Fin.ext ?_)
  fin_cases a
  · show win0_0.index t 0 * win0_0.size 0 + 1 * 0 = t.val
    rw [e.1]; omega
  · show win0_0.index t 1 * win0_0.size 1 + 1 * 0 = 0
    rw [e.2.1]
  · show win0_0.index t 2 * win0_0.size 2 + 1 * l.val = l.val
    rw [e.2.2]; omega

/-- A point's row of argument 1. -/
theorem b1_read (c : Dev nD) (t : Fin cfg0.N) (l : Fin 256) : (iblk m c 1 t : Vec Ideal S1x1x256 .bf16) (ix3 0 0 l) = aA m c (ix2 (srow t) l) := by
  have e := (by decide +kernel : ∀ t : Fin grid0.N, win0_1.index t 0 * win0_1.size 0 = t.val ∧ win0_1.index t 1 * win0_1.size 1 = 0 ∧ win0_1.index t 2 * win0_1.size 2 = 0) t
  refine Eq.trans ?_ (V_1 m c (srow t) l)
  show (V m c main_v1 : S32x1x256.Idx → EReal) (((cfg0.win 1).blk t).view.emb ((ix3 0 0 l) : S1x1x256.Idx)) = _
  refine congrArg (V m c main_v1 : S32x1x256.Idx → EReal) (funext fun a => Fin.ext ?_)
  fin_cases a
  · show win0_1.index t 0 * win0_1.size 0 + 1 * 0 = t.val
    rw [e.1]; omega
  · show win0_1.index t 1 * win0_1.size 1 + 1 * 0 = 0
    rw [e.2.1]
  · show win0_1.index t 2 * win0_1.size 2 + 1 * l.val = l.val
    rw [e.2.2]; omega

/-- A point's row of argument 2. -/
theorem b2_read (c : Dev nD) (t : Fin cfg0.N) (l : Fin 512) : (iblk m c 2 t : Vec Ideal S1x1x512 .f32) (ix3 0 0 l) = aS m c (ix2 (srow t) l) := by
  have e := (by decide +kernel : ∀ t : Fin grid0.N, win0_2.index t 0 * win0_2.size 0 = t.val ∧ win0_2.index t 1 * win0_2.size 1 = 0 ∧ win0_2.index t 2 * win0_2.size 2 = 0) t
  refine Eq.trans ?_ (V_2 m c (srow t) l)
  show (V m c main_v2 : S32x1x512.Idx → EReal) (((cfg0.win 2).blk t).view.emb ((ix3 0 0 l) : S1x1x512.Idx)) = _
  refine congrArg (V m c main_v2 : S32x1x512.Idx → EReal) (funext fun a => Fin.ext ?_)
  fin_cases a
  · show win0_2.index t 0 * win0_2.size 0 + 1 * 0 = t.val
    rw [e.1]; omega
  · show win0_2.index t 1 * win0_2.size 1 + 1 * 0 = 0
    rw [e.2.1]
  · show win0_2.index t 2 * win0_2.size 2 + 1 * l.val = l.val
    rw [e.2.2]; omega

/-- A point's row of argument 3. -/
theorem b3_read (c : Dev nD) (t : Fin cfg0.N) (l : Fin 256) : (iblk m c 3 t : Vec Ideal S1x1x256 .f32) (ix3 0 0 l) = aY m c (ix2 (srow t) l) := by
  have e := (by decide +kernel : ∀ t : Fin grid0.N, win0_3.index t 0 * win0_3.size 0 = t.val ∧ win0_3.index t 1 * win0_3.size 1 = 0 ∧ win0_3.index t 2 * win0_3.size 2 = 0) t
  refine Eq.trans ?_ (V_3 m c (srow t) l)
  show (V m c main_v3 : S32x1x256.Idx → EReal) (((cfg0.win 3).blk t).view.emb ((ix3 0 0 l) : S1x1x256.Idx)) = _
  refine congrArg (V m c main_v3 : S32x1x256.Idx → EReal) (funext fun a => Fin.ext ?_)
  fin_cases a
  · show win0_3.index t 0 * win0_3.size 0 + 1 * 0 = t.val
    rw [e.1]; omega
  · show win0_3.index t 1 * win0_3.size 1 + 1 * 0 = 0
    rw [e.2.1]
  · show win0_3.index t 2 * win0_3.size 2 + 1 * l.val = l.val
    rw [e.2.2]; omega

/-- A point's row of argument 4. -/
theorem b4_read (c : Dev nD) (t : Fin cfg0.N) (l : Fin 256) : (iblk m c 4 t : Vec Ideal S1x1x256 .f32) (ix3 0 0 l) = aG m c (ix2 (srow t) l) := by
  have e := (by decide +kernel : ∀ t : Fin grid0.N, win0_4.index t 0 * win0_4.size 0 = t.val ∧ win0_4.index t 1 * win0_4.size 1 = 0 ∧ win0_4.index t 2 * win0_4.size 2 = 0) t
  refine Eq.trans ?_ (V_4 m c (srow t) l)
  show (V m c main_v4 : S32x1x256.Idx → EReal) (((cfg0.win 4).blk t).view.emb ((ix3 0 0 l) : S1x1x256.Idx)) = _
  refine congrArg (V m c main_v4 : S32x1x256.Idx → EReal) (funext fun a => Fin.ext ?_)
  fin_cases a
  · show win0_4.index t 0 * win0_4.size 0 + 1 * 0 = t.val
    rw [e.1]; omega
  · show win0_4.index t 1 * win0_4.size 1 + 1 * 0 = 0
    rw [e.2.1]
  · show win0_4.index t 2 * win0_4.size 2 + 1 * l.val = l.val
    rw [e.2.2]; omega

/-- A point's row of argument 5. -/
theorem b5_read (c : Dev nD) (t : Fin cfg0.N) (l : Fin 256) : (iblk m c 5 t : Vec Ideal S1x1x256 .f32) (ix3 0 0 l) = aB m c (ix2 (srow t) l) := by
  have e := (by decide +kernel : ∀ t : Fin grid0.N, win0_5.index t 0 * win0_5.size 0 = t.val ∧ win0_5.index t 1 * win0_5.size 1 = 0 ∧ win0_5.index t 2 * win0_5.size 2 = 0) t
  refine Eq.trans ?_ (V_5 m c (srow t) l)
  show (V m c main_v5 : S32x1x256.Idx → EReal) (((cfg0.win 5).blk t).view.emb ((ix3 0 0 l) : S1x1x256.Idx)) = _
  refine congrArg (V m c main_v5 : S32x1x256.Idx → EReal) (funext fun a => Fin.ext ?_)
  fin_cases a
  · show win0_5.index t 0 * win0_5.size 0 + 1 * 0 = t.val
    rw [e.1]; omega
  · show win0_5.index t 1 * win0_5.size 1 + 1 * 0 = 0
    rw [e.2.1]
  · show win0_5.index t 2 * win0_5.size 2 + 1 * l.val = l.val
    rw [e.2.2]; omega

/-- The scales of the norms. -/
theorem b6_read (c : Dev nD) (t : Fin cfg0.N) (k : Fin 6) (l : Fin 1024) : (iblk m c 6 t : Vec Ideal S6x1024 .f32) (ix2 k l) = aN m c (ix2 k l) := by
  have e := (by decide +kernel : ∀ t : Fin grid0.N, win0_6.index t 0 * win0_6.size 0 = 0 ∧ win0_6.index t 1 * win0_6.size 1 = 0) t
  refine Eq.trans ?_ (congrFun (V_main_arg7 m c) (ix2 k l))
  show (V m c main_arg7 : S6x1024.Idx → EReal) (((cfg0.win 6).blk t).view.emb ((ix2 k l) : S6x1024.Idx)) = _
  refine congrArg (V m c main_arg7 : S6x1024.Idx → EReal) (funext fun a => Fin.ext ?_)
  fin_cases a
  · show win0_6.index t 0 * win0_6.size 0 + 1 * k.val = k.val
    rw [e.1]; omega
  · show win0_6.index t 1 * win0_6.size 1 + 1 * l.val = l.val
    rw [e.2]; omega

/-- The scale and the shift of the recurrent heads. -/
theorem b7_read (c : Dev nD) (t : Fin cfg0.N) (k : Fin 2) (l : Fin 256) : (iblk m c 7 t : Vec Ideal S2x256 .f32) (ix2 k l) = aL m c (ix2 ⟨4 + k.val, by omega⟩ l) := by
  have e := (by decide +kernel : ∀ t : Fin grid0.N, win0_7.index t 0 * win0_7.size 0 = 0 ∧ win0_7.index t 1 * win0_7.size 1 = 0) t
  refine Eq.trans ?_ (V_L m c k l)
  show (V m c main_v6 : S2x256.Idx → EReal) (((cfg0.win 7).blk t).view.emb ((ix2 k l) : S2x256.Idx)) = _
  refine congrArg (V m c main_v6 : S2x256.Idx → EReal) (funext fun a => Fin.ext ?_)
  fin_cases a
  · show win0_7.index t 0 * win0_7.size 0 + 1 * k.val = k.val
    rw [e.1]; omega
  · show win0_7.index t 1 * win0_7.size 1 + 1 * l.val = l.val
    rw [e.2]; omega

/-- A square of weights. -/
theorem b8_read (c : Dev nD) (t : Fin cfg0.N) (k : Fin 1024) (l : Fin 1024) : (iblk m c 8 t : Vec Ideal S1024x1024 .bf16) (ix2 k l) = aO m c (ix2 k l) := by
  have e := (by decide +kernel : ∀ t : Fin grid0.N, win0_8.index t 0 * win0_8.size 0 = 0 ∧ win0_8.index t 1 * win0_8.size 1 = 0) t
  refine Eq.trans ?_ (V_O m c k l)
  show (V m c main_v7 : S1024x1024.Idx → EReal) (((cfg0.win 8).blk t).view.emb ((ix2 k l) : S1024x1024.Idx)) = _
  refine congrArg (V m c main_v7 : S1024x1024.Idx → EReal) (funext fun a => Fin.ext ?_)
  fin_cases a
  · show win0_8.index t 0 * win0_8.size 0 + 1 * k.val = k.val
    rw [e.1]; omega
  · show win0_8.index t 1 * win0_8.size 1 + 1 * l.val = l.val
    rw [e.2]; omega

/-- A square of weights. -/
theorem b9_read (c : Dev nD) (t : Fin cfg0.N) (k : Fin 1024) (l : Fin 1024) : (iblk m c 9 t : Vec Ideal S1024x1024 .bf16) (ix2 k l) = aQ m c (ix2 k l) := by
  have e := (by decide +kernel : ∀ t : Fin grid0.N, win0_9.index t 0 * win0_9.size 0 = 0 ∧ win0_9.index t 1 * win0_9.size 1 = 0) t
  refine Eq.trans ?_ (V_Q m c k l)
  show (V m c main_v8 : S1024x1024.Idx → EReal) (((cfg0.win 9).blk t).view.emb ((ix2 k l) : S1024x1024.Idx)) = _
  refine congrArg (V m c main_v8 : S1024x1024.Idx → EReal) (funext fun a => Fin.ext ?_)
  fin_cases a
  · show win0_9.index t 0 * win0_9.size 0 + 1 * k.val = k.val
    rw [e.1]; omega
  · show win0_9.index t 1 * win0_9.size 1 + 1 * l.val = l.val
    rw [e.2]; omega

/-- A square of weights. -/
theorem b11_read (c : Dev nD) (t : Fin cfg0.N) (k : Fin 1024) (l : Fin 1024) : (iblk m c 11 t : Vec Ideal S1024x1024 .bf16) (ix2 k l) = aW m c (ix2 k l) := by
  have e := (by decide +kernel : ∀ t : Fin grid0.N, win0_11.index t 0 * win0_11.size 0 = 0 ∧ win0_11.index t 1 * win0_11.size 1 = 0) t
  refine Eq.trans ?_ (V_W m c k l)
  show (V m c main_v9 : S1024x1024.Idx → EReal) (((cfg0.win 11).blk t).view.emb ((ix2 k l) : S1024x1024.Idx)) = _
  refine congrArg (V m c main_v9 : S1024x1024.Idx → EReal) (funext fun a => Fin.ext ?_)
  fin_cases a
  · show win0_11.index t 0 * win0_11.size 0 + 1 * k.val = k.val
    rw [e.1]; omega
  · show win0_11.index t 1 * win0_11.size 1 + 1 * l.val = l.val
    rw [e.2]; omega

/-- The memory of a point's sequence. -/
theorem b10_read (c : Dev nD) (t : Fin cfg0.N) (k : Fin 256) (l : Fin 2048) : (iblk m c 10 t : Vec Ideal S1x256x2048 .f32) (ix3 0 k l) = aM m c (ix3 (srow t) k l) := by
  have e := (by decide +kernel : ∀ t : Fin grid0.N, win0_10.index t 0 * win0_10.size 0 = t.val ∧ win0_10.index t 1 * win0_10.size 1 = 0 ∧ win0_10.index t 2 * win0_10.size 2 = 0) t
  refine Eq.trans ?_ (congrFun (V_main_arg6 m c) (ix3 (srow t) k l))
  show (V m c main_arg6 : S32x256x2048.Idx → EReal) (((cfg0.win 10).blk t).view.emb ((ix3 0 k l) : S1x256x2048.Idx)) = _
  refine congrArg (V m c main_arg6 : S32x256x2048.Idx → EReal) (funext fun a => Fin.ext ?_)
  fin_cases a
  · show win0_10.index t 0 * win0_10.size 0 + 1 * 0 = t.val
    rw [e.1]; omega
  · show win0_10.index t 1 * win0_10.size 1 + 1 * k.val = k.val
    rw [e.2.1]; omega
  · show win0_10.index t 2 * win0_10.size 2 + 1 * l.val = l.val
    rw [e.2.2]; omega

/-- A point's blocks hold its row. -/
theorem holds (c : Dev nD) (t : Fin cfg0.N) : Holds (aX m c) (aA m c) (aS m c) (aY m c) (aG m c) (aB m c) (aM m c) (aN m c) (aL m c) (aO m c) (aQ m c) (aW m c)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (srow t) where
  h0 := b0_read m c t
  h1 := b1_read m c t
  h2 := b2_read m c t
  h3 := b3_read m c t
  h4 := b4_read m c t
  h5 := b5_read m c t
  h6 := b6_read m c t
  h70 := b7_read m c t 0
  h71 := b7_read m c t 1
  h8 := b8_read m c t
  h9 := b9_read m c t
  h10 := b10_read m c t
  h11 := b11_read m c t

/-- The array of rows after the run. -/
theorem final12 (c : Dev nD) : (dats m 0 c).arrAt 12 cfg0.N = outArr (aX m c) (aA m c) (aS m c) (aY m c) (aG m c) (aB m c) (aM m c) (aN m c) (aL m c) (aO m c) (aQ m c) (aW m c) := by
  have ew := (by decide +kernel : ∀ t : Fin grid0.N, win0_12.index t 0 * win0_12.size 0 = t.val ∧ win0_12.index t 1 * win0_12.size 1 = 0 ∧ win0_12.index t 2 * win0_12.size 2 = 0)
  refine (dats m 0 c).arrAt_eq_of_covers 12 _ (by decide +kernel) fun t hf y => ?_
  obtain ⟨l, rfl⟩ : ∃ l : Fin 1024, y = (ix3 0 0 l : S1x1x1024.Idx) := ⟨y 2, by
    funext k; fin_cases k
    · exact Subsingleton.elim (α := Fin 1) _ _
    · exact Subsingleton.elim (α := Fin 1) _ _
    · rfl⟩
  show (dats m 0 c).after 12 t (ix3 0 0 l) = _
  rw [after0_12]
  refine (out_read (holds m c t) l).trans ?_
  have e0 : ((cfg0.win 12).blk t).view.emb (ix3 0 0 l : S1x1x1024.Idx) = (ix3 (srow t) 0 l : S32x1x1024.Idx) := by
    have e := ew t
    funext a
    apply Fin.ext
    fin_cases a
    · show win0_12.index t 0 * win0_12.size 0 + 1 * 0 = t.val
      rw [e.1]; omega
    · show win0_12.index t 1 * win0_12.size 1 + 1 * 0 = 0
      rw [e.2.1]
    · show win0_12.index t 2 * win0_12.size 2 + 1 * l.val = l.val
      rw [e.2.2]; omega
  exact (congrArg (outArr (aX m c) (aA m c) (aS m c) (aY m c) (aG m c) (aB m c) (aM m c) (aN m c) (aL m c) (aO m c) (aQ m c) (aW m c)) e0).symm

end Cert.TokVal

end
-- ==== Proof.TokRef.lean ====
/- The reference reads, index by index, as the functions of `TokSpec`. -/
module

public import proofs.«01_k».proof.Proof.TokSpec
public import proofs.«01_k».proof.Proof.MidRef
public import proofs.«01_k».proof.Proof.Gen.Reference8Ideal.Read

@[expose] public section

set_option maxRecDepth 16384

noncomputable section

namespace Cert.TokVal

open Cert.MidVal (mean gnorm score expo attend col64 col256 NArr LArr WArr NINF ninf_max max_read)
open Cert.Reference8Ideal Cert.Reference8Ideal.Read Idealize.ShloMosaic
open Cert.FfnVal (normed)
variable (X : XArr) (A : RArr) (S : SArr) (Y G B : RArr) (M : MArr) (N : NArr) (L : LArr) (O Q W : WArr)

theorem ref_mean (r : Fin 32) (h : Fin 4) : val_main_v4 (F := Ideal) Y (ix3 r h 0) = mean fun d => Y (ix2 r (col64 h d)) := by
  pointwise [val_main_v4, val_main_v3, val_main_v2, val_main_v1, val_main_v0, val_main_cst, val_main_cst_0]
  unfold mean
  congr 1
  refine Finset.sum_congr rfl fun d _ => ?_
  congr 2 <;> ext <;> simp <;> omega

theorem ref_y (r : Fin 32) (h : Fin 4) (d : Fin 64) : val_main_v0 (F := Ideal) Y (ix3 r h d) = Y (ix2 r (col64 h d)) := by
  pointwise [val_main_v0]
  congr 2 <;> ext <;> simp <;> omega

theorem ref_gnorm (r : Fin 32) (h : Fin 4) (d : Fin 64) :
    val_main_v20 (F := Ideal) Y (ix3 r h d) = gnorm (fun d => Y (ix2 r (col64 h d))) d := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst_1, val_main_cst_2, val_main_cst_3]
  simp only [ref_mean, ref_y]
  rfl

theorem ref_rec (r : Fin 32) (c : Fin 256) : val_main_v33 (F := Ideal) Y G B L (ix2 r c) = rec Y G B L r c := by
  pointwise [val_main_v33, val_main_v32, val_main_v31, val_main_v30, val_main_v29, val_main_v28, val_main_v27, val_main_v26, val_main_v25, val_main_v24, val_main_v23, val_main_v22, val_main_v21]
  rw [ref_gnorm]
  rfl

theorem ref_heads (r : Fin 32) (k : Fin 1024) : val_main_v35 (F := Ideal) A S Y G B L (ix2 r k) = heads A S Y G B L r k := by
  pointwise [val_main_v35, val_main_v34]
  unfold heads
  split
  · rfl
  · rename_i h
    by_cases h' : k.val < 768
    · rw [dif_pos (by omega), dif_pos h']
    · rw [dif_neg (by omega), dif_neg h', ref_rec]
      exact congrArg (rec Y G B L r) (Fin.ext (by show k.val - 256 - 512 = k.val - 768; omega))

theorem ref_mixed (r : Fin 32) (l : Fin 1024) : val_main_v36 (F := Ideal) A S Y G B L O (ix2 r l) = mixed A S Y G B L O r l := by
  pointwise [val_main_v36, dot_S32x1024_S1024x1024_S32x1024_1_0_0_1_n_n]
  exact Finset.sum_congr rfl fun k _ => by rw [ref_heads]

theorem ref_mid (r : Fin 32) (l : Fin 1024) : val_main_v52 (F := Ideal) X A S Y G B N L O (ix2 r l) = mid X A S Y G B N L O r l := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_cst_4, val_main_cst_5, val_main_cst_6]
  simp only [ref_mixed]
  rfl

theorem ref_hid (r : Fin 32) (l : Fin 1024) :
    val_main_v67 (F := Ideal) X A S Y G B N L O (ix2 r l) = normed (mid X A S Y G B N L O r) (fun k => N (ix2 2 k)) l := by
  pointwise [val_main_v67, val_main_v66, val_main_v65, val_main_v64, val_main_v63, val_main_v62, val_main_v61, val_main_v60, val_main_v59, val_main_v58, val_main_v57, val_main_v56, val_main_v55, val_main_v54, val_main_v53, val_main_cst_7, val_main_cst_8, val_main_cst_9]
  simp only [ref_mid]
  rfl

theorem ref_proj (r : Fin 32) (l : Fin 1024) :
    val_main_v69 (F := Ideal) X A S Y G B N L O Q (ix2 r l) = ∑ k, normed (mid X A S Y G B N L O r) (fun k => N (ix2 2 k)) k * Q (ix2 k l) := by
  pointwise [val_main_v69, dot_S32x1024_S1024x1024_S32x1024_1_0_0_1_n_n]
  exact Finset.sum_congr rfl fun k _ => by rw [ref_hid]

theorem ref_query (b : Fin 32) (h : Fin 4) (d : Fin 256) :
    val_main_v72 (F := Ideal) X A S Y G B N L O Q (ix3 b h d) = query X A S Y G B N L O Q (b) (col256 h d) := by
  pointwise [val_main_v72, val_main_v71, val_main_v70, val_main_cst_10]
  rw [ref_proj]
  unfold query
  rw [show (⟨h.val * 256 + d.val, by omega⟩ : Fin 1024) = col256 h d from Fin.ext (by show h.val * 256 + d.val = 256 * h.val + d.val; omega)]

theorem ref_key (b : Fin 32) (m : Fin 256) (h : Fin 4) (d : Fin 256) :
    val_main_v74 (F := Ideal) M (ix4 b m h d) = M (ix3 b m ⟨256 * h.val + d.val, by omega⟩) := by
  pointwise [val_main_v74, val_main_v73, val_main_v68]
  exact congrArg (fun q => M (ix3 b m q)) (Fin.ext (by show h.val * 256 + d.val = 256 * h.val + d.val; omega))

theorem ref_value (b : Fin 32) (m : Fin 256) (h : Fin 4) (d : Fin 256) :
    val_main_v88 (F := Ideal) M (ix4 b m h d) = M (ix3 b m ⟨1024 + 256 * h.val + d.val, by omega⟩) := by
  pointwise [val_main_v88, val_main_v87, val_main_v68]
  exact congrArg (fun q => M (ix3 b m q)) (Fin.ext (by show 1024 + h.val * 256 + d.val = 1024 + 256 * h.val + d.val; omega))

/-- A token's query of one head. -/
abbrev qf (b : Fin 32) (h : Fin 4) : Fin 256 → EReal := fun e => query X A S Y G B N L O Q (b) (col256 h e)
/-- A head's keys. -/
abbrev kf (b : Fin 32) (h : Fin 4) : Fin 256 → Fin 256 → EReal := fun m e => M (ix3 b m ⟨256 * h.val + e.val, by omega⟩)
/-- A head's values. -/
abbrev vf (b : Fin 32) (h : Fin 4) : Fin 256 → Fin 256 → EReal := fun m e => M (ix3 b m ⟨1024 + 256 * h.val + e.val, by omega⟩)

theorem ref_score (b : Fin 32) (h : Fin 4) (m : Fin 256) :
    val_main_v75 (F := Ideal) X A S Y G B M N L O Q (ix3 b h m) = score (qf X A S Y G B N L O Q b h) (kf M b h) m := by
  pointwise [val_main_v75, dot_S32x4x256_S32x256x4x256_S32x4x256_2_3_n_1_01_02]
  exact Finset.sum_congr rfl fun k _ => by rw [ref_query, ref_key]

theorem ref_fold (b : Fin 32) (h : Fin 4) :
    val_main_v76 (F := Ideal) X A S Y G B M N L O Q (ix2 b h)
      = Finset.univ.fold max NINF fun k => val_main_v75 (F := Ideal) X A S Y G B M N L O Q (ix3 b h k) := by
  unfold val_main_v76 val_main_cst_11
  generalize val_main_v75 (F := Ideal) X A S Y G B M N L O Q = x
  pointwise

theorem ref_low (b : Fin 32) (h : Fin 4) : val_main_v77 (F := Ideal) (ix2 b h) = NINF := rfl

theorem ref_max (b : Fin 32) (h : Fin 4) :
    val_main_v78 (F := Ideal) X A S Y G B M N L O Q (ix2 b h)
      = Finset.univ.fold max NINF fun k => score (qf X A S Y G B N L O Q b h) (kf M b h) k := by
  rw [val_main_v78_apply, max_read _ _ (ref_low b h)]
  exact (ref_fold X A S Y G B M N L O Q b h).trans
    (congrArg (fun f => Finset.univ.fold max NINF f) (funext fun k => ref_score X A S Y G B M N L O Q b h k))

theorem ref_expo (b : Fin 32) (h : Fin 4) (m : Fin 256) :
    val_main_v82 (F := Ideal) X A S Y G B M N L O Q (ix3 b h m) = expo (qf X A S Y G B N L O Q b h) (kf M b h) m := by
  pointwise [val_main_v82, val_main_v81, val_main_v80, val_main_v79]
  rw [ref_max, ref_score]
  rfl

theorem ref_prob (b : Fin 32) (h : Fin 4) (m : Fin 256) :
    val_main_v86 (F := Ideal) X A S Y G B M N L O Q (ix3 b h m)
      = Ideal.div (expo (qf X A S Y G B N L O Q b h) (kf M b h) m) (∑ k, expo (qf X A S Y G B N L O Q b h) (kf M b h) k) := by
  pointwise [val_main_v86, val_main_v85, val_main_v84, val_main_v83, val_main_cst_13]
  simp only [ref_expo]

theorem ref_attend (b : Fin 32) (h : Fin 4) (d : Fin 256) :
    val_main_v89 (F := Ideal) X A S Y G B M N L O Q (ix3 b h d) = attend (qf X A S Y G B N L O Q b h) (kf M b h) (vf M b h) d := by
  pointwise [val_main_v89, dot_S32x4x256_S32x256x4x256_S32x4x256_2_1_n_3_01_02]
  unfold attend
  exact Finset.sum_congr rfl fun k _ => by rw [ref_prob, ref_value]

theorem ref_read (r : Fin 32) (l : Fin 1024) :
    val_main_v90 (F := Ideal) X A S Y G B M N L O Q (ix2 r l)
      = read X A S Y G B M N L O Q r ⟨l.val / 256, by omega⟩ ⟨l.val % 256, Nat.mod_lt _ (by decide)⟩ := by
  pointwise [val_main_v90]
  rw [ref_attend]
  rfl

theorem ref_given (r : Fin 32) (l : Fin 1024) :
    val_main_v91 (F := Ideal) X A S Y G B M N L O Q W (ix2 r l) = given X A S Y G B M N L O Q W r l := by
  pointwise [val_main_v91, dot_S32x1024_S1024x1024_S32x1024_1_0_0_1_n_n]
  exact Finset.sum_congr rfl fun k _ => by rw [ref_read]

theorem ref_out (r : Fin 32) (l : Fin 1024) :
    val_main_v107 (F := Ideal) X A S Y G B M N L O Q W (ix2 r l) = out X A S Y G B M N L O Q W r l := by
  pointwise [val_main_v107, val_main_v106, val_main_v105, val_main_v104, val_main_v103, val_main_v102, val_main_v101, val_main_v100, val_main_v99, val_main_v98, val_main_v97, val_main_v96, val_main_v95, val_main_v94, val_main_v93, val_main_v92, val_main_cst_14, val_main_cst_15, val_main_cst_16]
  simp only [ref_given, ref_mid]
  rfl

/-- The reference's result is the output array. -/
theorem ref_arr : val_main_v108 (F := Ideal) X A S Y G B M N L O Q W = outArr X A S Y G B M N L O Q W := by
  funext i
  have e : i = ix3 ⟨(i 0).val, (i 0).isLt⟩ 0 ⟨(i 2).val, (i 2).isLt⟩ := by
    funext a; fin_cases a
    · rfl
    · exact Subsingleton.elim (α := Fin 1) _ _
    · rfl
  rw [e]
  pointwise [val_main_v108]
  exact ref_out X A S Y G B M N L O Q W _ _

end Cert.TokVal

end
-- ==== Proof.TokClaim.lean ====
/- The claims about the layer that mixes the heads and reads the memory, for single rows. -/
module

public import proofs.«01_k».proof.Defs
public import proofs.«01_k».proof.Proof.TokValue
public import proofs.«01_k».proof.Proof.TokRef
public import proofs.«01_k».proof.Proof.Gen.Reference8Ideal.Run
public import Idealize.ShloMosaic.Lib.Quiescent
public import Idealize.ShloMosaic.Lib.Claim

@[expose] public section

set_option maxRecDepth 16384

noncomputable section

namespace Cert.TokVal

open Idealize.ShloMosaic.TcCoe Idealize.SL.Sem Idealize.ShloMosaic
/-- The reference of the mixing layer for single rows runs, leaves its arguments as they were and every counter at zero. -/
theorem reference_frame : Cert.quiescent_Reference8Ideal (hReference8Ideal := Cert.Reference8Ideal.Gen.facts) := fun m g _ =>
  (θ_run _ _ _).mono (fun r h => ⟨fun c => (h c).2, sem_eq_zero_of_no_sems (by decide) r.2⟩)
    (Cert.Reference8Ideal.Value.run m g)

open Cert.Reference8Ideal in
/-- The mixing kernel for single rows and its reference leave the same array, from all arguments. -/
theorem tok_algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => outArr (aX m c) (aA m c) (aS m c) (aY m c) (aG m c) (aB m c) (aM m c) (aN m c) (aL m c) (aO m c) (aQ m c) (aW m c), ?_, ?_⟩
  · exact (θ_run _ _ _).mono (fun r h c => ⟨(h c).1.trans (final12 m c), (h c).2⟩) (Cert.Kernel8Ideal.Value.run_blocks m ρ)
  · refine (θ_run _ _ _).mono (fun r h c => ⟨?_, (h c).2⟩) (Cert.Reference8Ideal.Value.run m' ρ')
    refine (h c).1.trans ((Cert.Reference8Ideal.Read.val_main_v108_eq _).trans ?_)
    obtain ⟨h0, h1, h2, h3, h4, h5, h6, h7, h8, h9, h10, h11⟩ := hagree c
    refine (ref_arr _ _ _ _ _ _ _ _ _ _ _ _).trans ?_
    show outArr (m' (c.tc.loc main_arg0)) (m' (c.tc.loc main_arg1)) (m' (c.tc.loc main_arg2)) (m' (c.tc.loc main_arg3)) (m' (c.tc.loc main_arg4)) (m' (c.tc.loc main_arg5)) (m' (c.tc.loc main_arg6)) (m' (c.tc.loc main_arg7)) (m' (c.tc.loc main_arg8)) (m' (c.tc.loc main_arg9)) (m' (c.tc.loc main_arg10)) (m' (c.tc.loc main_arg11)) = outArr (aX m c) (aA m c) (aS m c) (aY m c) (aG m c) (aB m c) (aM m c) (aN m c) (aL m c) (aO m c) (aQ m c) (aW m c)
    rw [h0, h1, h2, h3, h4, h5, h6, h7, h8, h9, h10, h11]

end Cert.TokVal

end
-- ==== Proof.PrepSpec.lean ====
/- What the recurrence is fed with: the shifted rows mixed, and the decay, keys, values, gate and bonus made of them, for 32 sequences. -/
module

public import proofs.«01_k».proof.Proof.MidSpec

@[expose] public section

set_option maxRecDepth 16384

noncomputable section

namespace Cert.PrepVal

open Cert.MidVal (col64)
open Idealize.ShloMosaic
/-- Rows of 1024 numbers. -/
abbrev XArr := (⟨2, ![32, 1024]⟩ : Shape).Idx → EReal
/-- The mixing weights. -/
abbrev UArr := (⟨1, ![1024]⟩ : Shape).Idx → EReal
/-- Six rows of 256 numbers: the biases and scales. -/
abbrev NArr := (⟨2, ![6, 256]⟩ : Shape).Idx → EReal
/-- Weights of the decay and of the share. -/
abbrev WArr := (⟨2, ![64, 256]⟩ : Shape).Idx → EReal
/-- Weights of the gate. -/
abbrev GArr := (⟨2, ![128, 256]⟩ : Shape).Idx → EReal
/-- Weights of the bonus. -/
abbrev KArr := (⟨2, ![4, 64]⟩ : Shape).Idx → EReal
variable (X Q : XArr) (U : UArr) (N : NArr) (W A : WArr) (G : GArr) (K : KArr)

/-- Column `j` of row `r` mixed with the same column of the row before. -/
def mixed (r : Fin 32) (j : Fin 1024) : EReal := X (ix2 r j) + (Q (ix2 r j) - X (ix2 r j)) * U (ix1 j)
/-- The logarithm of one and the exponential of `y`. -/
def soft (y : EReal) : EReal := max y 0 + Ideal.log1p (Ideal.exp (-(FloatOps.absf (F := Ideal) (φ := .f32) y)))
/-- The queries. -/
def query (r : Fin 32) (a : Fin 256) : EReal := mixed X Q U r ⟨a.val, by omega⟩
/-- The values. -/
def value (r : Fin 32) (a : Fin 256) : EReal := mixed X Q U r ⟨512 + a.val, by omega⟩
/-- The decay. -/
def decay (r : Fin 32) (a : Fin 256) : EReal :=
  Ideal.exp (-(Ideal.exp (-(soft (-(N (ix2 0 a) + ∑ x : Fin 64, Ideal.tanh (mixed X Q U r ⟨768 + x.val, by omega⟩) * W (ix2 x a))))
    - Ideal.ofBits .f32 0x3F000000#32)))
/-- The share of a key that is written. -/
def share (r : Fin 32) (a : Fin 256) : EReal := Ideal.logistic (N (ix2 1 a) + ∑ x : Fin 64, mixed X Q U r ⟨832 + x.val, by omega⟩ * A (ix2 x a))
/-- The gate. -/
def gate (r : Fin 32) (a : Fin 256) : EReal := ∑ x : Fin 128, Ideal.logistic (mixed X Q U r ⟨896 + x.val, by omega⟩) * G (ix2 x a)
/-- The key that is removed, before it is normalised. -/
def raw (r : Fin 32) (a : Fin 256) : EReal := mixed X Q U r ⟨256 + a.val, by omega⟩ * N (ix2 2 a)
/-- The key that is removed, each head of length one. -/
def unit (r : Fin 32) (a : Fin 256) : EReal :=
  Ideal.div (raw X Q U N r a) (max (Ideal.sqrt (∑ d, raw X Q U N r (col64 ⟨a.val / 64, by omega⟩ d) * raw X Q U N r (col64 ⟨a.val / 64, by omega⟩ d)))
    (Ideal.ofBits .f32 0x2B8CBCCC#32))
/-- The key that is written. -/
def key (r : Fin 32) (a : Fin 256) : EReal := mixed X Q U r ⟨256 + a.val, by omega⟩ * (1 + (share X Q U N A r a - 1) * N (ix2 3 a))
/-- The key that is removed, as it is left. -/
def removed (r : Fin 32) (a : Fin 256) : EReal := -unit X Q U N r a
/-- The removed key's share, added back. -/
def added (r : Fin 32) (a : Fin 256) : EReal := unit X Q U N r a * share X Q U N A r a
/-- One term of the bonus. -/
def term (r : Fin 32) (a : Fin 256) : EReal :=
  query X Q U r a * key X Q U N A r a * K (ix2 ⟨a.val / 64, by omega⟩ ⟨a.val % 64, Nat.mod_lt _ (by decide)⟩)
/-- The bonus. -/
def bonus (r : Fin 32) (a : Fin 256) : EReal := (∑ d, term X Q U N A K r (col64 ⟨a.val / 64, by omega⟩ d)) * value X Q U r a

end Cert.PrepVal

end
-- ==== Proof.PrepTile.lean ====
/- What the kernel writes for its blocks. -/
module

public import proofs.«01_k».proof.Proof.PrepSpec
public import proofs.«01_k».proof.Proof.MidTile
public import proofs.«01_k».proof.Proof.Gen.Kernel9Ideal.Frame

@[expose] public section

set_option maxRecDepth 16384

noncomputable section

namespace Cert.PrepVal

open Cert.Kernel9Ideal Cert.Kernel9Ideal.Gen Idealize.ShloMosaic
open Cert.MidVal (half hi lo lane_bit lane_bit_nat select_bit sum_lo sum_hi head_sum col64 ld_rows bit)

theorem zeros : (![0, 0] : Fin S32x256.rank → ℕ) = 0 := by funext a; fin_cases a <;> rfl

/-- A store of everything leaves what it stores. -/
theorem whole (v : r0_7.shape.Idx → Elt Ideal .f32) : View.canon (Val := Elt Ideal) (s := S32x256) (e := .f32) [⟨r0_7, v⟩] = v :=
  View.canon_cons_unit_zero (S := S32x256) (off := ![0, 0]) zeros inb_S32x256_S32x256_0_0 v []

/-- A sum whose second half is zero. -/
theorem sum_low (f : Fin 128 → EReal) (w : Fin 64 → EReal) :
    (∑ x : Fin 128, f x * (if h : x.val < 64 then w ⟨x.val, h⟩ else 0)) = ∑ x : Fin 64, f ⟨x.val, by omega⟩ * w x := by
  rw [show (∑ x : Fin 128, f x * (if h : x.val < 64 then w ⟨x.val, h⟩ else 0)) = _ from Fin.sum_univ_add (a := 64) (b := 64) _]
  refine (congrArg₂ (· + ·) (Finset.sum_congr rfl fun x _ => ?_) (Finset.sum_eq_zero fun x _ => ?_)).trans (add_zero _)
  · rw [dif_pos (by simp)]; rfl
  · rw [dif_neg (by simp), mul_zero]

/-- A sum whose first half is zero. -/
theorem sum_high (f : Fin 128 → EReal) (w : Fin 64 → EReal) :
    (∑ x : Fin 128, f x * (if x.val < 64 then 0 else w ⟨x.val - 64, by omega⟩)) = ∑ x : Fin 64, f ⟨64 + x.val, by omega⟩ * w x := by
  rw [show (∑ x : Fin 128, f x * (if x.val < 64 then 0 else w ⟨x.val - 64, by omega⟩)) = _ from Fin.sum_univ_add (a := 64) (b := 64) _]
  refine (congrArg₂ (· + ·) (Finset.sum_eq_zero fun x _ => ?_) (Finset.sum_congr rfl fun x _ => ?_)).trans (zero_add _)
  · rw [if_pos (by simp), mul_zero]
  · rw [if_neg (by simp)]
    exact congrArg₂ (· * ·) rfl (congrArg w (Fin.ext (by simp)))

theorem mask_read (p : Fin 32) (a : Fin 128) : k0_pay14 (ix2 p a) = bit (a.val < 64) := by
  pointwise [k0_pay14]
  exact lane_bit a

theorem low_read (v : FVec Ideal S32x128 .f32) (p : Fin 32) (a : Fin 128) :
    k0_pay15 (F := Ideal) v k0_pay14 (Scalar.ofBits .f32 0x00000000#32) (ix2 p a) = half (fun k => v (ix2 p k)) a := by
  pointwise [k0_pay15]
  simp only [lane_bit, mask_read, select_bit, sum_lo, sum_hi]
  rfl

theorem high_read (v : FVec Ideal S32x256 .f32) (p : Fin 32) (a : Fin 128) :
    k0_pay16 (F := Ideal) v (ix2 p a) = half (fun k => v (ix2 p ⟨128 + k.val, by omega⟩)) a := by
  pointwise [k0_pay16]
  simp only [lane_bit, mask_read, select_bit, sum_lo, sum_hi]
  rfl

theorem first_read (v : FVec Ideal S32x128 .f32) (p : Fin 32) (a : Fin 128) :
    k0_pay24 (F := Ideal) v (iota .tc S32x128 32 [1] iota_S32x128_d1_w32) 128#32 (Scalar.cmpi .eq 128#32 0#32) (ix2 p a) = half (fun k => v (ix2 p k)) a := by
  pointwise [k0_pay24]
  simp only [lane_bit, mask_read, select_bit, sum_lo, sum_hi]
  rfl

theorem heads_read (v : FVec Ideal S32x256 .f32) (u t : FVec Ideal S32x128 .f32) (p : Fin 32) (l : Fin 256) :
    k0_pay1 (F := Ideal) v u t (Scalar.select (Scalar.cmpi .eq 128#32 0#32) 1#32 128#32) k0_pay26 k0_pay27 (ix2 p l)
      = (if h : l.val < 128 then u (ix2 p ⟨l.val, h⟩) else half (fun k => t (ix2 p k)) ⟨l.val - 128, by omega⟩) * v (ix2 p l) := by
  pointwise [k0_pay1, k0_pay26, k0_pay27]
  simp only [lane_bit, select_bit, sum_lo, sum_hi]
  by_cases h : l.val < 128
  · simp only [dif_pos h]
  · simp only [dif_neg h]
    rw [lane_bit_nat _ (by omega), select_bit]
    rfl

variable (X Q : XArr) (U : UArr) (N : NArr) (W A : WArr) (G : GArr) (K : KArr)
variable (x0 x1 : Vec Ideal S32x1024 .f32) (x2 : Vec Ideal S8x1024 .f32) (x3 : Vec Ideal S1x1024 .f32) (x4 : Vec Ideal S6x256 .f32)
  (x5 x6 x7 : Vec Ideal S128x256 .bf16) (x8 : Vec Ideal S1x256 .f32)

/-- The blocks hold the arrays. -/
structure Holds : Prop where
  h0 : ∀ p l, x0 (ix2 p l) = X (ix2 p l)
  h1 : ∀ p l, x1 (ix2 p l) = Q (ix2 p l)
  h3 : ∀ l, x3 (ix2 0 l) = U (ix1 l)
  h4 : ∀ k l, x4 (ix2 k l) = N (ix2 k l)
  h5 : ∀ (k : Fin 128) l, x5 (ix2 k l) = if h : k.val < 64 then W (ix2 ⟨k.val, h⟩ l) else 0
  h6 : ∀ (k : Fin 128) l, x6 (ix2 k l) = if k.val < 64 then 0 else A (ix2 ⟨k.val - 64, by omega⟩ l)
  h7 : ∀ k l, x7 (ix2 k l) = G (ix2 k l)
  h8 : ∀ l : Fin 256, x8 (ix2 0 l) = K (ix2 ⟨l.val / 64, by omega⟩ ⟨l.val % 64, Nat.mod_lt _ (by decide)⟩)

variable {X Q U N W A G K x0 x1 x2 x3 x4 x5 x6 x7 x8} (H : Holds X Q U N W A G K x0 x1 x3 x4 x5 x6 x7 x8)
include H

theorem mixed_at (p : Fin 32) (j : Fin 1024) : k0_pay2 (F := Ideal) (View.ld x0 r0_0) (View.ld x1 r0_0) (View.ld x3 r0_1) (ix2 p j) = mixed X Q U p j := by
  pointwise [k0_pay2]
  rw [H.h0, H.h1, H.h3]
  rfl

theorem query_at (p : Fin 32) (l : Fin 256) : k0_pay28 (F := Ideal) x0 x1 x2 x3 x4 x5 x6 x7 x8 (ix2 p l) = query X Q U p l := by
  pointwise [k0_pay28, k0_pay3]
  rw [mixed_at H]
  exact congrArg (mixed X Q U p) (Fin.ext (by simp))

theorem old_at (p : Fin 32) (l : Fin 256) : k0_pay29 (F := Ideal) x0 x1 x2 x3 x4 x5 x6 x7 x8 (ix2 p l) = mixed X Q U p ⟨256 + l.val, by omega⟩ := by
  pointwise [k0_pay29, k0_pay4]
  rw [mixed_at H]

theorem value_at (p : Fin 32) (l : Fin 256) : k0_pay30 (F := Ideal) x0 x1 x2 x3 x4 x5 x6 x7 x8 (ix2 p l) = value X Q U p l := by
  pointwise [k0_pay30, k0_pay5]
  rw [mixed_at H]
  rfl

theorem decay_at (p : Fin 32) (l : Fin 256) :
    k0_pay19 (F := Ideal) (k0_pay8 (k0_pay7 (View.ld x0 r0_0) (View.ld x1 r0_0) (View.ld x3 r0_1) (View.ld x4 r0_2) (View.ld x5 r0_6))) (ix2 p l) = decay X Q U N W p l := by
  pointwise [k0_pay19, k0_pay8, k0_pay7, k0_pay6, dot_S32x128_S128x256_S32x256_1_0_0_1_n_n]
  simp only [mixed_at H, H.h4, H.h5, ne_eq, not_true_eq_false, if_false, zero_sub]
  rw [sum_low (fun x => Ideal.tanh (mixed X Q U p ⟨768 + x.val, by omega⟩)) (fun x => W (ix2 x l))]
  rfl

theorem share_at (p : Fin 32) (l : Fin 256) : k0_pay31 (F := Ideal) x0 x1 x2 x3 x4 x5 x6 x7 x8 (ix2 p l) = share X Q U N A p l := by
  pointwise [k0_pay31, k0_pay9, k0_pay6, dot_S32x128_S128x256_S32x256_1_0_0_1_n_n]
  simp only [mixed_at H, H.h4, H.h6]
  rw [sum_high (fun x => mixed X Q U p ⟨768 + x.val, by omega⟩) (fun x => A (ix2 x l))]
  unfold share
  congr 2

theorem gate_at (p : Fin 32) (l : Fin 256) :
    k0_pay10 (F := Ideal) (k0_pay2 (View.ld x0 r0_0) (View.ld x1 r0_0) (View.ld x3 r0_1)) (View.ld x7 r0_6) (ix2 p l) = gate X Q U G p l := by
  pointwise [k0_pay10, dot_S32x128_S128x256_S32x256_1_0_0_1_n_n]
  simp only [mixed_at H, H.h7]
  rfl

theorem raw_at (p : Fin 32) (l : Fin 256) : k0_pay32 (F := Ideal) x0 x1 x2 x3 x4 x5 x6 x7 x8 (ix2 p l) = raw X Q U N p l := by
  pointwise [k0_pay32, k0_pay11]
  rw [old_at H, H.h4]
  rfl

theorem unit_at (p : Fin 32) (l : Fin 256) :
    k0_pay17 (F := Ideal) (k0_pay32 x0 x1 x2 x3 x4 x5 x6 x7 x8) (k0_pay33 x0 x1 x2 x3 x4 x5 x6 x7 x8) (k0_pay34 x0 x1 x2 x3 x4 x5 x6 x7 x8) (ix2 p l) = unit X Q U N p l := by
  have e : ∀ k : Fin 256, k0_pay12 (F := Ideal) (k0_pay29 x0 x1 x2 x3 x4 x5 x6 x7 x8) (View.ld x4 r0_4) (ix2 p k) = raw X Q U N p k * raw X Q U N p k := fun k => by
    rw [← raw_at (x2 := x2) H p k]
    pointwise [k0_pay12]
    rfl
  have e3 : ∀ k : Fin 128, k0_pay33 (F := Ideal) x0 x1 x2 x3 x4 x5 x6 x7 x8 (ix2 p k) = half (fun k => raw X Q U N p ⟨k.val, by omega⟩ * raw X Q U N p ⟨k.val, by omega⟩) k := fun k => by
    rw [k0_pay33, low_read]
    pointwise [k0_pay13]
    simp only [e]
  have e4 : ∀ k : Fin 128, k0_pay34 (F := Ideal) x0 x1 x2 x3 x4 x5 x6 x7 x8 (ix2 p k) = half (fun k => raw X Q U N p ⟨128 + k.val, by omega⟩ * raw X Q U N p ⟨128 + k.val, by omega⟩) k := fun k => by
    rw [k0_pay34, high_read]
    simp only [e]
  unfold unit
  rw [← head_sum (fun k => raw X Q U N p k * raw X Q U N p k) l]
  pointwise [k0_pay17]
  simp only [raw_at H, e3, e4]

theorem key_at (p : Fin 32) (l : Fin 256) :
    k0_pay18 (F := Ideal) (k0_pay29 x0 x1 x2 x3 x4 x5 x6 x7 x8) (View.ld x4 r0_5) (k0_pay31 x0 x1 x2 x3 x4 x5 x6 x7 x8) (ix2 p l) = key X Q U N A p l := by
  pointwise [k0_pay18]
  rw [old_at H, share_at H, H.h4]
  rfl

theorem bonus_at (p : Fin 32) (l : Fin 256) :
    k0_pay1 (F := Ideal) (k0_pay30 x0 x1 x2 x3 x4 x5 x6 x7 x8) (k0_pay24 (k0_pay23 (k0_pay28 x0 x1 x2 x3 x4 x5 x6 x7 x8) (k0_pay29 x0 x1 x2 x3 x4 x5 x6 x7 x8) (View.ld x4 r0_5) (k0_pay31 x0 x1 x2 x3 x4 x5 x6 x7 x8) (View.ld x8 r0_8)) (iota .tc S32x128 32 [1] iota_S32x128_d1_w32) 128#32 (Scalar.cmpi .eq 128#32 0#32)) (k0_pay25 (k0_pay22 (k0_pay28 x0 x1 x2 x3 x4 x5 x6 x7 x8) (k0_pay29 x0 x1 x2 x3 x4 x5 x6 x7 x8) (View.ld x4 r0_5) (k0_pay31 x0 x1 x2 x3 x4 x5 x6 x7 x8) (View.ld x8 r0_8))) (Scalar.select (Scalar.cmpi .eq 128#32 0#32) 1#32 128#32) k0_pay26 k0_pay27 (ix2 p l) = bonus X Q U N A K p l := by
  have e8 : View.ld x8 r0_8 = x8 := View.ld_unit_zero (by funext a; fin_cases a <;> rfl) ..
  have e : ∀ k : Fin 256, k0_pay22 (F := Ideal) (k0_pay28 x0 x1 x2 x3 x4 x5 x6 x7 x8) (k0_pay29 x0 x1 x2 x3 x4 x5 x6 x7 x8) (View.ld x4 r0_5) (k0_pay31 x0 x1 x2 x3 x4 x5 x6 x7 x8) (View.ld x8 r0_8) (ix2 p k) = term X Q U N A K p k := fun k => by
    rw [e8]
    unfold term
    rw [← key_at (x2 := x2) H, ← query_at (x2 := x2) H, ← H.h8]
    pointwise [k0_pay22]
  unfold bonus
  rw [← head_sum (fun k => term X Q U N A K p k) l, heads_read, value_at H]
  have e1 : ∀ k, k0_pay23 (F := Ideal) (k0_pay28 x0 x1 x2 x3 x4 x5 x6 x7 x8) (k0_pay29 x0 x1 x2 x3 x4 x5 x6 x7 x8) (View.ld x4 r0_5) (k0_pay31 x0 x1 x2 x3 x4 x5 x6 x7 x8) (View.ld x8 r0_8) (ix2 p k) = term X Q U N A K p ⟨k.val, by omega⟩ := fun k => by
    pointwise [k0_pay23]
    exact (e _).trans (congrArg (term X Q U N A K p) (Fin.ext (by simp)))
  refine congrArg (· * value X Q U p l) ?_
  split
  · exact (first_read _ p _).trans (by simp only [e1])
  · pointwise [k0_pay25]
    simp only [e]

theorem removed_at (p : Fin 32) (l : Fin 256) :
    k0_pay20 (F := Ideal) (k0_pay32 x0 x1 x2 x3 x4 x5 x6 x7 x8) (k0_pay33 x0 x1 x2 x3 x4 x5 x6 x7 x8) (k0_pay34 x0 x1 x2 x3 x4 x5 x6 x7 x8) (ix2 p l) = removed X Q U N p l := by
  unfold removed
  rw [← unit_at (x2 := x2) H]
  pointwise [k0_pay20]
  exact zero_sub _

theorem added_at (p : Fin 32) (l : Fin 256) :
    k0_pay21 (F := Ideal) (k0_pay31 x0 x1 x2 x3 x4 x5 x6 x7 x8) (k0_pay32 x0 x1 x2 x3 x4 x5 x6 x7 x8) (k0_pay33 x0 x1 x2 x3 x4 x5 x6 x7 x8) (k0_pay34 x0 x1 x2 x3 x4 x5 x6 x7 x8) (ix2 p l) = added X Q U N A p l := by
  unfold added
  rw [← unit_at (x2 := x2) H, ← share_at (x2 := x2) H]
  pointwise [k0_pay21]

theorem out9_read (p : Fin 32) (l : Fin 256) : out0_9 (F := Ideal) x0 x1 x2 x3 x4 x5 x6 x7 x8 (ix2 p l) = query X Q U p l :=
  (congrFun (whole _) _).trans (query_at H p l)

theorem out10_read (p : Fin 32) (l : Fin 256) : out0_10 (F := Ideal) x0 x1 x2 x3 x4 x5 x6 x7 x8 (ix2 p l) = decay X Q U N W p l :=
  (congrFun (whole _) _).trans (decay_at H p l)

theorem out11_read (p : Fin 32) (l : Fin 256) : out0_11 (F := Ideal) x0 x1 x2 x3 x4 x5 x6 x7 x8 (ix2 p l) = key X Q U N A p l :=
  (congrFun (whole _) _).trans (key_at H p l)

theorem out12_read (p : Fin 32) (l : Fin 256) : out0_12 (F := Ideal) x0 x1 x2 x3 x4 x5 x6 x7 x8 (ix2 p l) = value X Q U p l :=
  (congrFun (whole _) _).trans (value_at H p l)

theorem out13_read (p : Fin 32) (l : Fin 256) : out0_13 (F := Ideal) x0 x1 x2 x3 x4 x5 x6 x7 x8 (ix2 p l) = removed X Q U N p l :=
  (congrFun (whole _) _).trans (removed_at H p l)

theorem out14_read (p : Fin 32) (l : Fin 256) : out0_14 (F := Ideal) x0 x1 x2 x3 x4 x5 x6 x7 x8 (ix2 p l) = added X Q U N A p l :=
  (congrFun (whole _) _).trans (added_at H p l)

theorem out15_read (p : Fin 32) (l : Fin 256) : out0_15 (F := Ideal) x0 x1 x2 x3 x4 x5 x6 x7 x8 (ix2 p l) = gate X Q U G p l :=
  (congrFun (whole _) _).trans (gate_at H p l)

theorem out16_read (p : Fin 32) (l : Fin 256) : out0_16 (F := Ideal) x0 x1 x2 x3 x4 x5 x6 x7 x8 (ix2 p l) = bonus X Q U N A K p l :=
  (congrFun (whole _) _).trans (bonus_at H p l)

end Cert.PrepVal

end
-- ==== Proof.PrepValue.lean ====
/- The arrays that the kernel leaves. -/
module

public import proofs.«01_k».proof.Proof.PrepTile
public import proofs.«01_k».proof.Proof.ProjRef
public import proofs.«01_k».proof.Proof.Gen.Kernel9Ideal.Value
public import Idealize.ShloMosaic.Lib.Pipeline.ValueKit.Geometry

@[expose] public section

set_option maxRecDepth 16384

noncomputable section

namespace Cert.PrepVal

open Cert.Kernel9Ideal Cert.Kernel9Ideal.Gen Idealize.ShloMosaic Idealize.ShloMosaic.TcCoe Idealize.SL.Sem
open Cert.ProjVal (arr2 arr_eq)

variable (m : (ℓ : Loc nD τ sig) → Buf (Elt Ideal) ℓ)

/-- Device `c`'s rows. -/
abbrev aX (c : Dev nD) : XArr := m ((c : Thread nD τ).loc main_arg0)
/-- Device `c`'s rows before. -/
abbrev aQ (c : Dev nD) : XArr := m ((c : Thread nD τ).loc main_arg1)
/-- Device `c`'s mixing weights. -/
abbrev aU (c : Dev nD) : UArr := m ((c : Thread nD τ).loc main_arg2)
/-- Device `c`'s biases and scales. -/
abbrev aN (c : Dev nD) : NArr := m ((c : Thread nD τ).loc main_arg3)
/-- Device `c`'s weights of the decay. -/
abbrev aW (c : Dev nD) : WArr := m ((c : Thread nD τ).loc main_arg4)
/-- Device `c`'s weights of the share. -/
abbrev aA (c : Dev nD) : WArr := m ((c : Thread nD τ).loc main_arg5)
/-- Device `c`'s weights of the gate. -/
abbrev aG (c : Dev nD) : GArr := m ((c : Thread nD τ).loc main_arg6)
/-- Device `c`'s weights of the bonus. -/
abbrev aK (c : Dev nD) : KArr := m ((c : Thread nD τ).loc main_arg7)

theorem V_mu (c : Dev nD) (l : Fin 1024) : (V m c main_v6 : S1x1024.Idx → EReal) (ix2 0 l) = aU m c (ix1 l) := by
  show (StableHlo.after (hostOps0 (F := Ideal)) _ (Proc.devRef .tc main_v6)) (ix2 0 l) = _
  after_results
  pointwise []

theorem V_w (c : Dev nD) (k : Fin 128) (l : Fin 256) : (V m c main_v2 : S128x256.Idx → EReal) (ix2 k l) = if h : k.val < 64 then aW m c (ix2 ⟨k.val, h⟩ l) else 0 := by
  show (StableHlo.after (hostOps0 (F := Ideal)) _ (Proc.devRef .tc main_v2)) (ix2 k l) = _
  after_results
  pointwise []

theorem V_a (c : Dev nD) (k : Fin 128) (l : Fin 256) : (V m c main_v5 : S128x256.Idx → EReal) (ix2 k l) = if k.val < 64 then 0 else aA m c (ix2 ⟨k.val - 64, by omega⟩ l) := by
  show (StableHlo.after (hostOps0 (F := Ideal)) _ (Proc.devRef .tc main_v5)) (ix2 k l) = _
  after_results
  pointwise []
  split <;> rfl

theorem V_g (c : Dev nD) (k : Fin 128) (l : Fin 256) : (V m c main_v7 : S128x256.Idx → EReal) (ix2 k l) = aG m c (ix2 k l) := by
  show (StableHlo.after (hostOps0 (F := Ideal)) _ (Proc.devRef .tc main_v7)) (ix2 k l) = _
  after_results
  pointwise []

theorem V_k (c : Dev nD) (l : Fin 256) : (V m c main_v8 : S1x256.Idx → EReal) (ix2 0 l) = aK m c (ix2 ⟨l.val / 64, by omega⟩ ⟨l.val % 64, Nat.mod_lt _ (by decide)⟩) := by
  show (StableHlo.after (hostOps0 (F := Ideal)) _ (Proc.devRef .tc main_v8)) (ix2 0 l) = _
  after_results
  pointwise []

theorem b0 (c : Dev nD) (t : Fin cfg0.N) (y : S32x1024.Idx) : (iblk m c 0 t : Vec Ideal S32x1024 .f32) y = (V m c main_arg0 : S32x1024.Idx → EReal) y := by
  show (V m c main_arg0 : S32x1024.Idx → EReal) (((cfg0.win 0).blk t).view.emb y) = _
  refine congrArg _ (funext fun a => Fin.ext ?_)
  show win0_0.index t a * win0_0.size a + 1 * (y a).val = (y a).val
  rw [(by decide +kernel : ∀ (t : Fin grid0.N) a, win0_0.index t a * win0_0.size a = 0) t a]; omega

theorem b1 (c : Dev nD) (t : Fin cfg0.N) (y : S32x1024.Idx) : (iblk m c 1 t : Vec Ideal S32x1024 .f32) y = (V m c main_arg1 : S32x1024.Idx → EReal) y := by
  show (V m c main_arg1 : S32x1024.Idx → EReal) (((cfg0.win 1).blk t).view.emb y) = _
  refine congrArg _ (funext fun a => Fin.ext ?_)
  show win0_1.index t a * win0_1.size a + 1 * (y a).val = (y a).val
  rw [(by decide +kernel : ∀ (t : Fin grid0.N) a, win0_1.index t a * win0_1.size a = 0) t a]; omega

theorem b3 (c : Dev nD) (t : Fin cfg0.N) (y : S1x1024.Idx) : (iblk m c 3 t : Vec Ideal S1x1024 .f32) y = (V m c main_v6 : S1x1024.Idx → EReal) y := by
  show (V m c main_v6 : S1x1024.Idx → EReal) (((cfg0.win 3).blk t).view.emb y) = _
  refine congrArg _ (funext fun a => Fin.ext ?_)
  show win0_3.index t a * win0_3.size a + 1 * (y a).val = (y a).val
  rw [(by decide +kernel : ∀ (t : Fin grid0.N) a, win0_3.index t a * win0_3.size a = 0) t a]; omega

theorem b4 (c : Dev nD) (t : Fin cfg0.N) (y : S6x256.Idx) : (iblk m c 4 t : Vec Ideal S6x256 .f32) y = (V m c main_arg3 : S6x256.Idx → EReal) y := by
  show (V m c main_arg3 : S6x256.Idx → EReal) (((cfg0.win 4).blk t).view.emb y) = _
  refine congrArg _ (funext fun a => Fin.ext ?_)
  show win0_4.index t a * win0_4.size a + 1 * (y a).val = (y a).val
  rw [(by decide +kernel : ∀ (t : Fin grid0.N) a, win0_4.index t a * win0_4.size a = 0) t a]; omega

theorem b5 (c : Dev nD) (t : Fin cfg0.N) (y : S128x256.Idx) : (iblk m c 5 t : Vec Ideal S128x256 .bf16) y = (V m c main_v2 : S128x256.Idx → EReal) y := by
  show (V m c main_v2 : S128x256.Idx → EReal) (((cfg0.win 5).blk t).view.emb y) = _
  refine congrArg _ (funext fun a => Fin.ext ?_)
  show win0_5.index t a * win0_5.size a + 1 * (y a).val = (y a).val
  rw [(by decide +kernel : ∀ (t : Fin grid0.N) a, win0_5.index t a * win0_5.size a = 0) t a]; omega

theorem b6 (c : Dev nD) (t : Fin cfg0.N) (y : S128x256.Idx) : (iblk m c 6 t : Vec Ideal S128x256 .bf16) y = (V m c main_v5 : S128x256.Idx → EReal) y := by
  show (V m c main_v5 : S128x256.Idx → EReal) (((cfg0.win 6).blk t).view.emb y) = _
  refine congrArg _ (funext fun a => Fin.ext ?_)
  show win0_6.index t a * win0_6.size a + 1 * (y a).val = (y a).val
  rw [(by decide +kernel : ∀ (t : Fin grid0.N) a, win0_6.index t a * win0_6.size a = 0) t a]; omega

theorem b7 (c : Dev nD) (t : Fin cfg0.N) (y : S128x256.Idx) : (iblk m c 7 t : Vec Ideal S128x256 .bf16) y = (V m c main_v7 : S128x256.Idx → EReal) y := by
  show (V m c main_v7 : S128x256.Idx → EReal) (((cfg0.win 7).blk t).view.emb y) = _
  refine congrArg _ (funext fun a => Fin.ext ?_)
  show win0_7.index t a * win0_7.size a + 1 * (y a).val = (y a).val
  rw [(by decide +kernel : ∀ (t : Fin grid0.N) a, win0_7.index t a * win0_7.size a = 0) t a]; omega

theorem b8 (c : Dev nD) (t : Fin cfg0.N) (y : S1x256.Idx) : (iblk m c 8 t : Vec Ideal S1x256 .f32) y = (V m c main_v8 : S1x256.Idx → EReal) y := by
  show (V m c main_v8 : S1x256.Idx → EReal) (((cfg0.win 8).blk t).view.emb y) = _
  refine congrArg _ (funext fun a => Fin.ext ?_)
  show win0_8.index t a * win0_8.size a + 1 * (y a).val = (y a).val
  rw [(by decide +kernel : ∀ (t : Fin grid0.N) a, win0_8.index t a * win0_8.size a = 0) t a]; omega

theorem holds (c : Dev nD) (t : Fin cfg0.N) : Holds (aX m c) (aQ m c) (aU m c) (aN m c) (aW m c) (aA m c) (aG m c) (aK m c)
    (iblk m c 0 t) (iblk m c 1 t) (iblk m c 3 t) (iblk m c 4 t) (iblk m c 5 t) (iblk m c 6 t) (iblk m c 7 t) (iblk m c 8 t) where
  h0 p l := (b0 m c t _).trans (congrFun (V_main_arg0 m c) _)
  h1 p l := (b1 m c t _).trans (congrFun (V_main_arg1 m c) _)
  h3 l := (b3 m c t _).trans (V_mu m c l)
  h4 k l := (b4 m c t _).trans (congrFun (V_main_arg3 m c) _)
  h5 k l := (b5 m c t _).trans (V_w m c k l)
  h6 k l := (b6 m c t _).trans (V_a m c k l)
  h7 k l := (b7 m c t _).trans (V_g m c k l)
  h8 l := (b8 m c t _).trans (V_k m c l)

theorem e9 (t : Fin cfg0.N) (y : S32x256.Idx) : ((cfg0.win 9).blk t).view.emb y = y := funext fun a => Fin.ext <| by
  show win0_9.index t a * win0_9.size a + 1 * (y a).val = (y a).val
  rw [(by decide +kernel : ∀ (t : Fin grid0.N) a, win0_9.index t a * win0_9.size a = 0) t a]; omega

theorem e10 (t : Fin cfg0.N) (y : S32x256.Idx) : ((cfg0.win 10).blk t).view.emb y = y := funext fun a => Fin.ext <| by
  show win0_10.index t a * win0_10.size a + 1 * (y a).val = (y a).val
  rw [(by decide +kernel : ∀ (t : Fin grid0.N) a, win0_10.index t a * win0_10.size a = 0) t a]; omega

theorem e11 (t : Fin cfg0.N) (y : S32x256.Idx) : ((cfg0.win 11).blk t).view.emb y = y := funext fun a => Fin.ext <| by
  show win0_11.index t a * win0_11.size a + 1 * (y a).val = (y a).val
  rw [(by decide +kernel : ∀ (t : Fin grid0.N) a, win0_11.index t a * win0_11.size a = 0) t a]; omega

theorem e12 (t : Fin cfg0.N) (y : S32x256.Idx) : ((cfg0.win 12).blk t).view.emb y = y := funext fun a => Fin.ext <| by
  show win0_12.index t a * win0_12.size a + 1 * (y a).val = (y a).val
  rw [(by decide +kernel : ∀ (t : Fin grid0.N) a, win0_12.index t a * win0_12.size a = 0) t a]; omega

theorem e13 (t : Fin cfg0.N) (y : S32x256.Idx) : ((cfg0.win 13).blk t).view.emb y = y := funext fun a => Fin.ext <| by
  show win0_13.index t a * win0_13.size a + 1 * (y a).val = (y a).val
  rw [(by decide +kernel : ∀ (t : Fin grid0.N) a, win0_13.index t a * win0_13.size a = 0) t a]; omega

theorem e14 (t : Fin cfg0.N) (y : S32x256.Idx) : ((cfg0.win 14).blk t).view.emb y = y := funext fun a => Fin.ext <| by
  show win0_14.index t a * win0_14.size a + 1 * (y a).val = (y a).val
  rw [(by decide +kernel : ∀ (t : Fin grid0.N) a, win0_14.index t a * win0_14.size a = 0) t a]; omega

theorem e15 (t : Fin cfg0.N) (y : S32x256.Idx) : ((cfg0.win 15).blk t).view.emb y = y := funext fun a => Fin.ext <| by
  show win0_15.index t a * win0_15.size a + 1 * (y a).val = (y a).val
  rw [(by decide +kernel : ∀ (t : Fin grid0.N) a, win0_15.index t a * win0_15.size a = 0) t a]; omega

theorem e16 (t : Fin cfg0.N) (y : S32x256.Idx) : ((cfg0.win 16).blk t).view.emb y = y := funext fun a => Fin.ext <| by
  show win0_16.index t a * win0_16.size a + 1 * (y a).val = (y a).val
  rw [(by decide +kernel : ∀ (t : Fin grid0.N) a, win0_16.index t a * win0_16.size a = 0) t a]; omega

theorem final9 (c : Dev nD) : (dats m 0 c).arrAt 9 cfg0.N = arr2 (query (aX m c) (aQ m c) (aU m c)) := by
  refine (dats m 0 c).arrAt_eq_of_covers 9 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 9 t (ix2 p l) = _
  rw [after0_9]
  refine (out9_read (holds m c t) p l).trans ?_
  exact (congrArg (arr2 (query (aX m c) (aQ m c) (aU m c))) (e9 t (ix2 p l))).symm

theorem final10 (c : Dev nD) : (dats m 0 c).arrAt 10 cfg0.N = arr2 (decay (aX m c) (aQ m c) (aU m c) (aN m c) (aW m c)) := by
  refine (dats m 0 c).arrAt_eq_of_covers 10 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 10 t (ix2 p l) = _
  rw [after0_10]
  refine (out10_read (holds m c t) p l).trans ?_
  exact (congrArg (arr2 (decay (aX m c) (aQ m c) (aU m c) (aN m c) (aW m c))) (e10 t (ix2 p l))).symm

theorem final11 (c : Dev nD) : (dats m 0 c).arrAt 11 cfg0.N = arr2 (key (aX m c) (aQ m c) (aU m c) (aN m c) (aA m c)) := by
  refine (dats m 0 c).arrAt_eq_of_covers 11 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 11 t (ix2 p l) = _
  rw [after0_11]
  refine (out11_read (holds m c t) p l).trans ?_
  exact (congrArg (arr2 (key (aX m c) (aQ m c) (aU m c) (aN m c) (aA m c))) (e11 t (ix2 p l))).symm

theorem final12 (c : Dev nD) : (dats m 0 c).arrAt 12 cfg0.N = arr2 (value (aX m c) (aQ m c) (aU m c)) := by
  refine (dats m 0 c).arrAt_eq_of_covers 12 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 12 t (ix2 p l) = _
  rw [after0_12]
  refine (out12_read (holds m c t) p l).trans ?_
  exact (congrArg (arr2 (value (aX m c) (aQ m c) (aU m c))) (e12 t (ix2 p l))).symm

theorem final13 (c : Dev nD) : (dats m 0 c).arrAt 13 cfg0.N = arr2 (removed (aX m c) (aQ m c) (aU m c) (aN m c)) := by
  refine (dats m 0 c).arrAt_eq_of_covers 13 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 13 t (ix2 p l) = _
  rw [after0_13]
  refine (out13_read (holds m c t) p l).trans ?_
  exact (congrArg (arr2 (removed (aX m c) (aQ m c) (aU m c) (aN m c))) (e13 t (ix2 p l))).symm

theorem final14 (c : Dev nD) : (dats m 0 c).arrAt 14 cfg0.N = arr2 (added (aX m c) (aQ m c) (aU m c) (aN m c) (aA m c)) := by
  refine (dats m 0 c).arrAt_eq_of_covers 14 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 14 t (ix2 p l) = _
  rw [after0_14]
  refine (out14_read (holds m c t) p l).trans ?_
  exact (congrArg (arr2 (added (aX m c) (aQ m c) (aU m c) (aN m c) (aA m c))) (e14 t (ix2 p l))).symm

theorem final15 (c : Dev nD) : (dats m 0 c).arrAt 15 cfg0.N = arr2 (gate (aX m c) (aQ m c) (aU m c) (aG m c)) := by
  refine (dats m 0 c).arrAt_eq_of_covers 15 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 15 t (ix2 p l) = _
  rw [after0_15]
  refine (out15_read (holds m c t) p l).trans ?_
  exact (congrArg (arr2 (gate (aX m c) (aQ m c) (aU m c) (aG m c))) (e15 t (ix2 p l))).symm

theorem final16 (c : Dev nD) : (dats m 0 c).arrAt 16 cfg0.N = arr2 (bonus (aX m c) (aQ m c) (aU m c) (aN m c) (aA m c) (aK m c)) := by
  refine (dats m 0 c).arrAt_eq_of_covers 16 _ (by decide +kernel) fun t hf y => ?_
  obtain ⟨p, l, rfl⟩ : ∃ (p : Fin 32) (l : Fin 256), y = (ix2 p l : S32x256.Idx) := ⟨y 0, y 1, by funext k; fin_cases k <;> rfl⟩
  show (dats m 0 c).after 16 t (ix2 p l) = _
  rw [after0_16]
  refine (out16_read (holds m c t) p l).trans ?_
  exact (congrArg (arr2 (bonus (aX m c) (aQ m c) (aU m c) (aN m c) (aA m c) (aK m c))) (e16 t (ix2 p l))).symm

end Cert.PrepVal

end
-- ==== Proof.PrepRef.lean ====
/- The reference's values, one by one. -/
module

public import proofs.«01_k».proof.Proof.PrepSpec
public import proofs.«01_k».proof.Proof.Gen.Reference9Ideal.Read

@[expose] public section

set_option maxRecDepth 16384

noncomputable section

namespace Cert.PrepVal

open Cert.MidVal (col64)
open Cert.Reference9Ideal Cert.Reference9Ideal.Read Idealize.ShloMosaic
variable (X Q : XArr) (U : UArr) (N : NArr) (W A : WArr) (G : GArr) (K : KArr)

theorem ref_mixed (r : Fin 32) (j : Fin 1024) : val_main_v4 (F := Ideal) X Q U (ix2 r j) = mixed X Q U r j := by
  pointwise [val_main_v4, val_main_v3, val_main_v2, val_main_v1, val_main_v0]
  rfl

theorem ref_query (r : Fin 32) (a : Fin 256) : val_main_v5 (F := Ideal) X Q U (ix2 r a) = query X Q U r a := by
  pointwise [val_main_v5]
  rw [ref_mixed]
  exact congrArg (mixed X Q U r) (Fin.ext (by simp))

theorem ref_old (r : Fin 32) (a : Fin 256) : val_main_v6 (F := Ideal) X Q U (ix2 r a) = mixed X Q U r ⟨256 + a.val, by omega⟩ := by
  pointwise [val_main_v6]
  rw [ref_mixed]

theorem ref_value (r : Fin 32) (a : Fin 256) : val_main_v7 (F := Ideal) X Q U (ix2 r a) = value X Q U r a := by
  pointwise [val_main_v7]
  rw [ref_mixed]
  rfl

theorem ref_decay (r : Fin 32) (a : Fin 256) : val_main_v23 (F := Ideal) X Q U N W (ix2 r a) = decay X Q U N W r a := by
  have e : val_main_v16 (F := Ideal) X Q U N W (ix2 r a) = -(N (ix2 0 a) + ∑ x : Fin 64, Ideal.tanh (mixed X Q U r ⟨768 + x.val, by omega⟩) * W (ix2 x a)) := by
    pointwise [val_main_v16, val_main_v15, val_main_v14, val_main_v13, val_main_v12, val_main_v11, val_main_v10, val_main_v9, val_main_v8, dot_S32x64_S64x256_S32x256_1_0_0_1_n_n]
    simp only [ref_mixed]
  have e' : val_main_v17 (F := Ideal) X Q U N W (ix2 r a) = soft (val_main_v16 (F := Ideal) X Q U N W (ix2 r a)) := by
    pointwise [val_main_v17, val_main_call0_v11, val_main_call0_v10, val_main_call0_v9, val_main_call0_v8, val_main_call0_v7, val_main_call0_v6, val_main_call0_v5, val_main_call0_v4, val_main_call0_v3, val_main_call0_v2, val_main_call0_v1, val_main_call0_v0, val_main_call0_cst]
    simp only [ne_eq, not_true_eq_false, if_false, sub_zero]
    rfl
  pointwise [val_main_v23, val_main_v22, val_main_v21, val_main_v20, val_main_v19, val_main_cst, val_main_v18]
  rw [e', e]
  rfl

theorem ref_share (r : Fin 32) (a : Fin 256) : val_main_v36 (F := Ideal) X Q U N A (ix2 r a) = share X Q U N A r a := by
  pointwise [val_main_v36, val_main_v35, val_main_v34, val_main_v33, val_main_v32, val_main_v31, val_main_v30, val_main_v29, val_main_v28, val_main_v27, val_main_v26, val_main_v25, val_main_v24, val_main_cst_0, val_main_cst_1, dot_S32x64_S64x256_S32x256_1_0_0_1_n_n]
  simp only [ref_mixed]
  rfl

theorem ref_gate (r : Fin 32) (a : Fin 256) : val_main_v44 (F := Ideal) X Q U G (ix2 r a) = gate X Q U G r a := by
  pointwise [val_main_v44, val_main_v43, val_main_v42, val_main_v41, val_main_v40, val_main_v39, val_main_v38, val_main_v37, val_main_cst_2, val_main_cst_3, dot_S32x128_S128x256_S32x256_1_0_0_1_n_n]
  simp only [ref_mixed]
  rfl

theorem ref_raw (r : Fin 32) (a : Fin 256) : val_main_v49 (F := Ideal) X Q U N (ix2 r a) = raw X Q U N r a := by
  pointwise [val_main_v49, val_main_v48, val_main_v47, val_main_v46, val_main_v45]
  rw [ref_old]
  rfl

theorem ref_unit (r : Fin 32) (a : Fin 256) : val_main_v59 (F := Ideal) X Q U N (ix2 r a) = unit X Q U N r a := by
  have e : ∀ (h : Fin 4) (d : Fin 64), val_main_v50 (F := Ideal) X Q U N (ix3 r h d) = raw X Q U N r (col64 h d) := fun h d => by
    pointwise [val_main_v50]
    rw [← ref_raw]
    congr 2 <;> ext <;> simp <;> omega
  pointwise [val_main_v59, val_main_v58, val_main_v57, val_main_v56, val_main_v55, val_main_v54, val_main_v53, val_main_v52, val_main_v51, val_main_cst_4, val_main_cst_5]
  simp only [e]
  unfold unit
  congr 1
  exact congrArg (raw X Q U N r) (Fin.ext (by simp <;> omega))

theorem ref_key (r : Fin 32) (a : Fin 256) : val_main_v69 (F := Ideal) X Q U N A (ix2 r a) = key X Q U N A r a := by
  pointwise [val_main_v69, val_main_v68, val_main_v67, val_main_v66, val_main_v65, val_main_v64, val_main_v63, val_main_v62, val_main_v61, val_main_v60, val_main_cst_6, val_main_cst_7]
  rw [ref_share, ref_old]
  rfl

theorem ref_removed (r : Fin 32) (a : Fin 256) : val_main_v81 (F := Ideal) X Q U N (ix2 r a) = removed X Q U N r a := by
  pointwise [val_main_v81]
  rw [ref_unit]
  rfl

theorem ref_added (r : Fin 32) (a : Fin 256) : val_main_v82 (F := Ideal) X Q U N A (ix2 r a) = added X Q U N A r a := by
  pointwise [val_main_v82]
  rw [ref_unit, ref_share]
  rfl

theorem ref_bonus (r : Fin 32) (a : Fin 256) : val_main_v83 (F := Ideal) X Q U N A K (ix2 r a) = bonus X Q U N A K r a := by
  have e : ∀ (h : Fin 4) (d : Fin 64), val_main_v75 (F := Ideal) X Q U N A K (ix3 r h d) = term X Q U N A K r (col64 h d) := fun h d => by
    pointwise [val_main_v75, val_main_v74, val_main_v73, val_main_v72, val_main_v71, val_main_v70]
    rw [ref_query, ref_key]
    unfold term
    congr 2 <;> congr 1 <;> ext <;> simp <;> omega
  pointwise [val_main_v83, val_main_v80, val_main_v79, val_main_v78, val_main_v77, val_main_v76, val_main_cst_8]
  simp only [e, ref_value]
  unfold bonus
  congr 1

end Cert.PrepVal

end
-- ==== Proof.PrepClaim.lean ====
/- The claim about the call, put together. -/
module

public import proofs.«01_k».proof.Defs
public import proofs.«01_k».proof.Proof.PrepValue
public import proofs.«01_k».proof.Proof.PrepRef
public import proofs.«01_k».proof.Proof.Gen.Reference9Ideal.Run
public import Idealize.ShloMosaic.Lib.Quiescent
public import Idealize.ShloMosaic.Lib.Claim

@[expose] public section

set_option maxRecDepth 16384

noncomputable section

namespace Cert.PrepVal

open Idealize.ShloMosaic.TcCoe Idealize.SL.Sem Idealize.ShloMosaic
open Cert.ProjVal (arr2 arr_eq)

/-- The reference runs, leaves its arguments as they were and every counter at zero. -/
theorem reference_frame : Cert.quiescent_Reference9Ideal (hReference9Ideal := Cert.Reference9Ideal.Gen.facts) := fun m g _ =>
  (θ_run _ _ _).mono (fun r h => ⟨fun c => (h c).2.2.2.2.2.2.2.2, sem_eq_zero_of_no_sems (by decide) r.2⟩)
    (Cert.Reference9Ideal.Value.run m g)

open Cert.Reference9Ideal in
/-- The kernel and its reference leave the same eight arrays, from all arguments. -/
theorem prep_algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => arr2 (query (aX m c) (aQ m c) (aU m c)),
    fun c => arr2 (decay (aX m c) (aQ m c) (aU m c) (aN m c) (aW m c)),
    fun c => arr2 (key (aX m c) (aQ m c) (aU m c) (aN m c) (aA m c)),
    fun c => arr2 (value (aX m c) (aQ m c) (aU m c)),
    fun c => arr2 (removed (aX m c) (aQ m c) (aU m c) (aN m c)),
    fun c => arr2 (added (aX m c) (aQ m c) (aU m c) (aN m c) (aA m c)),
    fun c => arr2 (gate (aX m c) (aQ m c) (aU m c) (aG m c)),
    fun c => arr2 (bonus (aX m c) (aQ m c) (aU m c) (aN m c) (aA m c) (aK m c)), ?_, ?_⟩
  · refine (θ_run _ _ _).mono (fun r h c => ?_) (Cert.Kernel9Ideal.Value.run_blocks m ρ)
    obtain ⟨h0, h1, h2, h3, h4, h5, h6, h7, hr⟩ := h c
    exact ⟨h0.trans (final9 m c), h1.trans (final10 m c), h2.trans (final11 m c), h3.trans (final12 m c), h4.trans (final13 m c), h5.trans (final14 m c), h6.trans (final15 m c), h7.trans (final16 m c), hr⟩
  · refine (θ_run _ _ _).mono (fun r h c => ?_) (Cert.Reference9Ideal.Value.run m' ρ')
    obtain ⟨h0, h1, h2, h3, h4, h5, h6, h7, hr⟩ := h c
    obtain ⟨g0, g1, g2, g3, g4, g5, g6, g7⟩ := hagree c
    refine ⟨?_, ?_, ?_, ?_, ?_, ?_, ?_, ?_, hr⟩
    · refine h0.trans ((Cert.Reference9Ideal.Read.val_main_v5_eq _ _ _).trans ((arr_eq _ _ (ref_query _ _ _)).trans ?_))
      show arr2 (query (m' (c.tc.loc main_arg0)) (m' (c.tc.loc main_arg1)) (m' (c.tc.loc main_arg2))) = _
      rw [g0, g1, g2]
    · refine h1.trans ((Cert.Reference9Ideal.Read.val_main_v23_eq _ _).trans ((arr_eq _ _ (ref_decay _ _ _ _ _)).trans ?_))
      show arr2 (decay (m' (c.tc.loc main_arg0)) (m' (c.tc.loc main_arg1)) (m' (c.tc.loc main_arg2)) (m' (c.tc.loc main_arg3)) (m' (c.tc.loc main_arg4))) = _
      rw [g0, g1, g2, g3, g4]
    · refine h2.trans ((Cert.Reference9Ideal.Read.val_main_v69_eq _ _ _ _ _).trans ((arr_eq _ _ (ref_key _ _ _ _ _)).trans ?_))
      show arr2 (key (m' (c.tc.loc main_arg0)) (m' (c.tc.loc main_arg1)) (m' (c.tc.loc main_arg2)) (m' (c.tc.loc main_arg3)) (m' (c.tc.loc main_arg5))) = _
      rw [g0, g1, g2, g3, g5]
    · refine h3.trans ((Cert.Reference9Ideal.Read.val_main_v7_eq _ _ _).trans ((arr_eq _ _ (ref_value _ _ _)).trans ?_))
      show arr2 (value (m' (c.tc.loc main_arg0)) (m' (c.tc.loc main_arg1)) (m' (c.tc.loc main_arg2))) = _
      rw [g0, g1, g2]
    · refine h4.trans ((Cert.Reference9Ideal.Read.val_main_v81_eq _ _ _ _).trans ((arr_eq _ _ (ref_removed _ _ _ _)).trans ?_))
      show arr2 (removed (m' (c.tc.loc main_arg0)) (m' (c.tc.loc main_arg1)) (m' (c.tc.loc main_arg2)) (m' (c.tc.loc main_arg3))) = _
      rw [g0, g1, g2, g3]
    · refine h5.trans ((Cert.Reference9Ideal.Read.val_main_v82_eq _ _ _ _ _).trans ((arr_eq _ _ (ref_added _ _ _ _ _)).trans ?_))
      show arr2 (added (m' (c.tc.loc main_arg0)) (m' (c.tc.loc main_arg1)) (m' (c.tc.loc main_arg2)) (m' (c.tc.loc main_arg3)) (m' (c.tc.loc main_arg5))) = _
      rw [g0, g1, g2, g3, g5]
    · refine h6.trans ((Cert.Reference9Ideal.Read.val_main_v44_eq _ _ _ _).trans ((arr_eq _ _ (ref_gate _ _ _ _)).trans ?_))
      show arr2 (gate (m' (c.tc.loc main_arg0)) (m' (c.tc.loc main_arg1)) (m' (c.tc.loc main_arg2)) (m' (c.tc.loc main_arg6))) = _
      rw [g0, g1, g2, g6]
    · refine h7.trans ((Cert.Reference9Ideal.Read.val_main_v83_eq _ _ _ _ _ _).trans ((arr_eq _ _ (ref_bonus _ _ _ _ _ _)).trans ?_))
      show arr2 (bonus (m' (c.tc.loc main_arg0)) (m' (c.tc.loc main_arg1)) (m' (c.tc.loc main_arg2)) (m' (c.tc.loc main_arg3)) (m' (c.tc.loc main_arg5)) (m' (c.tc.loc main_arg7))) = _
      rw [g0, g1, g2, g3, g5, g7]

end Cert.PrepVal

end
-- ==== Proof.lean ====
module

public import proofs.«01_k».proof.Defs
public import proofs.«01_k».proof.Proof.Gen.Kernel.Frame
public import proofs.«01_k».proof.Proof.Gen.KernelIdeal.Frame
public import proofs.«01_k».proof.Proof.CmpClaim
public import proofs.«01_k».proof.Proof.Gen.Kernel2.Frame
public import proofs.«01_k».proof.Proof.MidClaim
public import proofs.«01_k».proof.Proof.FfnFrameBits
public import proofs.«01_k».proof.Proof.FfnClaim
public import proofs.«01_k».proof.Proof.Gen.Kernel4.Frame
public import proofs.«01_k».proof.Proof.ProjClaim
public import proofs.«01_k».proof.Proof.Gen.Kernel5.Frame
public import proofs.«01_k».proof.Proof.MkvClaim
public import proofs.«01_k».proof.Proof.Gen.Kernel6.Frame
public import proofs.«01_k».proof.Proof.StepClaim
public import proofs.«01_k».proof.Proof.Gen.Kernel7.Frame
public import proofs.«01_k».proof.Proof.Gen.Kernel8.Frame
public import proofs.«01_k».proof.Proof.NextClaim
public import proofs.«01_k».proof.Proof.TokClaim
public import proofs.«01_k».proof.Proof.Gen.Kernel9.Frame
public import proofs.«01_k».proof.Proof.PrepClaim

@[expose] public section

noncomputable section

namespace Cert.Proof

open Idealize.ShloMosaic Idealize.SL.Sem

/-- Everything that the certificate claims holds. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.CmpAttn.preFacts,
    fun m ρ _ => Cert.Kernel.Gen.frame m ρ,
    fun m ρ _ => Cert.KernelIdeal.Gen.frame m ρ,
    fun m ρ _ => Cert.KernelIdeal.Gen.frame m ρ,
    fun m ρ _ => Cert.CmpAttn.reference_frame m ρ,
    fun m ρ _ => Cert.CmpAttn.reference_frame m ρ,
    fun m ρ _ => Cert.Kernel2.Gen.frame m ρ,
    fun m ρ _ => Cert.Kernel2Ideal.Gen.frame m ρ,
    Cert.MidVal.reference_frame,
    fun m ρ _ => Cert.Kernel3.Ffn.frames m ρ,
    fun m ρ _ => Cert.Kernel3Ideal.Ffn.frames m ρ,
    Cert.FfnVal.reference_frame,
    fun m ρ _ => Cert.Kernel4.Gen.frame m ρ,
    fun m ρ _ => Cert.Kernel4Ideal.Gen.frame m ρ,
    Cert.ProjVal.reference_frame,
    fun m ρ _ => Cert.Kernel5.Gen.frame m ρ,
    fun m ρ _ => Cert.Kernel5Ideal.Gen.frame m ρ,
    Cert.MkvVal.reference_frame,
    fun m ρ _ => Cert.Kernel6.Gen.frame m ρ,
    fun m ρ _ => Cert.Kernel6Ideal.Gen.frame m ρ,
    Cert.StepVal.reference_frame,
    fun m ρ _ => Cert.Kernel7.Gen.frame m ρ,
    fun m ρ _ => Cert.Kernel7Ideal.Gen.frame m ρ,
    Cert.NextVal.reference_frame,
    fun m ρ _ => Cert.Kernel8.Gen.frame m ρ,
    fun m ρ _ => Cert.Kernel8Ideal.Gen.frame m ρ,
    Cert.TokVal.reference_frame,
    fun m ρ _ => Cert.Kernel9.Gen.frame m ρ,
    fun m ρ _ => Cert.Kernel9Ideal.Gen.frame m ρ,
    Cert.PrepVal.reference_frame,
    trivial,
    Cert.CmpAttn.cmp_algebraic,
    trivial,
    Cert.MidVal.mid_algebraic,
    trivial,
    Cert.FfnVal.ffn_algebraic,
    trivial,
    Cert.ProjVal.proj_algebraic,
    trivial,
    Cert.MkvVal.memkv_algebraic,
    trivial,
    Cert.StepVal.step_algebraic,
    trivial,
    Cert.NextVal.next_algebraic,
    trivial,
    Cert.TokVal.tok_algebraic,
    trivial,
    Cert.PrepVal.prep_algebraic⟩

end Cert.Proof

end
